-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2 = (fun _ => 1#1)

def Pre_ForgetBwd (m : (ℓ : Loc Cert.ForgetBwd.nD Cert.ForgetBwd.τ Cert.ForgetBwd.sig) → Buf (Elt Bits) ℓ) : Prop :=
  True

def Pre_ForgetBwdIdeal (m : (ℓ : Loc Cert.ForgetBwdIdeal.nD Cert.ForgetBwdIdeal.τ Cert.ForgetBwdIdeal.sig) → Buf (Elt Ideal) ℓ) : Prop :=
  True

def Pre_ForgetBwdIdeal_forget_finite [hPre_forget_finite : Cert.Pre_forget_finite.Facts] (m : (ℓ : Loc Cert.ForgetBwdIdeal.nD Cert.ForgetBwdIdeal.τ Cert.ForgetBwdIdeal.sig) → Buf (Elt Ideal) ℓ) : Prop :=
  ∀ c : Dev Cert.ForgetBwdIdeal.nD,
    (Cert.Pre_forget_finite.fn (F := Ideal) (m ((c.tc : Thread Cert.ForgetBwdIdeal.nD Cert.ForgetBwdIdeal.τ).loc Cert.ForgetBwdIdeal.main_arg0)) (m ((c.tc : Thread Cert.ForgetBwdIdeal.nD Cert.ForgetBwdIdeal.τ).loc Cert.ForgetBwdIdeal.main_arg1)) (m ((c.tc : Thread Cert.ForgetBwdIdeal.nD Cert.ForgetBwdIdeal.τ).loc Cert.ForgetBwdIdeal.main_arg2)) (m ((c.tc : Thread Cert.ForgetBwdIdeal.nD Cert.ForgetBwdIdeal.τ).loc Cert.ForgetBwdIdeal.main_arg3))) = (fun _ => 1#1)

def Pre_ForgetRefIdeal (m : (ℓ : Loc Cert.ForgetRefIdeal.nD Cert.ForgetRefIdeal.τ Cert.ForgetRefIdeal.sig) → Buf (Elt Ideal) ℓ) : Prop :=
  True

def Pre_ForgetRefIdeal_forget_finite [hPre_forget_finite : Cert.Pre_forget_finite.Facts] (m : (ℓ : Loc Cert.ForgetRefIdeal.nD Cert.ForgetRefIdeal.τ Cert.ForgetRefIdeal.sig) → Buf (Elt Ideal) ℓ) : Prop :=
  ∀ c : Dev Cert.ForgetRefIdeal.nD,
    (Cert.Pre_forget_finite.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2)) (m ((c.tc : Thread Cert.ForgetRefIdeal.nD Cert.ForgetRefIdeal.τ).loc Cert.ForgetRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))).2.2.2.2.2.2.2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.2.2.2.2.1 = (fun _ => 1#1)
    ∧ (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7)) (m ((c.tc : Thread Cert.NormBwdIdeal.nD Cert.NormBwdIdeal.τ).loc Cert.NormBwdIdeal.main_arg8))).2.2.2.2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_DhABwd (m : (ℓ : Loc Cert.DhABwd.nD Cert.DhABwd.τ Cert.DhABwd.sig) → Buf (Elt Bits) ℓ) : Prop :=
  True

def Pre_DhABwdIdeal (m : (ℓ : Loc Cert.DhABwdIdeal.nD Cert.DhABwdIdeal.τ Cert.DhABwdIdeal.sig) → Buf (Elt Ideal) ℓ) : Prop :=
  True

def Pre_DhABwdIdeal_dh1_finite [hPre_dh1_finite : Cert.Pre_dh1_finite.Facts] (m : (ℓ : Loc Cert.DhABwdIdeal.nD Cert.DhABwdIdeal.τ Cert.DhABwdIdeal.sig) → Buf (Elt Ideal) ℓ) : Prop :=
  ∀ c : Dev Cert.DhABwdIdeal.nD,
    (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.2.1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.2.2.1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.2.2.2.1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.2.2.2.2.1 = (fun _ => 1#1)
    ∧ (Cert.Pre_dh1_finite.fn (F := Ideal) (m ((c.tc : Thread Cert.DhABwdIdeal.nD Cert.DhABwdIdeal.τ).loc Cert.DhABwdIdeal.main_arg0)) (m ((c.tc : Thread Cert.DhABwdIdeal.nD Cert.DhABwdIdeal.τ).loc Cert.DhABwdIdeal.main_arg1)) (m ((c.tc : Thread Cert.DhABwdIdeal.nD Cert.DhABwdIdeal.τ).loc Cert.DhABwdIdeal.main_arg2)) (m ((c.tc : Thread Cert.DhABwdIdeal.nD Cert.DhABwdIdeal.τ).loc Cert.DhABwdIdeal.main_arg3)) (m ((c.tc : Thread Cert.DhABwdIdeal.nD Cert.DhABwdIdeal.τ).loc Cert.DhABwdIdeal.main_arg4)) (m ((c.tc : Thread Cert.DhABwdIdeal.nD Cert.DhABwdIdeal.τ).loc Cert.DhABwdIdeal.main_arg5)) (m ((c.tc : Thread Cert.DhABwdIdeal.nD Cert.DhABwdIdeal.τ).loc Cert.DhABwdIdeal.main_arg6))).2.2.2.2.2.2 = (fun _ => 1#1)

def Pre_DhARefIdeal (m : (ℓ : Loc Cert.DhARefIdeal.nD Cert.DhARefIdeal.τ Cert.DhARefIdeal.sig) → Buf (Elt Ideal) ℓ) : Prop :=
  True

def Pre_DhARefIdeal_dh1_finite [hPre_dh1_finite : Cert.Pre_dh1_finite.Facts] (m : (ℓ : Loc Cert.DhARefIdeal.nD Cert.DhARefIdeal.τ Cert.DhARefIdeal.sig) → Buf (Elt Ideal) ℓ) : Prop :=
  ∀ c : Dev Cert.DhARefIdeal.nD,
    (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.2.1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.2.2.1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.2.2.2.1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.2.2.2.2.1 = (fun _ => 1#1)
    ∧ (Cert.Pre_dh1_finite.fn (F := Ideal) (m ((c.tc : Thread Cert.DhARefIdeal.nD Cert.DhARefIdeal.τ).loc Cert.DhARefIdeal.main_arg0)) (m ((c.tc : Thread Cert.DhARefIdeal.nD Cert.DhARefIdeal.τ).loc Cert.DhARefIdeal.main_arg1)) (m ((c.tc : Thread Cert.DhARefIdeal.nD Cert.DhARefIdeal.τ).loc Cert.DhARefIdeal.main_arg2)) (m ((c.tc : Thread Cert.DhARefIdeal.nD Cert.DhARefIdeal.τ).loc Cert.DhARefIdeal.main_arg3)) (m ((c.tc : Thread Cert.DhARefIdeal.nD Cert.DhARefIdeal.τ).loc Cert.DhARefIdeal.main_arg4)) (m ((c.tc : Thread Cert.DhARefIdeal.nD Cert.DhARefIdeal.τ).loc Cert.DhARefIdeal.main_arg5)) (m ((c.tc : Thread Cert.DhARefIdeal.nD Cert.DhARefIdeal.τ).loc Cert.DhARefIdeal.main_arg6))).2.2.2.2.2.2 = (fun _ => 1#1)

def Pre_DhBBwd (m : (ℓ : Loc Cert.DhBBwd.nD Cert.DhBBwd.τ Cert.DhBBwd.sig) → Buf (Elt Bits) ℓ) : Prop :=
  True

def Pre_DhBBwdIdeal (m : (ℓ : Loc Cert.DhBBwdIdeal.nD Cert.DhBBwdIdeal.τ Cert.DhBBwdIdeal.sig) → Buf (Elt Ideal) ℓ) : Prop :=
  True

def Pre_DhBBwdIdeal_dh0_finite [hPre_dh0_finite : Cert.Pre_dh0_finite.Facts] (m : (ℓ : Loc Cert.DhBBwdIdeal.nD Cert.DhBBwdIdeal.τ Cert.DhBBwdIdeal.sig) → Buf (Elt Ideal) ℓ) : Prop :=
  ∀ c : Dev Cert.DhBBwdIdeal.nD,
    (Cert.Pre_dh0_finite.fn (F := Ideal) (m ((c.tc : Thread Cert.DhBBwdIdeal.nD Cert.DhBBwdIdeal.τ).loc Cert.DhBBwdIdeal.main_arg0)) (m ((c.tc : Thread Cert.DhBBwdIdeal.nD Cert.DhBBwdIdeal.τ).loc Cert.DhBBwdIdeal.main_arg1)) (m ((c.tc : Thread Cert.DhBBwdIdeal.nD Cert.DhBBwdIdeal.τ).loc Cert.DhBBwdIdeal.main_arg2)) (m ((c.tc : Thread Cert.DhBBwdIdeal.nD Cert.DhBBwdIdeal.τ).loc Cert.DhBBwdIdeal.main_arg3)) (m ((c.tc : Thread Cert.DhBBwdIdeal.nD Cert.DhBBwdIdeal.τ).loc Cert.DhBBwdIdeal.main_arg4))).1 = (fun _ => 1#1)
    ∧ (Cert.Pre_dh0_finite.fn (F := Ideal) (m ((c.tc : Thread Cert.DhBBwdIdeal.nD Cert.DhBBwdIdeal.τ).loc Cert.DhBBwdIdeal.main_arg0)) (m ((c.tc : Thread Cert.DhBBwdIdeal.nD Cert.DhBBwdIdeal.τ).loc Cert.DhBBwdIdeal.main_arg1)) (m ((c.tc : Thread Cert.DhBBwdIdeal.nD Cert.DhBBwdIdeal.τ).loc Cert.DhBBwdIdeal.main_arg2)) (m ((c.tc : Thread Cert.DhBBwdIdeal.nD Cert.DhBBwdIdeal.τ).loc Cert.DhBBwdIdeal.main_arg3)) (m ((c.tc : Thread Cert.DhBBwdIdeal.nD Cert.DhBBwdIdeal.τ).loc Cert.DhBBwdIdeal.main_arg4))).2.1 = (fun _ => 1#1)
    ∧ (Cert.Pre_dh0_finite.fn (F := Ideal) (m ((c.tc : Thread Cert.DhBBwdIdeal.nD Cert.DhBBwdIdeal.τ).loc Cert.DhBBwdIdeal.main_arg0)) (m ((c.tc : Thread Cert.DhBBwdIdeal.nD Cert.DhBBwdIdeal.τ).loc Cert.DhBBwdIdeal.main_arg1)) (m ((c.tc : Thread Cert.DhBBwdIdeal.nD Cert.DhBBwdIdeal.τ).loc Cert.DhBBwdIdeal.main_arg2)) (m ((c.tc : Thread Cert.DhBBwdIdeal.nD Cert.DhBBwdIdeal.τ).loc Cert.DhBBwdIdeal.main_arg3)) (m ((c.tc : Thread Cert.DhBBwdIdeal.nD Cert.DhBBwdIdeal.τ).loc Cert.DhBBwdIdeal.main_arg4))).2.2.1 = (fun _ => 1#1)
    ∧ (Cert.Pre_dh0_finite.fn (F := Ideal) (m ((c.tc : Thread Cert.DhBBwdIdeal.nD Cert.DhBBwdIdeal.τ).loc Cert.DhBBwdIdeal.main_arg0)) (m ((c.tc : Thread Cert.DhBBwdIdeal.nD Cert.DhBBwdIdeal.τ).loc Cert.DhBBwdIdeal.main_arg1)) (m ((c.tc : Thread Cert.DhBBwdIdeal.nD Cert.DhBBwdIdeal.τ).loc Cert.DhBBwdIdeal.main_arg2)) (m ((c.tc : Thread Cert.DhBBwdIdeal.nD Cert.DhBBwdIdeal.τ).loc Cert.DhBBwdIdeal.main_arg3)) (m ((c.tc : Thread Cert.DhBBwdIdeal.nD Cert.DhBBwdIdeal.τ).loc Cert.DhBBwdIdeal.main_arg4))).2.2.2.1 = (fun _ => 1#1)
    ∧ (Cert.Pre_dh0_finite.fn (F := Ideal) (m ((c.tc : Thread Cert.DhBBwdIdeal.nD Cert.DhBBwdIdeal.τ).loc Cert.DhBBwdIdeal.main_arg0)) (m ((c.tc : Thread Cert.DhBBwdIdeal.nD Cert.DhBBwdIdeal.τ).loc Cert.DhBBwdIdeal.main_arg1)) (m ((c.tc : Thread Cert.DhBBwdIdeal.nD Cert.DhBBwdIdeal.τ).loc Cert.DhBBwdIdeal.main_arg2)) (m ((c.tc : Thread Cert.DhBBwdIdeal.nD Cert.DhBBwdIdeal.τ).loc Cert.DhBBwdIdeal.main_arg3)) (m ((c.tc : Thread Cert.DhBBwdIdeal.nD Cert.DhBBwdIdeal.τ).loc Cert.DhBBwdIdeal.main_arg4))).2.2.2.2 = (fun _ => 1#1)

def Pre_DhBRefIdeal (m : (ℓ : Loc Cert.DhBRefIdeal.nD Cert.DhBRefIdeal.τ Cert.DhBRefIdeal.sig) → Buf (Elt Ideal) ℓ) : Prop :=
  True

def Pre_DhBRefIdeal_dh0_finite [hPre_dh0_finite : Cert.Pre_dh0_finite.Facts] (m : (ℓ : Loc Cert.DhBRefIdeal.nD Cert.DhBRefIdeal.τ Cert.DhBRefIdeal.sig) → Buf (Elt Ideal) ℓ) : Prop :=
  ∀ c : Dev Cert.DhBRefIdeal.nD,
    (Cert.Pre_dh0_finite.fn (F := Ideal) (m ((c.tc : Thread Cert.DhBRefIdeal.nD Cert.DhBRefIdeal.τ).loc Cert.DhBRefIdeal.main_arg0)) (m ((c.tc : Thread Cert.DhBRefIdeal.nD Cert.DhBRefIdeal.τ).loc Cert.DhBRefIdeal.main_arg1)) (m ((c.tc : Thread Cert.DhBRefIdeal.nD Cert.DhBRefIdeal.τ).loc Cert.DhBRefIdeal.main_arg2)) (m ((c.tc : Thread Cert.DhBRefIdeal.nD Cert.DhBRefIdeal.τ).loc Cert.DhBRefIdeal.main_arg3)) (m ((c.tc : Thread Cert.DhBRefIdeal.nD Cert.DhBRefIdeal.τ).loc Cert.DhBRefIdeal.main_arg4))).1 = (fun _ => 1#1)
    ∧ (Cert.Pre_dh0_finite.fn (F := Ideal) (m ((c.tc : Thread Cert.DhBRefIdeal.nD Cert.DhBRefIdeal.τ).loc Cert.DhBRefIdeal.main_arg0)) (m ((c.tc : Thread Cert.DhBRefIdeal.nD Cert.DhBRefIdeal.τ).loc Cert.DhBRefIdeal.main_arg1)) (m ((c.tc : Thread Cert.DhBRefIdeal.nD Cert.DhBRefIdeal.τ).loc Cert.DhBRefIdeal.main_arg2)) (m ((c.tc : Thread Cert.DhBRefIdeal.nD Cert.DhBRefIdeal.τ).loc Cert.DhBRefIdeal.main_arg3)) (m ((c.tc : Thread Cert.DhBRefIdeal.nD Cert.DhBRefIdeal.τ).loc Cert.DhBRefIdeal.main_arg4))).2.1 = (fun _ => 1#1)
    ∧ (Cert.Pre_dh0_finite.fn (F := Ideal) (m ((c.tc : Thread Cert.DhBRefIdeal.nD Cert.DhBRefIdeal.τ).loc Cert.DhBRefIdeal.main_arg0)) (m ((c.tc : Thread Cert.DhBRefIdeal.nD Cert.DhBRefIdeal.τ).loc Cert.DhBRefIdeal.main_arg1)) (m ((c.tc : Thread Cert.DhBRefIdeal.nD Cert.DhBRefIdeal.τ).loc Cert.DhBRefIdeal.main_arg2)) (m ((c.tc : Thread Cert.DhBRefIdeal.nD Cert.DhBRefIdeal.τ).loc Cert.DhBRefIdeal.main_arg3)) (m ((c.tc : Thread Cert.DhBRefIdeal.nD Cert.DhBRefIdeal.τ).loc Cert.DhBRefIdeal.main_arg4))).2.2.1 = (fun _ => 1#1)
    ∧ (Cert.Pre_dh0_finite.fn (F := Ideal) (m ((c.tc : Thread Cert.DhBRefIdeal.nD Cert.DhBRefIdeal.τ).loc Cert.DhBRefIdeal.main_arg0)) (m ((c.tc : Thread Cert.DhBRefIdeal.nD Cert.DhBRefIdeal.τ).loc Cert.DhBRefIdeal.main_arg1)) (m ((c.tc : Thread Cert.DhBRefIdeal.nD Cert.DhBRefIdeal.τ).loc Cert.DhBRefIdeal.main_arg2)) (m ((c.tc : Thread Cert.DhBRefIdeal.nD Cert.DhBRefIdeal.τ).loc Cert.DhBRefIdeal.main_arg3)) (m ((c.tc : Thread Cert.DhBRefIdeal.nD Cert.DhBRefIdeal.τ).loc Cert.DhBRefIdeal.main_arg4))).2.2.2.1 = (fun _ => 1#1)
    ∧ (Cert.Pre_dh0_finite.fn (F := Ideal) (m ((c.tc : Thread Cert.DhBRefIdeal.nD Cert.DhBRefIdeal.τ).loc Cert.DhBRefIdeal.main_arg0)) (m ((c.tc : Thread Cert.DhBRefIdeal.nD Cert.DhBRefIdeal.τ).loc Cert.DhBRefIdeal.main_arg1)) (m ((c.tc : Thread Cert.DhBRefIdeal.nD Cert.DhBRefIdeal.τ).loc Cert.DhBRefIdeal.main_arg2)) (m ((c.tc : Thread Cert.DhBRefIdeal.nD Cert.DhBRefIdeal.τ).loc Cert.DhBRefIdeal.main_arg3)) (m ((c.tc : Thread Cert.DhBRefIdeal.nD Cert.DhBRefIdeal.τ).loc Cert.DhBRefIdeal.main_arg4))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attf_finite [hPre_attf_finite : Cert.Pre_attf_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_attf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_attf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.1 = (fun _ => 1#1)
    ∧ (Cert.Pre_attf_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attf_finite [hPre_attf_finite : Cert.Pre_attf_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_attf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_attf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.1 = (fun _ => 1#1)
    ∧ (Cert.Pre_attf_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2.2 = (fun _ => 1#1)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ForgetBwd [hForgetBwd : Cert.ForgetBwd.Facts] : Prop :=
  ∀ (m : (ℓ : Loc Cert.ForgetBwd.nD Cert.ForgetBwd.τ Cert.ForgetBwd.sig) → Buf (Elt Bits) ℓ) (g : Dev Cert.ForgetBwd.nD → PrngReg), Pre_ForgetBwd m →
    θ_run (Cert.ForgetBwd.defs (F := Bits)) (onTc (τ := Cert.ForgetBwd.τ) (Cert.ForgetBwd.main (F := Bits))) ⟨m, fun _ => 0, g⟩ (fun r => (∀ c : Dev Cert.ForgetBwd.nD,
      r.2.mem ((c.tc : Thread Cert.ForgetBwd.nD Cert.ForgetBwd.τ).loc Cert.ForgetBwd.main_arg0) = m ((c.tc : Thread Cert.ForgetBwd.nD Cert.ForgetBwd.τ).loc Cert.ForgetBwd.main_arg0)
      ∧ r.2.mem ((c.tc : Thread Cert.ForgetBwd.nD Cert.ForgetBwd.τ).loc Cert.ForgetBwd.main_arg1) = m ((c.tc : Thread Cert.ForgetBwd.nD Cert.ForgetBwd.τ).loc Cert.ForgetBwd.main_arg1)
      ∧ r.2.mem ((c.tc : Thread Cert.ForgetBwd.nD Cert.ForgetBwd.τ).loc Cert.ForgetBwd.main_arg2) = m ((c.tc : Thread Cert.ForgetBwd.nD Cert.ForgetBwd.τ).loc Cert.ForgetBwd.main_arg2)
      ∧ r.2.mem ((c.tc : Thread Cert.ForgetBwd.nD Cert.ForgetBwd.τ).loc Cert.ForgetBwd.main_arg3) = m ((c.tc : Thread Cert.ForgetBwd.nD Cert.ForgetBwd.τ).loc Cert.ForgetBwd.main_arg3))
      ∧ r.2.sem = fun _ => 0)

def quiescent_ForgetBwdIdeal [hForgetBwdIdeal : Cert.ForgetBwdIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ r.2.sem = fun _ => 0)

def quiescent_ForgetBwdIdeal_pre_forget_finite [hForgetBwdIdeal : Cert.ForgetBwdIdeal.Facts] [hPre_forget_finite : Cert.Pre_forget_finite.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal_forget_finite m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
      ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
      ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_ForgetRefIdeal_pre_forget_finite [hForgetRefIdeal : Cert.ForgetRefIdeal.Facts] [hPre_forget_finite : Cert.Pre_forget_finite.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal_forget_finite m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7)
      ∧ r.2.mem ((c.tc : Thread Cert.NormBwd.nD Cert.NormBwd.τ).loc Cert.NormBwd.main_arg8) = m ((c.tc : Thread Cert.NormBwd.nD Cert.NormBwd.τ).loc Cert.NormBwd.main_arg8))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
      ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
      ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_DhABwd [hDhABwd : Cert.DhABwd.Facts] : Prop :=
  ∀ (m : (ℓ : Loc Cert.DhABwd.nD Cert.DhABwd.τ Cert.DhABwd.sig) → Buf (Elt Bits) ℓ) (g : Dev Cert.DhABwd.nD → PrngReg), Pre_DhABwd m →
    θ_run (Cert.DhABwd.defs (F := Bits)) (onTc (τ := Cert.DhABwd.τ) (Cert.DhABwd.main (F := Bits))) ⟨m, fun _ => 0, g⟩ (fun r => (∀ c : Dev Cert.DhABwd.nD,
      r.2.mem ((c.tc : Thread Cert.DhABwd.nD Cert.DhABwd.τ).loc Cert.DhABwd.main_arg0) = m ((c.tc : Thread Cert.DhABwd.nD Cert.DhABwd.τ).loc Cert.DhABwd.main_arg0)
      ∧ r.2.mem ((c.tc : Thread Cert.DhABwd.nD Cert.DhABwd.τ).loc Cert.DhABwd.main_arg1) = m ((c.tc : Thread Cert.DhABwd.nD Cert.DhABwd.τ).loc Cert.DhABwd.main_arg1)
      ∧ r.2.mem ((c.tc : Thread Cert.DhABwd.nD Cert.DhABwd.τ).loc Cert.DhABwd.main_arg2) = m ((c.tc : Thread Cert.DhABwd.nD Cert.DhABwd.τ).loc Cert.DhABwd.main_arg2)
      ∧ r.2.mem ((c.tc : Thread Cert.DhABwd.nD Cert.DhABwd.τ).loc Cert.DhABwd.main_arg3) = m ((c.tc : Thread Cert.DhABwd.nD Cert.DhABwd.τ).loc Cert.DhABwd.main_arg3)
      ∧ r.2.mem ((c.tc : Thread Cert.DhABwd.nD Cert.DhABwd.τ).loc Cert.DhABwd.main_arg4) = m ((c.tc : Thread Cert.DhABwd.nD Cert.DhABwd.τ).loc Cert.DhABwd.main_arg4)
      ∧ r.2.mem ((c.tc : Thread Cert.DhABwd.nD Cert.DhABwd.τ).loc Cert.DhABwd.main_arg5) = m ((c.tc : Thread Cert.DhABwd.nD Cert.DhABwd.τ).loc Cert.DhABwd.main_arg5)
      ∧ r.2.mem ((c.tc : Thread Cert.DhABwd.nD Cert.DhABwd.τ).loc Cert.DhABwd.main_arg6) = m ((c.tc : Thread Cert.DhABwd.nD Cert.DhABwd.τ).loc Cert.DhABwd.main_arg6))
      ∧ r.2.sem = fun _ => 0)

def quiescent_DhABwdIdeal [hDhABwdIdeal : Cert.DhABwdIdeal.Facts] : Prop :=
  ∀ (m : (ℓ : Loc Cert.DhABwdIdeal.nD Cert.DhABwdIdeal.τ Cert.DhABwdIdeal.sig) → Buf (Elt Ideal) ℓ) (g : Dev Cert.DhABwdIdeal.nD → PrngReg), Pre_DhABwdIdeal m →
    θ_run (Cert.DhABwdIdeal.defs (F := Ideal)) (onTc (τ := Cert.DhABwdIdeal.τ) (Cert.DhABwdIdeal.main (F := Ideal))) ⟨m, fun _ => 0, g⟩ (fun r => (∀ c : Dev Cert.DhABwdIdeal.nD,
      r.2.mem ((c.tc : Thread Cert.DhABwdIdeal.nD Cert.DhABwdIdeal.τ).loc Cert.DhABwdIdeal.main_arg0) = m ((c.tc : Thread Cert.DhABwdIdeal.nD Cert.DhABwdIdeal.τ).loc Cert.DhABwdIdeal.main_arg0)
      ∧ r.2.mem ((c.tc : Thread Cert.DhABwdIdeal.nD Cert.DhABwdIdeal.τ).loc Cert.DhABwdIdeal.main_arg1) = m ((c.tc : Thread Cert.DhABwdIdeal.nD Cert.DhABwdIdeal.τ).loc Cert.DhABwdIdeal.main_arg1)
      ∧ r.2.mem ((c.tc : Thread Cert.DhABwdIdeal.nD Cert.DhABwdIdeal.τ).loc Cert.DhABwdIdeal.main_arg2) = m ((c.tc : Thread Cert.DhABwdIdeal.nD Cert.DhABwdIdeal.τ).loc Cert.DhABwdIdeal.main_arg2)
      ∧ r.2.mem ((c.tc : Thread Cert.DhABwdIdeal.nD Cert.DhABwdIdeal.τ).loc Cert.DhABwdIdeal.main_arg3) = m ((c.tc : Thread Cert.DhABwdIdeal.nD Cert.DhABwdIdeal.τ).loc Cert.DhABwdIdeal.main_arg3)
      ∧ r.2.mem ((c.tc : Thread Cert.DhABwdIdeal.nD Cert.DhABwdIdeal.τ).loc Cert.DhABwdIdeal.main_arg4) = m ((c.tc : Thread Cert.DhABwdIdeal.nD Cert.DhABwdIdeal.τ).loc Cert.DhABwdIdeal.main_arg4)
      ∧ r.2.mem ((c.tc : Thread Cert.DhABwdIdeal.nD Cert.DhABwdIdeal.τ).loc Cert.DhABwdIdeal.main_arg5) = m ((c.tc : Thread Cert.DhABwdIdeal.nD Cert.DhABwdIdeal.τ).loc Cert.DhABwdIdeal.main_arg5)
      ∧ r.2.mem ((c.tc : Thread Cert.DhABwdIdeal.nD Cert.DhABwdIdeal.τ).loc Cert.DhABwdIdeal.main_arg6) = m ((c.tc : Thread Cert.DhABwdIdeal.nD Cert.DhABwdIdeal.τ).loc Cert.DhABwdIdeal.main_arg6))
      ∧ r.2.sem = fun _ => 0)

def quiescent_DhABwdIdeal_pre_dh1_finite [hDhABwdIdeal : Cert.DhABwdIdeal.Facts] [hPre_dh1_finite : Cert.Pre_dh1_finite.Facts] : Prop :=
  ∀ (m : (ℓ : Loc Cert.DhABwdIdeal.nD Cert.DhABwdIdeal.τ Cert.DhABwdIdeal.sig) → Buf (Elt Ideal) ℓ) (g : Dev Cert.DhABwdIdeal.nD → PrngReg), Pre_DhABwdIdeal_dh1_finite m →
    θ_run (Cert.DhABwdIdeal.defs (F := Ideal)) (onTc (τ := Cert.DhABwdIdeal.τ) (Cert.DhABwdIdeal.main (F := Ideal))) ⟨m, fun _ => 0, g⟩ (fun r => (∀ c : Dev Cert.DhABwdIdeal.nD,
      r.2.mem ((c.tc : Thread Cert.DhABwdIdeal.nD Cert.DhABwdIdeal.τ).loc Cert.DhABwdIdeal.main_arg0) = m ((c.tc : Thread Cert.DhABwdIdeal.nD Cert.DhABwdIdeal.τ).loc Cert.DhABwdIdeal.main_arg0)
      ∧ r.2.mem ((c.tc : Thread Cert.DhABwdIdeal.nD Cert.DhABwdIdeal.τ).loc Cert.DhABwdIdeal.main_arg1) = m ((c.tc : Thread Cert.DhABwdIdeal.nD Cert.DhABwdIdeal.τ).loc Cert.DhABwdIdeal.main_arg1)
      ∧ r.2.mem ((c.tc : Thread Cert.DhABwdIdeal.nD Cert.DhABwdIdeal.τ).loc Cert.DhABwdIdeal.main_arg2) = m ((c.tc : Thread Cert.DhABwdIdeal.nD Cert.DhABwdIdeal.τ).loc Cert.DhABwdIdeal.main_arg2)
      ∧ r.2.mem ((c.tc : Thread Cert.DhABwdIdeal.nD Cert.DhABwdIdeal.τ).loc Cert.DhABwdIdeal.main_arg3) = m ((c.tc : Thread Cert.DhABwdIdeal.nD Cert.DhABwdIdeal.τ).loc Cert.DhABwdIdeal.main_arg3)
      ∧ r.2.mem ((c.tc : Thread Cert.DhABwdIdeal.nD Cert.DhABwdIdeal.τ).loc Cert.DhABwdIdeal.main_arg4) = m ((c.tc : Thread Cert.DhABwdIdeal.nD Cert.DhABwdIdeal.τ).loc Cert.DhABwdIdeal.main_arg4)
      ∧ r.2.mem ((c.tc : Thread Cert.DhABwdIdeal.nD Cert.DhABwdIdeal.τ).loc Cert.DhABwdIdeal.main_arg5) = m ((c.tc : Thread Cert.DhABwdIdeal.nD Cert.DhABwdIdeal.τ).loc Cert.DhABwdIdeal.main_arg5)
      ∧ r.2.mem ((c.tc : Thread Cert.DhABwdIdeal.nD Cert.DhABwdIdeal.τ).loc Cert.DhABwdIdeal.main_arg6) = m ((c.tc : Thread Cert.DhABwdIdeal.nD Cert.DhABwdIdeal.τ).loc Cert.DhABwdIdeal.main_arg6))
      ∧ r.2.sem = fun _ => 0)

def quiescent_DhARefIdeal [hDhARefIdeal : Cert.DhARefIdeal.Facts] : Prop :=
  ∀ (m : (ℓ : Loc Cert.DhARefIdeal.nD Cert.DhARefIdeal.τ Cert.DhARefIdeal.sig) → Buf (Elt Ideal) ℓ) (g : Dev Cert.DhARefIdeal.nD → PrngReg), Pre_DhARefIdeal m →
    θ_run (Cert.DhARefIdeal.defs (F := Ideal)) (onTc (τ := Cert.DhARefIdeal.τ) (Cert.DhARefIdeal.main (F := Ideal))) ⟨m, fun _ => 0, g⟩ (fun r => (∀ c : Dev Cert.DhARefIdeal.nD,
      r.2.mem ((c.tc : Thread Cert.DhARefIdeal.nD Cert.DhARefIdeal.τ).loc Cert.DhARefIdeal.main_arg0) = m ((c.tc : Thread Cert.DhARefIdeal.nD Cert.DhARefIdeal.τ).loc Cert.DhARefIdeal.main_arg0)
      ∧ r.2.mem ((c.tc : Thread Cert.DhARefIdeal.nD Cert.DhARefIdeal.τ).loc Cert.DhARefIdeal.main_arg1) = m ((c.tc : Thread Cert.DhARefIdeal.nD Cert.DhARefIdeal.τ).loc Cert.DhARefIdeal.main_arg1)
      ∧ r.2.mem ((c.tc : Thread Cert.DhARefIdeal.nD Cert.DhARefIdeal.τ).loc Cert.DhARefIdeal.main_arg2) = m ((c.tc : Thread Cert.DhARefIdeal.nD Cert.DhARefIdeal.τ).loc Cert.DhARefIdeal.main_arg2)
      ∧ r.2.mem ((c.tc : Thread Cert.DhARefIdeal.nD Cert.DhARefIdeal.τ).loc Cert.DhARefIdeal.main_arg3) = m ((c.tc : Thread Cert.DhARefIdeal.nD Cert.DhARefIdeal.τ).loc Cert.DhARefIdeal.main_arg3)
      ∧ r.2.mem ((c.tc : Thread Cert.DhARefIdeal.nD Cert.DhARefIdeal.τ).loc Cert.DhARefIdeal.main_arg4) = m ((c.tc : Thread Cert.DhARefIdeal.nD Cert.DhARefIdeal.τ).loc Cert.DhARefIdeal.main_arg4)
      ∧ r.2.mem ((c.tc : Thread Cert.DhARefIdeal.nD Cert.DhARefIdeal.τ).loc Cert.DhARefIdeal.main_arg5) = m ((c.tc : Thread Cert.DhARefIdeal.nD Cert.DhARefIdeal.τ).loc Cert.DhARefIdeal.main_arg5)
      ∧ r.2.mem ((c.tc : Thread Cert.DhARefIdeal.nD Cert.DhARefIdeal.τ).loc Cert.DhARefIdeal.main_arg6) = m ((c.tc : Thread Cert.DhARefIdeal.nD Cert.DhARefIdeal.τ).loc Cert.DhARefIdeal.main_arg6))
      ∧ r.2.sem = fun _ => 0)

def quiescent_DhARefIdeal_pre_dh1_finite [hDhARefIdeal : Cert.DhARefIdeal.Facts] [hPre_dh1_finite : Cert.Pre_dh1_finite.Facts] : Prop :=
  ∀ (m : (ℓ : Loc Cert.DhARefIdeal.nD Cert.DhARefIdeal.τ Cert.DhARefIdeal.sig) → Buf (Elt Ideal) ℓ) (g : Dev Cert.DhARefIdeal.nD → PrngReg), Pre_DhARefIdeal_dh1_finite m →
    θ_run (Cert.DhARefIdeal.defs (F := Ideal)) (onTc (τ := Cert.DhARefIdeal.τ) (Cert.DhARefIdeal.main (F := Ideal))) ⟨m, fun _ => 0, g⟩ (fun r => (∀ c : Dev Cert.DhARefIdeal.nD,
      r.2.mem ((c.tc : Thread Cert.DhARefIdeal.nD Cert.DhARefIdeal.τ).loc Cert.DhARefIdeal.main_arg0) = m ((c.tc : Thread Cert.DhARefIdeal.nD Cert.DhARefIdeal.τ).loc Cert.DhARefIdeal.main_arg0)
      ∧ r.2.mem ((c.tc : Thread Cert.DhARefIdeal.nD Cert.DhARefIdeal.τ).loc Cert.DhARefIdeal.main_arg1) = m ((c.tc : Thread Cert.DhARefIdeal.nD Cert.DhARefIdeal.τ).loc Cert.DhARefIdeal.main_arg1)
      ∧ r.2.mem ((c.tc : Thread Cert.DhARefIdeal.nD Cert.DhARefIdeal.τ).loc Cert.DhARefIdeal.main_arg2) = m ((c.tc : Thread Cert.DhARefIdeal.nD Cert.DhARefIdeal.τ).loc Cert.DhARefIdeal.main_arg2)
      ∧ r.2.mem ((c.tc : Thread Cert.DhARefIdeal.nD Cert.DhARefIdeal.τ).loc Cert.DhARefIdeal.main_arg3) = m ((c.tc : Thread Cert.DhARefIdeal.nD Cert.DhARefIdeal.τ).loc Cert.DhARefIdeal.main_arg3)
      ∧ r.2.mem ((c.tc : Thread Cert.DhARefIdeal.nD Cert.DhARefIdeal.τ).loc Cert.DhARefIdeal.main_arg4) = m ((c.tc : Thread Cert.DhARefIdeal.nD Cert.DhARefIdeal.τ).loc Cert.DhARefIdeal.main_arg4)
      ∧ r.2.mem ((c.tc : Thread Cert.DhARefIdeal.nD Cert.DhARefIdeal.τ).loc Cert.DhARefIdeal.main_arg5) = m ((c.tc : Thread Cert.DhARefIdeal.nD Cert.DhARefIdeal.τ).loc Cert.DhARefIdeal.main_arg5)
      ∧ r.2.mem ((c.tc : Thread Cert.DhARefIdeal.nD Cert.DhARefIdeal.τ).loc Cert.DhARefIdeal.main_arg6) = m ((c.tc : Thread Cert.DhARefIdeal.nD Cert.DhARefIdeal.τ).loc Cert.DhARefIdeal.main_arg6))
      ∧ r.2.sem = fun _ => 0)

def quiescent_DhBBwd [hDhBBwd : Cert.DhBBwd.Facts] : Prop :=
  ∀ (m : (ℓ : Loc Cert.DhBBwd.nD Cert.DhBBwd.τ Cert.DhBBwd.sig) → Buf (Elt Bits) ℓ) (g : Dev Cert.DhBBwd.nD → PrngReg), Pre_DhBBwd m →
    θ_run (Cert.DhBBwd.defs (F := Bits)) (onTc (τ := Cert.DhBBwd.τ) (Cert.DhBBwd.main (F := Bits))) ⟨m, fun _ => 0, g⟩ (fun r => (∀ c : Dev Cert.DhBBwd.nD,
      r.2.mem ((c.tc : Thread Cert.DhBBwd.nD Cert.DhBBwd.τ).loc Cert.DhBBwd.main_arg0) = m ((c.tc : Thread Cert.DhBBwd.nD Cert.DhBBwd.τ).loc Cert.DhBBwd.main_arg0)
      ∧ r.2.mem ((c.tc : Thread Cert.DhBBwd.nD Cert.DhBBwd.τ).loc Cert.DhBBwd.main_arg1) = m ((c.tc : Thread Cert.DhBBwd.nD Cert.DhBBwd.τ).loc Cert.DhBBwd.main_arg1)
      ∧ r.2.mem ((c.tc : Thread Cert.DhBBwd.nD Cert.DhBBwd.τ).loc Cert.DhBBwd.main_arg2) = m ((c.tc : Thread Cert.DhBBwd.nD Cert.DhBBwd.τ).loc Cert.DhBBwd.main_arg2)
      ∧ r.2.mem ((c.tc : Thread Cert.DhBBwd.nD Cert.DhBBwd.τ).loc Cert.DhBBwd.main_arg3) = m ((c.tc : Thread Cert.DhBBwd.nD Cert.DhBBwd.τ).loc Cert.DhBBwd.main_arg3)
      ∧ r.2.mem ((c.tc : Thread Cert.DhBBwd.nD Cert.DhBBwd.τ).loc Cert.DhBBwd.main_arg4) = m ((c.tc : Thread Cert.DhBBwd.nD Cert.DhBBwd.τ).loc Cert.DhBBwd.main_arg4))
      ∧ r.2.sem = fun _ => 0)

def quiescent_DhBBwdIdeal [hDhBBwdIdeal : Cert.DhBBwdIdeal.Facts] : Prop :=
  ∀ (m : (ℓ : Loc Cert.DhBBwdIdeal.nD Cert.DhBBwdIdeal.τ Cert.DhBBwdIdeal.sig) → Buf (Elt Ideal) ℓ) (g : Dev Cert.DhBBwdIdeal.nD → PrngReg), Pre_DhBBwdIdeal m →
    θ_run (Cert.DhBBwdIdeal.defs (F := Ideal)) (onTc (τ := Cert.DhBBwdIdeal.τ) (Cert.DhBBwdIdeal.main (F := Ideal))) ⟨m, fun _ => 0, g⟩ (fun r => (∀ c : Dev Cert.DhBBwdIdeal.nD,
      r.2.mem ((c.tc : Thread Cert.DhBBwdIdeal.nD Cert.DhBBwdIdeal.τ).loc Cert.DhBBwdIdeal.main_arg0) = m ((c.tc : Thread Cert.DhBBwdIdeal.nD Cert.DhBBwdIdeal.τ).loc Cert.DhBBwdIdeal.main_arg0)
      ∧ r.2.mem ((c.tc : Thread Cert.DhBBwdIdeal.nD Cert.DhBBwdIdeal.τ).loc Cert.DhBBwdIdeal.main_arg1) = m ((c.tc : Thread Cert.DhBBwdIdeal.nD Cert.DhBBwdIdeal.τ).loc Cert.DhBBwdIdeal.main_arg1)
      ∧ r.2.mem ((c.tc : Thread Cert.DhBBwdIdeal.nD Cert.DhBBwdIdeal.τ).loc Cert.DhBBwdIdeal.main_arg2) = m ((c.tc : Thread Cert.DhBBwdIdeal.nD Cert.DhBBwdIdeal.τ).loc Cert.DhBBwdIdeal.main_arg2)
      ∧ r.2.mem ((c.tc : Thread Cert.DhBBwdIdeal.nD Cert.DhBBwdIdeal.τ).loc Cert.DhBBwdIdeal.main_arg3) = m ((c.tc : Thread Cert.DhBBwdIdeal.nD Cert.DhBBwdIdeal.τ).loc Cert.DhBBwdIdeal.main_arg3)
      ∧ r.2.mem ((c.tc : Thread Cert.DhBBwdIdeal.nD Cert.DhBBwdIdeal.τ).loc Cert.DhBBwdIdeal.main_arg4) = m ((c.tc : Thread Cert.DhBBwdIdeal.nD Cert.DhBBwdIdeal.τ).loc Cert.DhBBwdIdeal.main_arg4))
      ∧ r.2.sem = fun _ => 0)

def quiescent_DhBBwdIdeal_pre_dh0_finite [hDhBBwdIdeal : Cert.DhBBwdIdeal.Facts] [hPre_dh0_finite : Cert.Pre_dh0_finite.Facts] : Prop :=
  ∀ (m : (ℓ : Loc Cert.DhBBwdIdeal.nD Cert.DhBBwdIdeal.τ Cert.DhBBwdIdeal.sig) → Buf (Elt Ideal) ℓ) (g : Dev Cert.DhBBwdIdeal.nD → PrngReg), Pre_DhBBwdIdeal_dh0_finite m →
    θ_run (Cert.DhBBwdIdeal.defs (F := Ideal)) (onTc (τ := Cert.DhBBwdIdeal.τ) (Cert.DhBBwdIdeal.main (F := Ideal))) ⟨m, fun _ => 0, g⟩ (fun r => (∀ c : Dev Cert.DhBBwdIdeal.nD,
      r.2.mem ((c.tc : Thread Cert.DhBBwdIdeal.nD Cert.DhBBwdIdeal.τ).loc Cert.DhBBwdIdeal.main_arg0) = m ((c.tc : Thread Cert.DhBBwdIdeal.nD Cert.DhBBwdIdeal.τ).loc Cert.DhBBwdIdeal.main_arg0)
      ∧ r.2.mem ((c.tc : Thread Cert.DhBBwdIdeal.nD Cert.DhBBwdIdeal.τ).loc Cert.DhBBwdIdeal.main_arg1) = m ((c.tc : Thread Cert.DhBBwdIdeal.nD Cert.DhBBwdIdeal.τ).loc Cert.DhBBwdIdeal.main_arg1)
      ∧ r.2.mem ((c.tc : Thread Cert.DhBBwdIdeal.nD Cert.DhBBwdIdeal.τ).loc Cert.DhBBwdIdeal.main_arg2) = m ((c.tc : Thread Cert.DhBBwdIdeal.nD Cert.DhBBwdIdeal.τ).loc Cert.DhBBwdIdeal.main_arg2)
      ∧ r.2.mem ((c.tc : Thread Cert.DhBBwdIdeal.nD Cert.DhBBwdIdeal.τ).loc Cert.DhBBwdIdeal.main_arg3) = m ((c.tc : Thread Cert.DhBBwdIdeal.nD Cert.DhBBwdIdeal.τ).loc Cert.DhBBwdIdeal.main_arg3)
      ∧ r.2.mem ((c.tc : Thread Cert.DhBBwdIdeal.nD Cert.DhBBwdIdeal.τ).loc Cert.DhBBwdIdeal.main_arg4) = m ((c.tc : Thread Cert.DhBBwdIdeal.nD Cert.DhBBwdIdeal.τ).loc Cert.DhBBwdIdeal.main_arg4))
      ∧ r.2.sem = fun _ => 0)

def quiescent_DhBRefIdeal [hDhBRefIdeal : Cert.DhBRefIdeal.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1)
      ∧ r.2.mem ((c.tc : Thread Cert.DhBRefIdeal.nD Cert.DhBRefIdeal.τ).loc Cert.DhBRefIdeal.main_arg2) = m ((c.tc : Thread Cert.DhBRefIdeal.nD Cert.DhBRefIdeal.τ).loc Cert.DhBRefIdeal.main_arg2)
      ∧ r.2.mem ((c.tc : Thread Cert.DhBRefIdeal.nD Cert.DhBRefIdeal.τ).loc Cert.DhBRefIdeal.main_arg3) = m ((c.tc : Thread Cert.DhBRefIdeal.nD Cert.DhBRefIdeal.τ).loc Cert.DhBRefIdeal.main_arg3)
      ∧ r.2.mem ((c.tc : Thread Cert.DhBRefIdeal.nD Cert.DhBRefIdeal.τ).loc Cert.DhBRefIdeal.main_arg4) = m ((c.tc : Thread Cert.DhBRefIdeal.nD Cert.DhBRefIdeal.τ).loc Cert.DhBRefIdeal.main_arg4))
      ∧ r.2.sem = fun _ => 0)

def quiescent_DhBRefIdeal_pre_dh0_finite [hDhBRefIdeal : Cert.DhBRefIdeal.Facts] [hPre_dh0_finite : Cert.Pre_dh0_finite.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal_dh0_finite m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1)
      ∧ r.2.mem ((c.tc : Thread Cert.DhBRefIdeal.nD Cert.DhBRefIdeal.τ).loc Cert.DhBRefIdeal.main_arg2) = m ((c.tc : Thread Cert.DhBRefIdeal.nD Cert.DhBRefIdeal.τ).loc Cert.DhBRefIdeal.main_arg2)
      ∧ r.2.mem ((c.tc : Thread Cert.DhBRefIdeal.nD Cert.DhBRefIdeal.τ).loc Cert.DhBRefIdeal.main_arg3) = m ((c.tc : Thread Cert.DhBRefIdeal.nD Cert.DhBRefIdeal.τ).loc Cert.DhBRefIdeal.main_arg3)
      ∧ r.2.mem ((c.tc : Thread Cert.DhBRefIdeal.nD Cert.DhBRefIdeal.τ).loc Cert.DhBRefIdeal.main_arg4) = m ((c.tc : Thread Cert.DhBRefIdeal.nD Cert.DhBRefIdeal.τ).loc Cert.DhBRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attf_finite [hAttnFwdIdeal : Cert.AttnFwdIdeal.Facts] [hPre_attf_finite : Cert.Pre_attf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attf_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attf_finite [hAttnFwdRefIdeal : Cert.AttnFwdRefIdeal.Facts] [hPre_attf_finite : Cert.Pre_attf_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attf_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v9)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v9) = v0 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ForgetBwd_ForgetBwdIdeal : Prop :=
  True

def algebraic_ForgetBwdIdeal_ForgetRefIdeal_pre_forget_finite [hForgetBwdIdeal : Cert.ForgetBwdIdeal.Facts] [hForgetRefIdeal : Cert.ForgetRefIdeal.Facts] [hPre_forget_finite : Cert.Pre_forget_finite.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetBwdIdeal_forget_finite m →
    (∀ c : Dev Cert.ForgetBwdIdeal.nD,
      m' ((c.tc : Thread Cert.ForgetRefIdeal.nD Cert.ForgetRefIdeal.τ).loc Cert.ForgetRefIdeal.main_arg0) = m ((c.tc : Thread Cert.ForgetBwdIdeal.nD Cert.ForgetBwdIdeal.τ).loc Cert.ForgetBwdIdeal.main_arg0)
      ∧ m' ((c.tc : Thread Cert.ForgetRefIdeal.nD Cert.ForgetRefIdeal.τ).loc Cert.ForgetRefIdeal.main_arg1) = m ((c.tc : Thread Cert.ForgetBwdIdeal.nD Cert.ForgetBwdIdeal.τ).loc Cert.ForgetBwdIdeal.main_arg1)
      ∧ m' ((c.tc : Thread Cert.ForgetRefIdeal.nD Cert.ForgetRefIdeal.τ).loc Cert.ForgetRefIdeal.main_arg2) = m ((c.tc : Thread Cert.ForgetBwdIdeal.nD Cert.ForgetBwdIdeal.τ).loc Cert.ForgetBwdIdeal.main_arg2)
      ∧ m' ((c.tc : Thread Cert.ForgetRefIdeal.nD Cert.ForgetRefIdeal.τ).loc Cert.ForgetRefIdeal.main_arg3) = m ((c.tc : Thread Cert.ForgetBwdIdeal.nD Cert.ForgetBwdIdeal.τ).loc Cert.ForgetBwdIdeal.main_arg3)) →
    ∃ (v0 : (c : Dev Cert.ForgetBwdIdeal.nD) → Buf (Elt Ideal) ((c.tc : Thread Cert.ForgetBwdIdeal.nD Cert.ForgetBwdIdeal.τ).loc Cert.ForgetBwdIdeal.main_v4_0)) (v1 : (c : Dev Cert.ForgetBwdIdeal.nD) → Buf (Elt Ideal) ((c.tc : Thread Cert.ForgetBwdIdeal.nD Cert.ForgetBwdIdeal.τ).loc Cert.ForgetBwdIdeal.main_v4_1)),
      θ_run (Cert.ForgetBwdIdeal.defs (F := Ideal)) (onTc (τ := Cert.ForgetBwdIdeal.τ) (Cert.ForgetBwdIdeal.main (F := Ideal))) ⟨m, fun _ => 0, g⟩ (fun r => ∀ c : Dev Cert.ForgetBwdIdeal.nD,
          r.2.mem ((c.tc : Thread Cert.ForgetBwdIdeal.nD Cert.ForgetBwdIdeal.τ).loc Cert.ForgetBwdIdeal.main_v4_0) = v0 c
          ∧ r.2.mem ((c.tc : Thread Cert.ForgetBwdIdeal.nD Cert.ForgetBwdIdeal.τ).loc Cert.ForgetBwdIdeal.main_v4_1) = v1 c
          ∧ r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
          ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1)
          ∧ r.2.mem ((c.tc : Thread Cert.ForgetBwdIdeal.nD Cert.ForgetBwdIdeal.τ).loc Cert.ForgetBwdIdeal.main_arg2) = m ((c.tc : Thread Cert.ForgetBwdIdeal.nD Cert.ForgetBwdIdeal.τ).loc Cert.ForgetBwdIdeal.main_arg2)
          ∧ r.2.mem ((c.tc : Thread Cert.ForgetBwdIdeal.nD Cert.ForgetBwdIdeal.τ).loc Cert.ForgetBwdIdeal.main_arg3) = m ((c.tc : Thread Cert.ForgetBwdIdeal.nD Cert.ForgetBwdIdeal.τ).loc Cert.ForgetBwdIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v14) = v0 c
          ∧ r.2.mem ((c.tc : Thread Cert.ForgetRefIdeal.nD Cert.ForgetRefIdeal.τ).loc Cert.ForgetRefIdeal.main_v16) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_AttnBwd_AttnBwdIdeal : Prop :=
  IdealRules.named_const.Statement Cert.AttnBwdIdeal.κ "mask" .f32 0xF149F2CA#32 ⊥

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v58_0)) (v1 : (c : Dev Cert.AttnBwdIdeal.nD) → Buf (Elt Ideal) ((c.tc : Thread Cert.AttnBwdIdeal.nD Cert.AttnBwdIdeal.τ).loc Cert.AttnBwdIdeal.main_v58_1)) (v2 : (c : Dev Cert.AttnBwdIdeal.nD) → Buf (Elt Ideal) ((c.tc : Thread Cert.AttnBwdIdeal.nD Cert.AttnBwdIdeal.τ).loc Cert.AttnBwdIdeal.main_v58_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v58_0) = v0 c
          ∧ r.2.mem ((c.tc : Thread Cert.AttnBwdIdeal.nD Cert.AttnBwdIdeal.τ).loc Cert.AttnBwdIdeal.main_v58_1) = v1 c
          ∧ r.2.mem ((c.tc : Thread Cert.AttnBwdIdeal.nD Cert.AttnBwdIdeal.τ).loc Cert.AttnBwdIdeal.main_v58_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v102) = v0 c
          ∧ r.2.mem ((c.tc : Thread Cert.AttnRefIdeal.nD Cert.AttnRefIdeal.τ).loc Cert.AttnRefIdeal.main_v104) = v1 c
          ∧ r.2.mem ((c.tc : Thread Cert.AttnRefIdeal.nD Cert.AttnRefIdeal.τ).loc Cert.AttnRefIdeal.main_v106) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_MixBwd_MixBwdIdeal : Prop :=
  IdealRules.named_const.Statement Cert.MixBwdIdeal.κ "gelu_c" .f32 0x3D372713#32 ((8943 / 200000 : ℝ) : EReal)
  ∧ IdealRules.named_const.Statement Cert.MixBwdIdeal.κ "gelu_3c" .f32 0x3E095D4F#32 ((26829 / 200000 : ℝ) : EReal)

def algebraic_MixBwdIdeal_MixRefIdeal_on_mix_written_pre_mix_finite [hMixBwdIdeal : Cert.MixBwdIdeal.Facts] [hMixRefIdeal : Cert.MixRefIdeal.Facts] [hPre_mix_finite : Cert.Pre_mix_finite.Facts] [hOn_mix_written : Cert.On_mix_written.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_mix_finite m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)) →
    ∃ (v0 : (c : Dev Cert.MixBwdIdeal.nD) → Buf (Elt Ideal) ((c.tc : Thread Cert.MixBwdIdeal.nD Cert.MixBwdIdeal.τ).loc Cert.MixBwdIdeal.main_v9_0)) (v1 : (c : Dev Cert.MixBwdIdeal.nD) → Buf (Elt Ideal) ((c.tc : Thread Cert.MixBwdIdeal.nD Cert.MixBwdIdeal.τ).loc Cert.MixBwdIdeal.main_v9_1)) (v2 : (c : Dev Cert.MixBwdIdeal.nD) → Buf (Elt Ideal) ((c.tc : Thread Cert.MixBwdIdeal.nD Cert.MixBwdIdeal.τ).loc Cert.MixBwdIdeal.main_v9_2)) (v3 : (c : Dev Cert.MixBwdIdeal.nD) → Buf (Elt Ideal) ((c.tc : Thread Cert.MixBwdIdeal.nD Cert.MixBwdIdeal.τ).loc Cert.MixBwdIdeal.main_v9_3)) (v4 : (c : Dev Cert.MixBwdIdeal.nD) → Buf (Elt Ideal) ((c.tc : Thread Cert.MixBwdIdeal.nD Cert.MixBwdIdeal.τ).loc Cert.MixBwdIdeal.main_v9_4)) (v5 : (c : Dev Cert.MixBwdIdeal.nD) → Buf (Elt Ideal) ((c.tc : Thread Cert.MixBwdIdeal.nD Cert.MixBwdIdeal.τ).loc Cert.MixBwdIdeal.main_v9_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          (∀ i : (⟨2, ![4096, 7680]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).1 i = 1#1 → r.2.mem ((c.tc : Thread Cert.MixBwdIdeal.nD Cert.MixBwdIdeal.τ).loc Cert.MixBwdIdeal.main_v9_0) i = v0 c i)
          ∧ (∀ i : (⟨2, ![4096, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.1 i = 1#1 → r.2.mem ((c.tc : Thread Cert.MixBwdIdeal.nD Cert.MixBwdIdeal.τ).loc Cert.MixBwdIdeal.main_v9_1) i = v1 c i)
          ∧ (∀ i : (⟨2, ![4096, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.1 i = 1#1 → r.2.mem ((c.tc : Thread Cert.MixBwdIdeal.nD Cert.MixBwdIdeal.τ).loc Cert.MixBwdIdeal.main_v9_2) i = v2 c i)
          ∧ (∀ i : (⟨3, ![8, 128, 128]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.1 i = 1#1 → r.2.mem ((c.tc : Thread Cert.MixBwdIdeal.nD Cert.MixBwdIdeal.τ).loc Cert.MixBwdIdeal.main_v9_3) i = v3 c i)
          ∧ (∀ i : (⟨2, ![128, 128]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.1 i = 1#1 → r.2.mem ((c.tc : Thread Cert.MixBwdIdeal.nD Cert.MixBwdIdeal.τ).loc Cert.MixBwdIdeal.main_v9_4) i = v4 c i)
          ∧ (∀ i : (⟨2, ![1, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2 i = 1#1 → r.2.mem ((c.tc : Thread Cert.MixBwdIdeal.nD Cert.MixBwdIdeal.τ).loc Cert.MixBwdIdeal.main_v9_5) i = v5 c i)
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![4096, 7680]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).1 i = 1#1 → r.2.mem ((c.tc : Thread Cert.MixRefIdeal.nD Cert.MixRefIdeal.τ).loc Cert.MixRefIdeal.main_v189) i = v0 c i)
          ∧ (∀ i : (⟨2, ![4096, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.1 i = 1#1 → r.2.mem ((c.tc : Thread Cert.MixRefIdeal.nD Cert.MixRefIdeal.τ).loc Cert.MixRefIdeal.main_v109) i = v1 c i)
          ∧ (∀ i : (⟨2, ![4096, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.1 i = 1#1 → r.2.mem ((c.tc : Thread Cert.MixRefIdeal.nD Cert.MixRefIdeal.τ).loc Cert.MixRefIdeal.main_v195) i = v2 c i)
          ∧ (∀ i : (⟨3, ![8, 128, 128]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.1 i = 1#1 → r.2.mem ((c.tc : Thread Cert.MixRefIdeal.nD Cert.MixRefIdeal.τ).loc Cert.MixRefIdeal.main_v129) i = v3 c i)
          ∧ (∀ i : (⟨2, ![128, 128]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.1 i = 1#1 → r.2.mem ((c.tc : Thread Cert.MixRefIdeal.nD Cert.MixRefIdeal.τ).loc Cert.MixRefIdeal.main_v197) i = v4 c i)
          ∧ (∀ i : (⟨2, ![1, 1024]⟩ : Shape).Idx, (Cert.On_mix_written.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8))).2.2.2.2.2 i = 1#1 → r.2.mem ((c.tc : Thread Cert.MixRefIdeal.nD Cert.MixRefIdeal.τ).loc Cert.MixRefIdeal.main_v198) i = v5 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_NormBwd_NormBwdIdeal : Prop :=
  True

def algebraic_NormBwdIdeal_NormRefIdeal_pre_norm_finite [hNormBwdIdeal : Cert.NormBwdIdeal.Facts] [hNormRefIdeal : Cert.NormRefIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal_norm_finite m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)
      ∧ m' ((c.tc : Thread Cert.NormRefIdeal.nD Cert.NormRefIdeal.τ).loc Cert.NormRefIdeal.main_arg4) = m ((c.tc : Thread Cert.NormBwdIdeal.nD Cert.NormBwdIdeal.τ).loc Cert.NormBwdIdeal.main_arg4)
      ∧ m' ((c.tc : Thread Cert.NormRefIdeal.nD Cert.NormRefIdeal.τ).loc Cert.NormRefIdeal.main_arg5) = m ((c.tc : Thread Cert.NormBwdIdeal.nD Cert.NormBwdIdeal.τ).loc Cert.NormBwdIdeal.main_arg5)
      ∧ m' ((c.tc : Thread Cert.NormRefIdeal.nD Cert.NormRefIdeal.τ).loc Cert.NormRefIdeal.main_arg6) = m ((c.tc : Thread Cert.NormBwdIdeal.nD Cert.NormBwdIdeal.τ).loc Cert.NormBwdIdeal.main_arg6)
      ∧ m' ((c.tc : Thread Cert.NormRefIdeal.nD Cert.NormRefIdeal.τ).loc Cert.NormRefIdeal.main_arg7) = m ((c.tc : Thread Cert.NormBwdIdeal.nD Cert.NormBwdIdeal.τ).loc Cert.NormBwdIdeal.main_arg7)
      ∧ m' ((c.tc : Thread Cert.NormRefIdeal.nD Cert.NormRefIdeal.τ).loc Cert.NormRefIdeal.main_arg8) = m ((c.tc : Thread Cert.NormBwdIdeal.nD Cert.NormBwdIdeal.τ).loc Cert.NormBwdIdeal.main_arg8)) →
    ∃ (v0 : (c : Dev Cert.NormBwdIdeal.nD) → Buf (Elt Ideal) ((c.tc : Thread Cert.NormBwdIdeal.nD Cert.NormBwdIdeal.τ).loc Cert.NormBwdIdeal.main_v23_0)) (v1 : (c : Dev Cert.NormBwdIdeal.nD) → Buf (Elt Ideal) ((c.tc : Thread Cert.NormBwdIdeal.nD Cert.NormBwdIdeal.τ).loc Cert.NormBwdIdeal.main_v23_1)) (v2 : (c : Dev Cert.NormBwdIdeal.nD) → Buf (Elt Ideal) ((c.tc : Thread Cert.NormBwdIdeal.nD Cert.NormBwdIdeal.τ).loc Cert.NormBwdIdeal.main_v23_2)) (v3 : (c : Dev Cert.NormBwdIdeal.nD) → Buf (Elt Ideal) ((c.tc : Thread Cert.NormBwdIdeal.nD Cert.NormBwdIdeal.τ).loc Cert.NormBwdIdeal.main_v23_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v23_0) = v0 c
          ∧ r.2.mem ((c.tc : Thread Cert.NormBwdIdeal.nD Cert.NormBwdIdeal.τ).loc Cert.NormBwdIdeal.main_v23_1) = v1 c
          ∧ r.2.mem ((c.tc : Thread Cert.NormBwdIdeal.nD Cert.NormBwdIdeal.τ).loc Cert.NormBwdIdeal.main_v23_2) = v2 c
          ∧ r.2.mem ((c.tc : Thread Cert.NormBwdIdeal.nD Cert.NormBwdIdeal.τ).loc Cert.NormBwdIdeal.main_v23_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7)
          ∧ r.2.mem ((c.tc : Thread Cert.NormBwdIdeal.nD Cert.NormBwdIdeal.τ).loc Cert.NormBwdIdeal.main_arg8) = m ((c.tc : Thread Cert.NormBwdIdeal.nD Cert.NormBwdIdeal.τ).loc Cert.NormBwdIdeal.main_arg8))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v60) = v0 c
          ∧ r.2.mem ((c.tc : Thread Cert.NormRefIdeal.nD Cert.NormRefIdeal.τ).loc Cert.NormRefIdeal.main_v82) = v1 c
          ∧ r.2.mem ((c.tc : Thread Cert.NormRefIdeal.nD Cert.NormRefIdeal.τ).loc Cert.NormRefIdeal.main_v83) = v2 c
          ∧ r.2.mem ((c.tc : Thread Cert.NormRefIdeal.nD Cert.NormRefIdeal.τ).loc Cert.NormRefIdeal.main_v84) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v2_0)) (v1 : (c : Dev Cert.LossBwdIdeal.nD) → Buf (Elt Ideal) ((c.tc : Thread Cert.LossBwdIdeal.nD Cert.LossBwdIdeal.τ).loc Cert.LossBwdIdeal.main_v2_1)) (v2 : (c : Dev Cert.LossBwdIdeal.nD) → Buf (Elt Ideal) ((c.tc : Thread Cert.LossBwdIdeal.nD Cert.LossBwdIdeal.τ).loc Cert.LossBwdIdeal.main_v2_2)) (v3 : (c : Dev Cert.LossBwdIdeal.nD) → Buf (Elt Ideal) ((c.tc : Thread Cert.LossBwdIdeal.nD Cert.LossBwdIdeal.τ).loc Cert.LossBwdIdeal.main_v2_3)) (v4 : (c : Dev Cert.LossBwdIdeal.nD) → Buf (Elt Ideal) ((c.tc : Thread Cert.LossBwdIdeal.nD Cert.LossBwdIdeal.τ).loc Cert.LossBwdIdeal.main_v2_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v2_0) = v0 c
          ∧ r.2.mem ((c.tc : Thread Cert.LossBwdIdeal.nD Cert.LossBwdIdeal.τ).loc Cert.LossBwdIdeal.main_v2_1) = v1 c
          ∧ r.2.mem ((c.tc : Thread Cert.LossBwdIdeal.nD Cert.LossBwdIdeal.τ).loc Cert.LossBwdIdeal.main_v2_2) = v2 c
          ∧ r.2.mem ((c.tc : Thread Cert.LossBwdIdeal.nD Cert.LossBwdIdeal.τ).loc Cert.LossBwdIdeal.main_v2_3) = v3 c
          ∧ r.2.mem ((c.tc : Thread Cert.LossBwdIdeal.nD Cert.LossBwdIdeal.τ).loc Cert.LossBwdIdeal.main_v2_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v1) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_v56) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_DhABwd_DhABwdIdeal : Prop :=
  True

def algebraic_DhABwdIdeal_DhARefIdeal_pre_dh1_finite [hDhABwdIdeal : Cert.DhABwdIdeal.Facts] [hDhARefIdeal : Cert.DhARefIdeal.Facts] [hPre_dh1_finite : Cert.Pre_dh1_finite.Facts] : Prop :=
  ∀ (m : (ℓ : Loc Cert.DhABwdIdeal.nD Cert.DhABwdIdeal.τ Cert.DhABwdIdeal.sig) → Buf (Elt Ideal) ℓ) (g : Dev Cert.DhABwdIdeal.nD → PrngReg)
    (m' : (ℓ : Loc Cert.DhARefIdeal.nD Cert.DhARefIdeal.τ Cert.DhARefIdeal.sig) → Buf (Elt Ideal) ℓ) (g' : Dev Cert.DhARefIdeal.nD → PrngReg), Pre_DhABwdIdeal_dh1_finite m →
    (∀ c : Dev Cert.DhABwdIdeal.nD,
      m' ((c.tc : Thread Cert.DhARefIdeal.nD Cert.DhARefIdeal.τ).loc Cert.DhARefIdeal.main_arg0) = m ((c.tc : Thread Cert.DhABwdIdeal.nD Cert.DhABwdIdeal.τ).loc Cert.DhABwdIdeal.main_arg0)
      ∧ m' ((c.tc : Thread Cert.DhARefIdeal.nD Cert.DhARefIdeal.τ).loc Cert.DhARefIdeal.main_arg1) = m ((c.tc : Thread Cert.DhABwdIdeal.nD Cert.DhABwdIdeal.τ).loc Cert.DhABwdIdeal.main_arg1)
      ∧ m' ((c.tc : Thread Cert.DhARefIdeal.nD Cert.DhARefIdeal.τ).loc Cert.DhARefIdeal.main_arg2) = m ((c.tc : Thread Cert.DhABwdIdeal.nD Cert.DhABwdIdeal.τ).loc Cert.DhABwdIdeal.main_arg2)
      ∧ m' ((c.tc : Thread Cert.DhARefIdeal.nD Cert.DhARefIdeal.τ).loc Cert.DhARefIdeal.main_arg3) = m ((c.tc : Thread Cert.DhABwdIdeal.nD Cert.DhABwdIdeal.τ).loc Cert.DhABwdIdeal.main_arg3)
      ∧ m' ((c.tc : Thread Cert.DhARefIdeal.nD Cert.DhARefIdeal.τ).loc Cert.DhARefIdeal.main_arg4) = m ((c.tc : Thread Cert.DhABwdIdeal.nD Cert.DhABwdIdeal.τ).loc Cert.DhABwdIdeal.main_arg4)
      ∧ m' ((c.tc : Thread Cert.DhARefIdeal.nD Cert.DhARefIdeal.τ).loc Cert.DhARefIdeal.main_arg5) = m ((c.tc : Thread Cert.DhABwdIdeal.nD Cert.DhABwdIdeal.τ).loc Cert.DhABwdIdeal.main_arg5)
      ∧ m' ((c.tc : Thread Cert.DhARefIdeal.nD Cert.DhARefIdeal.τ).loc Cert.DhARefIdeal.main_arg6) = m ((c.tc : Thread Cert.DhABwdIdeal.nD Cert.DhABwdIdeal.τ).loc Cert.DhABwdIdeal.main_arg6)) →
    ∃ (v0 : (c : Dev Cert.DhABwdIdeal.nD) → Buf (Elt Ideal) ((c.tc : Thread Cert.DhABwdIdeal.nD Cert.DhABwdIdeal.τ).loc Cert.DhABwdIdeal.main_v36_0)) (v1 : (c : Dev Cert.DhABwdIdeal.nD) → Buf (Elt Ideal) ((c.tc : Thread Cert.DhABwdIdeal.nD Cert.DhABwdIdeal.τ).loc Cert.DhABwdIdeal.main_v36_1)) (v2 : (c : Dev Cert.DhABwdIdeal.nD) → Buf (Elt Ideal) ((c.tc : Thread Cert.DhABwdIdeal.nD Cert.DhABwdIdeal.τ).loc Cert.DhABwdIdeal.main_v36_2)) (v3 : (c : Dev Cert.DhABwdIdeal.nD) → Buf (Elt Ideal) ((c.tc : Thread Cert.DhABwdIdeal.nD Cert.DhABwdIdeal.τ).loc Cert.DhABwdIdeal.main_v36_3)),
      θ_run (Cert.DhABwdIdeal.defs (F := Ideal)) (onTc (τ := Cert.DhABwdIdeal.τ) (Cert.DhABwdIdeal.main (F := Ideal))) ⟨m, fun _ => 0, g⟩ (fun r => ∀ c : Dev Cert.DhABwdIdeal.nD,
          r.2.mem ((c.tc : Thread Cert.DhABwdIdeal.nD Cert.DhABwdIdeal.τ).loc Cert.DhABwdIdeal.main_v36_0) = v0 c
          ∧ r.2.mem ((c.tc : Thread Cert.DhABwdIdeal.nD Cert.DhABwdIdeal.τ).loc Cert.DhABwdIdeal.main_v36_1) = v1 c
          ∧ r.2.mem ((c.tc : Thread Cert.DhABwdIdeal.nD Cert.DhABwdIdeal.τ).loc Cert.DhABwdIdeal.main_v36_2) = v2 c
          ∧ r.2.mem ((c.tc : Thread Cert.DhABwdIdeal.nD Cert.DhABwdIdeal.τ).loc Cert.DhABwdIdeal.main_v36_3) = v3 c
          ∧ r.2.mem ((c.tc : Thread Cert.DhABwdIdeal.nD Cert.DhABwdIdeal.τ).loc Cert.DhABwdIdeal.main_arg0) = m ((c.tc : Thread Cert.DhABwdIdeal.nD Cert.DhABwdIdeal.τ).loc Cert.DhABwdIdeal.main_arg0)
          ∧ r.2.mem ((c.tc : Thread Cert.DhABwdIdeal.nD Cert.DhABwdIdeal.τ).loc Cert.DhABwdIdeal.main_arg1) = m ((c.tc : Thread Cert.DhABwdIdeal.nD Cert.DhABwdIdeal.τ).loc Cert.DhABwdIdeal.main_arg1)
          ∧ r.2.mem ((c.tc : Thread Cert.DhABwdIdeal.nD Cert.DhABwdIdeal.τ).loc Cert.DhABwdIdeal.main_arg2) = m ((c.tc : Thread Cert.DhABwdIdeal.nD Cert.DhABwdIdeal.τ).loc Cert.DhABwdIdeal.main_arg2)
          ∧ r.2.mem ((c.tc : Thread Cert.DhABwdIdeal.nD Cert.DhABwdIdeal.τ).loc Cert.DhABwdIdeal.main_arg3) = m ((c.tc : Thread Cert.DhABwdIdeal.nD Cert.DhABwdIdeal.τ).loc Cert.DhABwdIdeal.main_arg3)
          ∧ r.2.mem ((c.tc : Thread Cert.DhABwdIdeal.nD Cert.DhABwdIdeal.τ).loc Cert.DhABwdIdeal.main_arg4) = m ((c.tc : Thread Cert.DhABwdIdeal.nD Cert.DhABwdIdeal.τ).loc Cert.DhABwdIdeal.main_arg4)
          ∧ r.2.mem ((c.tc : Thread Cert.DhABwdIdeal.nD Cert.DhABwdIdeal.τ).loc Cert.DhABwdIdeal.main_arg5) = m ((c.tc : Thread Cert.DhABwdIdeal.nD Cert.DhABwdIdeal.τ).loc Cert.DhABwdIdeal.main_arg5)
          ∧ r.2.mem ((c.tc : Thread Cert.DhABwdIdeal.nD Cert.DhABwdIdeal.τ).loc Cert.DhABwdIdeal.main_arg6) = m ((c.tc : Thread Cert.DhABwdIdeal.nD Cert.DhABwdIdeal.τ).loc Cert.DhABwdIdeal.main_arg6))
      ∧ θ_run (Cert.DhARefIdeal.defs (F := Ideal)) (onTc (τ := Cert.DhARefIdeal.τ) (Cert.DhARefIdeal.main (F := Ideal))) ⟨m', fun _ => 0, g'⟩ (fun r => ∀ c : Dev Cert.DhARefIdeal.nD,
          r.2.mem ((c.tc : Thread Cert.DhARefIdeal.nD Cert.DhARefIdeal.τ).loc Cert.DhARefIdeal.main_v56) = v0 c
          ∧ r.2.mem ((c.tc : Thread Cert.DhARefIdeal.nD Cert.DhARefIdeal.τ).loc Cert.DhARefIdeal.main_v78) = v1 c
          ∧ r.2.mem ((c.tc : Thread Cert.DhARefIdeal.nD Cert.DhARefIdeal.τ).loc Cert.DhARefIdeal.main_v79) = v2 c
          ∧ r.2.mem ((c.tc : Thread Cert.DhARefIdeal.nD Cert.DhARefIdeal.τ).loc Cert.DhARefIdeal.main_v80) = v3 c
          ∧ r.2.mem ((c.tc : Thread Cert.DhARefIdeal.nD Cert.DhARefIdeal.τ).loc Cert.DhARefIdeal.main_arg0) = m' ((c.tc : Thread Cert.DhARefIdeal.nD Cert.DhARefIdeal.τ).loc Cert.DhARefIdeal.main_arg0)
          ∧ r.2.mem ((c.tc : Thread Cert.DhARefIdeal.nD Cert.DhARefIdeal.τ).loc Cert.DhARefIdeal.main_arg1) = m' ((c.tc : Thread Cert.DhARefIdeal.nD Cert.DhARefIdeal.τ).loc Cert.DhARefIdeal.main_arg1)
          ∧ r.2.mem ((c.tc : Thread Cert.DhARefIdeal.nD Cert.DhARefIdeal.τ).loc Cert.DhARefIdeal.main_arg2) = m' ((c.tc : Thread Cert.DhARefIdeal.nD Cert.DhARefIdeal.τ).loc Cert.DhARefIdeal.main_arg2)
          ∧ r.2.mem ((c.tc : Thread Cert.DhARefIdeal.nD Cert.DhARefIdeal.τ).loc Cert.DhARefIdeal.main_arg3) = m' ((c.tc : Thread Cert.DhARefIdeal.nD Cert.DhARefIdeal.τ).loc Cert.DhARefIdeal.main_arg3)
          ∧ r.2.mem ((c.tc : Thread Cert.DhARefIdeal.nD Cert.DhARefIdeal.τ).loc Cert.DhARefIdeal.main_arg4) = m' ((c.tc : Thread Cert.DhARefIdeal.nD Cert.DhARefIdeal.τ).loc Cert.DhARefIdeal.main_arg4)
          ∧ r.2.mem ((c.tc : Thread Cert.DhARefIdeal.nD Cert.DhARefIdeal.τ).loc Cert.DhARefIdeal.main_arg5) = m' ((c.tc : Thread Cert.DhARefIdeal.nD Cert.DhARefIdeal.τ).loc Cert.DhARefIdeal.main_arg5)
          ∧ r.2.mem ((c.tc : Thread Cert.DhARefIdeal.nD Cert.DhARefIdeal.τ).loc Cert.DhARefIdeal.main_arg6) = m' ((c.tc : Thread Cert.DhARefIdeal.nD Cert.DhARefIdeal.τ).loc Cert.DhARefIdeal.main_arg6))

def preserves_DhBBwd_DhBBwdIdeal : Prop :=
  True

def algebraic_DhBBwdIdeal_DhBRefIdeal_pre_dh0_finite [hDhBBwdIdeal : Cert.DhBBwdIdeal.Facts] [hDhBRefIdeal : Cert.DhBRefIdeal.Facts] [hPre_dh0_finite : Cert.Pre_dh0_finite.Facts] : Prop :=
  ∀ (m : (ℓ : Loc Cert.DhBBwdIdeal.nD Cert.DhBBwdIdeal.τ Cert.DhBBwdIdeal.sig) → Buf (Elt Ideal) ℓ) (g : Dev Cert.DhBBwdIdeal.nD → PrngReg)
    (m' : (ℓ : Loc Cert.DhBRefIdeal.nD Cert.DhBRefIdeal.τ Cert.DhBRefIdeal.sig) → Buf (Elt Ideal) ℓ) (g' : Dev Cert.DhBRefIdeal.nD → PrngReg), Pre_DhBBwdIdeal_dh0_finite m →
    (∀ c : Dev Cert.DhBBwdIdeal.nD,
      m' ((c.tc : Thread Cert.DhBRefIdeal.nD Cert.DhBRefIdeal.τ).loc Cert.DhBRefIdeal.main_arg0) = m ((c.tc : Thread Cert.DhBBwdIdeal.nD Cert.DhBBwdIdeal.τ).loc Cert.DhBBwdIdeal.main_arg0)
      ∧ m' ((c.tc : Thread Cert.DhBRefIdeal.nD Cert.DhBRefIdeal.τ).loc Cert.DhBRefIdeal.main_arg1) = m ((c.tc : Thread Cert.DhBBwdIdeal.nD Cert.DhBBwdIdeal.τ).loc Cert.DhBBwdIdeal.main_arg1)
      ∧ m' ((c.tc : Thread Cert.DhBRefIdeal.nD Cert.DhBRefIdeal.τ).loc Cert.DhBRefIdeal.main_arg2) = m ((c.tc : Thread Cert.DhBBwdIdeal.nD Cert.DhBBwdIdeal.τ).loc Cert.DhBBwdIdeal.main_arg2)
      ∧ m' ((c.tc : Thread Cert.DhBRefIdeal.nD Cert.DhBRefIdeal.τ).loc Cert.DhBRefIdeal.main_arg3) = m ((c.tc : Thread Cert.DhBBwdIdeal.nD Cert.DhBBwdIdeal.τ).loc Cert.DhBBwdIdeal.main_arg3)
      ∧ m' ((c.tc : Thread Cert.DhBRefIdeal.nD Cert.DhBRefIdeal.τ).loc Cert.DhBRefIdeal.main_arg4) = m ((c.tc : Thread Cert.DhBBwdIdeal.nD Cert.DhBBwdIdeal.τ).loc Cert.DhBBwdIdeal.main_arg4)) →
    ∃ (v0 : (c : Dev Cert.DhBBwdIdeal.nD) → Buf (Elt Ideal) ((c.tc : Thread Cert.DhBBwdIdeal.nD Cert.DhBBwdIdeal.τ).loc Cert.DhBBwdIdeal.main_v21_0)) (v1 : (c : Dev Cert.DhBBwdIdeal.nD) → Buf (Elt Ideal) ((c.tc : Thread Cert.DhBBwdIdeal.nD Cert.DhBBwdIdeal.τ).loc Cert.DhBBwdIdeal.main_v21_1)),
      θ_run (Cert.DhBBwdIdeal.defs (F := Ideal)) (onTc (τ := Cert.DhBBwdIdeal.τ) (Cert.DhBBwdIdeal.main (F := Ideal))) ⟨m, fun _ => 0, g⟩ (fun r => ∀ c : Dev Cert.DhBBwdIdeal.nD,
          r.2.mem ((c.tc : Thread Cert.DhBBwdIdeal.nD Cert.DhBBwdIdeal.τ).loc Cert.DhBBwdIdeal.main_v21_0) = v0 c
          ∧ r.2.mem ((c.tc : Thread Cert.DhBBwdIdeal.nD Cert.DhBBwdIdeal.τ).loc Cert.DhBBwdIdeal.main_v21_1) = v1 c
          ∧ r.2.mem ((c.tc : Thread Cert.DhBBwdIdeal.nD Cert.DhBBwdIdeal.τ).loc Cert.DhBBwdIdeal.main_arg0) = m ((c.tc : Thread Cert.DhBBwdIdeal.nD Cert.DhBBwdIdeal.τ).loc Cert.DhBBwdIdeal.main_arg0)
          ∧ r.2.mem ((c.tc : Thread Cert.DhBBwdIdeal.nD Cert.DhBBwdIdeal.τ).loc Cert.DhBBwdIdeal.main_arg1) = m ((c.tc : Thread Cert.DhBBwdIdeal.nD Cert.DhBBwdIdeal.τ).loc Cert.DhBBwdIdeal.main_arg1)
          ∧ r.2.mem ((c.tc : Thread Cert.DhBBwdIdeal.nD Cert.DhBBwdIdeal.τ).loc Cert.DhBBwdIdeal.main_arg2) = m ((c.tc : Thread Cert.DhBBwdIdeal.nD Cert.DhBBwdIdeal.τ).loc Cert.DhBBwdIdeal.main_arg2)
          ∧ r.2.mem ((c.tc : Thread Cert.DhBBwdIdeal.nD Cert.DhBBwdIdeal.τ).loc Cert.DhBBwdIdeal.main_arg3) = m ((c.tc : Thread Cert.DhBBwdIdeal.nD Cert.DhBBwdIdeal.τ).loc Cert.DhBBwdIdeal.main_arg3)
          ∧ r.2.mem ((c.tc : Thread Cert.DhBBwdIdeal.nD Cert.DhBBwdIdeal.τ).loc Cert.DhBBwdIdeal.main_arg4) = m ((c.tc : Thread Cert.DhBBwdIdeal.nD Cert.DhBBwdIdeal.τ).loc Cert.DhBBwdIdeal.main_arg4))
      ∧ θ_run (Cert.DhBRefIdeal.defs (F := Ideal)) (onTc (τ := Cert.DhBRefIdeal.τ) (Cert.DhBRefIdeal.main (F := Ideal))) ⟨m', fun _ => 0, g'⟩ (fun r => ∀ c : Dev Cert.DhBRefIdeal.nD,
          r.2.mem ((c.tc : Thread Cert.DhBRefIdeal.nD Cert.DhBRefIdeal.τ).loc Cert.DhBRefIdeal.main_v39) = v0 c
          ∧ r.2.mem ((c.tc : Thread Cert.DhBRefIdeal.nD Cert.DhBRefIdeal.τ).loc Cert.DhBRefIdeal.main_v40) = v1 c
          ∧ r.2.mem ((c.tc : Thread Cert.DhBRefIdeal.nD Cert.DhBRefIdeal.τ).loc Cert.DhBRefIdeal.main_arg0) = m' ((c.tc : Thread Cert.DhBRefIdeal.nD Cert.DhBRefIdeal.τ).loc Cert.DhBRefIdeal.main_arg0)
          ∧ r.2.mem ((c.tc : Thread Cert.DhBRefIdeal.nD Cert.DhBRefIdeal.τ).loc Cert.DhBRefIdeal.main_arg1) = m' ((c.tc : Thread Cert.DhBRefIdeal.nD Cert.DhBRefIdeal.τ).loc Cert.DhBRefIdeal.main_arg1)
          ∧ r.2.mem ((c.tc : Thread Cert.DhBRefIdeal.nD Cert.DhBRefIdeal.τ).loc Cert.DhBRefIdeal.main_arg2) = m' ((c.tc : Thread Cert.DhBRefIdeal.nD Cert.DhBRefIdeal.τ).loc Cert.DhBRefIdeal.main_arg2)
          ∧ r.2.mem ((c.tc : Thread Cert.DhBRefIdeal.nD Cert.DhBRefIdeal.τ).loc Cert.DhBRefIdeal.main_arg3) = m' ((c.tc : Thread Cert.DhBRefIdeal.nD Cert.DhBRefIdeal.τ).loc Cert.DhBRefIdeal.main_arg3)
          ∧ r.2.mem ((c.tc : Thread Cert.DhBRefIdeal.nD Cert.DhBRefIdeal.τ).loc Cert.DhBRefIdeal.main_arg4) = m' ((c.tc : Thread Cert.DhBRefIdeal.nD Cert.DhBRefIdeal.τ).loc Cert.DhBRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_attf_finite [hAttnFwdIdeal : Cert.AttnFwdIdeal.Facts] [hAttnFwdRefIdeal : Cert.AttnFwdRefIdeal.Facts] [hPre_attf_finite : Cert.Pre_attf_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attf_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v47) = v0 c
          ∧ r.2.mem ((c.tc : Thread Cert.AttnFwdRefIdeal.nD Cert.AttnFwdRefIdeal.τ).loc Cert.AttnFwdRefIdeal.main_v48) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hFfnBwd : Cert.FfnBwd.Facts) (hFfnBwdIdeal : Cert.FfnBwdIdeal.Facts) (hFfnRefIdeal : Cert.FfnRefIdeal.Facts) (hForgetBwd : Cert.ForgetBwd.Facts) (hForgetBwdIdeal : Cert.ForgetBwdIdeal.Facts) (hForgetRefIdeal : Cert.ForgetRefIdeal.Facts) (hAttnBwd : Cert.AttnBwd.Facts) (hAttnBwdIdeal : Cert.AttnBwdIdeal.Facts) (hAttnRefIdeal : Cert.AttnRefIdeal.Facts) (hMixBwd : Cert.MixBwd.Facts) (hMixBwdIdeal : Cert.MixBwdIdeal.Facts) (hMixRefIdeal : Cert.MixRefIdeal.Facts) (hNormBwd : Cert.NormBwd.Facts) (hNormBwdIdeal : Cert.NormBwdIdeal.Facts) (hNormRefIdeal : Cert.NormRefIdeal.Facts) (hLossBwd : Cert.LossBwd.Facts) (hLossBwdIdeal : Cert.LossBwdIdeal.Facts) (hLossRefIdeal : Cert.LossRefIdeal.Facts) (hDhABwd : Cert.DhABwd.Facts) (hDhABwdIdeal : Cert.DhABwdIdeal.Facts) (hDhARefIdeal : Cert.DhARefIdeal.Facts) (hDhBBwd : Cert.DhBBwd.Facts) (hDhBBwdIdeal : Cert.DhBBwdIdeal.Facts) (hDhBRefIdeal : Cert.DhBRefIdeal.Facts) (hAttnFwd : Cert.AttnFwd.Facts) (hAttnFwdIdeal : Cert.AttnFwdIdeal.Facts) (hAttnFwdRefIdeal : Cert.AttnFwdRefIdeal.Facts) (hPre_ffn_finite : Cert.Pre_ffn_finite.Facts) (hPre_forget_finite : Cert.Pre_forget_finite.Facts) (hPre_attn_finite : Cert.Pre_attn_finite.Facts) (hPre_mix_finite : Cert.Pre_mix_finite.Facts) (hPre_norm_finite : Cert.Pre_norm_finite.Facts) (hPre_loss_finite : Cert.Pre_loss_finite.Facts) (hPre_dh1_finite : Cert.Pre_dh1_finite.Facts) (hPre_dh0_finite : Cert.Pre_dh0_finite.Facts) (hPre_attf_finite : Cert.Pre_attf_finite.Facts) (hOn_mix_written : Cert.On_mix_written.Facts),
    quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_ForgetBwd (hForgetBwd := hForgetBwd)
    ∧ quiescent_ForgetBwdIdeal (hForgetBwdIdeal := hForgetBwdIdeal)
    ∧ quiescent_ForgetBwdIdeal_pre_forget_finite (hForgetBwdIdeal := hForgetBwdIdeal) (hPre_forget_finite := hPre_forget_finite)
    ∧ quiescent_ForgetRefIdeal (hForgetRefIdeal := hForgetRefIdeal)
    ∧ quiescent_ForgetRefIdeal_pre_forget_finite (hForgetRefIdeal := hForgetRefIdeal) (hPre_forget_finite := hPre_forget_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_DhABwd (hDhABwd := hDhABwd)
    ∧ quiescent_DhABwdIdeal (hDhABwdIdeal := hDhABwdIdeal)
    ∧ quiescent_DhABwdIdeal_pre_dh1_finite (hDhABwdIdeal := hDhABwdIdeal) (hPre_dh1_finite := hPre_dh1_finite)
    ∧ quiescent_DhARefIdeal (hDhARefIdeal := hDhARefIdeal)
    ∧ quiescent_DhARefIdeal_pre_dh1_finite (hDhARefIdeal := hDhARefIdeal) (hPre_dh1_finite := hPre_dh1_finite)
    ∧ quiescent_DhBBwd (hDhBBwd := hDhBBwd)
    ∧ quiescent_DhBBwdIdeal (hDhBBwdIdeal := hDhBBwdIdeal)
    ∧ quiescent_DhBBwdIdeal_pre_dh0_finite (hDhBBwdIdeal := hDhBBwdIdeal) (hPre_dh0_finite := hPre_dh0_finite)
    ∧ quiescent_DhBRefIdeal (hDhBRefIdeal := hDhBRefIdeal)
    ∧ quiescent_DhBRefIdeal_pre_dh0_finite (hDhBRefIdeal := hDhBRefIdeal) (hPre_dh0_finite := hPre_dh0_finite)
    ∧ quiescent_AttnFwd (hAttnFwd := hAttnFwd)
    ∧ quiescent_AttnFwdIdeal (hAttnFwdIdeal := hAttnFwdIdeal)
    ∧ quiescent_AttnFwdIdeal_pre_attf_finite (hAttnFwdIdeal := hAttnFwdIdeal) (hPre_attf_finite := hPre_attf_finite)
    ∧ quiescent_AttnFwdRefIdeal (hAttnFwdRefIdeal := hAttnFwdRefIdeal)
    ∧ quiescent_AttnFwdRefIdeal_pre_attf_finite (hAttnFwdRefIdeal := hAttnFwdRefIdeal) (hPre_attf_finite := hPre_attf_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_ForgetBwd_ForgetBwdIdeal
    ∧ algebraic_ForgetBwdIdeal_ForgetRefIdeal_pre_forget_finite (hForgetBwdIdeal := hForgetBwdIdeal) (hForgetRefIdeal := hForgetRefIdeal) (hPre_forget_finite := hPre_forget_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_MixBwd_MixBwdIdeal
    ∧ algebraic_MixBwdIdeal_MixRefIdeal_on_mix_written_pre_mix_finite (hMixBwdIdeal := hMixBwdIdeal) (hMixRefIdeal := hMixRefIdeal) (hPre_mix_finite := hPre_mix_finite) (hOn_mix_written := hOn_mix_written)
    ∧ preserves_NormBwd_NormBwdIdeal
    ∧ algebraic_NormBwdIdeal_NormRefIdeal_pre_norm_finite (hNormBwdIdeal := hNormBwdIdeal) (hNormRefIdeal := hNormRefIdeal) (hPre_norm_finite := hPre_norm_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_DhABwd_DhABwdIdeal
    ∧ algebraic_DhABwdIdeal_DhARefIdeal_pre_dh1_finite (hDhABwdIdeal := hDhABwdIdeal) (hDhARefIdeal := hDhARefIdeal) (hPre_dh1_finite := hPre_dh1_finite)
    ∧ preserves_DhBBwd_DhBBwdIdeal
    ∧ algebraic_DhBBwdIdeal_DhBRefIdeal_pre_dh0_finite (hDhBBwdIdeal := hDhBBwdIdeal) (hDhBRefIdeal := hDhBRefIdeal) (hPre_dh0_finite := hPre_dh0_finite)
    ∧ preserves_AttnFwd_AttnFwdIdeal
    ∧ algebraic_AttnFwdIdeal_AttnFwdRefIdeal_pre_attf_finite (hAttnFwdIdeal := hAttnFwdIdeal) (hAttnFwdRefIdeal := hAttnFwdRefIdeal) (hPre_attf_finite := hPre_attf_finite)
-- ==== On_mix_written.lean ====
abbrev S4096x1024 : Shape := ⟨2, ![4096, 1024]⟩
abbrev S8x128x128 : Shape := ⟨3, ![8, 128, 128]⟩
abbrev S8x128 : Shape := ⟨2, ![8, 128]⟩
abbrev S1024 : Shape := ⟨1, ![1024]⟩
abbrev S4096x7680 : Shape := ⟨2, ![4096, 7680]⟩
abbrev S_ : Shape := ⟨0, ![]⟩
abbrev S128x128 : Shape := ⟨2, ![128, 128]⟩
abbrev S1x1024 : Shape := ⟨2, ![1, 1024]⟩

class Facts : Prop where
  bcast_S_S4096x7680 : S_.BroadcastsInDim S4096x7680 (![] : Fin 0 → Fin S4096x7680.rank)
  bcast_S_S4096x1024 : S_.BroadcastsInDim S4096x1024 (![] : Fin 0 → Fin S4096x1024.rank)
  bcast_S_S8x128x128 : S_.BroadcastsInDim S8x128x128 (![] : Fin 0 → Fin S8x128x128.rank)
  bcast_S_S128x128 : S_.BroadcastsInDim S128x128 (![] : Fin 0 → Fin S128x128.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) (main_arg6 : FVec F S8x128x128 .f32) (main_arg7 : FVec F S8x128 .f32) (main_arg8 : FVec F S1024 .f32) : IVec S4096x7680 1 × IVec S4096x1024 1 × IVec S4096x1024 1 × IVec S8x128x128 1 × IVec S128x128 1 × IVec S1x1024 1 :=
  let main_v0 : IVec S4096x7680 32 := iotaInDim S4096x7680 32 1
  let main_c : IVec S_ 32 := constantI S_ 32 4096#32
  let main_v1 : IVec S4096x7680 32 := broadcastInDim S4096x7680 ![] bcast_S_S4096x7680 main_c
  let main_v2 : IVec S4096x7680 1 := cmpi .slt main_v0 main_v1
  let main_v3 : IVec S4096x1024 32 := iotaInDim S4096x1024 32 0
  let main_c_0 : IVec S_ 32 := constantI S_ 32 0#32
  let main_v4 : IVec S4096x1024 32 := broadcastInDim S4096x1024 ![] bcast_S_S4096x1024 main_c_0
  let main_v5 : IVec S4096x1024 1 := cmpi .sge main_v3 main_v4
  let main_v6 : IVec S4096x1024 32 := iotaInDim S4096x1024 32 0
  let main_c_1 : IVec S_ 32 := constantI S_ 32 0#32
  let main_v7 : IVec S4096x1024 32 := broadcastInDim S4096x1024 ![] bcast_S_S4096x1024 main_c_1
  let main_v8 : IVec S4096x1024 1 := cmpi .sge main_v6 main_v7
  let main_v9 : IVec S8x128x128 32 := iotaInDim S8x128x128 32 0
  let main_c_2 : IVec S_ 32 := constantI S_ 32 0#32
  let main_v10 : IVec S8x128x128 32 := broadcastInDim S8x128x128 ![] bcast_S_S8x128x128 main_c_2
  let main_v11 : IVec S8x128x128 1 := cmpi .sge main_v9 main_v10
  let main_v12 : IVec S128x128 32 := iotaInDim S128x128 32 0
  let main_c_3 : IVec S_ 32 := constantI S_ 32 0#32
  let main_v13 : IVec S128x128 32 := broadcastInDim S128x128 ![] bcast_S_S128x128 main_c_3
  let main_v14 : IVec S128x128 1 := cmpi .sge main_v12 main_v13
  let main_v15 : IVec S1x1024 32 := iotaInDim S1x1024 32 0
  let main_c_4 : IVec S_ 32 := constantI S_ 32 0#32
  let main_v16 : IVec S1x1024 32 := broadcastInDim S1x1024 ![] bcast_S_S1x1024 main_c_4
  let main_v17 : IVec S1x1024 1 := cmpi .sge main_v15 main_v16
  (main_v2, main_v5, main_v8, main_v11, main_v14, main_v17)
-- ==== Pre_attf_finite.lean ====
abbrev S4096x1024 : Shape := ⟨2, ![4096, 1024]⟩
abbrev S4096x8 : Shape := ⟨2, ![4096, 8]⟩
abbrev S_ : Shape := ⟨0, ![]⟩

class Facts : Prop where
  bcast_S_S4096x1024 : S_.BroadcastsInDim S4096x1024 (![] : Fin 0 → Fin S4096x1024.rank)
  bcast_S_S4096x8 : S_.BroadcastsInDim S4096x8 (![] : Fin 0 → Fin S4096x8.rank)

variable [Facts]

def fn {F : FTy → Type} [FloatOps F] (main_arg0 : FVec F S4096x1024 .f32) (main_arg1 : FVec F S4096x1024 .f32) (main_arg2 : FVec F S4096x1024 .f32) (main_arg3 : FVec F S4096x8 .f32) : IVec S4096x1024 1 × IVec S4096x1024 1 × IVec S4096x1024 1 × IVec S4096x8 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  (main_v2, main_v5, main_v8, main_v11)
-- ==== Pre_attn_finite.lean ====
abbrev S4096x1024 : Shape := ⟨2, ![4096, 1024]⟩
abbrev S4096x8 : Shape := ⟨2, ![4096, 8]⟩
abbrev S4096x7680 : Shape := ⟨2, ![4096, 7680]⟩
abbrev S_ : Shape := ⟨0, ![]⟩

class Facts : Prop where
  bcast_S_S4096x1024 : S_.BroadcastsInDim S4096x1024 (![] : Fin 0 → Fin S4096x1024.rank)
  bcast_S_S4096x8 : S_.BroadcastsInDim S4096x8 (![] : Fin 0 → Fin S4096x8.rank)

variable [Facts]

def fn {F : FTy → Type} [FloatOps F] (main_arg0 : FVec F S4096x1024 .f32) (main_arg1 : FVec F S4096x1024 .f32) (main_arg2 : FVec F S4096x1024 .f32) (main_arg3 : FVec F S4096x8 .f32) (main_arg4 : FVec F S4096x1024 .f32) (main_arg5 : FVec F S4096x7680 .bf16) : IVec S4096x1024 1 × IVec S4096x1024 1 × IVec S4096x1024 1 × IVec S4096x8 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_dh0_finite.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x7176 : S_.BroadcastsInDim S1024x7176 (![] : Fin 0 → Fin S1024x7176.rank)
  bitsLt_bf16_f32 : FTy.bits .bf16 < FTy.bits .f32
  bcast_S_S4096x7176 : S_.BroadcastsInDim S4096x7176 (![] : Fin 0 → Fin S4096x7176.rank)

variable [Facts]

def fn {F : FTy → Type} [FloatOps F] (main_arg0 : FVec F S4096x1024 .f32) (main_arg1 : FVec F S1024 .f32) (main_arg2 : FVec F S1024x7176 .f32) (main_arg3 : FVec F S4096x1024 .f32) (main_arg4 : FVec F S4096x7176 .bf16) : IVec S4096x1024 1 × IVec S1024 1 × IVec S1024x7176 1 × IVec S4096x1024 1 × IVec S4096x7176 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x7176 .f32 := Host.absf main_arg2
  let main_cst_1 : FVec F S_ .f32 := constant S_ .f32 0x7F800000#32
  let main_v7 : FVec F S1024x7176 .f32 := broadcastInDim S1024x7176 ![] bcast_S_S1024x7176 main_cst_1
  let main_v8 : IVec S1024x7176 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x7176 .f32 := (extf .f32 · bitsLt_bf16_f32) main_arg4
  let main_v13 : FVec F S4096x7176 .f32 := Host.absf main_v12
  let main_cst_3 : FVec F S_ .f32 := constant S_ .f32 0x7F800000#32
  let main_v14 : FVec F S4096x7176 .f32 := broadcastInDim S4096x7176 ![] bcast_S_S4096x7176 main_cst_3
  let main_v15 : IVec S4096x7176 1 := cmpf .olt main_v13 main_v14
  (main_v2, main_v5, main_v8, main_v11, main_v15)
-- ==== Pre_dh1_finite.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x7176 : S_.BroadcastsInDim S1024x7176 (![] : Fin 0 → Fin S1024x7176.rank)
  bitsLt_bf16_f32 : FTy.bits .bf16 < FTy.bits .f32
  bcast_S_S4096x7176 : S_.BroadcastsInDim S4096x7176 (![] : Fin 0 → Fin S4096x7176.rank)

variable [Facts]

def fn_part1 {F : FTy → Type} [FloatOps F] (main_arg6 : FVec F S4096x7176 .bf16) (main_v2 : IVec S4096x1024 1) (main_v5 : IVec S4096x1024 1) (main_v8 : IVec S1024 1) (main_v11 : IVec S1024 1) (main_v14 : IVec S1024x7176 1) (main_v17 : IVec S4096x1024 1) : IVec S4096x1024 1 × IVec S4096x1024 1 × IVec S1024 1 × IVec S1024 1 × IVec S1024x7176 1 × IVec S4096x1024 1 × IVec S4096x7176 1 :=
  let main_v18 : FVec F S4096x7176 .f32 := (extf .f32 · bitsLt_bf16_f32) main_arg6
  let main_v19 : FVec F S4096x7176 .f32 := Host.absf main_v18
  let main_cst_5 : FVec F S_ .f32 := constant S_ .f32 0x7F800000#32
  let main_v20 : FVec F S4096x7176 .f32 := broadcastInDim S4096x7176 ![] bcast_S_S4096x7176 main_cst_5
  let main_v21 : IVec S4096x7176 1 := cmpf .olt main_v19 main_v20
  (main_v2, main_v5, main_v8, main_v11, main_v14, main_v17, main_v21)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x7176 .f32) (main_arg5 : FVec F S4096x1024 .f32) (main_arg6 : FVec F S4096x7176 .bf16) : IVec S4096x1024 1 × IVec S4096x1024 1 × IVec S1024 1 × IVec S1024 1 × IVec S1024x7176 1 × IVec S4096x1024 1 × IVec S4096x7176 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x7176 .f32 := Host.absf main_arg4
  let main_cst_3 : FVec F S_ .f32 := constant S_ .f32 0x7F800000#32
  let main_v13 : FVec F S1024x7176 .f32 := broadcastInDim S1024x7176 ![] bcast_S_S1024x7176 main_cst_3
  let main_v14 : IVec S1024x7176 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_v2 main_v5 main_v8 main_v11 main_v14 main_v17
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_forget_finite.lean ====
abbrev S4096x8 : Shape := ⟨2, ![4096, 8]⟩
abbrev S8 : Shape := ⟨1, ![8]⟩
abbrev S4096x7680 : Shape := ⟨2, ![4096, 7680]⟩
abbrev S_ : Shape := ⟨0, ![]⟩

class Facts : Prop where
  bcast_S_S4096x8 : S_.BroadcastsInDim S4096x8 (![] : Fin 0 → Fin S4096x8.rank)

variable [Facts]

def fn {F : FTy → Type} [FloatOps F] (main_arg0 : FVec F S4096x8 .f32) (main_arg1 : FVec F S8 .f32) (main_arg2 : FVec F S4096x8 .f32) (main_arg3 : FVec F S4096x7680 .bf16) : IVec S4096x8 1 :=
  let main_v0 : FVec F S4096x8 .f32 := Host.absf main_arg2
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  main_v2
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x2816 .bf16) (main_arg1 : FVec F S2816x1024 .f32) (main_arg2 : FVec F S4096x1024 .f32) (main_arg3 : FVec F S1024 .f32) (main_arg4 : FVec F S4096x1024 .f32) : IVec S4096x2816 1 × IVec S2816x1024 1 × IVec S4096x1024 1 × IVec S1024 1 × IVec S4096x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S4096x1024 .f32 := Host.absf main_arg4
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  (main_v3, main_v6, main_v9, main_v12, main_v15)
-- ==== Pre_mix_finite.lean ====
abbrev S4096x1024 : Shape := ⟨2, ![4096, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024 : S_.BroadcastsInDim S1024 (![] : Fin 0 → Fin S1024.rank)

variable [Facts]

def fn_part1 {F : FTy → Type} [FloatOps F] (main_arg6 : FVec F S8x128x128 .f32) (main_arg7 : FVec F S8x128 .f32) (main_arg8 : FVec F S1024 .f32) (main_v2 : IVec S4096x1024 1) (main_v5 : IVec S4096x1024 1) (main_v8 : IVec S4096x1024 1) (main_v11 : IVec S4096x1024 1) (main_v14 : IVec S4096x1024 1) (main_v17 : IVec S4096x1024 1) : IVec S4096x1024 1 × IVec S4096x1024 1 × IVec S4096x1024 1 × IVec S4096x1024 1 × IVec S4096x1024 1 × IVec S4096x1024 1 × IVec S8x128x128 1 × IVec S8x128 1 × IVec S1024 1 :=
  let main_v18 : FVec F S8x128x128 .f32 := Host.absf main_arg6
  let main_cst_5 : FVec F S_ .f32 := constant S_ .f32 0x7F800000#32
  let main_v19 : FVec F S8x128x128 .f32 := broadcastInDim S8x128x128 ![] bcast_S_S8x128x128 main_cst_5
  let main_v20 : IVec S8x128x128 1 := cmpf .olt main_v18 main_v19
  let main_v21 : FVec F S8x128 .f32 := Host.absf main_arg7
  let main_cst_6 : FVec F S_ .f32 := constant S_ .f32 0x7F800000#32
  let main_v22 : FVec F S8x128 .f32 := broadcastInDim S8x128 ![] bcast_S_S8x128 main_cst_6
  let main_v23 : IVec S8x128 1 := cmpf .olt main_v21 main_v22
  let main_v24 : FVec F S1024 .f32 := Host.absf main_arg8
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096x1024 .f32) (main_arg6 : FVec F S8x128x128 .f32) (main_arg7 : FVec F S8x128 .f32) (main_arg8 : FVec F S1024 .f32) : IVec S4096x1024 1 × IVec S4096x1024 1 × IVec S4096x1024 1 × IVec S4096x1024 1 × IVec S4096x1024 1 × IVec S4096x1024 1 × IVec S8x128x128 1 × IVec S8x128 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_arg8 main_v2 main_v5 main_v8 main_v11 main_v14 main_v17
-- ==== Pre_norm_finite.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bitsLt_bf16_f32 : FTy.bits .bf16 < FTy.bits .f32
  bcast_S_S4096x2816 : S_.BroadcastsInDim S4096x2816 (![] : Fin 0 → Fin S4096x2816.rank)

variable [Facts]

def fn_part1 {F : FTy → Type} [FloatOps F] (main_arg6 : FVec F S4096x1024 .f32) (main_arg7 : FVec F S4096x2816 .bf16) (main_arg8 : FVec F S4096x2816 .bf16) (main_v2 : IVec S4096x1024 1) (main_v5 : IVec S4096x1024 1) (main_v8 : IVec S1024 1) (main_v11 : IVec S1024 1) (main_v14 : IVec S1024x2816 1) (main_v17 : IVec S1024x2816 1) : IVec S4096x1024 1 × IVec S4096x1024 1 × IVec S1024 1 × IVec S1024 1 × IVec S1024x2816 1 × IVec S1024x2816 1 × IVec S4096x1024 1 × IVec S4096x2816 1 × IVec S4096x2816 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x2816 .f32 := (extf .f32 · bitsLt_bf16_f32) main_arg7
  let main_v22 : FVec F S4096x2816 .f32 := Host.absf main_v21
  let main_cst_6 : FVec F S_ .f32 := constant S_ .f32 0x7F800000#32
  let main_v23 : FVec F S4096x2816 .f32 := broadcastInDim S4096x2816 ![] bcast_S_S4096x2816 main_cst_6
  let main_v24 : IVec S4096x2816 1 := cmpf .olt main_v22 main_v23
  let main_v25 : FVec F S4096x2816 .f32 := (extf .f32 · bitsLt_bf16_f32) main_arg8
  let main_v26 : FVec F S4096x2816 .f32 := Host.absf main_v25
  let main_cst_7 : FVec F S_ .f32 := constant S_ .f32 0x7F800000#32
  let main_v27 : FVec F S4096x2816 .f32 := broadcastInDim S4096x2816 ![] bcast_S_S4096x2816 main_cst_7
  let main_v28 : IVec S4096x2816 1 := cmpf .olt main_v26 main_v27
  (main_v2, main_v5, main_v8, main_v11, main_v14, main_v17, main_v20, main_v24, main_v28)

def fn {F : FTy → Type} [FloatOps F] (main_arg0 : FVec F S4096x1024 .f32) (main_arg1 : FVec F S4096x1024 .f32) (main_arg2 : FVec F S1024 .f32) (main_arg3 : FVec F S1024 .f32) (main_arg4 : FVec F S1024x2816 .f32) (main_arg5 : FVec F S1024x2816 .f32) (main_arg6 : FVec F S4096x1024 .f32) (main_arg7 : FVec F S4096x2816 .bf16) (main_arg8 : FVec F S4096x2816 .bf16) : IVec S4096x1024 1 × IVec S4096x1024 1 × IVec S1024 1 × IVec S1024 1 × IVec S1024x2816 1 × IVec S1024x2816 1 × IVec S4096x1024 1 × IVec S4096x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_arg8 main_v2 main_v5 main_v8 main_v11 main_v14 main_v17
-- ==== FfnBwd.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S2x4096x2816 : Shape := ⟨3, ![2, 4096, 2816]⟩
abbrev S1024x1024 : Shape := ⟨2, ![1024, 1024]⟩
abbrev S1408x1024 : Shape := ⟨2, ![1408, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 15
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S1024x2816, .bf16⟩
  | .hbm, ⟨7, _⟩ => ⟨S4096x2816, .f32⟩
  | .hbm, ⟨8, _⟩ => ⟨S4096x2816, .bf16⟩
  | .hbm, ⟨9, _⟩ => ⟨S1024x2816, .bf16⟩
  | .hbm, ⟨10, _⟩ => ⟨S4096x2816, .f32⟩
  | .hbm, ⟨11, _⟩ => ⟨S4096x2816, .bf16⟩
  | .hbm, ⟨12, _⟩ => ⟨S4096x1024, .bf16⟩
  | .hbm, ⟨13, _⟩ => ⟨S2816x1024, .bf16⟩
  | .hbm, ⟨14, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1024x1408, .bf16⟩
  | .local _ .vmem, ⟨9, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x4096x2816, .f32⟩
  | .hbm, ⟨30, _⟩ => ⟨S1x4096x2816, .f32⟩
  | .hbm, ⟨31, _⟩ => ⟨S2x4096x2816, .f32⟩
  | .hbm, ⟨32, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== ForgetBwd.lean ====
abbrev S4096x8 : Shape := ⟨2, ![4096, 8]⟩
abbrev S8 : Shape := ⟨1, ![8]⟩
abbrev S4096x7680 : Shape := ⟨2, ![4096, 7680]⟩
abbrev S_ : Shape := ⟨0, ![]⟩
abbrev S128 : Shape := ⟨1, ![128]⟩
abbrev S1x128 : Shape := ⟨2, ![1, 128]⟩
abbrev S4096x128 : Shape := ⟨2, ![4096, 128]⟩
abbrev S512x128 : Shape := ⟨2, ![512, 128]⟩
abbrev S512x512 : Shape := ⟨2, ![512, 512]⟩
abbrev S128x128 : Shape := ⟨2, ![128, 128]⟩

abbrev nBuf : Space → Nat
  | .hbm => 16
  | .vmem => 9
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S4096x7680, .bf16⟩
  | .hbm, ⟨4, _⟩ => ⟨S_, .i32⟩
  | .hbm, ⟨5, _⟩ => ⟨S_, .f32⟩
  | .hbm, ⟨6, _⟩ => ⟨S4096x7680, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x7680, .bf16⟩
  | .hbm, ⟨15, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x512, .bf16⟩
  | .local _ .vmem, ⟨6, _⟩ => ⟨S512x512, .bf16⟩
  | .local _ .vmem, ⟨7, _⟩ => ⟨S1x128, .f32⟩
  | .local _ .vmem, ⟨8, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let c0_i32 : BitVec 32 := 0#32
  ![v0.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ForgetRefIdeal.lean ====
abbrev S4096x8 : Shape := ⟨2, ![4096, 8]⟩
abbrev S8 : Shape := ⟨1, ![8]⟩
abbrev S4096x7680 : Shape := ⟨2, ![4096, 7680]⟩
abbrev S1x8 : Shape := ⟨2, ![1, 8]⟩
abbrev S_ : Shape := ⟨0, ![]⟩
abbrev S4096x512 : Shape := ⟨2, ![4096, 512]⟩
abbrev S4096x4096 : Shape := ⟨2, ![4096, 4096]⟩
abbrev S4096x3072 : Shape := ⟨2, ![4096, 3072]⟩
abbrev S128 : Shape := ⟨1, ![128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S4096x7680, .bf16⟩
  | .hbm, ⟨4, _⟩ => ⟨S1x8, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S_, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .i1⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S_, .f32⟩
  | .hbm, ⟨23, _⟩ => ⟨S4096x8, .f32⟩
  | .hbm, ⟨24, _⟩ => ⟨S4096x8, .i1⟩
  | .hbm, ⟨25, _⟩ => ⟨S_, .f32⟩
  | .hbm, ⟨26, _⟩ => ⟨S4096x8, .f32⟩
  | .hbm, ⟨27, _⟩ => ⟨S4096x8, .f32⟩
  | .hbm, ⟨28, _⟩ => ⟨S_, .f32⟩
  | .hbm, ⟨29, _⟩ => ⟨S4096x8, .f32⟩
  | .hbm, ⟨30, _⟩ => ⟨S4096x8, .i1⟩
  | .hbm, ⟨31, _⟩ => ⟨S_, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096x8, .f32⟩
  | .hbm, ⟨44, _⟩ => ⟨S4096x8, .i1⟩
  | .hbm, ⟨45, _⟩ => ⟨S_, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S_, .f32⟩
  | .hbm, ⟨52, _⟩ => ⟨S4096x8, .f32⟩
  | .hbm, ⟨53, _⟩ => ⟨S4096x8, .f32⟩
  | .hbm, ⟨54, _⟩ => ⟨S4096x8, .f32⟩
  | .hbm, ⟨55, _⟩ => ⟨S_, .f32⟩
  | .hbm, ⟨56, _⟩ => ⟨S_, .f32⟩
  | .hbm, ⟨57, _⟩ => ⟨S4096x8, .f32⟩
  | .hbm, ⟨58, _⟩ => ⟨S_, .f32⟩
  | .hbm, ⟨59, _⟩ => ⟨S_, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S_, .f32⟩
  | .hbm, ⟨65, _⟩ => ⟨S8, .f32⟩
  | .hbm, ⟨66, _⟩ => ⟨S1x8, .f32⟩
  | .hbm, ⟨67, _⟩ => ⟨S_, .f32⟩
  | .hbm, ⟨68, _⟩ => ⟨S8, .f32⟩
  | .hbm, ⟨69, _⟩ => ⟨S4096x8, .bf16⟩
  | .hbm, ⟨70, _⟩ => ⟨S_, .i32⟩
  | .hbm, ⟨71, _⟩ => ⟨S_, .bf16⟩
  | .hbm, ⟨72, _⟩ => ⟨S4096x512, .bf16⟩
  | .hbm, ⟨73, _⟩ => ⟨S4096x4096, .bf16⟩
  | .hbm, ⟨74, _⟩ => ⟨S4096x3072, .bf16⟩
  | .hbm, ⟨75, _⟩ => ⟨S4096x7680, .bf16⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_call2_call0_cst : Ref sig .tc := ⟨.hbm, 58, rfl⟩
abbrev main_call2_call0_v0 : Ref sig .tc := ⟨.hbm, 59, rfl⟩
abbrev main_v5 : Ref sig .tc := ⟨.hbm, 60, rfl⟩
abbrev main_call3_v0 : Ref sig .tc := ⟨.hbm, 61, rfl⟩
abbrev main_call3_v1 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩
abbrev main_cst_0 : Ref sig .tc := ⟨.hbm, 67, rfl⟩
abbrev main_v9 : Ref sig .tc := ⟨.hbm, 68, rfl⟩
abbrev main_v10 : Ref sig .tc := ⟨.hbm, 69, rfl⟩
abbrev main_c : Ref sig .tc := ⟨.hbm, 70, rfl⟩
abbrev main_call4_v0 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_c_1 : Ref sig .tc := ⟨.hbm, 76, rfl⟩
abbrev main_call5_v0 : Ref sig .tc := ⟨.hbm, 77, rfl⟩
abbrev main_v15 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== AttnBwd.lean ====
abbrev S4096x1024 : Shape := ⟨2, ![4096, 1024]⟩
abbrev S4096x8 : Shape := ⟨2, ![4096, 8]⟩
abbrev S4096x7680 : Shape := ⟨2, ![4096, 7680]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x8x1x128 : Shape := ⟨4, ![4096, 8, 1, 128]⟩
abbrev S4096x8x3x128 : Shape := ⟨4, ![4096, 8, 3, 128]⟩
abbrev S4096x3072 : Shape := ⟨2, ![4096, 3072]⟩
abbrev S4096x128 : Shape := ⟨2, ![4096, 128]⟩
abbrev S1024x128 : Shape := ⟨2, ![1024, 128]⟩
abbrev S1x1x4096 : Shape := ⟨3, ![1, 1, 4096]⟩
abbrev S1024x384 : Shape := ⟨2, ![1024, 384]⟩
abbrev S1x1x1024 : Shape := ⟨3, ![1, 1, 1024]⟩
abbrev S128x4096 : Shape := ⟨2, ![128, 4096]⟩
abbrev S128x1024 : Shape := ⟨2, ![128, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 79
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x1024, .f32⟩
  | .hbm, ⟨5, _⟩ => ⟨S4096x7680, .bf16⟩
  | .hbm, ⟨6, _⟩ => ⟨S4096x8x128, .f32⟩
  | .hbm, ⟨7, _⟩ => ⟨S8x4096x128, .f32⟩
  | .hbm, ⟨8, _⟩ => ⟨S_, .f32⟩
  | .hbm, ⟨9, _⟩ => ⟨S8x4096x128, .f32⟩
  | .hbm, ⟨10, _⟩ => ⟨S8x4096x128, .f32⟩
  | .hbm, ⟨11, _⟩ => ⟨S4096x8x128, .f32⟩
  | .hbm, ⟨12, _⟩ => ⟨S8x4096x128, .f32⟩
  | .hbm, ⟨13, _⟩ => ⟨S8x4096x4096, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096, .f32⟩
  | .hbm, ⟨19, _⟩ => ⟨S8x1x4096, .f32⟩
  | .hbm, ⟨20, _⟩ => ⟨S8x4096x4096, .f32⟩
  | .hbm, ⟨21, _⟩ => ⟨S8x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S4096x8x128, .f32⟩
  | .hbm, ⟨45, _⟩ => ⟨S8x4096x128, .f32⟩
  | .hbm, ⟨46, _⟩ => ⟨S8x4096x128, .f32⟩
  | .hbm, ⟨47, _⟩ => ⟨S8x4096, .f32⟩
  | .hbm, ⟨48, _⟩ => ⟨S8x1x4096, .f32⟩
  | .hbm, ⟨49, _⟩ => ⟨S8x4096x1, .f32⟩
  | .hbm, ⟨50, _⟩ => ⟨S8x4096x1, .f32⟩
  | .hbm, ⟨51, _⟩ => ⟨S8x1x4096, .f32⟩
  | .hbm, ⟨52, _⟩ => ⟨S8x1x4096, .f32⟩
  | .hbm, ⟨53, _⟩ => ⟨S4096x8x128, .f32⟩
  | .hbm, ⟨54, _⟩ => ⟨S8x4096x128, .f32⟩
  | .hbm, ⟨55, _⟩ => ⟨S8x4096x128, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x128, .f32⟩
  | .hbm, ⟨60, _⟩ => ⟨S4096x8x128, .f32⟩
  | .hbm, ⟨61, _⟩ => ⟨S4096x1024, .f32⟩
  | .hbm, ⟨62, _⟩ => ⟨S4096x8x128, .f32⟩
  | .hbm, ⟨63, _⟩ => ⟨S4096x8x128, .f32⟩
  | .hbm, ⟨64, _⟩ => ⟨S4096x8x128, .f32⟩
  | .hbm, ⟨65, _⟩ => ⟨S4096x8x1x128, .f32⟩
  | .hbm, ⟨66, _⟩ => ⟨S4096x8x1x128, .f32⟩
  | .hbm, ⟨67, _⟩ => ⟨S4096x8x1x128, .f32⟩
  | .hbm, ⟨68, _⟩ => ⟨S4096x8x3x128, .f32⟩
  | .hbm, ⟨69, _⟩ => ⟨S4096x3072, .f32⟩
  | .hbm, ⟨70, _⟩ => ⟨S_, .i32⟩
  | .hbm, ⟨71, _⟩ => ⟨S_, .f32⟩
  | .hbm, ⟨72, _⟩ => ⟨S4096x7680, .f32⟩
  | .hbm, ⟨73, _⟩ => ⟨S_, .i32⟩
  | .hbm, ⟨74, _⟩ => ⟨S_, .f32⟩
  | .hbm, ⟨75, _⟩ => ⟨S4096x128, .f32⟩
  | .hbm, ⟨76, _⟩ => ⟨S4096x7680, .bf16⟩
  | .hbm, ⟨77, _⟩ => ⟨S8x1x4096, .f32⟩
  | .hbm, ⟨78, _⟩ => ⟨S8x1x4096, .f32⟩
  | .local _ .vmem, ⟨0, _⟩ => ⟨S4096x128, .f32⟩
  | .local _ .vmem, ⟨1, _⟩ => ⟨S4096x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S4096x128, .f32⟩
  | .local _ .vmem, ⟨7, _⟩ => ⟨S4096x128, .f32⟩
  | .local _ .vmem, ⟨8, _⟩ => ⟨S1x1x4096, .f32⟩
  | .local _ .vmem, ⟨9, _⟩ => ⟨S1x1x4096, .f32⟩
  | .local _ .vmem, ⟨10, _⟩ => ⟨S4096x128, .f32⟩
  | .local _ .vmem, ⟨11, _⟩ => ⟨S4096x128, .f32⟩
  | .local _ .vmem, ⟨12, _⟩ => ⟨S1024x128, .f32⟩
  | .local _ .vmem, ⟨13, _⟩ => ⟨S1024x128, .f32⟩
  | .local _ .vmem, ⟨14, _⟩ => ⟨S1024x384, .bf16⟩
  | .local _ .vmem, ⟨15, _⟩ => ⟨S1024x384, .bf16⟩
  | .local _ .vmem, ⟨16, _⟩ => ⟨S1x1x1024, .f32⟩
  | .local _ .vmem, ⟨17, _⟩ => ⟨S1x1x1024, .f32⟩
  | .local _ .vmem, ⟨18, _⟩ => ⟨S1x1x4096, .f32⟩
  | .local _ .vmem, ⟨19, _⟩ => ⟨S1x1x4096, .f32⟩
  | .local _ .vmem, ⟨20, _⟩ => ⟨S4096x128, .bf16⟩
  | .local _ .vmem, ⟨21, _⟩ => ⟨S128x4096, .bf16⟩
  | .local _ .vmem, ⟨22, _⟩ => ⟨S4096x128, .bf16⟩
  | .local _ .vmem, ⟨23, _⟩ => ⟨S128x4096, .bf16⟩
  | .local _ .vmem, ⟨24, _⟩ => ⟨S1x4096, .f32⟩
  | .local _ .vmem, ⟨25, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c : Ref sig .tc := ⟨.hbm, 70, rfl⟩
abbrev main_call1_v0 : Ref sig .tc := ⟨.hbm, 71, rfl⟩
abbrev main_v56 : Ref sig .tc := ⟨.hbm, 72, rfl⟩
abbrev main_c_4 : Ref sig .tc := ⟨.hbm, 73, rfl⟩
abbrev main_call2_v0 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v25 : BitVec 32 := Scalar.muli arg1 c1024_i32
  v25
def k0_off1 (i : grid0.Coords) : Fin 2 → Nat :=
  let arg1 : BitVec 32 := BitVec.ofNat 32 (i 1).val
  let c1024_i32 : BitVec 32 := 1024#32
  let v25 : BitVec 32 := Scalar.muli arg1 c1024_i32
  let v26 : BitVec 32 := v25
  let v27 : Index := Scalar.indexCast v26
  let c0_9 : Index := 0#32
  ![v27.toNat, 0]
def k0_off2 (i : grid0.Coords) : Fin 3 → Nat :=
  let c0_11 : Index := 0#32
  let c0_12 : Index := 0#32
  let arg1 : BitVec 32 := BitVec.ofNat 32 (i 1).val
  let c1024_i32 : BitVec 32 := 1024#32
  let v25 : BitVec 32 := Scalar.muli arg1 c1024_i32
  let v26 : BitVec 32 := v25
  let v30 : Index := Scalar.indexCast v26
  ![0, 0, v30.toNat]
def k0_off3 (i : grid0.Coords) : Fin 2 → Nat :=
  let c0_16 : Index := 0#32
  let arg1 : BitVec 32 := BitVec.ofNat 32 (i 1).val
  let c1024_i32 : BitVec 32 := 1024#32
  let v25 : BitVec 32 := Scalar.muli arg1 c1024_i32
  let v26 : BitVec 32 := v25
  let v45 : Index := Scalar.indexCast v26
  ![0, v45.toNat]
def k0_off4 (i : grid0.Coords) : Fin 2 → Nat :=
  let c0_17 : Index := 0#32
  let arg1 : BitVec 32 := BitVec.ofNat 32 (i 1).val
  let c1024_i32 : BitVec 32 := 1024#32
  let v25 : BitVec 32 := Scalar.muli arg1 c1024_i32
  let v26 : BitVec 32 := v25
  let v52 : Index := Scalar.indexCast v26
  ![0, v52.toNat]
@[reducible] def k0_t1_loop (i : grid0.Coords) : Scf.Loop 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_31 : BitVec 32 := 1#32
  ⟨v96, v101, c1_i32_31⟩
def k0_mult2 (i : grid0.Coords) (k0_t1 : Fin (k0_t1_loop i).trips) : BitVec 32 :=
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  v125
def k0_off5 (i : grid0.Coords) (k0_t1 : Fin (k0_t1_loop i).trips) : Fin 2 → Nat :=
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v127 : Index := Scalar.indexCast v126
  let c0_45 : Index := 0#32
  ![v127.toNat, 0]
def k0_off6 (i : grid0.Coords) (k0_t1 : Fin (k0_t1_loop i).trips) : Fin 3 → Nat :=
  let c0_47 : Index := 0#32
  let c0_48 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v130 : Index := Scalar.indexCast v126
  ![0, 0, v130.toNat]
def k0_off7 (i : grid0.Coords) (k0_t1 : Fin (k0_t1_loop i).trips) : Fin 2 → Nat :=
  let c0_51 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v140 : Index := Scalar.indexCast v126
  ![0, v140.toNat]
def k0_off8 (i : grid0.Coords) (k0_t1 : Fin (k0_t1_loop i).trips) : Fin 2 → Nat :=
  let c0_52 : Index := 0#32
  let arg1 : BitVec 32 := BitVec.ofNat 32 (i 1).val
  let c1_i32 : BitVec 32 := 1#32
  let v96 : BitVec 32 := Scalar.addi arg1 c1_i32
  let c1_i32_31 : BitVec 32 := 1#32
  let arg19 : BitVec 32 := Scf.iv v96 c1_i32_31 k0_t1
  let c1024_i32_44 : BitVec 32 := 1024#32
  let v125 : BitVec 32 := Scalar.muli arg19 c1024_i32_44
  let v126 : BitVec 32 := v125
  let v147 : Index := Scalar.indexCast v126
  ![0, v147.toNat]
@[reducible] def k0_t2_loop (i : grid0.Coords) : Scf.Loop 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let v98 : BitVec 32 := Scalar.addi v96 v97
  let c1_i32_32 : BitVec 32 := 1#32
  ⟨v101, v98, c1_i32_32⟩
def k0_mult3 (i : grid0.Coords) (k0_t2 : Fin (k0_t2_loop i).trips) : BitVec 32 :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  v125
def k0_off9 (i : grid0.Coords) (k0_t2 : Fin (k0_t2_loop i).trips) : Fin 2 → Nat :=
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v127 : Index := Scalar.indexCast v126
  let c0_45 : Index := 0#32
  ![v127.toNat, 0]
def k0_off10 (i : grid0.Coords) (k0_t2 : Fin (k0_t2_loop i).trips) : Fin 3 → Nat :=
  let c0_47 : Index := 0#32
  let c0_48 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v130 : Index := Scalar.indexCast v126
  ![0, 0, v130.toNat]
def k0_off11 (i : grid0.Coords) (k0_t2 : Fin (k0_t2_loop i).trips) : Fin 2 → Nat :=
  let c0_51 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v140 : Index := Scalar.indexCast v126
  ![0, v140.toNat]
def k0_off12 (i : grid0.Coords) (k0_t2 : Fin (k0_t2_loop i).trips) : Fin 2 → Nat :=
  let c0_52 : Index := 0#32
  let arg1 : BitVec 32 := BitVec.ofNat 32 (i 1).val
  let c1_i32 : BitVec 32 := 1#32
  let v96 : BitVec 32 := Scalar.addi arg1 c1_i32
  let c4_i32 : BitVec 32 := 4#32
  let v97 : BitVec 32 := Scalar.subi c4_i32 v96
  let c1_i32_30 : BitVec 32 := 1#32
  let v99 : BitVec 32 := Scalar.divsi v97 c1_i32_30
  let v100 : BitVec 32 := Scalar.muli v99 c1_i32_30
  let v101 : BitVec 32 := Scalar.addi v96 v100
  let c1_i32_32 : BitVec 32 := 1#32
  let arg19 : BitVec 32 := Scf.iv v101 c1_i32_32 k0_t2
  let c1024_i32_44 : BitVec 32 := 1024#32
  let v125 : BitVec 32 := Scalar.muli arg19 c1024_i32_44
  let v126 : BitVec 32 := v125
  let v147 : Index := Scalar.indexCast v126
  ![0, v147.toNat]
def k0_mult4 (i : grid0.Coords) : BitVec 32 :=
  let arg1 : BitVec 32 := BitVec.ofNat 32 (i 1).val
  let c1024_i32_33 : BitVec 32 := 1024#32
  let v104 : BitVec 32 := Scalar.muli arg1 c1024_i32_33
  v104
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c1_i32 : BitVec 32 := 1#32
  let v2 : BitVec 32 := Scalar.addi v1 c1_i32
  let c0_i32 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c2_i32 : BitVec 32 := 2#32
  let v2 : BitVec 32 := Scalar.addi v1 c2_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnBwdIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x8 : Shape := ⟨2, ![4096, 8]⟩
abbrev S4096x7680 : Shape := ⟨2, ![4096, 7680]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S4096x8x1x128 : Shape := ⟨4, ![4096, 8, 1, 128]⟩
abbrev S4096x8x3x128 : Shape := ⟨4, ![4096, 8, 3, 128]⟩
abbrev S4096x3072 : Shape := ⟨2, ![4096, 3072]⟩
abbrev S4096x4608 : Shape := ⟨2, ![4096, 4608]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x8, .f32⟩
  | 4 => ⟨S4096x1024, .f32⟩
  | 5 => ⟨S4096x7680, .bf16⟩
  | 6 => ⟨S4096x8x128, .f32⟩
  | 7 => ⟨S8x4096x128, .f32⟩
  | 8 => ⟨S_, .f32⟩
  | 9 => ⟨S8x4096x128, .f32⟩
  | 10 => ⟨S8x4096x128, .f32⟩
  | 11 => ⟨S4096x8x128, .f32⟩
  | 12 => ⟨S8x4096x128, .f32⟩
  | 13 => ⟨S8x4096x4096, .f32⟩
  | 14 => ⟨S8x4096, .f32⟩
  | 15 => ⟨S8x4096x1, .f32⟩
  | 16 => ⟨S8x4096x4096, .f32⟩
  | 17 => ⟨S8x4096x4096, .f32⟩
  | 18 => ⟨S8x4096, .f32⟩
  | 19 => ⟨S8x1x4096, .f32⟩
  | 20 => ⟨S8x4096x4096, .f32⟩
  | 21 => ⟨S8x4096x4096, .f32⟩
  | 22 => ⟨S4096, .i32⟩
  | 23 => ⟨S1x4096, .i32⟩
  | 24 => ⟨S4096x1, .i32⟩
  | 25 => ⟨S4096x4096, .i32⟩
  | 26 => ⟨S4096x4096, .i32⟩
  | 27 => ⟨S4096x4096, .i1⟩
  | 28 => ⟨S_, .f32⟩
  | 29 => ⟨S_, .f32⟩
  | 30 => ⟨S8x4096x4096, .i1⟩
  | 31 => ⟨S8x4096x4096, .f32⟩
  | 32 => ⟨S8x4096x4096, .f32⟩
  | 33 => ⟨S_, .f32⟩
  | 34 => ⟨S8x4096x4096, .f32⟩
  | 35 => ⟨S_, .f32⟩
  | 36 => ⟨S8x4096, .f32⟩
  | 37 => ⟨S8x4096x1, .f32⟩
  | 38 => ⟨S8x4096x4096, .f32⟩
  | 39 => ⟨S8x4096x4096, .i1⟩
  | 40 => ⟨S8x4096x4096, .f32⟩
  | 41 => ⟨S_, .f32⟩
  | 42 => ⟨S8x4096, .f32⟩
  | 43 => ⟨S_, .f32⟩
  | 44 => ⟨S8x4096, .f32⟩
  | 45 => ⟨S8x4096, .f32⟩
  | 46 => ⟨S_, .f32⟩
  | 47 => ⟨S8x4096, .f32⟩
  | 48 => ⟨S8x4096, .i1⟩
  | 49 => ⟨S_, .f32⟩
  | 50 => ⟨S8x4096, .f32⟩
  | 51 => ⟨S8x4096, .i1⟩
  | 52 => ⟨S_, .f32⟩
  | 53 => ⟨S8x4096, .f32⟩
  | 54 => ⟨S_, .f32⟩
  | 55 => ⟨S8x4096, .f32⟩
  | 56 => ⟨S_, .f32⟩
  | 57 => ⟨S8x4096, .f32⟩
  | 58 => ⟨S8x4096, .f32⟩
  | 59 => ⟨S8x4096, .f32⟩
  | 60 => ⟨S8x4096x1, .f32⟩
  | 61 => ⟨S8x4096x4096, .f32⟩
  | 62 => ⟨S8x4096x4096, .f32⟩
  | 63 => ⟨S8x4096x4096, .f32⟩
  | 64 => ⟨S_, .f32⟩
  | 65 => ⟨S8x4096, .f32⟩
  | 66 => ⟨S8x4096x1, .f32⟩
  | 67 => ⟨S8x4096x4096, .f32⟩
  | 68 => ⟨S8x4096x4096, .f32⟩
  | 69 => ⟨S8x4096x1, .f32⟩
  | 70 => ⟨S_, .f32⟩
  | 71 => ⟨S8x4096x1, .f32⟩
  | 72 => ⟨S8x4096x1, .f32⟩
  | 73 => ⟨S4096x8x128, .f32⟩
  | 74 => ⟨S8x4096x128, .f32⟩
  | 75 => ⟨S8x4096x128, .f32⟩
  | 76 => ⟨S4096x8x128, .f32⟩
  | 77 => ⟨S4096x1024, .f32⟩
  | 78 => ⟨S4096x8x128, .f32⟩
  | 79 => ⟨S8x4096x128, .f32⟩
  | 80 => ⟨S8x128x4096, .f32⟩
  | 81 => ⟨S8x4096x128, .f32⟩
  | 82 => ⟨S8x4096x4096, .f32⟩
  | 83 => ⟨S4096x8x128, .f32⟩
  | 84 => ⟨S4096x1024, .f32⟩
  | 85 => ⟨S8x4096x4096, .f32⟩
  | 86 => ⟨S8x4096x4096, .f32⟩
  | 87 => ⟨S8x4096x4096, .f32⟩
  | 88 => ⟨S_, .f32⟩
  | 89 => ⟨S8x4096, .f32⟩
  | 90 => ⟨S8x4096x1, .f32⟩
  | 91 => ⟨S8x4096x1, .f32⟩
  | 92 => ⟨S8x4096x4096, .f32⟩
  | 93 => ⟨S8x4096x4096, .f32⟩
  | 94 => ⟨S_, .f32⟩
  | 95 => ⟨S8x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .f32⟩
  | 102 => ⟨S8x4096x4096, .f32⟩
  | 103 => ⟨S_, .f32⟩
  | 104 => ⟨S8x4096, .f32⟩
  | 105 => ⟨S8x1x4096, .f32⟩
  | 106 => ⟨S_, .f32⟩
  | 107 => ⟨S8x4096, .f32⟩
  | 108 => ⟨S4096x8, .f32⟩
  | 109 => ⟨S_, .f32⟩
  | 110 => ⟨S8x4096, .f32⟩
  | 111 => ⟨S8x4096x1, .f32⟩
  | 112 => ⟨S_, .f32⟩
  | 113 => ⟨S8x4096, .f32⟩
  | 114 => ⟨S4096x8, .f32⟩
  | 115 => ⟨S8x4096x128, .f32⟩
  | 116 => ⟨S8x4096x128, .f32⟩
  | 117 => ⟨S4096x8x128, .f32⟩
  | 118 => ⟨S4096x1024, .f32⟩
  | 119 => ⟨S_, .f32⟩
  | 120 => ⟨S8x4096x128, .f32⟩
  | 121 => ⟨S8x4096x128, .f32⟩
  | 122 => ⟨S4096x8x128, .f32⟩
  | 123 => ⟨S4096x1024, .f32⟩
  | 124 => ⟨S4096x8x128, .f32⟩
  | 125 => ⟨S4096x8x128, .f32⟩
  | 126 => ⟨S4096x8x128, .f32⟩
  | 127 => ⟨S4096x8x1x128, .f32⟩
  | _ => ⟨S4096x1024, .f32⟩

abbrev hbmTy0_1 (i : Nat) : BufTy := match i % 128 with
  | 0 => ⟨S4096x8x1x128, .f32⟩
  | 1 => ⟨S4096x8x1x128, .f32⟩
  | 2 => ⟨S4096x8x3x128, .f32⟩
  | 3 => ⟨S4096x3072, .f32⟩
  | 4 => ⟨S4096x4608, .bf16⟩
  | 5 => ⟨S4096x3072, .bf16⟩
  | 6 => ⟨S4096x7680, .bf16⟩
  | 7 => ⟨S8x4096, .f32⟩
  | 8 => ⟨S8x1x4096, .f32⟩
  | 9 => ⟨S8x4096, .f32⟩
  | 10 => ⟨S8x1x4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_v21_1 : Ref sig .tc := ⟨.hbm, 30, rfl⟩
abbrev main_call0_v2 : Ref sig .tc := ⟨.hbm, 31, rfl⟩
abbrev main_v21_0 : Ref sig .tc := ⟨.hbm, 32, rfl⟩
abbrev main_call0_cst : Ref sig .tc := ⟨.hbm, 33, rfl⟩
abbrev main_v21_2 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call1_cst : Ref sig .tc := ⟨.hbm, 99, rfl⟩
abbrev main_call1_v0 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== MixBwd.lean ====
abbrev S4096x1024 : Shape := ⟨2, ![4096, 1024]⟩
abbrev S8x128x128 : Shape := ⟨3, ![8, 128, 128]⟩
abbrev S8x128 : Shape := ⟨2, ![8, 128]⟩
abbrev S1024 : Shape := ⟨1, ![1024]⟩
abbrev S4096x4096 : Shape := ⟨2, ![4096, 4096]⟩
abbrev S_ : Shape := ⟨0, ![]⟩
abbrev S4096x7680 : Shape := ⟨2, ![4096, 7680]⟩
abbrev S1024x128 : Shape := ⟨2, ![1024, 128]⟩
abbrev S128x8 : Shape := ⟨2, ![128, 8]⟩
abbrev S1x1024 : Shape := ⟨2, ![1, 1024]⟩
abbrev S128x128 : Shape := ⟨2, ![128, 128]⟩
abbrev S256x1024 : Shape := ⟨2, ![256, 1024]⟩
abbrev S256x4096 : Shape := ⟨2, ![256, 4096]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩

abbrev nBuf : Space → Nat
  | .hbm => 43
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S8x128x128, .f32⟩
  | .hbm, ⟨7, _⟩ => ⟨S8x128, .f32⟩
  | .hbm, ⟨8, _⟩ => ⟨S1024, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S4096x7680, .f32⟩
  | .hbm, ⟨13, _⟩ => ⟨S1024x128, .i32⟩
  | .hbm, ⟨14, _⟩ => ⟨S_, .i32⟩
  | .hbm, ⟨15, _⟩ => ⟨S_, .i32⟩
  | .hbm, ⟨16, _⟩ => ⟨S1024x128, .i32⟩
  | .hbm, ⟨17, _⟩ => ⟨S1024x128, .i32⟩
  | .hbm, ⟨18, _⟩ => ⟨S1024x128, .i32⟩
  | .hbm, ⟨19, _⟩ => ⟨S_, .i32⟩
  | .hbm, ⟨20, _⟩ => ⟨S1024x128, .i32⟩
  | .hbm, ⟨21, _⟩ => ⟨S1024x128, .i1⟩
  | .hbm, ⟨22, _⟩ => ⟨S1024x128, .i32⟩
  | .hbm, ⟨23, _⟩ => ⟨S1024x128, .i32⟩
  | .hbm, ⟨24, _⟩ => ⟨S_, .i32⟩
  | .hbm, ⟨25, _⟩ => ⟨S1024x128, .i32⟩
  | .hbm, ⟨26, _⟩ => ⟨S1024x128, .i1⟩
  | .hbm, ⟨27, _⟩ => ⟨S1024x128, .i1⟩
  | .hbm, ⟨28, _⟩ => ⟨S_, .i32⟩
  | .hbm, ⟨29, _⟩ => ⟨S1024x128, .i32⟩
  | .hbm, ⟨30, _⟩ => ⟨S1024x128, .i32⟩
  | .hbm, ⟨31, _⟩ => ⟨S1024x128, .i32⟩
  | .hbm, ⟨32, _⟩ => ⟨S1024x128, .i32⟩
  | .hbm, ⟨33, _⟩ => ⟨S1024x128, .i1⟩
  | .hbm, ⟨34, _⟩ => ⟨S1024x128, .bf16⟩
  | .hbm, ⟨35, _⟩ => ⟨S128x8, .f32⟩
  | .hbm, ⟨36, _⟩ => ⟨S1x1024, .f32⟩
  | .hbm, ⟨37, _⟩ => ⟨S4096x7680, .bf16⟩
  | .hbm, ⟨38, _⟩ => ⟨S4096x1024, .f32⟩
  | .hbm, ⟨39, _⟩ => ⟨S4096x1024, .f32⟩
  | .hbm, ⟨40, _⟩ => ⟨S8x128x128, .f32⟩
  | .hbm, ⟨41, _⟩ => ⟨S128x128, .f32⟩
  | .hbm, ⟨42, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1024x128, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S8x128x128, .f32⟩
  | .local _ .vmem, ⟨23, _⟩ => ⟨S128x128, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9_0 : Ref sig .tc := ⟨.hbm, 37, rfl⟩
abbrev main_v9_1 : Ref sig .tc := ⟨.hbm, 38, rfl⟩
abbrev main_v9_2 : Ref sig .tc := ⟨.hbm, 39, rfl⟩
abbrev main_v9_3 : Ref sig .tc := ⟨.hbm, 40, rfl⟩
abbrev main_v9_4 : Ref sig .tc := ⟨.hbm, 41, rfl⟩
abbrev main_v9_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MixBwdIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixRefIdeal.lean ====
abbrev S4096x1024 : Shape := ⟨2, ![4096, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128 : Shape := ⟨1, ![128]⟩
abbrev S1x1x128 : Shape := ⟨3, ![1, 1, 128]⟩
abbrev S1x128x1 : Shape := ⟨3, ![1, 128, 1]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S128x8x128 : Shape := ⟨3, ![128, 8, 128]⟩
abbrev S1x128x8x128 : Shape := ⟨4, ![1, 128, 8, 128]⟩
abbrev S4096x4096 : Shape := ⟨2, ![4096, 4096]⟩
abbrev S4096x7680 : Shape := ⟨2, ![4096, 7680]⟩
abbrev S4096x8x128 : Shape := ⟨3, ![4096, 8, 128]⟩
abbrev S4096x8 : Shape := ⟨2, ![4096, 8]⟩
abbrev S4096x8x1 : Shape := ⟨3, ![4096, 8, 1]⟩
abbrev S128x128 : Shape := ⟨2, ![128, 128]⟩

abbrev nBuf : Space → Nat
  | .hbm => 269
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S8x128x128, .f32⟩
  | 7 => ⟨S8x128, .f32⟩
  | 8 => ⟨S1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S4096x1024, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1024, .f32⟩
  | 95 => ⟨S4096x1024, .f32⟩
  | 96 => ⟨S1x1024, .f32⟩
  | 97 => ⟨S4096x1024, .f32⟩
  | 98 => ⟨S4096x1024, .f32⟩
  | 99 => ⟨S32x128x8x128, .f32⟩
  | 100 => ⟨S128, .i32⟩
  | 101 => ⟨S1x1x128, .i32⟩
  | 102 => ⟨S1x128x1, .i32⟩
  | 103 => ⟨S1x128x128, .i32⟩
  | 104 => ⟨S1x128x128, .i32⟩
  | 105 => ⟨S1x128x128, .i1⟩
  | 106 => ⟨S_, .f32⟩
  | 107 => ⟨S_, .f32⟩
  | 108 => ⟨S8x128x128, .i1⟩
  | 109 => ⟨S8x128x128, .f32⟩
  | 110 => ⟨S8x128x128, .f32⟩
  | 111 => ⟨S_, .f32⟩
  | 112 => ⟨S8x128x128, .f32⟩
  | 113 => ⟨S8x32x128x128, .f32⟩
  | 114 => ⟨S32x128x8x128, .f32⟩
  | 115 => ⟨S128x8, .f32⟩
  | 116 => ⟨S128x8x1, .f32⟩
  | 117 => ⟨S128x8x128, .f32⟩
  | 118 => ⟨S1x128x8x128, .f32⟩
  | 119 => ⟨S32x128x8x128, .f32⟩
  | 120 => ⟨S32x128x8x128, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S32x128x8x128, .f32⟩
  | 33 => ⟨S_, .f32⟩
  | 34 => ⟨S128x8x128, .f32⟩
  | 35 => ⟨S1x128x8x128, .f32⟩
  | 36 => ⟨S_, .f32⟩
  | 37 => ⟨S128x8x128, .f32⟩
  | 38 => ⟨S_, .f32⟩
  | 39 => ⟨S128x8, .f32⟩
  | 40 => ⟨S128x8x1, .f32⟩
  | 41 => ⟨S_, .f32⟩
  | 42 => ⟨S128x8, .f32⟩
  | 43 => ⟨S8x128, .f32⟩
  | 44 => ⟨S8x32x128x128, .f32⟩
  | 45 => ⟨S8x128x128, .f32⟩
  | 46 => ⟨S8x32x128x128, .f32⟩
  | 47 => ⟨S32x128x8x128, .f32⟩
  | 48 => ⟨S_, .f32⟩
  | 49 => ⟨S8x128x128, .f32⟩
  | 50 => ⟨S8x128x128, .f32⟩
  | 51 => ⟨S4096x1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x4096, .f32⟩
  | 125 => ⟨S_, .i32⟩
  | 126 => ⟨S_, .f32⟩
  | 127 => ⟨S4096x7680, .f32⟩
  | _ => ⟨S4096x1024, .f32⟩

abbrev hbmTy0_2 (i : Nat) : BufTy := match i % 128 with
  | 0 => ⟨S4096x7680, .bf16⟩
  | 1 => ⟨S4096x1024, .f32⟩
  | 2 => ⟨S4096x8x128, .f32⟩
  | 3 => ⟨S_, .f32⟩
  | 4 => ⟨S4096x8, .f32⟩
  | 5 => ⟨S4096x8x1, .f32⟩
  | 6 => ⟨S4096x8x128, .f32⟩
  | 7 => ⟨S4096x1024, .f32⟩
  | 8 => ⟨S128x8, .f32⟩
  | 9 => ⟨S_, .i32⟩
  | 10 => ⟨S_, .f32⟩
  | 11 => ⟨S128x128, .f32⟩
  | 12 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_11 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_15 : Ref sig .tc := ⟨.hbm, 71, rfl⟩
abbrev main_v46 : Ref sig .tc := ⟨.hbm, 72, rfl⟩
abbrev main_v47 : Ref sig .tc := ⟨.hbm, 73, rfl⟩
abbrev main_cst_16 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_v55 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_20 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_call0_v0 : Ref sig .tc := ⟨.hbm, 107, rfl⟩
abbrev main_v75_1 : Ref sig .tc := ⟨.hbm, 108, rfl⟩
abbrev main_call0_v2 : Ref sig .tc := ⟨.hbm, 109, rfl⟩
abbrev main_v75_0 : Ref sig .tc := ⟨.hbm, 110, rfl⟩
abbrev main_call0_cst : Ref sig .tc := ⟨.hbm, 111, rfl⟩
abbrev main_v75_2 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_22 : Ref sig .tc := ⟨.hbm, 125, rfl⟩
abbrev main_v88 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_25 : Ref sig .tc := ⟨.hbm, 138, rfl⟩
abbrev main_v98 : Ref sig .tc := ⟨.hbm, 139, rfl⟩
abbrev main_v99 : Ref sig .tc := ⟨.hbm, 140, rfl⟩
abbrev main_cst_26 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_28 : Ref sig .tc := ⟨.hbm, 161, rfl⟩
abbrev main_v118 : Ref sig .tc := ⟨.hbm, 162, rfl⟩
abbrev main_v119 : Ref sig .tc := ⟨.hbm, 163, rfl⟩
abbrev main_cst_29 : Ref sig .tc := ⟨.hbm, 164, rfl⟩
abbrev main_v120 : Ref sig .tc := ⟨.hbm, 165, rfl⟩
abbrev main_cst_30 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_call1_cst : Ref sig .tc := ⟨.hbm, 176, rfl⟩
abbrev main_call1_v0 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_32 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_33 : Ref sig .tc := ⟨.hbm, 186, rfl⟩
abbrev main_v136 : Ref sig .tc := ⟨.hbm, 187, rfl⟩
abbrev main_v137 : Ref sig .tc := ⟨.hbm, 188, rfl⟩
abbrev main_cst_34 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_35 : Ref sig .tc := ⟨.hbm, 195, rfl⟩
abbrev main_v143 : Ref sig .tc := ⟨.hbm, 196, rfl⟩
abbrev main_v144 : Ref sig .tc := ⟨.hbm, 197, rfl⟩
abbrev main_cst_36 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_37 : Ref sig .tc := ⟨.hbm, 206, rfl⟩
abbrev main_v152 : Ref sig .tc := ⟨.hbm, 207, rfl⟩
abbrev main_v153 : Ref sig .tc := ⟨.hbm, 208, rfl⟩
abbrev main_cst_38 : Ref sig .tc := ⟨.hbm, 209, rfl⟩
abbrev main_v154 : Ref sig .tc := ⟨.hbm, 210, rfl⟩
abbrev main_v155 : Ref sig .tc := ⟨.hbm, 211, rfl⟩
abbrev main_cst_39 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_40 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_41 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_42 : Ref sig .tc := ⟨.hbm, 226, rfl⟩
abbrev main_v167 : Ref sig .tc := ⟨.hbm, 227, rfl⟩
abbrev main_v168 : Ref sig .tc := ⟨.hbm, 228, rfl⟩
abbrev main_cst_43 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_44 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_45 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_46 : Ref sig .tc := ⟨.hbm, 244, rfl⟩
abbrev main_v181 : Ref sig .tc := ⟨.hbm, 245, rfl⟩
abbrev main_v182 : Ref sig .tc := ⟨.hbm, 246, rfl⟩
abbrev main_cst_47 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_c : Ref sig .tc := ⟨.hbm, 253, rfl⟩
abbrev main_call2_v0 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_48 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_c_49 : Ref sig .tc := ⟨.hbm, 265, rfl⟩
abbrev main_call3_v0 : Ref sig .tc := ⟨.hbm, 266, rfl⟩
abbrev main_v197 : Ref sig .tc := ⟨.hbm, 267, rfl⟩
abbrev main_v198 : Ref sig .tc := ⟨.hbm, 268, rfl⟩

abbrev nD : Nat := 1
abbrev τ : Topo := Topo.v7x

variable {F : FTy → Type} [FloatOps F]
-- ==== NormBwd.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2816x1024 : Shape := ⟨2, ![2816, 1024]⟩
abbrev S5632x1024 : Shape := ⟨2, ![5632, 1024]⟩
abbrev S1x4096x2816 : Shape := ⟨3, ![1, 4096, 2816]⟩
abbrev S2x4096x2816 : Shape := ⟨3, ![2, 4096, 2816]⟩
abbrev S1x512x1408 : Shape := ⟨3, ![1, 512, 1408]⟩
abbrev S1408x1024 : Shape := ⟨2, ![1408, 1024]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 39
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S2816x1024, .f32⟩
  | .hbm, ⟨27, _⟩ => ⟨S2816x1024, .f32⟩
  | .hbm, ⟨28, _⟩ => ⟨S5632x1024, .f32⟩
  | .hbm, ⟨29, _⟩ => ⟨S5632x1024, .bf16⟩
  | .hbm, ⟨30, _⟩ => ⟨S1x4096x2816, .bf16⟩
  | .hbm, ⟨31, _⟩ => ⟨S1x4096x2816, .bf16⟩
  | .hbm, ⟨32, _⟩ => ⟨S2x4096x2816, .bf16⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S1x1024, .f32⟩
  | .hbm, ⟨37, _⟩ => ⟨S4096x1024, .bf16⟩
  | .hbm, ⟨38, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_25 : BitVec 32 := 0#32
  let v51 : BitVec 1 := Scalar.cmpi .eq arg0 c0_i32_25
  let v52 : BitVec 32 := Scalar.extui v51
  let c0_i32_26 : BitVec 32 := 0#32
  let v53 : BitVec 1 := Scalar.cmpi .ne v52 c0_i32_26
  v53

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== NormRefIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S4096x1024, .f32⟩
  | .hbm, ⟨7, _⟩ => ⟨S4096x2816, .bf16⟩
  | .hbm, ⟨8, _⟩ => ⟨S4096x2816, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S1x1024, .f32⟩
  | .hbm, ⟨110, _⟩ => ⟨S4096x1024, .bf16⟩
  | .hbm, ⟨111, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== LossBwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 12
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1x1, .f32⟩
  | .hbm, ⟨10, _⟩ => ⟨S4096x1024, .bf16⟩
  | .hbm, ⟨11, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32_34 : BitVec 32 := 0#32
  let v69 : BitVec 1 := Scalar.cmpi .eq arg0 c0_i32_34
  let v70 : BitVec 32 := Scalar.extui v69
  let c0_i32_35 : BitVec 32 := 0#32
  let v71 : BitVec 1 := Scalar.cmpi .ne v70 c0_i32_35
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1, .f32⟩
  | .hbm, ⟨77, _⟩ => ⟨S4096x1024, .bf16⟩
  | .hbm, ⟨78, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== DhABwd.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S4096x3x8x128 : Shape := ⟨4, ![4096, 3, 8, 128]⟩
abbrev S4096x8x3x128 : Shape := ⟨4, ![4096, 8, 3, 128]⟩
abbrev S4096x8 : Shape := ⟨2, ![4096, 8]⟩
abbrev S4096x512 : Shape := ⟨2, ![4096, 512]⟩
abbrev S4096x2048 : Shape := ⟨2, ![4096, 2048]⟩
abbrev S4096x7680 : Shape := ⟨2, ![4096, 7680]⟩
abbrev S1024x3072 : Shape := ⟨2, ![1024, 3072]⟩
abbrev S1024x3x8x128 : Shape := ⟨4, ![1024, 3, 8, 128]⟩
abbrev S1024x8x3x128 : Shape := ⟨4, ![1024, 8, 3, 128]⟩
abbrev S1024x8 : Shape := ⟨2, ![1024, 8]⟩
abbrev S1024x512 : Shape := ⟨2, ![1024, 512]⟩
abbrev S1024x2048 : Shape := ⟨2, ![1024, 2048]⟩
abbrev S1024x7680 : Shape := ⟨2, ![1024, 7680]⟩
abbrev S7680x1024 : Shape := ⟨2, ![7680, 1024]⟩
abbrev S512x1920 : Shape := ⟨2, ![512, 1920]⟩
abbrev S1920x1024 : Shape := ⟨2, ![1920, 1024]⟩
abbrev S512x1024 : Shape := ⟨2, ![512, 1024]⟩
abbrev S512 : Shape := ⟨1, ![512]⟩
abbrev S512x1 : Shape := ⟨2, ![512, 1]⟩

abbrev nBuf : Space → Nat
  | .hbm => 54
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x7176, .f32⟩
  | .hbm, ⟨5, _⟩ => ⟨S4096x1024, .f32⟩
  | .hbm, ⟨6, _⟩ => ⟨S4096x7176, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .bf16⟩
  | .hbm, ⟨25, _⟩ => ⟨S4096x3x8x128, .bf16⟩
  | .hbm, ⟨26, _⟩ => ⟨S4096x8x3x128, .bf16⟩
  | .hbm, ⟨27, _⟩ => ⟨S4096x3072, .bf16⟩
  | .hbm, ⟨28, _⟩ => ⟨S4096x8, .bf16⟩
  | .hbm, ⟨29, _⟩ => ⟨S_, .i32⟩
  | .hbm, ⟨30, _⟩ => ⟨S_, .bf16⟩
  | .hbm, ⟨31, _⟩ => ⟨S4096x512, .bf16⟩
  | .hbm, ⟨32, _⟩ => ⟨S4096x2048, .bf16⟩
  | .hbm, ⟨33, _⟩ => ⟨S4096x2048, .bf16⟩
  | .hbm, ⟨34, _⟩ => ⟨S4096x7680, .bf16⟩
  | .hbm, ⟨35, _⟩ => ⟨S1024x3072, .f32⟩
  | .hbm, ⟨36, _⟩ => ⟨S1024x3x8x128, .f32⟩
  | .hbm, ⟨37, _⟩ => ⟨S1024x8x3x128, .f32⟩
  | .hbm, ⟨38, _⟩ => ⟨S1024x3072, .f32⟩
  | .hbm, ⟨39, _⟩ => ⟨S1024x8, .f32⟩
  | .hbm, ⟨40, _⟩ => ⟨S_, .i32⟩
  | .hbm, ⟨41, _⟩ => ⟨S_, .f32⟩
  | .hbm, ⟨42, _⟩ => ⟨S1024x512, .f32⟩
  | .hbm, ⟨43, _⟩ => ⟨S1024x2048, .f32⟩
  | .hbm, ⟨44, _⟩ => ⟨S1024x2048, .f32⟩
  | .hbm, ⟨45, _⟩ => ⟨S1024x7680, .f32⟩
  | .hbm, ⟨46, _⟩ => ⟨S7680x1024, .f32⟩
  | .hbm, ⟨47, _⟩ => ⟨S7680x1024, .bf16⟩
  | .hbm, ⟨48, _⟩ => ⟨S1x1024, .f32⟩
  | .hbm, ⟨49, _⟩ => ⟨S1x1024, .f32⟩
  | .hbm, ⟨50, _⟩ => ⟨S4096x1024, .f32⟩
  | .hbm, ⟨51, _⟩ => ⟨S1x1024, .f32⟩
  | .hbm, ⟨52, _⟩ => ⟨S4096x1024, .bf16⟩
  | .hbm, ⟨53, _⟩ => ⟨S1x1024, .f32⟩
  | .local _ .vmem, ⟨0, _⟩ => ⟨S512x1920, .bf16⟩
  | .local _ .vmem, ⟨1, _⟩ => ⟨S512x1920, .bf16⟩
  | .local _ .vmem, ⟨2, _⟩ => ⟨S1920x1024, .bf16⟩
  | .local _ .vmem, ⟨3, _⟩ => ⟨S1920x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_call1_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev main_v36_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_24 : BitVec 32 := 0#32
  let v51 : BitVec 1 := Scalar.cmpi .eq arg0 c0_i32_24
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DhARefIdeal.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x7176, .f32⟩
  | .hbm, ⟨5, _⟩ => ⟨S4096x1024, .f32⟩
  | .hbm, ⟨6, _⟩ => ⟨S4096x7176, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x7176, .f32⟩
  | .hbm, ⟨49, _⟩ => ⟨S4096x7176, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S4096x1024, .bf16⟩
  | .hbm, ⟨105, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== DhBBwd.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S4096x3072 : Shape := ⟨2, ![4096, 3072]⟩
abbrev S4096x3x8x128 : Shape := ⟨4, ![4096, 3, 8, 128]⟩
abbrev S4096x8x3x128 : Shape := ⟨4, ![4096, 8, 3, 128]⟩
abbrev S4096x8 : Shape := ⟨2, ![4096, 8]⟩
abbrev S_ : Shape := ⟨0, ![]⟩
abbrev S4096x512 : Shape := ⟨2, ![4096, 512]⟩
abbrev S4096x2048 : Shape := ⟨2, ![4096, 2048]⟩
abbrev S4096x7680 : Shape := ⟨2, ![4096, 7680]⟩
abbrev S1024x3072 : Shape := ⟨2, ![1024, 3072]⟩
abbrev S1024x3x8x128 : Shape := ⟨4, ![1024, 3, 8, 128]⟩
abbrev S1024x8x3x128 : Shape := ⟨4, ![1024, 8, 3, 128]⟩
abbrev S1024x8 : Shape := ⟨2, ![1024, 8]⟩
abbrev S1024x512 : Shape := ⟨2, ![1024, 512]⟩
abbrev S1024x2048 : Shape := ⟨2, ![1024, 2048]⟩
abbrev S1024x7680 : Shape := ⟨2, ![1024, 7680]⟩
abbrev S7680x1024 : Shape := ⟨2, ![7680, 1024]⟩
abbrev S1x1024 : Shape := ⟨2, ![1, 1024]⟩
abbrev S1024x1920 : Shape := ⟨2, ![1024, 1920]⟩
abbrev S1920x1024 : Shape := ⟨2, ![1920, 1024]⟩
abbrev S1024x1024 : Shape := ⟨2, ![1024, 1024]⟩
abbrev S1024x1 : Shape := ⟨2, ![1024, 1]⟩

abbrev nBuf : Space → Nat
  | .hbm => 32
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x7176, .f32⟩
  | .hbm, ⟨3, _⟩ => ⟨S4096x1024, .f32⟩
  | .hbm, ⟨4, _⟩ => ⟨S4096x7176, .bf16⟩
  | .hbm, ⟨5, _⟩ => ⟨S4096x3072, .bf16⟩
  | .hbm, ⟨6, _⟩ => ⟨S4096x3x8x128, .bf16⟩
  | .hbm, ⟨7, _⟩ => ⟨S4096x8x3x128, .bf16⟩
  | .hbm, ⟨8, _⟩ => ⟨S4096x3072, .bf16⟩
  | .hbm, ⟨9, _⟩ => ⟨S4096x8, .bf16⟩
  | .hbm, ⟨10, _⟩ => ⟨S_, .i32⟩
  | .hbm, ⟨11, _⟩ => ⟨S_, .bf16⟩
  | .hbm, ⟨12, _⟩ => ⟨S4096x512, .bf16⟩
  | .hbm, ⟨13, _⟩ => ⟨S4096x2048, .bf16⟩
  | .hbm, ⟨14, _⟩ => ⟨S4096x2048, .bf16⟩
  | .hbm, ⟨15, _⟩ => ⟨S4096x7680, .bf16⟩
  | .hbm, ⟨16, _⟩ => ⟨S1024x3072, .f32⟩
  | .hbm, ⟨17, _⟩ => ⟨S1024x3x8x128, .f32⟩
  | .hbm, ⟨18, _⟩ => ⟨S1024x8x3x128, .f32⟩
  | .hbm, ⟨19, _⟩ => ⟨S1024x3072, .f32⟩
  | .hbm, ⟨20, _⟩ => ⟨S1024x8, .f32⟩
  | .hbm, ⟨21, _⟩ => ⟨S_, .i32⟩
  | .hbm, ⟨22, _⟩ => ⟨S_, .f32⟩
  | .hbm, ⟨23, _⟩ => ⟨S1024x512, .f32⟩
  | .hbm, ⟨24, _⟩ => ⟨S1024x2048, .f32⟩
  | .hbm, ⟨25, _⟩ => ⟨S1024x2048, .f32⟩
  | .hbm, ⟨26, _⟩ => ⟨S1024x7680, .f32⟩
  | .hbm, ⟨27, _⟩ => ⟨S7680x1024, .f32⟩
  | .hbm, ⟨28, _⟩ => ⟨S7680x1024, .bf16⟩
  | .hbm, ⟨29, _⟩ => ⟨S1x1024, .f32⟩
  | .hbm, ⟨30, _⟩ => ⟨S4096x1024, .f32⟩
  | .hbm, ⟨31, _⟩ => ⟨S1x1024, .f32⟩
  | .local _ .vmem, ⟨0, _⟩ => ⟨S1024x1920, .bf16⟩
  | .local _ .vmem, ⟨1, _⟩ => ⟨S1024x1920, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_24 : BitVec 32 := 0#32
  let v50 : BitVec 1 := Scalar.cmpi .eq arg0 c0_i32_24
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhBRefIdeal.lean ====
abbrev S4096x1024 : Shape := ⟨2, ![4096, 1024]⟩
abbrev S1024 : Shape := ⟨1, ![1024]⟩
abbrev S1024x7176 : Shape := ⟨2, ![1024, 7176]⟩
abbrev S4096x7176 : Shape := ⟨2, ![4096, 7176]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x7176, .f32⟩
  | .hbm, ⟨3, _⟩ => ⟨S4096x1024, .f32⟩
  | .hbm, ⟨4, _⟩ => ⟨S4096x7176, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x7176, .f32⟩
  | .hbm, ⟨26, _⟩ => ⟨S4096x7176, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== AttnFwd.lean ====
abbrev S4096x1024 : Shape := ⟨2, ![4096, 1024]⟩
abbrev S4096x8 : Shape := ⟨2, ![4096, 8]⟩
abbrev S4096x8x128 : Shape := ⟨3, ![4096, 8, 128]⟩
abbrev S4096x8x1x128 : Shape := ⟨4, ![4096, 8, 1, 128]⟩
abbrev S4096x8x3x128 : Shape := ⟨4, ![4096, 8, 3, 128]⟩
abbrev S4096x3072 : Shape := ⟨2, ![4096, 3072]⟩
abbrev S_ : Shape := ⟨0, ![]⟩
abbrev S4096x7680 : Shape := ⟨2, ![4096, 7680]⟩
abbrev S4096x128 : Shape := ⟨2, ![4096, 128]⟩
abbrev S8x4096 : Shape := ⟨2, ![8, 4096]⟩
abbrev S8x1x4096 : Shape := ⟨3, ![8, 1, 4096]⟩
abbrev S1024x128 : Shape := ⟨2, ![1024, 128]⟩
abbrev S1x1x4096 : Shape := ⟨3, ![1, 1, 4096]⟩
abbrev S1x1x1024 : Shape := ⟨3, ![1, 1, 1024]⟩
abbrev S128x4096 : Shape := ⟨2, ![128, 4096]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x8x128, .f32⟩
  | .hbm, ⟨5, _⟩ => ⟨S4096x8x128, .f32⟩
  | .hbm, ⟨6, _⟩ => ⟨S4096x8x128, .f32⟩
  | .hbm, ⟨7, _⟩ => ⟨S4096x8x1x128, .f32⟩
  | .hbm, ⟨8, _⟩ => ⟨S4096x8x1x128, .f32⟩
  | .hbm, ⟨9, _⟩ => ⟨S4096x8x1x128, .f32⟩
  | .hbm, ⟨10, _⟩ => ⟨S4096x8x3x128, .f32⟩
  | .hbm, ⟨11, _⟩ => ⟨S4096x3072, .f32⟩
  | .hbm, ⟨12, _⟩ => ⟨S_, .i32⟩
  | .hbm, ⟨13, _⟩ => ⟨S_, .f32⟩
  | .hbm, ⟨14, _⟩ => ⟨S4096x7680, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x8, .f32⟩
  | .hbm, ⟨19, _⟩ => ⟨S8x4096, .f32⟩
  | .hbm, ⟨20, _⟩ => ⟨S8x1x4096, .f32⟩
  | .hbm, ⟨21, _⟩ => ⟨S4096x1024, .f32⟩
  | .hbm, ⟨22, _⟩ => ⟨S8x1x4096, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x1x4096, .f32⟩
  | .local _ .vmem, ⟨8, _⟩ => ⟨S1x1x4096, .f32⟩
  | .local _ .vmem, ⟨9, _⟩ => ⟨S1024x128, .f32⟩
  | .local _ .vmem, ⟨10, _⟩ => ⟨S1024x128, .f32⟩
  | .local _ .vmem, ⟨11, _⟩ => ⟨S1x1x1024, .f32⟩
  | .local _ .vmem, ⟨12, _⟩ => ⟨S1x1x1024, .f32⟩
  | .local _ .vmem, ⟨13, _⟩ => ⟨S4096x128, .bf16⟩
  | .local _ .vmem, ⟨14, _⟩ => ⟨S128x4096, .bf16⟩
  | .local _ .vmem, ⟨15, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v8 : BitVec 32 := Scalar.muli arg1 c1024_i32
  v8
def k0_off1 (i : grid0.Coords) : Fin 3 → Nat :=
  let c0_2 : Index := 0#32
  let c0_3 : Index := 0#32
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  ![0, 0, v10.toNat]
@[reducible] def k0_t1_loop (i : grid0.Coords) : Scf.Loop 32 :=
  let c0_i32_7 : BitVec 32 := 0#32
  let arg1 : BitVec 32 := BitVec.ofNat 32 (i 1).val
  let v16 : BitVec 32 := Scalar.subi arg1 c0_i32_7
  let c1_i32 : BitVec 32 := 1#32
  let v18 : BitVec 32 := Scalar.divsi v16 c1_i32
  let v19 : BitVec 32 := Scalar.muli v18 c1_i32
  let v20 : BitVec 32 := Scalar.addi c0_i32_7 v19
  let c1_i32_8 : BitVec 32 := 1#32
  ⟨c0_i32_7, v20, c1_i32_8⟩
def k0_mult2 (i : grid0.Coords) (k0_t1 : Fin (k0_t1_loop i).trips) : BitVec 32 :=
  let c0_i32_7 : BitVec 32 := 0#32
  let c1_i32_8 : BitVec 32 := 1#32
  let arg12 : BitVec 32 := Scf.iv c0_i32_7 c1_i32_8 k0_t1
  let c1024_i32_24 : BitVec 32 := 1024#32
  let v68 : BitVec 32 := Scalar.muli arg12 c1024_i32_24
  v68
def k0_off2 (i : grid0.Coords) (k0_t1 : Fin (k0_t1_loop i).trips) : Fin 2 → Nat :=
  let c0_i32_7 : BitVec 32 := 0#32
  let c1_i32_8 : BitVec 32 := 1#32
  let arg12 : BitVec 32 := Scf.iv c0_i32_7 c1_i32_8 k0_t1
  let c1024_i32_24 : BitVec 32 := 1024#32
  let v68 : BitVec 32 := Scalar.muli arg12 c1024_i32_24
  let v69 : BitVec 32 := v68
  let v70 : Index := Scalar.indexCast v69
  let c0_25 : Index := 0#32
  ![v70.toNat, 0]
def k0_off3 (i : grid0.Coords) (k0_t1 : Fin (k0_t1_loop i).trips) : Fin 2 → Nat :=
  let c0_30 : Index := 0#32
  let c0_i32_7 : BitVec 32 := 0#32
  let c1_i32_8 : BitVec 32 := 1#32
  let arg12 : BitVec 32 := Scf.iv c0_i32_7 c1_i32_8 k0_t1
  let c1024_i32_24 : BitVec 32 := 1024#32
  let v68 : BitVec 32 := Scalar.muli arg12 c1024_i32_24
  let v69 : BitVec 32 := v68
  let v93 : Index := Scalar.indexCast v69
  ![0, v93.toNat]
@[reducible] def k0_t2_loop (i : grid0.Coords) : Scf.Loop 32 :=
  let c0_i32_7 : BitVec 32 := 0#32
  let arg1 : BitVec 32 := BitVec.ofNat 32 (i 1).val
  let v16 : BitVec 32 := Scalar.subi arg1 c0_i32_7
  let c1_i32 : BitVec 32 := 1#32
  let v18 : BitVec 32 := Scalar.divsi v16 c1_i32
  let v19 : BitVec 32 := Scalar.muli v18 c1_i32
  let v20 : BitVec 32 := Scalar.addi c0_i32_7 v19
  let v17 : BitVec 32 := Scalar.addi c0_i32_7 v16
  let c1_i32_9 : BitVec 32 := 1#32
  ⟨v20, v17, c1_i32_9⟩
def k0_mult3 (i : grid0.Coords) (k0_t2 : Fin (k0_t2_loop i).trips) : BitVec 32 :=
  let c0_i32_7 : BitVec 32 := 0#32
  let arg1 : BitVec 32 := BitVec.ofNat 32 (i 1).val
  let v16 : BitVec 32 := Scalar.subi arg1 c0_i32_7
  let c1_i32 : BitVec 32 := 1#32
  let v18 : BitVec 32 := Scalar.divsi v16 c1_i32
  let v19 : BitVec 32 := Scalar.muli v18 c1_i32
  let v20 : BitVec 32 := Scalar.addi c0_i32_7 v19
  let c1_i32_9 : BitVec 32 := 1#32
  let arg12 : BitVec 32 := Scf.iv v20 c1_i32_9 k0_t2
  let c1024_i32_24 : BitVec 32 := 1024#32
  let v68 : BitVec 32 := Scalar.muli arg12 c1024_i32_24
  v68
def k0_off4 (i : grid0.Coords) (k0_t2 : Fin (k0_t2_loop i).trips) : Fin 2 → Nat :=
  let c0_i32_7 : BitVec 32 := 0#32
  let arg1 : BitVec 32 := BitVec.ofNat 32 (i 1).val
  let v16 : BitVec 32 := Scalar.subi arg1 c0_i32_7
  let c1_i32 : BitVec 32 := 1#32
  let v18 : BitVec 32 := Scalar.divsi v16 c1_i32
  let v19 : BitVec 32 := Scalar.muli v18 c1_i32
  let v20 : BitVec 32 := Scalar.addi c0_i32_7 v19
  let c1_i32_9 : BitVec 32 := 1#32
  let arg12 : BitVec 32 := Scf.iv v20 c1_i32_9 k0_t2
  let c1024_i32_24 : BitVec 32 := 1024#32
  let v68 : BitVec 32 := Scalar.muli arg12 c1024_i32_24
  let v69 : BitVec 32 := v68
  let v70 : Index := Scalar.indexCast v69
  let c0_25 : Index := 0#32
  ![v70.toNat, 0]
def k0_off5 (i : grid0.Coords) (k0_t2 : Fin (k0_t2_loop i).trips) : Fin 2 → Nat :=
  let c0_30 : Index := 0#32
  let c0_i32_7 : BitVec 32 := 0#32
  let arg1 : BitVec 32 := BitVec.ofNat 32 (i 1).val
  let v16 : BitVec 32 := Scalar.subi arg1 c0_i32_7
  let c1_i32 : BitVec 32 := 1#32
  let v18 : BitVec 32 := Scalar.divsi v16 c1_i32
  let v19 : BitVec 32 := Scalar.muli v18 c1_i32
  let v20 : BitVec 32 := Scalar.addi c0_i32_7 v19
  let c1_i32_9 : BitVec 32 := 1#32
  let arg12 : BitVec 32 := Scf.iv v20 c1_i32_9 k0_t2
  let c1024_i32_24 : BitVec 32 := 1024#32
  let v68 : BitVec 32 := Scalar.muli arg12 c1024_i32_24
  let v69 : BitVec 32 := v68
  let v93 : Index := Scalar.indexCast v69
  ![0, v93.toNat]
def k0_mult4 (i : grid0.Coords) : BitVec 32 :=
  let arg1 : BitVec 32 := BitVec.ofNat 32 (i 1).val
  let c1024_i32_10 : BitVec 32 := 1024#32
  let v23 : BitVec 32 := Scalar.muli arg1 c1024_i32_10
  v23
def k0_off6 (i : grid0.Coords) : Fin 2 → Nat :=
  let arg1 : BitVec 32 := BitVec.ofNat 32 (i 1).val
  let c1024_i32_10 : BitVec 32 := 1024#32
  let v23 : BitVec 32 := Scalar.muli arg1 c1024_i32_10
  let v24 : BitVec 32 := v23
  let v25 : Index := Scalar.indexCast v24
  let c0_11 : Index := 0#32
  ![v25.toNat, 0]
def k0_off7 (i : grid0.Coords) : Fin 2 → Nat :=
  let c0_17 : Index := 0#32
  let arg1 : BitVec 32 := BitVec.ofNat 32 (i 1).val
  let c1024_i32_10 : BitVec 32 := 1024#32
  let v23 : BitVec 32 := Scalar.muli arg1 c1024_i32_10
  let v24 : BitVec 32 := v23
  let v53 : Index := Scalar.indexCast v24
  ![0, v53.toNat]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c36_i32 : BitVec 32 := 36#32
  let v1 : BitVec 32 := Scalar.addi c36_i32 v0
  let c2_i32 : BitVec 32 := 2#32
  let v2 : BitVec 32 := Scalar.addi v1 c2_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S4096x1024 : Shape := ⟨2, ![4096, 1024]⟩
abbrev S4096x8 : Shape := ⟨2, ![4096, 8]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x8, .f32⟩
  | .hbm, ⟨4, _⟩ => ⟨S4096x8x128, .f32⟩
  | .hbm, ⟨5, _⟩ => ⟨S8x4096x128, .f32⟩
  | .hbm, ⟨6, _⟩ => ⟨S_, .f32⟩
  | .hbm, ⟨7, _⟩ => ⟨S8x4096x128, .f32⟩
  | .hbm, ⟨8, _⟩ => ⟨S8x4096x128, .f32⟩
  | .hbm, ⟨9, _⟩ => ⟨S4096x8x128, .f32⟩
  | .hbm, ⟨10, _⟩ => ⟨S8x4096x128, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S4096x8x128, .f32⟩
  | .hbm, ⟨46, _⟩ => ⟨S8x4096x128, .f32⟩
  | .hbm, ⟨47, _⟩ => ⟨S8x4096x128, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S4096x8x128, .f32⟩
  | .hbm, ⟨61, _⟩ => ⟨S4096x1024, .f32⟩
  | .hbm, ⟨62, _⟩ => ⟨S8x1x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.Reals.lean ====
module

public import Idealize.ShloMosaic.Lib.Pointwise
public import Idealize.ShloMosaic.PureOps.Ideal.Laws
public import Mathlib.Tactic.Ring
public import Mathlib.Tactic.FieldSimp
public import Mathlib.Tactic.Positivity
public import Mathlib.Tactic.Linarith

@[expose] public section

noncomputable section

namespace Cert.Reals

open Idealize.ShloMosaic

/-- A finite sum of reals, read as extended reals term by term. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = (Real.exp a : EReal) := rfl

theorem tanh_coe (a : ℝ) : Ideal.tanh (a : EReal) = (Real.tanh a : EReal) := rfl

theorem log_coe (a : ℝ) (h : 0 < a) : Ideal.log (a : EReal) = (Real.log a : EReal) := by
  show (if a ≤ 0 then (⊥ : EReal) else (Real.log a : EReal)) = _
  rw [if_neg (not_le.2 h)]

theorem rsqrt_coe (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 h.le), if_neg h.ne']

/-- A value whose magnitude is below infinity is a real number. -/
theorem real_of_abs_lt_top {x : EReal} (h : max x (-x) < ⊤) : ∃ r : ℝ, x = r := by
  induction x using EReal.rec with
  | bot => simp at h
  | top => simp at h
  | coe r => exact ⟨r, rfl⟩

/-- An array of finite values is an array of real numbers. -/
theorem reals_of_finite {ι : Type} {x : ι → EReal} (h : ∀ i, max (x i) (-(x i)) < ⊤) : ∃ r : ι → ℝ, x = fun i => (r i : EReal) :=
  ⟨fun i => (real_of_abs_lt_top (h i)).choose, funext fun i => (real_of_abs_lt_top (h i)).choose_spec⟩

theorem ofBits_inf : Ideal.ofBits .f32 0x7F800000#32 = ⊤ := by
  simp [Ideal.ofBits, Ideal.ieee]

/-- The precondition's test of one array, read: its values are real numbers. -/
theorem real_array {s s₀ : Shape} {dims : Fin s₀.rank → Fin s.rank} (x : FVec Ideal s .f32) (hb : s₀.BroadcastsInDim s dims)
    (h : cmpf .olt (Host.absf x) (broadcastInDim s dims hb (constant s₀ .f32 0x7F800000#32)) = fun _ => 1#1) :
    ∃ r : s.Idx → ℝ, x = fun i => (r i : EReal) := by
  refine reals_of_finite fun i => ?_
  have hi := congrFun h i
  change Ideal.cmp .olt (max (x i) (-(x i))) (Ideal.ofBits .f32 0x7F800000#32) = 1#1 at hi
  rw [ofBits_inf] at hi
  by_contra hn
  simp [Ideal.cmp, hn] at hi

/-- The logistic function of the extended reals, as both programs print it. -/
def sig (g : EReal) : EReal := Ideal.div 1 (1 + Ideal.exp (-g))

theorem sig_coe (a : ℝ) : sig (a : EReal) = ((1 / (1 + Real.exp (-a)) : ℝ) : EReal) := by
  unfold sig
  rw [← EReal.coe_neg, exp_coe, ← EReal.coe_one, ← EReal.coe_add, div_coe _ _ (by positivity)]

theorem sig_bot : sig ⊥ = 0 := by
  unfold sig
  rw [EReal.neg_bot]
  show Ideal.div 1 (1 + ⊤) = 0
  rw [show (1 : EReal) + ⊤ = ⊤ from rfl]
  simp [Ideal.div]

theorem sig_top : sig ⊤ = 1 := by
  unfold sig
  rw [EReal.neg_top]
  show Ideal.div 1 (1 + 0) = 1
  rw [add_zero, ← EReal.coe_one, div_coe _ _ one_ne_zero]; simp

end Cert.Reals

end
-- ==== Proof.FfnValue.lean ====
module

public import proofs.«01_k».proof.Proof.Gen.FfnBwdIdeal.Value
public import proofs.«01_k».proof.Proof.Gen.FfnRefIdeal.Read
public import Idealize.ShloMosaic.Lib.Pipeline.ValueKit
public import Idealize.ShloMosaic.Lib.Pointwise
public import proofs.«01_k».proof.Proof.Reals
public import proofs.«01_k».proof.Proof.Gen.Pre_ffn_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnOwn

open Cert Cert.Reals Cert.FfnBwdIdeal Cert.FfnBwdIdeal.Gen

variable (m : (ℓ : Loc nD τ sig) → Buf (Elt Ideal) ℓ)

theorem idx : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![0, t.val / 2, t.val % 2] :=
  (by decide +kernel : ∀ t : Fin grid0.N, _)

/-- The row of the array that row `i` of the block at point `t` is. -/
abbrev row (t : Fin cfg0.N) (i : Fin 1024) : Fin 4096 := ⟨t.val / 2 * 1024 + i.val, by have := lt_of_lt_of_eq t.isLt N_0; omega⟩
/-- The column of the array that column `j` of the block at point `t` is. -/
abbrev col (t : Fin cfg0.N) (j : Fin 1408) : Fin 2816 := ⟨t.val % 2 * 1408 + j.val, by omega⟩

/-- The arguments, at their literal types. -/
abbrev H (c : Dev nD) : FVec Ideal S4096x1024 .f32 := m ((c : Thread nD τ).loc main_arg0)
abbrev WG (c : Dev nD) : FVec Ideal S1024x2816 .f32 := m ((c : Thread nD τ).loc main_arg1)
abbrev WU (c : Dev nD) : FVec Ideal S1024x2816 .f32 := m ((c : Thread nD τ).loc main_arg2)
abbrev WD (c : Dev nD) : FVec Ideal S2816x1024 .f32 := m ((c : Thread nD τ).loc main_arg3)
abbrev DD (c : Dev nD) : FVec Ideal S4096x1024 .f32 := m ((c : Thread nD τ).loc main_arg4)

theorem blk_dd (c : Dev nD) (t : Fin cfg0.N) (i k : Fin 1024) : iblk m c 0 t (ix2 i k) = DD m c (ix2 (row t i) k) := by
  blk_simp [iblk]
  entry_read
  pointwise
  blk_ext [idx t]
theorem blk_w (c : Dev nD) (t : Fin cfg0.N) (j : Fin 1408) (k : Fin 1024) : iblk m c 1 t (ix2 j k) = WD m c (ix2 (col t j) k) := by
  blk_simp [iblk]
  entry_read
  pointwise
  blk_ext [idx t]
theorem blk_gate (c : Dev nD) (t : Fin cfg0.N) (i : Fin 1024) (j : Fin 1408) :
    iblk m c 2 t (ix2 i j) = (show EReal from ∑ k : Fin 1024, H m c (ix2 (row t i) k) * WG m c (ix2 k (col t j))) := by
  blk_simp [iblk]
  entry_read
  pointwise
  blk_point [idx t]
theorem blk_up (c : Dev nD) (t : Fin cfg0.N) (i : Fin 1024) (j : Fin 1408) :
    iblk m c 3 t (ix2 i j) = (show EReal from ∑ k : Fin 1024, H m c (ix2 (row t i) k) * WU m c (ix2 k (col t j))) := by
  blk_simp [iblk]
  entry_read
  pointwise
  blk_point [idx t]

/-- The gate's gradient as the reference writes it: the sum of the two factors' shares. -/
def gateGrad (a u g : EReal) : EReal := a * u * sig g + g * (a * u) * (sig g * (1 - sig g))

section
open Cert.FfnRefIdeal.Read
theorem ref0 (h : FVec Ideal S4096x1024 .f32) (wg wu : FVec Ideal S1024x2816 .f32) (wd : FVec Ideal S2816x1024 .f32)
    (dd : FVec Ideal S4096x1024 .f32) (r : Fin 4096) (l : Fin 2816) :
    val_main_v12 (F := Ideal) h wg wu wd dd (ix3 (0 : Fin 2) r l)
      = gateGrad (∑ k, dd (ix2 r k) * wd (ix2 l k)) (∑ k, h (ix2 r k) * wu (ix2 k l)) (∑ k, h (ix2 r k) * wg (ix2 k l)) := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12]
  rfl
theorem ref1 (h : FVec Ideal S4096x1024 .f32) (wg wu : FVec Ideal S1024x2816 .f32) (wd : FVec Ideal S2816x1024 .f32)
    (dd : FVec Ideal S4096x1024 .f32) (r : Fin 4096) (l : Fin 2816) :
    val_main_v12 (F := Ideal) h wg wu wd dd (ix3 (1 : Fin 2) r l)
      = (∑ k, h (ix2 r k) * wg (ix2 k l)) * sig (∑ k, h (ix2 r k) * wg (ix2 k l)) * ∑ k, dd (ix2 r k) * wd (ix2 l k) := by
  pointwise [val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12]
  rfl
end

/-- The kernel's form of the gate's gradient is the reference's, the two factors before it being finite. -/
theorem gate_eq (a u : ℝ) (g : EReal) :
    (a : EReal) * u * (sig g * (1 + g * (1 - sig g))) = gateGrad a u g := by
  unfold gateGrad
  induction g using EReal.rec with
  | bot => simp [sig_bot]
  | top =>
    rw [sig_top, show (1 : EReal) - 1 = 0 by rw [← EReal.coe_one, ← EReal.coe_sub]; simp]
    simp
  | coe r => rw [sig_coe]; norm_cast; ring

/-- The precondition, read: the four arguments it names are real arrays. -/
theorem reals (c : Dev nD) (h : Pre_FfnBwdIdeal_ffn_finite m) :
    (∃ x : S4096x1024.Idx → ℝ, H m c = fun i => (x i : EReal)) ∧ (∃ x : S1024x2816.Idx → ℝ, WU m c = fun i => (x i : EReal))
    ∧ (∃ x : S2816x1024.Idx → ℝ, WD m c = fun i => (x i : EReal)) ∧ (∃ x : S4096x1024.Idx → ℝ, DD m c = fun i => (x i : EReal)) := by
  have h := h c
  simp only [Cert.Pre_ffn_finite.fn, Prod.mk.injEq] at h
  exact ⟨real_array _ _ h.1, real_array _ _ h.2.1, real_array _ _ h.2.2.1, real_array _ _ h.2.2.2⟩

theorem final (c : Dev nD) (hpre : Pre_FfnBwdIdeal_ffn_finite m) : (dats m 0 c).arrAt 4 (cfgs 0).N
    = Cert.FfnRefIdeal.Read.val_main_v12 (F := Ideal) (H m c) (WG m c) (WU m c) (WD m c) (DD m c) := by
  obtain ⟨⟨h, hH⟩, ⟨wu, hWU⟩, ⟨wd, hWD⟩, ⟨dd, hDD⟩⟩ := reals m c hpre
  refine (dats m 0 c).arrAt_eq_of_covers 4 _ (by decide +kernel) fun t _ y => ?_
  blk_simp
  rw [after0_4]
  canon_tiles x h
  · idx_vars x
    have hi : (win0_4.blk t).view.emb y = ix3 (1 : Fin 2) (row t x1) (col t x2) := by
      blk_ext [idx t, h0, h1, h2]
    rw [hi, ref1]
    open_payloads
    pointwise [blk_dd, blk_w, blk_gate, blk_up]
    rw [sub_eq_add_neg, zero_add, mul_comm]
    rfl
  · idx_vars x
    have hi : (win0_4.blk t).view.emb y = ix3 (0 : Fin 2) (row t x1) (col t x2) := by
      blk_ext [idx t, h0, h1, h2]
    rw [hi, ref0]
    open_payloads
    pointwise [blk_dd, blk_w, blk_gate, blk_up]
    rw [sub_eq_add_neg (0 : EReal), zero_add, hH, hWU, hWD, hDD]
    simp only [← EReal.coe_mul, ← coe_sum]
    exact gate_eq _ _ _

end Cert.FfnOwn

end
-- ==== Proof.ForgetValue.lean ====
module

public import proofs.«01_k».proof.Proof.Gen.ForgetBwdIdeal.Value
public import proofs.«01_k».proof.Proof.Gen.ForgetRefIdeal.Read
public import Idealize.ShloMosaic.Lib.Pipeline.ValueKit
public import Idealize.ShloMosaic.Lib.Pointwise
public import Idealize.ShloMosaic.Lib.WordCmp
public import Idealize.ShloMosaic.Lib.Pipeline.ReadBack
public import proofs.«01_k».proof.Proof.Reals
public import proofs.«01_k».proof.Proof.Gen.Pre_forget_finite
public import proofs.«01_k».proof.Defs

@[expose] public section

set_option maxRecDepth 16384

noncomputable section

open Idealize.ShloMosaic Idealize.ShloMosaic.TcCoe Idealize.SL.Sem
open Idealize.ShloMosaic.Pipeline (Dat)

namespace Cert.ForgetOwn

open Cert Cert.Reals Cert.ForgetBwdIdeal Cert.ForgetBwdIdeal.Gen

variable (m : (ℓ : Loc nD τ sig) → Buf (Elt Ideal) ℓ)

theorem idx : ∀ t : Fin cfg0.N, win0_0.index t = ![7 - t.val, 32] ∧ win0_1.index t = ![0, 0]
    ∧ win0_2.index t = ![7 - t.val, 0] ∧ win0_3.index t = ![7 - t.val, 8] ∧ win0_4.index t = ![0, 0] :=
  (by decide +kernel : ∀ t : Fin grid0.N, _)

/-- The row of the array that row `i` of the block at point `t` is. -/
abbrev row (t : Fin cfg0.N) (i : Fin 512) : Fin 4096 := ⟨(7 - t.val) * 512 + i.val, by have := lt_of_lt_of_eq t.isLt N_0; omega⟩

/-- The arguments, at their literal types. -/
abbrev FL (c : Dev nD) : FVec Ideal S4096x8 .f32 := m ((c : Thread nD τ).loc main_arg0)
abbrev BF (c : Dev nD) : FVec Ideal S8 .f32 := m ((c : Thread nD τ).loc main_arg1)
abbrev DC (c : Dev nD) : FVec Ideal S4096x8 .f32 := m ((c : Thread nD τ).loc main_arg2)
abbrev DP (c : Dev nD) : FVec Ideal S4096x7680 .bf16 := m ((c : Thread nD τ).loc main_arg3)

theorem zero_word : FloatOps.sitofp (F := Ideal) FTy.f32 (0#32 : BitVec 32) = (show EReal from 0) := by
  show (((0#32 : BitVec 32).toInt : ℝ) : EReal) = 0
  simp

theorem entry_f (c : Dev nD) (r : Fin 4096) (l : Fin 7680) : V m c main_v0 (ix2 r l)
    = (show EReal from if h : 4096 ≤ l.val ∧ l.val < 4104 then FL m c (ix2 r ⟨l.val - 4096, by omega⟩) else 0) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq]
  after_results
  pointwise
  by_cases h : 4096 ≤ l.val ∧ l.val < 4104
  · rw [dif_pos (⟨h.1, by omega⟩ : 4096 ≤ l.val ∧ l.val - 4096 < 8), dif_pos h]
  · rw [dif_neg (fun h' : 4096 ≤ l.val ∧ l.val - 4096 < 8 => h ⟨h'.1, by omega⟩), dif_neg h, zero_word]

theorem entry_b (c : Dev nD) (r : Fin 1) (l : Fin 128) : V m c main_v2 (ix2 r l)
    = (show EReal from if h : l.val < 8 then BF m c (ix1 ⟨l.val, h⟩) else 0) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq]
  after_results
  pointwise
  by_cases h : l.val < 8
  · rw [dif_pos h, dif_pos h]
  · rw [dif_neg h, dif_neg h, zero_word]

theorem entry_d (c : Dev nD) (r : Fin 4096) (l : Fin 128) : V m c main_v3 (ix2 r l)
    = (show EReal from if h : l.val < 8 then DC m c (ix2 r ⟨l.val, h⟩) else 0) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq]
  after_results
  pointwise
  by_cases h : l.val < 8
  · rw [dif_pos h, dif_pos h]
  · rw [dif_neg h, dif_neg h, zero_word]

theorem entry_p (c : Dev nD) (r : Fin 4096) (l : Fin 7680) : V m c main_v4_0 (ix2 r l) = (show EReal from DP m c (ix2 r l)) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.nullary, StableHlo.TRef.unary, StableHlo.TRef.toBuf, StableHlo.TRef.ofBuf, cast_eq]
  after_results
  pointwise
  rfl

theorem tri_at (i k : Fin 128) : k0_pay6 (F := Ideal) (ix2 i k) = (show EReal from if i.val ≤ k.val then 1 else 0) := by
  pointwise [k0_pay6]
  rw [WordCmp.cmpi_sle_ofNat (by omega) (by omega)]
  by_cases h : i.val ≤ k.val
  · rw [decide_eq_true h, if_pos h]; rfl
  · rw [decide_eq_false h, if_neg h]; rfl

/-- The sum of the entries from `n` on. -/
def suf {M : Type} [AddCommMonoid M] (D : ℕ → M) (n : ℕ) : M := ∑ s ∈ Finset.Ico n 4096, D s

theorem suf_split {M : Type} [AddCommMonoid M] (D : ℕ → M) (b n : ℕ) (h : b + n ≤ 4096) :
    (∑ k : Fin n, D (b + k.val)) + suf D (b + n) = suf D b := by
  rw [suf, suf, ← Finset.sum_Ico_consecutive D (by omega : b ≤ b + n) h]
  congr 1
  rw [Finset.sum_Ico_eq_sum_range, Nat.add_sub_cancel_left, Finset.sum_range]

theorem suf_part (D : ℕ → ℝ) (b n : ℕ) (i : Fin n) (h : b + n ≤ 4096) :
    (∑ k : Fin n, if i.val ≤ k.val then D (b + k.val) else 0) + suf D (b + n) = suf D (b + i.val) := by
  rw [suf, suf, ← Finset.sum_Ico_consecutive D (by omega : b + i.val ≤ b + n) h]
  congr 1
  rw [Finset.sum_fin_eq_sum_range, Finset.sum_Ico_eq_sum_range, show b + n - (b + i.val) = n - i.val by omega,
    ← Finset.sum_subset (s₁ := Finset.Ico i.val n) (fun x hx => Finset.mem_range.2 (Finset.mem_Ico.1 hx).2),
    Finset.sum_Ico_eq_sum_range]
  · refine Finset.sum_congr rfl fun x hx => ?_
    have := Finset.mem_range.1 hx
    rw [dif_pos (by omega), if_pos (by simp), add_assoc]
  · intro x hx hn
    have := Finset.mem_range.1 hx
    rw [dif_pos this, if_neg (fun h' => hn (Finset.mem_Ico.2 ⟨h', this⟩))]

/-- The three products with the triangle, over exact entries: the sum from row `i` of the chunk on. -/
theorem tri_sum (D : ℕ → ℝ) (b : ℕ) (hb : b + 128 ≤ 4096) (X : Fin 128 → EReal) (hX : ∀ k, X k = (D (b + k.val) : EReal))
    (r : EReal) (hr : r = ((suf D (b + 128) : ℝ) : EReal)) (i : Fin 128) :
    ∑ k : Fin 128, (if i.val ≤ k.val then 1 else 0) * X k
      + ∑ k : Fin 128, (if i.val ≤ k.val then 1 else 0) * (X k - X k)
      + ∑ k : Fin 128, (if i.val ≤ k.val then 1 else 0) * (X k - X k - (X k - X k)) + r
      = ((suf D (b + i.val) : ℝ) : EReal) := by
  have e0 : ∀ k : Fin 128, X k - X k = 0 := fun k => by
    rw [hX, ← EReal.coe_sub, sub_self, EReal.coe_zero]
  have e1 : ∀ k : Fin 128, (if i.val ≤ k.val then (1 : EReal) else 0) * X k
      = ((if i.val ≤ k.val then D (b + k.val) else 0 : ℝ) : EReal) := fun k => by
    rw [hX]; split <;> simp
  simp only [e0, sub_zero, mul_zero, Finset.sum_const_zero, add_zero, e1]
  rw [← coe_sum, hr, ← EReal.coe_add, suf_part D b 128 i hb]

/-- The derivative of the logarithm of the sigmoid, as the kernel evaluates it. -/
def sgn (z : EReal) : EReal :=
  Ideal.div (if 0 ≤ z then Ideal.exp (0 - FloatOps.absf (F := Ideal) (φ := .f32) z) else 1) (1 + Ideal.exp (0 - FloatOps.absf (F := Ideal) (φ := .f32) z))

/-- The gradient of lane `l` at row `s`. -/
def wgt (D : Fin 128 → ℕ → ℝ) (Z : Fin 128 → ℕ → EReal) (l : Fin 128) (s : ℕ) : EReal :=
  if l.val < 8 then ((suf (D l) s : ℝ) : EReal) * sgn (Z l s) else 0

theorem lane_select (l : Fin 128) (a : EReal) :
    Scalar.select (IntOp.cmpi CmpIPredicate.slt (BitVec.ofNat 32 l.val) 8#32) a (0 : EReal) = if l.val < 8 then a else 0 := by
  rw [show (8#32 : BitVec 32) = BitVec.ofNat 32 8 from rfl, WordCmp.cmpi_slt_ofNat (by omega) (by omega)]
  by_cases h : l.val < 8
  · rw [decide_eq_true h, if_pos h]; rfl
  · rw [decide_eq_false h, if_neg h]; rfl

section Chunk

variable (D : Fin 128 → ℕ → ℝ) (Z : Fin 128 → ℕ → EReal) (b : ℕ) (hb : b + 128 ≤ 4096)
  (X f : FVec Ideal S128x128 .f32) (B R A : FVec Ideal S1x128 .f32)
  (hX : ∀ k l : Fin 128, X (ix2 k l) = (show EReal from (D l (b + k.val) : ℝ)))
  (hR : ∀ l : Fin 128, R (ix2 0 l) = (show EReal from (suf (D l) (b + 128) : ℝ)))
  (hZ : ∀ k l : Fin 128, (show EReal from f (ix2 k l)) + B (ix2 0 l) = Z l (b + k.val))
  (hA : ∀ l : Fin 128, A (ix2 0 l) = suf (wgt D Z l) (b + 128))

include hb hX hR in
theorem dl9 (i l : Fin 128) : k0_pay9 (F := Ideal) X R (ix2 i l) = (show EReal from (suf (D l) (b + i.val) : ℝ)) := by
  pointwise [k0_pay9, tri_at]
  exact tri_sum (D l) b hb (fun k => X (ix2 k l)) (fun k => hX k l) _ (hR l) i

include hb hX hR in
theorem dl20 (i l : Fin 128) : k0_pay20 (F := Ideal) k0_pay6 (k0_pay18 X) (k0_pay19 k0_pay6 X) (constant S128x128 FTy.f32 0#32) R (ix2 i l) = (show EReal from (suf (D l) (b + i.val) : ℝ)) := by
  pointwise [k0_pay20, k0_pay18, k0_pay19, k0_pay15, k0_pay16, k0_pay17, k0_pay14, tri_at]
  exact tri_sum (D l) b hb (fun k => X (ix2 k l)) (fun k => hX k l) _ (hR l) i

include hb hX hR in
theorem dl25 (i l : Fin 128) : k0_pay25 (F := Ideal) k0_pay6 X R (ix2 i l) = (show EReal from (suf (D l) (b + i.val) : ℝ)) := by
  pointwise [k0_pay25, tri_at]
  exact tri_sum (D l) b hb (fun k => X (ix2 k l)) (fun k => hX k l) _ (hR l) i

include hb hX hR in
theorem dl30 (i l : Fin 128) : k0_pay30 (F := Ideal) k0_pay6 X R (ix2 i l) = (show EReal from (suf (D l) (b + i.val) : ℝ)) := by
  pointwise [k0_pay30, tri_at]
  exact tri_sum (D l) b hb (fun k => X (ix2 k l)) (fun k => hX k l) _ (hR l) i

include hb hX hR in
theorem run10 (l : Fin 128) : k0_pay10 (F := Ideal) X R (ix2 0 l) = (show EReal from (suf (D l) b : ℝ)) := by
  pointwise [k0_pay10]
  exact dl9 D b hb X R hX hR 0 l

include hb hX hR in
theorem run21 (l : Fin 128) : k0_pay21 (F := Ideal) k0_pay6 (k0_pay18 X) (k0_pay19 k0_pay6 X) (constant S128x128 FTy.f32 0#32) R (ix2 0 l) = (show EReal from (suf (D l) b : ℝ)) := by
  pointwise [k0_pay21]
  exact dl20 D b hb X R hX hR 0 l

include hb hX hR in
theorem run26 (l : Fin 128) : k0_pay26 (F := Ideal) k0_pay6 X R (ix2 0 l) = (show EReal from (suf (D l) b : ℝ)) := by
  pointwise [k0_pay26]
  exact dl25 D b hb X R hX hR 0 l

include hb hX hR in
theorem run31 (l : Fin 128) : k0_pay31 (F := Ideal) k0_pay6 X R (ix2 0 l) = (show EReal from (suf (D l) b : ℝ)) := by
  pointwise [k0_pay31]
  exact dl30 D b hb X R hX hR 0 l

include hb hX hR hZ in
theorem df11 (i l : Fin 128) : k0_pay11 (F := Ideal) (k0_pay7 B) (iota Kind.tc S128x128 32 [1] iota_S128x128_d1_w32) (k0_pay9 X R) f (ix2 i l) = wgt D Z l (b + i.val) := by
  pointwise [k0_pay11, k0_pay7]
  rw [lane_select]
  refine if_congr Iff.rfl ?_ rfl
  rw [show (f (ix2 i l) : EReal) + B (ix2 0 l) = Z l (b + i.val) from hZ i l, dl9 D b hb X R hX hR i l]
  rfl

include hb hX hR hZ in
theorem df22 (i l : Fin 128) : k0_pay22 (F := Ideal) k0_pay6 (k0_pay7 B) (iota Kind.tc S128x128 32 [1] iota_S128x128_d1_w32) (k0_pay18 X) (k0_pay19 k0_pay6 X) (constant S128x128 FTy.f32 0#32) R f (ix2 i l) = wgt D Z l (b + i.val) := by
  pointwise [k0_pay22, k0_pay7]
  rw [lane_select]
  refine if_congr Iff.rfl ?_ rfl
  rw [show (f (ix2 i l) : EReal) + B (ix2 0 l) = Z l (b + i.val) from hZ i l, dl20 D b hb X R hX hR i l]
  rfl

include hb hX hR hZ in
theorem df27 (i l : Fin 128) : k0_pay27 (F := Ideal) k0_pay6 (k0_pay7 B) (iota Kind.tc S128x128 32 [1] iota_S128x128_d1_w32) X R f (ix2 i l) = wgt D Z l (b + i.val) := by
  pointwise [k0_pay27, k0_pay7]
  rw [lane_select]
  refine if_congr Iff.rfl ?_ rfl
  rw [show (f (ix2 i l) : EReal) + B (ix2 0 l) = Z l (b + i.val) from hZ i l, dl25 D b hb X R hX hR i l]
  rfl

include hb hX hR hZ in
theorem df1 (i l : Fin 128) : k0_pay1 (F := Ideal) (iota Kind.tc S128x128 32 [1] iota_S128x128_d1_w32) (k0_pay30 k0_pay6 X R) (k0_pay33 (k0_pay7 B) f) (k0_pay34 (F := Ideal) (k0_pay7 B) f) (ix2 i l) = wgt D Z l (b + i.val) := by
  pointwise [k0_pay1, k0_pay33, k0_pay34, k0_pay32, k0_pay7]
  rw [lane_select]
  refine if_congr Iff.rfl ?_ rfl
  rw [show (f (ix2 i l) : EReal) + B (ix2 0 l) = Z l (b + i.val) from hZ i l, dl30 D b hb X R hX hR i l]
  rfl

include hb hX hR hZ in
theorem bf12 (i l : Fin 128) : k0_pay12 (F := Ideal) (k0_pay7 B) (iota Kind.tc S128x128 32 [1] iota_S128x128_d1_w32) (k0_pay9 X R) f (ix2 i l) = wgt D Z l (b + i.val) := by
  pointwise [k0_pay12]
  exact df11 D Z b hb X f B R hX hR hZ i l

include hb hX hR hZ in
theorem bf23 (i l : Fin 128) : k0_pay23 (F := Ideal) k0_pay6 (k0_pay7 B) (iota Kind.tc S128x128 32 [1] iota_S128x128_d1_w32) (k0_pay18 X) (k0_pay19 k0_pay6 X) (constant S128x128 FTy.f32 0#32) R f (ix2 i l) = wgt D Z l (b + i.val) := by
  pointwise [k0_pay23]
  exact df22 D Z b hb X f B R hX hR hZ i l

include hb hX hR hZ in
theorem bf28 (i l : Fin 128) : k0_pay28 (F := Ideal) k0_pay6 (k0_pay7 B) (iota Kind.tc S128x128 32 [1] iota_S128x128_d1_w32) X R f (ix2 i l) = wgt D Z l (b + i.val) := by
  pointwise [k0_pay28]
  exact df27 D Z b hb X f B R hX hR hZ i l

include hb hX hR hZ in
theorem bf2 (i l : Fin 128) : k0_pay2 (F := Ideal) (iota Kind.tc S128x128 32 [1] iota_S128x128_d1_w32) (k0_pay30 k0_pay6 X R) (k0_pay33 (k0_pay7 B) f) (k0_pay34 (F := Ideal) (k0_pay7 B) f) (ix2 i l) = wgt D Z l (b + i.val) := by
  pointwise [k0_pay2]
  exact df1 D Z b hb X f B R hX hR hZ i l

include hb hX hR hZ hA in
theorem acc13 (l : Fin 128) : k0_pay13 (F := Ideal) (k0_pay7 B) (iota Kind.tc S128x128 32 [1] iota_S128x128_d1_w32) (k0_pay9 X R) f A (ix2 0 l) = suf (wgt D Z l) b := by
  pointwise [k0_pay13]
  rw [hA, Finset.sum_congr rfl (fun x _ => df11 D Z b hb X f B R hX hR hZ x l), add_comm]
  exact suf_split _ b 128 hb

include hb hX hR hZ hA in
theorem acc24 (l : Fin 128) : k0_pay24 (F := Ideal) k0_pay6 (k0_pay7 B) (iota Kind.tc S128x128 32 [1] iota_S128x128_d1_w32) (k0_pay18 X) (k0_pay19 k0_pay6 X) (constant S128x128 FTy.f32 0#32) R f A (ix2 0 l) = suf (wgt D Z l) b := by
  pointwise [k0_pay24]
  rw [hA, Finset.sum_congr rfl (fun x _ => df22 D Z b hb X f B R hX hR hZ x l), add_comm]
  exact suf_split _ b 128 hb

include hb hX hR hZ hA in
theorem acc29 (l : Fin 128) : k0_pay29 (F := Ideal) (k0_pay27 k0_pay6 (k0_pay7 B) (iota Kind.tc S128x128 32 [1] iota_S128x128_d1_w32) X R f) A (ix2 0 l) = suf (wgt D Z l) b := by
  pointwise [k0_pay29]
  rw [hA, Finset.sum_congr rfl (fun x _ => df27 D Z b hb X f B R hX hR hZ x l), add_comm]
  exact suf_split _ b 128 hb

include hb hX hR hZ hA in
theorem acc3 (l : Fin 128) : k0_pay3 (F := Ideal) (iota Kind.tc S128x128 32 [1] iota_S128x128_d1_w32) (k0_pay30 k0_pay6 X R) (k0_pay33 (k0_pay7 B) f) (k0_pay34 (F := Ideal) (k0_pay7 B) f) A (ix2 0 l) = suf (wgt D Z l) b := by
  pointwise [k0_pay3]
  rw [hA, Finset.sum_congr rfl (fun x _ => df1 D Z b hb X f B R hX hR hZ x l), add_comm]
  exact suf_split _ b 128 hb

end Chunk

section Four

variable (D : Fin 128 → ℕ → ℝ) (Z : Fin 128 → ℕ → EReal) (b : ℕ) (hb : b + 512 ≤ 4096)
  (X0 X1 X2 X3 f0 f1 f2 f3 : FVec Ideal S128x128 .f32) (B R A : FVec Ideal S1x128 .f32)
  (h0 : ∀ k l : Fin 128, X0 (ix2 k l) = (show EReal from (D l (b + 0 + k.val) : ℝ)))
  (h1 : ∀ k l : Fin 128, X1 (ix2 k l) = (show EReal from (D l (b + 128 + k.val) : ℝ)))
  (h2 : ∀ k l : Fin 128, X2 (ix2 k l) = (show EReal from (D l (b + 256 + k.val) : ℝ)))
  (h3 : ∀ k l : Fin 128, X3 (ix2 k l) = (show EReal from (D l (b + 384 + k.val) : ℝ)))
  (hR : ∀ l : Fin 128, R (ix2 0 l) = (show EReal from (suf (D l) (b + 512) : ℝ)))
  (g0 : ∀ k l : Fin 128, (show EReal from f0 (ix2 k l)) + B (ix2 0 l) = Z l (b + 0 + k.val))
  (g1 : ∀ k l : Fin 128, (show EReal from f1 (ix2 k l)) + B (ix2 0 l) = Z l (b + 128 + k.val))
  (g2 : ∀ k l : Fin 128, (show EReal from f2 (ix2 k l)) + B (ix2 0 l) = Z l (b + 256 + k.val))
  (g3 : ∀ k l : Fin 128, (show EReal from f3 (ix2 k l)) + B (ix2 0 l) = Z l (b + 384 + k.val))
  (hA : ∀ l : Fin 128, A (ix2 0 l) = suf (wgt D Z l) (b + 512))

include hb h3 hR in
theorem r3 (l : Fin 128) : k0_pay10 (F := Ideal) X3 R (ix2 0 l) = (show EReal from (suf (D l) (b + 384) : ℝ)) :=
  run10 D (b + 384) (by omega) X3 _ h3 hR l

include hb h3 hR g3 in
theorem p3 (i l : Fin 128) : k0_pay12 (F := Ideal) (k0_pay7 (F := Ideal) B) (iota Kind.tc S128x128 32 [1] iota_S128x128_d1_w32) (k0_pay9 (F := Ideal) X3 R) f3 (ix2 i l) = wgt D Z l ((b + 384) + i.val) :=
  bf12 D Z (b + 384) (by omega) X3 f3 B _ h3 hR g3 i l

include hb h3 hR g3 hA in
theorem a3 (l : Fin 128) : k0_pay13 (F := Ideal) (k0_pay7 (F := Ideal) B) (iota Kind.tc S128x128 32 [1] iota_S128x128_d1_w32) (k0_pay9 (F := Ideal) X3 R) f3 A (ix2 0 l) = suf (wgt D Z l) (b + 384) :=
  acc13 D Z (b + 384) (by omega) X3 f3 B _ _ h3 hR g3 hA l

include hb h2 h3 hR in
theorem r2 (l : Fin 128) : k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R) (ix2 0 l) = (show EReal from (suf (D l) (b + 256) : ℝ)) :=
  run21 D (b + 256) (by omega) X2 _ h2 (fun l => r3 D b hb X3 R h3 hR l) l

include hb h2 h3 hR g2 in
theorem p2 (i l : Fin 128) : k0_pay23 (F := Ideal) (k0_pay6 (F := Ideal)) (k0_pay7 (F := Ideal) B) (iota Kind.tc S128x128 32 [1] iota_S128x128_d1_w32) (k0_pay18 (F := Ideal) X2) (k0_pay19 (F := Ideal) (k0_pay6 (F := Ideal)) X2) (constant S128x128 FTy.f32 0#32) (k0_pay10 (F := Ideal) X3 R) f2 (ix2 i l) = wgt D Z l ((b + 256) + i.val) :=
  bf23 D Z (b + 256) (by omega) X2 f2 B _ h2 (fun l => r3 D b hb X3 R h3 hR l) g2 i l

include hb h2 h3 hR g2 g3 hA in
theorem a2 (l : Fin 128) : k0_pay24 (F := Ideal) (k0_pay6 (F := Ideal)) (k0_pay7 (F := Ideal) B) (iota Kind.tc S128x128 32 [1] iota_S128x128_d1_w32) (k0_pay18 (F := Ideal) X2) (k0_pay19 (F := Ideal) (k0_pay6 (F := Ideal)) X2) (constant S128x128 FTy.f32 0#32) (k0_pay10 (F := Ideal) X3 R) f2 (k0_pay13 (F := Ideal) (k0_pay7 (F := Ideal) B) (iota Kind.tc S128x128 32 [1] iota_S128x128_d1_w32) (k0_pay9 (F := Ideal) X3 R) f3 A) (ix2 0 l) = suf (wgt D Z l) (b + 256) :=
  acc24 D Z (b + 256) (by omega) X2 f2 B _ _ h2 (fun l => r3 D b hb X3 R h3 hR l) g2 (fun l => a3 D Z b hb X3 f3 B R A h3 hR g3 hA l) l

include hb h1 h2 h3 hR in
theorem r1 (l : Fin 128) : k0_pay26 (F := Ideal) (k0_pay6 (F := Ideal)) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)) (ix2 0 l) = (show EReal from (suf (D l) (b + 128) : ℝ)) :=
  run26 D (b + 128) (by omega) X1 _ h1 (fun l => r2 D b hb X2 X3 R h2 h3 hR l) l

include hb h1 h2 h3 hR g1 in
theorem p1 (i l : Fin 128) : k0_pay28 (F := Ideal) (k0_pay6 (F := Ideal)) (k0_pay7 (F := Ideal) B) (iota Kind.tc S128x128 32 [1] iota_S128x128_d1_w32) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)) f1 (ix2 i l) = wgt D Z l ((b + 128) + i.val) :=
  bf28 D Z (b + 128) (by omega) X1 f1 B _ h1 (fun l => r2 D b hb X2 X3 R h2 h3 hR l) g1 i l

include hb h1 h2 h3 hR g1 g2 g3 hA in
theorem a1 (l : Fin 128) : k0_pay29 (F := Ideal) (k0_pay27 (F := Ideal) (k0_pay6 (F := Ideal)) (k0_pay7 (F := Ideal) B) (iota Kind.tc S128x128 32 [1] iota_S128x128_d1_w32) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)) f1) (k0_pay24 (F := Ideal) (k0_pay6 (F := Ideal)) (k0_pay7 (F := Ideal) B) (iota Kind.tc S128x128 32 [1] iota_S128x128_d1_w32) (k0_pay18 (F := Ideal) X2) (k0_pay19 (F := Ideal) (k0_pay6 (F := Ideal)) X2) (constant S128x128 FTy.f32 0#32) (k0_pay10 (F := Ideal) X3 R) f2 (k0_pay13 (F := Ideal) (k0_pay7 (F := Ideal) B) (iota Kind.tc S128x128 32 [1] iota_S128x128_d1_w32) (k0_pay9 (F := Ideal) X3 R) f3 A)) (ix2 0 l) = suf (wgt D Z l) (b + 128) :=
  acc29 D Z (b + 128) (by omega) X1 f1 B _ _ h1 (fun l => r2 D b hb X2 X3 R h2 h3 hR l) g1 (fun l => a2 D Z b hb X2 X3 f2 f3 B R A h2 h3 hR g2 g3 hA l) l

include hb h0 h1 h2 h3 hR in
theorem r0 (l : Fin 128) : k0_pay31 (F := Ideal) (k0_pay6 (F := Ideal)) X0 (k0_pay26 (F := Ideal) (k0_pay6 (F := Ideal)) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R))) (ix2 0 l) = (show EReal from (suf (D l) (b + 0) : ℝ)) :=
  run31 D (b + 0) (by omega) X0 _ h0 (fun l => r1 D b hb X1 X2 X3 R h1 h2 h3 hR l) l

include hb h0 h1 h2 h3 hR g0 in
theorem p0 (i l : Fin 128) : k0_pay2 (F := Ideal) (iota Kind.tc S128x128 32 [1] iota_S128x128_d1_w32) (k0_pay30 (F := Ideal) (k0_pay6 (F := Ideal)) X0 (k0_pay26 (F := Ideal) (k0_pay6 (F := Ideal)) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)))) (k0_pay33 (F := Ideal) (k0_pay7 (F := Ideal) B) f0) (k0_pay34 (F := Ideal) (k0_pay7 (F := Ideal) B) f0) (ix2 i l) = wgt D Z l ((b + 0) + i.val) :=
  bf2 D Z (b + 0) (by omega) X0 f0 B _ h0 (fun l => r1 D b hb X1 X2 X3 R h1 h2 h3 hR l) g0 i l

include hb h0 h1 h2 h3 hR g0 g1 g2 g3 hA in
theorem a0 (l : Fin 128) : k0_pay3 (F := Ideal) (iota Kind.tc S128x128 32 [1] iota_S128x128_d1_w32) (k0_pay30 (F := Ideal) (k0_pay6 (F := Ideal)) X0 (k0_pay26 (F := Ideal) (k0_pay6 (F := Ideal)) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)))) (k0_pay33 (F := Ideal) (k0_pay7 (F := Ideal) B) f0) (k0_pay34 (F := Ideal) (k0_pay7 (F := Ideal) B) f0) (k0_pay29 (F := Ideal) (k0_pay27 (F := Ideal) (k0_pay6 (F := Ideal)) (k0_pay7 (F := Ideal) B) (iota Kind.tc S128x128 32 [1] iota_S128x128_d1_w32) X1 (k0_pay21 (F := Ideal) (k0_pay6 (F := Ideal)) (k0_pay18 (F := Ideal) X2) (k0_pay19 (F := Ideal) (k0_pay6 (F := Ideal)) X2) (constant S128x128 FTy.f32 0#32) (k0_pay10 (F := Ideal) X3 R)) f1) (k0_pay24 (F := Ideal) (k0_pay6 (F := Ideal)) (k0_pay7 (F := Ideal) B) (iota Kind.tc S128x128 32 [1] iota_S128x128_d1_w32) (k0_pay18 (F := Ideal) X2) (k0_pay19 (F := Ideal) (k0_pay6 (F := Ideal)) X2) (constant S128x128 FTy.f32 0#32) (k0_pay10 (F := Ideal) X3 R) f2 (k0_pay13 (F := Ideal) (k0_pay7 (F := Ideal) B) (iota Kind.tc S128x128 32 [1] iota_S128x128_d1_w32) (k0_pay9 (F := Ideal) X3 R) f3 A))) (ix2 0 l) = suf (wgt D Z l) (b + 0) :=
  acc3 D Z (b + 0) (by omega) X0 f0 B _ _ h0 (fun l => r1 D b hb X1 X2 X3 R h1 h2 h3 hR l) g0 (fun l => a1 D Z b hb X1 X2 X3 f1 f2 f3 B R A h1 h2 h3 hR g1 g2 g3 hA l) l

end Four

/-- The cotangent as a function of lane and row, zero off its lanes; -/
def D (c : Dev nD) (l : Fin 128) (s : ℕ) : ℝ := if h : l.val < 8 ∧ s < 4096 then (DC m c (ix2 ⟨s, h.2⟩ ⟨l.val, h.1⟩) : EReal).toReal else 0
/-- and the gate's argument. -/
def Z (c : Dev nD) (l : Fin 128) (s : ℕ) : EReal :=
  if h : l.val < 8 ∧ s < 4096 then (show EReal from FL m c (ix2 ⟨s, h.2⟩ ⟨l.val, h.1⟩) + BF m c (ix1 ⟨l.val, h.1⟩)) else 0

theorem blk_f (c : Dev nD) (t : Fin cfg0.N) (i : Fin 512) (l : Fin 128) : iblk m c 0 t (ix2 i l)
    = (show EReal from if h : l.val < 8 then FL m c (ix2 (row t i) ⟨l.val, h⟩) else 0) := by
  blk_simp [iblk]
  rw [show (win0_0.blk t).view.emb (ix2 i l) = ix2 (row t i) ⟨4096 + l.val, by omega⟩ by blk_ext [idx t], entry_f]
  by_cases h : l.val < 8
  · rw [dif_pos h]
    simp only [show 4096 ≤ 4096 + l.val ∧ 4096 + l.val < 4104 by omega, dif_pos, Nat.add_sub_cancel_left]
    simp
  · rw [dif_neg h]
    simp only [show ¬ (4096 ≤ 4096 + l.val ∧ 4096 + l.val < 4104) by omega, dif_neg]
    simp

theorem blk_b (c : Dev nD) (t : Fin cfg0.N) (i : Fin 1) (l : Fin 128) : iblk m c 1 t (ix2 i l)
    = (show EReal from if h : l.val < 8 then BF m c (ix1 ⟨l.val, h⟩) else 0) := by
  blk_simp [iblk]
  rw [show (win0_1.blk t).view.emb (ix2 i l) = ix2 i l by blk_ext [idx t], entry_b]

theorem blk_d (c : Dev nD) (t : Fin cfg0.N) (i : Fin 512) (l : Fin 128) : iblk m c 2 t (ix2 i l)
    = (show EReal from if h : l.val < 8 then DC m c (ix2 (row t i) ⟨l.val, h⟩) else 0) := by
  blk_simp [iblk]
  rw [show (win0_2.blk t).view.emb (ix2 i l) = ix2 (row t i) l by blk_ext [idx t], entry_d]

/-- The cotangent holds numbers. -/
def Num (c : Dev nD) : Prop := ∀ i : S4096x8.Idx, DC m c i = (show EReal from ((DC m c i : EReal).toReal : ℝ))

theorem blk_dD (c : Dev nD) (hd : Num m c) (t : Fin cfg0.N) (i : Fin 512) (l : Fin 128) (n : ℕ) (hn : n = (7 - t.val) * 512 + i.val) :
    iblk m c 2 t (ix2 i l) = (show EReal from (D m c l n : ℝ)) := by
  subst hn
  have ht := lt_of_lt_of_eq t.isLt N_0
  rw [blk_d, D]
  by_cases h : l.val < 8
  · rw [dif_pos h, dif_pos ⟨h, by omega⟩]; exact hd _
  · rw [dif_neg h, dif_neg (fun h' => h h'.1)]; rfl

theorem blk_fZ (c : Dev nD) (t : Fin cfg0.N) (i : Fin 512) (l : Fin 128) (n : ℕ) (hn : n = (7 - t.val) * 512 + i.val) :
    (show EReal from iblk m c 0 t (ix2 i l)) + iblk m c 1 t (ix2 0 l) = Z m c l n := by
  subst hn
  have ht := lt_of_lt_of_eq t.isLt N_0
  rw [blk_f, blk_b, Z]
  by_cases h : l.val < 8
  · rw [dif_pos h, dif_pos h, dif_pos ⟨h, by omega⟩]
  · rw [dif_neg h, dif_neg h, dif_neg (fun h' => h h'.1)]; exact zero_add _

theorem suf_end {M : Type} [AddCommMonoid M] (D : ℕ → M) (n : ℕ) (h : 4096 ≤ n) : suf D n = 0 := by
  rw [suf, Finset.Ico_eq_empty_of_le h, Finset.sum_empty]

theorem stateA2 (c : Dev nD) (hd : Num m c) (t : Fin cfg0.N) (b : ℕ) (hb : b = (7 - t.val) * 512) (h0 : t.val % 8 = 0) (l : Fin 128) :
    (outsAt0 m c t.val t.isLt).2.2 (ix2 0 l) = (show EReal from (suf (D m c l) (b + 0) : ℝ)) := by
  have ht := lt_of_lt_of_eq t.isLt N_0
  rw [outsAt0_A m c t h0]
  frame_out
  refine r0 (D m c) b (by omega) _ _ _ _ _ ?_ ?_ ?_ ?_ ?_ l
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intro l; rw [suf_end _ _ (by omega)]; pointwise [k0_pay4]; rfl

theorem stateA1 (c : Dev nD) (hd : Num m c) (t : Fin cfg0.N) (b : ℕ) (hb : b = (7 - t.val) * 512) (h0 : t.val % 8 = 0) (l : Fin 128) :
    (outsAt0 m c t.val t.isLt).2.1 (ix2 0 l) = suf (wgt (D m c) (Z m c) l) (b + 0) := by
  have ht := lt_of_lt_of_eq t.isLt N_0
  rw [outsAt0_A m c t h0]
  frame_out
  refine a0 (D m c) (Z m c) b (by omega) _ _ _ _ _ _ _ _ _ _ _ ?_ ?_ ?_ ?_ ?_ ?_ ?_ ?_ ?_ ?_ l
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intro l; rw [suf_end _ _ (by omega)]; pointwise [k0_pay4]; rfl
  · intros; pointwise; exact blk_fZ m c t _ _ _ (by simp only [hb] <;> omega)
  · intros; pointwise; exact blk_fZ m c t _ _ _ (by simp only [hb] <;> omega)
  · intros; pointwise; exact blk_fZ m c t _ _ _ (by simp only [hb] <;> omega)
  · intros; pointwise; exact blk_fZ m c t _ _ _ (by simp only [hb] <;> omega)
  · intro l; rw [suf_end _ _ (by omega)]; pointwise [k0_pay5]

theorem stateB2 (c : Dev nD) (hd : Num m c) (t : Fin cfg0.N) (b : ℕ) (hb : b = (7 - t.val) * 512) (h0 : ¬ t.val % 8 = 0)
    (hp2 : ∀ l : Fin 128, (outsAt0 m c (t.val - 1) (by omega)).2.2 (ix2 0 l) = (show EReal from (suf (D m c l) (b + 512) : ℝ)))
    (hp1 : ∀ l : Fin 128, (outsAt0 m c (t.val - 1) (by omega)).2.1 (ix2 0 l) = suf (wgt (D m c) (Z m c) l) (b + 512)) (l : Fin 128) :
    (outsAt0 m c t.val t.isLt).2.2 (ix2 0 l) = (show EReal from (suf (D m c l) (b + 0) : ℝ)) := by
  have ht := lt_of_lt_of_eq t.isLt N_0
  rw [outsAt0_B m c t h0]
  frame_out
  refine r0 (D m c) b (by omega) _ _ _ _ _ ?_ ?_ ?_ ?_ ?_ l
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intro l; rw [read_unread_whole]; exact hp2 l

theorem stateB1 (c : Dev nD) (hd : Num m c) (t : Fin cfg0.N) (b : ℕ) (hb : b = (7 - t.val) * 512) (h0 : ¬ t.val % 8 = 0)
    (hp2 : ∀ l : Fin 128, (outsAt0 m c (t.val - 1) (by omega)).2.2 (ix2 0 l) = (show EReal from (suf (D m c l) (b + 512) : ℝ)))
    (hp1 : ∀ l : Fin 128, (outsAt0 m c (t.val - 1) (by omega)).2.1 (ix2 0 l) = suf (wgt (D m c) (Z m c) l) (b + 512)) (l : Fin 128) :
    (outsAt0 m c t.val t.isLt).2.1 (ix2 0 l) = suf (wgt (D m c) (Z m c) l) (b + 0) := by
  have ht := lt_of_lt_of_eq t.isLt N_0
  rw [outsAt0_B m c t h0]
  frame_out
  refine a0 (D m c) (Z m c) b (by omega) _ _ _ _ _ _ _ _ _ _ _ ?_ ?_ ?_ ?_ ?_ ?_ ?_ ?_ ?_ ?_ l
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intros; pointwise; exact blk_dD m c hd t _ _ _ (by simp only [hb] <;> omega)
  · intro l; rw [read_unread_whole]; exact hp2 l
  · intros; pointwise; exact blk_fZ m c t _ _ _ (by simp only [hb] <;> omega)
  · intros; pointwise; exact blk_fZ m c t _ _ _ (by simp only [hb] <;> omega)
  · intros; pointwise; exact blk_fZ m c t _ _ _ (by simp only [hb] <;> omega)
  · intros; pointwise; exact blk_fZ m c t _ _ _ (by simp only [hb] <;> omega)
  · intro l; exact hp1 l

theorem state (c : Dev nD) (hd : Num m c) : ∀ (n : ℕ) (hn : n < cfg0.N),
    (∀ l : Fin 128, (outsAt0 m c n hn).2.2 (ix2 0 l) = (show EReal from (suf (D m c l) ((7 - n) * 512) : ℝ)))
    ∧ ∀ l : Fin 128, (outsAt0 m c n hn).2.1 (ix2 0 l) = suf (wgt (D m c) (Z m c) l) ((7 - n) * 512) := by
  intro n
  induction n with
  | zero => exact fun hn => ⟨fun l => stateA2 m c hd ⟨0, hn⟩ _ rfl rfl l, fun l => stateA1 m c hd ⟨0, hn⟩ _ rfl rfl l⟩
  | succ n ih =>
    intro hn
    have hN := lt_of_lt_of_eq hn N_0
    have hq := ih (by omega)
    have e : (7 - n) * 512 = (7 - (n + 1)) * 512 + 512 := by omega
    rw [e] at hq
    exact ⟨fun l => stateB2 m c hd ⟨n + 1, hn⟩ _ rfl (by simp only; omega) hq.1 hq.2 l,
      fun l => stateB1 m c hd ⟨n + 1, hn⟩ _ rfl (by simp only; omega) hq.1 hq.2 l⟩

/-- The block a point leaves: the gradients of the eight lanes, zero behind them. -/
def blkG (c : Dev nD) (b : ℕ) : FVec Ideal S512x512 .bf16 := fun y =>
  show EReal from if h : (y 1).val < 128 then wgt (D m c) (Z m c) ⟨(y 1).val, h⟩ (b + (y 0).val) else 0

theorem blkG_eq (c : Dev nD) (b : ℕ) (y : S512x512.Idx) (l : Fin 128) (n : ℕ) (h1 : (y 1).val = l.val) (h0 : b + (y 0).val = n) :
    blkG m c b y = wgt (D m c) (Z m c) l n := by
  subst h0
  rw [blkG]
  obtain ⟨l, hl⟩ := l
  simp only at h1
  subst h1
  exact dif_pos hl

/-- The four stored chunks cover the first 128 columns of the block. -/
theorem cover4 (w0 w1 w2 w3 : S128x128.Idx → Elt Ideal .bf16) (y : S512x512.Idx) (hy : (y 1).val < 128) :
    ∃ p ∈ ([⟨Rect.unit ![0, 0] ![128, 128] inb_S512x512_S128x128_0_0, w0⟩, ⟨Rect.unit ![128, 0] ![128, 128] inb_S512x512_S128x128_128_0, w1⟩,
      ⟨Rect.unit ![256, 0] ![128, 128] inb_S512x512_S128x128_256_0, w2⟩, ⟨Rect.unit ![384, 0] ![128, 128] inb_S512x512_S128x128_384_0, w3⟩] :
      List (View.Piece (Elt Ideal) S512x512 .bf16)), y ∈ p.1.set := by
  have h512 : (y 0).val < 512 := (y 0).isLt
  rcases (by omega : (y 0).val < 128 ∨ (128 ≤ (y 0).val ∧ (y 0).val < 256) ∨ (256 ≤ (y 0).val ∧ (y 0).val < 384) ∨ 384 ≤ (y 0).val) with h | h | h | h
  · refine ⟨_, List.mem_cons_self, ?_⟩
    rw [Rect.mem_set_unit]
    exact (Fin.forall_fin_two.2 ⟨⟨Nat.zero_le _, h⟩, ⟨Nat.zero_le _, hy⟩⟩)
  · refine ⟨_, List.mem_cons_of_mem _ List.mem_cons_self, ?_⟩
    rw [Rect.mem_set_unit]
    exact (Fin.forall_fin_two.2 ⟨⟨h.1, h.2⟩, ⟨Nat.zero_le _, hy⟩⟩)
  · refine ⟨_, List.mem_cons_of_mem _ (List.mem_cons_of_mem _ List.mem_cons_self), ?_⟩
    rw [Rect.mem_set_unit]
    exact (Fin.forall_fin_two.2 ⟨⟨h.1, h.2⟩, ⟨Nat.zero_le _, hy⟩⟩)
  · refine ⟨_, List.mem_cons_of_mem _ (List.mem_cons_of_mem _ (List.mem_cons_of_mem _ List.mem_cons_self)), ?_⟩
    rw [Rect.mem_set_unit]
    exact (Fin.forall_fin_two.2 ⟨⟨h, h512⟩, ⟨Nat.zero_le _, hy⟩⟩)

theorem blockA (c : Dev nD) (hd : Num m c) (t : Fin cfg0.N) (b : ℕ) (hb : b = (7 - t.val) * 512) (h0 : t.val % 8 = 0) (y : S512x512.Idx) :
    (outsAt0 m c t.val t.isLt).1 y = blkG m c b y := by
  have ht := lt_of_lt_of_eq t.isLt N_0
  rw [outsAt0_A m c t h0]
  frame_out
  by_cases hy : (y 1).val < 128
  · refine View.canon_append_of_piecesOf (Val := Elt Ideal) (e := .bf16) (blkG m c b) [_] [_, _, _, _] ⟨?_, ?_, ?_, ?_, trivial⟩ y ?_
    · intro x
      idx_vars x
      rw [blkG_eq m c b _ x1 (b + 0 + x0.val) (by blk_simp) (by blk_simp)]
      refine p0 (D m c) (Z m c) b (by omega) _ _ _ _ _ _ _ ?_ ?_ ?_ ?_ ?_ ?_ _ _
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intro l; rw [suf_end _ _ (by omega)]; pointwise [k0_pay4]; rfl
      · intros; pointwise; exact blk_fZ m c t _ _ _ (by simp only [hb] <;> omega)
    · intro x
      idx_vars x
      rw [blkG_eq m c b _ x1 (b + 128 + x0.val) (by blk_simp) (by blk_simp; omega)]
      refine p1 (D m c) (Z m c) b (by omega) _ _ _ _ _ _ ?_ ?_ ?_ ?_ ?_ _ _
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intro l; rw [suf_end _ _ (by omega)]; pointwise [k0_pay4]; rfl
      · intros; pointwise; exact blk_fZ m c t _ _ _ (by simp only [hb] <;> omega)
    · intro x
      idx_vars x
      rw [blkG_eq m c b _ x1 (b + 256 + x0.val) (by blk_simp) (by blk_simp; omega)]
      refine p2 (D m c) (Z m c) b (by omega) _ _ _ _ _ ?_ ?_ ?_ ?_ _ _
      · intros; pointwise; exact blk_dD m c hd t _ _ _ (by simp only [hb] <;> omega)
      · intros; pointwise; exact blk_dD m c hd t _ _ _ (by simp only [hb] <;> omega)
      · intro l; rw [suf_end _ _ (by omega)]; pointwise [k0_pay4]; rfl
      · intros; pointwise; exact blk_fZ m c t _ _ _ (by simp only [hb] <;> omega)
    · intro x
      idx_vars x
      rw [blkG_eq m c b _ x1 (b + 384 + x0.val) (by blk_simp) (by blk_simp; omega)]
      refine p3 (D m c) (Z m c) b (by omega) _ _ _ _ ?_ ?_ ?_ _ _
      · intros; pointwise; exact blk_dD m c hd t _ _ _ (by simp only [hb] <;> omega)
      · intro l; rw [suf_end _ _ (by omega)]; pointwise [k0_pay4]; rfl
      · intros; pointwise; exact blk_fZ m c t _ _ _ (by simp only [hb] <;> omega)
    · exact cover4 _ _ _ _ y hy
  · rw [View.canon_cons_of_not_mem, View.canon_cons_of_not_mem, View.canon_cons_of_not_mem, View.canon_cons_of_not_mem]
    · rw [blkG, dif_neg hy]
      frame_out
      pointwise [k0_pay8]
    all_goals (rw [Rect.mem_set_unit]; exact fun h => hy (h 1).2)

theorem blockB (c : Dev nD) (hd : Num m c) (t : Fin cfg0.N) (b : ℕ) (hb : b = (7 - t.val) * 512) (h0 : ¬ t.val % 8 = 0)
    (hp2 : ∀ l : Fin 128, (outsAt0 m c (t.val - 1) (by omega)).2.2 (ix2 0 l) = (show EReal from (suf (D m c l) (b + 512) : ℝ))) (y : S512x512.Idx) :
    (outsAt0 m c t.val t.isLt).1 y = blkG m c b y := by
  have ht := lt_of_lt_of_eq t.isLt N_0
  rw [outsAt0_B m c t h0]
  frame_out
  by_cases hy : (y 1).val < 128
  · refine View.canon_append_of_piecesOf (Val := Elt Ideal) (e := .bf16) (blkG m c b) [_] [_, _, _, _] ⟨?_, ?_, ?_, ?_, trivial⟩ y ?_
    · intro x
      idx_vars x
      rw [blkG_eq m c b _ x1 (b + 0 + x0.val) (by blk_simp) (by blk_simp)]
      refine p0 (D m c) (Z m c) b (by omega) _ _ _ _ _ _ _ ?_ ?_ ?_ ?_ ?_ ?_ _ _
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intro l; rw [read_unread_whole]; exact hp2 l
      · intros; pointwise; exact blk_fZ m c t _ _ _ (by simp only [hb] <;> omega)
    · intro x
      idx_vars x
      rw [blkG_eq m c b _ x1 (b + 128 + x0.val) (by blk_simp) (by blk_simp; omega)]
      refine p1 (D m c) (Z m c) b (by omega) _ _ _ _ _ _ ?_ ?_ ?_ ?_ ?_ _ _
      · intros; pointwise; exact blk_dD m c hd t _ _ _ (by simp only [hb] <;> omega)
      · intros; pointwise; exact blk_dD m c hd t _ _ _ (by simp only [hb] <;> omega)
      · intros; pointwise; exact blk_dD m c hd t _ _ _ (by simp only [hb] <;> omega)
      · intro l; rw [read_unread_whole]; exact hp2 l
      · intros; pointwise; exact blk_fZ m c t _ _ _ (by simp only [hb] <;> omega)
    · intro x
      idx_vars x
      rw [blkG_eq m c b _ x1 (b + 256 + x0.val) (by blk_simp) (by blk_simp; omega)]
      refine p2 (D m c) (Z m c) b (by omega) _ _ _ _ _ ?_ ?_ ?_ ?_ _ _
      · intros; pointwise; exact blk_dD m c hd t _ _ _ (by simp only [hb] <;> omega)
      · intros; pointwise; exact blk_dD m c hd t _ _ _ (by simp only [hb] <;> omega)
      · intro l; rw [read_unread_whole]; exact hp2 l
      · intros; pointwise; exact blk_fZ m c t _ _ _ (by simp only [hb] <;> omega)
    · intro x
      idx_vars x
      rw [blkG_eq m c b _ x1 (b + 384 + x0.val) (by blk_simp) (by blk_simp; omega)]
      refine p3 (D m c) (Z m c) b (by omega) _ _ _ _ ?_ ?_ ?_ _ _
      · intros; pointwise; exact blk_dD m c hd t _ _ _ (by simp only [hb] <;> omega)
      · intro l; rw [read_unread_whole]; exact hp2 l
      · intros; pointwise; exact blk_fZ m c t _ _ _ (by simp only [hb] <;> omega)
    · exact cover4 _ _ _ _ y hy
  · rw [View.canon_cons_of_not_mem, View.canon_cons_of_not_mem, View.canon_cons_of_not_mem, View.canon_cons_of_not_mem]
    · rw [blkG, dif_neg hy]
      frame_out
      pointwise [k0_pay8]
    all_goals (rw [Rect.mem_set_unit]; exact fun h => hy (h 1).2)

theorem block (c : Dev nD) (hd : Num m c) (t : Fin cfg0.N) (y : S512x512.Idx) :
    (outsAt0 m c t.val t.isLt).1 y = blkG m c ((7 - t.val) * 512) y := by
  have ht := lt_of_lt_of_eq t.isLt N_0
  by_cases h0 : t.val % 8 = 0
  · exact blockA m c hd t _ rfl h0 y
  · have hq := (state m c hd (t.val - 1) (by omega)).1
    rw [show (7 - (t.val - 1)) * 512 = (7 - t.val) * 512 + 512 by omega] at hq
    exact blockB m c hd t _ rfl h0 hq y

/-- The first result: the gradients of the eight gate columns, zero behind them, the columns of the array handed in elsewhere. -/
def OUT3 (c : Dev nD) : FVec Ideal S4096x7680 .bf16 := fun i =>
  show EReal from if h : 4096 ≤ (i 1).val ∧ (i 1).val < 4608 then
    (if h' : (i 1).val - 4096 < 128 then wgt (D m c) (Z m c) ⟨(i 1).val - 4096, h'⟩ (i 0).val else 0) else DP m c i

theorem entry_pi (c : Dev nD) (i : S4096x7680.Idx) : V m c main_v4_0 i = (show EReal from DP m c i) :=
  (congrArg (V m c main_v4_0) (eq_ix2 i)).trans ((entry_p m c (i 0) (i 1)).trans (congrArg (DP m c) (eq_ix2 i).symm))

theorem out3_eq (c : Dev nD) : OUT3 m c = fun i : S4096x7680.Idx => if 4096 ≤ (i 1).val ∧ (i 1).val < 4608 then
    (show FVec Ideal S4096x7680 .bf16 from fun i => show EReal from if h' : (i 1).val - 4096 < 128 then wgt (D m c) (Z m c) ⟨(i 1).val - 4096, h'⟩ (i 0).val else 0) i
    else V m c main_v4_0 i := by
  funext i
  by_cases h : 4096 ≤ (i 1).val ∧ (i 1).val < 4608
  · rw [if_pos h]; exact dif_pos h
  · rw [if_neg h]; exact (dif_neg h).trans (entry_pi m c i).symm

theorem final3 (c : Dev nD) (hd : Num m c) : (dats m 0 c).arrAt 3 (cfgs 0).N = OUT3 m c := by
  rw [out3_eq]
  refine (dats m 0 c).arrAt_eq_of_coversWhere 3 _ (fun β => β 1 = 8) (by decide +kernel) (fun t hf y => ?_)
    (fun j => by blk_simp [Pipeline.Window.cell_apply]; omega)
  blk_simp
  rw [after0_3]
  refine (block m c hd t y).trans ?_
  have e0 : win0_3.index t 0 = 7 - t.val := by rw [(idx t).2.2.2.1]; rfl
  have e1 : win0_3.index t 1 = 8 := by rw [(idx t).2.2.2.1]; rfl
  rw [blkG]
  have e2 : win0_3.index t 1 * 512 + (y 1).val - 4096 = (y 1).val := by omega
  simp only [e2, e0]

theorem last (c : Dev nD) (hd : Num m c) (n : ℕ) (hn : n < cfg0.N) (h : n = 7) (l : Fin 128) :
    (outsAt0 m c n hn).2.1 (ix2 0 l) = suf (wgt (D m c) (Z m c) l) 0 := by
  rw [(state m c hd n hn).2 l, h]

theorem final4 (c : Dev nD) (hd : Num m c) : (dats m 0 c).arrAt 4 (cfgs 0).N = (show FVec Ideal S1x128 .f32 from fun i => suf (wgt (D m c) (Z m c) (i 1)) 0) := by
  refine (dats m 0 c).arrAt_eq_of_after_last 4 t0_7 (by decide +kernel) _ fun j => ?_
  blk_simp
  rw [after0_4]
  idx_vars j
  rw [show j0 = 0 from Subsingleton.elim _ _]
  exact last m c hd t0_7.val t0_7.isLt rfl j1

end Cert.ForgetOwn
-- ==== Proof.ForgetRef.lean ====
module

public import proofs.«01_k».proof.Proof.ForgetValue

@[expose] public section

set_option maxRecDepth 16384

noncomputable section

open Idealize.ShloMosaic Idealize.ShloMosaic.TcCoe Idealize.SL.Sem

namespace Cert.ForgetOwn

open Cert Cert.Reals Cert.ForgetRefIdeal Cert.ForgetRefIdeal.Read

theorem foldl_add {n : ℕ} (f : Fin n → EReal) (v : EReal) : (List.finRange n).foldl (fun r k => r + f k) v = v + ∑ k, f k := by
  rw [← List.sum_ofFn, List.ofFn_eq_map]
  generalize List.finRange n = L
  induction L generalizing v with
  | nil => simp
  | cons a L ih => rw [List.foldl_cons, ih, List.map_cons, List.sum_cons, add_assoc]

/-- The window sum at an index, as a sum over the window's indices. -/
theorem window_sum {s t : Shape} (window strides lo hi : Fin s.rank → Nat) (h : s.ReduceWindows window strides lo hi t) (x : s.Idx → EReal) (v : EReal)
    (j : t.Idx) : Ideal.hostReduceWindowAdd window strides lo hi h x v j
    = v + ∑ i : (⟨s.rank, window⟩ : Shape).Idx,
      (if hin : ∀ a : Fin s.rank, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else v) := by
  unfold Ideal.hostReduceWindowAdd Host.reduceWindow
  rw [foldl_add]
  congr 1
  refine Eq.trans (Finset.sum_congr rfl fun k _ => ?_) (Equiv.sum_comp (Shape.rowMajor _).symm (fun i : (⟨s.rank, window⟩ : Shape).Idx =>
    (if hin : ∀ a : Fin s.rank, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else v)))
  congr

theorem init_zero (i : S_.Idx) : val_main_call2_call0_v0 (F := Ideal) i = (show EReal from 0) := by
  pointwise [val_main_call2_call0_v0, val_main_call2_call0_cst]

/-- One lane of the cotangent, zero past its rows. -/
def ext (x2 : FVec Ideal S4096x8 .f32) (l : Fin 8) (s : ℕ) : EReal := if h : s < 4096 then (show EReal from x2 (ix2 ⟨s, h⟩ l)) else 0

theorem v5 (x2 : FVec Ideal S4096x8 .f32) (r : Fin 4096) (l : Fin 8) : val_main_v5 (F := Ideal) x2 (ix2 r l) = (show EReal from suf (ext x2 l) r.val) := by
  unfold val_main_v5 Host.reduceWindowAdd
  rw [init_zero, Ideal.hostReduceWindowAdd_def, window_sum, zero_add]
  refine (sum_idx2 _).trans ?_
  have key : ∀ (a : Fin 4096) (b : Fin 1), (if hin : ∀ x : Fin 2, ![0, 0] x ≤ (ix2 r l x).val * ![1, 1] x + (ix2 a b x).val
      ∧ (ix2 r l x).val * ![1, 1] x + (ix2 a b x).val - ![0, 0] x < (S4096x8).size x
      then x2 (fun x => ⟨(ix2 r l x).val * ![1, 1] x + (ix2 a b x).val - ![0, 0] x, (hin x).2⟩) else (show EReal from 0)) = ext x2 l (r.val + a.val) := by
    intro a b
    by_cases h : r.val + a.val < 4096
    · rw [dif_pos (Fin.forall_fin_two.2 ⟨⟨Nat.zero_le _, by show r.val * 1 + a.val - 0 < 4096; omega⟩, ⟨Nat.zero_le _, by show l.val * 1 + b.val - 0 < 8; omega⟩⟩), ext, dif_pos h]
      refine congrArg x2 (funext fun x => ?_)
      match x with
      | ⟨0, _⟩ => exact Fin.ext (by show r.val * 1 + a.val - 0 = r.val + a.val; omega)
      | ⟨1, _⟩ => exact Fin.ext (by show l.val * 1 + b.val - 0 = l.val; omega)
    · rw [dif_neg (fun hin => h (by have := (hin 0).2; have e : r.val * 1 + a.val - 0 < 4096 := this; omega)), ext, dif_neg h]
  refine (Finset.sum_congr rfl fun a _ => (Finset.sum_congr rfl fun b _ => key a b).trans (Fin.sum_univ_one _)).trans ?_
  show ∑ a : Fin 4096, ext x2 l (r.val + a.val) = suf (ext x2 l) r.val
  rw [Finset.sum_fin_eq_sum_range, suf]
  have e1 : ∑ s ∈ Finset.Ico r.val (r.val + 4096), ext x2 l s = ∑ s ∈ Finset.Ico r.val 4096, ext x2 l s := by
    rw [← Finset.sum_Ico_consecutive (ext x2 l) r.isLt.le (by omega : 4096 ≤ r.val + 4096),
      Finset.sum_eq_zero (s := Finset.Ico 4096 (r.val + 4096)) (fun s hs => dif_neg (by have := (Finset.mem_Ico.1 hs).1; omega)), add_zero]
  rw [← e1, Finset.sum_Ico_eq_sum_range, Nat.add_sub_cancel_left]
  exact Finset.sum_congr rfl fun s hs => by rw [dif_pos (Finset.mem_range.1 hs)]

theorem coe_max (a b : ℝ) : max (a : EReal) (b : EReal) = ((max a b : ℝ) : EReal) := (EReal.coe_strictMono.monotone.map_max).symm

theorem sgn_coe (z : ℝ) : sgn (z : EReal) = (((if 0 ≤ z then Real.exp (-(max z (-z))) else 1) / (1 + Real.exp (-(max z (-z)))) : ℝ) : EReal) := by
  have h : (0 : EReal) - FloatOps.absf (F := Ideal) (φ := .f32) (z : EReal) = ((-(max z (-z)) : ℝ) : EReal) := by
    show (0 : EReal) - max (z : EReal) (-(z : EReal)) = _
    rw [← EReal.coe_neg, coe_max, sub_eq_add_neg, zero_add, ← EReal.coe_neg]
  unfold sgn
  rw [h, exp_coe, ← EReal.coe_one, ← EReal.coe_add]
  by_cases hz : 0 ≤ z
  · rw [if_pos (by exact_mod_cast hz), if_pos hz, div_coe _ _ (by positivity)]
  · rw [if_neg (by exact_mod_cast hz), if_neg hz, div_coe _ _ (by positivity)]

theorem sgn_top : sgn ⊤ = 0 := by
  have h : (0 : EReal) - FloatOps.absf (F := Ideal) (φ := .f32) (⊤ : EReal) = ⊥ := by
    show (0 : EReal) - max (⊤ : EReal) (-⊤) = ⊥
    simp
  unfold sgn
  rw [h, if_pos le_top, Ideal.exp_bot, add_zero]
  simp [Ideal.div]

theorem sgn_bot : sgn ⊥ = 1 := by
  have h : (0 : EReal) - FloatOps.absf (F := Ideal) (φ := .f32) (⊥ : EReal) = ⊥ := by
    show (0 : EReal) - max (⊥ : EReal) (-⊥) = ⊥
    simp
  unfold sgn
  rw [h, if_neg (by simp), Ideal.exp_bot, add_zero]
  simp [Ideal.div]

theorem sgn_real (z : ℝ) : Real.exp (-z - (max (-z) 0 + Real.log (1 + Real.exp (-(max (-z) z)))))
    = (if 0 ≤ z then Real.exp (-(max z (-z))) else 1) / (1 + Real.exp (-(max z (-z)))) := by
  rw [max_comm (-z) z, ← sub_sub, Real.exp_sub, Real.exp_log (by positivity)]
  congr 1
  split
  · rename_i h
    rw [max_eq_right (by linarith : -z ≤ 0), max_eq_left (by linarith : -z ≤ z), sub_zero]
  · rename_i h
    rw [max_eq_left (by linarith : (0 : ℝ) ≤ -z), sub_self, Real.exp_zero]

theorem exp_zero : Ideal.exp 0 = 1 := by rw [← EReal.coe_zero, exp_coe, Real.exp_zero, EReal.coe_one]

theorem log_one : Ideal.log 1 = 0 := by rw [← EReal.coe_one, log_coe 1 one_pos, Real.log_one, EReal.coe_zero]

/-- The reference's derivative of the logarithm of the sigmoid, at every extended real. -/
theorem back (S z : EReal) : -(-S * Ideal.exp ((if -z = ⊤ then 0 else -z)
      - if (if -z ≠ -z then -z else max (-z) 0 + Ideal.log1p (Ideal.exp (-FloatOps.absf (F := Ideal) (φ := .f32) (-z)))) = ⊤ then 0
        else if -z ≠ -z then -z else max (-z) 0 + Ideal.log1p (Ideal.exp (-FloatOps.absf (F := Ideal) (φ := .f32) (-z))))) = S * sgn z := by
  rw [if_neg (by simp : ¬ (-z ≠ -z)), EReal.neg_mul, neg_neg]
  congr 1
  show Ideal.exp ((if -z = ⊤ then 0 else -z) - if max (-z) 0 + Ideal.log1p (Ideal.exp (-(max (-z) (- -z)))) = ⊤ then 0
    else max (-z) 0 + Ideal.log1p (Ideal.exp (-(max (-z) (- -z))))) = sgn z
  unfold Ideal.log1p
  induction z using EReal.rec with
  | bot =>
    rw [sgn_bot]
    have := log_one
    have := exp_zero
    simp [*]
  | top =>
    rw [sgn_top]
    have := log_one
    simp [this]
  | coe z =>
    rw [neg_neg, ← EReal.coe_neg, coe_max, ← EReal.coe_neg, exp_coe, ← EReal.coe_one, ← EReal.coe_add, log_coe _ (by positivity), ← EReal.coe_zero, coe_max,
      ← EReal.coe_add, if_neg (EReal.coe_ne_top _), if_neg (EReal.coe_ne_top _), ← EReal.coe_sub, exp_coe, sgn_coe, sgn_real]

theorem v6 (x0 : FVec Ideal S4096x8 .f32) (x1 : FVec Ideal S8 .f32) (x2 : FVec Ideal S4096x8 .f32) (r : Fin 4096) (l : Fin 8) :
    val_main_v6 (F := Ideal) x0 x1 x2 (ix2 r l) = suf (ext x2 l) r.val * sgn ((show EReal from x0 (ix2 r l)) + x1 (ix1 l)) := by
  pointwise [val_main_v0, val_main_v1, val_main_v2, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v3_1, val_main_call0_call0_cst_4, val_main_call0_call0_cst_5, val_main_call0_call0_v23, val_main_call0_call0_cst_6, val_main_call0_call0_cst_7, val_main_call0_call0_v24, val_main_call0_call0_cst_8, val_main_call0_call0_v25, val_main_call0_call0_v26, val_main_call0_call0_cst_9, val_main_call0_call0_v27, val_main_call0_call0_v28, val_main_call0_call0_v29, val_main_call0_call0_v30, val_main_call0_call0_v31, val_main_call0_call0_cst_10, val_main_call0_call0_v32, val_main_v3_2, val_main_v3_0, val_main_call3_v0, val_main_call3_v1, val_main_v6]
  rw [v5, ofBits_inf]
  exact back _ _

theorem v14 (x0 : FVec Ideal S4096x8 .f32) (x1 : FVec Ideal S8 .f32) (x2 : FVec Ideal S4096x8 .f32) (x3 : FVec Ideal S4096x7680 .bf16) (r : Fin 4096) (l : Fin 7680) :
    val_main_v14 (F := Ideal) x0 x1 x2 x3 (ix2 r l) = (show EReal from if h : l.val < 4096 then x3 (ix2 r l) else if h : l.val - 4096 < 512 then
      if h : l.val - 4096 < 8 then val_main_v6 (F := Ideal) x0 x1 x2 (ix2 r ⟨l.val - 4096, h⟩) else FloatOps.sitofp (F := Ideal) .bf16 (0#32 : BitVec 32)
      else x3 (ix2 r ⟨4608 + (l.val - 4096 - 512), by omega⟩)) := by
  pointwise [val_main_cst, val_main_v7, val_main_v8, val_main_cst_0, val_main_v9, val_main_v10, val_main_c, val_main_call4_v0, val_main_v11, val_main_v12, val_main_v13, val_main_v14, val_main_c_1, val_main_call5_v0, val_main_v15, val_main_v16]

theorem v16 (x0 : FVec Ideal S4096x8 .f32) (x1 : FVec Ideal S8 .f32) (x2 : FVec Ideal S4096x8 .f32) (r : Fin 1) (l : Fin 128) :
    val_main_v16 (F := Ideal) x0 x1 x2 (ix2 r l) = (show EReal from if h : l.val < 8 then ∑ a : Fin 1, ∑ b : Fin 4096, (show EReal from val_main_v6 (F := Ideal) x0 x1 x2 (ix2 b ⟨l.val, h⟩)) else FloatOps.sitofp (F := Ideal) .f32 (0#32 : BitVec 32)) := by
  pointwise [val_main_cst, val_main_v7, val_main_v8, val_main_cst_0, val_main_v9, val_main_v10, val_main_c, val_main_call4_v0, val_main_v11, val_main_v12, val_main_v13, val_main_v14, val_main_c_1, val_main_call5_v0, val_main_v15, val_main_v16]

section Agree

variable (m : (ℓ : Loc Cert.ForgetBwdIdeal.nD Cert.ForgetBwdIdeal.τ Cert.ForgetBwdIdeal.sig) → Buf (Elt Ideal) ℓ)

theorem suf_agree (c : Dev Cert.ForgetBwdIdeal.nD) (hd : Num m c) (l : Fin 128) (hl : l.val < 8) (n : ℕ) :
    suf (ext (DC m c) ⟨l.val, hl⟩) n = ((suf (D m c l) n : ℝ) : EReal) := by
  unfold suf
  rw [coe_sum]
  refine Finset.sum_congr rfl fun s hs => ?_
  have h4 := (Finset.mem_Ico.1 hs).2
  rw [ext, dif_pos h4, D, dif_pos ⟨hl, h4⟩]
  exact hd _

theorem v6_wgt (c : Dev Cert.ForgetBwdIdeal.nD) (hd : Num m c) (l : Fin 128) (hl : l.val < 8) (r : Fin 4096) :
    val_main_v6 (F := Ideal) (FL m c) (BF m c) (DC m c) (ix2 r ⟨l.val, hl⟩) = wgt (D m c) (Z m c) l r.val := by
  rw [v6, wgt, if_pos hl, suf_agree m c hd l hl, Z, dif_pos ⟨hl, r.isLt⟩]

theorem zero_word16 : FloatOps.sitofp (F := Ideal) FTy.bf16 (0#32 : BitVec 32) = (show EReal from 0) := by
  show (((0#32 : BitVec 32).toInt : ℝ) : EReal) = 0
  simp

theorem ref3 (c : Dev Cert.ForgetBwdIdeal.nD) (hd : Num m c) : val_main_v14 (F := Ideal) (FL m c) (BF m c) (DC m c) (DP m c) = OUT3 m c := by
  funext i
  obtain ⟨r, l, rfl⟩ : ∃ (r : Fin 4096) (l : Fin 7680), i = ix2 r l := ⟨i 0, i 1, eq_ix2 i⟩
  rw [v14]
  show _ = (show EReal from if h : 4096 ≤ l.val ∧ l.val < 4608 then
    (if h' : l.val - 4096 < 128 then wgt (D m c) (Z m c) ⟨l.val - 4096, h'⟩ r.val else 0) else DP m c (ix2 r l))
  by_cases h1 : l.val < 4096
  · rw [dif_pos h1, dif_neg (fun h => by omega)]
  · rw [dif_neg h1]
    by_cases h2 : l.val - 4096 < 512
    · rw [dif_pos h2, dif_pos (show 4096 ≤ l.val ∧ l.val < 4608 from ⟨by omega, by omega⟩)]
      by_cases h3 : l.val - 4096 < 8
      · rw [dif_pos h3, dif_pos (by omega)]
        exact v6_wgt m c hd ⟨l.val - 4096, by omega⟩ h3 r
      · rw [dif_neg h3, zero_word16]
        by_cases h4 : l.val - 4096 < 128
        · rw [dif_pos h4, wgt, if_neg h3]
        · rw [dif_neg h4]
    · rw [dif_neg h2, dif_neg (fun h => by omega)]
      refine congrArg (fun k => DP m c (ix2 r k)) (Fin.ext ?_)
      show 4608 + (l.val - 4096 - 512) = l.val
      omega

theorem ref4 (c : Dev Cert.ForgetBwdIdeal.nD) (hd : Num m c) : val_main_v16 (F := Ideal) (FL m c) (BF m c) (DC m c)
    = (show FVec Ideal S1x128 .f32 from fun i => suf (wgt (D m c) (Z m c) (i 1)) 0) := by
  funext i
  obtain ⟨r, l, rfl⟩ : ∃ (r : Fin 1) (l : Fin 128), i = ix2 r l := ⟨i 0, i 1, eq_ix2 i⟩
  rw [v16]
  show _ = suf (wgt (D m c) (Z m c) l) 0
  by_cases h : l.val < 8
  · rw [dif_pos h, ← suf_split _ 0 4096 (by omega), suf_end _ _ (by omega), add_zero]
    refine (Fin.sum_univ_one _).trans (Finset.sum_congr rfl fun b _ => ?_)
    rw [zero_add]
    exact v6_wgt m c hd l h b
  · rw [dif_neg h, zero_word, suf, Finset.sum_eq_zero]
    intro s _
    rw [wgt, if_neg h]

theorem num (c : Dev Cert.ForgetBwdIdeal.nD) (h : Pre_ForgetBwdIdeal_forget_finite m) : Num m c := by
  have h := h c
  simp only [Cert.Pre_forget_finite.fn] at h
  obtain ⟨x, hx⟩ := real_array _ _ h
  intro i
  have e : DC m c i = (x i : EReal) := congrFun hx i
  rw [e, EReal.toReal_coe]

end Agree

end Cert.ForgetOwn
-- ==== Proof.AttnRunB.lean ====
module

public import proofs.«01_k».proof.Proof.Gen.AttnBwdIdeal.Frame
public import proofs.«01_k».proof.Proof.Gen.AttnBwdIdeal.Loops

/-! The attention backward's kernel body, run at any staging buffers: what it leaves in the outputs and in the buffers it keeps
between points, at the first key block of a head and at a later one. -/

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F] [Named F]

local notation "𝕄" => MT nD τ sig Unit (Elt F) ℕ (UR sig nD τ) ℕ

/-- The block is the first of its head: the body resets what it keeps. -/
abbrev first (i : grid0.Coords) : Prop :=
  (Scalar.cmpi .ne (Scalar.extui (Scalar.cmpi .eq (BitVec.ofNat 32 (i 1).val) 0#32)) 0#32) = 1#1

set_option maxHeartbeats 4000000 in
/-- The body at a later key block of a head. -/
noncomputable def runB (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (hc : ¬ first i)
    (x0 : Vec F S4096x128 .f32) (x1 : Vec F S1024x128 .f32) (x2 : Vec F S1024x128 .f32) (x3 : Vec F S4096x128 .f32) (x4 : Vec F S1x1x4096 .f32) (x5 : Vec F S4096x128 .f32) (x6 : Vec F S1024x128 .f32)
    (s12 : Vec F S1x1x4096 .f32) (s13 : Vec F S4096x128 .bf16) (s14 : Vec F S128x4096 .bf16) (s15 : Vec F S4096x128 .bf16) (s16 : Vec F S128x4096 .bf16) (s17 : Vec F S1x4096 .f32) (s18 : Vec F S128x4096 .f32) :
    Σ' (L10 : List (View.Piece (Elt F) S1024x384 .bf16)), Σ' (L11 : List (View.Piece (Elt F) S1x1x1024 .f32)), Σ' (C12 : BufTy.Contents (Elt F) arg12.view.ty), { C18 : BufTy.Contents (Elt F) arg18.view.ty //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare s12 ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ owns (c : Thread nD τ) arg18 fullShare s18
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} C12) ∗ owns (c : Thread nD τ) arg13 fullShare s13 ∗ owns (c : Thread nD τ) arg14 fullShare s14 ∗ owns (c : Thread nD τ) arg15 fullShare s15 ∗ owns (c : Thread nD τ) arg16 fullShare s16 ∗ owns (c : Thread nD τ) arg17 fullShare s17 ∗ (arg18.view.loc (c : Thread nD τ) ↦[arg18.view.set]{fullShare} C18)) -∗ K ⟨⟩))
          ⊢ wp frame (wpE (defs₀ (F := F)) Variants.none c none) E (cc0_attn_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexists _; iexact H11
    isplitl [H12]; · iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexact H18

end Cert.AttnBwdIdeal.Run

end
-- ==== Proof.AttnRunA.lean ====
module

public import proofs.«01_k».proof.Proof.AttnRunB

/-! The attention backward's kernel body, run at any staging buffers: what it leaves in the outputs and in the buffers it keeps
between points, at the first key block of a head and at a later one. -/

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F] [Named F]

local notation "𝕄" => MT nD τ sig Unit (Elt F) ℕ (UR sig nD τ) ℕ

set_option maxHeartbeats 4000000 in
/-- The body at the first key block of a head. -/
noncomputable def runA (c : Dev nD) (i : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (hc : first i)
    (x0 : Vec F S4096x128 .f32) (x1 : Vec F S1024x128 .f32) (x2 : Vec F S1024x128 .f32) (x3 : Vec F S4096x128 .f32) (x4 : Vec F S1x1x4096 .f32) (x5 : Vec F S4096x128 .f32) (x6 : Vec F S1024x128 .f32) :
    Σ' (L10 : List (View.Piece (Elt F) S1024x384 .bf16)), Σ' (L11 : List (View.Piece (Elt F) S1x1x1024 .f32)), Σ' (C12 : BufTy.Contents (Elt F) arg12.view.ty), Σ' (C13 : BufTy.Contents (Elt F) arg13.view.ty), Σ' (C14 : BufTy.Contents (Elt F) arg14.view.ty), Σ' (C15 : BufTy.Contents (Elt F) arg15.view.ty), Σ' (C16 : BufTy.Contents (Elt F) arg16.view.ty), Σ' (C17 : BufTy.Contents (Elt F) arg17.view.ty), { C18 : BufTy.Contents (Elt F) arg18.view.ty //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18)) -∗ K ⟨⟩))
          ⊢ wp frame (wpE (defs₀ (F := F)) Variants.none c none) E (cc0_attn_bwd i arg2 harg2 arg3 harg3 arg4 harg4 arg5 harg5 arg6 harg6 arg7 harg7 arg8 harg8 (Memref.whole main_arg5) (Memref.isWhole_whole _) arg10 harg10 arg11 harg11 arg12 harg12 arg13 harg13 arg14 harg14 arg15 harg15 arg16 harg16 arg17 harg17 arg18 harg18) K } := by
  refine ⟨?_, ?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexact H16
    isplitl [H17]; · iexact H17
    iexact H18

end Cert.AttnBwdIdeal.Run

end
-- ==== Proof.AttnFrame.lean ====
module

public import proofs.«01_k».proof.Proof.AttnRunA
public import Idealize.ShloMosaic.Lib.Claim

/-! The attention backward's pipeline: what its outputs and the buffers it keeps hold after each point, and its frame. -/

@[expose] public section

set_option maxRecDepth 16384

noncomputable section

namespace Cert.AttnBwdIdeal.Run

open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Cert.AttnBwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem first_iff (t : Fin cfg0.N) : first (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [first, e1]
  word_cmp

/-- What the outputs' staging buffers and the kept buffers hold after a point. -/
structure St (F : FTy → Type) [FloatOps F] where
  /-- the three key-side gradients' columns -/
  o7 : Vec F S1024x384 .bf16
  /-- the key side's gate gradient -/
  o8 : Vec F S1x1x1024 .f32
  /-- the query side's gate gradient so far -/
  o9 : Vec F S1x1x4096 .f32
  /-- the scaled queries -/
  q : Vec F S4096x128 .bf16
  /-- the scaled queries, transposed -/
  qt : Vec F S128x4096 .bf16
  /-- the cotangent's rows -/
  y : Vec F S4096x128 .bf16
  /-- the cotangent's rows, transposed -/
  yt : Vec F S128x4096 .bf16
  /-- the row sums as one row -/
  dl : Vec F S1x4096 .f32
  /-- the queries' gradient so far, transposed -/
  acc : Vec F S128x4096 .f32
/-- The run at point `t`, the first key block of its head. -/
abbrev runAt (c : Dev nD) (t : Fin cfg0.N) (h : t.val % 4 = 0) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((first_iff t).mpr h) (iblk m c 0 t) (iblk m c 1 t) (iblk m c 2 t) (iblk m c 3 t) (iblk m c 4 t) (iblk m c 5 t) (iblk m c 6 t)

/-- The run at point `t`, a later key block, over what the point before left. -/
abbrev runBt (c : Dev nD) (t : Fin cfg0.N) (h : ¬t.val % 4 = 0) (s : St F) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun hc => h ((first_iff t).mp hc)) (iblk m c 0 t) (iblk m c 1 t) (iblk m c 2 t) (iblk m c 3 t) (iblk m c 4 t) (iblk m c 5 t) (iblk m c 6 t) s.o9 s.q s.qt s.y s.yt s.dl s.acc

/-- What a first key block leaves. -/
def stA (c : Dev nD) (t : Fin cfg0.N) (h : t.val % 4 = 0) : St F where
  o7 := View.canon (runAt m c t h).1
  o8 := View.canon (runAt m c t h).2.1
  o9 := (st0_9 t).view.read (Elt F) (runAt m c t h).2.2.1
  q := (Memref.whole cc0_scratch0 : Memref sig .tc _ _ _).view.read (Elt F) (runAt m c t h).2.2.2.1
  qt := (Memref.whole cc0_scratch1 : Memref sig .tc _ _ _).view.read (Elt F) (runAt m c t h).2.2.2.2.1
  y := (Memref.whole cc0_scratch2 : Memref sig .tc _ _ _).view.read (Elt F) (runAt m c t h).2.2.2.2.2.1
  yt := (Memref.whole cc0_scratch3 : Memref sig .tc _ _ _).view.read (Elt F) (runAt m c t h).2.2.2.2.2.2.1
  dl := (Memref.whole cc0_scratch4 : Memref sig .tc _ _ _).view.read (Elt F) (runAt m c t h).2.2.2.2.2.2.2.1
  acc := (Memref.whole cc0_scratch5 : Memref sig .tc _ _ _).view.read (Elt F) (runAt m c t h).2.2.2.2.2.2.2.2.1

/-- What a later key block leaves over `s`. -/
def stB (c : Dev nD) (t : Fin cfg0.N) (h : ¬t.val % 4 = 0) (s : St F) : St F where
  o7 := View.canon (runBt m c t h s).1
  o8 := View.canon (runBt m c t h s).2.1
  o9 := (st0_9 t).view.read (Elt F) (runBt m c t h s).2.2.1
  q := s.q
  qt := s.qt
  y := s.y
  yt := s.yt
  dl := s.dl
  acc := (Memref.whole cc0_scratch5 : Memref sig .tc _ _ _).view.read (Elt F) (runBt m c t h s).2.2.2.1

/-- What stands after point `n`. -/
def st (c : Dev nD) : (n : ℕ) → n < cfg0.N → St F
  | 0, hn => stA m c ⟨0, hn⟩ rfl
  | n + 1, hn =>
    if h : (n + 1) % 4 = 0 then stA m c ⟨n + 1, hn⟩ h
    else stB m c ⟨n + 1, hn⟩ h (st c n (Nat.lt_of_succ_lt hn))

/-- What stood before point `t`. -/
abbrev before (c : Dev nD) (t : Fin cfg0.N) : St F := st m c (t.val - 1) (Nat.lt_of_le_of_lt (Nat.sub_le _ _) t.isLt)

theorem st_first (c : Dev nD) (t : Fin cfg0.N) (h : t.val % 4 = 0) : st m c t.val t.isLt = stA m c t h := by
  obtain ⟨n, hn⟩ := t
  cases n with
  | zero => rfl
  | succ n => exact dif_pos h

theorem st_later (c : Dev nD) (t : Fin cfg0.N) (h : ¬t.val % 4 = 0) :
    st m c t.val t.isLt = stB m c t h (before m c t) := by
  obtain ⟨n, hn⟩ := t
  cases n with
  | zero => exact absurd rfl h
  | succ n => exact dif_neg h

/-- The kept buffers at `s`, and the generator register. -/
def Kept (c : Dev nD) (s : St F) : sProp 𝕄 :=
  iprop(iprop(owns (c : Thread nD τ) (Memref.whole cc0_scratch0) fullShare s.q ∗ owns (c : Thread nD τ) (Memref.whole cc0_scratch1) fullShare s.qt ∗ owns (c : Thread nD τ) (Memref.whole cc0_scratch2) fullShare s.y ∗ owns (c : Thread nD τ) (Memref.whole cc0_scratch3) fullShare s.yt ∗ owns (c : Thread nD τ) (Memref.whole cc0_scratch4) fullShare s.dl ∗ owns (c : Thread nD τ) (Memref.whole cc0_scratch5) fullShare s.acc) ∗ (∃ r, prngReg c r))

theorem PhiA_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- The kept buffers' contents forgotten. -/
theorem kept_forget (c : Dev nD) (s : St F) : Kept c s ⊢ (Pipeline.ΦA spec0 c : sProp 𝕄) := by
  rw [PhiA_eq]; unfold Kept
  iintro ⟨⟨H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-- The invariant before position `n`. -/
def Phi (c : Dev nD) : (n : ℕ) → n ≤ cfg0.N → sProp 𝕄
  | 0, _ => Pipeline.ΦA spec0 c
  | n + 1, hn => Kept c (st m c n hn)

theorem Phi_pos (c : Dev nD) (n : ℕ) (h : n ≤ cfg0.N) (hz : n ≠ 0) :
    Phi m c n h = Kept c (st m c (n - 1) (by omega)) := by
  cases n with
  | zero => exact absurd rfl hz
  | succ n => rfl

theorem Phi_forget (c : Dev nD) (n : ℕ) (h : n ≤ cfg0.N) : Phi m c n h ⊢ (Pipeline.ΦA spec0 c : sProp 𝕄) := by
  cases n with
  | zero => exact Idealize.SL.BI.Entails.refl _
  | succ n => exact kept_forget c _

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (st m c t.val t.isLt).o7
    | ⟨8, _⟩ => (st m c t.val t.isLt).o8
    | ⟨9, _⟩ => (st m c t.val t.isLt).o9
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (st m c t.val t.isLt).o7 := by dsimp only [dats]
theorem after0_8 (c : Dev nD) (t : Fin cfg0.N) : (dats m 0 c).after 8 t = (st m c t.val t.isLt).o8 := by dsimp only [dats]
theorem after0_9 (c : Dev nD) (t : Fin cfg0.N) : (dats m 0 c).after 9 t = (st m c t.val t.isLt).o9 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Off a head's first key block the query side's gate gradient is what the point before left. -/
theorem before0_9 (c : Dev nD) (t : Fin cfg0.N) (h : ¬t.val % 4 = 0) (d) :
    (dats m 0 c).before 9 t d = (before m c t).o9 := by
  rw [Dat.before_out_kept _ 9 rfl t (by omega) (Bool.eq_false_iff.mpr fun h' => by
      have := (flush0_9 _).mp h'; dsimp only at this; omega) (fun _ => rfl) (fun _ _ => rfl)]
  dsimp only [dats]

theorem cover7A (c : Dev nD) (t : Fin cfg0.N) (h : t.val % 4 = 0) (y : S1024x384.Idx) :
    ∃ p ∈ (runAt m c t h).1, y ∈ p.1.set :=
  View.cover_of_tiledBy _ ![1024, 128] (by sl_kernel_rfl) y

theorem cover8A (c : Dev nD) (t : Fin cfg0.N) (h : t.val % 4 = 0) (y : S1x1x1024.Idx) :
    ∃ p ∈ (runAt m c t h).2.1, y ∈ p.1.set :=
  View.cover_of_tiledBy _ ![1, 1, 1024] (by sl_kernel_rfl) y

theorem cover7B (c : Dev nD) (t : Fin cfg0.N) (h : ¬t.val % 4 = 0) (s : St F) (y : S1024x384.Idx) :
    ∃ p ∈ (runBt m c t h s).1, y ∈ p.1.set :=
  View.cover_of_tiledBy _ ![1024, 128] (by sl_kernel_rfl) y

theorem cover8B (c : Dev nD) (t : Fin cfg0.N) (h : ¬t.val % 4 = 0) (s : St F) (y : S1x1x1024.Idx) :
    ∃ p ∈ (runBt m c t h s).2.1, y ∈ p.1.set :=
  View.cover_of_tiledBy _ ![1, 1, 1024] (by sl_kernel_rfl) y

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Kept c (st m c t.val t.isLt) from rfl, Phi_castSucc]
  by_cases h : t.val % 4 = 0
  · have hf := Phi_forget m c t.val (Nat.le_of_lt t.isLt)
    rw [PhiA_eq] at hf
    rw [st_first m c t h]
    unfold Kept
    dsimp only [stA]
    iintro ⟨HF, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HF := hf $$ HF
    icases HF with ⟨⟨S0, S1, S2, S3, S4, S5⟩, Hg⟩
    iapply ((runAt m c t h).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, ⟨%e7, H7⟩, ⟨%e8, H8⟩, H9, S0, S1, S2, S3, S4, S5⟩
    isplitl [S0 S1 S2 S3 S4 S5 Hg]
    · isplitr [Hg]
      · isplitl [S0]; · unfold owns; iexists _; isplitr; swap; (iexact S0); ipureintro; rfl
        isplitl [S1]; · unfold owns; iexists _; isplitr; swap; (iexact S1); ipureintro; rfl
        isplitl [S2]; · unfold owns; iexists _; isplitr; swap; (iexact S2); ipureintro; rfl
        isplitl [S3]; · unfold owns; iexists _; isplitr; swap; (iexact S3); ipureintro; rfl
        isplitl [S4]; · unfold owns; iexists _; isplitr; swap; (iexact S4); ipureintro; rfl
        unfold owns; iexists _; isplitr; swap; (iexact S5); ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; (iexact H7); ipureintro; exact View.read_writes_eq_canon _ _ _ (cover7A m c t h)
    isplitl [H8]
    · unfold owns; iexists _; isplitr; swap; (iexact H8); ipureintro; exact View.read_writes_eq_canon _ _ _ (cover8A m c t h)
    unfold owns; iexists _; isplitr; swap; (iexact H9); ipureintro; rfl
  · rw [Phi_pos m c _ _ (fun hz => h (by rw [hz])), st_later m c t h]
    simp only [before0_9 m c t h]
    unfold Kept
    dsimp only [stB]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runBt m c t h (before m c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, ⟨%e7, H7⟩, ⟨%e8, H8⟩, H9, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        unfold owns; iexists _; isplitr; swap; (iexact S5); ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap; (iexact H7); ipureintro; exact View.read_writes_eq_canon _ _ _ (cover7B m c t h _)
    isplitl [H8]
    · unfold owns; iexists _; isplitr; swap; (iexact H8); ipureintro; exact View.read_writes_eq_canon _ _ _ (cover8B m c t h _)
    unfold owns; iexists _; isplitr; swap; (iexact H9); ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_forget m c _ _

set_option backward.isDefEq.respectTransparency.types false in
/-- Every run of the program ends, with the arrays at what the proof data says and no semaphore raised. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end as they began and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

end Cert.AttnBwdIdeal.Run

end
-- ==== Proof.AttnBits.lean ====
module

public import proofs.«01_k».proof.Defs
public import proofs.«01_k».proof.Proof.Gen.AttnBwd
public import proofs.«01_k».proof.Proof.AttnFrame
public import Idealize.ShloMosaic.Adequacy

/-! The attention backward's frames: the idealized text at the machine's values is the kernel's own text. -/

@[expose] public section

set_option maxRecDepth 16384

noncomputable section

namespace Cert.Proof

open Idealize.ShloMosaic Idealize.ShloMosaic.Tactic Idealize.SL.Sem

/-- At the machine's values a named constant is the word it is printed as. -/
abbrev wordNamed : Named Bits where
  named _ _ {φ} bits := Scalar.ofBits φ bits

set_option maxHeartbeats 4000000 in
theorem frame_AttnBwd : Cert.quiescent_AttnBwd (hAttnBwd := Cert.AttnBwd.Gen.facts) := fun m ρ _ =>
  letI := wordNamed
  cast (by sl_kernel_rfl) (Cert.AttnBwdIdeal.Run.frame (F := Bits) m ρ)

theorem frame_AttnBwdIdeal : Cert.quiescent_AttnBwdIdeal (hAttnBwdIdeal := Cert.AttnBwdIdeal.Gen.facts) := fun m ρ _ =>
  Cert.AttnBwdIdeal.Run.frame m ρ

end Cert.Proof

end
-- ==== Proof.AttnBlock.lean ====
module

public import proofs.«01_k».proof.Proof.Gen.AttnBwdIdeal.Skeleton
public import Idealize.ShloMosaic.Lib.Pointwise
public import Idealize.ShloMosaic.Lib.WordCmp
public import proofs.«01_k».proof.Proof.Reals

/-! One block of the attention backward over real entries: the probabilities of a key block against a query block, the scores'
gradient there, and what each of the five gradients receives from it. -/

@[expose] public section

set_option maxRecDepth 16384

noncomputable section

open Idealize.ShloMosaic Idealize.ShloMosaic.TcCoe

namespace Cert.AttnOwn

open Cert Cert.Reals Cert.AttnBwdIdeal Cert.AttnBwdIdeal.Gen

/-- One head's rows: the scaled queries, the keys, the values, the cotangent, and per row the query's gate less its log-sum,
the row sum of the cotangent against the output, the key's gate. -/
structure Head where
  Q : ℕ → Fin 128 → ℝ
  K : ℕ → Fin 128 → ℝ
  V : ℕ → Fin 128 → ℝ
  Y : ℕ → Fin 128 → ℝ
  E : ℕ → ℝ
  D : ℕ → ℝ
  C : ℕ → ℝ

namespace Head
variable (H : Head)

/-- The probability of key `k` under query `n`. -/
def p (k n : ℕ) : ℝ := if k ≤ n then Real.exp ((∑ d : Fin 128, H.K k d * H.Q n d) + H.E n - H.C k) else 0

/-- The gradient of that pair's score. -/
def ds (k n : ℕ) : ℝ := H.p k n * ((∑ d : Fin 128, H.V k d * H.Y n d) - H.D n)

end Head

theorem zero_word : Ideal.ofBits .f32 0x00000000#32 = 0 := by simp [Ideal.ofBits, Ideal.ieee]

/-- The attention's scale. -/
def sc : EReal := Ideal.ofBits .f32 0x3DB504F3#32

theorem sc_real : ∃ r : ℝ, sc = (r : EReal) := by
  unfold sc
  simp [Ideal.ofBits, Ideal.ieee]
  exact ⟨_, rfl⟩

/-- The scale as a real number. -/
def scr : ℝ := sc_real.choose

theorem sc_eq : sc = (scr : EReal) := sc_real.choose_spec

/-- A sum up to a block's end is the sum up to its start and the block's own. -/
theorem range_block (f : ℕ → ℝ) (j : ℕ) : (∑ k ∈ Finset.range (1024 * j), f k) + (∑ r : Fin 1024, f (1024 * j + r.val))
    = ∑ k ∈ Finset.range (1024 * (j + 1)), f k := by
  rw [Nat.mul_succ, Finset.sum_range_add, Finset.sum_range (fun x => f (1024 * j + x))]

/-- The same of a sum that starts at a block. -/
theorem ico_block (f : ℕ → ℝ) {j i : ℕ} (h : j ≤ i) :
    (∑ k ∈ Finset.Ico (1024 * j) (1024 * i), f k) + (∑ r : Fin 1024, f (1024 * i + r.val))
      = ∑ k ∈ Finset.Ico (1024 * j) (1024 * (i + 1)), f k := by
  rw [← Finset.sum_Ico_consecutive f (show 1024 * j ≤ 1024 * i by omega) (show 1024 * i ≤ 1024 * (i + 1) by omega)]
  congr 1
  rw [Finset.sum_Ico_eq_sum_range, show 1024 * (i + 1) - 1024 * i = 1024 by omega, Finset.sum_range]

/-- A block's sum by its eight slices of lanes. -/
theorem lanes (f : ℕ → ℝ) : (∑ l : Fin 128, (f l.val + f (128 + l.val) + f (256 + l.val) + f (384 + l.val) + f (512 + l.val)
    + f (640 + l.val) + f (768 + l.val) + f (896 + l.val))) = ∑ n : Fin 1024, f n.val := by
  rw [← Finset.sum_range (fun n => f n), show (1024 : ℕ) = 128 + 128 + 128 + 128 + 128 + 128 + 128 + 128 by norm_num]
  simp only [Finset.sum_range_add, Finset.sum_add_distrib]
  simp only [Finset.sum_range]

namespace Head
variable (H : Head)

/-- The query gradient of row `n` from the keys below `M`. -/
def acc (M : ℕ) (d : Fin 128) (n : ℕ) : ℝ := (∑ k ∈ Finset.range M, H.K k d * H.ds k n) * scr

/-- The gate's gradient at query `n` from the keys below `M`. -/
def cq (M n : ℕ) : ℝ := ∑ k ∈ Finset.range M, H.ds k n

/-- No key after the query takes part. -/
theorem ds_zero {k n : ℕ} (h : n < k) : H.ds k n = 0 := by
  rw [ds, p, if_neg (by omega), zero_mul]

theorem acc_le {M M' : ℕ} (d : Fin 128) (n : ℕ) (h : n < M) (hM : M ≤ M') : H.acc M d n = H.acc M' d n := by
  unfold acc
  rw [Finset.sum_subset (Finset.range_mono hM) fun k hk hk' => by
    rw [H.ds_zero (by simp only [Finset.mem_range] at hk'; omega), mul_zero]]

theorem cq_le {M M' : ℕ} (n : ℕ) (h : n < M) (hM : M ≤ M') : H.cq M n = H.cq M' n := by
  unfold cq
  rw [Finset.sum_subset (Finset.range_mono hM) fun k hk hk' => by
    rw [H.ds_zero (by simp only [Finset.mem_range] at hk'; omega)]]

end Head

/-- What a key block has gathered from its own query block up to block `i`. -/
structure Sums (H : Head) (j i : ℕ) (dkt dvt : FVec Ideal S128x1024 .f32) (dkey : FVec Ideal S1024x128 .f32) : Prop where
  k : ∀ (d : Fin 128) (r : Fin 1024), dkt (ix2 d r) = (show EReal from
    ((∑ n ∈ Finset.Ico (1024 * j) (1024 * i), H.Q n d * H.ds (1024 * j + r.val) n : ℝ)))
  v : ∀ (d : Fin 128) (r : Fin 1024), dvt (ix2 d r) = (show EReal from
    ((∑ n ∈ Finset.Ico (1024 * j) (1024 * i), H.Y n d * H.p (1024 * j + r.val) n : ℝ)))
  c : ∃ g : Fin 1024 → Fin 128 → ℝ, (∀ r l, dkey (ix2 r l) = (show EReal from (g r l : ℝ)))
    ∧ ∀ r, ∑ l, g r l = ∑ n ∈ Finset.Ico (1024 * j) (1024 * i), H.ds (1024 * j + r.val) n

section Block

variable (H : Head) (j i : ℕ)
  (v5 v10 : FVec Ideal S1024x128 .bf16) (v7 : FVec Ideal S128x1024 .bf16) (v22 : FVec Ideal S1024x1024 .f32)
  (v128 v138 : FVec Ideal S1024x128 .bf16) (v131 : FVec Ideal S1x1x1024 .f32) (v141 : FVec Ideal S1x1024 .f32)
  (v148 v152 : FVec Ideal S128x1024 .bf16)

/-- The key block's own values. -/
structure Keys : Prop where
  k : ∀ (r : Fin 1024) (d : Fin 128), v5 (ix2 r d) = (show EReal from (H.K (1024 * j + r.val) d : ℝ))
  kt : ∀ (d : Fin 128) (r : Fin 1024), v7 (ix2 d r) = (show EReal from (H.K (1024 * j + r.val) d : ℝ))
  v : ∀ (r : Fin 1024) (d : Fin 128), v10 (ix2 r d) = (show EReal from (H.V (1024 * j + r.val) d : ℝ))
  c : ∀ (r n : Fin 1024), v22 (ix2 r n) = (show EReal from (H.C (1024 * j + r.val) : ℝ))

/-- The query block's values. -/
structure Queries : Prop where
  q : ∀ (n : Fin 1024) (d : Fin 128), v128 (ix2 n d) = (show EReal from (H.Q (1024 * i + n.val) d : ℝ))
  qt : ∀ (d : Fin 128) (n : Fin 1024), v152 (ix2 d n) = (show EReal from (H.Q (1024 * i + n.val) d : ℝ))
  y : ∀ (n : Fin 1024) (d : Fin 128), v138 (ix2 n d) = (show EReal from (H.Y (1024 * i + n.val) d : ℝ))
  yt : ∀ (d : Fin 128) (n : Fin 1024), v148 (ix2 d n) = (show EReal from (H.Y (1024 * i + n.val) d : ℝ))
  e : ∀ n : Fin 1024, v131 (ix3 0 0 n) = (show EReal from (H.E (1024 * i + n.val) : ℝ))
  d : ∀ n : Fin 1024, v141 (ix2 0 n) = (show EReal from (H.D (1024 * i + n.val) : ℝ))

variable {H j i v5 v10 v7 v22 v128 v138 v131 v141 v148 v152}
  (hk : Keys H j v5 v10 v7 v22) (hq : Queries H i v128 v138 v131 v141 v148 v152) (hij : j < i)

include hk hq hij in
theorem p_at (r n : Fin 1024) : k0_pay25 (F := Ideal) v5 v22 v128 v131 (ix2 r n)
    = (show EReal from (H.p (1024 * j + r.val) (1024 * i + n.val) : ℝ)) := by
  pointwise [k0_pay25]
  simp only [hk.k, hk.c, hq.q, hq.e]
  rw [Head.p, if_pos (by omega)]
  simp only [← EReal.coe_mul]
  rw [← coe_sum, ← EReal.coe_add, ← EReal.coe_sub, exp_coe]

include hk hq hij in
theorem ds_at (r n : Fin 1024) : k0_pay26 (F := Ideal) v5 v10 v22 v128 v131 v138 v141 (ix2 r n)
    = (show EReal from (H.ds (1024 * j + r.val) (1024 * i + n.val) : ℝ)) := by
  pointwise [k0_pay26]
  simp only [p_at hk hq hij, hk.v, hq.y, hq.d, ← EReal.coe_mul]
  rw [← coe_sum, ← EReal.coe_sub, ← EReal.coe_mul, Head.ds]

variable {arg20 arg21 : FVec Ideal S128x1024 .f32} {arg22 : FVec Ideal S1024x128 .f32} (hs : Sums H j i arg20 arg21 arg22)

include hk hq hij hs in
/-- One more query block gathered. -/
theorem sums_step : Sums H j (i + 1) (k0_pay29 (F := Ideal) v5 v10 v22 arg20 v128 v131 v138 v141 v152)
    (k0_pay28 (F := Ideal) v5 v22 arg21 v128 v131 v148)
    (k0_pay61 (F := Ideal) arg22 (k0_pay26 (F := Ideal) v5 v10 v22 v128 v131 v138 v141)) := by
  obtain ⟨g, hg, hG⟩ := hs.c
  refine ⟨fun d r => ?_, fun d r => ?_, fun r l => g r l + (H.ds (1024 * j + r.val) (1024 * i + l.val)
      + H.ds (1024 * j + r.val) (1024 * i + (128 + l.val)) + H.ds (1024 * j + r.val) (1024 * i + (256 + l.val))
      + H.ds (1024 * j + r.val) (1024 * i + (384 + l.val)) + H.ds (1024 * j + r.val) (1024 * i + (512 + l.val))
      + H.ds (1024 * j + r.val) (1024 * i + (640 + l.val)) + H.ds (1024 * j + r.val) (1024 * i + (768 + l.val))
      + H.ds (1024 * j + r.val) (1024 * i + (896 + l.val))), fun r l => ?_, fun r => ?_⟩
  · pointwise [k0_pay29, k0_pay27]
    simp only [hs.k, ds_at hk hq hij, hq.qt, ← EReal.coe_mul]
    rw [← coe_sum, ← EReal.coe_add, ico_block (fun n => H.Q n d * H.ds (1024 * j + r.val) n) hij.le]
  · pointwise [k0_pay28]
    simp only [hs.v, p_at hk hq hij, hq.yt, ← EReal.coe_mul]
    rw [← coe_sum, ← EReal.coe_add, ico_block (fun n => H.Y n d * H.p (1024 * j + r.val) n) hij.le]
  · pointwise [k0_pay61]
    simp only [hg, ds_at hk hq hij, ← EReal.coe_add]
    congr 1
    simp only [Nat.add_comm _ l.val]
    ring
  · rw [Finset.sum_add_distrib, hG, lanes (fun n => H.ds (1024 * j + r.val) (1024 * i + n)),
      ico_block (fun n => H.ds (1024 * j + r.val) n) hij.le]

include hk hq hij in
/-- The query gradient's rows of one block receive this key block. -/
theorem acc_step {v156 : FVec Ideal S128x1024 .f32} (d : Fin 128) (n : Fin 1024)
    (h : v156 (ix2 d n) = (show EReal from (H.acc (1024 * j) d (1024 * i + n.val) : ℝ))) :
    k0_pay30 (F := Ideal) v5 v7 v10 v22 v128 v131 v138 v141 v156 (ix2 d n)
      = (show EReal from (H.acc (1024 * (j + 1)) d (1024 * i + n.val) : ℝ)) := by
  pointwise [k0_pay30, k0_pay27]
  rw [h, show Ideal.ofBits .f32 0x3DB504F3#32 = (scr : EReal) from sc_eq]
  simp only [ds_at hk hq hij, hk.kt, ← EReal.coe_mul]
  rw [← coe_sum, ← EReal.coe_mul, ← EReal.coe_add, Head.acc, Head.acc,
    ← range_block (fun k => H.K k d * H.ds k (1024 * i + n.val)) j, add_mul]

include hk hq hij in
/-- The gate's gradient at one block's rows receives this key block. -/
theorem cq_step {v166 : FVec Ideal S1x1x1024 .f32} (n : Fin 1024)
    (h : v166 (ix3 0 0 n) = (show EReal from (H.cq (1024 * j) (1024 * i + n.val) : ℝ))) :
    k0_pay60 (F := Ideal) (k0_pay26 (F := Ideal) v5 v10 v22 v128 v131 v138 v141) v166 (ix3 0 0 n)
      = (show EReal from (H.cq (1024 * (j + 1)) (1024 * i + n.val) : ℝ)) := by
  pointwise [k0_pay60]
  rw [h]
  simp only [ds_at hk hq hij]
  rw [← coe_sum, ← EReal.coe_add, Head.cq, Head.cq, ← range_block (fun k => H.ds k (1024 * i + n.val)) j]

end Block

section Diagonal

variable {H : Head} {j : ℕ} {ic : grid0.Coords} {v3 v8 v11 : FVec Ideal S1024x128 .f32}
  {v28 v43 : FVec Ideal S1024x128 .bf16} {v31 : FVec Ideal S1x1x1024 .f32} {v46 : FVec Ideal S1x1024 .f32}
  {v53 v57 : FVec Ideal S128x1024 .bf16}

/-- The loaded key block gives the key block's own values. -/
theorem keys_of (hK : ∀ (r : Fin 1024) (d : Fin 128), v3 (ix2 r d) = (show EReal from (H.K (1024 * j + r.val) d : ℝ)))
    (hV : ∀ (r : Fin 1024) (d : Fin 128), v8 (ix2 r d) = (show EReal from (H.V (1024 * j + r.val) d : ℝ)))
    (hC : ∀ (r : Fin 1024) (l : Fin 128), l.val = (ic 0).val →
      v11 (ix2 r l) = (show EReal from (H.C (1024 * j + r.val) : ℝ))) :
    Keys H j (k0_pay43 (F := Ideal) v3) (k0_pay45 (F := Ideal) v8) (k0_pay44 (F := Ideal) v3)
      (k0_pay46 (F := Ideal) ic v11) := by
  refine ⟨fun r d => ?_, fun d r => ?_, fun r d => ?_, fun r n => ?_⟩
  · pointwise [k0_pay43, k0_pay42]; exact hK r d
  · pointwise [k0_pay44, k0_pay42]; exact hK r d
  · pointwise [k0_pay45]; exact hV r d
  · pointwise [k0_pay46]
    simp only [dite_eq_ite, ite_self]
    have h8 : (ic 0).val < 8 := (ic 0).isLt
    rw [Finset.sum_eq_single (⟨(ic 0).val, by omega⟩ : Fin 128)]
    · rw [(WordCmp.cmpi_eq_ofNat_eq_one_iff (by omega) (by omega)).mpr rfl]
      exact hC r _ rfl
    · intro x _ hx
      have hx' : x.val ≠ (ic 0).val := fun h => hx (Fin.ext h)
      have hne : IntOp.cmpi .eq (BitVec.ofNat 32 x.val) (BitVec.ofNat 32 (ic 0).val) ≠ 1#1 := by
        rw [WordCmp.cmpi_eq_eq_toNat]
        simp only [BitVec.toNat_ofNat]
        rw [Nat.mod_eq_of_lt (by omega), Nat.mod_eq_of_lt (by omega)]
        simp [hx']
      simp [Scalar.select, hne]
    · intro h; exact absurd (Finset.mem_univ _) h

variable (hk : Keys H j (k0_pay43 (F := Ideal) v3) (k0_pay45 (F := Ideal) v8) (k0_pay44 (F := Ideal) v3)
    (k0_pay46 (F := Ideal) ic v11)) (hq : Queries H j v28 v43 v31 v46 v53 v57)

include hk hq in
theorem p_diag (r n : Fin 1024) : k0_pay51 (F := Ideal) (k0_pay49 (F := Ideal) ic v3 v11 v28 v31) k0_pay50 ⊥ (ix2 r n)
    = (show EReal from (H.p (1024 * j + r.val) (1024 * j + n.val) : ℝ)) := by
  pointwise [k0_pay51, k0_pay50, k0_pay49]
  rw [Head.p, WordCmp.cmpi_sle_ofNat (by omega) (by omega)]
  by_cases h : r.val ≤ n.val
  · rw [if_pos (by omega)]
    simp only [h, decide_true, Scalar.select, hk.k, hk.c, hq.q, hq.e, ← EReal.coe_mul]
    rw [← coe_sum, ← EReal.coe_add, ← EReal.coe_sub]
    exact exp_coe _
  · rw [if_neg (by omega)]
    simp only [h, decide_false, Scalar.select]
    exact (rfl : Ideal.exp (⊥ : EReal) = ((0 : ℝ) : EReal))

include hk hq in
theorem ds_diag (r n : Fin 1024) :
    k0_pay52 (F := Ideal) (k0_pay45 (F := Ideal) v8) (k0_pay49 (F := Ideal) ic v3 v11 v28 v31) k0_pay50 ⊥ v43 v46 (ix2 r n)
      = (show EReal from (H.ds (1024 * j + r.val) (1024 * j + n.val) : ℝ)) := by
  pointwise [k0_pay52]
  simp only [p_diag hk hq, hk.v, hq.y, hq.d, ← EReal.coe_mul]
  rw [← coe_sum, ← EReal.coe_sub, ← EReal.coe_mul, Head.ds]

include hk hq in
/-- The key block's own query block gathered. -/
theorem sums_diag : Sums H j (j + 1)
    (k0_pay55 (F := Ideal) (k0_pay45 (F := Ideal) v8) (k0_pay47 (F := Ideal)) (k0_pay49 (F := Ideal) ic v3 v11 v28 v31) k0_pay50 ⊥ v43 v46 v57)
    (k0_pay54 (F := Ideal) (k0_pay47 (F := Ideal)) (k0_pay49 (F := Ideal) ic v3 v11 v28 v31) k0_pay50 ⊥ v53)
    (k0_pay59 (F := Ideal) (k0_pay48 (F := Ideal))
      (k0_pay52 (F := Ideal) (k0_pay45 (F := Ideal) v8) (k0_pay49 (F := Ideal) ic v3 v11 v28 v31) k0_pay50 ⊥ v43 v46)
      (k0_pay58 (F := Ideal) (k0_pay45 (F := Ideal) v8) (k0_pay49 (F := Ideal) ic v3 v11 v28 v31) k0_pay50 ⊥ v43 v46)) := by
  refine ⟨fun d r => ?_, fun d r => ?_, fun r l => (H.ds (1024 * j + r.val) (1024 * j + l.val)
      + H.ds (1024 * j + r.val) (1024 * j + (128 + l.val)) + H.ds (1024 * j + r.val) (1024 * j + (256 + l.val))
      + H.ds (1024 * j + r.val) (1024 * j + (384 + l.val)) + H.ds (1024 * j + r.val) (1024 * j + (512 + l.val))
      + H.ds (1024 * j + r.val) (1024 * j + (640 + l.val)) + H.ds (1024 * j + r.val) (1024 * j + (768 + l.val))
      + H.ds (1024 * j + r.val) (1024 * j + (896 + l.val))), fun r l => ?_, fun r => ?_⟩
  · pointwise [k0_pay55, k0_pay53, k0_pay47]
    simp only [ds_diag hk hq, hq.qt, ← EReal.coe_mul, zero_word, zero_add]
    rw [← coe_sum, ← ico_block (fun n => H.Q n d * H.ds (1024 * j + r.val) n) le_rfl, Finset.Ico_self, Finset.sum_empty, zero_add]
  · pointwise [k0_pay54, k0_pay47]
    simp only [p_diag hk hq, hq.yt, ← EReal.coe_mul, zero_word, zero_add]
    rw [← coe_sum, ← ico_block (fun n => H.Y n d * H.p (1024 * j + r.val) n) le_rfl, Finset.Ico_self, Finset.sum_empty, zero_add]
  · pointwise [k0_pay59, k0_pay58, k0_pay48]
    simp only [ds_diag hk hq, zero_word, zero_add, ← EReal.coe_add, Nat.add_comm _ l.val]
  · rw [lanes (fun n => H.ds (1024 * j + r.val) (1024 * j + n)), ← ico_block (fun n => H.ds (1024 * j + r.val) n) le_rfl,
      Finset.Ico_self, Finset.sum_empty, zero_add]

include hk hq in
theorem acc_diag {v61 : FVec Ideal S128x1024 .f32} (d : Fin 128) (n : Fin 1024)
    (h : v61 (ix2 d n) = (show EReal from (H.acc (1024 * j) d (1024 * j + n.val) : ℝ))) :
    k0_pay56 (F := Ideal) (k0_pay44 (F := Ideal) v3) (k0_pay45 (F := Ideal) v8) (k0_pay49 (F := Ideal) ic v3 v11 v28 v31) k0_pay50 ⊥ v43 v46 v61 (ix2 d n)
      = (show EReal from (H.acc (1024 * (j + 1)) d (1024 * j + n.val) : ℝ)) := by
  pointwise [k0_pay56, k0_pay53]
  rw [h, show Ideal.ofBits .f32 0x3DB504F3#32 = (scr : EReal) from sc_eq]
  simp only [ds_diag hk hq, hk.kt, ← EReal.coe_mul]
  rw [← coe_sum, ← EReal.coe_mul, ← EReal.coe_add, Head.acc, Head.acc,
    ← range_block (fun k => H.K k d * H.ds k (1024 * j + n.val)) j, add_mul]

include hk hq in
theorem cq_diag {v71 : FVec Ideal S1x1x1024 .f32} (n : Fin 1024)
    (h : v71 (ix3 0 0 n) = (show EReal from (H.cq (1024 * j) (1024 * j + n.val) : ℝ))) :
    k0_pay57 (F := Ideal) (k0_pay45 (F := Ideal) v8) (k0_pay49 (F := Ideal) ic v3 v11 v28 v31) k0_pay50 ⊥ v43 v46 v71 (ix3 0 0 n)
      = (show EReal from (H.cq (1024 * (j + 1)) (1024 * j + n.val) : ℝ)) := by
  pointwise [k0_pay57]
  rw [h]
  simp only [ds_diag hk hq]
  rw [← coe_sum, ← EReal.coe_add, Head.cq, Head.cq, ← range_block (fun k => H.ds k (1024 * j + n.val)) j]

end Diagonal

section Out

theorem dq_out (a : FVec Ideal S128x1024 .f32) (r : Fin 1024) (d : Fin 128) :
    k0_pay64 (F := Ideal) a (ix2 r d) = a (ix2 d r) := by pointwise [k0_pay64]

theorem dk_out (a : FVec Ideal S128x1024 .f32) (r : Fin 1024) (d : Fin 128) :
    k0_pay65 (F := Ideal) a (ix2 r d) = a (ix2 d r) := by pointwise [k0_pay65]

theorem dv_out (a : FVec Ideal S128x1024 .f32) (r : Fin 1024) (d : Fin 128) :
    k0_pay66 (F := Ideal) a (ix2 r d) = a (ix2 d r) := by pointwise [k0_pay66]

theorem dc_out {a : FVec Ideal S1024x128 .f32} {g : Fin 1024 → Fin 128 → ℝ}
    (h : ∀ r l, a (ix2 r l) = (show EReal from (g r l : ℝ))) (r : Fin 1024) :
    k0_pay1 (F := Ideal) (k0_pay67 (F := Ideal) a) (ix3 0 0 r) = (show EReal from ((-∑ l, g r l : ℝ))) := by
  pointwise [k0_pay1, k0_pay67]
  simp only [h, zero_word]
  rw [← coe_sum, sub_eq_add_neg (0 : EReal), zero_add, EReal.coe_neg]

end Out

end Cert.AttnOwn

end
-- ==== Proof.AttnLoop.lean ====
module

public import proofs.«01_k».proof.Proof.AttnBlock
public import proofs.«01_k».proof.Proof.Gen.AttnBwdIdeal.Loops
public import Idealize.ShloMosaic.Lib.VecWindow
public import Idealize.ShloMosaic.Lib.WritesUnit
public import Idealize.ShloMosaic.Lib.Pipeline.ValueKit

/-! The attention backward's loop over the later query blocks: what it has gathered after each trip. -/

@[expose] public section

set_option maxRecDepth 16384

noncomputable section

open Idealize.ShloMosaic Idealize.ShloMosaic.TcCoe

namespace Cert.AttnOwn

open Cert Cert.Reals Cert.AttnBwdIdeal Cert.AttnBwdIdeal.Gen

/-- The head's rows as the body reads them. -/
structure Rows (H : Head) (e : FVec Ideal S1x1x4096 .f32) (q : FVec Ideal S4096x128 .bf16) (qt : FVec Ideal S128x4096 .bf16)
    (y : FVec Ideal S4096x128 .bf16) (yt : FVec Ideal S128x4096 .bf16) (dl : FVec Ideal S1x4096 .f32) : Prop where
  e : ∀ n : Fin 4096, e (ix3 0 0 n) = (show EReal from (H.E n.val : ℝ))
  q : ∀ (n : Fin 4096) (d : Fin 128), q (ix2 n d) = (show EReal from (H.Q n.val d : ℝ))
  qt : ∀ (d : Fin 128) (n : Fin 4096), qt (ix2 d n) = (show EReal from (H.Q n.val d : ℝ))
  y : ∀ (n : Fin 4096) (d : Fin 128), y (ix2 n d) = (show EReal from (H.Y n.val d : ℝ))
  yt : ∀ (d : Fin 128) (n : Fin 4096), yt (ix2 d n) = (show EReal from (H.Y n.val d : ℝ))
  d : ∀ n : Fin 4096, dl (ix2 0 n) = (show EReal from (H.D n.val : ℝ))

/-- The query side's two gradients once key block `j` has met the query blocks below `i`. -/
structure Part (H : Head) (j i : ℕ) (a : FVec Ideal S128x4096 .f32) (c : FVec Ideal S1x1x4096 .f32) : Prop where
  a : ∀ (d : Fin 128) (n : Fin 4096), a (ix2 d n)
    = (show EReal from (H.acc (1024 * (if n.val < 1024 * i then j + 1 else j)) d n.val : ℝ))
  c : ∀ n : Fin 4096, c (ix3 0 0 n)
    = (show EReal from (H.cq (1024 * (if n.val < 1024 * i then j + 1 else j)) n.val : ℝ))

/-- Before a key block, and before its own query block, the same stands. -/
theorem Part.start {H : Head} {j : ℕ} {a : FVec Ideal S128x4096 .f32} {c : FVec Ideal S1x1x4096 .f32}
    (ha : ∀ (d : Fin 128) (n : Fin 4096), a (ix2 d n) = (show EReal from (H.acc (1024 * j) d n.val : ℝ)))
    (hc : ∀ n : Fin 4096, c (ix3 0 0 n) = (show EReal from (H.cq (1024 * j) n.val : ℝ))) : Part H j j a c := by
  refine ⟨fun d n => ?_, fun n => ?_⟩
  · rw [ha]; split
    · rw [H.acc_le d n.val (by omega) (show 1024 * j ≤ 1024 * (j + 1) by omega)]
    · rfl
  · rw [hc]; split
    · rw [H.cq_le n.val (by omega) (show 1024 * j ≤ 1024 * (j + 1) by omega)]
    · rfl

section Windows
variable {α : Type}

theorem window2 {A B a b : ℕ} (x : (⟨2, ![A, B]⟩ : Shape).Idx → α) (o p : ℕ)
    (inb : ∀ k, (![o, p] : Fin 2 → ℕ) k + (![a, b] : Fin 2 → ℕ) k ≤ (![A, B] : Fin 2 → ℕ) k) (r : Fin a) (l : Fin b)
    (hr : o + r.val < A) (hl : p + l.val < B) :
    VecWindow.window (s := ⟨2, ![A, B]⟩) x ![o, p] ![a, b] inb (ix2 r l) = x (ix2 ⟨o + r.val, hr⟩ ⟨p + l.val, hl⟩) := by
  refine congrArg x (funext fun k => Fin.ext ?_)
  refine Fin.cases ?_ (fun k => Fin.cases ?_ (fun k => k.elim0) k) k
  · show o + 1 * r.val = o + r.val; omega
  · show p + 1 * l.val = p + l.val; omega

theorem window3 {B b : ℕ} (x : (⟨3, ![1, 1, B]⟩ : Shape).Idx → α) (p : ℕ)
    (inb : ∀ k, (![0, 0, p] : Fin 3 → ℕ) k + (![1, 1, b] : Fin 3 → ℕ) k ≤ (![1, 1, B] : Fin 3 → ℕ) k) (l : Fin b)
    (hl : p + l.val < B) :
    VecWindow.window (s := ⟨3, ![1, 1, B]⟩) x ![0, 0, p] ![1, 1, b] inb (ix3 0 0 l) = x (ix3 0 0 ⟨p + l.val, hl⟩) := by
  refine congrArg x (funext fun k => Fin.ext ?_)
  refine Fin.cases ?_ (fun k => Fin.cases ?_ (fun k => Fin.cases ?_ (fun k => k.elim0) k) k) k
  · rfl
  · rfl
  · show p + 1 * l.val = p + l.val; omega

end Windows

/-- One block of the rows is a query block's values. -/
theorem Rows.block {H : Head} {e : FVec Ideal S1x1x4096 .f32} {q : FVec Ideal S4096x128 .bf16} {qt : FVec Ideal S128x4096 .bf16}
    {y : FVec Ideal S4096x128 .bf16} {yt : FVec Ideal S128x4096 .bf16} {dl : FVec Ideal S1x4096 .f32}
    (h : Rows H e q qt y yt dl) (i : ℕ) (hi : i < 4) (i1 i2 i3 i4) :
    Queries H i (VecWindow.window (s := S4096x128) q ![1024 * i, 0] ![1024, 128] i1)
      (VecWindow.window (s := S4096x128) y ![1024 * i, 0] ![1024, 128] i1)
      (VecWindow.window (s := S1x1x4096) e ![0, 0, 1024 * i] ![1, 1, 1024] i2)
      (VecWindow.window (s := S1x4096) dl ![0, 1024 * i] ![1, 1024] i3)
      (VecWindow.window (s := S128x4096) yt ![0, 1024 * i] ![128, 1024] i4)
      (VecWindow.window (s := S128x4096) qt ![0, 1024 * i] ![128, 1024] i4) := by
  refine ⟨fun n d => ?_, fun d n => ?_, fun n d => ?_, fun d n => ?_, fun n => ?_, fun n => ?_⟩
  · exact (window2 q _ _ i1 n d (by omega) (by omega)).trans ((congrArg q (by blk_ext)).trans (h.q ⟨1024 * i + n.val, by omega⟩ d))
  · exact (window2 qt _ _ i4 d n (by omega) (by omega)).trans ((congrArg qt (by blk_ext)).trans (h.qt d ⟨1024 * i + n.val, by omega⟩))
  · exact (window2 y _ _ i1 n d (by omega) (by omega)).trans ((congrArg y (by blk_ext)).trans (h.y ⟨1024 * i + n.val, by omega⟩ d))
  · exact (window2 yt _ _ i4 d n (by omega) (by omega)).trans ((congrArg yt (by blk_ext)).trans (h.yt d ⟨1024 * i + n.val, by omega⟩))
  · exact (window3 e _ i2 n (by omega)).trans (h.e ⟨1024 * i + n.val, by omega⟩)
  · exact (window2 dl _ _ i3 0 n (by omega) (by omega)).trans ((congrArg dl (by blk_ext)).trans (h.d ⟨1024 * i + n.val, by omega⟩))

/-- The same of six loads at the block's offsets. -/
theorem Rows.load {H : Head} {m6 : Memref sig .tc .vmem S1x1x4096 .f32} {m13 m15 : Memref sig .tc .vmem S4096x128 .bf16}
    {m14 m16 : Memref sig .tc .vmem S128x4096 .bf16} {m17 : Memref sig .tc .vmem S1x4096 .f32}
    {f6 : BufTy.Contents (Elt Ideal) m6.view.ty} {f13 : BufTy.Contents (Elt Ideal) m13.view.ty}
    {f14 : BufTy.Contents (Elt Ideal) m14.view.ty} {f15 : BufTy.Contents (Elt Ideal) m15.view.ty}
    {f16 : BufTy.Contents (Elt Ideal) m16.view.ty} {f17 : BufTy.Contents (Elt Ideal) m17.view.ty}
    (h : Rows H (m6.view.read (Elt Ideal) f6) (m13.view.read (Elt Ideal) f13) (m14.view.read (Elt Ideal) f14)
      (m15.view.read (Elt Ideal) f15) (m16.view.read (Elt Ideal) f16) (m17.view.read (Elt Ideal) f17))
    {i : ℕ} (hi : i < 4) {o1 o3 o4 : Fin 2 → ℕ} {o2 : Fin 3 → ℕ}
    (i1 : ∀ k, o1 k + (![1024, 128] : Fin 2 → ℕ) k ≤ S4096x128.size k)
    (i2 : ∀ k, o2 k + (![1, 1, 1024] : Fin 3 → ℕ) k ≤ S1x1x4096.size k)
    (i3 : ∀ k, o3 k + (![1, 1024] : Fin 2 → ℕ) k ≤ S1x4096.size k)
    (i4 : ∀ k, o4 k + (![128, 1024] : Fin 2 → ℕ) k ≤ S128x4096.size k)
    (e1 : o1 = ![1024 * i, 0]) (e2 : o2 = ![0, 0, 1024 * i]) (e3 : o3 = ![0, 1024 * i]) (e4 : o4 = ![0, 1024 * i]) :
    Queries H i (m13.view.readAt (Elt Ideal) (Rect.unit (s := S4096x128) o1 ![1024, 128] i1).toLoadRect f13)
      (m15.view.readAt (Elt Ideal) (Rect.unit (s := S4096x128) o1 ![1024, 128] i1).toLoadRect f15)
      (m6.view.readAt (Elt Ideal) (Rect.unit (s := S1x1x4096) o2 ![1, 1, 1024] i2).toLoadRect f6)
      (m17.view.readAt (Elt Ideal) (Rect.unit (s := S1x4096) o3 ![1, 1024] i3).toLoadRect f17)
      (m16.view.readAt (Elt Ideal) (Rect.unit (s := S128x4096) o4 ![128, 1024] i4).toLoadRect f16)
      (m14.view.readAt (Elt Ideal) (Rect.unit (s := S128x4096) o4 ![128, 1024] i4).toLoadRect f14) := by
  subst e1; subst e2; subst e3; subst e4
  rw [View.readAt_unit m13.view _ i1 rfl i1, View.readAt_unit m15.view _ i1 rfl i1, View.readAt_unit m6.view _ i2 rfl i2,
    View.readAt_unit m17.view _ i3 rfl i3, View.readAt_unit m16.view _ i4 rfl i4, View.readAt_unit m14.view _ i4 rfl i4]
  exact h.block i hi i1 i2 i3 i4

section Step

variable {H : Head} {j i : ℕ} (hi : i < 4)
  {a : Memref sig .tc .vmem S128x4096 .f32} {fa : BufTy.Contents (Elt Ideal) a.view.ty}
  {c : Memref sig .tc .vmem S1x1x4096 .f32} {fc : BufTy.Contents (Elt Ideal) c.view.ty}
  (hp : Part H j i (a.view.read (Elt Ideal) fa) (c.view.read (Elt Ideal) fc))
  {offa : Fin 2 → ℕ} {offc : Fin 3 → ℕ} (inba : ∀ k, offa k + (![128, 1024] : Fin 2 → ℕ) k ≤ S128x4096.size k)
  (inbc : ∀ k, offc k + (![1, 1, 1024] : Fin 3 → ℕ) k ≤ S1x1x4096.size k)
  (ha : offa = ![0, 1024 * i]) (hc : offc = ![0, 0, 1024 * i])

include hi hp ha in
theorem part_read_a (d : Fin 128) (n : Fin 1024) :
    a.view.readAt (Elt Ideal) (Rect.unit (s := S128x4096) offa ![128, 1024] inba).toLoadRect fa (ix2 d n)
      = (show EReal from (H.acc (1024 * j) d (1024 * i + n.val) : ℝ)) := by
  subst ha
  rw [View.readAt_unit _ _ inba rfl inba]
  refine (window2 _ _ _ inba d n (by omega) (by omega)).trans ((congrArg _ (by blk_ext)).trans ((hp.a d ⟨1024 * i + n.val, by omega⟩).trans ?_))
  rw [if_neg (by show ¬ (1024 * i + n.val < 1024 * i); omega)]

include hi ha in
theorem read_a (d : Fin 128) (n : Fin 1024) :
    a.view.readAt (Elt Ideal) (Rect.unit (s := S128x4096) offa ![128, 1024] inba).toLoadRect fa (ix2 d n)
      = a.view.read (Elt Ideal) fa (ix2 d (⟨1024 * i + n.val, by omega⟩ : Fin 4096)) := by
  subst ha
  rw [View.readAt_unit _ _ inba rfl inba]
  exact (window2 _ _ _ inba d n (by omega) (by omega)).trans (congrArg _ (by blk_ext))

include hi hp hc in
theorem part_read_c (n : Fin 1024) :
    c.view.readAt (Elt Ideal) (Rect.unit (s := S1x1x4096) offc ![1, 1, 1024] inbc).toLoadRect fc (ix3 0 0 n)
      = (show EReal from (H.cq (1024 * j) (1024 * i + n.val) : ℝ)) := by
  subst hc
  rw [View.readAt_unit _ _ inbc rfl inbc]
  refine (window3 _ _ inbc n (by omega)).trans ((hp.c ⟨1024 * i + n.val, by omega⟩).trans ?_)
  rw [if_neg (by show ¬ (1024 * i + n.val < 1024 * i); omega)]

include hi hp ha hc in
/-- Writing the block's new values moves on by one block. -/
theorem Part.step (wa : FVec Ideal S128x1024 .f32) (wc : FVec Ideal S1x1x1024 .f32)
    (hwa : ∀ (d : Fin 128) (n : Fin 1024), wa (ix2 d n) = (show EReal from (H.acc (1024 * (j + 1)) d (1024 * i + n.val) : ℝ)))
    (hwc : ∀ n : Fin 1024, wc (ix3 0 0 n) = (show EReal from (H.cq (1024 * (j + 1)) (1024 * i + n.val) : ℝ))) :
    Part H j (i + 1) (a.view.read (Elt Ideal) (a.view.writes (Elt Ideal) fa [⟨Rect.unit offa ![128, 1024] inba, wa⟩]))
      (c.view.read (Elt Ideal) (c.view.writes (Elt Ideal) fc [⟨Rect.unit offc ![1, 1, 1024] inbc, wc⟩])) := by
  refine ⟨fun d n => ?_, fun n => ?_⟩
  · by_cases h : 1024 * i ≤ n.val ∧ n.val < 1024 * i + 1024
    · rw [View.read_writes_cons_unit_of_mem a.view fa inba wa [] (ix2 d n) (ix2 d ⟨n.val - 1024 * i, by omega⟩) ha
        (fun k => by
          refine Fin.cases ?_ (fun k => Fin.cases ?_ (fun k => k.elim0) k) k
          · show d.val = 0 + d.val; omega
          · show n.val = 1024 * i + (n.val - 1024 * i); omega)]
      refine (hwa d _).trans ?_
      rw [if_pos (by omega), show 1024 * i + (n.val - 1024 * i) = n.val by omega]
    · rw [View.read_writes_cons_unit_of_not_mem a.view fa inba wa [] (ix2 d n) ha 1
        (by show n.val < 1024 * i ∨ 1024 * i + 1024 ≤ n.val; omega)]
      refine (hp.a d n).trans ?_
      by_cases h' : n.val < 1024 * i
      · rw [if_pos h', if_pos (by omega)]
      · rw [if_neg h', if_neg (by omega)]
  · by_cases h : 1024 * i ≤ n.val ∧ n.val < 1024 * i + 1024
    · rw [View.read_writes_cons_unit_of_mem c.view fc inbc wc [] (ix3 0 0 n) (ix3 0 0 ⟨n.val - 1024 * i, by omega⟩) hc
        (fun k => by
          refine Fin.cases ?_ (fun k => Fin.cases ?_ (fun k => Fin.cases ?_ (fun k => k.elim0) k) k) k
          · rfl
          · rfl
          · show n.val = 1024 * i + (n.val - 1024 * i); omega)]
      refine (hwc _).trans ?_
      rw [if_pos (by omega), show 1024 * i + (n.val - 1024 * i) = n.val by omega]
    · rw [View.read_writes_cons_unit_of_not_mem c.view fc inbc wc [] (ix3 0 0 n) hc 2
        (by show n.val < 1024 * i ∨ 1024 * i + 1024 ≤ n.val; omega)]
      refine (hp.c n).trans ?_
      by_cases h' : n.val < 1024 * i
      · rw [if_pos h', if_pos (by omega)]
      · rw [if_neg h', if_neg (by omega)]

end Step

section Loop

variable (cd : Dev nD) (ic : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
  (arg1 : BitVec 32) (v5 : FVec Ideal S1024x128 .bf16) (v7 : FVec Ideal S128x1024 .bf16) (v10 : FVec Ideal S1024x128 .bf16)
  (v22 : FVec Ideal S1024x1024 .f32) (v24 : FVec Ideal S1024x128 .f32) (v49 : FVec Ideal S1024x1024 .f32)
  (v55 v59 : FVec Ideal S128x1024 .f32) (v80 : FVec Ideal S1024x128 .f32) (v96 : BitVec 32)
  (X6 : BufTy.Contents (Elt Ideal) arg6.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty)
  (G12 : BufTy.Contents (Elt Ideal) arg12.view.ty) (G18 : BufTy.Contents (Elt Ideal) arg18.view.ty)
  (init : FVec Ideal S128x1024 .f32 × FVec Ideal S128x1024 .f32 × FVec Ideal S1024x128 .f32)

/-- What the loop carries and has written after `k` trips. -/
abbrev after (k : ℕ) := st_k0_t1 (F := Ideal) Variants.none cd none ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k

variable {H : Head} (hr : Rows H (arg6.view.read (Elt Ideal) X6) (arg13.view.read (Elt Ideal) X13) (arg14.view.read (Elt Ideal) X14)
    (arg15.view.read (Elt Ideal) X15) (arg16.view.read (Elt Ideal) X16) (arg17.view.read (Elt Ideal) X17))
  (hk : Keys H (ic 1).val v5 v10 v7 v22)

theorem trips_eq : ∀ ic : grid0.Coords, (k0_t1_loop ic).trips = 3 - (ic 1).val := by decide +kernel

include hr hk in
theorem loop (h0 : Sums H (ic 1).val ((ic 1).val + 1) init.1 init.2.1 init.2.2)
    (p0 : Part H (ic 1).val ((ic 1).val + 1) (arg18.view.read (Elt Ideal) G18) (arg12.view.read (Elt Ideal) G12)) :
    ∀ k : ℕ, k ≤ (k0_t1_loop ic).trips →
      Sums H (ic 1).val ((ic 1).val + 1 + k) (after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k).1.1
        (after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k).1.2.1
        (after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k).1.2.2
      ∧ Part H (ic 1).val ((ic 1).val + 1 + k)
        (arg18.view.read (Elt Ideal) (arg18.view.writes (Elt Ideal) G18 (after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k).2.2))
        (arg12.view.read (Elt Ideal) (arg12.view.writes (Elt Ideal) G12 (after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k).2.1))
  | 0, _ => ⟨h0, p0⟩
  | k + 1, hk1 => by
    obtain ⟨hs, hp⟩ := loop h0 p0 k (by omega)
    have htr := trips_eq ic
    have hj : (ic 1).val < 4 := (ic 1).isLt
    rw [show (ic 1).val + 1 + (k + 1) = (ic 1).val + 1 + k + 1 by omega]
    unfold after at *
    rw [st_k0_t1_succ Variants.none cd none ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init ⟨k, hk1⟩]
    dsimp only
    rw [View.writes_append, View.writes_append]
    generalize st_k0_t1 (F := Ideal) Variants.none cd none ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v5 v7 v10 v22 v24 v49 v55 v59 v80 v96 X6 X13 X14 X15 X16 X17 G12 G18 init k = S at *
    generalize arg12.view.writes (Elt Ideal) G12 S.2.1 = g12 at *
    generalize arg18.view.writes (Elt Ideal) G18 S.2.2 = g18 at *
    unfold tripR_k0_t1 trip_k0_t1
    dsimp only
    have hb : (ic 1).val + 1 + k < 4 := by omega
    have e : ∀ p : ℕ, p = 1024 * (ic 1).val + 1024 * k + 1024 → p = 1024 * ((ic 1).val + 1 + k) := by omega
    have h5 : k0_off5 ic ⟨k, hk1⟩ = ![1024 * ((ic 1).val + 1 + k), 0] := by rw [k0_off5_eq, e _ rfl]
    have h6 : k0_off6 ic ⟨k, hk1⟩ = ![0, 0, 1024 * ((ic 1).val + 1 + k)] := by rw [k0_off6_eq, e _ rfl]
    have h7 : k0_off7 ic ⟨k, hk1⟩ = ![0, 1024 * ((ic 1).val + 1 + k)] := by rw [k0_off7_eq, e _ rfl]
    have h8 : k0_off8 ic ⟨k, hk1⟩ = ![0, 1024 * ((ic 1).val + 1 + k)] := by rw [k0_off8_eq, e _ rfl]
    have hq := hr.load hb (k0_off5_inb ic ⟨k, hk1⟩) (k0_off6_inb ic ⟨k, hk1⟩) (k0_off7_inb ic ⟨k, hk1⟩)
      (k0_off8_inb ic ⟨k, hk1⟩) h5 h6 h7 h8
    refine ⟨sums_step hk hq (by omega) hs, hp.step hb _ _ h8 h6 _ _ (fun d n => ?_) (fun n => ?_)⟩
    · exact acc_step hk hq (by omega) d n (part_read_a hb hp _ h8 d n)
    · exact cq_step hk hq (by omega) n (part_read_c hb hp _ h6 n)

end Loop

end Cert.AttnOwn

end
-- ==== Proof.AttnPoint.lean ====
module

public import proofs.«01_k».proof.Proof.AttnLoop
public import proofs.«01_k».proof.Proof.AttnRunB

/-! The attention backward's body at a later key block: from what the earlier blocks left to what it leaves. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

/-- What a point leaves in its outputs and in the two gradients it carries on. -/
structure Left (H : Head) (j : ℕ) (o7 : FVec Ideal S1024x384 .bf16) (o8 : FVec Ideal S1x1x1024 .f32)
    (o9 : FVec Ideal S1x1x4096 .f32) (acc : FVec Ideal S128x4096 .f32) : Prop where
  dq : ∀ (r : Fin 1024) (d : Fin 128) (l : Fin 384), l.val = d.val →
    o7 (ix2 r l) = (show EReal from (H.acc (1024 * (j + 1)) d (1024 * j + r.val) : ℝ))
  dk : ∀ (r : Fin 1024) (d : Fin 128) (l : Fin 384), l.val = 128 + d.val → o7 (ix2 r l) = (show EReal from
    ((∑ n ∈ Finset.Ico (1024 * j) (1024 * 4), H.Q n d * H.ds (1024 * j + r.val) n : ℝ)))
  dv : ∀ (r : Fin 1024) (d : Fin 128) (l : Fin 384), l.val = 256 + d.val → o7 (ix2 r l) = (show EReal from
    ((∑ n ∈ Finset.Ico (1024 * j) (1024 * 4), H.Y n d * H.p (1024 * j + r.val) n : ℝ)))
  dc : ∀ r : Fin 1024, o8 (ix3 0 0 r) = (show EReal from
    ((-∑ n ∈ Finset.Ico (1024 * j) (1024 * 4), H.ds (1024 * j + r.val) n : ℝ)))
  c : ∀ n : Fin 4096, o9 (ix3 0 0 n) = (show EReal from (H.cq (1024 * (j + 1)) n.val : ℝ))
  a : ∀ (d : Fin 128) (n : Fin 4096), acc (ix2 d n) = (show EReal from (H.acc (1024 * (j + 1)) d n.val : ℝ))

theorem emb2 {A B a b : ℕ} (o p : ℕ)
    (inb : ∀ k, (![o, p] : Fin 2 → ℕ) k + (![a, b] : Fin 2 → ℕ) k ≤ (![A, B] : Fin 2 → ℕ) k) (r : Fin a) (l : Fin b)
    (y : Fin A) (z : Fin B) (hy : y.val = o + r.val) (hz : z.val = p + l.val) :
    (ix2 y z : (⟨2, ![A, B]⟩ : Shape).Idx) = (Rect.unit (s := ⟨2, ![A, B]⟩) ![o, p] ![a, b] inb).emb (ix2 r l) := by
  refine funext fun k => Fin.ext ?_
  refine Fin.cases ?_ (fun k => Fin.cases ?_ (fun k => k.elim0) k) k
  · show y.val = o + 1 * r.val; omega
  · show z.val = p + 1 * l.val; omega

theorem not_mem2 {A B a b : ℕ} (o p : ℕ)
    (inb : ∀ k, (![o, p] : Fin 2 → ℕ) k + (![a, b] : Fin 2 → ℕ) k ≤ (![A, B] : Fin 2 → ℕ) k)
    (y : Fin A) (z : Fin B) (hz : z.val < p ∨ p + b ≤ z.val) :
    (ix2 y z : (⟨2, ![A, B]⟩ : Shape).Idx) ∉ (Rect.unit (s := ⟨2, ![A, B]⟩) ![o, p] ![a, b] inb).set := by
  intro hm
  rw [Rect.mem_set_unit] at hm
  have h1 : p ≤ z.val ∧ z.val < p + b := hm (1 : Fin 2)
  omega

theorem emb3 {B : ℕ} (inb : ∀ k, (![0, 0, 0] : Fin 3 → ℕ) k + (![1, 1, B] : Fin 3 → ℕ) k ≤ (![1, 1, B] : Fin 3 → ℕ) k) (l : Fin B) :
    (Rect.unit (s := ⟨3, ![1, 1, B]⟩) ![0, 0, 0] ![1, 1, B] inb).emb (ix3 0 0 l) = (ix3 0 0 l : (⟨3, ![1, 1, B]⟩ : Shape).Idx) := by
  refine funext fun k => Fin.ext ?_
  refine Fin.cases ?_ (fun k => Fin.cases ?_ (fun k => Fin.cases ?_ (fun k => k.elim0) k) k) k
  · rfl
  · rfl
  · show 0 + 1 * l.val = l.val; omega

theorem canon_skip2 {A B a b : ℕ} {e : EltTy} (o p : ℕ)
    (inb : ∀ k, (![o, p] : Fin 2 → ℕ) k + (![a, b] : Fin 2 → ℕ) k ≤ (![A, B] : Fin 2 → ℕ) k)
    (w : (Rect.unit (s := ⟨2, ![A, B]⟩) ![o, p] ![a, b] inb).shape.Idx → Elt Ideal e) (L : List (View.Piece (Elt Ideal) ⟨2, ![A, B]⟩ e))
    (y : Fin A) (z : Fin B) (hz : z.val < p ∨ p + b ≤ z.val) :
    View.canon (Val := Elt Ideal) (s := ⟨2, ![A, B]⟩) (e := e) (⟨Rect.unit ![o, p] ![a, b] inb, w⟩ :: L) (ix2 y z) = View.canon L (ix2 y z) :=
  View.canon_cons_of_not_mem _ _ (not_mem2 o p inb y z hz)

theorem canon_hit2 {A B a b : ℕ} {e : EltTy} (o p : ℕ)
    (inb : ∀ k, (![o, p] : Fin 2 → ℕ) k + (![a, b] : Fin 2 → ℕ) k ≤ (![A, B] : Fin 2 → ℕ) k)
    (w : (Rect.unit (s := ⟨2, ![A, B]⟩) ![o, p] ![a, b] inb).shape.Idx → Elt Ideal e) (L : List (View.Piece (Elt Ideal) ⟨2, ![A, B]⟩ e))
    (r : Fin a) (l : Fin b) (y : Fin A) (z : Fin B) (hy : y.val = o + r.val) (hz : z.val = p + l.val) :
    View.canon (Val := Elt Ideal) (s := ⟨2, ![A, B]⟩) (e := e) (⟨Rect.unit ![o, p] ![a, b] inb, w⟩ :: L) (ix2 y z) = w (ix2 r l) := by
  rw [emb2 o p inb r l y z hy hz]
  exact View.canon_cons_emb _ _ _ _

section Canon
variable (w0 w1 w2 : S1024x128.Idx → Elt Ideal .bf16)
    (i0 : ∀ k, (![0, 0] : Fin 2 → ℕ) k + (![1024, 128] : Fin 2 → ℕ) k ≤ S1024x384.size k)
    (i1 : ∀ k, (![0, 128] : Fin 2 → ℕ) k + (![1024, 128] : Fin 2 → ℕ) k ≤ S1024x384.size k)
    (i2 : ∀ k, (![0, 256] : Fin 2 → ℕ) k + (![1024, 128] : Fin 2 → ℕ) k ≤ S1024x384.size k) (r : Fin 1024) (d : Fin 128) (l : Fin 384)

/-- Three tiles of columns, the last stored first. -/
abbrev tiles : S1024x384.Idx → Elt Ideal .bf16 := View.canon (Val := Elt Ideal) (s := S1024x384) (e := .bf16)
  [⟨Rect.unit ![0, 256] ![1024, 128] i2, w2⟩, ⟨Rect.unit ![0, 128] ![1024, 128] i1, w1⟩, ⟨Rect.unit ![0, 0] ![1024, 128] i0, w0⟩]

theorem tiles_q (h : l.val = d.val) : tiles w0 w1 w2 i0 i1 i2 (ix2 r l) = w0 (ix2 r d) :=
  (canon_skip2 0 256 i2 w2 _ r l (by omega)).trans ((canon_skip2 0 128 i1 w1 _ r l (by omega)).trans
    (canon_hit2 0 0 i0 w0 _ r d r l (by omega) (by omega)))

theorem tiles_k (h : l.val = 128 + d.val) : tiles w0 w1 w2 i0 i1 i2 (ix2 r l) = w1 (ix2 r d) :=
  (canon_skip2 0 256 i2 w2 _ r l (by omega)).trans (canon_hit2 0 128 i1 w1 _ r d r l (by omega) (by omega))

theorem tiles_v (h : l.val = 256 + d.val) : tiles w0 w1 w2 i0 i1 i2 (ix2 r l) = w2 (ix2 r d) :=
  canon_hit2 0 256 i2 w2 _ r d r l (by omega) (by omega)

/-- One whole tile. -/
theorem canon1 (w : S1x1x1024.Idx → Elt Ideal .f32)
    (i : ∀ k, (![0, 0, 0] : Fin 3 → ℕ) k + (![1, 1, 1024] : Fin 3 → ℕ) k ≤ S1x1x1024.size k) :
    View.canon (Val := Elt Ideal) (s := S1x1x1024) (e := .f32) [⟨Rect.unit ![0, 0, 0] ![1, 1, 1024] i, w⟩] (ix3 0 0 r) = w (ix3 0 0 r) := by
  have h := View.canon_cons_emb (Val := Elt Ideal) (s := S1x1x1024) (e := .f32) (Rect.unit ![0, 0, 0] ![1, 1, 1024] i) w [] (ix3 0 0 r)
  rw [emb3 i r] at h
  exact h

end Canon

/-- The remainder loop makes no trip. -/
theorem t2_trips : ∀ i : grid0.Coords, Scf.trips (Scalar.addi (Scalar.addi (BitVec.ofNat 32 (i 1).val) 1#32)
    (Scalar.muli (Scalar.divsi (Scalar.subi (4#32) (Scalar.addi (BitVec.ofNat 32 (i 1).val) 1#32)) 1#32) 1#32))
    (Scalar.addi (Scalar.addi (BitVec.ofNat 32 (i 1).val) 1#32)
      (Scalar.subi (4#32) (Scalar.addi (BitVec.ofNat 32 (i 1).val) 1#32))) 1#32 = 0 := by decide +kernel

/-- The mask is the bottom. -/
theorem mask_eq : (Named.named κ "mask" 0xF149F2CA#32 : Ideal .f32) = (⊥ : EReal) := by
  simp [Named.named, κ]

section Body

variable (cd : Dev nD) (ic : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg9 : Memref sig .tc .hbm S4096x7680 .bf16) (harg9 : arg9.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole)
  (X6 : BufTy.Contents (Elt Ideal) arg6.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty)
  (G12 : BufTy.Contents (Elt Ideal) arg12.view.ty) (G18 : BufTy.Contents (Elt Ideal) arg18.view.ty)
  (v3 v8 v11 : FVec Ideal S1024x128 .f32)
  (arg1 : BitVec 32) (v24 : FVec Ideal S1024x128 .f32) (v49 : FVec Ideal S1024x1024 .f32)
  (v55 v59 : FVec Ideal S128x1024 .f32) (v80 : FVec Ideal S1024x128 .f32) (v96 : BitVec 32)

/-- The cotangent's rows, the queries' and the row sums of the block itself, as the body loads them. -/
abbrev ld13 := arg13.view.readAt (Elt Ideal) (Rect.unit (s := S4096x128) (k0_off1 ic) ![1024, 128] (k0_off1_inb ic)).toLoadRect X13
abbrev ld15 := arg15.view.readAt (Elt Ideal) (Rect.unit (s := S4096x128) (k0_off1 ic) ![1024, 128] (k0_off1_inb ic)).toLoadRect X15
abbrev ld6 := arg6.view.readAt (Elt Ideal) (Rect.unit (s := S1x1x4096) (k0_off2 ic) ![1, 1, 1024] (k0_off2_inb ic)).toLoadRect X6
abbrev ld17 := arg17.view.readAt (Elt Ideal) (Rect.unit (s := S1x4096) (k0_off3 ic) ![1, 1024] (k0_off3_inb ic)).toLoadRect X17
abbrev ld16 := arg16.view.readAt (Elt Ideal) (Rect.unit (s := S128x4096) (k0_off4 ic) ![128, 1024] (k0_off4_inb ic)).toLoadRect X16
abbrev ld14 := arg14.view.readAt (Elt Ideal) (Rect.unit (s := S128x4096) (k0_off4 ic) ![128, 1024] (k0_off4_inb ic)).toLoadRect X14
abbrev ld18 (f : BufTy.Contents (Elt Ideal) arg18.view.ty) := arg18.view.readAt (Elt Ideal) (Rect.unit (s := S128x4096) (k0_off4 ic) ![128, 1024] (k0_off4_inb ic)).toLoadRect f
abbrev ld12 := arg12.view.readAt (Elt Ideal) (Rect.unit (s := S1x1x4096) (k0_off2 ic) ![1, 1, 1024] (k0_off2_inb ic)).toLoadRect G12

/-- The block's scores. -/
abbrev scores := k0_pay49 (F := Ideal) ic v3 v11 (ld13 ic arg13 X13) (ld6 ic arg6 X6)
/-- What the block's own query block writes into the two carried gradients. -/
abbrev own18 : List (View.Piece (Elt Ideal) S128x4096 .f32) := [⟨Rect.unit (s := S128x4096) (k0_off4 ic) ![128, 1024] (k0_off4_inb ic),
  k0_pay56 (F := Ideal) (k0_pay44 (F := Ideal) v3) (k0_pay45 (F := Ideal) v8) (scores ic arg6 arg13 X6 X13 v3 v11) k0_pay50 (Named.named κ "mask" 0xF149F2CA#32)
    (ld15 ic arg15 X15) (ld17 ic arg17 X17) (ld18 ic arg18 G18)⟩]
abbrev own12 : List (View.Piece (Elt Ideal) S1x1x4096 .f32) := [⟨Rect.unit (s := S1x1x4096) (k0_off2 ic) ![1, 1, 1024] (k0_off2_inb ic),
  k0_pay57 (F := Ideal) (k0_pay45 (F := Ideal) v8) (scores ic arg6 arg13 X6 X13 v3 v11) k0_pay50 (Named.named κ "mask" 0xF149F2CA#32)
    (ld15 ic arg15 X15) (ld17 ic arg17 X17) (ld12 ic arg12 G12)⟩]
/-- What the loop starts from. -/
abbrev own : FVec Ideal S128x1024 .f32 × FVec Ideal S128x1024 .f32 × FVec Ideal S1024x128 .f32 :=
  (k0_pay55 (F := Ideal) (k0_pay45 (F := Ideal) v8) (k0_pay47 (F := Ideal)) (scores ic arg6 arg13 X6 X13 v3 v11) k0_pay50 (Named.named κ "mask" 0xF149F2CA#32) (ld15 ic arg15 X15) (ld17 ic arg17 X17) (ld14 ic arg14 X14),
   k0_pay54 (F := Ideal) (k0_pay47 (F := Ideal)) (scores ic arg6 arg13 X6 X13 v3 v11) k0_pay50 (Named.named κ "mask" 0xF149F2CA#32) (ld16 ic arg16 X16),
   k0_pay59 (F := Ideal) (k0_pay48 (F := Ideal))
     (k0_pay52 (F := Ideal) (k0_pay45 (F := Ideal) v8) (scores ic arg6 arg13 X6 X13 v3 v11) k0_pay50 (Named.named κ "mask" 0xF149F2CA#32) (ld15 ic arg15 X15) (ld17 ic arg17 X17))
     (k0_pay58 (F := Ideal) (k0_pay45 (F := Ideal) v8) (scores ic arg6 arg13 X6 X13 v3 v11) k0_pay50 (Named.named κ "mask" 0xF149F2CA#32) (ld15 ic arg15 X15) (ld17 ic arg17 X17)))

/-- What the loop ends with. -/
abbrev fin := after cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 (k0_pay43 (F := Ideal) v3) (k0_pay44 (F := Ideal) v3) (k0_pay45 (F := Ideal) v8)
  (k0_pay46 (F := Ideal) ic v11) v24 v49 v55 v59 v80 v96 X6 X13 X14 X15 X16 X17
  (arg12.view.writes (Elt Ideal) G12 (own12 ic arg6 arg12 arg13 arg15 arg17 X6 X13 X15 X17 G12 v3 v8 v11))
  (arg18.view.writes (Elt Ideal) G18 (own18 ic arg6 arg13 arg15 arg17 arg18 X6 X13 X15 X17 G18 v3 v8 v11))
  (own ic arg6 arg13 arg14 arg15 arg16 arg17 X6 X13 X14 X15 X16 X17 v3 v8 v11) (k0_t1_loop ic).trips

variable {H : Head} (hr : Rows H (arg6.view.read (Elt Ideal) X6) (arg13.view.read (Elt Ideal) X13) (arg14.view.read (Elt Ideal) X14)
    (arg15.view.read (Elt Ideal) X15) (arg16.view.read (Elt Ideal) X16) (arg17.view.read (Elt Ideal) X17))
  (hk : Keys H (ic 1).val (k0_pay43 (F := Ideal) v3) (k0_pay45 (F := Ideal) v8) (k0_pay44 (F := Ideal) v3) (k0_pay46 (F := Ideal) ic v11))
  (hp : Part H (ic 1).val (ic 1).val (arg18.view.read (Elt Ideal) G18) (arg12.view.read (Elt Ideal) G12))

/-- The carried gradients' pieces after the loop. -/
abbrev L18 := (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).2.2 ++ own18 ic arg6 arg13 arg15 arg17 arg18 X6 X13 X15 X17 G18 v3 v8 v11
abbrev L12 := (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).2.1 ++ own12 ic arg6 arg12 arg13 arg15 arg17 X6 X13 X15 X17 G12 v3 v8 v11

set_option maxHeartbeats 1600000 in
include hr hk hp in
theorem body_sums :
    Sums H (ic 1).val 4 (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.1
      (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.2.1
      (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.2.2
    ∧ Part H (ic 1).val 4
      (arg18.view.read (Elt Ideal) (arg18.view.writes (Elt Ideal) G18 (L18 cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96)))
      (arg12.view.read (Elt Ideal) (arg12.view.writes (Elt Ideal) G12 (L12 cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96))) := by
  have hj : (ic 1).val < 4 := (ic 1).isLt
  have hq := hr.load hj (k0_off1_inb ic) (k0_off2_inb ic) (k0_off3_inb ic) (k0_off4_inb ic) (k0_off1_eq ic) (k0_off2_eq ic)
    (k0_off3_eq ic) (k0_off4_eq ic)
  have h := loop cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 _ _ _ _ v24 v49 v55 v59 v80 v96 X6 X13 X14 X15 X16 X17
    (arg12.view.writes (Elt Ideal) G12 (own12 ic arg6 arg12 arg13 arg15 arg17 X6 X13 X15 X17 G12 v3 v8 v11))
    (arg18.view.writes (Elt Ideal) G18 (own18 ic arg6 arg13 arg15 arg17 arg18 X6 X13 X15 X17 G18 v3 v8 v11))
    (own ic arg6 arg13 arg14 arg15 arg16 arg17 X6 X13 X14 X15 X16 X17 v3 v8 v11) hr hk (by unfold own; rw [mask_eq]; exact sums_diag hk hq)
    (hp.step hj _ _ (k0_off4_eq ic) (k0_off2_eq ic) _ _
      (fun d n => by rw [mask_eq]; exact acc_diag hk hq d n (part_read_a hj hp _ (k0_off4_eq ic) d n))
      (fun n => by rw [mask_eq]; exact cq_diag hk hq n (part_read_c hj hp _ (k0_off2_eq ic) n))) (k0_t1_loop ic).trips le_rfl
  have e : (ic 1).val + 1 + (k0_t1_loop ic).trips = 4 := by rw [trips_eq]; omega
  rw [e] at h
  unfold L18 L12
  rw [View.writes_append, View.writes_append]
  exact h

include hr hk hp in
/-- What the body leaves. -/
theorem body_left (o7 : FVec Ideal S1024x384 .bf16) (o8 : FVec Ideal S1x1x1024 .f32)
    (o9 : FVec Ideal S1x1x4096 .f32) (acc : FVec Ideal S128x4096 .f32) (i0 i1 i2 i3)
    (e7 : o7 = View.canon (Val := Elt Ideal) (s := S1024x384) (e := .bf16)
      [⟨Rect.unit ![0, 256] ![1024, 128] i2, k0_pay66 (F := Ideal) (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.2.1⟩,
       ⟨Rect.unit ![0, 128] ![1024, 128] i1, k0_pay65 (F := Ideal) (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.1⟩,
       ⟨Rect.unit ![0, 0] ![1024, 128] i0, k0_pay64 (F := Ideal) (ld18 ic arg18 (arg18.view.writes (Elt Ideal) G18 (L18 cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96)))⟩])
    (e8 : o8 = View.canon (Val := Elt Ideal) (s := S1x1x1024) (e := .f32)
      [⟨Rect.unit ![0, 0, 0] ![1, 1, 1024] i3, k0_pay1 (F := Ideal) (k0_pay67 (F := Ideal) (fin cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96).1.2.2)⟩])
    (e9 : o9 = arg12.view.read (Elt Ideal) (arg12.view.writes (Elt Ideal) G12 (L12 cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96)))
    (ea : acc = arg18.view.read (Elt Ideal) (arg18.view.writes (Elt Ideal) G18 (L18 cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96))) :
    Left H (ic 1).val o7 o8 o9 acc := by
  obtain ⟨hs, ht⟩ := body_sums cd ic arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X6 X13 X14 X15 X16 X17 G12 G18 v3 v8 v11 arg1 v24 v49 v55 v59 v80 v96 hr hk hp
  have hj : (ic 1).val < 4 := (ic 1).isLt
  subst e7; subst e8; subst e9; subst ea
  obtain ⟨g, hg, hG⟩ := hs.c
  have hacc : ∀ (d : Fin 128) (n : Fin 4096), _ := fun d n => (ht.a d n).trans (by rw [if_pos (by omega)])
  refine ⟨fun r d l h => ?_, fun r d l h => ?_, fun r d l h => ?_, fun r => ?_, fun n => (ht.c n).trans (by rw [if_pos (by omega)]), hacc⟩
  · refine (tiles_q _ _ _ i0 i1 i2 r d l h).trans ?_
    rw [dq_out]
    exact (read_a hj _ (k0_off4_eq ic) d r).trans (hacc d ⟨1024 * (ic 1).val + r.val, by omega⟩)
  · refine (tiles_k _ _ _ i0 i1 i2 r d l h).trans ?_
    rw [dk_out]; exact hs.k d r
  · refine (tiles_v _ _ _ i0 i1 i2 r d l h).trans ?_
    rw [dv_out]; exact hs.v d r
  · refine (canon1 r _ i3).trans ?_
    rw [dc_out hg, hG]

end Body

end Cert.AttnOwn

end
-- ==== Proof.AttnLater.lean ====
module

public import proofs.«01_k».proof.Proof.AttnPoint

/-! The attention backward's body at a later key block, as the run leaves it. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

/-- A whole load of a whole buffer is what it holds. -/
theorem read1 {κ : Kind} {sp : Space} (a : Memref AttnBwdIdeal.sig κ sp S1024x128 .f32) (ha : a.IsWhole) (x : FVec Ideal S1024x128 .f32) :
    View.readAt (Elt Ideal) a.view (Rect.unit ![0, 0] S1024x128.size inb_S1024x128_S1024x128_0_0).toLoadRect (ha.unread x) = x := by
  exact (View.readAt_full a.view _ inb_S1024x128_S1024x128_0_0).trans (ha.read_unread _)

set_option maxHeartbeats 1000000 in
/-- The body at a later key block. -/
theorem left_later (cd : Dev nD) (ic : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (hc : ¬ first ic) (x0 : FVec Ideal S4096x128 .f32) (x1 : FVec Ideal S1024x128 .f32) (x2 : FVec Ideal S1024x128 .f32) (x3 : FVec Ideal S4096x128 .f32) (x4 : FVec Ideal S1x1x4096 .f32) (x5 : FVec Ideal S4096x128 .f32) (x6 : FVec Ideal S1024x128 .f32) (s12 : FVec Ideal S1x1x4096 .f32) (s13 : FVec Ideal S4096x128 .bf16) (s14 : FVec Ideal S128x4096 .bf16) (s15 : FVec Ideal S4096x128 .bf16) (s16 : FVec Ideal S128x4096 .bf16) (s17 : FVec Ideal S1x4096 .f32) (s18 : FVec Ideal S128x4096 .f32) {H : Head}
    (hr : Rows H x4 s13 s14 s15 s16 s17)
    (hk : Keys H (ic 1).val (k0_pay43 (F := Ideal) x1) (k0_pay45 (F := Ideal) x2) (k0_pay44 (F := Ideal) x1) (k0_pay46 (F := Ideal) ic x6))
    (hp : Part H (ic 1).val (ic 1).val s18 s12) :
    Left H (ic 1).val (View.canon (runB (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6 s12 s13 s14 s15 s16 s17 s18).1)
      (View.canon (runB (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6 s12 s13 s14 s15 s16 s17 s18).2.1)
      (arg12.view.read (Elt Ideal) (runB (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6 s12 s13 s14 s15 s16 s17 s18).2.2.1)
      (arg18.view.read (Elt Ideal) (runB (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6 s12 s13 s14 s15 s16 s17 s18).2.2.2.1) := by
  refine body_left cd ic arg2 harg2 arg3 harg3 arg4 harg4 arg5 harg5 arg6 harg6 arg7 harg7 arg8 harg8 (Memref.whole main_arg5) (Memref.isWhole_whole _) arg10 harg10 arg11 harg11 arg12 harg12 arg13 harg13 arg14 harg14 arg15 harg15 arg16 harg16 arg17 harg17 arg18 harg18 (harg6.unread x4) (harg13.unread s13) (harg14.unread s14)
    (harg15.unread s15) (harg16.unread s16) (harg17.unread s17) (harg12.unread s12) (harg18.unread s18) (View.readAt (Elt Ideal) arg3.view (Rect.unit ![0, 0] S1024x128.size inb_S1024x128_S1024x128_0_0).toLoadRect (harg3.unread x1)) (View.readAt (Elt Ideal) arg4.view (Rect.unit ![0, 0] S1024x128.size inb_S1024x128_S1024x128_0_0).toLoadRect (harg4.unread x2)) (View.readAt (Elt Ideal) arg8.view (Rect.unit ![0, 0] S1024x128.size inb_S1024x128_S1024x128_0_0).toLoadRect (harg8.unread x6))
    (BitVec.ofNat 32 (ic 1).val) k0_pay48 (k0_pay52 (F := Ideal) (k0_pay45 (F := Ideal) (View.readAt (Elt Ideal) arg4.view (Rect.unit ![0, 0] S1024x128.size inb_S1024x128_S1024x128_0_0).toLoadRect (harg4.unread x2))) (scores ic arg6 arg13 (harg6.unread x4) (harg13.unread s13) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runB.sl.cst_13 (ld15 ic arg15 (harg15.unread s15)) (ld17 ic arg17 (harg17.unread s17)))
    (k0_pay54 (F := Ideal) (k0_pay47 (F := Ideal)) (scores ic arg6 arg13 (harg6.unread x4) (harg13.unread s13) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runB.sl.cst_13 (ld16 ic arg16 (harg16.unread s16)))
    (k0_pay55 (F := Ideal) (k0_pay45 (F := Ideal) (View.readAt (Elt Ideal) arg4.view (Rect.unit ![0, 0] S1024x128.size inb_S1024x128_S1024x128_0_0).toLoadRect (harg4.unread x2))) (k0_pay47 (F := Ideal)) (scores ic arg6 arg13 (harg6.unread x4) (harg13.unread s13) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runB.sl.cst_13 (ld15 ic arg15 (harg15.unread s15)) (ld17 ic arg17 (harg17.unread s17)) (ld14 ic arg14 (harg14.unread s14)))
    (k0_pay58 (F := Ideal) (k0_pay45 (F := Ideal) (View.readAt (Elt Ideal) arg4.view (Rect.unit ![0, 0] S1024x128.size inb_S1024x128_S1024x128_0_0).toLoadRect (harg4.unread x2))) (scores ic arg6 arg13 (harg6.unread x4) (harg13.unread s13) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runB.sl.cst_13 (ld15 ic arg15 (harg15.unread s15)) (ld17 ic arg17 (harg17.unread s17)))
    (runB.sl.v96 ic) ?_ ?_ ?_ _ _ _ _ inb_S1024x384_S1024x128_0_0 inb_S1024x384_S1024x128_0_128 inb_S1024x384_S1024x128_0_256 inb_S1x1x1024_S1x1x1024_0_0_0 ?_ ?_ ?_ ?_
  · rw [harg6.read_unread, harg13.read_unread, harg14.read_unread, harg15.read_unread, harg16.read_unread, harg17.read_unread]; exact hr
  · rw [read1 arg3 harg3, read1 arg4 harg4, read1 arg8 harg8]; exact hk
  · rw [harg18.read_unread, harg12.read_unread]; exact hp
  · unfold runB runB.sl.v107; dsimp only; rw [t2_trips]
    rfl
  · unfold runB runB.sl.r_9; dsimp only; rw [t2_trips]
    rfl
  · unfold runB; dsimp only; rw [t2_trips]
    rfl
  · unfold runB; dsimp only; rw [t2_trips]
    rfl

end Cert.AttnOwn

end
-- ==== Proof.AttnFirst.lean ====
module

public import proofs.«01_k».proof.Proof.AttnLater
public import proofs.«01_k».proof.Proof.AttnRunA

/-! The attention backward's body at a head's first key block: what it lays in the scratches, and what it leaves. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

section Fill

variable {sig' : RefSig} {k' : Kind} {sp' : Space} {e : EltTy} {A B a b : ℕ}

theorem read_hit2 (v : View sig' k' sp' ⟨2, ![A, B]⟩ e) (f : v.ty.Contents (Elt Ideal)) (o p : ℕ)
    (inb : ∀ k, (![o, p] : Fin 2 → ℕ) k + (![a, b] : Fin 2 → ℕ) k ≤ (![A, B] : Fin 2 → ℕ) k)
    (w : (Rect.unit (s := ⟨2, ![A, B]⟩) ![o, p] ![a, b] inb).shape.Idx → Elt Ideal e) (L : List (View.Piece (Elt Ideal) ⟨2, ![A, B]⟩ e))
    (r : Fin a) (l : Fin b) (y : Fin A) (z : Fin B) (hy : y.val = o + r.val) (hz : z.val = p + l.val) :
    v.read (Elt Ideal) (v.writes (Elt Ideal) f (⟨Rect.unit (s := ⟨2, ![A, B]⟩) ![o, p] ![a, b] inb, w⟩ :: L)) (ix2 y z) = w (ix2 r l) :=
  View.read_writes_cons_unit_of_mem v f inb w L (ix2 y z) (ix2 r l) rfl
    (fun k => by
      refine Fin.cases ?_ (fun k => Fin.cases ?_ (fun k => k.elim0) k) k
      · exact hy
      · exact hz)

theorem read_skip2 (v : View sig' k' sp' ⟨2, ![A, B]⟩ e) (f : v.ty.Contents (Elt Ideal)) (o p : ℕ)
    (inb : ∀ k, (![o, p] : Fin 2 → ℕ) k + (![a, b] : Fin 2 → ℕ) k ≤ (![A, B] : Fin 2 → ℕ) k)
    (w : (Rect.unit (s := ⟨2, ![A, B]⟩) ![o, p] ![a, b] inb).shape.Idx → Elt Ideal e) (L : List (View.Piece (Elt Ideal) ⟨2, ![A, B]⟩ e))
    (y : Fin A) (z : Fin B) (h : (y.val < o ∨ o + a ≤ y.val) ∨ (z.val < p ∨ p + b ≤ z.val)) :
    v.read (Elt Ideal) (v.writes (Elt Ideal) f (⟨Rect.unit (s := ⟨2, ![A, B]⟩) ![o, p] ![a, b] inb, w⟩ :: L)) (ix2 y z)
      = v.read (Elt Ideal) (v.writes (Elt Ideal) f L) (ix2 y z) := by
  rcases h with h | h
  · exact View.read_writes_cons_unit_of_not_mem v f inb w L (ix2 y z) rfl 0 h
  · exact View.read_writes_cons_unit_of_not_mem v f inb w L (ix2 y z) rfl 1 h

/-- Four row blocks laid one after the other. -/
theorem rows4 (v : View sig' k' sp' ⟨2, ![4 * a, b]⟩ e) (f : v.ty.Contents (Elt Ideal)) (o1 o2 o3 : ℕ)
    (i0 : ∀ k, (![0, 0] : Fin 2 → ℕ) k + (![a, b] : Fin 2 → ℕ) k ≤ (![4 * a, b] : Fin 2 → ℕ) k)
    (i1 : ∀ k, (![o1, 0] : Fin 2 → ℕ) k + (![a, b] : Fin 2 → ℕ) k ≤ (![4 * a, b] : Fin 2 → ℕ) k)
    (i2 : ∀ k, (![o2, 0] : Fin 2 → ℕ) k + (![a, b] : Fin 2 → ℕ) k ≤ (![4 * a, b] : Fin 2 → ℕ) k)
    (i3 : ∀ k, (![o3, 0] : Fin 2 → ℕ) k + (![a, b] : Fin 2 → ℕ) k ≤ (![4 * a, b] : Fin 2 → ℕ) k)
    (w0 w1 w2 w3 : (⟨2, ![a, b]⟩ : Shape).Idx → Elt Ideal e) (g : ℕ → Fin b → Elt Ideal e)
    (e1 : o1 = a) (e2 : o2 = 2 * a) (e3 : o3 = 3 * a)
    (h0 : ∀ (r : Fin a) (l : Fin b), w0 (ix2 r l) = g (0 + r.val) l) (h1 : ∀ (r : Fin a) (l : Fin b), w1 (ix2 r l) = g (o1 + r.val) l)
    (h2 : ∀ (r : Fin a) (l : Fin b), w2 (ix2 r l) = g (o2 + r.val) l) (h3 : ∀ (r : Fin a) (l : Fin b), w3 (ix2 r l) = g (o3 + r.val) l)
    (n : Fin (4 * a)) (l : Fin b) :
    v.read (Elt Ideal) (v.writes (Elt Ideal) f
      [⟨Rect.unit (s := ⟨2, ![4 * a, b]⟩) ![o3, 0] ![a, b] i3, w3⟩, ⟨Rect.unit (s := ⟨2, ![4 * a, b]⟩) ![o2, 0] ![a, b] i2, w2⟩,
       ⟨Rect.unit (s := ⟨2, ![4 * a, b]⟩) ![o1, 0] ![a, b] i1, w1⟩, ⟨Rect.unit (s := ⟨2, ![4 * a, b]⟩) ![0, 0] ![a, b] i0, w0⟩]) (ix2 n l)
      = g n.val l := by
  have hn := n.isLt
  by_cases c3 : o3 ≤ n.val
  · rw [read_hit2 v f o3 0 i3 w3 _ ⟨n.val - o3, by omega⟩ l n l (by show n.val = o3 + (n.val - o3); omega) (by omega), h3]
    exact congrArg (g · l) (show o3 + (n.val - o3) = n.val by omega)
  rw [read_skip2 v f o3 0 i3 w3 _ n l (by omega)]
  by_cases c2 : o2 ≤ n.val
  · rw [read_hit2 v f o2 0 i2 w2 _ ⟨n.val - o2, by omega⟩ l n l (by show n.val = o2 + (n.val - o2); omega) (by omega), h2]
    exact congrArg (g · l) (show o2 + (n.val - o2) = n.val by omega)
  rw [read_skip2 v f o2 0 i2 w2 _ n l (by omega)]
  by_cases c1 : o1 ≤ n.val
  · rw [read_hit2 v f o1 0 i1 w1 _ ⟨n.val - o1, by omega⟩ l n l (by show n.val = o1 + (n.val - o1); omega) (by omega), h1]
    exact congrArg (g · l) (show o1 + (n.val - o1) = n.val by omega)
  rw [read_skip2 v f o1 0 i1 w1 _ n l (by omega),
    read_hit2 v f 0 0 i0 w0 _ ⟨n.val, by omega⟩ l n l (by show n.val = 0 + n.val; omega) (by omega), h0]
  exact congrArg (g · l) (Nat.zero_add _)

/-- Four column blocks laid one after the other. -/
theorem cols4 (v : View sig' k' sp' ⟨2, ![a, 4 * b]⟩ e) (f : v.ty.Contents (Elt Ideal)) (o1 o2 o3 : ℕ)
    (i0 : ∀ k, (![0, 0] : Fin 2 → ℕ) k + (![a, b] : Fin 2 → ℕ) k ≤ (![a, 4 * b] : Fin 2 → ℕ) k)
    (i1 : ∀ k, (![0, o1] : Fin 2 → ℕ) k + (![a, b] : Fin 2 → ℕ) k ≤ (![a, 4 * b] : Fin 2 → ℕ) k)
    (i2 : ∀ k, (![0, o2] : Fin 2 → ℕ) k + (![a, b] : Fin 2 → ℕ) k ≤ (![a, 4 * b] : Fin 2 → ℕ) k)
    (i3 : ∀ k, (![0, o3] : Fin 2 → ℕ) k + (![a, b] : Fin 2 → ℕ) k ≤ (![a, 4 * b] : Fin 2 → ℕ) k)
    (w0 w1 w2 w3 : (⟨2, ![a, b]⟩ : Shape).Idx → Elt Ideal e) (g : Fin a → ℕ → Elt Ideal e)
    (e1 : o1 = b) (e2 : o2 = 2 * b) (e3 : o3 = 3 * b)
    (h0 : ∀ (l : Fin a) (r : Fin b), w0 (ix2 l r) = g l (0 + r.val)) (h1 : ∀ (l : Fin a) (r : Fin b), w1 (ix2 l r) = g l (o1 + r.val))
    (h2 : ∀ (l : Fin a) (r : Fin b), w2 (ix2 l r) = g l (o2 + r.val)) (h3 : ∀ (l : Fin a) (r : Fin b), w3 (ix2 l r) = g l (o3 + r.val))
    (l : Fin a) (n : Fin (4 * b)) :
    v.read (Elt Ideal) (v.writes (Elt Ideal) f
      [⟨Rect.unit (s := ⟨2, ![a, 4 * b]⟩) ![0, o3] ![a, b] i3, w3⟩, ⟨Rect.unit (s := ⟨2, ![a, 4 * b]⟩) ![0, o2] ![a, b] i2, w2⟩,
       ⟨Rect.unit (s := ⟨2, ![a, 4 * b]⟩) ![0, o1] ![a, b] i1, w1⟩, ⟨Rect.unit (s := ⟨2, ![a, 4 * b]⟩) ![0, 0] ![a, b] i0, w0⟩]) (ix2 l n)
      = g l n.val := by
  have hn := n.isLt
  by_cases c3 : o3 ≤ n.val
  · rw [read_hit2 v f 0 o3 i3 w3 _ l ⟨n.val - o3, by omega⟩ l n (by omega) (by show n.val = o3 + (n.val - o3); omega), h3]
    exact congrArg (g l) (show o3 + (n.val - o3) = n.val by omega)
  rw [read_skip2 v f 0 o3 i3 w3 _ l n (by omega)]
  by_cases c2 : o2 ≤ n.val
  · rw [read_hit2 v f 0 o2 i2 w2 _ l ⟨n.val - o2, by omega⟩ l n (by omega) (by show n.val = o2 + (n.val - o2); omega), h2]
    exact congrArg (g l) (show o2 + (n.val - o2) = n.val by omega)
  rw [read_skip2 v f 0 o2 i2 w2 _ l n (by omega)]
  by_cases c1 : o1 ≤ n.val
  · rw [read_hit2 v f 0 o1 i1 w1 _ l ⟨n.val - o1, by omega⟩ l n (by omega) (by show n.val = o1 + (n.val - o1); omega), h1]
    exact congrArg (g l) (show o1 + (n.val - o1) = n.val by omega)
  rw [read_skip2 v f 0 o1 i1 w1 _ l n (by omega),
    read_hit2 v f 0 0 i0 w0 _ l ⟨n.val, by omega⟩ l n (by omega) (by show n.val = 0 + n.val; omega), h0]
  exact congrArg (g l) (Nat.zero_add _)

end Fill

section Pay

variable (v : FVec Ideal S1024x128 .f32)

theorem fill_q (r : Fin 1024) (d : Fin 128) : k0_pay3 (F := Ideal) v (ix2 r d) = (show EReal from v (ix2 r d)) * sc := by
  pointwise [k0_pay3, k0_pay2]; rfl

theorem fill_qt (d : Fin 128) (r : Fin 1024) : k0_pay4 (F := Ideal) v (ix2 d r) = (show EReal from v (ix2 r d)) * sc := by
  pointwise [k0_pay4, k0_pay2]; rfl

theorem fill_y (r : Fin 1024) (d : Fin 128) : k0_pay5 (F := Ideal) v (ix2 r d) = (show EReal from v (ix2 r d)) := by
  pointwise [k0_pay5]

theorem fill_yt (d : Fin 128) (r : Fin 1024) : k0_pay6 (F := Ideal) v (ix2 d r) = (show EReal from v (ix2 r d)) := by
  pointwise [k0_pay6]

theorem fill_dl (z : Fin 1) (r : Fin 1024) : k0_pay7 (F := Ideal) v (ix2 z r) = (show EReal from v (ix2 r 0)) := by
  pointwise [k0_pay7]

theorem fill_acc (d : Fin 128) (n : Fin 4096) : k0_pay40 (F := Ideal) (ix2 d n) = (show EReal from ((0 : ℝ) : EReal)) := by
  pointwise [k0_pay40]; exact EReal.coe_zero.symm

theorem fill_cq (n : Fin 4096) : k0_pay41 (F := Ideal) (ix3 0 0 n) = (show EReal from ((0 : ℝ) : EReal)) := by
  pointwise [k0_pay41]; exact EReal.coe_zero.symm

end Pay

section Chunk

variable (m : Memref AttnBwdIdeal.sig .tc .vmem S4096x128 .f32) (hm : m.IsWhole) (x : FVec Ideal S4096x128 .f32) (o : ℕ)
  (inb : ∀ k, (![o, 0] : Fin 2 → ℕ) k + (![1024, 128] : Fin 2 → ℕ) k ≤ S4096x128.size k)

/-- A block of 1024 rows. -/
abbrev chunk : FVec Ideal S1024x128 .f32 :=
  View.readAt (Elt Ideal) m.view (Rect.unit (s := S4096x128) ![o, 0] ![1024, 128] inb).toLoadRect (hm.unread x)

theorem read_chunk (ho : o + 1024 ≤ 4096) (r : Fin 1024) (d : Fin 128) : chunk m hm x o inb (ix2 r d) = x (ix2 ⟨o + r.val, by omega⟩ d) := by
  unfold chunk
  rw [View.readAt_unit m.view _ inb rfl inb, hm.read_unread]
  exact (window2 x _ _ inb r d (by omega) (by omega)).trans (congrArg x (by blk_ext))

end Chunk

section First

variable (cd : Dev nD) (ic : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (hc : first ic) (x0 : FVec Ideal S4096x128 .f32) (x1 : FVec Ideal S1024x128 .f32) (x2 : FVec Ideal S1024x128 .f32) (x3 : FVec Ideal S4096x128 .f32) (x4 : FVec Ideal S1x1x4096 .f32) (x5 : FVec Ideal S4096x128 .f32) (x6 : FVec Ideal S1024x128 .f32) {H : Head}

variable (hQ : ∀ (n : Fin 4096) (d : Fin 128), (show EReal from x0 (ix2 n d)) * sc = (show EReal from (H.Q n.val d : ℝ)))
  (hY : ∀ (n : Fin 4096) (d : Fin 128), x3 (ix2 n d) = (show EReal from (H.Y n.val d : ℝ)))
  (hE : ∀ n : Fin 4096, x4 (ix3 0 0 n) = (show EReal from (H.E n.val : ℝ)))
  (hD : ∀ n : Fin 4096, x5 (ix2 n 0) = (show EReal from (H.D n.val : ℝ)))

include hQ hY hE hD in
/-- What the first key block lays in the scratches. -/
theorem rows_first : Rows H (arg6.view.read (Elt Ideal) (harg6.unread x4))
    (arg13.view.read (Elt Ideal) (arg13.view.writes (Elt Ideal) arg13.view.junk (runA.sl.H13_4 (F := Ideal) cd arg2 harg2 x0)))
    (arg14.view.read (Elt Ideal) (arg14.view.writes (Elt Ideal) arg14.view.junk (runA.sl.H14_4 (F := Ideal) cd arg2 harg2 x0)))
    (arg15.view.read (Elt Ideal) (arg15.view.writes (Elt Ideal) arg15.view.junk (runA.sl.H15_4 (F := Ideal) cd arg5 harg5 x3)))
    (arg16.view.read (Elt Ideal) (arg16.view.writes (Elt Ideal) arg16.view.junk (runA.sl.H16_4 (F := Ideal) cd arg5 harg5 x3)))
    (arg17.view.read (Elt Ideal) (arg17.view.writes (Elt Ideal) arg17.view.junk (runA.sl.H17_4 (F := Ideal) cd arg7 harg7 x5))) := by
  have hq : ∀ (o : ℕ) (ho : o + 1024 ≤ 4096) (inb) (r : Fin 1024) (d : Fin 128),
      (show EReal from chunk arg2 harg2 x0 o inb (ix2 r d)) * sc
        = (show EReal from (H.Q (o + r.val) d : ℝ)) := fun o ho inb r d => by
    rw [read_chunk arg2 harg2 x0 o inb ho r d]; exact hQ _ _
  have hy : ∀ (o : ℕ) (ho : o + 1024 ≤ 4096) (inb) (r : Fin 1024) (d : Fin 128),
      (show EReal from chunk arg5 harg5 x3 o inb (ix2 r d))
        = (show EReal from (H.Y (o + r.val) d : ℝ)) := fun o ho inb r d => by
    rw [read_chunk arg5 harg5 x3 o inb ho r d]; exact hY _ _
  have hd : ∀ (o : ℕ) (ho : o + 1024 ≤ 4096) (inb) (r : Fin 1024),
      (show EReal from chunk arg7 harg7 x5 o inb (ix2 r 0))
        = (show EReal from (H.D (o + r.val) : ℝ)) := fun o ho inb r => by
    rw [read_chunk arg7 harg7 x5 o inb ho r 0]; exact hD _
  refine ⟨fun n => by rw [harg6.read_unread]; exact hE n, fun n d => ?_, fun d n => ?_, fun n d => ?_, fun d n => ?_, fun n => ?_⟩
  · unfold runA.sl.H13_4
    exact rows4 (a := 1024) (b := 128) arg13.view arg13.view.junk 1024 2048 3072 _ _ _ _
      (k0_pay3 (F := Ideal) (chunk arg2 harg2 x0 0 inb_S4096x128_S1024x128_0_0)) (k0_pay3 (F := Ideal) (chunk arg2 harg2 x0 1024 inb_S4096x128_S1024x128_1024_0)) (k0_pay3 (F := Ideal) (chunk arg2 harg2 x0 2048 inb_S4096x128_S1024x128_2048_0)) (k0_pay3 (F := Ideal) (chunk arg2 harg2 x0 3072 inb_S4096x128_S1024x128_3072_0)) (fun n d => (show EReal from (H.Q n d : ℝ))) rfl rfl rfl
      (fun r l => (fill_q _ r l).trans (hq 0 (by omega) _ r l))
      (fun r l => (fill_q _ r l).trans (hq 1024 (by omega) _ r l))
      (fun r l => (fill_q _ r l).trans (hq 2048 (by omega) _ r l))
      (fun r l => (fill_q _ r l).trans (hq 3072 (by omega) _ r l)) n d
  · unfold runA.sl.H14_4
    exact cols4 (a := 128) (b := 1024) arg14.view arg14.view.junk 1024 2048 3072 _ _ _ _
      (k0_pay4 (F := Ideal) (chunk arg2 harg2 x0 0 inb_S4096x128_S1024x128_0_0)) (k0_pay4 (F := Ideal) (chunk arg2 harg2 x0 1024 inb_S4096x128_S1024x128_1024_0)) (k0_pay4 (F := Ideal) (chunk arg2 harg2 x0 2048 inb_S4096x128_S1024x128_2048_0)) (k0_pay4 (F := Ideal) (chunk arg2 harg2 x0 3072 inb_S4096x128_S1024x128_3072_0)) (fun d n => (show EReal from (H.Q n d : ℝ))) rfl rfl rfl
      (fun l r => (fill_qt _ l r).trans (hq 0 (by omega) _ r l))
      (fun l r => (fill_qt _ l r).trans (hq 1024 (by omega) _ r l))
      (fun l r => (fill_qt _ l r).trans (hq 2048 (by omega) _ r l))
      (fun l r => (fill_qt _ l r).trans (hq 3072 (by omega) _ r l)) d n
  · unfold runA.sl.H15_4
    exact rows4 (a := 1024) (b := 128) arg15.view arg15.view.junk 1024 2048 3072 _ _ _ _
      (k0_pay5 (F := Ideal) (chunk arg5 harg5 x3 0 inb_S4096x128_S1024x128_0_0)) (k0_pay5 (F := Ideal) (chunk arg5 harg5 x3 1024 inb_S4096x128_S1024x128_1024_0)) (k0_pay5 (F := Ideal) (chunk arg5 harg5 x3 2048 inb_S4096x128_S1024x128_2048_0)) (k0_pay5 (F := Ideal) (chunk arg5 harg5 x3 3072 inb_S4096x128_S1024x128_3072_0)) (fun n d => (show EReal from (H.Y n d : ℝ))) rfl rfl rfl
      (fun r l => (fill_y _ r l).trans (hy 0 (by omega) _ r l))
      (fun r l => (fill_y _ r l).trans (hy 1024 (by omega) _ r l))
      (fun r l => (fill_y _ r l).trans (hy 2048 (by omega) _ r l))
      (fun r l => (fill_y _ r l).trans (hy 3072 (by omega) _ r l)) n d
  · unfold runA.sl.H16_4
    exact cols4 (a := 128) (b := 1024) arg16.view arg16.view.junk 1024 2048 3072 _ _ _ _
      (k0_pay6 (F := Ideal) (chunk arg5 harg5 x3 0 inb_S4096x128_S1024x128_0_0)) (k0_pay6 (F := Ideal) (chunk arg5 harg5 x3 1024 inb_S4096x128_S1024x128_1024_0)) (k0_pay6 (F := Ideal) (chunk arg5 harg5 x3 2048 inb_S4096x128_S1024x128_2048_0)) (k0_pay6 (F := Ideal) (chunk arg5 harg5 x3 3072 inb_S4096x128_S1024x128_3072_0)) (fun d n => (show EReal from (H.Y n d : ℝ))) rfl rfl rfl
      (fun l r => (fill_yt _ l r).trans (hy 0 (by omega) _ r l))
      (fun l r => (fill_yt _ l r).trans (hy 1024 (by omega) _ r l))
      (fun l r => (fill_yt _ l r).trans (hy 2048 (by omega) _ r l))
      (fun l r => (fill_yt _ l r).trans (hy 3072 (by omega) _ r l)) d n
  · unfold runA.sl.H17_4
    exact cols4 (a := 1) (b := 1024) arg17.view arg17.view.junk 1024 2048 3072 _ _ _ _
      (k0_pay7 (F := Ideal) (chunk arg7 harg7 x5 0 inb_S4096x128_S1024x128_0_0)) (k0_pay7 (F := Ideal) (chunk arg7 harg7 x5 1024 inb_S4096x128_S1024x128_1024_0)) (k0_pay7 (F := Ideal) (chunk arg7 harg7 x5 2048 inb_S4096x128_S1024x128_2048_0)) (k0_pay7 (F := Ideal) (chunk arg7 harg7 x5 3072 inb_S4096x128_S1024x128_3072_0)) (fun _ n => (show EReal from (H.D n : ℝ))) rfl rfl rfl
      (fun l r => (fill_dl _ l r).trans (hd 0 (by omega) _ r))
      (fun l r => (fill_dl _ l r).trans (hd 1024 (by omega) _ r))
      (fun l r => (fill_dl _ l r).trans (hd 2048 (by omega) _ r))
      (fun l r => (fill_dl _ l r).trans (hd 3072 (by omega) _ r)) 0 n

end First

end Cert.AttnOwn

end
-- ==== Proof.AttnInit.lean ====
module

public import proofs.«01_k».proof.Proof.AttnFirst
public import proofs.«01_k».proof.Proof.AttnFrame

/-! The attention backward's body at a head's first key block, as the run leaves it. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

/-- Pieces laid over laid pieces. -/
theorem writes_over {sg : RefSig} {kd : Kind} {sp : Space} {sh : Shape} {e : EltTy} (v : View sg kd sp sh e) (f : v.ty.Contents (Elt Ideal))
    (L M : List (View.Piece (Elt Ideal) sh e)) (p : View.Piece (Elt Ideal) sh e) :
    v.writes (Elt Ideal) (v.writes (Elt Ideal) f M) (L ++ [p]) = v.writes (Elt Ideal) f (L ++ p :: M) := by
  rw [View.writes_append, View.writes_append]
  rfl

/-- The two carried gradients are laid at zero. -/
theorem part_first {H : Head} (arg12 : Memref AttnBwdIdeal.sig .tc .vmem S1x1x4096 .f32) (arg18 : Memref AttnBwdIdeal.sig .tc .vmem S128x4096 .f32) :
    Part H 0 0 (arg18.view.read (Elt Ideal) (arg18.view.writes (Elt Ideal) arg18.view.junk (runA.sl.H18_1 (F := Ideal))))
      (arg12.view.read (Elt Ideal) (arg12.view.writes (Elt Ideal) arg12.view.junk (runA.sl.H12_1 (F := Ideal)))) := by
  refine Part.start (fun d n => ?_) (fun n => ?_)
  · unfold runA.sl.H18_1
    refine (read_hit2 (a := 128) (b := 4096) arg18.view arg18.view.junk 0 0 _ (k0_pay40 (F := Ideal)) [] d n d n (by omega) (by omega)).trans ?_
    rw [fill_acc]
    simp [Head.acc]
  · unfold runA.sl.H12_1
    refine (View.read_writes_cons_unit_of_mem (s := S1x1x4096) (off := ![0, 0, 0]) (off' := ![0, 0, 0]) (size := ![1, 1, 4096]) (Val := Elt Ideal) (e := .f32) arg12.view arg12.view.junk inb_S1x1x4096_S1x1x4096_0_0_0 (k0_pay41 (F := Ideal)) [] (ix3 0 0 n) (ix3 0 0 n) rfl
      (fun k => ?_)).trans ?_
    · refine Fin.cases ?_ (fun k => Fin.cases ?_ (fun k => Fin.cases ?_ (fun k => k.elim0) k) k) k
      · rfl
      · rfl
      · exact (Nat.zero_add _).symm
    rw [fill_cq]
    simp [Head.cq]

set_option maxHeartbeats 1000000 in
/-- The body at a head's first key block. -/
theorem left_first (cd : Dev nD) (ic : grid0.Coords) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S4096x128 .f32) (harg7 : arg7.IsWhole) (arg8 : Memref sig .tc .vmem S1024x128 .f32) (harg8 : arg8.IsWhole) (arg10 : Memref sig .tc .vmem S1024x384 .bf16) (harg10 : arg10.IsWhole) (arg11 : Memref sig .tc .vmem S1x1x1024 .f32) (harg11 : arg11.IsWhole) (arg12 : Memref sig .tc .vmem S1x1x4096 .f32) (harg12 : arg12.IsWhole) (arg13 : Memref sig .tc .vmem S4096x128 .bf16) (harg13 : arg13.IsWhole) (arg14 : Memref sig .tc .vmem S128x4096 .bf16) (harg14 : arg14.IsWhole) (arg15 : Memref sig .tc .vmem S4096x128 .bf16) (harg15 : arg15.IsWhole) (arg16 : Memref sig .tc .vmem S128x4096 .bf16) (harg16 : arg16.IsWhole) (arg17 : Memref sig .tc .vmem S1x4096 .f32) (harg17 : arg17.IsWhole) (arg18 : Memref sig .tc .vmem S128x4096 .f32) (harg18 : arg18.IsWhole) (hc : first ic) (x0 : FVec Ideal S4096x128 .f32) (x1 : FVec Ideal S1024x128 .f32) (x2 : FVec Ideal S1024x128 .f32) (x3 : FVec Ideal S4096x128 .f32) (x4 : FVec Ideal S1x1x4096 .f32) (x5 : FVec Ideal S4096x128 .f32) (x6 : FVec Ideal S1024x128 .f32) {H : Head} (hc' : (ic 1).val = 0)
    (hQ : ∀ (n : Fin 4096) (d : Fin 128), (show EReal from x0 (ix2 n d)) * sc = (show EReal from (H.Q n.val d : ℝ)))
    (hY : ∀ (n : Fin 4096) (d : Fin 128), x3 (ix2 n d) = (show EReal from (H.Y n.val d : ℝ)))
    (hE : ∀ n : Fin 4096, x4 (ix3 0 0 n) = (show EReal from (H.E n.val : ℝ)))
    (hD : ∀ n : Fin 4096, x5 (ix2 n 0) = (show EReal from (H.D n.val : ℝ)))
    (hk : Keys H (ic 1).val (k0_pay43 (F := Ideal) x1) (k0_pay45 (F := Ideal) x2) (k0_pay44 (F := Ideal) x1) (k0_pay46 (F := Ideal) ic x6)) :
    Left H (ic 1).val (View.canon (runA (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6).1)
      (View.canon (runA (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6).2.1)
      (arg12.view.read (Elt Ideal) (runA (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6).2.2.1)
      (arg18.view.read (Elt Ideal) (runA (F := Ideal) cd ic arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 hc x0 x1 x2 x3 x4 x5 x6).2.2.2.2.2.2.2.2.1) := by
  refine body_left cd ic arg2 harg2 arg3 harg3 arg4 harg4 arg5 harg5 arg6 harg6 arg7 harg7 arg8 harg8 (Memref.whole main_arg5) (Memref.isWhole_whole _) arg10 harg10 arg11 harg11 arg12 harg12 arg13 harg13 arg14 harg14 arg15 harg15 arg16 harg16 arg17 harg17 arg18 harg18 (harg6.unread x4) (arg13.view.writes (Elt Ideal) arg13.view.junk (runA.sl.H13_4 (F := Ideal) cd arg2 harg2 x0)) (arg14.view.writes (Elt Ideal) arg14.view.junk (runA.sl.H14_4 (F := Ideal) cd arg2 harg2 x0))
    (arg15.view.writes (Elt Ideal) arg15.view.junk (runA.sl.H15_4 (F := Ideal) cd arg5 harg5 x3)) (arg16.view.writes (Elt Ideal) arg16.view.junk (runA.sl.H16_4 (F := Ideal) cd arg5 harg5 x3)) (arg17.view.writes (Elt Ideal) arg17.view.junk (runA.sl.H17_4 (F := Ideal) cd arg7 harg7 x5)) (arg12.view.writes (Elt Ideal) arg12.view.junk (runA.sl.H12_1 (F := Ideal))) (arg18.view.writes (Elt Ideal) arg18.view.junk (runA.sl.H18_1 (F := Ideal))) (View.readAt (Elt Ideal) arg3.view (Rect.unit ![0, 0] S1024x128.size inb_S1024x128_S1024x128_0_0).toLoadRect (harg3.unread x1)) (View.readAt (Elt Ideal) arg4.view (Rect.unit ![0, 0] S1024x128.size inb_S1024x128_S1024x128_0_0).toLoadRect (harg4.unread x2)) (View.readAt (Elt Ideal) arg8.view (Rect.unit ![0, 0] S1024x128.size inb_S1024x128_S1024x128_0_0).toLoadRect (harg8.unread x6))
    (BitVec.ofNat 32 (ic 1).val) k0_pay48 (k0_pay52 (F := Ideal) (k0_pay45 (F := Ideal) (View.readAt (Elt Ideal) arg4.view (Rect.unit ![0, 0] S1024x128.size inb_S1024x128_S1024x128_0_0).toLoadRect (harg4.unread x2))) (scores ic arg6 arg13 (harg6.unread x4) (arg13.view.writes (Elt Ideal) arg13.view.junk (runA.sl.H13_4 (F := Ideal) cd arg2 harg2 x0)) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runA.sl.cst_13 (ld15 ic arg15 (arg15.view.writes (Elt Ideal) arg15.view.junk (runA.sl.H15_4 (F := Ideal) cd arg5 harg5 x3))) (ld17 ic arg17 (arg17.view.writes (Elt Ideal) arg17.view.junk (runA.sl.H17_4 (F := Ideal) cd arg7 harg7 x5))))
    (k0_pay54 (F := Ideal) (k0_pay47 (F := Ideal)) (scores ic arg6 arg13 (harg6.unread x4) (arg13.view.writes (Elt Ideal) arg13.view.junk (runA.sl.H13_4 (F := Ideal) cd arg2 harg2 x0)) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runA.sl.cst_13 (ld16 ic arg16 (arg16.view.writes (Elt Ideal) arg16.view.junk (runA.sl.H16_4 (F := Ideal) cd arg5 harg5 x3))))
    (k0_pay55 (F := Ideal) (k0_pay45 (F := Ideal) (View.readAt (Elt Ideal) arg4.view (Rect.unit ![0, 0] S1024x128.size inb_S1024x128_S1024x128_0_0).toLoadRect (harg4.unread x2))) (k0_pay47 (F := Ideal)) (scores ic arg6 arg13 (harg6.unread x4) (arg13.view.writes (Elt Ideal) arg13.view.junk (runA.sl.H13_4 (F := Ideal) cd arg2 harg2 x0)) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runA.sl.cst_13 (ld15 ic arg15 (arg15.view.writes (Elt Ideal) arg15.view.junk (runA.sl.H15_4 (F := Ideal) cd arg5 harg5 x3))) (ld17 ic arg17 (arg17.view.writes (Elt Ideal) arg17.view.junk (runA.sl.H17_4 (F := Ideal) cd arg7 harg7 x5))) (ld14 ic arg14 (arg14.view.writes (Elt Ideal) arg14.view.junk (runA.sl.H14_4 (F := Ideal) cd arg2 harg2 x0))))
    (k0_pay58 (F := Ideal) (k0_pay45 (F := Ideal) (View.readAt (Elt Ideal) arg4.view (Rect.unit ![0, 0] S1024x128.size inb_S1024x128_S1024x128_0_0).toLoadRect (harg4.unread x2))) (scores ic arg6 arg13 (harg6.unread x4) (arg13.view.writes (Elt Ideal) arg13.view.junk (runA.sl.H13_4 (F := Ideal) cd arg2 harg2 x0)) (View.readAt (Elt Ideal) arg3.view (Rect.unit ![0, 0] S1024x128.size inb_S1024x128_S1024x128_0_0).toLoadRect (harg3.unread x1)) (View.readAt (Elt Ideal) arg8.view (Rect.unit ![0, 0] S1024x128.size inb_S1024x128_S1024x128_0_0).toLoadRect (harg8.unread x6))) k0_pay50 runA.sl.cst_13 (ld15 ic arg15 (arg15.view.writes (Elt Ideal) arg15.view.junk (runA.sl.H15_4 (F := Ideal) cd arg5 harg5 x3))) (ld17 ic arg17 (arg17.view.writes (Elt Ideal) arg17.view.junk (runA.sl.H17_4 (F := Ideal) cd arg7 harg7 x5))))
    (runA.sl.v96 ic) ?_ ?_ ?_ _ _ _ _ inb_S1024x384_S1024x128_0_0 inb_S1024x384_S1024x128_0_128 inb_S1024x384_S1024x128_0_256 inb_S1x1x1024_S1x1x1024_0_0_0 ?_ ?_ ?_ ?_
  · exact rows_first cd arg2 harg2 arg5 harg5 arg6 harg6 arg7 harg7 arg13 arg14 arg15 arg16 arg17 x0 x3 x4 x5 hQ hY hE hD
  · rw [read1 arg3 harg3, read1 arg4 harg4, read1 arg8 harg8]; exact hk
  · rw [show (ic 1).val = 0 from hc']; exact part_first arg12 arg18
  · unfold runA runA.sl.v107; dsimp only; rw [t2_trips]
    unfold ld18 L18 own18; rw [writes_over]
    rfl
  · unfold runA runA.sl.r_9; dsimp only; rw [t2_trips]
    rfl
  · unfold runA; dsimp only; rw [t2_trips]
    unfold L12 own12; rw [writes_over]
    rfl
  · unfold runA; dsimp only; rw [t2_trips]
    unfold L18 own18; rw [writes_over]
    rfl

end Cert.AttnOwn

end
-- ==== Proof.AttnSteps.lean ====
module

public import proofs.«01_k».proof.Proof.AttnInit

/-! The attention backward's points in order: what each leaves, by induction. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

variable (m : (ℓ : Loc nD τ sig) → Buf (Elt Ideal) ℓ) (c : Dev nD)

/-- What the windows' blocks hold, head by head. -/
structure Blocks (Hd : ℕ → Head) : Prop where
  q : ∀ (t : Fin cfg0.N) (n : Fin 4096) (d : Fin 128),
    (show EReal from (iblk m c 0 t : FVec Ideal S4096x128 .f32) (ix2 n d)) * sc = (show EReal from ((Hd (t.val / 4)).Q n.val d : ℝ))
  k : ∀ (t : Fin cfg0.N) (r : Fin 1024) (d : Fin 128),
    (iblk m c 1 t : FVec Ideal S1024x128 .f32) (ix2 r d) = (show EReal from ((Hd (t.val / 4)).K (1024 * (t.val % 4) + r.val) d : ℝ))
  v : ∀ (t : Fin cfg0.N) (r : Fin 1024) (d : Fin 128),
    (iblk m c 2 t : FVec Ideal S1024x128 .f32) (ix2 r d) = (show EReal from ((Hd (t.val / 4)).V (1024 * (t.val % 4) + r.val) d : ℝ))
  y : ∀ (t : Fin cfg0.N) (n : Fin 4096) (d : Fin 128),
    (iblk m c 3 t : FVec Ideal S4096x128 .f32) (ix2 n d) = (show EReal from ((Hd (t.val / 4)).Y n.val d : ℝ))
  e : ∀ (t : Fin cfg0.N) (n : Fin 4096),
    (iblk m c 4 t : FVec Ideal S1x1x4096 .f32) (ix3 0 0 n) = (show EReal from ((Hd (t.val / 4)).E n.val : ℝ))
  d : ∀ (t : Fin cfg0.N) (n : Fin 4096),
    (iblk m c 5 t : FVec Ideal S4096x128 .f32) (ix2 n 0) = (show EReal from ((Hd (t.val / 4)).D n.val : ℝ))
  c : ∀ (t : Fin cfg0.N) (r : Fin 1024) (l : Fin 128), l.val = t.val / 4 →
    (iblk m c 6 t : FVec Ideal S1024x128 .f32) (ix2 r l) = (show EReal from ((Hd (t.val / 4)).C (1024 * (t.val % 4) + r.val) : ℝ))

theorem coord0 (t : Fin cfg0.N) : (grid0.coords t 0).val = t.val / 4 := by
  have ht : t.val < 32 := Nat.lt_of_lt_of_eq t.isLt N_0
  have e1 : (grid0.coords t 0).val = t.val / 4 % 8 := Pipeline.Grid.coords_val t 0 (by decide) rfl
  omega

theorem coord1 (t : Fin cfg0.N) : (grid0.coords t 1).val = t.val % 4 := by
  have e1 : (grid0.coords t 1).val = t.val / 1 % 4 := Pipeline.Grid.coords_val t 1 (by decide) rfl
  omega

variable {m c} {Hd : ℕ → Head} (hb : Blocks m c Hd)
include hb

theorem Blocks.keys (t : Fin cfg0.N) : Keys (Hd (t.val / 4)) (grid0.coords t 1).val (k0_pay43 (F := Ideal) (iblk m c 1 t))
    (k0_pay45 (F := Ideal) (iblk m c 2 t)) (k0_pay44 (F := Ideal) (iblk m c 1 t)) (k0_pay46 (F := Ideal) (grid0.coords t) (iblk m c 6 t)) := by
  refine keys_of (fun r d => ?_) (fun r d => ?_) (fun r l h => ?_)
  · rw [coord1]; exact hb.k t r d
  · rw [coord1]; exact hb.v t r d
  · rw [coord1]; exact hb.c t r l (h.trans (coord0 t))

/-- What stands after a point. -/
abbrev Stands (Hd : ℕ → Head) (t : Fin cfg0.N) (s : St Ideal) : Prop :=
  Left (Hd (t.val / 4)) (t.val % 4) s.o7 s.o8 s.o9 s.acc ∧ Rows (Hd (t.val / 4)) (iblk m c 4 t) s.q s.qt s.y s.yt s.dl

set_option maxHeartbeats 1000000 in
theorem stands_first (t : Fin cfg0.N) (h : t.val % 4 = 0) : Stands (m := m) (c := c) Hd t (stA m c t h) := by
  refine ⟨?_, ?_⟩
  · have hl := left_first (H := Hd (t.val / 4)) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) ((first_iff t).mpr h) (iblk m c 0 t) (iblk m c 1 t) (iblk m c 2 t) (iblk m c 3 t) (iblk m c 4 t) (iblk m c 5 t) (iblk m c 6 t) ((coord1 t).trans h) (hb.q t) (hb.y t) (hb.e t) (hb.d t) (hb.keys t)
    unfold stA runAt
    dsimp only
    refine (congrArg (fun j => Left (Hd (t.val / 4)) j _ _ _ _) (coord1 t)).mp ?_
    exact hl
  · have hr := rows_first (H := Hd (t.val / 4)) c (st0_0 t) (hstage0_0 ((cfg0.slots t 0).cast nbuf0_0)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.whole cc0_scratch1) (Memref.whole cc0_scratch2) (Memref.whole cc0_scratch3) (Memref.whole cc0_scratch4) (iblk m c 0 t) (iblk m c 3 t) (iblk m c 4 t) (iblk m c 5 t) (hb.q t) (hb.y t) (hb.e t) (hb.d t)
    unfold stA runAt runA
    dsimp only
    exact ⟨hb.e t, hr.q, hr.qt, hr.y, hr.yt, hr.d⟩

set_option maxHeartbeats 1000000 in
theorem stands_later (t : Fin cfg0.N) (h : ¬t.val % 4 = 0) (s : St Ideal) (t' : Fin cfg0.N) (ht : t'.val + 1 = t.val)
    (hs : Stands (m := m) (c := c) Hd t' s) : Stands (m := m) (c := c) Hd t (stB m c t h s) := by
  have e1 : t'.val / 4 = t.val / 4 := by omega
  have e2 : t'.val % 4 + 1 = t.val % 4 := by omega
  obtain ⟨hl, hr⟩ := hs
  rw [e1] at hl hr
  have hr' : Rows (Hd (t.val / 4)) (iblk m c 4 t) s.q s.qt s.y s.yt s.dl := ⟨hb.e t, hr.q, hr.qt, hr.y, hr.yt, hr.d⟩
  refine ⟨?_, by unfold stB; exact hr'⟩
  have hp : Part (Hd (t.val / 4)) (t.val % 4) (t.val % 4) s.acc s.o9 := by
    rw [← e2]; exact Part.start hl.a hl.c
  rw [← coord1] at hp
  have hl' := left_later (H := Hd (t.val / 4)) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (fun hc => h ((first_iff t).mp hc)) (iblk m c 0 t) (iblk m c 1 t) (iblk m c 2 t) (iblk m c 3 t) (iblk m c 4 t) (iblk m c 5 t) (iblk m c 6 t) s.o9 s.q s.qt s.y s.yt s.dl s.acc hr' (hb.keys t) hp
  rw [coord1] at hl'
  unfold stB runBt
  dsimp only
  exact hl'

/-- What stands after every point. -/
theorem stands (n : ℕ) (hn : n < cfg0.N) : Stands (m := m) (c := c) Hd ⟨n, hn⟩ (st m c n hn) := by
  induction n with
  | zero => exact stands_first hb ⟨0, hn⟩ rfl
  | succ n ih =>
    by_cases h : (n + 1) % 4 = 0
    · rw [st_first m c ⟨n + 1, hn⟩ h]; exact stands_first hb ⟨n + 1, hn⟩ h
    · rw [st_later m c ⟨n + 1, hn⟩ h]; exact stands_later hb ⟨n + 1, hn⟩ h _ ⟨n, Nat.lt_of_succ_lt hn⟩ rfl (ih _)

end Cert.AttnOwn

end
-- ==== Proof.AttnRead.lean ====
module

public import proofs.«01_k».proof.Proof.AttnBlock
public import proofs.«01_k».proof.Proof.Gen.AttnRefIdeal.Read

/-! The reference's gradient of the forgetting attention, stage by stage, in real numbers. -/

@[expose] public section

set_option maxRecDepth 16384

noncomputable section

open Idealize.ShloMosaic Idealize.ShloMosaic.TcCoe

namespace Cert.AttnOwn

open Cert Cert.Reals Cert.AttnRefIdeal Cert.AttnRefIdeal.Read

/-- The column of head `h`'s lane `d`. -/
abbrev col (h : Fin 8) (d : Fin 128) : Fin 1024 := ⟨h.val * 128 + d.val, by omega⟩

/-- A head's rows, as real numbers. -/
def rl (x : FVec Ideal S4096x1024 .f32) (h : Fin 8) (n : Fin 4096) (d : Fin 128) : ℝ := (show EReal from x (ix2 n (col h d))).toReal

/-- A head's column of the forget sums. -/
def rc (x : FVec Ideal S4096x8 .f32) (h : Fin 8) (n : Fin 4096) : ℝ := (show EReal from x (ix2 n h)).toReal

/-- An array of numbers. -/
def Numbers {s : Shape} (x : FVec Ideal s .f32) : Prop := ∀ i, x i = (show EReal from ((show EReal from x i).toReal : ℝ))

variable (x0 x1 x2 : FVec Ideal S4096x1024 .f32) (x3 : FVec Ideal S4096x8 .f32) (x4 : FVec Ideal S4096x1024 .f32)

/-- The score of key `k` under query `n`. -/
def sco (h : Fin 8) (n k : Fin 4096) : ℝ := ∑ d, rl x0 h n d * scr * rl x1 h k d + rc x3 h n - rc x3 h k

theorem neg_inf : Ideal.ofBits .f32 0xFF800000#32 = ⊥ := by simp [Ideal.ofBits, Ideal.ieee]

theorem le_bit (k n : Fin 4096) : IntOp.cmpi CmpIPredicate.sle (BitVec.ofNat 32 k.val) (BitVec.ofNat 32 n.val) = if k ≤ n then 1#1 else 0#1 := by
  rw [WordCmp.cmpi_sle_ofNat (by omega) (by omega)]
  by_cases h : k ≤ n
  · rw [if_pos h, decide_eq_true (Fin.le_def.1 h)]; rfl
  · rw [if_neg h, decide_eq_false (fun h' => h (Fin.le_def.2 h'))]; rfl

section
variable {x0 x1 x2 x3 x4} (h0 : Numbers x0) (h1 : Numbers x1) (h3 : Numbers x3)
include h0 h1 h3

theorem score_read (h : Fin 8) (n k : Fin 4096) : val_main_v14 (F := Ideal) x0 x1 x3 (ix3 h n k) = (show EReal from (sco x0 x1 x3 h n k : ℝ)) := by
  pointwise [val_main_v0, val_main_v1, val_main_cst, val_main_v2, val_main_v3, val_main_v4, val_main_v5, val_main_v6, val_main_v7, val_main_v8, val_main_v9, val_main_v10, val_main_v11, val_main_v12, val_main_v13, val_main_v14]
  unfold sco
  rw [EReal.coe_sub, EReal.coe_add, coe_sum]
  refine congrArg₂ (fun a b : EReal => a - b) (congrArg₂ (fun a b : EReal => a + b) (Finset.sum_congr rfl fun d _ => ?_) (h3 _)) (h3 _)
  rw [EReal.coe_mul, EReal.coe_mul, ← sc_eq]
  exact congrArg₂ (fun a b : EReal => a * sc * b) (h0 _) (h1 _)

theorem masked_read (h : Fin 8) (n k : Fin 4096) : val_main_v21_0 (F := Ideal) x0 x1 x3 (ix3 h n k)
    = (show EReal from if k ≤ n then ((sco x0 x1 x3 h n k : ℝ) : EReal) else ⊥) := by
  pointwise [val_main_v15, val_main_v16, val_main_v17, val_main_v18, val_main_v19, val_main_v20, val_main_cst_0, val_main_call0_v0, val_main_v21_1, val_main_call0_v2, val_main_v21_0]
  rw [le_bit, score_read h0 h1 h3]
  by_cases hk : k ≤ n
  · rw [if_pos hk, if_pos hk]; rfl
  · rw [if_neg hk, if_neg hk]; exact neg_inf

/-- The row's greatest score. -/
theorem max_real (h : Fin 8) (n : Fin 4096) : ∃ r : ℝ, val_main_v22 (F := Ideal) x0 x1 x3 (ix2 h n) = (show EReal from (r : ℝ)) := by
  have e : val_main_v22 (F := Ideal) x0 x1 x3 (ix2 h n) = (show EReal from Finset.fold max ⊥ (fun k : Fin 4096 => if k ≤ n then ((sco x0 x1 x3 h n k : ℝ) : EReal) else ⊥) Finset.univ) := by
    pointwise [val_main_v22, val_main_cst_1]
    rw [neg_inf]
    exact congrArg (fun f => Finset.fold max (⊥ : EReal) f Finset.univ) (funext fun k => masked_read h0 h1 h3 h n k)
  rw [e]
  have hlt : Finset.fold max ⊥ (fun k : Fin 4096 => if k ≤ n then ((sco x0 x1 x3 h n k : ℝ) : EReal) else ⊥) Finset.univ < ⊤ :=
    (Finset.fold_max_lt _).2 ⟨bot_lt_top, fun k _ => by split <;> simp [EReal.coe_lt_top]⟩
  have hgt : ⊥ < Finset.fold max ⊥ (fun k : Fin 4096 => if k ≤ n then ((sco x0 x1 x3 h n k : ℝ) : EReal) else ⊥) Finset.univ :=
    (Finset.lt_fold_max _).2 (Or.inr ⟨n, Finset.mem_univ _, by rw [if_pos le_rfl]; exact EReal.bot_lt_coe _⟩)
  exact ⟨_, (EReal.coe_toReal hlt.ne hgt.ne').symm⟩

end

/-- The row's greatest score, as a number. -/
def big (h : Fin 8) (n : Fin 4096) : ℝ := (show EReal from val_main_v22 (F := Ideal) x0 x1 x3 (ix2 h n)).toReal

/-- The exponential of a pair's score, its row's greatest taken off. -/
def ex (h : Fin 8) (n k : Fin 4096) : ℝ := if k ≤ n then Real.exp (sco x0 x1 x3 h n k - big x0 x1 x3 h n) else 0

/-- The row's sum. -/
def tot (h : Fin 8) (n : Fin 4096) : ℝ := ∑ k, ex x0 x1 x3 h n k

theorem ex_nonneg (h : Fin 8) (n k : Fin 4096) : 0 ≤ ex x0 x1 x3 h n k := by
  unfold ex; split
  · exact (Real.exp_pos _).le
  · exact le_rfl

theorem tot_pos (h : Fin 8) (n : Fin 4096) : 0 < tot x0 x1 x3 h n :=
  lt_of_lt_of_le (show 0 < ex x0 x1 x3 h n n by unfold ex; rw [if_pos le_rfl]; exact Real.exp_pos _)
    (Finset.single_le_sum (fun k _ => ex_nonneg x0 x1 x3 h n k) (Finset.mem_univ n))

/-- A pair's probability. -/
def prb (h : Fin 8) (n k : Fin 4096) : ℝ := ex x0 x1 x3 h n k / tot x0 x1 x3 h n

/-- The probability's gradient. -/
def dpr (h : Fin 8) (n k : Fin 4096) : ℝ := ∑ d, rl x4 h n d * rl x2 h k d

/-- The row's mean of the probability's gradient. -/
def mean (h : Fin 8) (n : Fin 4096) : ℝ := ∑ k, prb x0 x1 x3 h n k * dpr x2 x4 h n k

/-- The score's gradient. -/
def dsc (h : Fin 8) (n k : Fin 4096) : ℝ := prb x0 x1 x3 h n k * (dpr x2 x4 h n k - mean x0 x1 x2 x3 x4 h n)

section
variable {x0 x1 x2 x3 x4} (h0 : Numbers x0) (h1 : Numbers x1) (h2 : Numbers x2) (h3 : Numbers x3) (h4 : Numbers x4)
include h0 h1 h3

theorem max_read (h : Fin 8) (n : Fin 4096) : val_main_v22 (F := Ideal) x0 x1 x3 (ix2 h n) = (show EReal from (big x0 x1 x3 h n : ℝ)) := by
  obtain ⟨r, hr⟩ := max_real h0 h1 h3 h n
  unfold big
  rw [hr]
  exact congrArg (fun z : ℝ => (z : EReal)) (EReal.toReal_coe r).symm

theorem ex_coe (h : Fin 8) (n k : Fin 4096) : Ideal.exp ((if k ≤ n then ((sco x0 x1 x3 h n k : ℝ) : EReal) else ⊥) - ((big x0 x1 x3 h n : ℝ) : EReal))
    = ((ex x0 x1 x3 h n k : ℝ) : EReal) := by
  unfold ex
  by_cases hk : k ≤ n
  · rw [if_pos hk, if_pos hk, ← EReal.coe_sub, exp_coe]
  · rw [if_neg hk, if_neg hk, EReal.bot_sub, Ideal.exp_bot, EReal.coe_zero]

theorem exp_read (h : Fin 8) (n k : Fin 4096) : val_main_v42 (F := Ideal) x0 x1 x3 (ix3 h n k) = (show EReal from (ex x0 x1 x3 h n k : ℝ)) := by
  have e1 : idx_main_v40 (ix3 h n k) = ix3 h n 0 := by funext a; fin_cases a <;> rfl
  have e2 : idx_main_v39 (ix3 h n 0) = ix2 h n := by funext a; fin_cases a <;> rfl
  rw [val_main_v42_apply, val_main_v41_apply, val_main_v40_apply, e1, val_main_v39_apply, e2, val_main_v29_apply, val_main_v28_apply, max_read h0 h1 h3, masked_read h0 h1 h3]
  refine Eq.trans ?_ (ex_coe h0 h1 h3 h n k)
  refine congrArg (fun z : EReal => Ideal.exp ((if k ≤ n then ((sco x0 x1 x3 h n k : ℝ) : EReal) else ⊥) - z)) ?_
  show max (Ideal.ofBits .f32 0xFF800000#32) ((big x0 x1 x3 h n : ℝ) : EReal) = _
  rw [neg_inf, max_eq_right bot_le]

theorem sum_read (h : Fin 8) (n : Fin 4096) : val_main_v43 (F := Ideal) x0 x1 x3 (ix2 h n) = (show EReal from (tot x0 x1 x3 h n : ℝ)) := by
  pointwise [val_main_cst_9, val_main_v43]
  unfold tot
  rw [coe_sum]
  exact Finset.sum_congr rfl fun k _ => exp_read h0 h1 h3 h n k

theorem prob_read (h : Fin 8) (n k : Fin 4096) : val_main_v46 (F := Ideal) x0 x1 x3 (ix3 h n k) = (show EReal from (prb x0 x1 x3 h n k : ℝ)) := by
  pointwise [val_main_v44, val_main_v45, val_main_v46]
  rw [sum_read h0 h1 h3, exp_read h0 h1 h3]
  exact div_coe _ _ (tot_pos x0 x1 x3 h n).ne'

omit h0 h1 h3 in
include h2 h4 in
theorem dp_read (h : Fin 8) (n k : Fin 4096) : val_main_v59 (F := Ideal) x2 x4 (ix3 h n k) = (show EReal from (dpr x2 x4 h n k : ℝ)) := by
  pointwise [val_main_v50, val_main_v51, val_main_v55, val_main_v56, val_main_v59]
  unfold dpr
  rw [coe_sum]
  refine Finset.sum_congr rfl fun d _ => ?_
  rw [EReal.coe_mul]
  exact congrArg₂ (fun a b : EReal => a * b) (h4 _) (h2 _)

include h2 h4

theorem mean_read (h : Fin 8) (n : Fin 4096) : val_main_v65 (F := Ideal) x0 x1 x2 x3 x4 (ix2 h n)
    = (show EReal from (mean x0 x1 x2 x3 x4 h n / tot x0 x1 x3 h n : ℝ)) := by
  pointwise [val_main_v44, val_main_v47, val_main_cst_10, val_main_v48, val_main_v49, val_main_v62, val_main_v63, val_main_v64, val_main_cst_11, val_main_v65]
  have hp := (tot_pos x0 x1 x3 h n).ne'
  have e : mean x0 x1 x2 x3 x4 h n / tot x0 x1 x3 h n
      = ∑ k, dpr x2 x4 h n k * (1 / (tot x0 x1 x3 h n * tot x0 x1 x3 h n)) * ex x0 x1 x3 h n k := by
    unfold mean prb
    rw [Finset.sum_div]
    exact Finset.sum_congr rfl fun k _ => by field_simp
  rw [e, coe_sum]
  refine Finset.sum_congr rfl fun k _ => ?_
  rw [dp_read h2 h4, sum_read h0 h1 h3, exp_read h0 h1 h3, EReal.coe_mul, EReal.coe_mul, ← div_coe _ _ (mul_ne_zero hp hp), EReal.coe_mul, EReal.coe_one]

theorem dsc_read (h : Fin 8) (n k : Fin 4096) : val_main_v74 (F := Ideal) x0 x1 x2 x3 x4 (ix3 h n k) = (show EReal from (dsc x0 x1 x2 x3 x4 h n k : ℝ)) := by
  pointwise [val_main_v15, val_main_v16, val_main_v17, val_main_v18, val_main_v19, val_main_v20, val_main_v21_1, val_main_v44, val_main_v66, val_main_v67, val_main_v68, val_main_v69, val_main_cst_12, val_main_v70, val_main_v71, val_main_v72, val_main_v73, val_main_call1_cst, val_main_call1_v0, val_main_v74]
  have hp := (tot_pos x0 x1 x3 h n).ne'
  rw [le_bit, dp_read h2 h4, sum_read h0 h1 h3, exp_read h0 h1 h3, mean_read h0 h1 h2 h3 h4, Fin.sum_univ_one, div_coe _ _ hp]
  by_cases hk : k ≤ n
  · rw [if_pos hk]
    have e : dsc x0 x1 x2 x3 x4 h n k = (dpr x2 x4 h n k / tot x0 x1 x3 h n + -(mean x0 x1 x2 x3 x4 h n / tot x0 x1 x3 h n)) * ex x0 x1 x3 h n k := by
      unfold dsc prb; ring
    rw [e, EReal.coe_mul, EReal.coe_add, EReal.coe_neg]; rfl
  · rw [if_neg hk]
    have z : dsc x0 x1 x2 x3 x4 h n k = 0 := by unfold dsc prb ex; rw [if_neg hk, zero_div, zero_mul]
    rw [z, EReal.coe_zero]; rfl

theorem dsc_at (h h' : Fin 8) (n k : Fin 4096) (e : h'.val = h.val) : val_main_v74 (F := Ideal) x0 x1 x2 x3 x4 (ix3 h' n k) = (show EReal from (dsc x0 x1 x2 x3 x4 h n k : ℝ)) := by
  obtain rfl := Fin.ext e
  exact dsc_read h0 h1 h2 h3 h4 h' n k

omit h2 h4 in
theorem prob_at (h h' : Fin 8) (n k : Fin 4096) (e : h'.val = h.val) : val_main_v46 (F := Ideal) x0 x1 x3 (ix3 h' n k) = (show EReal from (prb x0 x1 x3 h n k : ℝ)) := by
  obtain rfl := Fin.ext e
  exact prob_read h0 h1 h3 h' n k

omit h1 h2 h3 h4 in
theorem num_at (n : Fin 4096) (h : Fin 8) (d : Fin 128) (l : Fin 1024) (e : l.val = h.val * 128 + d.val) : x0 (ix2 n l) = (show EReal from (rl x0 h n d : ℝ)) := by
  obtain rfl : l = col h d := Fin.ext e
  exact h0 _

theorem dck_read (h : Fin 8) (k : Fin 4096) : val_main_v104 (F := Ideal) x0 x1 x2 x3 x4 (ix3 h 0 k)
    = (show EReal from (-∑ n, dsc x0 x1 x2 x3 x4 h n k : ℝ)) := by
  pointwise [val_main_v75, val_main_cst_13, val_main_v76, val_main_v77, val_main_cst_14, val_main_v78, val_main_v79, val_main_v103, val_main_v104]
  rw [Fin.sum_univ_one, ← Finset.sum_neg_distrib, coe_sum]
  exact Finset.sum_congr rfl fun n _ => by rw [dsc_read h0 h1 h2 h3 h4, EReal.coe_neg]

theorem dcq_read (h : Fin 8) (n : Fin 4096) : val_main_v106 (F := Ideal) x0 x1 x2 x3 x4 (ix3 h 0 n)
    = (show EReal from (∑ k, dsc x0 x1 x2 x3 x4 h n k : ℝ)) := by
  pointwise [val_main_cst_15, val_main_v80, val_main_v81, val_main_cst_16, val_main_v82, val_main_v83, val_main_v105, val_main_v106]
  rw [Fin.sum_univ_one, coe_sum]
  exact Finset.sum_congr rfl fun k _ => dsc_read h0 h1 h2 h3 h4 h n k

theorem dq_read (n : Fin 4096) (h : Fin 8) (d : Fin 128) : val_main_v91 (F := Ideal) x0 x1 x2 x3 x4 (ix2 n (col h d))
    = (show EReal from ((∑ k, dsc x0 x1 x2 x3 x4 h n k * rl x1 h k d) * scr : ℝ)) := by
  pointwise [val_main_v4, val_main_v5, val_main_v85, val_main_cst_17, val_main_v88, val_main_v89, val_main_v90, val_main_v91]
  rw [EReal.coe_mul, ← sc_eq, coe_sum]
  refine congrArg (fun z : EReal => z * sc) (Finset.sum_congr rfl fun k _ => ?_)
  rw [EReal.coe_mul]
  exact congrArg₂ (fun a b : EReal => a * b) (dsc_at h0 h1 h2 h3 h4 h _ n k (by simp only []; omega)) (num_at h1 k h d _ (by simp only []; omega))

theorem dk_read (k : Fin 4096) (h : Fin 8) (d : Fin 128) : val_main_v87 (F := Ideal) x0 x1 x2 x3 x4 (ix2 k (col h d))
    = (show EReal from (∑ n, dsc x0 x1 x2 x3 x4 h n k * (rl x0 h n d * scr) : ℝ)) := by
  pointwise [val_main_v0, val_main_v1, val_main_cst, val_main_v2, val_main_v3, val_main_v84, val_main_v86, val_main_v87]
  rw [coe_sum]
  refine Finset.sum_congr rfl fun n _ => ?_
  rw [EReal.coe_mul, EReal.coe_mul, ← sc_eq]
  exact congrArg₂ (fun a b : EReal => a * (b * sc)) (dsc_at h0 h1 h2 h3 h4 h _ n k (by simp only []; omega)) (num_at h0 n h d _ (by simp only []; omega))

omit h2 in
theorem dv_read (k : Fin 4096) (h : Fin 8) (d : Fin 128) : val_main_v61 (F := Ideal) x0 x1 x3 x4 (ix2 k (col h d))
    = (show EReal from (∑ n, rl x4 h n d * prb x0 x1 x3 h n k : ℝ)) := by
  pointwise [val_main_v55, val_main_v56, val_main_v57, val_main_v58, val_main_v60, val_main_v61]
  rw [coe_sum]
  refine Finset.sum_congr rfl fun n _ => ?_
  rw [EReal.coe_mul]
  exact congrArg₂ (fun a b : EReal => a * b) (num_at h4 n h d _ (by simp only []; omega)) (prob_at h0 h1 h3 h _ n k (by simp only []; omega))

end

/-- The gradient of head `h`'s query, key and value lanes. -/
def grad (n : Fin 4096) (h : Fin 8) (g : Fin 3) (d : Fin 128) : ℝ :=
  if g.val < 1 then (∑ k, dsc x0 x1 x2 x3 x4 h n k * rl x1 h k d) * scr
  else if g.val - 1 < 1 then ∑ i, dsc x0 x1 x2 x3 x4 h i n * (rl x0 h i d * scr)
  else ∑ i, rl x4 h i d * prb x0 x1 x3 h i n

section
variable {x0 x1 x2 x3 x4} (h0 : Numbers x0) (h1 : Numbers x1) (h2 : Numbers x2) (h3 : Numbers x3) (h4 : Numbers x4)
include h0 h1 h2 h3 h4

theorem cat_read (n : Fin 4096) (h : Fin 8) (g : Fin 3) (d : Fin 128) : val_main_v98 (F := Ideal) x0 x1 x2 x3 x4 (ix4 n h g d)
    = (show EReal from (grad x0 x1 x2 x3 x4 n h g d : ℝ)) := by
  pointwise [val_main_v92, val_main_v93, val_main_v94, val_main_v95, val_main_v96, val_main_v97, val_main_v98]
  unfold grad
  by_cases hq : g.val < 1
  · rw [dif_pos hq, if_pos hq]; exact dq_read h0 h1 h2 h3 h4 n h d
  · rw [dif_neg hq, if_neg hq]
    by_cases hk : g.val - 1 < 1
    · rw [dif_pos hk, if_pos hk]; exact dk_read h0 h1 h2 h3 h4 n h d
    · rw [dif_neg hk, if_neg hk]; exact dv_read h0 h1 h3 h4 n h d

theorem grad_read (x5 : FVec Ideal S4096x7680 .bf16) (n : Fin 4096) (l : Fin 7680) (h : Fin 8) (g : Fin 3) (d : Fin 128)
    (e : l.val = 4608 + h.val * 384 + g.val * 128 + d.val) : val_main_v102 (F := Ideal) x0 x1 x2 x3 x4 x5 (ix2 n l)
    = (show EReal from (grad x0 x1 x2 x3 x4 n h g d : ℝ)) := by
  pointwise [val_main_v99, val_main_v100, val_main_v101, val_main_v102]
  rw [dif_neg (by omega)]
  refine Eq.trans (congrArg _ ?_) (cat_read h0 h1 h2 h3 h4 n h g d)
  funext a
  match a with
  | ⟨0, _⟩ => rfl
  | ⟨1, _⟩ => exact Fin.ext (by show (l.val - 4608) / 384 = h.val; omega)
  | ⟨2, _⟩ => exact Fin.ext (by show (l.val - 4608) / 128 % 3 = g.val; omega)
  | ⟨3, _⟩ => exact Fin.ext (by show (l.val - 4608) % 128 = d.val; omega)

omit h0 h1 h2 h3 h4 in
theorem keep_read (x5 : FVec Ideal S4096x7680 .bf16) (n : Fin 4096) (l : Fin 7680) (hl : l.val < 4608) : val_main_v102 (F := Ideal) x0 x1 x2 x3 x4 x5 (ix2 n l) = x5 (ix2 n l) := by
  pointwise [val_main_v99, val_main_v100, val_main_v101, val_main_v102]
  rw [dif_pos hl]

end

end Cert.AttnOwn

end
-- ==== Proof.AttnEntry.lean ====
module

public import proofs.«01_k».proof.Proof.AttnSteps
public import proofs.«01_k».proof.Proof.AttnRead

/-! What the attention backward's host lines put in the windows' arrays. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

variable (m : (ℓ : Loc nD τ sig) → Buf (Elt Ideal) ℓ) (c : Dev nD)

/-- The arguments, at their literal types. -/
abbrev A0 : FVec Ideal S4096x1024 .f32 := m ((c : Thread nD τ).loc main_arg0)
abbrev A1 : FVec Ideal S4096x1024 .f32 := m ((c : Thread nD τ).loc main_arg1)
abbrev A2 : FVec Ideal S4096x1024 .f32 := m ((c : Thread nD τ).loc main_arg2)
abbrev A3 : FVec Ideal S4096x8 .f32 := m ((c : Thread nD τ).loc main_arg3)
abbrev A4 : FVec Ideal S4096x1024 .f32 := m ((c : Thread nD τ).loc main_arg4)
abbrev A5 : FVec Ideal S4096x7680 .bf16 := m ((c : Thread nD τ).loc main_arg5)

theorem pad_word : FloatOps.sitofp (F := Ideal) FTy.f32 (0#32 : BitVec 32) = (show EReal from 0) := by
  show (((0#32 : BitVec 32).toInt : ℝ) : EReal) = 0
  simp

theorem entry_c (r : Fin 4096) (l : Fin 128) : V m c main_v57 (ix2 r l)
    = (show EReal from if h : l.val < 8 then A3 m c (ix2 r ⟨l.val, h⟩) else 0) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  pointwise
  by_cases h : l.val < 8
  · rw [dif_pos h, dif_pos h]
  · rw [dif_neg h, dif_neg h, pad_word]

/-- The heads' queries, keys and values side by side. -/
def hcat (x0 x1 x2 : FVec Ideal S4096x1024 .f32) : FVec Ideal S4096x8x3x128 .f32 :=
  concatenate S4096x8x3x128 2
    [⟨S4096x8x1x128, (broadcastInDim S4096x8x1x128 ![0, 1, 3] bcast_S4096x8x128_S4096x8x1x128_0_1_3 (shapeCast S4096x8x128 x0 shapeCasts_S4096x1024_S4096x8x128) : FVec Ideal S4096x8x1x128 .f32)⟩,
      ⟨S4096x8x1x128, (broadcastInDim S4096x8x1x128 ![0, 1, 3] bcast_S4096x8x128_S4096x8x1x128_0_1_3 (shapeCast S4096x8x128 x1 shapeCasts_S4096x1024_S4096x8x128) : FVec Ideal S4096x8x1x128 .f32)⟩,
      ⟨S4096x8x1x128, (broadcastInDim S4096x8x1x128 ![0, 1, 3] bcast_S4096x8x128_S4096x8x1x128_0_1_3 (shapeCast S4096x8x128 x2 shapeCasts_S4096x1024_S4096x8x128) : FVec Ideal S4096x8x1x128 .f32)⟩]
    concatenates_S4096x8x1x128_S4096x8x1x128_S4096x8x1x128_S4096x8x3x128_d2

/-- The same, past the columns of the other products. -/
def hproj (x : FVec Ideal S4096x8x3x128 .f32) : FVec Ideal S4096x7680 .f32 :=
  pad S4096x7680 ![0, 4608] ![0, 0] ![0, 0] (shapeCast S4096x3072 x shapeCasts_S4096x8x3x128_S4096x3072 : FVec Ideal S4096x3072 .f32)
    (sitofp .f32 (constantI S_ 32 0#32)) pads_S4096x3072_S4096x7680_000_460800 h_S_

theorem V56 : V m c main_v56 = hproj (hcat (A0 m c) (A1 m c) (A2 m c)) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  dsimp only [Matrix.cons_val]
  simp only [↓ StableHlo.readResult, ↓ StableHlo.readPieces, -eq_self]
  rfl

theorem hcat_read (x0 x1 x2) (n : Fin 4096) (h : Fin 8) (g : Fin 3) (d : Fin 128) : hcat x0 x1 x2 (ix4 n h g d)
    = (show EReal from if g.val < 1 then x0 (ix2 n (col h d)) else if g.val - 1 < 1 then x1 (ix2 n (col h d)) else x2 (ix2 n (col h d))) := by
  pointwise [hcat]
  by_cases hq : g.val < 1
  · rw [dif_pos hq, if_pos hq]
  · rw [dif_neg hq, if_neg hq]
    by_cases hk : g.val - 1 < 1
    · rw [dif_pos hk, if_pos hk]
    · rw [dif_neg hk, if_neg hk]

theorem hproj_read (x) (n : Fin 4096) (l : Fin 7680) (h : Fin 8) (g : Fin 3) (d : Fin 128) (e : l.val = 4608 + h.val * 384 + g.val * 128 + d.val) :
    hproj x (ix2 n l) = x (ix4 n h g d) := by
  pointwise [hproj]
  rw [dif_pos (by omega)]
  refine congrArg x ?_
  funext a
  match a with
  | ⟨0, _⟩ => rfl
  | ⟨1, _⟩ => exact Fin.ext (by show (l.val - 4608) / 384 = h.val; omega)
  | ⟨2, _⟩ => exact Fin.ext (by show (l.val - 4608) / 128 % 3 = g.val; omega)
  | ⟨3, _⟩ => exact Fin.ext (by show (l.val - 4608) % 128 = d.val; omega)

/-- The exponentials of the scores, each row's greatest taken off. -/
def hexp (X : FVec Ideal S8x4096x4096 .f32) (M : FVec Ideal S8x4096 .f32) : FVec Ideal S8x4096x4096 .f32 :=
  Host.exp (subf X (broadcastInDim S8x4096x4096 ![0, 1, 2] bcast_S8x4096x1_S8x4096x4096_0_1_2 (broadcastInDim S8x4096x1 ![0, 1] bcast_S8x4096_S8x4096x1_0_1 M)))

/-- Their row sums. -/
def hsum (X : FVec Ideal S8x4096x4096 .f32) (M : FVec Ideal S8x4096 .f32) : FVec Ideal S8x4096x1 .f32 :=
  broadcastInDim S8x4096x1 ![0, 1] bcast_S8x4096_S8x4096x1_0_1 (Host.reduceAdd (hexp X M) (constant S_ .f32 0x00000000#32) reducesTo_S8x4096x4096_S8x4096_d2 h_S_)

/-- The row log-sums, taken off the forget sums. -/
def hrow (X : FVec Ideal S8x4096x4096 .f32) (M : FVec Ideal S8x4096 .f32) (x3 : FVec Ideal S4096x8 .f32) : FVec Ideal S8x1x4096 .f32 :=
  subf (broadcastInDim S8x1x4096 ![0, 2] bcast_S8x4096_S8x1x4096_0_2 (transpose S8x4096 [1, 0] x3 transposes_S4096x8_S8x4096_1_0))
    (transpose S8x1x4096 [0, 2, 1] (addf (broadcastInDim S8x4096x1 ![0, 1] bcast_S8x4096_S8x4096x1_0_1 M) (Host.log (hsum X M))) transposes_S8x4096x1_S8x1x4096_0_2_1)

/-- The heads of an array. -/
def hheads (x : FVec Ideal S4096x1024 .f32) : FVec Ideal S8x4096x128 .f32 :=
  transpose S8x4096x128 [1, 0, 2] (shapeCast S4096x8x128 x shapeCasts_S4096x1024_S4096x8x128) transposes_S4096x8x128_S8x4096x128_1_0_2

/-- The rows' outputs. -/
def hout (X : FVec Ideal S8x4096x4096 .f32) (M : FVec Ideal S8x4096 .f32) (x2 : FVec Ideal S4096x1024 .f32) : FVec Ideal S8x4096x128 .f32 :=
  Host.dotGeneral dot_S8x4096x4096_S8x4096x128_S8x4096x128_2_1_1_2_0_0 none (Host.divf (hexp X M) (broadcastInDim S8x4096x4096 ![0, 1, 2] bcast_S8x4096x1_S8x4096x4096_0_1_2 (hsum X M))) (hheads x2)

/-- The row sums of output times gradient, lane by lane. -/
def hdel (X : FVec Ideal S8x4096x4096 .f32) (M : FVec Ideal S8x4096 .f32) (x2 x4 : FVec Ideal S4096x1024 .f32) : FVec Ideal S4096x1024 .f32 :=
  shapeCast S4096x1024 (transpose S4096x8x128 [1, 0, 2] (broadcastInDim S8x4096x128 ![0, 1, 2] bcast_S8x4096x1_S8x4096x128_0_1_2
    (broadcastInDim S8x4096x1 ![0, 1] bcast_S8x4096_S8x4096x1_0_1 (Host.reduceAdd (mulf (hheads x4) (hout X M x2)) (constant S_ .f32 0x00000000#32) reducesTo_S8x4096x128_S8x4096_d2 h_S_)))
    transposes_S8x4096x128_S4096x8x128_1_0_2) shapeCasts_S4096x8x128_S4096x1024

theorem V21 : V m c main_v21 = AttnRefIdeal.Read.val_main_v21_0 (F := Ideal) (A0 m c) (A1 m c) (A3 m c) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  rfl

theorem V22 : V m c main_v22 = AttnRefIdeal.Read.val_main_v22 (F := Ideal) (A0 m c) (A1 m c) (A3 m c) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  rfl

theorem V39 : V m c main_v39 = hrow (AttnRefIdeal.Read.val_main_v21_0 (F := Ideal) (A0 m c) (A1 m c) (A3 m c)) (AttnRefIdeal.Read.val_main_v22 (F := Ideal) (A0 m c) (A1 m c) (A3 m c)) (A3 m c) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  rfl

theorem V47 : V m c main_v47 = hdel (AttnRefIdeal.Read.val_main_v21_0 (F := Ideal) (A0 m c) (A1 m c) (A3 m c)) (AttnRefIdeal.Read.val_main_v22 (F := Ideal) (A0 m c) (A1 m c) (A3 m c)) (A2 m c) (A4 m c) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  rfl

end Cert.AttnOwn

end
-- ==== Proof.AttnHost.lean ====
module

public import proofs.«01_k».proof.Proof.AttnEntry

/-! What the attention backward's windows hold, in real numbers. -/

@[expose] public section

set_option maxRecDepth 16384

noncomputable section

open Idealize.ShloMosaic Idealize.ShloMosaic.TcCoe

namespace Cert.AttnOwn

open Cert Cert.Reals Cert.AttnBwdIdeal Cert.AttnBwdIdeal.Gen Cert.AttnBwdIdeal.Run

variable (m : (ℓ : Loc nD τ sig) → Buf (Elt Ideal) ℓ) (c : Dev nD)

section
variable {x0 x1 x2 : FVec Ideal S4096x1024 .f32} {x3 : FVec Ideal S4096x8 .f32} {x4 : FVec Ideal S4096x1024 .f32}
variable {X : FVec Ideal S8x4096x4096 .f32} {M : FVec Ideal S8x4096 .f32}
variable (h0 : Numbers x0) (h1 : Numbers x1) (h2 : Numbers x2) (h3 : Numbers x3) (h4 : Numbers x4)
variable (hX : ∀ h n k, X (ix3 h n k) = (show EReal from if k ≤ n then ((sco x0 x1 x3 h n k : ℝ) : EReal) else ⊥))
variable (hM : ∀ h n, M (ix2 h n) = (show EReal from (big x0 x1 x3 h n : ℝ)))
include h0 h1 h3 hX hM

theorem hexp_read (h h' : Fin 8) (e : h'.val = h.val) (n k : Fin 4096) : Ideal.exp ((show EReal from X (ix3 h' n k)) - (show EReal from M (ix2 h' n))) = ((ex x0 x1 x3 h n k : ℝ) : EReal) := by
  obtain rfl := Fin.ext e
  rw [hX, hM]; exact ex_coe h0 h1 h3 h' n k

theorem hsum_read (h h' : Fin 8) (e : h'.val = h.val) (n : Fin 4096) : ∑ k, Ideal.exp ((show EReal from X (ix3 h' n k)) - (show EReal from M (ix2 h' n))) = ((tot x0 x1 x3 h n : ℝ) : EReal) := by
  unfold tot
  rw [coe_sum]
  exact Finset.sum_congr rfl fun k _ => hexp_read h0 h1 h3 hX hM h h' e n k

/-- A row's log-sum, taken off its forget sum. -/
theorem hrow_read (h : Fin 8) (n : Fin 4096) : hrow X M x3 (ix3 h 0 n)
    = (show EReal from (rc x3 h n - (big x0 x1 x3 h n + Real.log (tot x0 x1 x3 h n)) : ℝ)) := by
  pointwise [hrow, hsum, hexp]
  rw [EReal.coe_sub, EReal.coe_add, ← log_coe _ (tot_pos x0 x1 x3 h n), ← hsum_read h0 h1 h3 hX hM h h rfl]
  exact congrArg₂ (fun z w : EReal => z - (w + _)) (h3 _) (hM _ _)

omit h0 h1 h3 hX hM in
theorem mean_eq (h : Fin 8) (n : Fin 4096) : mean x0 x1 x2 x3 x4 h n = ∑ d, rl x4 h n d * ∑ k, prb x0 x1 x3 h n k * rl x2 h k d := by
  unfold mean dpr
  simp only [Finset.mul_sum]
  rw [Finset.sum_comm]
  exact Finset.sum_congr rfl fun d _ => Finset.sum_congr rfl fun k _ => by ring

omit h0 h1 h3 hX hM in
theorem mean_coe (h : Fin 8) (n : Fin 4096) : ((mean x0 x1 x2 x3 x4 h n : ℝ) : EReal)
    = ∑ d, ((rl x4 h n d : ℝ) : EReal) * ∑ k, ((prb x0 x1 x3 h n k : ℝ) : EReal) * ((rl x2 h k d : ℝ) : EReal) := by
  rw [mean_eq, coe_sum]
  refine Finset.sum_congr rfl fun d _ => ?_
  rw [EReal.coe_mul, coe_sum]
  exact congrArg _ (Finset.sum_congr rfl fun k _ => EReal.coe_mul _ _)

include h2 h4

/-- A row's sum of output times gradient is its mean. -/
theorem hdel_read (h : Fin 8) (n : Fin 4096) (l : Fin 1024) (e : l.val / 128 = h.val) :
    hdel X M x2 x4 (ix2 n l) = (show EReal from (mean x0 x1 x2 x3 x4 h n : ℝ)) := by
  pointwise [hdel, hout, hheads, hsum, hexp]
  refine Eq.trans ?_ (mean_coe h n).symm
  refine Finset.sum_congr rfl fun d _ => ?_
  refine congr (congrArg (fun a b : EReal => a * b) (num_at h4 n h d _ (by simp only []; omega))) ?_
  refine Finset.sum_congr rfl fun k _ => ?_
  refine congr (congrArg (fun a b : EReal => a * b) ?_) (num_at h2 k h d _ (by simp only []; omega))
  exact (congrArg₂ Ideal.div (hexp_read h0 h1 h3 hX hM h _ e n k) (hsum_read h0 h1 h3 hX hM h _ e n)).trans (div_coe _ _ (tot_pos x0 x1 x3 h n).ne')

end

theorem idx : ∀ t : Fin cfg0.N, win0_0.index t = ![0, 36 + 3 * (t.val / 4)] ∧ win0_1.index t = ![t.val % 4, 37 + 3 * (t.val / 4)]
    ∧ win0_2.index t = ![t.val % 4, 38 + 3 * (t.val / 4)] ∧ win0_3.index t = ![0, t.val / 4] ∧ win0_4.index t = ![t.val / 4, 0, 0]
    ∧ win0_5.index t = ![0, t.val / 4] ∧ win0_6.index t = ![t.val % 4, 0] ∧ win0_7.index t = ![t.val % 4, 12 + t.val / 4]
    ∧ win0_8.index t = ![t.val / 4, 0, t.val % 4] ∧ win0_9.index t = ![t.val / 4, 0, 0] :=
  (by decide +kernel : ∀ t : Fin grid0.N, _)

variable {m c}

/-- A head of the arguments. -/
def headOf (x0 x1 x2 : FVec Ideal S4096x1024 .f32) (x3 : FVec Ideal S4096x8 .f32) (x4 : FVec Ideal S4096x1024 .f32) (h : Fin 8) : Head where
  Q n d := if hn : n < 4096 then rl x0 h ⟨n, hn⟩ d * scr else 0
  K n d := if hn : n < 4096 then rl x1 h ⟨n, hn⟩ d else 0
  V n d := if hn : n < 4096 then rl x2 h ⟨n, hn⟩ d else 0
  Y n d := if hn : n < 4096 then rl x4 h ⟨n, hn⟩ d else 0
  E n := if hn : n < 4096 then rc x3 h ⟨n, hn⟩ - (big x0 x1 x3 h ⟨n, hn⟩ + Real.log (tot x0 x1 x3 h ⟨n, hn⟩)) else 0
  D n := if hn : n < 4096 then mean x0 x1 x2 x3 x4 h ⟨n, hn⟩ else 0
  C n := if hn : n < 4096 then rc x3 h ⟨n, hn⟩ else 0

/-- The heads, by number. -/
def heads (x0 x1 x2 : FVec Ideal S4096x1024 .f32) (x3 : FVec Ideal S4096x8 .f32) (x4 : FVec Ideal S4096x1024 .f32) (h : ℕ) : Head :=
  headOf x0 x1 x2 x3 x4 ⟨h % 8, by omega⟩

/-- The finite arguments. -/
structure Nums (m : (ℓ : Loc nD τ sig) → Buf (Elt Ideal) ℓ) (c : Dev nD) : Prop where
  h0 : Numbers (A0 m c)
  h1 : Numbers (A1 m c)
  h2 : Numbers (A2 m c)
  h3 : Numbers (A3 m c)
  h4 : Numbers (A4 m c)

theorem proj_at (n : Fin 4096) (l : Fin 7680) (h : Fin 8) (g : Fin 3) (d : Fin 128) (e : l.val = 4608 + h.val * 384 + g.val * 128 + d.val) :
    V m c main_v56 (ix2 n l) = (show EReal from if g.val < 1 then A0 m c (ix2 n (col h d)) else if g.val - 1 < 1 then A1 m c (ix2 n (col h d)) else A2 m c (ix2 n (col h d))) := by
  rw [V56, hproj_read _ n l h g d e, hcat_read]

theorem heads_at (x0 x1 x2 : FVec Ideal S4096x1024 .f32) (x3 : FVec Ideal S4096x8 .f32) (x4 : FVec Ideal S4096x1024 .f32) (t : Fin cfg0.N) (h : Fin 8)
    (e : h.val = t.val / 4) : heads x0 x1 x2 x3 x4 (t.val / 4) = headOf x0 x1 x2 x3 x4 h := by
  unfold heads
  exact congrArg _ (Fin.ext (by show t.val / 4 % 8 = h.val; omega))

/-- The head of a point. -/
abbrev hd (t : Fin cfg0.N) : Fin 8 := ⟨t.val / 4, by have := lt_of_lt_of_eq t.isLt N_0; omega⟩

theorem blk_q (t : Fin cfg0.N) (n : Fin 4096) (d : Fin 128) : (iblk m c 0 t : FVec Ideal S4096x128 .f32) (ix2 n d) = A0 m c (ix2 n (col (hd t) d)) := by
  have ht := lt_of_lt_of_eq t.isLt N_0
  blk_simp [iblk]
  rw [show (win0_0.blk t).view.emb (ix2 n d) = ix2 n ⟨(36 + 3 * (t.val / 4)) * 128 + d.val, by omega⟩ by blk_ext [idx t],
    proj_at n _ (hd t) 0 d (by simp only []; omega)]
  rfl

theorem blk_k (t : Fin cfg0.N) (r : Fin 1024) (d : Fin 128) : (iblk m c 1 t : FVec Ideal S1024x128 .f32) (ix2 r d) = A1 m c (ix2 ⟨1024 * (t.val % 4) + r.val, by omega⟩ (col (hd t) d)) := by
  have ht := lt_of_lt_of_eq t.isLt N_0
  blk_simp [iblk]
  rw [show (win0_1.blk t).view.emb (ix2 r d) = ix2 ⟨1024 * (t.val % 4) + r.val, by omega⟩ ⟨(37 + 3 * (t.val / 4)) * 128 + d.val, by omega⟩ by blk_ext [idx t],
    proj_at _ _ (hd t) 1 d (by simp only []; omega)]
  rfl

theorem blk_v (t : Fin cfg0.N) (r : Fin 1024) (d : Fin 128) : (iblk m c 2 t : FVec Ideal S1024x128 .f32) (ix2 r d) = A2 m c (ix2 ⟨1024 * (t.val % 4) + r.val, by omega⟩ (col (hd t) d)) := by
  have ht := lt_of_lt_of_eq t.isLt N_0
  blk_simp [iblk]
  rw [show (win0_2.blk t).view.emb (ix2 r d) = ix2 ⟨1024 * (t.val % 4) + r.val, by omega⟩ ⟨(38 + 3 * (t.val / 4)) * 128 + d.val, by omega⟩ by blk_ext [idx t],
    proj_at _ _ (hd t) 2 d (by simp only []; omega)]
  rfl

theorem blk_y (t : Fin cfg0.N) (n : Fin 4096) (d : Fin 128) : (iblk m c 3 t : FVec Ideal S4096x128 .f32) (ix2 n d) = A4 m c (ix2 n (col (hd t) d)) := by
  have ht := lt_of_lt_of_eq t.isLt N_0
  blk_simp [iblk]
  rw [show (win0_3.blk t).view.emb (ix2 n d) = ix2 n (col (hd t) d) by blk_ext [idx t]]
  exact congrFun (V_main_arg4 m c) _

theorem blk_e (t : Fin cfg0.N) (n : Fin 4096) : (iblk m c 4 t : FVec Ideal S1x1x4096 .f32) (ix3 0 0 n) = V m c main_v39 (ix3 (hd t) 0 n) := by
  have ht := lt_of_lt_of_eq t.isLt N_0
  blk_simp [iblk]
  rw [show (win0_4.blk t).view.emb (ix3 0 0 n) = ix3 (hd t) 0 n by blk_ext [idx t]]

theorem blk_d (t : Fin cfg0.N) (n : Fin 4096) : (iblk m c 5 t : FVec Ideal S4096x128 .f32) (ix2 n 0) = V m c main_v47 (ix2 n (col (hd t) 0)) := by
  have ht := lt_of_lt_of_eq t.isLt N_0
  blk_simp [iblk]
  rw [show (win0_5.blk t).view.emb (ix2 n 0) = ix2 n (col (hd t) 0) by blk_ext [idx t]]

theorem blk_c (t : Fin cfg0.N) (r : Fin 1024) (l : Fin 128) (hl : l.val = t.val / 4) :
    (iblk m c 6 t : FVec Ideal S1024x128 .f32) (ix2 r l) = A3 m c (ix2 ⟨1024 * (t.val % 4) + r.val, by omega⟩ (hd t)) := by
  have ht := lt_of_lt_of_eq t.isLt N_0
  blk_simp [iblk]
  rw [show (win0_6.blk t).view.emb (ix2 r l) = ix2 ⟨1024 * (t.val % 4) + r.val, by omega⟩ l by blk_ext [idx t], entry_c]
  show (if h : l.val < 8 then A3 m c (ix2 _ ⟨l.val, h⟩) else (0 : EReal)) = _
  rw [dif_pos (by omega)]
  exact congrArg (fun z : Fin 8 => A3 m c (ix2 _ z)) (Fin.ext hl)

/-- What the windows hold. -/
theorem blocks (hN : Nums m c) : Blocks m c (heads (A0 m c) (A1 m c) (A2 m c) (A3 m c) (A4 m c)) where
  q t n d := by
    rw [heads_at _ _ _ _ _ t (hd t) rfl, blk_q, num_at hN.h0 n (hd t) d _ rfl]
    unfold headOf
    dsimp only
    rw [dif_pos n.isLt, EReal.coe_mul, sc_eq]
  k t r d := by
    rw [heads_at _ _ _ _ _ t (hd t) rfl, blk_k, num_at hN.h1 _ (hd t) d _ rfl]
    unfold headOf
    dsimp only
    rw [dif_pos (by omega)]
  v t r d := by
    rw [heads_at _ _ _ _ _ t (hd t) rfl, blk_v, num_at hN.h2 _ (hd t) d _ rfl]
    unfold headOf
    dsimp only
    rw [dif_pos (by omega)]
  y t n d := by
    rw [heads_at _ _ _ _ _ t (hd t) rfl, blk_y, num_at hN.h4 _ (hd t) d _ rfl]
    unfold headOf
    dsimp only
    rw [dif_pos n.isLt]
  e t n := by
    rw [heads_at _ _ _ _ _ t (hd t) rfl, blk_e, V39, hrow_read hN.h0 hN.h1 hN.h3 (fun h n k => masked_read hN.h0 hN.h1 hN.h3 h n k) (fun h n => max_read hN.h0 hN.h1 hN.h3 h n)]
    unfold headOf
    dsimp only
    rw [dif_pos n.isLt]
  d t n := by
    rw [heads_at _ _ _ _ _ t (hd t) rfl, blk_d, V47, hdel_read hN.h0 hN.h1 hN.h2 hN.h3 hN.h4 (fun h n k => masked_read hN.h0 hN.h1 hN.h3 h n k) (fun h n => max_read hN.h0 hN.h1 hN.h3 h n) (hd t) n _ (by show (t.val / 4 * 128 + 0) / 128 = t.val / 4; omega)]
    unfold headOf
    dsimp only
    rw [dif_pos n.isLt]
  c t r l hl := by
    rw [heads_at _ _ _ _ _ t (hd t) rfl, blk_c t r l hl, hN.h3]
    unfold headOf
    dsimp only
    rw [dif_pos (by omega)]
    rfl

end Cert.AttnOwn

end
-- ==== Proof.AttnFinal.lean ====
module

public import proofs.«01_k».proof.Proof.AttnHost
public import proofs.«01_k».proof.Proof.Gen.Pre_attn_finite
public import proofs.«01_k».proof.Defs

/-! The attention backward's result arrays are the reference's. -/

@[expose] public section

set_option maxRecDepth 16384

noncomputable section

open Idealize.ShloMosaic Idealize.ShloMosaic.TcCoe

namespace Cert.AttnOwn

open Cert Cert.Reals

section
variable {x0 x1 x2 : FVec Ideal Cert.AttnBwdIdeal.S4096x1024 .f32} {x3 : FVec Ideal Cert.AttnBwdIdeal.S4096x8 .f32} {x4 : FVec Ideal Cert.AttnBwdIdeal.S4096x1024 .f32}

theorem head_p (h : Fin 8) (n k : Fin 4096) : (headOf x0 x1 x2 x3 x4 h).p k.val n.val = prb x0 x1 x3 h n k := by
  unfold Head.p headOf prb ex
  dsimp only
  by_cases hk : k ≤ n
  · rw [if_pos hk, if_pos (Fin.le_def.1 hk), dif_pos n.isLt, dif_pos k.isLt]
    simp only [dif_pos n.isLt, dif_pos k.isLt]
    rw [← Real.exp_log (tot_pos x0 x1 x3 h n), ← Real.exp_sub, Real.exp_log (tot_pos x0 x1 x3 h n)]
    congr 1
    unfold sco
    rw [Finset.sum_congr rfl fun d _ => (mul_comm (rl x1 h k d) (rl x0 h n d * scr))]
    ring
  · rw [if_neg hk, if_neg (fun h' => hk (Fin.le_def.2 h')), zero_div]

theorem head_ds (h : Fin 8) (n k : Fin 4096) : (headOf x0 x1 x2 x3 x4 h).ds k.val n.val = dsc x0 x1 x2 x3 x4 h n k := by
  unfold Head.ds dsc
  rw [head_p]
  unfold headOf dpr
  simp only [dif_pos n.isLt, dif_pos k.isLt]
  rw [Finset.sum_congr rfl fun d _ => (mul_comm (rl x2 h k d) (rl x4 h n d))]

theorem head_acc (h : Fin 8) (n : Fin 4096) (M : ℕ) (hM : n.val < M) (hM' : M ≤ 4096) (d : Fin 128) :
    (headOf x0 x1 x2 x3 x4 h).acc M d n.val = (∑ k, dsc x0 x1 x2 x3 x4 h n k * rl x1 h k d) * scr := by
  rw [Head.acc_le _ d n.val hM hM', Head.acc, Finset.sum_range]
  congr 1
  refine Finset.sum_congr rfl fun k _ => ?_
  rw [head_ds]
  unfold headOf
  simp only [dif_pos k.isLt]
  ring

theorem head_cq (h : Fin 8) (n : Fin 4096) (M : ℕ) (hM : n.val < M) (hM' : M ≤ 4096) :
    (headOf x0 x1 x2 x3 x4 h).cq M n.val = ∑ k, dsc x0 x1 x2 x3 x4 h n k := by
  rw [Head.cq_le _ n.val hM hM', Head.cq, Finset.sum_range]
  exact Finset.sum_congr rfl fun k _ => head_ds h n k

/-- A sum over the rows from a block's start on is the sum over all, when the earlier rows give nothing. -/
theorem tail_sum (f : ℕ → ℝ) (a : ℕ) (g : Fin 4096 → ℝ) (h0 : ∀ n < a, f n = 0) (hf : ∀ n : Fin 4096, f n.val = g n) (ha : a ≤ 4096) :
    ∑ n ∈ Finset.Ico a (1024 * 4), f n = ∑ n, g n := by
  rw [← Finset.sum_congr rfl fun n _ => hf n, ← Finset.sum_range (fun n => f n), Finset.range_eq_Ico,
    ← Finset.sum_Ico_consecutive f (Nat.zero_le a) ha, Finset.sum_eq_zero (s := Finset.Ico 0 a) (fun n hn => h0 n (Finset.mem_Ico.1 hn).2), zero_add]

theorem head_dk (h : Fin 8) (k : Fin 4096) (a : ℕ) (ha : a ≤ k.val) (d : Fin 128) :
    ∑ n ∈ Finset.Ico a (1024 * 4), (headOf x0 x1 x2 x3 x4 h).Q n d * (headOf x0 x1 x2 x3 x4 h).ds k.val n = ∑ i, dsc x0 x1 x2 x3 x4 h i k * (rl x0 h i d * scr) := by
  refine tail_sum _ a _ (fun n hn => by rw [Head.ds_zero _ (by omega), mul_zero]) (fun n => ?_) (by omega)
  rw [head_ds]
  unfold headOf
  simp only [dif_pos n.isLt]
  ring

theorem head_dv (h : Fin 8) (k : Fin 4096) (a : ℕ) (ha : a ≤ k.val) (d : Fin 128) :
    ∑ n ∈ Finset.Ico a (1024 * 4), (headOf x0 x1 x2 x3 x4 h).Y n d * (headOf x0 x1 x2 x3 x4 h).p k.val n = ∑ i, rl x4 h i d * prb x0 x1 x3 h i k := by
  refine tail_sum _ a _ (fun n hn => by rw [Head.p, if_neg (by omega), mul_zero]) (fun n => ?_) (by omega)
  rw [head_p]
  unfold headOf
  simp only [dif_pos n.isLt]

theorem head_dc (h : Fin 8) (k : Fin 4096) (a : ℕ) (ha : a ≤ k.val) :
    ∑ n ∈ Finset.Ico a (1024 * 4), (headOf x0 x1 x2 x3 x4 h).ds k.val n = ∑ i, dsc x0 x1 x2 x3 x4 h i k :=
  tail_sum _ a _ (fun n hn => Head.ds_zero _ (by omega)) (fun n => head_ds h n k) (by omega)

end

open Cert.AttnBwdIdeal Cert.AttnBwdIdeal.Gen Cert.AttnBwdIdeal.Run

variable {m : (ℓ : Loc nD τ sig) → Buf (Elt Ideal) ℓ} {c : Dev nD}

theorem left_at (hN : Nums m c) (t : Fin cfg0.N) : Left (headOf (A0 m c) (A1 m c) (A2 m c) (A3 m c) (A4 m c) (hd t)) (t.val % 4)
    (st m c t.val t.isLt).o7 (st m c t.val t.isLt).o8 (st m c t.val t.isLt).o9 (st m c t.val t.isLt).acc := by
  have h := (stands (blocks hN) t.val t.isLt).1
  rw [heads_at _ _ _ _ _ t (hd t) rfl] at h
  exact h

/-- The reference's results. -/
abbrev R7 (m : (ℓ : Loc nD τ sig) → Buf (Elt Ideal) ℓ) (c : Dev nD) : FVec Ideal S4096x7680 .bf16 :=
  AttnRefIdeal.Read.val_main_v102 (F := Ideal) (A0 m c) (A1 m c) (A2 m c) (A3 m c) (A4 m c) (A5 m c)
abbrev R8 (m : (ℓ : Loc nD τ sig) → Buf (Elt Ideal) ℓ) (c : Dev nD) : FVec Ideal S8x1x4096 .f32 :=
  AttnRefIdeal.Read.val_main_v104 (F := Ideal) (A0 m c) (A1 m c) (A2 m c) (A3 m c) (A4 m c)
abbrev R9 (m : (ℓ : Loc nD τ sig) → Buf (Elt Ideal) ℓ) (c : Dev nD) : FVec Ideal S8x1x4096 .f32 :=
  AttnRefIdeal.Read.val_main_v106 (F := Ideal) (A0 m c) (A1 m c) (A2 m c) (A3 m c) (A4 m c)

theorem block7 (hN : Nums m c) (t : Fin cfg0.N) (r : Fin 1024) (l : Fin 384) (n : Fin 4096) (z : Fin 7680) (hn : n.val = 1024 * (t.val % 4) + r.val)
    (hz : z.val = 4608 + t.val / 4 * 384 + l.val) : (st m c t.val t.isLt).o7 (ix2 r l) = R7 m c (ix2 n z) := by
  have L := left_at hN t
  have ht := lt_of_lt_of_eq t.isLt N_0
  refine Eq.trans ?_ (grad_read hN.h0 hN.h1 hN.h2 hN.h3 hN.h4 (A5 m c) n z (hd t) ⟨l.val / 128, by omega⟩ ⟨l.val % 128, by omega⟩
    (show z.val = 4608 + t.val / 4 * 384 + l.val / 128 * 128 + l.val % 128 by omega)).symm
  unfold grad
  dsimp only
  by_cases hq : l.val < 128
  · rw [if_pos (by omega), L.dq r ⟨l.val % 128, by omega⟩ l (by dsimp only; omega), ← hn, head_acc (hd t) n _ (by omega) (by omega)]
  · rw [if_neg (by omega)]
    by_cases hk : l.val < 256
    · rw [if_pos (by omega), L.dk r ⟨l.val % 128, by omega⟩ l (by dsimp only; omega), ← hn, head_dk (hd t) n _ (by omega)]
    · rw [if_neg (by omega), L.dv r ⟨l.val % 128, by omega⟩ l (by dsimp only; omega), ← hn, head_dv (hd t) n _ (by omega)]

theorem block8 (hN : Nums m c) (t : Fin cfg0.N) (r : Fin 1024) (n : Fin 4096) (hn : n.val = 1024 * (t.val % 4) + r.val) :
    (st m c t.val t.isLt).o8 (ix3 0 0 r) = R8 m c (ix3 (hd t) 0 n) := by
  refine Eq.trans ?_ (dck_read hN.h0 hN.h1 hN.h2 hN.h3 hN.h4 (hd t) n).symm
  rw [(left_at hN t).dc r, ← hn, head_dc (hd t) n _ (by omega)]

theorem block9 (hN : Nums m c) (t : Fin cfg0.N) (n : Fin 4096) (hn : n.val < 1024 * (t.val % 4 + 1)) :
    (st m c t.val t.isLt).o9 (ix3 0 0 n) = R9 m c (ix3 (hd t) 0 n) := by
  refine Eq.trans ?_ (dcq_read hN.h0 hN.h1 hN.h2 hN.h3 hN.h4 (hd t) n).symm
  rw [(left_at hN t).c n, head_cq (hd t) n _ hn (by omega)]

theorem final8 (hN : Nums m c) : (dats m 0 c).arrAt 8 (cfgs 0).N = R8 m c := by
  refine (dats m 0 c).arrAt_eq_of_covers 8 _ (by decide +kernel) fun t _ y => ?_
  blk_simp
  rw [after0_8]
  idx_vars y
  have ht := lt_of_lt_of_eq t.isLt N_0
  rw [show (win0_8.blk t).view.emb (ix3 y0 y1 y2) = ix3 (hd t) 0 ⟨1024 * (t.val % 4) + y2.val, by omega⟩ by blk_ext [idx t],
    show y0 = 0 from Subsingleton.elim _ _, show y1 = 0 from Subsingleton.elim _ _]
  exact block8 hN t y2 _ rfl

/-- The query column's rows leave after a head's last key block. -/
theorem last9 : ∀ t : Fin cfg0.grid.N, (win0 9).flush t = true → t.val % 4 = 3 :=
  (by decide +kernel : ∀ t : Fin grid0.N, _)

theorem final9 (hN : Nums m c) : (dats m 0 c).arrAt 9 (cfgs 0).N = R9 m c := by
  refine (dats m 0 c).arrAt_eq_of_covers 9 _ (by decide +kernel) fun t hf y => ?_
  blk_simp
  rw [after0_9]
  idx_vars y
  have ht := lt_of_lt_of_eq t.isLt N_0
  rw [show (win0_9.blk t).view.emb (ix3 y0 y1 y2) = ix3 (hd t) 0 y2 by blk_ext [idx t],
    show y0 = 0 from Subsingleton.elim _ _, show y1 = 0 from Subsingleton.elim _ _]
  exact block9 hN t y2 (by have := last9 t hf; omega)

theorem entry_p (i : S4096x7680.Idx) : V m c main_v58_0 i = (show EReal from A5 m c i) := by
  unfold V
  simp only [List.flatten_cons, List.flatten_nil, List.append_nil, List.cons_append, List.nil_append, hostOps0, hostOps0_1, hostOps0_2, hostOps0_3, hostOps0_4, hostOps0_5, hostOps0_6, StableHlo.TRef.binary, StableHlo.TRef.ternary, StableHlo.TRef.nullary, StableHlo.TRef.unary, StableHlo.TRef.toBuf, StableHlo.TRef.ofBuf, cast_eq]
  after_results
  rfl

theorem r7_eq : R7 m c = fun i : S4096x7680.Idx => if 4608 ≤ (i 1).val then R7 m c i else V m c main_v58_0 i := by
  funext i
  by_cases h : 4608 ≤ (i 1).val
  · rw [if_pos h]
  · rw [if_neg h, entry_p, eq_ix2 i]
    exact keep_read (A5 m c) (i 0) (i 1) (by omega)

set_option maxHeartbeats 2000000 in
theorem tiles7 (R : FVec Ideal S4096x7680 .bf16) (hR : R = fun i : S4096x7680.Idx => if 4608 ≤ (i 1).val then R i else V m c main_v58_0 i)
    (hb : ∀ (t : Fin cfg0.N) (r : Fin 1024) (l : Fin 384) (n : Fin 4096) (z : Fin 7680), n.val = 1024 * (t.val % 4) + r.val →
      z.val = 4608 + t.val / 4 * 384 + l.val → (st m c t.val t.isLt).o7 (ix2 r l) = R (ix2 n z)) :
    (dats m 0 c).arrAt 7 (cfgs 0).N = R := by
  rw [hR]
  refine (dats m 0 c).arrAt_eq_of_coversWhere 7 _ (fun β => 12 ≤ β 1) (by decide +kernel) (fun t hf y => ?_)
    (fun j => by blk_simp [Pipeline.Window.cell_apply]; omega)
  blk_simp
  rw [after0_7]
  idx_vars y
  have ht := lt_of_lt_of_eq t.isLt N_0
  rw [show (win0_7.blk t).view.emb (ix2 y0 y1) = ix2 ⟨1024 * (t.val % 4) + y0.val, by omega⟩ ⟨4608 + t.val / 4 * 384 + y1.val, by omega⟩ by blk_ext [idx t]]
  exact hb t y0 y1 _ _ rfl rfl

theorem final7 (hN : Nums m c) : (dats m 0 c).arrAt 7 (cfgs 0).N = R7 m c :=
  tiles7 _ (r7_eq (c := c)) fun t r l n z hn hz => block7 hN t r l n z hn hz

theorem nums (h : Pre_AttnBwdIdeal_attn_finite m) : Nums m c := by
  have h := h c
  simp only [Cert.Pre_attn_finite.fn] at h
  obtain ⟨h0, h1, h2, h3, h4⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  refine ⟨fun i => ?_, fun i => ?_, fun i => ?_, fun i => ?_, fun i => ?_⟩
  · rw [show A0 m c i = (x0 i : EReal) from congrFun e0 i, EReal.toReal_coe]
  · rw [show A1 m c i = (x1 i : EReal) from congrFun e1 i, EReal.toReal_coe]
  · rw [show A2 m c i = (x2 i : EReal) from congrFun e2 i, EReal.toReal_coe]
  · rw [show A3 m c i = (x3 i : EReal) from congrFun e3 i, EReal.toReal_coe]
  · rw [show A4 m c i = (x4 i : EReal) from congrFun e4 i, EReal.toReal_coe]

end Cert.AttnOwn

end
-- ==== Proof.Norms.lean ====
module

public import proofs.«01_k».proof.Proof.Reals

/-! A row's root-mean-square norm and its gradient over the real numbers. -/

@[expose] public section

noncomputable section

open Idealize.ShloMosaic

namespace Cert.Norms

open Cert Cert.Reals

def eps : ℝ := 8796093 / 2 ^ 43

theorem eps_word : Ideal.ofBits .f32 0x358637BD#32 = (eps : EReal) := by
  unfold eps
  simp [Ideal.ofBits, Ideal.ieee, -EReal.coe_mul]; norm_num

theorem width_word : Ideal.ofBits .f32 0x44800000#32 = ((1024 : ℝ) : EReal) := by
  simp [Ideal.ofBits, Ideal.ieee, -EReal.coe_mul]; norm_num

/-- The mean square of a row and its reciprocal root. -/
def var (x : Fin 1024 → ℝ) : ℝ := (∑ d, x d * x d) / 1024 + eps
def scl (x : Fin 1024 → ℝ) : ℝ := (Real.sqrt (var x))⁻¹

theorem var_pos (x : Fin 1024 → ℝ) : 0 < var x :=
  add_pos_of_nonneg_of_pos (div_nonneg (Finset.sum_nonneg fun d _ => mul_self_nonneg _) (by norm_num)) (by unfold eps; norm_num)

theorem scl_cube (x : Fin 1024 → ℝ) : scl x / var x = scl x * scl x * scl x := by
  have h := var_pos x
  have e : scl x * scl x = (var x)⁻¹ := by
    unfold scl
    rw [← mul_inv, Real.mul_self_sqrt h.le]
  rw [e, div_eq_mul_inv, mul_comm]

/-- The norm's gradient by its row, at a cotangent already weighed by the gain. -/
def back (z x : Fin 1024 → ℝ) (d : Fin 1024) : ℝ := scl x * z d - x d * (scl x * scl x * scl x) * ((∑ e, z e * x e) / 1024)

/-- The same as differentiation writes it: the row's part, and the mean square's part twice. -/
theorem back_eq (z x : Fin 1024 → ℝ) (d : Fin 1024) :
    z d * scl x + (x d * ((∑ e, z e * x e) * (-(1 / 2) * (scl x / var x)) / 1024) + x d * ((∑ e, z e * x e) * (-(1 / 2) * (scl x / var x)) / 1024)) = back z x d := by
  rw [scl_cube, back]
  ring

/-- A row's scale, as the programs evaluate it. -/
theorem scl_val (X : Fin 1024 → EReal) (x : Fin 1024 → ℝ) (h : ∀ j, X j = (x j : EReal)) :
    Ideal.rsqrt (Ideal.div (∑ d, X d * X d) (Ideal.ofBits .f32 0x44800000#32) + Ideal.ofBits .f32 0x358637BD#32) = (scl x : EReal) := by
  simp only [h, eps_word, width_word, ← EReal.coe_mul]
  rw [← coe_sum, div_coe _ _ (by norm_num), ← EReal.coe_add]
  exact rsqrt_coe _ (var_pos x)

theorem back_val' (z x : Fin 1024 → ℝ) (j : Fin 1024) :
    (scl x : EReal) * (z j : EReal) - (x j : EReal) * ((scl x : EReal) * (scl x : EReal) * (scl x : EReal))
      * Ideal.div (∑ e, (z e : EReal) * (x e : EReal)) (Ideal.ofBits .f32 0x44800000#32) = (back z x j : EReal) := by
  simp only [width_word, ← EReal.coe_mul]
  rw [← coe_sum, div_coe _ _ (by norm_num), ← EReal.coe_mul, ← EReal.coe_sub]
  rfl

theorem half_word : Ideal.ofBits .f32 0xBF000000#32 = ((-(1 / 2) : ℝ) : EReal) := by
  simp [Ideal.ofBits, Ideal.ieee, -EReal.coe_mul, -EReal.coe_neg]; norm_num

theorem var_val (X : Fin 1024 → EReal) (x : Fin 1024 → ℝ) (h : ∀ j, X j = (x j : EReal)) :
    Ideal.div (∑ d, X d * X d) (Ideal.ofBits .f32 0x44800000#32) + Ideal.ofBits .f32 0x358637BD#32 = (var x : EReal) := by
  simp only [h, eps_word, width_word, ← EReal.coe_mul]
  rw [← coe_sum, div_coe _ _ (by norm_num), ← EReal.coe_add]
  rfl

/-- The mean square's part of the gradient, as differentiation evaluates it. -/
def msq (z x : Fin 1024 → ℝ) : ℝ := (∑ e, z e * x e) * (-(1 / 2) * (scl x / var x)) / 1024

theorem slope_val (x : Fin 1024 → ℝ) : Ideal.ofBits .f32 0xBF000000#32 * Ideal.div (scl x : EReal) (var x : EReal) = ((-(1 / 2) * (scl x / var x) : ℝ) : EReal) := by
  rw [half_word, div_coe _ _ (var_pos x).ne', ← EReal.coe_mul]

theorem msq_val (z x : Fin 1024 → ℝ) (S : EReal) (h : S = ((-(1 / 2) * (scl x / var x) : ℝ) : EReal)) :
    Ideal.div ((∑ e, (x e : EReal) * (z e : EReal)) * S) (Ideal.ofBits .f32 0x44800000#32) = (msq z x : EReal) := by
  simp only [h, width_word, ← EReal.coe_mul]
  rw [← coe_sum, ← EReal.coe_mul, div_coe _ _ (by norm_num), msq, Finset.sum_congr rfl fun e _ => mul_comm (x e) (z e)]

theorem back_sum (z x : Fin 1024 → ℝ) (d : Fin 1024) : z d * scl x + x d * msq z x + msq z x * x d = back z x d := by
  rw [← back_eq, msq]
  ring

/-- A column summed over the rows before `n`. -/
def upTo (f : Fin 4096 → Fin 1024 → ℝ) (n : ℕ) (d : Fin 1024) : ℝ := ∑ r ∈ Finset.range n, if h : r < 4096 then f ⟨r, h⟩ d else 0

theorem upTo_all (f : Fin 4096 → Fin 1024 → ℝ) (d : Fin 1024) : upTo f 4096 d = ∑ r, f r d := by
  rw [upTo, Finset.sum_range]
  exact Finset.sum_congr rfl fun r _ => dif_pos r.isLt

theorem upTo_add (f : Fin 4096 → Fin 1024 → ℝ) (n : ℕ) (hn : n + 512 ≤ 4096) (d : Fin 1024) (g : Fin 512 → ℝ)
    (hg : ∀ i : Fin 512, g i = f ⟨n + i.val, by omega⟩ d) : upTo f n d + ∑ i, g i = upTo f (n + 512) d := by
  rw [upTo, upTo, Finset.sum_range_add]
  congr 1
  rw [Finset.sum_range]
  refine Finset.sum_congr rfl fun i _ => ?_
  rw [hg i, dif_pos (by omega)]

theorem pos_half_word : Ideal.ofBits .f32 0x3F000000#32 = ((1 / 2 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

/-- A quotient by the width. -/
theorem mean_val (a : ℝ) : Ideal.div (a : EReal) (Ideal.ofBits .f32 0x44800000#32) = ((a / 1024 : ℝ) : EReal) := by
  rw [width_word, div_coe _ _ (by norm_num)]

end Cert.Norms

end
-- ==== Proof.NormPay.lean ====
module

public import proofs.«01_k».proof.Proof.Gen.NormBwdIdeal.Skeleton
public import Idealize.ShloMosaic.Lib.Pointwise
public import proofs.«01_k».proof.Proof.Norms

/-! What the payloads of the norms' backward call leave, at blocks of real entries. -/

@[expose] public section

set_option maxRecDepth 16384

noncomputable section

open Idealize.ShloMosaic

namespace Cert.NormOwn

open Cert Cert.Reals Cert.Norms Cert.NormBwdIdeal Cert.NormBwdIdeal.Gen

theorem pay5_at (X : FVec Ideal S512x1024 .f32) (x : Fin 1024 → ℝ) (i : Fin 512) (h : ∀ j, X (ix2 i j) = (x j : EReal)) :
    k0_pay5 (F := Ideal) X (ix2 i 0) = (scl x : EReal) := by
  pointwise [k0_pay5, k0_pay4]
  exact scl_val _ x h

theorem pay11_at (X : FVec Ideal S512x1024 .f32) (x : Fin 1024 → ℝ) (i : Fin 512) (h : ∀ j, X (ix2 i j) = (x j : EReal)) :
    k0_pay11 (F := Ideal) X (ix2 i 0) = (scl x : EReal) := by
  pointwise [k0_pay11]
  exact scl_val _ x h

theorem pay6_at (Z X : FVec Ideal S512x1024 .f32) (z x : Fin 1024 → ℝ) (i : Fin 512) (hz : ∀ j, Z (ix2 i j) = (z j : EReal))
    (h : ∀ j, X (ix2 i j) = (x j : EReal)) (j : Fin 1024) :
    k0_pay6 (F := Ideal) Z X (ix2 i j) = ((z j * (x j * scl x) : ℝ) : EReal) := by
  pointwise [k0_pay6, k0_pay4, pay5_at X x i h, hz, h]
  simp only [← EReal.coe_mul]

theorem pay7_at (Z X S : FVec Ideal S512x1024 .f32) (G : FVec Ideal S1x1024 .f32) (z x s g : Fin 1024 → ℝ) (i : Fin 512)
    (hz : ∀ j, Z (ix2 i j) = (z j : EReal)) (h : ∀ j, X (ix2 i j) = (x j : EReal)) (hs : ∀ j, S (ix2 i j) = (s j : EReal))
    (hg : ∀ j, G (ix2 0 j) = (g j : EReal)) (j : Fin 1024) :
    k0_pay7 (F := Ideal) Z X G S (ix2 i j) = ((s j + back (fun e => z e * g e) x j : ℝ) : EReal) := by
  pointwise [k0_pay7, k0_pay4, pay5_at X x i h, hz, h, hs, hg]
  rw [EReal.coe_add, ← back_val' (fun e => z e * g e) x j]
  simp only [EReal.coe_mul]

theorem pay12_at (Z X : FVec Ideal S512x1024 .f32) (G : FVec Ideal S1x1024 .f32) (z x g : Fin 1024 → ℝ) (i : Fin 512)
    (hz : ∀ j, Z (ix2 i j) = (z j : EReal)) (h : ∀ j, X (ix2 i j) = (x j : EReal))
    (hg : ∀ j, G (ix2 0 j) = (g j : EReal)) (j : Fin 1024) :
    k0_pay12 (F := Ideal) Z X G (ix2 i j) = ((back (fun e => z e * g e) x j : ℝ) : EReal) := by
  pointwise [k0_pay12, pay11_at X x i h, hz, h, hg]
  exact back_val' (fun e => z e * g e) x j

theorem pay10_at (W : FVec Ideal S512x1024 .f32) (A : FVec Ideal S1x1024 .f32) (w : Fin 512 → Fin 1024 → ℝ) (a : Fin 1024 → ℝ)
    (hw : ∀ i j, W (ix2 i j) = (w i j : EReal)) (ha : ∀ j, A (ix2 0 j) = (a j : EReal)) (j : Fin 1024) :
    k0_pay10 (F := Ideal) W A (ix2 0 j) = ((a j + ∑ i, w i j : ℝ) : EReal) := by
  pointwise [k0_pay10, hw, ha]
  rw [EReal.coe_add, coe_sum]

theorem pay14_at (Z X : FVec Ideal S512x1024 .f32) (A : FVec Ideal S1x1024 .f32) (z x : Fin 512 → Fin 1024 → ℝ) (a : Fin 1024 → ℝ)
    (hz : ∀ i j, Z (ix2 i j) = (z i j : EReal)) (h : ∀ i j, X (ix2 i j) = (x i j : EReal)) (ha : ∀ j, A (ix2 0 j) = (a j : EReal)) (j : Fin 1024) :
    k0_pay3 (F := Ideal) (k0_pay13 A) (k0_pay14 Z X) (ix2 0 j) = ((a j + ∑ i, z i j * (x i j * scl (x i)) : ℝ) : EReal) := by
  pointwise [k0_pay3, k0_pay13, k0_pay14, hz, h, ha, pay11_at X _ _ (h _)]
  rw [EReal.coe_add, coe_sum]
  simp only [← EReal.coe_mul]

theorem pay2_at (A : FVec Ideal S512x1024 .f32) (P : FVec Ideal S1x512x1408 .bf16) (Q : FVec Ideal S1408x1024 .bf16) (i : Fin 512) (j : Fin 1024)
    (a : ℝ) (p q : ℕ → ℝ) (b : ℕ) (ha : A (ix2 i j) = (a : EReal)) (hp : ∀ k : Fin 1408, P (ix3 0 i k) = (p (b + k.val) : EReal))
    (hq : ∀ k : Fin 1408, Q (ix2 k j) = (q (b + k.val) : EReal)) (hb : a = ∑ k ∈ Finset.range b, p k * q k) :
    k0_pay2 (F := Ideal) A P Q (ix2 i j) = ((∑ k ∈ Finset.range (b + 1408), p k * q k : ℝ) : EReal) := by
  pointwise [k0_pay2, hp, hq, ha]
  rw [Finset.sum_range_add, ← hb, EReal.coe_add, Finset.sum_range, coe_sum]
  simp only [← EReal.coe_mul]

theorem pay1_at (i : S512x1024.Idx) : k0_pay1 (F := Ideal) i = ((0 : ℝ) : EReal) := by
  idx_vars i; pointwise [k0_pay1]; exact EReal.coe_zero.symm

/-- The arguments' entries as real numbers. -/
structure Args where
  (x o ds : Fin 4096 → Fin 1024 → ℝ)
  (gp gn : Fin 1024 → ℝ)
  (wg wu : Fin 1024 → Fin 2816 → ℝ)
  (dg du : Fin 4096 → Fin 2816 → ℝ)

namespace Args
variable (N : Args)

/-- The residual sum the second norm stands on. -/
def x1 (r : Fin 4096) (d : Fin 1024) : ℝ := N.x r d + N.o r d * scl (N.o r) * N.gp d
/-- The two cotangents side by side, and the two weights one under the other. -/
def p (r : Fin 4096) (n : ℕ) : ℝ := if h : n < 2816 then N.dg r ⟨n, h⟩ else if h : n - 2816 < 2816 then N.du r ⟨n - 2816, h⟩ else 0
def q (d : Fin 1024) (n : ℕ) : ℝ := if h : n < 2816 then N.wg d ⟨n, h⟩ else if h : n - 2816 < 2816 then N.wu d ⟨n - 2816, h⟩ else 0
/-- The gradient behind the norm, and the gradients the call writes. -/
def dh (r : Fin 4096) (d : Fin 1024) : ℝ := ∑ n ∈ Finset.range 5632, N.p r n * N.q d n
def dx (r : Fin 4096) (d : Fin 1024) : ℝ := N.ds r d + back (fun e => N.dh r e * N.gn e) (N.x1 r) d
def gnRow (r : Fin 4096) (d : Fin 1024) : ℝ := N.dh r d * (N.x1 r d * scl (N.x1 r))
def gpRow (r : Fin 4096) (d : Fin 1024) : ℝ := N.dx r d * (N.o r d * scl (N.o r))
def dO (r : Fin 4096) (d : Fin 1024) : ℝ := back (fun e => N.dx r e * N.gp e) (N.o r) d

theorem dh_eq (r : Fin 4096) (d : Fin 1024) : N.dh r d = (∑ k, N.du r k * N.wu d k) + ∑ k, N.dg r k * N.wg d k := by
  rw [dh, show 5632 = 2816 + 2816 from rfl, Finset.sum_range_add, Finset.sum_range, Finset.sum_range]
  refine (add_comm _ _).trans (congrArg₂ (· + ·) (Finset.sum_congr rfl fun k _ => ?_) (Finset.sum_congr rfl fun k _ => ?_))
  · unfold p q
    rw [dif_neg (by omega), dif_pos (by omega), dif_neg (by omega), dif_pos (by omega)]
    simp only [Nat.add_sub_cancel_left]
  · unfold p q
    rw [dif_pos k.isLt, dif_pos k.isLt]

end Args

/-- The arrays whose entries these numbers are. -/
structure Is (N : Args) (a0 a1 : FVec Ideal S4096x1024 .f32) (a2 a3 : FVec Ideal S1024 .f32) (a4 a5 : FVec Ideal S1024x2816 .f32)
    (a6 : FVec Ideal S4096x1024 .f32) (a7 a8 : FVec Ideal S4096x2816 .bf16) : Prop where
  x : ∀ r d, a0 (ix2 r d) = (N.x r d : EReal)
  o : ∀ r d, a1 (ix2 r d) = (N.o r d : EReal)
  gp : ∀ d, a2 (ix1 d) = (N.gp d : EReal)
  gn : ∀ d, a3 (ix1 d) = (N.gn d : EReal)
  wg : ∀ d k, a4 (ix2 d k) = (N.wg d k : EReal)
  wu : ∀ d k, a5 (ix2 d k) = (N.wu d k : EReal)
  ds : ∀ r d, a6 (ix2 r d) = (N.ds r d : EReal)
  dg : ∀ r k, a7 (ix2 r k) = (N.dg r k : EReal)
  du : ∀ r k, a8 (ix2 r k) = (N.du r k : EReal)

end Cert.NormOwn

end
-- ==== Proof.NormHost.lean ====
module

public import proofs.«01_k».proof.Proof.Gen.NormBwdIdeal.Frame
public import Idealize.ShloMosaic.Lib.Pipeline.ValueKit
public import Idealize.ShloMosaic.Lib.Pointwise
public import proofs.«01_k».proof.Proof.NormPay

/-! The arrays the norms' backward call is entered with, and its blocks. -/

@[expose] public section

set_option maxRecDepth 16384

noncomputable section

open Idealize.ShloMosaic Idealize.ShloMosaic.TcCoe Idealize.SL.Sem
open Idealize.ShloMosaic.Pipeline (Dat)

namespace Cert.NormOwn

open Cert Cert.Reals Cert.Norms Cert.NormBwdIdeal Cert.NormBwdIdeal.Gen

variable (m : (ℓ : Loc nD τ sig) → Buf (Elt Ideal) ℓ) (c : Dev nD)

theorem idx : ∀ t : Fin cfg0.N, win0_0.index t = ![t.val % 4 / 2, t.val / 4, t.val % 4 % 2] ∧ win0_1.index t = ![t.val % 4, 0]
    ∧ win0_2.index t = ![t.val / 4, 0] ∧ win0_3.index t = ![t.val / 4, 0] ∧ win0_4.index t = ![0, 0]
    ∧ win0_5.index t = ![t.val / 4, 0] ∧ win0_6.index t = ![0, 0] ∧ win0_7.index t = ![t.val / 4, 0] ∧ win0_8.index t = ![0, 0]
    ∧ win0_9.index t = ![t.val / 4, 0] ∧ win0_10.index t = ![0, 0] :=
  (by decide +kernel : ∀ t : Fin grid0.N, _)

/-- The row of the arrays that row `i` of the blocks at point `t` is. -/
abbrev row (t : Fin cfg0.N) (i : Fin 512) : Fin 4096 := ⟨t.val / 4 * 512 + i.val, by have := lt_of_lt_of_eq t.isLt N_0; omega⟩

abbrev A0 : FVec Ideal S4096x1024 .f32 := m ((c : Thread nD τ).loc main_arg0)
abbrev A1 : FVec Ideal S4096x1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024x2816 .f32 := m ((c : Thread nD τ).loc main_arg4)
abbrev A5 : FVec Ideal S1024x2816 .f32 := m ((c : Thread nD τ).loc main_arg5)
abbrev A6 : FVec Ideal S4096x1024 .f32 := m ((c : Thread nD τ).loc main_arg6)
abbrev A7 : FVec Ideal S4096x2816 .bf16 := m ((c : Thread nD τ).loc main_arg7)
abbrev A8 : FVec Ideal S4096x2816 .bf16 := m ((c : Thread nD τ).loc main_arg8)

/-- The call's arguments have these real entries. -/
abbrev Num (N : Args) : Prop := Is N (A0 m c) (A1 m c) (A2 m c) (A3 m c) (A4 m c) (A5 m c) (A6 m c) (A7 m c) (A8 m c)

variable {m c} {N : Args} (hN : Num m c N)

/-- The residual sum on the host. -/
def hx1 (a0 a1 : FVec Ideal S4096x1024 .f32) (a2 : FVec Ideal S1024 .f32) : FVec Ideal S4096x1024 .f32 :=
  addf a0 (mulf (mulf a1 (broadcastInDim S4096x1024 ![0, 1] bcast_S4096x1_S4096x1024_0_1
    (Host.rsqrt (addf (Host.divf (broadcastInDim S4096x1 ![0] bcast_S4096_S4096x1_0
        (Host.reduceAdd (mulf a1 a1) (constant S_ .f32 0x00000000#32) reducesTo_S4096x1024_S4096_d1 h_S_ : FVec Ideal S4096 .f32) : FVec Ideal S4096x1 .f32)
      (broadcastInDim S4096x1 ![] bcast_S_S4096x1 (constant S_ .f32 0x44800000#32) : FVec Ideal S4096x1 .f32))
      (broadcastInDim S4096x1 ![] bcast_S_S4096x1 (constant S_ .f32 0x358637BD#32) : FVec Ideal S4096x1 .f32)) : FVec Ideal S4096x1 .f32) : FVec Ideal S4096x1024 .f32))
    (broadcastInDim S4096x1024 ![0, 1] bcast_S1x1024_S4096x1024_0_1 (broadcastInDim S1x1024 ![1] bcast_S1024_S1x1024_1 a2 : FVec Ideal S1x1024 .f32) : FVec Ideal S4096x1024 .f32))

/-- The two weights one under the other, and the two cotangents one behind the other. -/
def hw (a4 a5 : FVec Ideal S1024x2816 .f32) : FVec Ideal S5632x1024 .bf16 :=
  truncf .bf16 (concatenate S5632x1024 0
    [⟨S2816x1024, (transpose S2816x1024 [1, 0] a4 transposes_S1024x2816_S2816x1024_1_0 : FVec Ideal S2816x1024 .f32)⟩,
      ⟨S2816x1024, (transpose S2816x1024 [1, 0] a5 transposes_S1024x2816_S2816x1024_1_0 : FVec Ideal S2816x1024 .f32)⟩]
    concatenates_S2816x1024_S2816x1024_S5632x1024_d0 : FVec Ideal S5632x1024 .f32) bitsLt_bf16_f32

def hd (a7 a8 : FVec Ideal S4096x2816 .bf16) : FVec Ideal S2x4096x2816 .bf16 :=
  concatenate S2x4096x2816 0
    [⟨S1x4096x2816, (broadcastInDim S1x4096x2816 ![1, 2] bcast_S4096x2816_S1x4096x2816_1_2 a7 : FVec Ideal S1x4096x2816 .bf16)⟩,
      ⟨S1x4096x2816, (broadcastInDim S1x4096x2816 ![1, 2] bcast_S4096x2816_S1x4096x2816_1_2 a8 : FVec Ideal S1x4096x2816 .bf16)⟩]
    concatenates_S1x4096x2816_S1x4096x2816_S2x4096x2816_d0

theorem V13 : V m c main_v13 = hx1 (A0 m c) (A1 m c) (A2 m c) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  rfl

theorem V17 : V m c main_v17 = hw (A4 m c) (A5 m c) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  rfl

theorem V20 : V m c main_v20 = hd (A7 m c) (A8 m c) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  rfl

theorem entry_pre (d : Fin 1024) : V m c main_v21 (ix2 0 d) = (show EReal from A3 m c (ix1 d)) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  pointwise

theorem entry_post (d : Fin 1024) : V m c main_v22 (ix2 0 d) = (show EReal from A2 m c (ix1 d)) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  pointwise

include hN

theorem x1_at (r : Fin 4096) (d : Fin 1024) : hx1 (A0 m c) (A1 m c) (A2 m c) (ix2 r d) = (N.x1 r d : EReal) := by
  pointwise [hx1, hN.x, hN.gp, hN.o]
  rw [scl_val (fun e => (N.o r e : EReal)) (N.o r) (fun _ => rfl)]
  unfold Args.x1
  simp only [EReal.coe_add, EReal.coe_mul]

theorem w_at (n : Fin 5632) (d : Fin 1024) : hw (A4 m c) (A5 m c) (ix2 n d) = (N.q d n.val : EReal) := by
  pointwise [hw]
  unfold Args.q
  by_cases h : n.val < 2816
  · rw [dif_pos h, dif_pos h, hN.wg]
  · rw [dif_neg h, dif_neg h, dif_pos (by omega), hN.wu]

theorem d_at (g : Fin 2) (r : Fin 4096) (k : Fin 2816) : hd (A7 m c) (A8 m c) (ix3 g r k) = (N.p r (g.val * 2816 + k.val) : EReal) := by
  pointwise [hd]
  unfold Args.p
  by_cases h : g.val < 1
  · rw [dif_pos h, dif_pos (by omega), hN.dg]
    simp only [show g.val = 0 by omega, zero_mul, zero_add]
  · rw [dif_neg h, dif_neg (by omega), dif_pos (by omega), hN.du]
    simp only [show g.val = 1 by omega, one_mul, Nat.add_sub_cancel_left]

theorem blk0 (t : Fin cfg0.N) (i : Fin 512) (k : Fin 1408) : iblk m c 0 t (ix3 0 i k) = (N.p (row t i) (1408 * (t.val % 4) + k.val) : EReal) := by
  have ht := lt_of_lt_of_eq t.isLt N_0
  blk_simp [iblk]
  rw [show (win0_0.blk t).view.emb (ix3 0 i k) = ix3 ⟨t.val % 4 / 2, by omega⟩ (row t i) ⟨t.val % 4 % 2 * 1408 + k.val, by omega⟩ by blk_ext [idx t],
    V20, d_at hN]
  congr 2
  simp only
  omega

theorem blk1 (t : Fin cfg0.N) (k : Fin 1408) (j : Fin 1024) : iblk m c 1 t (ix2 k j) = (N.q j (1408 * (t.val % 4) + k.val) : EReal) := by
  have ht := lt_of_lt_of_eq t.isLt N_0
  blk_simp [iblk]
  rw [show (win0_1.blk t).view.emb (ix2 k j) = ix2 ⟨t.val % 4 * 1408 + k.val, by omega⟩ j by blk_ext [idx t], V17, w_at hN]
  congr 2
  simp only
  omega

theorem blk2 (t : Fin cfg0.N) (i : Fin 512) (j : Fin 1024) : iblk m c 2 t (ix2 i j) = (N.ds (row t i) j : EReal) := by
  blk_simp [iblk]
  rw [show (win0_2.blk t).view.emb (ix2 i j) = ix2 (row t i) j by blk_ext [idx t], V_main_arg6]
  exact hN.ds _ _

theorem blk3 (t : Fin cfg0.N) (i : Fin 512) (j : Fin 1024) : iblk m c 3 t (ix2 i j) = (N.x1 (row t i) j : EReal) := by
  blk_simp [iblk]
  rw [show (win0_3.blk t).view.emb (ix2 i j) = ix2 (row t i) j by blk_ext [idx t], V13, x1_at hN]

theorem blk4 (t : Fin cfg0.N) (j : Fin 1024) : iblk m c 4 t (ix2 0 j) = (N.gn j : EReal) := by
  blk_simp [iblk]
  rw [show (win0_4.blk t).view.emb (ix2 0 j) = ix2 0 j by blk_ext [idx t], entry_pre]
  exact hN.gn _

theorem blk5 (t : Fin cfg0.N) (i : Fin 512) (j : Fin 1024) : iblk m c 5 t (ix2 i j) = (N.o (row t i) j : EReal) := by
  blk_simp [iblk]
  rw [show (win0_5.blk t).view.emb (ix2 i j) = ix2 (row t i) j by blk_ext [idx t], V_main_arg1]
  exact hN.o _ _

theorem blk6 (t : Fin cfg0.N) (j : Fin 1024) : iblk m c 6 t (ix2 0 j) = (N.gp j : EReal) := by
  blk_simp [iblk]
  rw [show (win0_6.blk t).view.emb (ix2 0 j) = ix2 0 j by blk_ext [idx t], entry_post]
  exact hN.gp _

end Cert.NormOwn

end
-- ==== Proof.NormState.lean ====
module

public import proofs.«01_k».proof.Proof.NormHost
public import Idealize.ShloMosaic.Lib.Pipeline.ReadBack

/-! What the norms' backward call holds after each point. -/

@[expose] public section

set_option maxRecDepth 16384

noncomputable section

open Idealize.ShloMosaic Idealize.ShloMosaic.TcCoe Idealize.SL.Sem
open Idealize.ShloMosaic.Pipeline (Dat)

namespace Cert.NormOwn

open Cert Cert.Reals Cert.Norms Cert.NormBwdIdeal Cert.NormBwdIdeal.Gen

variable {m : (ℓ : Loc nD τ sig) → Buf (Elt Ideal) ℓ} {c : Dev nD} {N : Args} (hN : Num m c N)

/-- The product's sum over the first `n` columns. -/
def part (N : Args) (r : Fin 4096) (d : Fin 1024) (n : ℕ) : ℝ := ∑ k ∈ Finset.range n, N.p r k * N.q d k

include hN

theorem accA (t : Fin cfg0.N) (h0 : t.val % 4 = 0) (h1 : ¬t.val % 4 = 3) (i : Fin 512) (j : Fin 1024) :
    (outsAt0 m c t.val t.isLt).2.2.2.2 (ix2 i j) = (part N (row t i) j 1408 : EReal) := by
  rw [outsAt0_A m c t h0 h1]
  frame_out
  refine pay2_at _ _ _ i j 0 (N.p (row t i)) (N.q j) 0 ?_ ?_ ?_ rfl
  · pointwise; exact pay1_at _
  · intro k; pointwise; rw [blk0 hN, h0, mul_zero, zero_add]
  · intro k; pointwise; rw [blk1 hN, h0, mul_zero, zero_add]

theorem accB (t : Fin cfg0.N) (h0 : ¬t.val % 4 = 0) (h1 : ¬t.val % 4 = 3) (i : Fin 512) (j : Fin 1024)
    (hp : (outsAt0 m c (t.val - 1) (by omega)).2.2.2.2 (ix2 i j) = (part N (row t i) j (1408 * (t.val % 4)) : EReal)) :
    (outsAt0 m c t.val t.isLt).2.2.2.2 (ix2 i j) = (part N (row t i) j (1408 * (t.val % 4) + 1408) : EReal) := by
  rw [outsAt0_B m c t h0 h1]
  frame_out
  refine pay2_at _ _ _ i j (part N (row t i) j (1408 * (t.val % 4))) (N.p (row t i)) (N.q j) (1408 * (t.val % 4)) ?_ ?_ ?_ rfl
  · rw [read_unread_whole]; exact hp
  · intro k; pointwise; rw [blk0 hN]
  · intro k; pointwise; rw [blk1 hN]

theorem sumC (t : Fin cfg0.N) (h1 : t.val % 4 = 3) (i : Fin 512) (j : Fin 1024)
    (hp : (outsAt0 m c (t.val - 1) (by omega)).2.2.2.2 (ix2 i j) = (part N (row t i) j 4224 : EReal)) :
    k0_pay2 (F := Ideal) (outsAt0 m c (t.val - 1) (by omega)).2.2.2.2 (iblk m c 0 t) (iblk m c 1 t) (ix2 i j) = (N.dh (row t i) j : EReal) := by
  refine pay2_at _ _ _ i j (part N (row t i) j 4224) (N.p (row t i)) (N.q j) 4224 hp ?_ ?_ rfl
  · intro k; rw [blk0 hN, h1]
  · intro k; rw [blk1 hN, h1]

/-- The rows' gradient by the residual sum, as the last step of a row block evaluates it. -/
abbrev dxBlk (m : (ℓ : Loc nD τ sig) → Buf (Elt Ideal) ℓ) (c : Dev nD) (t : Fin cfg0.N) : FVec Ideal S512x1024 .f32 :=
  k0_pay7 (F := Ideal) (k0_pay2 (outsAt0 m c (t.val - 1) (by omega)).2.2.2.2 (iblk m c 0 t) (iblk m c 1 t)) (iblk m c 3 t) (iblk m c 4 t) (iblk m c 2 t)

theorem dxBlk_at (t : Fin cfg0.N) (h1 : t.val % 4 = 3)
    (hp : ∀ i j, (outsAt0 m c (t.val - 1) (by omega)).2.2.2.2 (ix2 i j) = (part N (row t i) j 4224 : EReal)) (i : Fin 512) (j : Fin 1024) :
    dxBlk m c t (ix2 i j) = (N.dx (row t i) j : EReal) :=
  pay7_at _ _ _ _ (N.dh (row t i)) (N.x1 (row t i)) (N.ds (row t i)) N.gn i (fun j => sumC hN t h1 i j (hp i j)) (blk3 hN t i) (blk2 hN t i) (blk4 hN t) j

theorem gn_at (t : Fin cfg0.N) (h1 : t.val % 4 = 3)
    (hp : ∀ i j, (outsAt0 m c (t.val - 1) (by omega)).2.2.2.2 (ix2 i j) = (part N (row t i) j 4224 : EReal)) (i : Fin 512) (j : Fin 1024) :
    k0_pay6 (F := Ideal) (k0_pay2 (outsAt0 m c (t.val - 1) (by omega)).2.2.2.2 (iblk m c 0 t) (iblk m c 1 t)) (iblk m c 3 t) (ix2 i j) = (N.gnRow (row t i) j : EReal) :=
  pay6_at _ _ (N.dh (row t i)) (N.x1 (row t i)) i (fun j => sumC hN t h1 i j (hp i j)) (blk3 hN t i) j

theorem dxC (t : Fin cfg0.N) (h0 : ¬t.val % 4 = 0) (h1 : t.val % 4 = 3) (h2 : t.val < 4)
    (hp : ∀ i j, (outsAt0 m c (t.val - 1) (by omega)).2.2.2.2 (ix2 i j) = (part N (row t i) j 4224 : EReal)) (i : Fin 512) (j : Fin 1024) :
    (outsAt0 m c t.val t.isLt).1 (ix2 i j) = (N.dx (row t i) j : EReal) := by
  rw [outsAt0_C m c t h0 h1 h2]
  frame_out
  refine Eq.trans ?_ (dxBlk_at hN t h1 hp i j)
  rw [read_unread_whole]

theorem doC (t : Fin cfg0.N) (h0 : ¬t.val % 4 = 0) (h1 : t.val % 4 = 3) (h2 : t.val < 4)
    (hp : ∀ i j, (outsAt0 m c (t.val - 1) (by omega)).2.2.2.2 (ix2 i j) = (part N (row t i) j 4224 : EReal)) (i : Fin 512) (j : Fin 1024) :
    (outsAt0 m c t.val t.isLt).2.2.1 (ix2 i j) = (N.dO (row t i) j : EReal) := by
  rw [outsAt0_C m c t h0 h1 h2]
  frame_out
  rw [read_unread_whole]
  exact pay12_at _ _ _ (N.dx (row t i)) (N.o (row t i)) N.gp i (dxBlk_at hN t h1 hp i) (blk5 hN t i) (blk6 hN t) j

theorem gnC (t : Fin cfg0.N) (h0 : ¬t.val % 4 = 0) (h1 : t.val % 4 = 3) (h2 : t.val < 4)
    (hp : ∀ i j, (outsAt0 m c (t.val - 1) (by omega)).2.2.2.2 (ix2 i j) = (part N (row t i) j 4224 : EReal)) (j : Fin 1024) :
    (outsAt0 m c t.val t.isLt).2.1 (ix2 0 j) = (upTo N.gnRow (t.val / 4 * 512 + 512) j : EReal) := by
  have ht := lt_of_lt_of_eq t.isLt N_0
  rw [outsAt0_C m c t h0 h1 h2]
  frame_out
  rw [read_unread_whole]
  rw [← upTo_add N.gnRow (t.val / 4 * 512) (by omega) j (fun i => N.gnRow (row t i) j) (fun i => rfl)]
  refine pay10_at _ _ (fun i => N.gnRow (row t i)) (upTo N.gnRow (t.val / 4 * 512)) (gn_at hN t h1 hp) ?_ j
  · intro j; rw [show t.val / 4 * 512 = 0 by omega]; pointwise [k0_pay8]; exact EReal.coe_zero.symm

theorem gpC (t : Fin cfg0.N) (h0 : ¬t.val % 4 = 0) (h1 : t.val % 4 = 3) (h2 : t.val < 4)
    (hp : ∀ i j, (outsAt0 m c (t.val - 1) (by omega)).2.2.2.2 (ix2 i j) = (part N (row t i) j 4224 : EReal)) (j : Fin 1024) :
    (outsAt0 m c t.val t.isLt).2.2.2.1 (ix2 0 j) = (upTo N.gpRow (t.val / 4 * 512 + 512) j : EReal) := by
  have ht := lt_of_lt_of_eq t.isLt N_0
  rw [outsAt0_C m c t h0 h1 h2]
  frame_out
  rw [read_unread_whole]
  rw [← upTo_add N.gpRow (t.val / 4 * 512) (by omega) j (fun i => N.gpRow (row t i) j) (fun i => rfl)]
  refine pay14_at _ _ _ (fun i => N.dx (row t i)) (fun i => N.o (row t i)) (upTo N.gpRow (t.val / 4 * 512)) (dxBlk_at hN t h1 hp) (blk5 hN t) ?_ j
  · intro j; rw [show t.val / 4 * 512 = 0 by omega]; pointwise [k0_pay9]; exact EReal.coe_zero.symm

theorem dxD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 4224 : EReal)) (i : Fin 512) (j : Fin 1024) :
    (outsAt0 m c t.val t.isLt).1 (ix2 i j) = (N.dx (row t i) j : EReal) := by
  rw [outsAt0_D m c t h0 h1 h2]
  frame_out
  refine Eq.trans ?_ (dxBlk_at hN t h1 hp i j)
  rw [read_unread_whole]

theorem doD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 4224 : EReal)) (i : Fin 512) (j : Fin 1024) :
    (outsAt0 m c t.val t.isLt).2.2.1 (ix2 i j) = (N.dO (row t i) j : EReal) := by
  rw [outsAt0_D m c t h0 h1 h2]
  frame_out
  rw [read_unread_whole]
  exact pay12_at _ _ _ (N.dx (row t i)) (N.o (row t i)) N.gp i (dxBlk_at hN t h1 hp i) (blk5 hN t i) (blk6 hN t) j

theorem gnD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 4224 : EReal))
    (ha : ∀ j, (outsAt0 m c (t.val - 1) (by omega)).2.1 (ix2 0 j) = (upTo N.gnRow (t.val / 4 * 512) j : EReal)) (j : Fin 1024) :
    (outsAt0 m c t.val t.isLt).2.1 (ix2 0 j) = (upTo N.gnRow (t.val / 4 * 512 + 512) j : EReal) := by
  have ht := lt_of_lt_of_eq t.isLt N_0
  rw [outsAt0_D m c t h0 h1 h2]
  frame_out
  rw [read_unread_whole]
  rw [← upTo_add N.gnRow (t.val / 4 * 512) (by omega) j (fun i => N.gnRow (row t i) j) (fun i => rfl)]
  refine pay10_at _ _ (fun i => N.gnRow (row t i)) (upTo N.gnRow (t.val / 4 * 512)) (gn_at hN t h1 hp) ?_ j
  · intro j; pointwise; exact ha j

theorem gpD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 4224 : EReal))
    (ha : ∀ j, (outsAt0 m c (t.val - 1) (by omega)).2.2.2.1 (ix2 0 j) = (upTo N.gpRow (t.val / 4 * 512) j : EReal)) (j : Fin 1024) :
    (outsAt0 m c t.val t.isLt).2.2.2.1 (ix2 0 j) = (upTo N.gpRow (t.val / 4 * 512 + 512) j : EReal) := by
  have ht := lt_of_lt_of_eq t.isLt N_0
  rw [outsAt0_D m c t h0 h1 h2]
  frame_out
  rw [read_unread_whole]
  rw [← upTo_add N.gpRow (t.val / 4 * 512) (by omega) j (fun i => N.gpRow (row t i) j) (fun i => rfl)]
  refine pay14_at _ _ _ (fun i => N.dx (row t i)) (fun i => N.o (row t i)) (upTo N.gpRow (t.val / 4 * 512)) (dxBlk_at hN t h1 hp) (blk5 hN t) ?_ j
  · intro j; pointwise; exact ha j

end Cert.NormOwn

end
-- ==== Proof.NormFinal.lean ====
module

public import proofs.«01_k».proof.Proof.NormState

/-! The arrays the norms' backward call leaves. -/

@[expose] public section

set_option maxRecDepth 16384

noncomputable section

open Idealize.ShloMosaic Idealize.ShloMosaic.TcCoe Idealize.SL.Sem
open Idealize.ShloMosaic.Pipeline (Dat)

namespace Cert.NormOwn

open Cert Cert.Reals Cert.Norms Cert.NormBwdIdeal Cert.NormBwdIdeal.Gen

variable {m : (ℓ : Loc nD τ sig) → Buf (Elt Ideal) ℓ} {c : Dev nD} {N : Args} (hN : Num m c N)

theorem row_congr (n n' : ℕ) (hn : n < cfg0.N) (hn' : n' < cfg0.N) (h : n / 4 = n' / 4) (i : Fin 512) : row ⟨n, hn⟩ i = row ⟨n', hn'⟩ i :=
  Fin.ext (by simp only [h])

/-- The columns' sums do not change at a point that ends no row block. -/
theorem carry (t : Fin cfg0.N) (h1 : ¬t.val % 4 = 3) :
    (outsAt0 m c t.val t.isLt).2.1 = (outsAt0 m c (t.val - 1) (by omega)).2.1 ∧ (outsAt0 m c t.val t.isLt).2.2.2.1 = (outsAt0 m c (t.val - 1) (by omega)).2.2.2.1 := by
  by_cases h0 : t.val % 4 = 0
  · rw [outsAt0_A m c t h0 h1]; exact ⟨rfl, rfl⟩
  · rw [outsAt0_B m c t h0 h1]; exact ⟨rfl, rfl⟩

include hN

theorem held : ∀ (n : ℕ) (hn : n < cfg0.N),
    (¬n % 4 = 3 → ∀ i j, (outsAt0 m c n hn).2.2.2.2 (ix2 i j) = (part N (row ⟨n, hn⟩ i) j (1408 * (n % 4 + 1)) : EReal))
    ∧ (3 ≤ n → ∀ j, (outsAt0 m c n hn).2.1 (ix2 0 j) = (upTo N.gnRow ((n + 1) / 4 * 512) j : EReal))
    ∧ (3 ≤ n → ∀ j, (outsAt0 m c n hn).2.2.2.1 (ix2 0 j) = (upTo N.gpRow ((n + 1) / 4 * 512) j : EReal)) := by
  intro n
  induction n with
  | zero => exact fun hn => ⟨fun _ i j => accA hN ⟨0, hn⟩ rfl (by simp only; omega) i j, fun h => by omega, fun h => by omega⟩
  | succ n ih =>
    intro hn
    have hT := lt_of_lt_of_eq hn N_0
    obtain ⟨q0, q1, q2⟩ := ih (by omega)
    by_cases h1 : (n + 1) % 4 = 3
    · have e : n % 4 + 1 = 3 := by omega
      have e' : (n + 1) / 4 * 512 + 512 = (n + 1 + 1) / 4 * 512 := by omega
      have hp : ∀ i j, (outsAt0 m c n (by omega)).2.2.2.2 (ix2 i j) = (part N (row ⟨n + 1, hn⟩ i) j 4224 : EReal) := fun i j => by
        rw [q0 (by omega) i j, e, row_congr n (n + 1) _ hn (by omega)]
      rw [← e']
      refine ⟨fun h => absurd h1 h, fun _ j => ?_, fun _ j => ?_⟩
      · by_cases h2 : n + 1 < 4
        · exact gnC hN ⟨n + 1, hn⟩ (by simp only; omega) h1 h2 hp j
        · exact gnD hN ⟨n + 1, hn⟩ (by simp only; omega) h1 h2 hp (q1 (by omega)) j
      · by_cases h2 : n + 1 < 4
        · exact gpC hN ⟨n + 1, hn⟩ (by simp only; omega) h1 h2 hp j
        · exact gpD hN ⟨n + 1, hn⟩ (by simp only; omega) h1 h2 hp (q2 (by omega)) j
    · have hc := carry (m := m) (c := c) ⟨n + 1, hn⟩ h1
      have e' : (n + 1) / 4 = (n + 1 + 1) / 4 := by omega
      refine ⟨fun _ i j => ?_, fun _ j => ?_, fun _ j => ?_⟩
      · by_cases h0 : (n + 1) % 4 = 0
        · rw [h0]; exact accA hN ⟨n + 1, hn⟩ h0 h1 i j
        · refine accB hN ⟨n + 1, hn⟩ h0 h1 i j ?_
          show (outsAt0 m c n _).2.2.2.2 (ix2 i j) = (part N (row ⟨n + 1, hn⟩ i) j (1408 * ((n + 1) % 4)) : EReal)
          rw [q0 (by omega) i j, row_congr n (n + 1) _ hn (by omega), show n % 4 + 1 = (n + 1) % 4 by omega]
      · rw [hc.1, ← e']; exact q1 (by omega) j
      · rw [hc.2, ← e']; exact q2 (by omega) j

theorem before (t : Fin cfg0.N) (h1 : t.val % 4 = 3) (i : Fin 512) (j : Fin 1024) :
    (outsAt0 m c (t.val - 1) (by omega)).2.2.2.2 (ix2 i j) = (part N (row t i) j 4224 : EReal) := by
  rw [(held hN (t.val - 1) (by omega)).1 (by omega) i j, show (t.val - 1) % 4 + 1 = 3 by omega, row_congr (t.val - 1) t.val _ t.isLt (by omega)]

theorem dx_at (t : Fin cfg0.N) (h1 : t.val % 4 = 3) (i : Fin 512) (j : Fin 1024) : (outsAt0 m c t.val t.isLt).1 (ix2 i j) = (N.dx (row t i) j : EReal) := by
  by_cases h2 : t.val < 4
  · exact dxC hN t (by omega) h1 h2 (before hN t h1) i j
  · exact dxD hN t (by omega) h1 h2 (before hN t h1) i j

theorem do_at (t : Fin cfg0.N) (h1 : t.val % 4 = 3) (i : Fin 512) (j : Fin 1024) : (outsAt0 m c t.val t.isLt).2.2.1 (ix2 i j) = (N.dO (row t i) j : EReal) := by
  by_cases h2 : t.val < 4
  · exact doC hN t (by omega) h1 h2 (before hN t h1) i j
  · exact doD hN t (by omega) h1 h2 (before hN t h1) i j

omit hN

/-- A row block leaves at its last step. -/
theorem last7 : ∀ t : Fin cfg0.grid.N, (win0 7).flush t = true → t.val % 4 = 3 := (by decide +kernel : ∀ t : Fin grid0.N, _)
theorem last9 : ∀ t : Fin cfg0.grid.N, (win0 9).flush t = true → t.val % 4 = 3 := (by decide +kernel : ∀ t : Fin grid0.N, _)

/-- The last point. -/
def lastPt : Fin cfg0.N := ⟨31, (by decide +kernel : 31 < grid0.N)⟩

/-- The four results. -/
def R7 (N : Args) : FVec Ideal S4096x1024 .f32 := fun i => (N.dx (i 0) (i 1) : EReal)
def R8 (N : Args) : FVec Ideal S1x1024 .f32 := fun i => ((∑ r, N.gnRow r (i 1) : ℝ) : EReal)
def R9 (N : Args) : FVec Ideal S4096x1024 .bf16 := fun i => (N.dO (i 0) (i 1) : EReal)
def R10 (N : Args) : FVec Ideal S1x1024 .f32 := fun i => ((∑ r, N.gpRow r (i 1) : ℝ) : EReal)

include hN

theorem final7 : (dats m 0 c).arrAt 7 (cfgs 0).N = R7 N := by
  refine (dats m 0 c).arrAt_eq_of_covers 7 _ (by decide +kernel) fun t hf y => ?_
  blk_simp
  rw [after0_7]
  idx_vars y
  rw [show (win0_7.blk t).view.emb (ix2 y0 y1) = ix2 (row t y0) y1 by blk_ext [idx t]]
  exact dx_at hN t (last7 t hf) y0 y1

theorem final9 : (dats m 0 c).arrAt 9 (cfgs 0).N = R9 N := by
  refine (dats m 0 c).arrAt_eq_of_covers 9 _ (by decide +kernel) fun t hf y => ?_
  blk_simp
  rw [after0_9]
  idx_vars y
  rw [show (win0_9.blk t).view.emb (ix2 y0 y1) = ix2 (row t y0) y1 by blk_ext [idx t]]
  exact do_at hN t (last9 t hf) y0 y1

theorem end8 (n : ℕ) (hn : n < cfg0.N) (h : n = 31) (j : Fin 1024) : (outsAt0 m c n hn).2.1 (ix2 0 j) = R8 N (ix2 0 j) := by
  rw [(held hN n hn).2.1 (by omega) j, h]
  exact congrArg _ (upTo_all _ j)

theorem end10 (n : ℕ) (hn : n < cfg0.N) (h : n = 31) (j : Fin 1024) : (outsAt0 m c n hn).2.2.2.1 (ix2 0 j) = R10 N (ix2 0 j) := by
  rw [(held hN n hn).2.2 (by omega) j, h]
  exact congrArg _ (upTo_all _ j)

theorem final8 : (dats m 0 c).arrAt 8 (cfgs 0).N = R8 N := by
  refine (dats m 0 c).arrAt_eq_of_after_last 8 lastPt (by decide +kernel) _ fun j => ?_
  blk_simp
  rw [after0_8]
  idx_vars j
  rw [show j0 = 0 from Subsingleton.elim _ _]
  exact end8 hN lastPt.val lastPt.isLt rfl j1

theorem final10 : (dats m 0 c).arrAt 10 (cfgs 0).N = R10 N := by
  refine (dats m 0 c).arrAt_eq_of_after_last 10 lastPt (by decide +kernel) _ fun j => ?_
  blk_simp
  rw [after0_10]
  idx_vars j
  rw [show j0 = 0 from Subsingleton.elim _ _]
  exact end10 hN lastPt.val lastPt.isLt rfl j1

end Cert.NormOwn

end
-- ==== Proof.NormRef.lean ====
module

public import proofs.«01_k».proof.Proof.NormPay
public import proofs.«01_k».proof.Proof.Gen.NormRefIdeal.Read

/-! What the norms' reference writes, at arguments of real entries. -/

@[expose] public section

set_option maxRecDepth 16384

noncomputable section

open Idealize.ShloMosaic

namespace Cert.NormOwn

open Cert Cert.Reals Cert.Norms Cert.NormRefIdeal Cert.NormRefIdeal.Read

variable {N : Args} {x0 x1 : FVec Ideal S4096x1024 .f32} {x2 x3 : FVec Ideal S1024 .f32} {x4 x5 : FVec Ideal S1024x2816 .f32}
  {x6 : FVec Ideal S4096x1024 .f32} {x7 x8 : FVec Ideal S4096x2816 .bf16} (hN : Is N x0 x1 x2 x3 x4 x5 x6 x7 x8)

include hN

theorem r6 (r : Fin 4096) : val_main_v6 (F := Ideal) x1 (ix2 r 0) = (var (N.o r) : EReal) := by
  pointwise [val_main_v6, val_main_v5, val_main_v4, val_main_v3, val_main_v2, val_main_v1, val_main_v0, val_main_cst, val_main_cst_0, val_main_cst_1, hN.o]
  exact var_val (fun e => (N.o r e : EReal)) _ (fun _ => rfl)

theorem r7 (r : Fin 4096) : val_main_v7 (F := Ideal) x1 (ix2 r 0) = (scl (N.o r) : EReal) := by
  pointwise [val_main_v7, r6 hN]
  exact rsqrt_coe _ (var_pos _)

theorem r10 (r : Fin 4096) : val_main_v10 (F := Ideal) x1 (ix2 r 0) = ((-(1 / 2) * (scl (N.o r) / var (N.o r)) : ℝ) : EReal) := by
  pointwise [val_main_v10, val_main_v9, val_main_v8, val_main_cst_2, r6 hN, r7 hN]
  exact slope_val _

theorem r12 (r : Fin 4096) (d : Fin 1024) : val_main_v12 (F := Ideal) x1 (ix2 r d) = ((N.o r d * scl (N.o r) : ℝ) : EReal) := by
  pointwise [val_main_v12, val_main_v11, r7 hN, hN.o]
  simp only [EReal.coe_mul]

theorem r16 (r : Fin 4096) (d : Fin 1024) : val_main_v16 (F := Ideal) x0 x1 x2 (ix2 r d) = (N.x1 r d : EReal) := by
  pointwise [val_main_v16, val_main_v15, val_main_v14, val_main_v13, r12 hN, hN.x, hN.gp]
  unfold Args.x1
  simp only [EReal.coe_add, EReal.coe_mul]

theorem r23 (r : Fin 4096) : val_main_v23 (F := Ideal) x0 x1 x2 (ix2 r 0) = (var (N.x1 r) : EReal) := by
  pointwise [val_main_v23, val_main_v22, val_main_v21, val_main_v20, val_main_v19, val_main_v18, val_main_v17, val_main_cst_3, val_main_cst_4, val_main_cst_5, r16 hN]
  exact var_val (fun e => (N.x1 r e : EReal)) _ (fun _ => rfl)

theorem r24 (r : Fin 4096) : val_main_v24 (F := Ideal) x0 x1 x2 (ix2 r 0) = (scl (N.x1 r) : EReal) := by
  pointwise [val_main_v24, r23 hN]
  exact rsqrt_coe _ (var_pos _)

theorem r27 (r : Fin 4096) : val_main_v27 (F := Ideal) x0 x1 x2 (ix2 r 0) = ((-(1 / 2) * (scl (N.x1 r) / var (N.x1 r)) : ℝ) : EReal) := by
  pointwise [val_main_v27, val_main_v26, val_main_v25, val_main_cst_6, r23 hN, r24 hN]
  exact slope_val _

theorem r39 (r : Fin 4096) (d : Fin 1024) : val_main_v39 (F := Ideal) x4 x5 x7 x8 (ix2 r d) = (N.dh r d : EReal) := by
  pointwise [val_main_v39, val_main_v38, val_main_v37, val_main_v36, val_main_v35, hN.dg, hN.du, hN.wg, hN.wu]
  rw [Args.dh_eq, EReal.coe_add, coe_sum, coe_sum]
  simp only [EReal.coe_mul]

theorem r40 (r : Fin 4096) (d : Fin 1024) : val_main_v40 (F := Ideal) x0 x1 x2 x4 x5 x7 x8 (ix2 r d) = (N.gnRow r d : EReal) := by
  pointwise [val_main_v40, val_main_v29, val_main_v28, r16 hN, r24 hN, r39 hN]
  rw [Args.gnRow, mul_comm (N.dh r d)]
  simp only [EReal.coe_mul]

theorem r82 (d : Fin 1024) : val_main_v82 (F := Ideal) x0 x1 x2 x4 x5 x7 x8 (ix2 0 d) = ((∑ r, N.gnRow r d : ℝ) : EReal) := by
  pointwise [val_main_v82, val_main_v45, val_main_v42, val_main_v41, val_main_cst_7, val_main_cst_8, r40 hN]
  rw [coe_sum, Fin.sum_univ_one]

theorem r44 (r : Fin 4096) (d : Fin 1024) : val_main_v44 (F := Ideal) x3 x4 x5 x7 x8 (ix2 r d) = ((N.dh r d * N.gn d : ℝ) : EReal) := by
  pointwise [val_main_v44, val_main_v43, val_main_v30, r39 hN, hN.gn]
  simp only [EReal.coe_mul]

theorem r54 (r : Fin 4096) : val_main_v54 (F := Ideal) x0 x1 x2 x3 x4 x5 x7 x8 (ix2 r 0) = (msq (fun e => N.dh r e * N.gn e) (N.x1 r) : EReal) := by
  pointwise [val_main_v54, val_main_v53, val_main_v52, val_main_v48, val_main_v47, val_main_v46, val_main_cst_9, val_main_cst_10, r44 hN, r16 hN, r27 hN]
  exact msq_val (fun e => N.dh r e * N.gn e) (N.x1 r) _ rfl

theorem r56 (r : Fin 4096) (d : Fin 1024) : val_main_v56 (F := Ideal) x0 x1 x2 x3 x4 x5 x7 x8 (ix2 r d) = (msq (fun e => N.dh r e * N.gn e) (N.x1 r) : EReal) := by
  pointwise [val_main_v56, val_main_v55, val_main_cst_11]
  rw [Fin.sum_univ_one]
  exact r54 hN r

theorem r60 (r : Fin 4096) (d : Fin 1024) : val_main_v60 (F := Ideal) x0 x1 x2 x3 x4 x5 x6 x7 x8 (ix2 r d) = (N.dx r d : EReal) := by
  pointwise [val_main_v60, val_main_v59, val_main_v58, val_main_v57, val_main_v51, val_main_v50, val_main_v49, r44 hN, r56 hN, r16 hN, r24 hN, hN.ds]
  rw [Args.dx, ← back_sum, ← add_assoc, ← add_assoc]
  simp only [EReal.coe_add, EReal.coe_mul]

theorem r61 (r : Fin 4096) (d : Fin 1024) : val_main_v61 (F := Ideal) x0 x1 x2 x3 x4 x5 x6 x7 x8 (ix2 r d) = (N.dx r d : EReal) := by
  pointwise [val_main_v61, r60 hN]

theorem r62 (r : Fin 4096) (d : Fin 1024) : val_main_v62 (F := Ideal) x0 x1 x2 x3 x4 x5 x6 x7 x8 (ix2 r d) = (N.gpRow r d : EReal) := by
  pointwise [val_main_v62, r12 hN, r61 hN]
  rw [Args.gpRow, mul_comm (N.dx r d)]
  simp only [EReal.coe_mul]

theorem r84 (d : Fin 1024) : val_main_v84 (F := Ideal) x0 x1 x2 x3 x4 x5 x6 x7 x8 (ix2 0 d) = ((∑ r, N.gpRow r d : ℝ) : EReal) := by
  pointwise [val_main_v84, val_main_v67, val_main_v64, val_main_v63, val_main_cst_12, val_main_cst_13, r62 hN]
  rw [coe_sum, Fin.sum_univ_one]

theorem r66 (r : Fin 4096) (d : Fin 1024) : val_main_v66 (F := Ideal) x0 x1 x2 x3 x4 x5 x6 x7 x8 (ix2 r d) = ((N.dx r d * N.gp d : ℝ) : EReal) := by
  pointwise [val_main_v66, val_main_v65, val_main_v13, r61 hN, hN.gp]
  simp only [EReal.coe_mul]

theorem r75 (r : Fin 4096) : val_main_v75 (F := Ideal) x0 x1 x2 x3 x4 x5 x6 x7 x8 (ix2 r 0) = (msq (fun e => N.dx r e * N.gp e) (N.o r) : EReal) := by
  pointwise [val_main_v75, val_main_v74, val_main_v73, val_main_v70, val_main_v69, val_main_v68, val_main_cst_14, val_main_cst_15, r66 hN, r10 hN, hN.o]
  exact msq_val (fun e => N.dx r e * N.gp e) (N.o r) _ rfl

theorem r77 (r : Fin 4096) (d : Fin 1024) : val_main_v77 (F := Ideal) x0 x1 x2 x3 x4 x5 x6 x7 x8 (ix2 r d) = (msq (fun e => N.dx r e * N.gp e) (N.o r) : EReal) := by
  pointwise [val_main_v77, val_main_v76, val_main_cst_16]
  rw [Fin.sum_univ_one]
  exact r75 hN r

theorem r83 (r : Fin 4096) (d : Fin 1024) : val_main_v83 (F := Ideal) x0 x1 x2 x3 x4 x5 x6 x7 x8 (ix2 r d) = (N.dO r d : EReal) := by
  pointwise [val_main_v83, val_main_v81, val_main_v80, val_main_v79, val_main_v78, val_main_v72, val_main_v71, r66 hN, r77 hN, r7 hN, hN.o]
  rw [Args.dO, ← back_sum]
  simp only [EReal.coe_add, EReal.coe_mul]

end Cert.NormOwn

end
-- ==== Proof.NormClaim.lean ====
module

public import proofs.«01_k».proof.Proof.NormFinal
public import proofs.«01_k».proof.Proof.NormRef
public import proofs.«01_k».proof.Proof.Gen.Pre_norm_finite
public import proofs.«01_k».proof.Defs

/-! The norms' backward results are the reference's. -/

@[expose] public section

set_option maxRecDepth 16384

noncomputable section

open Idealize.ShloMosaic Idealize.ShloMosaic.TcCoe

namespace Cert.NormOwn

open Cert Cert.Reals Cert.Norms Cert.NormBwdIdeal Cert.NormBwdIdeal.Gen

variable (m : (ℓ : Loc nD τ sig) → Buf (Elt Ideal) ℓ) (c : Dev nD)

theorem nums (h : Pre_NormBwdIdeal_norm_finite m) : ∃ N : Args, Num m c N := by
  have h := h c
  simp only [Cert.Pre_norm_finite.fn] at h
  obtain ⟨h0, h1, h2, h3, h4, h5, h6, h7, h8⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  obtain ⟨x5, e5⟩ := real_array _ _ h5
  obtain ⟨x6, e6⟩ := real_array _ _ h6
  obtain ⟨x7, e7⟩ := real_array _ _ h7
  obtain ⟨x8, e8⟩ := real_array _ _ h8
  exact ⟨⟨fun r d => x0 (ix2 r d), fun r d => x1 (ix2 r d), fun r d => x6 (ix2 r d), fun d => x2 (ix1 d), fun d => x3 (ix1 d),
      fun d k => x4 (ix2 d k), fun d k => x5 (ix2 d k), fun r k => x7 (ix2 r k), fun r k => x8 (ix2 r k)⟩,
    ⟨fun _ _ => congrFun e0 _, fun _ _ => congrFun e1 _, fun _ => congrFun e2 _, fun _ => congrFun e3 _, fun _ _ => congrFun e4 _,
      fun _ _ => congrFun e5 _, fun _ _ => congrFun e6 _, fun _ _ => congrFun e7 _, fun _ _ => congrFun e8 _⟩⟩

variable {m c}

theorem final_dx (h : Pre_NormBwdIdeal_norm_finite m) : (dats m 0 c).arrAt 7 (cfgs 0).N
    = NormRefIdeal.Read.val_main_v60 (F := Ideal) (A0 m c) (A1 m c) (A2 m c) (A3 m c) (A4 m c) (A5 m c) (A6 m c) (A7 m c) (A8 m c) := by
  obtain ⟨N, hN⟩ := nums m c h
  rw [final7 hN]
  funext i
  idx_vars i
  exact (r60 hN i0 i1).symm

theorem final_gn (h : Pre_NormBwdIdeal_norm_finite m) : (dats m 0 c).arrAt 8 (cfgs 0).N
    = NormRefIdeal.Read.val_main_v82 (F := Ideal) (A0 m c) (A1 m c) (A2 m c) (A4 m c) (A5 m c) (A7 m c) (A8 m c) := by
  obtain ⟨N, hN⟩ := nums m c h
  rw [final8 hN]
  funext i
  idx_vars i
  rw [show i0 = 0 from Subsingleton.elim _ _]
  exact (r82 hN i1).symm

theorem final_do (h : Pre_NormBwdIdeal_norm_finite m) : (dats m 0 c).arrAt 9 (cfgs 0).N
    = NormRefIdeal.Read.val_main_v83 (F := Ideal) (A0 m c) (A1 m c) (A2 m c) (A3 m c) (A4 m c) (A5 m c) (A6 m c) (A7 m c) (A8 m c) := by
  obtain ⟨N, hN⟩ := nums m c h
  rw [final9 hN]
  funext i
  idx_vars i
  exact (r83 hN i0 i1).symm

theorem final_gp (h : Pre_NormBwdIdeal_norm_finite m) : (dats m 0 c).arrAt 10 (cfgs 0).N
    = NormRefIdeal.Read.val_main_v84 (F := Ideal) (A0 m c) (A1 m c) (A2 m c) (A3 m c) (A4 m c) (A5 m c) (A6 m c) (A7 m c) (A8 m c) := by
  obtain ⟨N, hN⟩ := nums m c h
  rw [final10 hN]
  funext i
  idx_vars i
  rw [show i0 = 0 from Subsingleton.elim _ _]
  exact (r84 hN i1).symm

end Cert.NormOwn

end
-- ==== Proof.NormPair.lean ====
module

public import proofs.«01_k».proof.Proof.NormClaim
public import proofs.«01_k».proof.Proof.Gen.NormBwdIdeal.Value
public import proofs.«01_k».proof.Proof.Gen.NormRefIdeal.Run
public import Idealize.ShloMosaic.Adequacy
public import Idealize.ShloMosaic.Init

/-! The norms' backward call and its reference agree. -/

@[expose] public section

noncomputable section

namespace Cert.Proof

open Idealize.ShloMosaic Idealize.SL.Sem

set_option maxHeartbeats 4000000 in
theorem norm : Cert.algebraic_NormBwdIdeal_NormRefIdeal_pre_norm_finite := by
  pair_intro
  · run_from Cert.NormBwdIdeal.Gen.run_main m g
    all_goals first
      | exact Cert.NormBwdIdeal.Gen.V_main_arg0 m c
      | exact Cert.NormBwdIdeal.Gen.V_main_arg1 m c
      | exact Cert.NormBwdIdeal.Gen.V_main_arg2 m c
      | exact Cert.NormBwdIdeal.Gen.V_main_arg3 m c
      | exact Cert.NormBwdIdeal.Gen.V_main_arg4 m c
      | exact Cert.NormBwdIdeal.Gen.V_main_arg5 m c
      | exact Cert.NormBwdIdeal.Gen.V_main_arg6 m c
      | exact Cert.NormBwdIdeal.Gen.V_main_arg7 m c
      | exact Cert.NormBwdIdeal.Gen.V_main_arg8 m c
  · run_from Cert.NormRefIdeal.Value.run m' g'
    · rw [Cert.NormRefIdeal.Read.val_main_v60_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (Cert.NormOwn.final_dx hpre).symm
    · rw [Cert.NormRefIdeal.Read.val_main_v82_eq]
      exact (Cert.NormOwn.final_gn hpre).symm
    · rw [Cert.NormRefIdeal.Read.val_main_v83_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (Cert.NormOwn.final_do hpre).symm
    · rw [Cert.NormRefIdeal.Read.val_main_v84_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact (Cert.NormOwn.final_gp hpre).symm

end Cert.Proof

end
-- ==== Proof.DhLay.lean ====
module

public import proofs.«01_k».proof.Proof.Gen.DhABwdIdeal.Frame
public import Idealize.ShloMosaic.Lib.Pointwise
public import proofs.«01_k».proof.Proof.Norms

/-! The projection's columns in the order the calls keep them. -/

@[expose] public section

set_option maxRecDepth 65536

noncomputable section

open Idealize.ShloMosaic

namespace Cert.Dh

open Cert Cert.Reals Cert.Norms Cert.DhABwdIdeal Cert.DhABwdIdeal.Gen

/-- The natural column that column `n` of the laid-out arrays is; a number past the last for a column of padding. -/
def nat (n : ℕ) : ℕ :=
  if n < 2048 then n else if n < 4096 then n + 3072 else if n < 4608 then n + 3072
  else 2048 + (n - 4608) / 128 % 3 * 1024 + (n - 4608) / 384 * 128 + (n - 4608) % 128

/-- Where a natural column is laid. -/
def pos (k : ℕ) : ℕ :=
  if k < 2048 then k else if k < 5120 then 4608 + (k - 2048) / 128 % 8 * 384 + (k - 2048) / 1024 * 128 + (k - 2048) % 128 else k - 3072

/-- A row of the natural columns as it is laid out. -/
def laid (f : Fin 7176 → ℝ) (n : ℕ) : ℝ := if h : nat n < 7176 then f ⟨nat n, h⟩ else 0

theorem nat_digits (p h d : ℕ) (hp : p < 3) (hh : h < 8) (hd : d < 128) : nat (4608 + h * 384 + p * 128 + d) = 2048 + p * 1024 + h * 128 + d := by
  unfold nat
  rw [if_neg (by omega), if_neg (by omega), if_neg (by omega)]
  interval_cases p <;> interval_cases h <;> omega

theorem pos_digits (p h d : ℕ) (hp : p < 3) (hh : h < 8) (hd : d < 128) : pos (2048 + p * 1024 + h * 128 + d) = 4608 + h * 384 + p * 128 + d := by
  unfold pos
  rw [if_neg (by omega), if_pos (by omega)]
  interval_cases p <;> interval_cases h <;> omega

theorem pos_lt (k : Fin 7176) : pos k.val < 7680 := by unfold pos; split_ifs <;> omega

theorem nat_pos (k : Fin 7176) : nat (pos k.val) = k.val := by
  by_cases h1 : 2048 ≤ k.val ∧ k.val < 5120
  · obtain ⟨p, h, d, hp, hh, hd, e⟩ : ∃ p h d, p < 3 ∧ h < 8 ∧ d < 128 ∧ k.val = 2048 + p * 1024 + h * 128 + d :=
      ⟨(k.val - 2048) / 1024, (k.val - 2048) % 1024 / 128, (k.val - 2048) % 128, by omega, by omega, by omega, by omega⟩
    rw [e, pos_digits p h d hp hh hd, nat_digits p h d hp hh hd]
  · unfold pos nat
    split_ifs <;> omega

theorem pos_nat (n : ℕ) (hn : n < 7680) (h : nat n < 7176) : pos (nat n) = n := by
  by_cases h1 : n < 4608
  · revert h
    unfold nat
    split_ifs <;> intro h <;> unfold pos <;> split_ifs <;> omega
  · obtain ⟨p, h, d, hp, hh, hd, e⟩ : ∃ p h d, p < 3 ∧ h < 8 ∧ d < 128 ∧ n = 4608 + h * 384 + p * 128 + d :=
      ⟨(n - 4608) % 384 / 128, (n - 4608) / 384, (n - 4608) % 128, by omega, by omega, by omega, by omega⟩
    rw [e, nat_digits p h d hp hh hd, pos_digits p h d hp hh hd]

/-- The laid-out columns' products sum to the natural columns'. -/
theorem laid_sum (f g : Fin 7176 → ℝ) : ∑ n ∈ Finset.range 7680, laid f n * laid g n = ∑ k, f k * g k := by
  rw [Finset.sum_range]
  refine (Fintype.sum_of_injective (fun k : Fin 7176 => (⟨pos k.val, pos_lt k⟩ : Fin 7680)) ?_ _ _ ?_ ?_).symm
  · intro a b h
    have h' : pos a.val = pos b.val := congrArg Fin.val h
    exact Fin.ext (by rw [← nat_pos a, h', nat_pos b])
  · intro n hn
    have h : ¬nat n.val < 7176 := fun h => hn ⟨⟨nat n.val, h⟩, Fin.ext (pos_nat n.val n.isLt h)⟩
    unfold laid
    rw [dif_neg h, dif_neg h, zero_mul]
  · intro k
    unfold laid
    simp only [nat_pos, k.isLt, dif_pos]

/-- A laid-out row, piece by piece. -/
theorem laid_ite (f : Fin 7176 → ℝ) (n : Fin 7680) :
    (if h : n.val < 2048 then ((f ⟨n.val, by omega⟩ : ℝ) : EReal)
    else if h : n.val - 2048 < 2048 then ((f ⟨5120 + (n.val - 2048), by omega⟩ : ℝ) : EReal)
      else if h : n.val - 2048 - 2048 < 512 then
          if h_1 : n.val - 2048 - 2048 < 8 then ((f ⟨7168 + (n.val - 2048 - 2048), by omega⟩ : ℝ) : EReal) else ((0 : ℝ) : EReal)
        else ((f ⟨2048 + (n.val - 2048 - 2048 - 512) / 128 % 3 * 1024 + (n.val - 2048 - 2048 - 512) / 384 * 128 +
                  (n.val - 2048 - 2048 - 512) % 128, by omega⟩ : ℝ) : EReal)) = (laid f n.val : EReal) := by
  have hn := n.isLt
  have use : ∀ (k : ℕ) (hk : k < 7176), nat n.val = k → ((f ⟨k, hk⟩ : ℝ) : EReal) = (laid f n.val : EReal) := by
    rintro k hk rfl
    unfold laid
    rw [dif_pos hk]
  by_cases h1 : n.val < 2048
  · rw [dif_pos h1]
    exact use _ _ (by unfold nat; rw [if_pos h1])
  rw [dif_neg h1]
  by_cases h2 : n.val - 2048 < 2048
  · rw [dif_pos h2]
    exact use _ _ (by unfold nat; rw [if_neg h1, if_pos (by omega)]; omega)
  rw [dif_neg h2]
  by_cases h3 : n.val - 2048 - 2048 < 512
  · rw [dif_pos h3]
    have e : nat n.val = n.val + 3072 := by unfold nat; rw [if_neg h1, if_neg (by omega), if_pos (by omega)]
    by_cases h4 : n.val - 2048 - 2048 < 8
    · rw [dif_pos h4]
      exact use _ _ (by rw [e]; omega)
    · rw [dif_neg h4]
      unfold laid
      rw [dif_neg (by omega)]
  · rw [dif_neg h3]
    exact use _ _ (by unfold nat; rw [if_neg h1, if_neg (by omega), if_neg (by omega), show n.val - 2048 - 2048 - 512 = n.val - 4608 by omega])

theorem zero_bf16 : (FloatOps.sitofp FTy.bf16 0#32 : Ideal .bf16) = ((0 : ℝ) : EReal) := by
  simp [FloatOps.sitofp]

theorem zero_f32 : (FloatOps.sitofp FTy.f32 0#32 : Ideal .f32) = ((0 : ℝ) : EReal) := by
  simp [FloatOps.sitofp]

/-- The heads' columns of the cotangent, head by head. -/
def qkvD (a : FVec Ideal S4096x7176 .bf16) : FVec Ideal S4096x3072 .bf16 :=
  shapeCast S4096x3072 (transpose S4096x8x3x128 [0, 2, 1, 3]
    (shapeCast S4096x3x8x128 (extractStridedSlice S4096x3072 ![0, 2048] a slices_S4096x7176_S4096x3072_0_2048 : FVec Ideal S4096x3072 .bf16) shapeCasts_S4096x3072_S4096x3x8x128 : FVec Ideal S4096x3x8x128 .bf16)
    transposes_S4096x3x8x128_S4096x8x3x128_0_2_1_3 : FVec Ideal S4096x8x3x128 .bf16) shapeCasts_S4096x8x3x128_S4096x3072

/-- The forget gate's columns of the cotangent, padded. -/
def padD (a : FVec Ideal S4096x7176 .bf16) : FVec Ideal S4096x512 .bf16 :=
  pad S4096x512 ![0, 0] ![0, 504] ![0, 0] (extractStridedSlice S4096x8 ![0, 7168] a slices_S4096x7176_S4096x8_0_7168 : FVec Ideal S4096x8 .bf16)
    (sitofp .bf16 (constantI S_ 32 0#32) : FVec Ideal S_ .bf16) pads_S4096x8_S4096x512_000_05040 h_S_

/-- The cotangent's columns, laid out. -/
def layD (a : FVec Ideal S4096x7176 .bf16) : FVec Ideal S4096x7680 .bf16 :=
  concatenate S4096x7680 1
    [⟨S4096x2048, (extractStridedSlice S4096x2048 ![0, 0] a slices_S4096x7176_S4096x2048_0_0 : FVec Ideal S4096x2048 .bf16)⟩,
      ⟨S4096x2048, (extractStridedSlice S4096x2048 ![0, 5120] a slices_S4096x7176_S4096x2048_0_5120 : FVec Ideal S4096x2048 .bf16)⟩,
      ⟨S4096x512, padD a⟩, ⟨S4096x3072, qkvD a⟩]
    concatenates_S4096x2048_S4096x2048_S4096x512_S4096x3072_S4096x7680_d1

theorem qkvD_at (a : FVec Ideal S4096x7176 .bf16) (r : Fin 4096) (n : Fin 3072) :
    qkvD a (ix2 r n) = a (ix2 r ⟨2048 + n.val / 128 % 3 * 1024 + n.val / 384 * 128 + n.val % 128, by omega⟩) := by
  unfold qkvD
  pointwise
  congr 2
  exact Fin.ext (by simp only; omega)

theorem padD_at (a : FVec Ideal S4096x7176 .bf16) (r : Fin 4096) (n : Fin 512) :
    padD a (ix2 r n) = if h : n.val < 8 then a (ix2 r ⟨7168 + n.val, by omega⟩) else ((0 : ℝ) : EReal) := by
  unfold padD
  pointwise
  exact congrArg (fun z : EReal => if h : n.val < 8 then (a (ix2 r ⟨7168 + n.val, by omega⟩) : EReal) else z) zero_bf16

theorem layD_at (a : FVec Ideal S4096x7176 .bf16) (f : Fin 4096 → Fin 7176 → ℝ) (h : ∀ r k, a (ix2 r k) = (f r k : EReal)) (r : Fin 4096) (n : Fin 7680) :
    layD a (ix2 r n) = (laid (f r) n.val : EReal) := by
  unfold layD
  pointwise [qkvD_at, padD_at, h]
  exact laid_ite (f r) n

/-- The heads' columns of the weight, head by head. -/
def qkvW (a : FVec Ideal S1024x7176 .f32) : FVec Ideal S1024x3072 .f32 :=
  shapeCast S1024x3072 (transpose S1024x8x3x128 [0, 2, 1, 3]
    (shapeCast S1024x3x8x128 (extractStridedSlice S1024x3072 ![0, 2048] a slices_S1024x7176_S1024x3072_0_2048 : FVec Ideal S1024x3072 .f32) shapeCasts_S1024x3072_S1024x3x8x128 : FVec Ideal S1024x3x8x128 .f32)
    transposes_S1024x3x8x128_S1024x8x3x128_0_2_1_3 : FVec Ideal S1024x8x3x128 .f32) shapeCasts_S1024x8x3x128_S1024x3072

/-- The forget gate's columns of the weight, padded. -/
def padW (a : FVec Ideal S1024x7176 .f32) : FVec Ideal S1024x512 .f32 :=
  pad S1024x512 ![0, 0] ![0, 504] ![0, 0] (extractStridedSlice S1024x8 ![0, 7168] a slices_S1024x7176_S1024x8_0_7168 : FVec Ideal S1024x8 .f32)
    (sitofp .f32 (constantI S_ 32 0#32) : FVec Ideal S_ .f32) pads_S1024x8_S1024x512_000_05040 h_S_

/-- The weight's columns, laid out. -/
def layW (a : FVec Ideal S1024x7176 .f32) : FVec Ideal S1024x7680 .f32 :=
  concatenate S1024x7680 1
    [⟨S1024x2048, (extractStridedSlice S1024x2048 ![0, 0] a slices_S1024x7176_S1024x2048_0_0 : FVec Ideal S1024x2048 .f32)⟩,
      ⟨S1024x2048, (extractStridedSlice S1024x2048 ![0, 5120] a slices_S1024x7176_S1024x2048_0_5120 : FVec Ideal S1024x2048 .f32)⟩,
      ⟨S1024x512, padW a⟩, ⟨S1024x3072, qkvW a⟩]
    concatenates_S1024x2048_S1024x2048_S1024x512_S1024x3072_S1024x7680_d1

theorem qkvW_at (a : FVec Ideal S1024x7176 .f32) (r : Fin 1024) (n : Fin 3072) :
    qkvW a (ix2 r n) = a (ix2 r ⟨2048 + n.val / 128 % 3 * 1024 + n.val / 384 * 128 + n.val % 128, by omega⟩) := by
  unfold qkvW
  pointwise
  congr 2
  exact Fin.ext (by simp only; omega)

theorem padW_at (a : FVec Ideal S1024x7176 .f32) (r : Fin 1024) (n : Fin 512) :
    padW a (ix2 r n) = if h : n.val < 8 then a (ix2 r ⟨7168 + n.val, by omega⟩) else ((0 : ℝ) : EReal) := by
  unfold padW
  pointwise
  exact congrArg (fun z : EReal => if h : n.val < 8 then (a (ix2 r ⟨7168 + n.val, by omega⟩) : EReal) else z) zero_f32

theorem layW_at (a : FVec Ideal S1024x7176 .f32) (f : Fin 1024 → Fin 7176 → ℝ) (h : ∀ r k, a (ix2 r k) = (f r k : EReal)) (r : Fin 1024) (n : Fin 7680) :
    layW a (ix2 r n) = (laid (f r) n.val : EReal) := by
  unfold layW
  pointwise [qkvW_at, padW_at, h]
  exact laid_ite (f r) n

/-- The weight's columns laid out as the rows the call multiplies with. -/
def layT (a : FVec Ideal S1024x7176 .f32) : FVec Ideal S7680x1024 .bf16 :=
  truncf .bf16 (transpose S7680x1024 [1, 0] (layW a) transposes_S1024x7680_S7680x1024_1_0 : FVec Ideal S7680x1024 .f32) bitsLt_bf16_f32

theorem layT_at (a : FVec Ideal S1024x7176 .f32) (f : Fin 1024 → Fin 7176 → ℝ) (h : ∀ r k, a (ix2 r k) = (f r k : EReal)) (r : Fin 1024) (n : Fin 7680) :
    layT a (ix2 n r) = (laid (f r) n.val : EReal) := by
  pointwise [layT, layW_at a f h]

end Cert.Dh

end
-- ==== Proof.DhAPay.lean ====
module

public import proofs.«01_k».proof.Proof.Gen.DhABwdIdeal.Skeleton
public import Idealize.ShloMosaic.Lib.Pointwise
public import proofs.«01_k».proof.Proof.DhLay

/-! What the payloads of the mix norms' backward call leave, at blocks of real entries. -/

@[expose] public section

set_option maxRecDepth 16384

noncomputable section

open Idealize.ShloMosaic

namespace Cert.DhAOwn

open Cert Cert.Reals Cert.Norms Cert.DhABwdIdeal Cert.DhABwdIdeal.Gen

theorem pay5_at (X : FVec Ideal S512x1024 .f32) (x : Fin 1024 → ℝ) (i : Fin 512) (h : ∀ j, X (ix2 i j) = (x j : EReal)) :
    k0_pay5 (F := Ideal) X (ix2 i 0) = (scl x : EReal) := by
  pointwise [k0_pay5, k0_pay4]
  exact scl_val _ x h

theorem pay11_at (X : FVec Ideal S512x1024 .f32) (x : Fin 1024 → ℝ) (i : Fin 512) (h : ∀ j, X (ix2 i j) = (x j : EReal)) :
    k0_pay11 (F := Ideal) X (ix2 i 0) = (scl x : EReal) := by
  pointwise [k0_pay11]
  exact scl_val _ x h

theorem pay6_at (Z X : FVec Ideal S512x1024 .f32) (z x : Fin 1024 → ℝ) (i : Fin 512) (hz : ∀ j, Z (ix2 i j) = (z j : EReal))
    (h : ∀ j, X (ix2 i j) = (x j : EReal)) (j : Fin 1024) :
    k0_pay6 (F := Ideal) Z X (ix2 i j) = ((z j * (x j * scl x) : ℝ) : EReal) := by
  pointwise [k0_pay6, k0_pay4, pay5_at X x i h, hz, h]
  simp only [← EReal.coe_mul]

theorem pay7_at (Z X S : FVec Ideal S512x1024 .f32) (G : FVec Ideal S1x1024 .f32) (z x s g : Fin 1024 → ℝ) (i : Fin 512)
    (hz : ∀ j, Z (ix2 i j) = (z j : EReal)) (h : ∀ j, X (ix2 i j) = (x j : EReal)) (hs : ∀ j, S (ix2 i j) = (s j : EReal))
    (hg : ∀ j, G (ix2 0 j) = (g j : EReal)) (j : Fin 1024) :
    k0_pay7 (F := Ideal) Z X G S (ix2 i j) = ((s j + back (fun e => z e * g e) x j : ℝ) : EReal) := by
  pointwise [k0_pay7, k0_pay4, pay5_at X x i h, hz, h, hs, hg]
  rw [EReal.coe_add, ← back_val' (fun e => z e * g e) x j]
  simp only [EReal.coe_mul]

theorem pay12_at (Z X : FVec Ideal S512x1024 .f32) (G : FVec Ideal S1x1024 .f32) (z x g : Fin 1024 → ℝ) (i : Fin 512)
    (hz : ∀ j, Z (ix2 i j) = (z j : EReal)) (h : ∀ j, X (ix2 i j) = (x j : EReal))
    (hg : ∀ j, G (ix2 0 j) = (g j : EReal)) (j : Fin 1024) :
    k0_pay12 (F := Ideal) Z X G (ix2 i j) = ((back (fun e => z e * g e) x j : ℝ) : EReal) := by
  pointwise [k0_pay12, pay11_at X x i h, hz, h, hg]
  exact back_val' (fun e => z e * g e) x j

theorem pay10_at (W : FVec Ideal S512x1024 .f32) (A : FVec Ideal S1x1024 .f32) (w : Fin 512 → Fin 1024 → ℝ) (a : Fin 1024 → ℝ)
    (hw : ∀ i j, W (ix2 i j) = (w i j : EReal)) (ha : ∀ j, A (ix2 0 j) = (a j : EReal)) (j : Fin 1024) :
    k0_pay10 (F := Ideal) W A (ix2 0 j) = ((a j + ∑ i, w i j : ℝ) : EReal) := by
  pointwise [k0_pay10, hw, ha]
  rw [EReal.coe_add, coe_sum]

theorem pay14_at (Z X : FVec Ideal S512x1024 .f32) (A : FVec Ideal S1x1024 .f32) (z x : Fin 512 → Fin 1024 → ℝ) (a : Fin 1024 → ℝ)
    (hz : ∀ i j, Z (ix2 i j) = (z i j : EReal)) (h : ∀ i j, X (ix2 i j) = (x i j : EReal)) (ha : ∀ j, A (ix2 0 j) = (a j : EReal)) (j : Fin 1024) :
    k0_pay3 (F := Ideal) (k0_pay13 A) (k0_pay14 Z X) (ix2 0 j) = ((a j + ∑ i, z i j * (x i j * scl (x i)) : ℝ) : EReal) := by
  pointwise [k0_pay3, k0_pay13, k0_pay14, hz, h, ha, pay11_at X _ _ (h _)]
  rw [EReal.coe_add, coe_sum]
  simp only [← EReal.coe_mul]

theorem pay2_at (A : FVec Ideal S512x1024 .f32) (P : FVec Ideal S512x1920 .bf16) (Q : FVec Ideal S1920x1024 .bf16) (i : Fin 512) (j : Fin 1024)
    (a : ℝ) (p q : ℕ → ℝ) (b : ℕ) (ha : A (ix2 i j) = (a : EReal)) (hp : ∀ k : Fin 1920, P (ix2 i k) = (p (b + k.val) : EReal))
    (hq : ∀ k : Fin 1920, Q (ix2 k j) = (q (b + k.val) : EReal)) (hb : a = ∑ k ∈ Finset.range b, p k * q k) :
    k0_pay2 (F := Ideal) A P Q (ix2 i j) = ((∑ k ∈ Finset.range (b + 1920), p k * q k : ℝ) : EReal) := by
  pointwise [k0_pay2, hp, hq, ha]
  rw [Finset.sum_range_add, ← hb, EReal.coe_add, Finset.sum_range, coe_sum]
  simp only [← EReal.coe_mul]

theorem pay1_at (i : S512x1024.Idx) : k0_pay1 (F := Ideal) i = ((0 : ℝ) : EReal) := by
  idx_vars i; pointwise [k0_pay1]; exact EReal.coe_zero.symm

/-- The arguments' entries as real numbers. -/
structure Args where
  (x o ds : Fin 4096 → Fin 1024 → ℝ)
  (gp gn : Fin 1024 → ℝ)
  (w : Fin 1024 → Fin 7176 → ℝ)
  (dp : Fin 4096 → Fin 7176 → ℝ)

namespace Args
variable (N : Args)

/-- The residual sum the pre-norm stands on. -/
def x1 (r : Fin 4096) (d : Fin 1024) : ℝ := N.x r d + N.o r d * scl (N.o r) * N.gp d
/-- The cotangent and the weight as the call keeps their columns. -/
def p (r : Fin 4096) (n : ℕ) : ℝ := Dh.laid (N.dp r) n
def q (d : Fin 1024) (n : ℕ) : ℝ := Dh.laid (N.w d) n
/-- The gradient behind the norm, and the gradients the call writes. -/
def dh (r : Fin 4096) (d : Fin 1024) : ℝ := ∑ n ∈ Finset.range 7680, N.p r n * N.q d n
def dx (r : Fin 4096) (d : Fin 1024) : ℝ := N.ds r d + back (fun e => N.dh r e * N.gn e) (N.x1 r) d
def gnRow (r : Fin 4096) (d : Fin 1024) : ℝ := N.dh r d * (N.x1 r d * scl (N.x1 r))
def gpRow (r : Fin 4096) (d : Fin 1024) : ℝ := N.dx r d * (N.o r d * scl (N.o r))
def dO (r : Fin 4096) (d : Fin 1024) : ℝ := back (fun e => N.dx r e * N.gp e) (N.o r) d

theorem dh_eq (r : Fin 4096) (d : Fin 1024) : N.dh r d = ∑ k, N.dp r k * N.w d k := Dh.laid_sum _ _

end Args

/-- The arrays whose entries these numbers are. -/
structure Is (N : Args) (a0 a1 : FVec Ideal S4096x1024 .f32) (a2 a3 : FVec Ideal S1024 .f32) (a4 : FVec Ideal S1024x7176 .f32)
    (a5 : FVec Ideal S4096x1024 .f32) (a6 : FVec Ideal S4096x7176 .bf16) : Prop where
  x : ∀ r d, a0 (ix2 r d) = (N.x r d : EReal)
  o : ∀ r d, a1 (ix2 r d) = (N.o r d : EReal)
  gp : ∀ d, a2 (ix1 d) = (N.gp d : EReal)
  gn : ∀ d, a3 (ix1 d) = (N.gn d : EReal)
  w : ∀ d k, a4 (ix2 d k) = (N.w d k : EReal)
  ds : ∀ r d, a5 (ix2 r d) = (N.ds r d : EReal)
  dp : ∀ r k, a6 (ix2 r k) = (N.dp r k : EReal)

end Cert.DhAOwn

end
-- ==== Proof.DhAHost.lean ====
module

public import proofs.«01_k».proof.Proof.Gen.DhABwdIdeal.Frame
public import Idealize.ShloMosaic.Lib.Pipeline.ValueKit
public import Idealize.ShloMosaic.Lib.Pointwise
public import proofs.«01_k».proof.Proof.DhAPay

/-! The arrays the mix norms' backward call is entered with, and its blocks. -/

@[expose] public section

set_option maxRecDepth 16384

noncomputable section

open Idealize.ShloMosaic Idealize.ShloMosaic.TcCoe Idealize.SL.Sem
open Idealize.ShloMosaic.Pipeline (Dat)

namespace Cert.DhAOwn

open Cert Cert.Reals Cert.Norms Cert.DhABwdIdeal Cert.DhABwdIdeal.Gen

variable (m : (ℓ : Loc nD τ sig) → Buf (Elt Ideal) ℓ) (c : Dev nD)

theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0]
    ∧ win0_5.index t = ![t.val / 4, 0] ∧ win0_6.index t = ![0, 0] ∧ win0_7.index t = ![t.val / 4, 0] ∧ win0_8.index t = ![0, 0]
    ∧ win0_9.index t = ![t.val / 4, 0] ∧ win0_10.index t = ![0, 0] :=
  (by decide +kernel : ∀ t : Fin grid0.N, _)

/-- The row of the arrays that row `i` of the blocks at point `t` is. -/
abbrev row (t : Fin cfg0.N) (i : Fin 512) : Fin 4096 := ⟨t.val / 4 * 512 + i.val, by have := lt_of_lt_of_eq t.isLt N_0; omega⟩

abbrev A0 : FVec Ideal S4096x1024 .f32 := m ((c : Thread nD τ).loc main_arg0)
abbrev A1 : FVec Ideal S4096x1024 .f32 := m ((c : Thread nD τ).loc main_arg1)
abbrev A2 : FVec Ideal S1024 .f32 := m ((c : Thread nD τ).loc main_arg2)
abbrev A3 : FVec Ideal S1024 .f32 := m ((c : Thread nD τ).loc main_arg3)
abbrev A4 : FVec Ideal S1024x7176 .f32 := m ((c : Thread nD τ).loc main_arg4)
abbrev A5 : FVec Ideal S4096x1024 .f32 := m ((c : Thread nD τ).loc main_arg5)
abbrev A6 : FVec Ideal S4096x7176 .bf16 := m ((c : Thread nD τ).loc main_arg6)

/-- The call's arguments have these real entries. -/
abbrev Num (N : Args) : Prop := Is N (A0 m c) (A1 m c) (A2 m c) (A3 m c) (A4 m c) (A5 m c) (A6 m c)

variable {m c} {N : Args} (hN : Num m c N)

/-- The residual sum on the host. -/
def hx1 (a0 a1 : FVec Ideal S4096x1024 .f32) (a2 : FVec Ideal S1024 .f32) : FVec Ideal S4096x1024 .f32 :=
  addf a0 (mulf (mulf a1 (broadcastInDim S4096x1024 ![0, 1] bcast_S4096x1_S4096x1024_0_1
    (Host.rsqrt (addf (Host.divf (broadcastInDim S4096x1 ![0] bcast_S4096_S4096x1_0
        (Host.reduceAdd (mulf a1 a1) (constant S_ .f32 0x00000000#32) reducesTo_S4096x1024_S4096_d1 h_S_ : FVec Ideal S4096 .f32) : FVec Ideal S4096x1 .f32)
      (broadcastInDim S4096x1 ![] bcast_S_S4096x1 (constant S_ .f32 0x44800000#32) : FVec Ideal S4096x1 .f32))
      (broadcastInDim S4096x1 ![] bcast_S_S4096x1 (constant S_ .f32 0x358637BD#32) : FVec Ideal S4096x1 .f32)) : FVec Ideal S4096x1 .f32) : FVec Ideal S4096x1024 .f32))
    (broadcastInDim S4096x1024 ![0, 1] bcast_S1x1024_S4096x1024_0_1 (broadcastInDim S1x1024 ![1] bcast_S1024_S1x1024_1 a2 : FVec Ideal S1x1024 .f32) : FVec Ideal S4096x1024 .f32))

theorem V13 : V m c main_v13 = hx1 (A0 m c) (A1 m c) (A2 m c) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  rfl

theorem V17 : V m c main_v33 = Dh.layT (A4 m c) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  rfl

theorem V20 : V m c main_v22 = Dh.layD (A6 m c) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  rfl

theorem entry_pre (d : Fin 1024) : V m c main_v34 (ix2 0 d) = (show EReal from A3 m c (ix1 d)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

theorem entry_post (d : Fin 1024) : V m c main_v35 (ix2 0 d) = (show EReal from A2 m c (ix1 d)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

include hN

theorem x1_at (r : Fin 4096) (d : Fin 1024) : hx1 (A0 m c) (A1 m c) (A2 m c) (ix2 r d) = (N.x1 r d : EReal) := by
  pointwise [hx1, hN.x, hN.gp, hN.o]
  rw [scl_val (fun e => (N.o r e : EReal)) (N.o r) (fun _ => rfl)]
  unfold Args.x1
  simp only [EReal.coe_add, EReal.coe_mul]

theorem blk0 (t : Fin cfg0.N) (i : Fin 512) (k : Fin 1920) : iblk m c 0 t (ix2 i k) = (N.p (row t i) (1920 * (t.val % 4) + k.val) : EReal) := by
  have ht := lt_of_lt_of_eq t.isLt N_0
  blk_simp [iblk]
  rw [show (win0_0.blk t).view.emb (ix2 i k) = ix2 (row t i) ⟨t.val % 4 * 1920 + k.val, by omega⟩ by blk_ext [idx t], V20, Dh.layD_at _ _ hN.dp]
  congr 2
  simp only
  omega

theorem blk1 (t : Fin cfg0.N) (k : Fin 1920) (j : Fin 1024) : iblk m c 1 t (ix2 k j) = (N.q j (1920 * (t.val % 4) + k.val) : EReal) := by
  have ht := lt_of_lt_of_eq t.isLt N_0
  blk_simp [iblk]
  rw [show (win0_1.blk t).view.emb (ix2 k j) = ix2 ⟨t.val % 4 * 1920 + k.val, by omega⟩ j by blk_ext [idx t], V17, Dh.layT_at _ _ hN.w]
  congr 2
  simp only
  omega

theorem blk2 (t : Fin cfg0.N) (i : Fin 512) (j : Fin 1024) : iblk m c 2 t (ix2 i j) = (N.ds (row t i) j : EReal) := by
  blk_simp [iblk]
  rw [show (win0_2.blk t).view.emb (ix2 i j) = ix2 (row t i) j by blk_ext [idx t], V_main_arg5]
  exact hN.ds _ _

theorem blk3 (t : Fin cfg0.N) (i : Fin 512) (j : Fin 1024) : iblk m c 3 t (ix2 i j) = (N.x1 (row t i) j : EReal) := by
  blk_simp [iblk]
  rw [show (win0_3.blk t).view.emb (ix2 i j) = ix2 (row t i) j by blk_ext [idx t], V13, x1_at hN]

theorem blk4 (t : Fin cfg0.N) (j : Fin 1024) : iblk m c 4 t (ix2 0 j) = (N.gn j : EReal) := by
  blk_simp [iblk]
  rw [show (win0_4.blk t).view.emb (ix2 0 j) = ix2 0 j by blk_ext [idx t], entry_pre]
  exact hN.gn _

theorem blk5 (t : Fin cfg0.N) (i : Fin 512) (j : Fin 1024) : iblk m c 5 t (ix2 i j) = (N.o (row t i) j : EReal) := by
  blk_simp [iblk]
  rw [show (win0_5.blk t).view.emb (ix2 i j) = ix2 (row t i) j by blk_ext [idx t], V_main_arg1]
  exact hN.o _ _

theorem blk6 (t : Fin cfg0.N) (j : Fin 1024) : iblk m c 6 t (ix2 0 j) = (N.gp j : EReal) := by
  blk_simp [iblk]
  rw [show (win0_6.blk t).view.emb (ix2 0 j) = ix2 0 j by blk_ext [idx t], entry_post]
  exact hN.gp _

end Cert.DhAOwn

end
-- ==== Proof.DhAState.lean ====
module

public import proofs.«01_k».proof.Proof.DhAHost
public import Idealize.ShloMosaic.Lib.Pipeline.ReadBack

/-! What the mix norms' backward call holds after each point. -/

@[expose] public section

set_option maxRecDepth 16384

noncomputable section

open Idealize.ShloMosaic Idealize.ShloMosaic.TcCoe Idealize.SL.Sem
open Idealize.ShloMosaic.Pipeline (Dat)

namespace Cert.DhAOwn

open Cert Cert.Reals Cert.Norms Cert.DhABwdIdeal Cert.DhABwdIdeal.Gen

variable {m : (ℓ : Loc nD τ sig) → Buf (Elt Ideal) ℓ} {c : Dev nD} {N : Args} (hN : Num m c N)

/-- The product's sum over the first `n` columns. -/
def part (N : Args) (r : Fin 4096) (d : Fin 1024) (n : ℕ) : ℝ := ∑ k ∈ Finset.range n, N.p r k * N.q d k

include hN

theorem accA (t : Fin cfg0.N) (h0 : t.val % 4 = 0) (h1 : ¬t.val % 4 = 3) (i : Fin 512) (j : Fin 1024) :
    (outsAt0 m c t.val t.isLt).2.2.2.2 (ix2 i j) = (part N (row t i) j 1920 : EReal) := by
  rw [outsAt0_A m c t h0 h1]
  frame_out
  refine pay2_at _ _ _ i j 0 (N.p (row t i)) (N.q j) 0 ?_ ?_ ?_ rfl
  · pointwise; exact pay1_at _
  · intro k; pointwise; rw [blk0 hN, h0, mul_zero, zero_add]
  · intro k; pointwise; rw [blk1 hN, h0, mul_zero, zero_add]

theorem accB (t : Fin cfg0.N) (h0 : ¬t.val % 4 = 0) (h1 : ¬t.val % 4 = 3) (i : Fin 512) (j : Fin 1024)
    (hp : (outsAt0 m c (t.val - 1) (by omega)).2.2.2.2 (ix2 i j) = (part N (row t i) j (1920 * (t.val % 4)) : EReal)) :
    (outsAt0 m c t.val t.isLt).2.2.2.2 (ix2 i j) = (part N (row t i) j (1920 * (t.val % 4) + 1920) : EReal) := by
  rw [outsAt0_B m c t h0 h1]
  frame_out
  refine pay2_at _ _ _ i j (part N (row t i) j (1920 * (t.val % 4))) (N.p (row t i)) (N.q j) (1920 * (t.val % 4)) ?_ ?_ ?_ rfl
  · rw [read_unread_whole]; exact hp
  · intro k; pointwise; rw [blk0 hN]
  · intro k; pointwise; rw [blk1 hN]

theorem sumC (t : Fin cfg0.N) (h1 : t.val % 4 = 3) (i : Fin 512) (j : Fin 1024)
    (hp : (outsAt0 m c (t.val - 1) (by omega)).2.2.2.2 (ix2 i j) = (part N (row t i) j 5760 : EReal)) :
    k0_pay2 (F := Ideal) (outsAt0 m c (t.val - 1) (by omega)).2.2.2.2 (iblk m c 0 t) (iblk m c 1 t) (ix2 i j) = (N.dh (row t i) j : EReal) := by
  refine pay2_at _ _ _ i j (part N (row t i) j 5760) (N.p (row t i)) (N.q j) 5760 hp ?_ ?_ rfl
  · intro k; rw [blk0 hN, h1]
  · intro k; rw [blk1 hN, h1]

/-- The rows' gradient by the residual sum, as the last step of a row block evaluates it. -/
abbrev dxBlk (m : (ℓ : Loc nD τ sig) → Buf (Elt Ideal) ℓ) (c : Dev nD) (t : Fin cfg0.N) : FVec Ideal S512x1024 .f32 :=
  k0_pay7 (F := Ideal) (k0_pay2 (outsAt0 m c (t.val - 1) (by omega)).2.2.2.2 (iblk m c 0 t) (iblk m c 1 t)) (iblk m c 3 t) (iblk m c 4 t) (iblk m c 2 t)

theorem dxBlk_at (t : Fin cfg0.N) (h1 : t.val % 4 = 3)
    (hp : ∀ i j, (outsAt0 m c (t.val - 1) (by omega)).2.2.2.2 (ix2 i j) = (part N (row t i) j 5760 : EReal)) (i : Fin 512) (j : Fin 1024) :
    dxBlk m c t (ix2 i j) = (N.dx (row t i) j : EReal) :=
  pay7_at _ _ _ _ (N.dh (row t i)) (N.x1 (row t i)) (N.ds (row t i)) N.gn i (fun j => sumC hN t h1 i j (hp i j)) (blk3 hN t i) (blk2 hN t i) (blk4 hN t) j

theorem gn_at (t : Fin cfg0.N) (h1 : t.val % 4 = 3)
    (hp : ∀ i j, (outsAt0 m c (t.val - 1) (by omega)).2.2.2.2 (ix2 i j) = (part N (row t i) j 5760 : EReal)) (i : Fin 512) (j : Fin 1024) :
    k0_pay6 (F := Ideal) (k0_pay2 (outsAt0 m c (t.val - 1) (by omega)).2.2.2.2 (iblk m c 0 t) (iblk m c 1 t)) (iblk m c 3 t) (ix2 i j) = (N.gnRow (row t i) j : EReal) :=
  pay6_at _ _ (N.dh (row t i)) (N.x1 (row t i)) i (fun j => sumC hN t h1 i j (hp i j)) (blk3 hN t i) j

theorem dxC (t : Fin cfg0.N) (h0 : ¬t.val % 4 = 0) (h1 : t.val % 4 = 3) (h2 : t.val < 4)
    (hp : ∀ i j, (outsAt0 m c (t.val - 1) (by omega)).2.2.2.2 (ix2 i j) = (part N (row t i) j 5760 : EReal)) (i : Fin 512) (j : Fin 1024) :
    (outsAt0 m c t.val t.isLt).1 (ix2 i j) = (N.dx (row t i) j : EReal) := by
  rw [outsAt0_C m c t h0 h1 h2]
  frame_out
  refine Eq.trans ?_ (dxBlk_at hN t h1 hp i j)
  rw [read_unread_whole]

theorem doC (t : Fin cfg0.N) (h0 : ¬t.val % 4 = 0) (h1 : t.val % 4 = 3) (h2 : t.val < 4)
    (hp : ∀ i j, (outsAt0 m c (t.val - 1) (by omega)).2.2.2.2 (ix2 i j) = (part N (row t i) j 5760 : EReal)) (i : Fin 512) (j : Fin 1024) :
    (outsAt0 m c t.val t.isLt).2.2.1 (ix2 i j) = (N.dO (row t i) j : EReal) := by
  rw [outsAt0_C m c t h0 h1 h2]
  frame_out
  rw [read_unread_whole]
  exact pay12_at _ _ _ (N.dx (row t i)) (N.o (row t i)) N.gp i (dxBlk_at hN t h1 hp i) (blk5 hN t i) (blk6 hN t) j

theorem gnC (t : Fin cfg0.N) (h0 : ¬t.val % 4 = 0) (h1 : t.val % 4 = 3) (h2 : t.val < 4)
    (hp : ∀ i j, (outsAt0 m c (t.val - 1) (by omega)).2.2.2.2 (ix2 i j) = (part N (row t i) j 5760 : EReal)) (j : Fin 1024) :
    (outsAt0 m c t.val t.isLt).2.1 (ix2 0 j) = (upTo N.gnRow (t.val / 4 * 512 + 512) j : EReal) := by
  have ht := lt_of_lt_of_eq t.isLt N_0
  rw [outsAt0_C m c t h0 h1 h2]
  frame_out
  rw [read_unread_whole]
  rw [← upTo_add N.gnRow (t.val / 4 * 512) (by omega) j (fun i => N.gnRow (row t i) j) (fun i => rfl)]
  refine pay10_at _ _ (fun i => N.gnRow (row t i)) (upTo N.gnRow (t.val / 4 * 512)) (gn_at hN t h1 hp) ?_ j
  · intro j; rw [show t.val / 4 * 512 = 0 by omega]; pointwise [k0_pay8]; exact EReal.coe_zero.symm

theorem gpC (t : Fin cfg0.N) (h0 : ¬t.val % 4 = 0) (h1 : t.val % 4 = 3) (h2 : t.val < 4)
    (hp : ∀ i j, (outsAt0 m c (t.val - 1) (by omega)).2.2.2.2 (ix2 i j) = (part N (row t i) j 5760 : EReal)) (j : Fin 1024) :
    (outsAt0 m c t.val t.isLt).2.2.2.1 (ix2 0 j) = (upTo N.gpRow (t.val / 4 * 512 + 512) j : EReal) := by
  have ht := lt_of_lt_of_eq t.isLt N_0
  rw [outsAt0_C m c t h0 h1 h2]
  frame_out
  rw [read_unread_whole]
  rw [← upTo_add N.gpRow (t.val / 4 * 512) (by omega) j (fun i => N.gpRow (row t i) j) (fun i => rfl)]
  refine pay14_at _ _ _ (fun i => N.dx (row t i)) (fun i => N.o (row t i)) (upTo N.gpRow (t.val / 4 * 512)) (dxBlk_at hN t h1 hp) (blk5 hN t) ?_ j
  · intro j; rw [show t.val / 4 * 512 = 0 by omega]; pointwise [k0_pay9]; exact EReal.coe_zero.symm

theorem dxD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 5760 : EReal)) (i : Fin 512) (j : Fin 1024) :
    (outsAt0 m c t.val t.isLt).1 (ix2 i j) = (N.dx (row t i) j : EReal) := by
  rw [outsAt0_D m c t h0 h1 h2]
  frame_out
  refine Eq.trans ?_ (dxBlk_at hN t h1 hp i j)
  rw [read_unread_whole]

theorem doD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 5760 : EReal)) (i : Fin 512) (j : Fin 1024) :
    (outsAt0 m c t.val t.isLt).2.2.1 (ix2 i j) = (N.dO (row t i) j : EReal) := by
  rw [outsAt0_D m c t h0 h1 h2]
  frame_out
  rw [read_unread_whole]
  exact pay12_at _ _ _ (N.dx (row t i)) (N.o (row t i)) N.gp i (dxBlk_at hN t h1 hp i) (blk5 hN t i) (blk6 hN t) j

theorem gnD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 5760 : EReal))
    (ha : ∀ j, (outsAt0 m c (t.val - 1) (by omega)).2.1 (ix2 0 j) = (upTo N.gnRow (t.val / 4 * 512) j : EReal)) (j : Fin 1024) :
    (outsAt0 m c t.val t.isLt).2.1 (ix2 0 j) = (upTo N.gnRow (t.val / 4 * 512 + 512) j : EReal) := by
  have ht := lt_of_lt_of_eq t.isLt N_0
  rw [outsAt0_D m c t h0 h1 h2]
  frame_out
  rw [read_unread_whole]
  rw [← upTo_add N.gnRow (t.val / 4 * 512) (by omega) j (fun i => N.gnRow (row t i) j) (fun i => rfl)]
  refine pay10_at _ _ (fun i => N.gnRow (row t i)) (upTo N.gnRow (t.val / 4 * 512)) (gn_at hN t h1 hp) ?_ j
  · intro j; pointwise; exact ha j

theorem gpD (t : Fin cfg0.N) (h0 : ¬t.val % 4 = 0) (h1 : t.val % 4 = 3) (h2 : ¬t.val < 4)
    (hp : ∀ i j, (outsAt0 m c (t.val - 1) (by omega)).2.2.2.2 (ix2 i j) = (part N (row t i) j 5760 : EReal))
    (ha : ∀ j, (outsAt0 m c (t.val - 1) (by omega)).2.2.2.1 (ix2 0 j) = (upTo N.gpRow (t.val / 4 * 512) j : EReal)) (j : Fin 1024) :
    (outsAt0 m c t.val t.isLt).2.2.2.1 (ix2 0 j) = (upTo N.gpRow (t.val / 4 * 512 + 512) j : EReal) := by
  have ht := lt_of_lt_of_eq t.isLt N_0
  rw [outsAt0_D m c t h0 h1 h2]
  frame_out
  rw [read_unread_whole]
  rw [← upTo_add N.gpRow (t.val / 4 * 512) (by omega) j (fun i => N.gpRow (row t i) j) (fun i => rfl)]
  refine pay14_at _ _ _ (fun i => N.dx (row t i)) (fun i => N.o (row t i)) (upTo N.gpRow (t.val / 4 * 512)) (dxBlk_at hN t h1 hp) (blk5 hN t) ?_ j
  · intro j; pointwise; exact ha j

end Cert.DhAOwn

end
-- ==== Proof.DhAFinal.lean ====
module

public import proofs.«01_k».proof.Proof.DhAState

/-! The arrays the mix norms' backward call leaves. -/

@[expose] public section

set_option maxRecDepth 16384

noncomputable section

open Idealize.ShloMosaic Idealize.ShloMosaic.TcCoe Idealize.SL.Sem
open Idealize.ShloMosaic.Pipeline (Dat)

namespace Cert.DhAOwn

open Cert Cert.Reals Cert.Norms Cert.DhABwdIdeal Cert.DhABwdIdeal.Gen

variable {m : (ℓ : Loc nD τ sig) → Buf (Elt Ideal) ℓ} {c : Dev nD} {N : Args} (hN : Num m c N)

theorem row_congr (n n' : ℕ) (hn : n < cfg0.N) (hn' : n' < cfg0.N) (h : n / 4 = n' / 4) (i : Fin 512) : row ⟨n, hn⟩ i = row ⟨n', hn'⟩ i :=
  Fin.ext (by simp only [h])

/-- The columns' sums do not change at a point that ends no row block. -/
theorem carry (t : Fin cfg0.N) (h1 : ¬t.val % 4 = 3) :
    (outsAt0 m c t.val t.isLt).2.1 = (outsAt0 m c (t.val - 1) (by omega)).2.1 ∧ (outsAt0 m c t.val t.isLt).2.2.2.1 = (outsAt0 m c (t.val - 1) (by omega)).2.2.2.1 := by
  by_cases h0 : t.val % 4 = 0
  · rw [outsAt0_A m c t h0 h1]; exact ⟨rfl, rfl⟩
  · rw [outsAt0_B m c t h0 h1]; exact ⟨rfl, rfl⟩

include hN

theorem held : ∀ (n : ℕ) (hn : n < cfg0.N),
    (¬n % 4 = 3 → ∀ i j, (outsAt0 m c n hn).2.2.2.2 (ix2 i j) = (part N (row ⟨n, hn⟩ i) j (1920 * (n % 4 + 1)) : EReal))
    ∧ (3 ≤ n → ∀ j, (outsAt0 m c n hn).2.1 (ix2 0 j) = (upTo N.gnRow ((n + 1) / 4 * 512) j : EReal))
    ∧ (3 ≤ n → ∀ j, (outsAt0 m c n hn).2.2.2.1 (ix2 0 j) = (upTo N.gpRow ((n + 1) / 4 * 512) j : EReal)) := by
  intro n
  induction n with
  | zero => exact fun hn => ⟨fun _ i j => accA hN ⟨0, hn⟩ rfl (by simp only; omega) i j, fun h => by omega, fun h => by omega⟩
  | succ n ih =>
    intro hn
    have hT := lt_of_lt_of_eq hn N_0
    obtain ⟨q0, q1, q2⟩ := ih (by omega)
    by_cases h1 : (n + 1) % 4 = 3
    · have e : n % 4 + 1 = 3 := by omega
      have e' : (n + 1) / 4 * 512 + 512 = (n + 1 + 1) / 4 * 512 := by omega
      have hp : ∀ i j, (outsAt0 m c n (by omega)).2.2.2.2 (ix2 i j) = (part N (row ⟨n + 1, hn⟩ i) j 5760 : EReal) := fun i j => by
        rw [q0 (by omega) i j, e, row_congr n (n + 1) _ hn (by omega)]
      rw [← e']
      refine ⟨fun h => absurd h1 h, fun _ j => ?_, fun _ j => ?_⟩
      · by_cases h2 : n + 1 < 4
        · exact gnC hN ⟨n + 1, hn⟩ (by simp only; omega) h1 h2 hp j
        · exact gnD hN ⟨n + 1, hn⟩ (by simp only; omega) h1 h2 hp (q1 (by omega)) j
      · by_cases h2 : n + 1 < 4
        · exact gpC hN ⟨n + 1, hn⟩ (by simp only; omega) h1 h2 hp j
        · exact gpD hN ⟨n + 1, hn⟩ (by simp only; omega) h1 h2 hp (q2 (by omega)) j
    · have hc := carry (m := m) (c := c) ⟨n + 1, hn⟩ h1
      have e' : (n + 1) / 4 = (n + 1 + 1) / 4 := by omega
      refine ⟨fun _ i j => ?_, fun _ j => ?_, fun _ j => ?_⟩
      · by_cases h0 : (n + 1) % 4 = 0
        · rw [h0]; exact accA hN ⟨n + 1, hn⟩ h0 h1 i j
        · refine accB hN ⟨n + 1, hn⟩ h0 h1 i j ?_
          show (outsAt0 m c n _).2.2.2.2 (ix2 i j) = (part N (row ⟨n + 1, hn⟩ i) j (1920 * ((n + 1) % 4)) : EReal)
          rw [q0 (by omega) i j, row_congr n (n + 1) _ hn (by omega), show n % 4 + 1 = (n + 1) % 4 by omega]
      · rw [hc.1, ← e']; exact q1 (by omega) j
      · rw [hc.2, ← e']; exact q2 (by omega) j

theorem before (t : Fin cfg0.N) (h1 : t.val % 4 = 3) (i : Fin 512) (j : Fin 1024) :
    (outsAt0 m c (t.val - 1) (by omega)).2.2.2.2 (ix2 i j) = (part N (row t i) j 5760 : EReal) := by
  rw [(held hN (t.val - 1) (by omega)).1 (by omega) i j, show (t.val - 1) % 4 + 1 = 3 by omega, row_congr (t.val - 1) t.val _ t.isLt (by omega)]

theorem dx_at (t : Fin cfg0.N) (h1 : t.val % 4 = 3) (i : Fin 512) (j : Fin 1024) : (outsAt0 m c t.val t.isLt).1 (ix2 i j) = (N.dx (row t i) j : EReal) := by
  by_cases h2 : t.val < 4
  · exact dxC hN t (by omega) h1 h2 (before hN t h1) i j
  · exact dxD hN t (by omega) h1 h2 (before hN t h1) i j

theorem do_at (t : Fin cfg0.N) (h1 : t.val % 4 = 3) (i : Fin 512) (j : Fin 1024) : (outsAt0 m c t.val t.isLt).2.2.1 (ix2 i j) = (N.dO (row t i) j : EReal) := by
  by_cases h2 : t.val < 4
  · exact doC hN t (by omega) h1 h2 (before hN t h1) i j
  · exact doD hN t (by omega) h1 h2 (before hN t h1) i j

omit hN

/-- A row block leaves at its last step. -/
theorem last7 : ∀ t : Fin cfg0.grid.N, (win0 7).flush t = true → t.val % 4 = 3 := (by decide +kernel : ∀ t : Fin grid0.N, _)
theorem last9 : ∀ t : Fin cfg0.grid.N, (win0 9).flush t = true → t.val % 4 = 3 := (by decide +kernel : ∀ t : Fin grid0.N, _)

/-- The last point. -/
def lastPt : Fin cfg0.N := ⟨31, (by decide +kernel : 31 < grid0.N)⟩

/-- The four results. -/
def R7 (N : Args) : FVec Ideal S4096x1024 .f32 := fun i => (N.dx (i 0) (i 1) : EReal)
def R8 (N : Args) : FVec Ideal S1x1024 .f32 := fun i => ((∑ r, N.gnRow r (i 1) : ℝ) : EReal)
def R9 (N : Args) : FVec Ideal S4096x1024 .bf16 := fun i => (N.dO (i 0) (i 1) : EReal)
def R10 (N : Args) : FVec Ideal S1x1024 .f32 := fun i => ((∑ r, N.gpRow r (i 1) : ℝ) : EReal)

include hN

theorem final7 : (dats m 0 c).arrAt 7 (cfgs 0).N = R7 N := by
  refine (dats m 0 c).arrAt_eq_of_covers 7 _ (by decide +kernel) fun t hf y => ?_
  blk_simp
  rw [after0_7]
  idx_vars y
  rw [show (win0_7.blk t).view.emb (ix2 y0 y1) = ix2 (row t y0) y1 by blk_ext [idx t]]
  exact dx_at hN t (last7 t hf) y0 y1

theorem final9 : (dats m 0 c).arrAt 9 (cfgs 0).N = R9 N := by
  refine (dats m 0 c).arrAt_eq_of_covers 9 _ (by decide +kernel) fun t hf y => ?_
  blk_simp
  rw [after0_9]
  idx_vars y
  rw [show (win0_9.blk t).view.emb (ix2 y0 y1) = ix2 (row t y0) y1 by blk_ext [idx t]]
  exact do_at hN t (last9 t hf) y0 y1

theorem end8 (n : ℕ) (hn : n < cfg0.N) (h : n = 31) (j : Fin 1024) : (outsAt0 m c n hn).2.1 (ix2 0 j) = R8 N (ix2 0 j) := by
  rw [(held hN n hn).2.1 (by omega) j, h]
  exact congrArg _ (upTo_all _ j)

theorem end10 (n : ℕ) (hn : n < cfg0.N) (h : n = 31) (j : Fin 1024) : (outsAt0 m c n hn).2.2.2.1 (ix2 0 j) = R10 N (ix2 0 j) := by
  rw [(held hN n hn).2.2 (by omega) j, h]
  exact congrArg _ (upTo_all _ j)

theorem final8 : (dats m 0 c).arrAt 8 (cfgs 0).N = R8 N := by
  refine (dats m 0 c).arrAt_eq_of_after_last 8 lastPt (by decide +kernel) _ fun j => ?_
  blk_simp
  rw [after0_8]
  idx_vars j
  rw [show j0 = 0 from Subsingleton.elim _ _]
  exact end8 hN lastPt.val lastPt.isLt rfl j1

theorem final10 : (dats m 0 c).arrAt 10 (cfgs 0).N = R10 N := by
  refine (dats m 0 c).arrAt_eq_of_after_last 10 lastPt (by decide +kernel) _ fun j => ?_
  blk_simp
  rw [after0_10]
  idx_vars j
  rw [show j0 = 0 from Subsingleton.elim _ _]
  exact end10 hN lastPt.val lastPt.isLt rfl j1

end Cert.DhAOwn

end
-- ==== Proof.DhARef.lean ====
module

public import proofs.«01_k».proof.Proof.DhAPay
public import proofs.«01_k».proof.Proof.Gen.DhARefIdeal.Read

/-! What the mix norms' reference writes, at arguments of real entries. -/

@[expose] public section

set_option maxRecDepth 16384

noncomputable section

open Idealize.ShloMosaic

namespace Cert.DhAOwn

open Cert Cert.Reals Cert.Norms Cert.DhARefIdeal Cert.DhARefIdeal.Read

variable {N : Args} {x0 x1 : FVec Ideal S4096x1024 .f32} {x2 x3 : FVec Ideal S1024 .f32} {x4 : FVec Ideal S1024x7176 .f32}
  {x5 : FVec Ideal S4096x1024 .f32} {x6 : FVec Ideal S4096x7176 .bf16} (hN : Is N x0 x1 x2 x3 x4 x5 x6)

include hN

theorem r6 (r : Fin 4096) : val_main_v6 (F := Ideal) x1 (ix2 r 0) = (var (N.o r) : EReal) := by
  pointwise [val_main_v6, val_main_v5, val_main_v4, val_main_v3, val_main_v2, val_main_v1, val_main_v0, val_main_cst, val_main_cst_0, val_main_cst_1, hN.o]
  exact var_val (fun e => (N.o r e : EReal)) _ (fun _ => rfl)

theorem r7 (r : Fin 4096) : val_main_v7 (F := Ideal) x1 (ix2 r 0) = (scl (N.o r) : EReal) := by
  pointwise [val_main_v7, r6 hN]
  exact rsqrt_coe _ (var_pos _)

theorem r10 (r : Fin 4096) : val_main_v10 (F := Ideal) x1 (ix2 r 0) = ((-(1 / 2) * (scl (N.o r) / var (N.o r)) : ℝ) : EReal) := by
  pointwise [val_main_v10, val_main_v9, val_main_v8, val_main_cst_2, r6 hN, r7 hN]
  exact slope_val _

theorem r12 (r : Fin 4096) (d : Fin 1024) : val_main_v12 (F := Ideal) x1 (ix2 r d) = ((N.o r d * scl (N.o r) : ℝ) : EReal) := by
  pointwise [val_main_v12, val_main_v11, r7 hN, hN.o]
  simp only [EReal.coe_mul]

theorem r16 (r : Fin 4096) (d : Fin 1024) : val_main_v16 (F := Ideal) x0 x1 x2 (ix2 r d) = (N.x1 r d : EReal) := by
  pointwise [val_main_v16, val_main_v15, val_main_v14, val_main_v13, r12 hN, hN.x, hN.gp]
  unfold Args.x1
  simp only [EReal.coe_add, EReal.coe_mul]

theorem r23 (r : Fin 4096) : val_main_v23 (F := Ideal) x0 x1 x2 (ix2 r 0) = (var (N.x1 r) : EReal) := by
  pointwise [val_main_v23, val_main_v22, val_main_v21, val_main_v20, val_main_v19, val_main_v18, val_main_v17, val_main_cst_3, val_main_cst_4, val_main_cst_5, r16 hN]
  exact var_val (fun e => (N.x1 r e : EReal)) _ (fun _ => rfl)

theorem r24 (r : Fin 4096) : val_main_v24 (F := Ideal) x0 x1 x2 (ix2 r 0) = (scl (N.x1 r) : EReal) := by
  pointwise [val_main_v24, r23 hN]
  exact rsqrt_coe _ (var_pos _)

theorem r27 (r : Fin 4096) : val_main_v27 (F := Ideal) x0 x1 x2 (ix2 r 0) = ((-(1 / 2) * (scl (N.x1 r) / var (N.x1 r)) : ℝ) : EReal) := by
  pointwise [val_main_v27, val_main_v26, val_main_v25, val_main_cst_6, r23 hN, r24 hN]
  exact slope_val _

theorem r35 (r : Fin 4096) (d : Fin 1024) : val_main_v35 (F := Ideal) x4 x6 (ix2 r d) = (N.dh r d : EReal) := by
  pointwise [val_main_v35, val_main_v34, hN.dp, hN.w]
  rw [Args.dh_eq, coe_sum]
  simp only [EReal.coe_mul]

theorem r36 (r : Fin 4096) (d : Fin 1024) : val_main_v36 (F := Ideal) x0 x1 x2 x4 x6 (ix2 r d) = (N.gnRow r d : EReal) := by
  pointwise [val_main_v36, val_main_v29, val_main_v28, r16 hN, r24 hN, r35 hN]
  rw [Args.gnRow, mul_comm (N.dh r d)]
  simp only [EReal.coe_mul]

theorem r78 (d : Fin 1024) : val_main_v78 (F := Ideal) x0 x1 x2 x4 x6 (ix2 0 d) = ((∑ r, N.gnRow r d : ℝ) : EReal) := by
  pointwise [val_main_v78, val_main_v41, val_main_v38, val_main_v37, val_main_cst_7, val_main_cst_8, r36 hN]
  rw [coe_sum, Fin.sum_univ_one]

theorem r40 (r : Fin 4096) (d : Fin 1024) : val_main_v40 (F := Ideal) x3 x4 x6 (ix2 r d) = ((N.dh r d * N.gn d : ℝ) : EReal) := by
  pointwise [val_main_v40, val_main_v39, val_main_v30, r35 hN, hN.gn]
  simp only [EReal.coe_mul]

theorem r50 (r : Fin 4096) : val_main_v50 (F := Ideal) x0 x1 x2 x3 x4 x6 (ix2 r 0) = (msq (fun e => N.dh r e * N.gn e) (N.x1 r) : EReal) := by
  pointwise [val_main_v50, val_main_v49, val_main_v48, val_main_v44, val_main_v43, val_main_v42, val_main_cst_9, val_main_cst_10, r40 hN, r16 hN, r27 hN]
  exact msq_val (fun e => N.dh r e * N.gn e) (N.x1 r) _ rfl

theorem r52 (r : Fin 4096) (d : Fin 1024) : val_main_v52 (F := Ideal) x0 x1 x2 x3 x4 x6 (ix2 r d) = (msq (fun e => N.dh r e * N.gn e) (N.x1 r) : EReal) := by
  pointwise [val_main_v52, val_main_v51, val_main_cst_11]
  rw [Fin.sum_univ_one]
  exact r50 hN r

theorem r56 (r : Fin 4096) (d : Fin 1024) : val_main_v56 (F := Ideal) x0 x1 x2 x3 x4 x5 x6 (ix2 r d) = (N.dx r d : EReal) := by
  pointwise [val_main_v56, val_main_v55, val_main_v54, val_main_v53, val_main_v47, val_main_v46, val_main_v45, r40 hN, r52 hN, r16 hN, r24 hN, hN.ds]
  rw [Args.dx, ← back_sum, ← add_assoc, ← add_assoc]
  simp only [EReal.coe_add, EReal.coe_mul]

theorem r57 (r : Fin 4096) (d : Fin 1024) : val_main_v57 (F := Ideal) x0 x1 x2 x3 x4 x5 x6 (ix2 r d) = (N.dx r d : EReal) := by
  pointwise [val_main_v57, r56 hN]

theorem r58 (r : Fin 4096) (d : Fin 1024) : val_main_v58 (F := Ideal) x0 x1 x2 x3 x4 x5 x6 (ix2 r d) = (N.gpRow r d : EReal) := by
  pointwise [val_main_v58, r12 hN, r57 hN]
  rw [Args.gpRow, mul_comm (N.dx r d)]
  simp only [EReal.coe_mul]

theorem r80 (d : Fin 1024) : val_main_v80 (F := Ideal) x0 x1 x2 x3 x4 x5 x6 (ix2 0 d) = ((∑ r, N.gpRow r d : ℝ) : EReal) := by
  pointwise [val_main_v80, val_main_v63, val_main_v60, val_main_v59, val_main_cst_12, val_main_cst_13, r58 hN]
  rw [coe_sum, Fin.sum_univ_one]

theorem r62 (r : Fin 4096) (d : Fin 1024) : val_main_v62 (F := Ideal) x0 x1 x2 x3 x4 x5 x6 (ix2 r d) = ((N.dx r d * N.gp d : ℝ) : EReal) := by
  pointwise [val_main_v62, val_main_v61, val_main_v13, r57 hN, hN.gp]
  simp only [EReal.coe_mul]

theorem r71 (r : Fin 4096) : val_main_v71 (F := Ideal) x0 x1 x2 x3 x4 x5 x6 (ix2 r 0) = (msq (fun e => N.dx r e * N.gp e) (N.o r) : EReal) := by
  pointwise [val_main_v71, val_main_v70, val_main_v69, val_main_v66, val_main_v65, val_main_v64, val_main_cst_14, val_main_cst_15, r62 hN, r10 hN, hN.o]
  exact msq_val (fun e => N.dx r e * N.gp e) (N.o r) _ rfl

theorem r73 (r : Fin 4096) (d : Fin 1024) : val_main_v73 (F := Ideal) x0 x1 x2 x3 x4 x5 x6 (ix2 r d) = (msq (fun e => N.dx r e * N.gp e) (N.o r) : EReal) := by
  pointwise [val_main_v73, val_main_v72, val_main_cst_16]
  rw [Fin.sum_univ_one]
  exact r71 hN r

theorem r79 (r : Fin 4096) (d : Fin 1024) : val_main_v79 (F := Ideal) x0 x1 x2 x3 x4 x5 x6 (ix2 r d) = (N.dO r d : EReal) := by
  pointwise [val_main_v79, val_main_v77, val_main_v76, val_main_v75, val_main_v74, val_main_v68, val_main_v67, r62 hN, r73 hN, r7 hN, hN.o]
  rw [Args.dO, ← back_sum]
  simp only [EReal.coe_add, EReal.coe_mul]

end Cert.DhAOwn

end
-- ==== Proof.DhAClaim.lean ====
module

public import proofs.«01_k».proof.Proof.DhAFinal
public import proofs.«01_k».proof.Proof.DhARef
public import proofs.«01_k».proof.Proof.Gen.Pre_dh1_finite
public import proofs.«01_k».proof.Defs

/-! The mix norms' backward results are the reference's. -/

@[expose] public section

set_option maxRecDepth 16384

noncomputable section

open Idealize.ShloMosaic Idealize.ShloMosaic.TcCoe

namespace Cert.DhAOwn

open Cert Cert.Reals Cert.Norms Cert.DhABwdIdeal Cert.DhABwdIdeal.Gen

variable (m : (ℓ : Loc nD τ sig) → Buf (Elt Ideal) ℓ) (c : Dev nD)

theorem nums (h : Pre_DhABwdIdeal_dh1_finite m) : ∃ N : Args, Num m c N := by
  have h := h c
  simp only [Cert.Pre_dh1_finite.fn] at h
  obtain ⟨h0, h1, h2, h3, h4, h5, h6⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  obtain ⟨x5, e5⟩ := real_array _ _ h5
  obtain ⟨x6, e6⟩ := real_array _ _ h6
  exact ⟨⟨fun r d => x0 (ix2 r d), fun r d => x1 (ix2 r d), fun r d => x5 (ix2 r d), fun d => x2 (ix1 d), fun d => x3 (ix1 d),
      fun d k => x4 (ix2 d k), fun r k => x6 (ix2 r k)⟩,
    ⟨fun _ _ => congrFun e0 _, fun _ _ => congrFun e1 _, fun _ => congrFun e2 _, fun _ => congrFun e3 _, fun _ _ => congrFun e4 _,
      fun _ _ => congrFun e5 _, fun _ _ => congrFun e6 _⟩⟩

variable {m c}

theorem final_dx (h : Pre_DhABwdIdeal_dh1_finite m) : (dats m 0 c).arrAt 7 (cfgs 0).N
    = DhARefIdeal.Read.val_main_v56 (F := Ideal) (A0 m c) (A1 m c) (A2 m c) (A3 m c) (A4 m c) (A5 m c) (A6 m c) := by
  obtain ⟨N, hN⟩ := nums m c h
  rw [final7 hN]
  funext i
  idx_vars i
  exact (r56 hN i0 i1).symm

theorem final_gn (h : Pre_DhABwdIdeal_dh1_finite m) : (dats m 0 c).arrAt 8 (cfgs 0).N
    = DhARefIdeal.Read.val_main_v78 (F := Ideal) (A0 m c) (A1 m c) (A2 m c) (A4 m c) (A6 m c) := by
  obtain ⟨N, hN⟩ := nums m c h
  rw [final8 hN]
  funext i
  idx_vars i
  rw [show i0 = 0 from Subsingleton.elim _ _]
  exact (r78 hN i1).symm

theorem final_do (h : Pre_DhABwdIdeal_dh1_finite m) : (dats m 0 c).arrAt 9 (cfgs 0).N
    = DhARefIdeal.Read.val_main_v79 (F := Ideal) (A0 m c) (A1 m c) (A2 m c) (A3 m c) (A4 m c) (A5 m c) (A6 m c) := by
  obtain ⟨N, hN⟩ := nums m c h
  rw [final9 hN]
  funext i
  idx_vars i
  exact (r79 hN i0 i1).symm

theorem final_gp (h : Pre_DhABwdIdeal_dh1_finite m) : (dats m 0 c).arrAt 10 (cfgs 0).N
    = DhARefIdeal.Read.val_main_v80 (F := Ideal) (A0 m c) (A1 m c) (A2 m c) (A3 m c) (A4 m c) (A5 m c) (A6 m c) := by
  obtain ⟨N, hN⟩ := nums m c h
  rw [final10 hN]
  funext i
  idx_vars i
  rw [show i0 = 0 from Subsingleton.elim _ _]
  exact (r80 hN i1).symm

end Cert.DhAOwn

end
-- ==== Proof.DhAPair.lean ====
module

public import proofs.«01_k».proof.Proof.DhAClaim
public import proofs.«01_k».proof.Proof.Gen.DhABwdIdeal.Value
public import proofs.«01_k».proof.Proof.Gen.DhARefIdeal.Run
public import Idealize.ShloMosaic.Adequacy
public import Idealize.ShloMosaic.Init

/-! The mix norms' backward call and its reference agree. -/

@[expose] public section

noncomputable section

namespace Cert.Proof

open Idealize.ShloMosaic Idealize.SL.Sem

set_option maxHeartbeats 4000000 in
theorem dh1 : Cert.algebraic_DhABwdIdeal_DhARefIdeal_pre_dh1_finite := by
  pair_intro
  · run_from Cert.DhABwdIdeal.Gen.run_main m g
    all_goals first
      | exact Cert.DhABwdIdeal.Gen.V_main_arg0 m c
      | exact Cert.DhABwdIdeal.Gen.V_main_arg1 m c
      | exact Cert.DhABwdIdeal.Gen.V_main_arg2 m c
      | exact Cert.DhABwdIdeal.Gen.V_main_arg3 m c
      | exact Cert.DhABwdIdeal.Gen.V_main_arg4 m c
      | exact Cert.DhABwdIdeal.Gen.V_main_arg5 m c
      | exact Cert.DhABwdIdeal.Gen.V_main_arg6 m c
  · run_from Cert.DhARefIdeal.Value.run m' g'
    · rw [Cert.DhARefIdeal.Read.val_main_v56_eq, (hagree c).1, (hagree c).2.1, (hagree c).2.2.1, (hagree c).2.2.2.1, (hagree c).2.2.2.2.1, (hagree c).2.2.2.2.2.1, (hagree c).2.2.2.2.2.2]
      exact (Cert.DhAOwn.final_dx hpre).symm
    · rw [Cert.DhARefIdeal.Read.val_main_v78_eq]
      exact (Cert.DhAOwn.final_gn hpre).symm
    · rw [Cert.DhARefIdeal.Read.val_main_v79_eq, (hagree c).1, (hagree c).2.1, (hagree c).2.2.1, (hagree c).2.2.2.1, (hagree c).2.2.2.2.1, (hagree c).2.2.2.2.2.1, (hagree c).2.2.2.2.2.2]
      exact (Cert.DhAOwn.final_do hpre).symm
    · rw [Cert.DhARefIdeal.Read.val_main_v80_eq, (hagree c).1, (hagree c).2.1, (hagree c).2.2.1, (hagree c).2.2.2.1, (hagree c).2.2.2.2.1, (hagree c).2.2.2.2.2.1, (hagree c).2.2.2.2.2.2]
      exact (Cert.DhAOwn.final_gp hpre).symm

end Cert.Proof

end
-- ==== Proof.DhBPay.lean ====
module

public import proofs.«01_k».proof.Proof.Gen.DhBBwdIdeal.Skeleton
public import Idealize.ShloMosaic.Lib.Pointwise
public import proofs.«01_k».proof.Proof.DhLay

/-! What the payloads of the first mix norm's backward call leave, at blocks of real entries. -/

@[expose] public section

set_option maxRecDepth 16384

noncomputable section

open Idealize.ShloMosaic

namespace Cert.DhBOwn

open Cert Cert.Reals Cert.Norms Cert.DhBBwdIdeal Cert.DhBBwdIdeal.Gen

theorem pay4_at (X : FVec Ideal S1024x1024 .f32) (x : Fin 1024 → ℝ) (i : Fin 1024) (h : ∀ j, X (ix2 i j) = (x j : EReal)) :
    k0_pay4 (F := Ideal) X (ix2 i 0) = (scl x : EReal) := by
  pointwise [k0_pay4]
  exact scl_val _ x h

theorem pay5_at (Z X : FVec Ideal S1024x1024 .f32) (z x : Fin 1024 → ℝ) (i : Fin 1024) (hz : ∀ j, Z (ix2 i j) = (z j : EReal))
    (h : ∀ j, X (ix2 i j) = (x j : EReal)) (j : Fin 1024) :
    k0_pay5 (F := Ideal) Z X (ix2 i j) = ((z j * (x j * scl x) : ℝ) : EReal) := by
  pointwise [k0_pay5, pay4_at X x i h, hz, h]
  simp only [← EReal.coe_mul]

theorem pay6_at (Z X S : FVec Ideal S1024x1024 .f32) (G : FVec Ideal S1x1024 .f32) (z x s g : Fin 1024 → ℝ) (i : Fin 1024)
    (hz : ∀ j, Z (ix2 i j) = (z j : EReal)) (h : ∀ j, X (ix2 i j) = (x j : EReal)) (hs : ∀ j, S (ix2 i j) = (s j : EReal))
    (hg : ∀ j, G (ix2 0 j) = (g j : EReal)) (j : Fin 1024) :
    k0_pay6 (F := Ideal) Z X G S (ix2 i j) = ((s j + back (fun e => z e * g e) x j : ℝ) : EReal) := by
  pointwise [k0_pay6, pay4_at X x i h, hz, h, hs, hg]
  rw [EReal.coe_add, ← back_val' (fun e => z e * g e) x j]
  simp only [EReal.coe_mul]

theorem pay3_at (W : FVec Ideal S1024x1024 .f32) (A : FVec Ideal S1x1024 .f32) (w : Fin 1024 → Fin 1024 → ℝ) (a : Fin 1024 → ℝ)
    (hw : ∀ i j, W (ix2 i j) = (w i j : EReal)) (ha : ∀ j, A (ix2 0 j) = (a j : EReal)) (j : Fin 1024) :
    k0_pay3 (F := Ideal) W (k0_pay8 A) (ix2 0 j) = ((a j + ∑ i, w i j : ℝ) : EReal) := by
  pointwise [k0_pay3, k0_pay8, hw, ha]
  rw [EReal.coe_add, coe_sum]

/-- The columns' sums grow by a block of rows. -/
theorem upTo_block (f : Fin 4096 → Fin 1024 → ℝ) (n : ℕ) (hn : n + 1024 ≤ 4096) (d : Fin 1024) (g : Fin 1024 → ℝ)
    (hg : ∀ i : Fin 1024, g i = f ⟨n + i.val, by omega⟩ d) : upTo f n d + ∑ i, g i = upTo f (n + 1024) d := by
  rw [upTo, upTo, Finset.sum_range_add]
  congr 1
  rw [Finset.sum_range]
  refine Finset.sum_congr rfl fun i _ => ?_
  rw [hg i, dif_pos (by omega)]

theorem pay2_at (A : FVec Ideal S1024x1024 .f32) (P : FVec Ideal S1024x1920 .bf16) (Q : FVec Ideal S1920x1024 .bf16) (i : Fin 1024) (j : Fin 1024)
    (a : ℝ) (p q : ℕ → ℝ) (b : ℕ) (ha : A (ix2 i j) = (a : EReal)) (hp : ∀ k : Fin 1920, P (ix2 i k) = (p (b + k.val) : EReal))
    (hq : ∀ k : Fin 1920, Q (ix2 k j) = (q (b + k.val) : EReal)) (hb : a = ∑ k ∈ Finset.range b, p k * q k) :
    k0_pay2 (F := Ideal) A P Q (ix2 i j) = ((∑ k ∈ Finset.range (b + 1920), p k * q k : ℝ) : EReal) := by
  pointwise [k0_pay2, hp, hq, ha]
  rw [Finset.sum_range_add, ← hb, EReal.coe_add, Finset.sum_range, coe_sum]
  simp only [← EReal.coe_mul]

theorem pay1_at (i : S1024x1024.Idx) : k0_pay1 (F := Ideal) i = ((0 : ℝ) : EReal) := by
  idx_vars i; pointwise [k0_pay1]; exact EReal.coe_zero.symm

/-- The arguments' entries as real numbers. -/
structure Args where
  (x ds : Fin 4096 → Fin 1024 → ℝ)
  (gn : Fin 1024 → ℝ)
  (w : Fin 1024 → Fin 7176 → ℝ)
  (dp : Fin 4096 → Fin 7176 → ℝ)

namespace Args
variable (N : Args)

/-- The cotangent and the weight as the call keeps their columns. -/
def p (r : Fin 4096) (n : ℕ) : ℝ := Dh.laid (N.dp r) n
def q (d : Fin 1024) (n : ℕ) : ℝ := Dh.laid (N.w d) n
/-- The gradient behind the norm, and the gradients the call writes. -/
def dh (r : Fin 4096) (d : Fin 1024) : ℝ := ∑ n ∈ Finset.range 7680, N.p r n * N.q d n
def dx (r : Fin 4096) (d : Fin 1024) : ℝ := N.ds r d + back (fun e => N.dh r e * N.gn e) (N.x r) d
def gnRow (r : Fin 4096) (d : Fin 1024) : ℝ := N.dh r d * (N.x r d * scl (N.x r))

theorem dh_eq (r : Fin 4096) (d : Fin 1024) : N.dh r d = ∑ k, N.dp r k * N.w d k := Dh.laid_sum _ _

end Args

/-- The arrays whose entries these numbers are. -/
structure Is (N : Args) (a0 : FVec Ideal S4096x1024 .f32) (a1 : FVec Ideal S1024 .f32) (a2 : FVec Ideal S1024x7176 .f32)
    (a3 : FVec Ideal S4096x1024 .f32) (a4 : FVec Ideal S4096x7176 .bf16) : Prop where
  x : ∀ r d, a0 (ix2 r d) = (N.x r d : EReal)
  gn : ∀ d, a1 (ix1 d) = (N.gn d : EReal)
  w : ∀ d k, a2 (ix2 d k) = (N.w d k : EReal)
  ds : ∀ r d, a3 (ix2 r d) = (N.ds r d : EReal)
  dp : ∀ r k, a4 (ix2 r k) = (N.dp r k : EReal)

end Cert.DhBOwn

end
-- ==== Proof.DhBHost.lean ====
module

public import proofs.«01_k».proof.Proof.Gen.DhBBwdIdeal.Frame
public import Idealize.ShloMosaic.Lib.Pipeline.ValueKit
public import Idealize.ShloMosaic.Lib.Pointwise
public import proofs.«01_k».proof.Proof.DhBPay

/-! The arrays the first mix norm's backward call is entered with, and its blocks. -/

@[expose] public section

set_option maxRecDepth 16384

noncomputable section

open Idealize.ShloMosaic Idealize.ShloMosaic.TcCoe Idealize.SL.Sem
open Idealize.ShloMosaic.Pipeline (Dat)

namespace Cert.DhBOwn

open Cert Cert.Reals Cert.Norms Cert.DhBBwdIdeal Cert.DhBBwdIdeal.Gen

variable (m : (ℓ : Loc nD τ sig) → Buf (Elt Ideal) ℓ) (c : Dev nD)

theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0]
    ∧ win0_5.index t = ![t.val / 4, 0] ∧ win0_6.index t = ![0, 0] :=
  (by decide +kernel : ∀ t : Fin grid0.N, _)

/-- The row of the arrays that row `i` of the blocks at point `t` is. -/
abbrev row (t : Fin cfg0.N) (i : Fin 1024) : Fin 4096 := ⟨t.val / 4 * 1024 + i.val, by have := lt_of_lt_of_eq t.isLt N_0; omega⟩

abbrev A0 : FVec Ideal S4096x1024 .f32 := m ((c : Thread nD τ).loc main_arg0)
abbrev A1 : FVec Ideal S1024 .f32 := m ((c : Thread nD τ).loc main_arg1)
abbrev A2 : FVec Ideal S1024x7176 .f32 := m ((c : Thread nD τ).loc main_arg2)
abbrev A3 : FVec Ideal S4096x1024 .f32 := m ((c : Thread nD τ).loc main_arg3)
abbrev A4 : FVec Ideal S4096x7176 .bf16 := m ((c : Thread nD τ).loc main_arg4)

/-- The call's arguments have these real entries. -/
abbrev Num (N : Args) : Prop := Is N (A0 m c) (A1 m c) (A2 m c) (A3 m c) (A4 m c)

variable {m c} {N : Args} (hN : Num m c N)

theorem V17 : V m c main_v19 = Dh.layT (A2 m c) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  rfl

theorem V20 : V m c main_v8 = Dh.layD (A4 m c) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  rfl

theorem entry_pre (d : Fin 1024) : V m c main_v20 (ix2 0 d) = (show EReal from A1 m c (ix1 d)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

include hN

theorem blk0 (t : Fin cfg0.N) (i : Fin 1024) (k : Fin 1920) : iblk m c 0 t (ix2 i k) = (N.p (row t i) (1920 * (t.val % 4) + k.val) : EReal) := by
  have ht := lt_of_lt_of_eq t.isLt N_0
  blk_simp [iblk]
  rw [show (win0_0.blk t).view.emb (ix2 i k) = ix2 (row t i) ⟨t.val % 4 * 1920 + k.val, by omega⟩ by blk_ext [idx t], V20, Dh.layD_at _ _ hN.dp]
  congr 2
  simp only
  omega

theorem blk1 (t : Fin cfg0.N) (k : Fin 1920) (j : Fin 1024) : iblk m c 1 t (ix2 k j) = (N.q j (1920 * (t.val % 4) + k.val) : EReal) := by
  have ht := lt_of_lt_of_eq t.isLt N_0
  blk_simp [iblk]
  rw [show (win0_1.blk t).view.emb (ix2 k j) = ix2 ⟨t.val % 4 * 1920 + k.val, by omega⟩ j by blk_ext [idx t], V17, Dh.layT_at _ _ hN.w]
  congr 2
  simp only
  omega

theorem blk2 (t : Fin cfg0.N) (i : Fin 1024) (j : Fin 1024) : iblk m c 2 t (ix2 i j) = (N.ds (row t i) j : EReal) := by
  blk_simp [iblk]
  rw [show (win0_2.blk t).view.emb (ix2 i j) = ix2 (row t i) j by blk_ext [idx t], V_main_arg3]
  exact hN.ds _ _

theorem blk3 (t : Fin cfg0.N) (i : Fin 1024) (j : Fin 1024) : iblk m c 3 t (ix2 i j) = (N.x (row t i) j : EReal) := by
  blk_simp [iblk]
  rw [show (win0_3.blk t).view.emb (ix2 i j) = ix2 (row t i) j by blk_ext [idx t], V_main_arg0]
  exact hN.x _ _

theorem blk4 (t : Fin cfg0.N) (j : Fin 1024) : iblk m c 4 t (ix2 0 j) = (N.gn j : EReal) := by
  blk_simp [iblk]
  rw [show (win0_4.blk t).view.emb (ix2 0 j) = ix2 0 j by blk_ext [idx t], entry_pre]
  exact hN.gn _

end Cert.DhBOwn

end
-- ==== Proof.DhBState.lean ====
module

public import proofs.«01_k».proof.Proof.DhBHost
public import Idealize.ShloMosaic.Lib.Pipeline.ReadBack

/-! What the first mix norm's backward call holds after each point. -/

@[expose] public section

set_option maxRecDepth 16384

noncomputable section

open Idealize.ShloMosaic Idealize.ShloMosaic.TcCoe Idealize.SL.Sem
open Idealize.ShloMosaic.Pipeline (Dat)

namespace Cert.DhBOwn

open Cert Cert.Reals Cert.Norms Cert.DhBBwdIdeal Cert.DhBBwdIdeal.Gen

variable {m : (ℓ : Loc nD τ sig) → Buf (Elt Ideal) ℓ} {c : Dev nD} {N : Args} (hN : Num m c N)

/-- The product's sum over the first `n` columns. -/
def part (N : Args) (r : Fin 4096) (d : Fin 1024) (n : ℕ) : ℝ := ∑ k ∈ Finset.range n, N.p r k * N.q d k

include hN

theorem accA (t : Fin cfg0.N) (h0 : t.val % 4 = 0) (h1 : ¬t.val % 4 = 3) (i : Fin 1024) (j : Fin 1024) :
    (outsAt0 m c t.val t.isLt).2.2 (ix2 i j) = (part N (row t i) j 1920 : EReal) := by
  rw [outsAt0_A m c t h0 h1]
  frame_out
  refine pay2_at _ _ _ i j 0 (N.p (row t i)) (N.q j) 0 ?_ ?_ ?_ rfl
  · pointwise; exact pay1_at _
  · intro k; pointwise; rw [blk0 hN, h0, mul_zero, zero_add]
  · intro k; pointwise; rw [blk1 hN, h0, mul_zero, zero_add]

theorem accB (t : Fin cfg0.N) (h0 : ¬t.val % 4 = 0) (h1 : ¬t.val % 4 = 3) (i : Fin 1024) (j : Fin 1024)
    (hp : (outsAt0 m c (t.val - 1) (by omega)).2.2 (ix2 i j) = (part N (row t i) j (1920 * (t.val % 4)) : EReal)) :
    (outsAt0 m c t.val t.isLt).2.2 (ix2 i j) = (part N (row t i) j (1920 * (t.val % 4) + 1920) : EReal) := by
  rw [outsAt0_B m c t h0 h1]
  frame_out
  refine pay2_at _ _ _ i j (part N (row t i) j (1920 * (t.val % 4))) (N.p (row t i)) (N.q j) (1920 * (t.val % 4)) ?_ ?_ ?_ rfl
  · rw [read_unread_whole]; exact hp
  · intro k; pointwise; rw [blk0 hN]
  · intro k; pointwise; rw [blk1 hN]

theorem sumC (t : Fin cfg0.N) (h1 : t.val % 4 = 3) (i : Fin 1024) (j : Fin 1024)
    (hp : (outsAt0 m c (t.val - 1) (by omega)).2.2 (ix2 i j) = (part N (row t i) j 5760 : EReal)) :
    k0_pay2 (F := Ideal) (outsAt0 m c (t.val - 1) (by omega)).2.2 (iblk m c 0 t) (iblk m c 1 t) (ix2 i j) = (N.dh (row t i) j : EReal) := by
  refine pay2_at _ _ _ i j (part N (row t i) j 5760) (N.p (row t i)) (N.q j) 5760 hp ?_ ?_ rfl
  · intro k; rw [blk0 hN, h1]
  · intro k; rw [blk1 hN, h1]

/-- The rows' gradient by the residual sum, as the last step of a row block evaluates it. -/
abbrev dxBlk (m : (ℓ : Loc nD τ sig) → Buf (Elt Ideal) ℓ) (c : Dev nD) (t : Fin cfg0.N) : FVec Ideal S1024x1024 .f32 :=
  k0_pay6 (F := Ideal) (k0_pay2 (outsAt0 m c (t.val - 1) (by omega)).2.2 (iblk m c 0 t) (iblk m c 1 t)) (iblk m c 3 t) (iblk m c 4 t) (iblk m c 2 t)

theorem dxBlk_at (t : Fin cfg0.N) (h1 : t.val % 4 = 3)
    (hp : ∀ i j, (outsAt0 m c (t.val - 1) (by omega)).2.2 (ix2 i j) = (part N (row t i) j 5760 : EReal)) (i : Fin 1024) (j : Fin 1024) :
    dxBlk m c t (ix2 i j) = (N.dx (row t i) j : EReal) :=
  pay6_at _ _ _ _ (N.dh (row t i)) (N.x (row t i)) (N.ds (row t i)) N.gn i (fun j => sumC hN t h1 i j (hp i j)) (blk3 hN t i) (blk2 hN t i) (blk4 hN t) j

theorem gn_at (t : Fin cfg0.N) (h1 : t.val % 4 = 3)
    (hp : ∀ i j, (outsAt0 m c (t.val - 1) (by omega)).2.2 (ix2 i j) = (part N (row t i) j 5760 : EReal)) (i : Fin 1024) (j : Fin 1024) :
    k0_pay5 (F := Ideal) (k0_pay2 (outsAt0 m c (t.val - 1) (by omega)).2.2 (iblk m c 0 t) (iblk m c 1 t)) (iblk m c 3 t) (ix2 i j) = (N.gnRow (row t i) j : EReal) :=
  pay5_at _ _ (N.dh (row t i)) (N.x (row t i)) i (fun j => sumC hN t h1 i j (hp i j)) (blk3 hN t i) j

theorem dxC (t : Fin cfg0.N) (h0 : ¬t.val % 4 = 0) (h1 : t.val % 4 = 3) (h2 : t.val < 4)
    (hp : ∀ i j, (outsAt0 m c (t.val - 1) (by omega)).2.2 (ix2 i j) = (part N (row t i) j 5760 : EReal)) (i : Fin 1024) (j : Fin 1024) :
    (outsAt0 m c t.val t.isLt).1 (ix2 i j) = (N.dx (row t i) j : EReal) := by
  rw [outsAt0_C m c t h0 h1 h2]
  frame_out
  refine Eq.trans ?_ (dxBlk_at hN t h1 hp i j)
  rw [read_unread_whole]

theorem gnC (t : Fin cfg0.N) (h0 : ¬t.val % 4 = 0) (h1 : t.val % 4 = 3) (h2 : t.val < 4)
    (hp : ∀ i j, (outsAt0 m c (t.val - 1) (by omega)).2.2 (ix2 i j) = (part N (row t i) j 5760 : EReal)) (j : Fin 1024) :
    (outsAt0 m c t.val t.isLt).2.1 (ix2 0 j) = (upTo N.gnRow (t.val / 4 * 1024 + 1024) j : EReal) := by
  have ht := lt_of_lt_of_eq t.isLt N_0
  rw [outsAt0_C m c t h0 h1 h2]
  frame_out
  rw [read_unread_whole]
  rw [← upTo_block N.gnRow (t.val / 4 * 1024) (by omega) j (fun i => N.gnRow (row t i) j) (fun i => rfl)]
  refine pay3_at _ _ (fun i => N.gnRow (row t i)) (upTo N.gnRow (t.val / 4 * 1024)) (gn_at hN t h1 hp) ?_ j
  · intro j; rw [show t.val / 4 * 1024 = 0 by omega]; pointwise [k0_pay7]; exact EReal.coe_zero.symm

theorem dxD (t : Fin cfg0.N) (h0 : ¬t.val % 4 = 0) (h1 : t.val % 4 = 3) (h2 : ¬t.val < 4)
    (hp : ∀ i j, (outsAt0 m c (t.val - 1) (by omega)).2.2 (ix2 i j) = (part N (row t i) j 5760 : EReal)) (i : Fin 1024) (j : Fin 1024) :
    (outsAt0 m c t.val t.isLt).1 (ix2 i j) = (N.dx (row t i) j : EReal) := by
  rw [outsAt0_D m c t h0 h1 h2]
  frame_out
  refine Eq.trans ?_ (dxBlk_at hN t h1 hp i j)
  rw [read_unread_whole]

theorem gnD (t : Fin cfg0.N) (h0 : ¬t.val % 4 = 0) (h1 : t.val % 4 = 3) (h2 : ¬t.val < 4)
    (hp : ∀ i j, (outsAt0 m c (t.val - 1) (by omega)).2.2 (ix2 i j) = (part N (row t i) j 5760 : EReal))
    (ha : ∀ j, (outsAt0 m c (t.val - 1) (by omega)).2.1 (ix2 0 j) = (upTo N.gnRow (t.val / 4 * 1024) j : EReal)) (j : Fin 1024) :
    (outsAt0 m c t.val t.isLt).2.1 (ix2 0 j) = (upTo N.gnRow (t.val / 4 * 1024 + 1024) j : EReal) := by
  have ht := lt_of_lt_of_eq t.isLt N_0
  rw [outsAt0_D m c t h0 h1 h2]
  frame_out
  rw [read_unread_whole]
  rw [← upTo_block N.gnRow (t.val / 4 * 1024) (by omega) j (fun i => N.gnRow (row t i) j) (fun i => rfl)]
  refine pay3_at _ _ (fun i => N.gnRow (row t i)) (upTo N.gnRow (t.val / 4 * 1024)) (gn_at hN t h1 hp) ?_ j
  · intro j; pointwise; exact ha j

end Cert.DhBOwn

end
-- ==== Proof.DhBFinal.lean ====
module

public import proofs.«01_k».proof.Proof.DhBState

/-! The arrays the first mix norm's backward call leaves. -/

@[expose] public section

set_option maxRecDepth 16384

noncomputable section

open Idealize.ShloMosaic Idealize.ShloMosaic.TcCoe Idealize.SL.Sem
open Idealize.ShloMosaic.Pipeline (Dat)

namespace Cert.DhBOwn

open Cert Cert.Reals Cert.Norms Cert.DhBBwdIdeal Cert.DhBBwdIdeal.Gen

variable {m : (ℓ : Loc nD τ sig) → Buf (Elt Ideal) ℓ} {c : Dev nD} {N : Args} (hN : Num m c N)

theorem row_congr (n n' : ℕ) (hn : n < cfg0.N) (hn' : n' < cfg0.N) (h : n / 4 = n' / 4) (i : Fin 1024) : row ⟨n, hn⟩ i = row ⟨n', hn'⟩ i :=
  Fin.ext (by simp only [h])

/-- The columns' sums do not change at a point that ends no row block. -/
theorem carry (t : Fin cfg0.N) (h1 : ¬t.val % 4 = 3) :
    (outsAt0 m c t.val t.isLt).2.1 = (outsAt0 m c (t.val - 1) (by omega)).2.1 := by
  by_cases h0 : t.val % 4 = 0
  · rw [outsAt0_A m c t h0 h1]; rfl
  · rw [outsAt0_B m c t h0 h1]; rfl

include hN

theorem held : ∀ (n : ℕ) (hn : n < cfg0.N),
    (¬n % 4 = 3 → ∀ i j, (outsAt0 m c n hn).2.2 (ix2 i j) = (part N (row ⟨n, hn⟩ i) j (1920 * (n % 4 + 1)) : EReal))
    ∧ (3 ≤ n → ∀ j, (outsAt0 m c n hn).2.1 (ix2 0 j) = (upTo N.gnRow ((n + 1) / 4 * 1024) j : EReal)) := by
  intro n
  induction n with
  | zero => exact fun hn => ⟨fun _ i j => accA hN ⟨0, hn⟩ rfl (by simp only; omega) i j, fun h => by omega⟩
  | succ n ih =>
    intro hn
    have hT := lt_of_lt_of_eq hn N_0
    obtain ⟨q0, q1⟩ := ih (by omega)
    by_cases h1 : (n + 1) % 4 = 3
    · have e : n % 4 + 1 = 3 := by omega
      have e' : (n + 1) / 4 * 1024 + 1024 = (n + 1 + 1) / 4 * 1024 := by omega
      have hp : ∀ i j, (outsAt0 m c n (by omega)).2.2 (ix2 i j) = (part N (row ⟨n + 1, hn⟩ i) j 5760 : EReal) := fun i j => by
        rw [q0 (by omega) i j, e, row_congr n (n + 1) _ hn (by omega)]
      rw [← e']
      refine ⟨fun h => absurd h1 h, fun _ j => ?_⟩
      · by_cases h2 : n + 1 < 4
        · exact gnC hN ⟨n + 1, hn⟩ (by simp only; omega) h1 h2 hp j
        · exact gnD hN ⟨n + 1, hn⟩ (by simp only; omega) h1 h2 hp (q1 (by omega)) j
    · have hc := carry (m := m) (c := c) ⟨n + 1, hn⟩ h1
      have e' : (n + 1) / 4 = (n + 1 + 1) / 4 := by omega
      refine ⟨fun _ i j => ?_, fun _ j => ?_⟩
      · by_cases h0 : (n + 1) % 4 = 0
        · rw [h0]; exact accA hN ⟨n + 1, hn⟩ h0 h1 i j
        · refine accB hN ⟨n + 1, hn⟩ h0 h1 i j ?_
          show (outsAt0 m c n _).2.2 (ix2 i j) = (part N (row ⟨n + 1, hn⟩ i) j (1920 * ((n + 1) % 4)) : EReal)
          rw [q0 (by omega) i j, row_congr n (n + 1) _ hn (by omega), show n % 4 + 1 = (n + 1) % 4 by omega]
      · rw [hc, ← e']; exact q1 (by omega) j

theorem before (t : Fin cfg0.N) (h1 : t.val % 4 = 3) (i : Fin 1024) (j : Fin 1024) :
    (outsAt0 m c (t.val - 1) (by omega)).2.2 (ix2 i j) = (part N (row t i) j 5760 : EReal) := by
  rw [(held hN (t.val - 1) (by omega)).1 (by omega) i j, show (t.val - 1) % 4 + 1 = 3 by omega, row_congr (t.val - 1) t.val _ t.isLt (by omega)]

theorem dx_at (t : Fin cfg0.N) (h1 : t.val % 4 = 3) (i : Fin 1024) (j : Fin 1024) : (outsAt0 m c t.val t.isLt).1 (ix2 i j) = (N.dx (row t i) j : EReal) := by
  by_cases h2 : t.val < 4
  · exact dxC hN t (by omega) h1 h2 (before hN t h1) i j
  · exact dxD hN t (by omega) h1 h2 (before hN t h1) i j

omit hN

/-- A row block leaves at its last step. -/
theorem last5 : ∀ t : Fin cfg0.grid.N, (win0 5).flush t = true → t.val % 4 = 3 := (by decide +kernel : ∀ t : Fin grid0.N, _)
/-- The last point. -/
def lastPt : Fin cfg0.N := ⟨15, (by decide +kernel : 15 < grid0.N)⟩

/-- The two results. -/
def R5 (N : Args) : FVec Ideal S4096x1024 .f32 := fun i => (N.dx (i 0) (i 1) : EReal)
def R6 (N : Args) : FVec Ideal S1x1024 .f32 := fun i => ((∑ r, N.gnRow r (i 1) : ℝ) : EReal)

include hN

theorem final5 : (dats m 0 c).arrAt 5 (cfgs 0).N = R5 N := by
  refine (dats m 0 c).arrAt_eq_of_covers 5 _ (by decide +kernel) fun t hf y => ?_
  blk_simp
  rw [after0_5]
  idx_vars y
  rw [show (win0_5.blk t).view.emb (ix2 y0 y1) = ix2 (row t y0) y1 by blk_ext [idx t]]
  exact dx_at hN t (last5 t hf) y0 y1

theorem end6 (n : ℕ) (hn : n < cfg0.N) (h : n = 15) (j : Fin 1024) : (outsAt0 m c n hn).2.1 (ix2 0 j) = R6 N (ix2 0 j) := by
  rw [(held hN n hn).2 (by omega) j, h]
  exact congrArg _ (upTo_all _ j)

theorem final6 : (dats m 0 c).arrAt 6 (cfgs 0).N = R6 N := by
  refine (dats m 0 c).arrAt_eq_of_after_last 6 lastPt (by decide +kernel) _ fun j => ?_
  blk_simp
  rw [after0_6]
  idx_vars j
  rw [show j0 = 0 from Subsingleton.elim _ _]
  exact end6 hN lastPt.val lastPt.isLt rfl j1

end Cert.DhBOwn

end
-- ==== Proof.DhBRef.lean ====
module

public import proofs.«01_k».proof.Proof.DhBPay
public import proofs.«01_k».proof.Proof.Gen.DhBRefIdeal.Read

/-! What the first mix norm's reference writes, at arguments of real entries. -/

@[expose] public section

set_option maxRecDepth 16384

noncomputable section

open Idealize.ShloMosaic

namespace Cert.DhBOwn

open Cert Cert.Reals Cert.Norms Cert.DhBRefIdeal Cert.DhBRefIdeal.Read

variable {N : Args} {x0 : FVec Ideal S4096x1024 .f32} {x1 : FVec Ideal S1024 .f32} {x2 : FVec Ideal S1024x7176 .f32}
  {x3 : FVec Ideal S4096x1024 .f32} {x4 : FVec Ideal S4096x7176 .bf16} (hN : Is N x0 x1 x2 x3 x4)

include hN

theorem r6 (r : Fin 4096) : val_main_v6 (F := Ideal) x0 (ix2 r 0) = (var (N.x r) : EReal) := by
  pointwise [val_main_v6, val_main_v5, val_main_v4, val_main_v3, val_main_v2, val_main_v1, val_main_v0, val_main_cst, val_main_cst_0, val_main_cst_1, hN.x]
  exact var_val (fun e => (N.x r e : EReal)) _ (fun _ => rfl)

theorem r7 (r : Fin 4096) : val_main_v7 (F := Ideal) x0 (ix2 r 0) = (scl (N.x r) : EReal) := by
  pointwise [val_main_v7, r6 hN]
  exact rsqrt_coe _ (var_pos _)

theorem r10 (r : Fin 4096) : val_main_v10 (F := Ideal) x0 (ix2 r 0) = ((-(1 / 2) * (scl (N.x r) / var (N.x r)) : ℝ) : EReal) := by
  pointwise [val_main_v10, val_main_v9, val_main_v8, val_main_cst_2, r6 hN, r7 hN]
  exact slope_val _

theorem r18 (r : Fin 4096) (d : Fin 1024) : val_main_v18 (F := Ideal) x2 x4 (ix2 r d) = (N.dh r d : EReal) := by
  pointwise [val_main_v18, val_main_v17, hN.dp, hN.w]
  rw [Args.dh_eq, coe_sum]
  simp only [EReal.coe_mul]

theorem r19 (r : Fin 4096) (d : Fin 1024) : val_main_v19 (F := Ideal) x0 x2 x4 (ix2 r d) = (N.gnRow r d : EReal) := by
  pointwise [val_main_v19, val_main_v12, val_main_v11, hN.x, r7 hN, r18 hN]
  rw [Args.gnRow, mul_comm (N.dh r d)]
  simp only [EReal.coe_mul]

theorem r40 (d : Fin 1024) : val_main_v40 (F := Ideal) x0 x2 x4 (ix2 0 d) = ((∑ r, N.gnRow r d : ℝ) : EReal) := by
  pointwise [val_main_v40, val_main_v24, val_main_v21, val_main_v20, val_main_cst_3, val_main_cst_4, r19 hN]
  rw [coe_sum, Fin.sum_univ_one]

theorem r23 (r : Fin 4096) (d : Fin 1024) : val_main_v23 (F := Ideal) x1 x2 x4 (ix2 r d) = ((N.dh r d * N.gn d : ℝ) : EReal) := by
  pointwise [val_main_v23, val_main_v22, val_main_v13, r18 hN, hN.gn]
  simp only [EReal.coe_mul]

theorem r33 (r : Fin 4096) : val_main_v33 (F := Ideal) x0 x1 x2 x4 (ix2 r 0) = (msq (fun e => N.dh r e * N.gn e) (N.x r) : EReal) := by
  pointwise [val_main_v33, val_main_v32, val_main_v31, val_main_v27, val_main_v26, val_main_v25, val_main_cst_5, val_main_cst_6, r23 hN, hN.x, r10 hN]
  exact msq_val (fun e => N.dh r e * N.gn e) (N.x r) _ rfl

theorem r35 (r : Fin 4096) (d : Fin 1024) : val_main_v35 (F := Ideal) x0 x1 x2 x4 (ix2 r d) = (msq (fun e => N.dh r e * N.gn e) (N.x r) : EReal) := by
  pointwise [val_main_v35, val_main_v34, val_main_cst_7]
  rw [Fin.sum_univ_one]
  exact r33 hN r

theorem r39 (r : Fin 4096) (d : Fin 1024) : val_main_v39 (F := Ideal) x0 x1 x2 x3 x4 (ix2 r d) = (N.dx r d : EReal) := by
  pointwise [val_main_v39, val_main_v38, val_main_v37, val_main_v36, val_main_v30, val_main_v29, val_main_v28, r23 hN, r35 hN, hN.x, r7 hN, hN.ds]
  rw [Args.dx, ← back_sum, ← add_assoc, ← add_assoc]
  simp only [EReal.coe_add, EReal.coe_mul]

end Cert.DhBOwn

end
-- ==== Proof.DhBClaim.lean ====
module

public import proofs.«01_k».proof.Proof.DhBFinal
public import proofs.«01_k».proof.Proof.DhBRef
public import proofs.«01_k».proof.Proof.Gen.Pre_dh0_finite
public import proofs.«01_k».proof.Defs

/-! The first mix norm's backward results are the reference's. -/

@[expose] public section

set_option maxRecDepth 16384

noncomputable section

open Idealize.ShloMosaic Idealize.ShloMosaic.TcCoe

namespace Cert.DhBOwn

open Cert Cert.Reals Cert.Norms Cert.DhBBwdIdeal Cert.DhBBwdIdeal.Gen

variable (m : (ℓ : Loc nD τ sig) → Buf (Elt Ideal) ℓ) (c : Dev nD)

theorem nums (h : Pre_DhBBwdIdeal_dh0_finite m) : ∃ N : Args, Num m c N := by
  have h := h c
  simp only [Cert.Pre_dh0_finite.fn] at h
  obtain ⟨h0, h1, h2, h3, h4⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  exact ⟨⟨fun r d => x0 (ix2 r d), fun r d => x3 (ix2 r d), fun d => x1 (ix1 d), fun d k => x2 (ix2 d k), fun r k => x4 (ix2 r k)⟩,
    ⟨fun _ _ => congrFun e0 _, fun _ => congrFun e1 _, fun _ _ => congrFun e2 _, fun _ _ => congrFun e3 _, fun _ _ => congrFun e4 _⟩⟩

variable {m c}

theorem final_dx (h : Pre_DhBBwdIdeal_dh0_finite m) : (dats m 0 c).arrAt 5 (cfgs 0).N
    = DhBRefIdeal.Read.val_main_v39 (F := Ideal) (A0 m c) (A1 m c) (A2 m c) (A3 m c) (A4 m c) := by
  obtain ⟨N, hN⟩ := nums m c h
  rw [final5 hN]
  funext i
  idx_vars i
  exact (r39 hN i0 i1).symm

theorem final_gn (h : Pre_DhBBwdIdeal_dh0_finite m) : (dats m 0 c).arrAt 6 (cfgs 0).N
    = DhBRefIdeal.Read.val_main_v40 (F := Ideal) (A0 m c) (A2 m c) (A4 m c) := by
  obtain ⟨N, hN⟩ := nums m c h
  rw [final6 hN]
  funext i
  idx_vars i
  rw [show i0 = 0 from Subsingleton.elim _ _]
  exact (r40 hN i1).symm

end Cert.DhBOwn

end
-- ==== Proof.DhBPair.lean ====
module

public import proofs.«01_k».proof.Proof.DhBClaim
public import proofs.«01_k».proof.Proof.Gen.DhBBwdIdeal.Value
public import proofs.«01_k».proof.Proof.Gen.DhBRefIdeal.Run
public import Idealize.ShloMosaic.Adequacy
public import Idealize.ShloMosaic.Init

/-! The first mix norm's backward call and its reference agree. -/

@[expose] public section

noncomputable section

namespace Cert.Proof

open Idealize.ShloMosaic Idealize.SL.Sem

set_option maxHeartbeats 4000000 in
theorem dh0 : Cert.algebraic_DhBBwdIdeal_DhBRefIdeal_pre_dh0_finite := by
  pair_intro
  · run_from Cert.DhBBwdIdeal.Gen.run_main m g
    all_goals first
      | exact Cert.DhBBwdIdeal.Gen.V_main_arg0 m c
      | exact Cert.DhBBwdIdeal.Gen.V_main_arg1 m c
      | exact Cert.DhBBwdIdeal.Gen.V_main_arg2 m c
      | exact Cert.DhBBwdIdeal.Gen.V_main_arg3 m c
      | exact Cert.DhBBwdIdeal.Gen.V_main_arg4 m c
  · run_from Cert.DhBRefIdeal.Value.run m' g'
    · rw [Cert.DhBRefIdeal.Read.val_main_v39_eq, (hagree c).1, (hagree c).2.1, (hagree c).2.2.1, (hagree c).2.2.2.1, (hagree c).2.2.2.2]
      exact (Cert.DhBOwn.final_dx hpre).symm
    · rw [Cert.DhBRefIdeal.Read.val_main_v40_eq]
      exact (Cert.DhBOwn.final_gn hpre).symm

end Cert.Proof

end
-- ==== Proof.AtfStep.lean ====
module

public import proofs.«01_k».proof.Proof.AttnBlock
public import proofs.«01_k».proof.Proof.Gen.AttnFwdIdeal.Skeleton
public import Idealize.ShloMosaic.Lib.Pointwise
public import Idealize.ShloMosaic.Lib.WordCmp

/-! One key block of the attention forward against a query block: the running maximum, the running sum and the running
output, in real numbers. -/

@[expose] public section

set_option maxRecDepth 16384

noncomputable section

open Idealize.ShloMosaic Idealize.ShloMosaic.TcCoe

namespace Cert.AtfOwn

open Cert Cert.Reals Cert.AttnFwdIdeal Cert.AttnFwdIdeal.Gen
open Cert.AttnOwn (scr sc_eq sc range_block zero_word)

/-- One head's rows: queries, keys, values and forget sums. -/
structure Head where
  Q : ℕ → Fin 128 → ℝ
  K : ℕ → Fin 128 → ℝ
  V : ℕ → Fin 128 → ℝ
  C : ℕ → ℝ

namespace Head
variable (H : Head)

/-- The score of key `k` under query `n`. -/
def s (k n : ℕ) : ℝ := (∑ d : Fin 128, H.K k d * (H.Q n d * scr)) + H.C n - H.C k

/-- Its exponential, `μ` taken off, where the key is not after the query. -/
def w (k n : ℕ) (μ : ℝ) : ℝ := if k ≤ n then Real.exp (H.s k n - μ) else 0

theorem w_shift (k n : ℕ) (μ ν : ℝ) : Real.exp (μ - ν) * H.w k n μ = H.w k n ν := by
  unfold w
  split
  · rw [← Real.exp_add]; congr 1; ring
  · rw [mul_zero]

theorem w_coe (k n : ℕ) (μ : ℝ) : Ideal.exp ((if k ≤ n then ((H.s k n : ℝ) : EReal) else ⊥) - ((μ : ℝ) : EReal)) = ((H.w k n μ : ℝ) : EReal) := by
  unfold w
  by_cases h : k ≤ n
  · rw [if_pos h, if_pos h, ← EReal.coe_sub, exp_coe]
  · rw [if_neg h, if_neg h, EReal.bot_sub, Ideal.exp_bot, EReal.coe_zero]

end Head

/-- The running maximum after a block of scores. -/
def mx (m : FVec Ideal S1x1024 .f32) (S : FVec Ideal S1024x1024 .f32) : FVec Ideal S1x1024 .f32 :=
  maximumf m (shapeCast S1x1024 (multiReduction .maximumf [0] S1024 S 0xFF800000#32 reduces_S1024x1024_S1024 (.inl rfl) rfl) shapeCasts_S1024_S1x1024)

/-- What the earlier blocks' sums are scaled by. -/
def al (m : FVec Ideal S1x1024 .f32) (S : FVec Ideal S1024x1024 .f32) : FVec Ideal S1x1024 .f32 := exp (subf m (mx m S))

/-- The block's exponentials. -/
def pr (m : FVec Ideal S1x1024 .f32) (S : FVec Ideal S1024x1024 .f32) : FVec Ideal S1024x1024 .f32 :=
  exp (subf S (broadcastTo S1024x1024 (mx m S) broadcasts_S1x1024_S1024x1024))

/-- The running sum. -/
def sm (m l : FVec Ideal S1x1024 .f32) (S : FVec Ideal S1024x1024 .f32) : FVec Ideal S1x1024 .f32 :=
  addf (mulf (al m S) l) (shapeCast S1x1024 (multiReduction .add [0] S1024 (pr m S) 0x00000000#32 reduces_S1024x1024_S1024 (.inl rfl) rfl) shapeCasts_S1024_S1x1024)

/-- The running output. -/
def ac (m : FVec Ideal S1x1024 .f32) (a : FVec Ideal S128x1024 .f32) (S : FVec Ideal S1024x1024 .f32) (v : FVec Ideal S128x1024 .bf16) : FVec Ideal S128x1024 .f32 :=
  addf (mulf (broadcastTo S128x1024 (al m S) broadcasts_S1x1024_S128x1024) a)
    (matmul dot_S128x1024_S1024x1024_S128x1024_1_0_0_1_n_n none v (truncf .bf16 (pr m S) bitsLt_bf16_f32) (constant S128x1024 .f32 0x00000000#32))

theorem neg_inf : Ideal.ofBits .f32 0xFF800000#32 = ⊥ := by simp [Ideal.ofBits, Ideal.ieee]

theorem mask_eq : (Named.named κ "mask" 0xF149F2CA#32 : Ideal .f32) = ⊥ := by simp [Named.named, κ]

section At
variable (m l : FVec Ideal S1x1024 .f32) (a : FVec Ideal S128x1024 .f32) (S : FVec Ideal S1024x1024 .f32) (v : FVec Ideal S128x1024 .bf16)

theorem mx_at (n : Fin 1024) : mx m S (ix2 0 n) = (show EReal from max (show EReal from m (ix2 0 n)) (Finset.fold max (⊥ : EReal) (fun r : Fin 1024 => (show EReal from S (ix2 r n))) Finset.univ)) := by
  pointwise [mx]
  rw [neg_inf]

theorem al_at (n : Fin 1024) : al m S (ix2 0 n) = (show EReal from Ideal.exp ((show EReal from m (ix2 0 n)) - (show EReal from mx m S (ix2 0 n)))) := by
  pointwise [al]

theorem pr_at (r n : Fin 1024) : pr m S (ix2 r n) = (show EReal from Ideal.exp ((show EReal from S (ix2 r n)) - (show EReal from mx m S (ix2 0 n)))) := by
  pointwise [pr]

theorem sm_at (n : Fin 1024) : sm m l S (ix2 0 n) = (show EReal from (show EReal from al m S (ix2 0 n)) * (show EReal from l (ix2 0 n)) + ∑ r : Fin 1024, (show EReal from pr m S (ix2 r n))) := by
  pointwise [sm]

theorem ac_at (d : Fin 128) (n : Fin 1024) : ac m a S v (ix2 d n) = (show EReal from (show EReal from al m S (ix2 0 n)) * (show EReal from a (ix2 d n)) + ∑ r : Fin 1024, (show EReal from v (ix2 d r)) * (show EReal from pr m S (ix2 r n))) := by
  pointwise [ac]

end At

/-- What stands after the keys of the blocks below `j`. -/
def Part (H : Head) (j i : ℕ) (m l : FVec Ideal S1x1024 .f32) (a : FVec Ideal S128x1024 .f32) : Prop :=
  ∀ n : Fin 1024, ∃ μ : ℝ, (m (ix2 0 n) = (show EReal from (μ : ℝ)) ∨ (m (ix2 0 n) = (show EReal from ⊥) ∧ j = 0))
    ∧ l (ix2 0 n) = (show EReal from ((∑ k ∈ Finset.range (1024 * j), H.w k (1024 * i + n.val) μ : ℝ)))
    ∧ ∀ d : Fin 128, a (ix2 d n) = (show EReal from ((∑ k ∈ Finset.range (1024 * j), H.V k d * H.w k (1024 * i + n.val) μ : ℝ)))

theorem part_zero (H : Head) (i : ℕ) : Part H 0 i (k0_pay26 (F := Ideal)) (k0_pay27 (F := Ideal)) (k0_pay28 (F := Ideal)) := by
  refine fun n => ⟨0, Or.inr ⟨?_, rfl⟩, ?_, fun d => ?_⟩
  · pointwise [k0_pay26]; exact mask_eq
  · pointwise [k0_pay27]; simp
  · pointwise [k0_pay28]; simp

variable {H : Head} {j i : ℕ} {m l : FVec Ideal S1x1024 .f32} {a : FVec Ideal S128x1024 .f32} {S : FVec Ideal S1024x1024 .f32} {v : FVec Ideal S128x1024 .bf16}

/-- One more block of keys. -/
theorem Part.step (h : Part H j i m l a) (hj : j ≤ i)
    (hS : ∀ r n : Fin 1024, S (ix2 r n) = (show EReal from if 1024 * j + r.val ≤ 1024 * i + n.val then ((H.s (1024 * j + r.val) (1024 * i + n.val) : ℝ) : EReal) else ⊥))
    (hv : ∀ (d : Fin 128) (r : Fin 1024), v (ix2 d r) = (show EReal from (H.V (1024 * j + r.val) d : ℝ))) :
    Part H (j + 1) i (mx m S) (sm m l S) (ac m a S v) := by
  intro n
  obtain ⟨μ, hm, hl, ha⟩ := h n
  have hM : ∃ ν : ℝ, mx m S (ix2 0 n) = (show EReal from (ν : ℝ)) := by
    rw [mx_at]
    have lt : max (show EReal from m (ix2 0 n)) (Finset.fold max (⊥ : EReal) (fun r : Fin 1024 => (show EReal from S (ix2 r n))) Finset.univ) < ⊤ := by
      refine max_lt ?_ ((Finset.fold_max_lt _).2 ⟨bot_lt_top, fun r _ => ?_⟩)
      · rcases hm with hm | ⟨hm, _⟩
        · rw [hm]; exact EReal.coe_lt_top _
        · rw [hm]; exact bot_lt_top
      · rw [hS]; split
        · exact EReal.coe_lt_top _
        · exact bot_lt_top
    have gt : ⊥ < max (show EReal from m (ix2 0 n)) (Finset.fold max (⊥ : EReal) (fun r : Fin 1024 => (show EReal from S (ix2 r n))) Finset.univ) := by
      refine lt_of_lt_of_le ((Finset.lt_fold_max _).2 (Or.inr ⟨0, Finset.mem_univ _, ?_⟩)) (le_max_right _ _)
      rw [hS, if_pos (by show 1024 * j + 0 ≤ 1024 * i + n.val; omega)]
      exact EReal.bot_lt_coe _
    exact ⟨_, (EReal.coe_toReal lt.ne gt.ne').symm⟩
  obtain ⟨ν, hν⟩ := hM
  have hA : ∃ α : ℝ, al m S (ix2 0 n) = (show EReal from (α : ℝ)) ∧ ∀ k < 1024 * j, α * H.w k (1024 * i + n.val) μ = H.w k (1024 * i + n.val) ν := by
    rw [al_at, hν]
    rcases hm with hm | ⟨hm, h0⟩
    · exact ⟨Real.exp (μ - ν), by rw [hm, ← EReal.coe_sub, exp_coe], fun k _ => H.w_shift k _ μ ν⟩
    · exact ⟨0, by rw [hm, EReal.bot_sub, Ideal.exp_bot, EReal.coe_zero], fun k hk => absurd hk (by omega)⟩
  obtain ⟨α, hα, hw⟩ := hA
  have hp : ∀ r : Fin 1024, pr m S (ix2 r n) = (show EReal from (H.w (1024 * j + r.val) (1024 * i + n.val) ν : ℝ)) := fun r => by
    rw [pr_at, hν, hS]; exact H.w_coe _ _ _
  refine ⟨ν, Or.inl hν, ?_, fun d => ?_⟩
  · rw [sm_at, hα, hl]
    simp only [hp]
    rw [← coe_sum, ← EReal.coe_mul, ← EReal.coe_add, ← range_block (fun k => H.w k (1024 * i + n.val) ν) j, Finset.mul_sum,
      Finset.sum_congr rfl fun k hk => hw k (Finset.mem_range.1 hk)]
  · rw [ac_at, hα, ha]
    simp only [hp, hv, ← EReal.coe_mul]
    rw [← coe_sum, ← EReal.coe_add, ← range_block (fun k => H.V k d * H.w k (1024 * i + n.val) ν) j, Finset.mul_sum,
      Finset.sum_congr rfl fun k hk => show α * (H.V k d * H.w k (1024 * i + n.val) μ) = H.V k d * H.w k (1024 * i + n.val) ν by
        rw [← hw k (Finset.mem_range.1 hk)]; ring]

section Score
variable {v3 : FVec Ideal S1024x128 .f32} {v11 : FVec Ideal S1x1x1024 .f32} {v71 : FVec Ideal S1024x128 .bf16} {v76 : FVec Ideal S1024x128 .f32}
  (hq : ∀ (n : Fin 1024) (d : Fin 128), v3 (ix2 n d) = (show EReal from (H.Q (1024 * i + n.val) d : ℝ)))
  (hc : ∀ n : Fin 1024, v11 (ix3 0 0 n) = (show EReal from (H.C (1024 * i + n.val) : ℝ)))
  (hk : ∀ (r : Fin 1024) (d : Fin 128), v71 (ix2 r d) = (show EReal from (H.K (1024 * j + r.val) d : ℝ)))
  (hg : ∀ (r : Fin 1024) (d : Fin 128), v76 (ix2 r d) = (show EReal from (H.C (1024 * j + r.val) : ℝ)))
include hq hc hk hg

theorem score_at (r n : Fin 1024) : k0_pay29 (F := Ideal) v3 v11 v71 v76 (ix2 r n)
    = (show EReal from (H.s (1024 * j + r.val) (1024 * i + n.val) : ℝ)) := by
  pointwise [k0_pay29, k0_pay24, k0_pay25]
  rw [show Ideal.ofBits .f32 0x3DB504F3#32 = (scr : EReal) from sc_eq]
  simp only [hq, hc, hk, hg, dite_eq_ite, ite_self, ← EReal.coe_mul]
  rw [← coe_sum, ← EReal.coe_add, ← EReal.coe_sub, Head.s]

/-- The scores of a block before the diagonal. -/
theorem block_at (hj : j < i) (r n : Fin 1024) : k0_pay29 (F := Ideal) v3 v11 v71 v76 (ix2 r n)
    = (show EReal from if 1024 * j + r.val ≤ 1024 * i + n.val then ((H.s (1024 * j + r.val) (1024 * i + n.val) : ℝ) : EReal) else ⊥) := by
  rw [if_pos (by omega)]
  exact score_at hq hc hk hg r n

/-- The scores of the diagonal block. -/
theorem diag_at (hj : j = i) (r n : Fin 1024) :
    k0_pay1 (F := Ideal) (k0_pay41 (F := Ideal) v3 v11 v71 v76) k0_pay42 (Named.named κ "mask" 0xF149F2CA#32) (ix2 r n)
    = (show EReal from if 1024 * j + r.val ≤ 1024 * i + n.val then ((H.s (1024 * j + r.val) (1024 * i + n.val) : ℝ) : EReal) else ⊥) := by
  subst hj
  have e : k0_pay41 (F := Ideal) v3 v11 v71 v76 (ix2 r n) = (show EReal from (H.s (1024 * j + r.val) (1024 * j + n.val) : ℝ)) := score_at hq hc hk hg r n
  generalize k0_pay41 (F := Ideal) v3 v11 v71 v76 = S at *
  pointwise [k0_pay1, k0_pay42]
  rw [WordCmp.cmpi_sle_ofNat (by omega) (by omega), e]
  by_cases h : r.val ≤ n.val
  · rw [if_pos (by omega)]
    simp only [h, decide_true, Scalar.select]
    rfl
  · rw [if_neg (by omega)]
    simp only [h, decide_false, Scalar.select]
    exact mask_eq

end Score

/-- What the diagonal block leaves in the output. -/
theorem y_at (S : FVec Ideal S1024x1024 .f32) (b : IVec S1024x1024 1) (z : Ideal .f32) (n : Fin 1024) (d : Fin 128) :
    k0_pay6 (F := Ideal) m l a S b z v (ix2 n d)
      = (show EReal from Ideal.div (ac m a (k0_pay1 S b z) v (ix2 d n)) (sm m l (k0_pay1 S b z) (ix2 0 n))) := by
  have e : k0_pay6 (F := Ideal) m l a S b z v = transpose S1024x128 [1, 0] (divf (ac m a (k0_pay1 S b z) v)
      (broadcastTo S128x1024 (sm m l (k0_pay1 S b z)) broadcasts_S1x1024_S128x1024)) transposes_S128x1024_p1_0_S1024x128 := rfl
  rw [e]
  pointwise

/-- What it leaves in the row's log-sum. -/
theorem e_at (S : FVec Ideal S1024x1024 .f32) (b : IVec S1024x1024 1) (z : Ideal .f32) (c : FVec Ideal S1x1024 .f32) (n : Fin 1024) :
    k0_pay7 (F := Ideal) c m l S b z (ix3 0 0 n)
      = (show EReal from (show EReal from c (ix2 0 n)) - ((show EReal from mx m (k0_pay1 S b z) (ix2 0 n)) + Ideal.log (sm m l (k0_pay1 S b z) (ix2 0 n)))) := by
  have e : k0_pay7 (F := Ideal) c m l S b z = shapeCast S1x1x1024 (subf c (addf (mx m (k0_pay1 S b z)) (log (sm m l (k0_pay1 S b z))))) shapeCasts_S1x1024_S1x1x1024 := rfl
  rw [e]
  pointwise

end Cert.AtfOwn

end
-- ==== Proof.AtfLoop.lean ====
module

public import proofs.«01_k».proof.Proof.AtfStep
public import proofs.«01_k».proof.Proof.AttnFirst
public import proofs.«01_k».proof.Proof.Gen.AttnFwdIdeal.Loops
public import Idealize.ShloMosaic.Lib.VecWindow
public import Idealize.ShloMosaic.Lib.WritesUnit
public import Idealize.ShloMosaic.Lib.Pipeline.ValueKit

/-! The attention forward's loop over the earlier key blocks, the diagonal block after it, and what is left. -/

@[expose] public section

set_option maxRecDepth 16384

noncomputable section

open Idealize.ShloMosaic Idealize.ShloMosaic.TcCoe

namespace Cert.AtfOwn

open Cert Cert.Reals Cert.AttnFwdIdeal Cert.AttnFwdIdeal.Gen
open Cert.AttnOwn (scr sc_eq sc range_block zero_word window2 window3 rows4 cols4)

section Read
variable {sig' : RefSig} {k' : Kind} {sp' : Space} {e : EltTy} {A B a b : ℕ}

/-- A load of a block, entry by entry. -/
theorem rd2 (v : View sig' k' sp' ⟨2, ![A, B]⟩ e) (X : v.ty.Contents (Elt Ideal)) {off : Fin 2 → ℕ} (o p : ℕ) (he : off = ![o, p])
    (inb : ∀ k, off k + (![a, b] : Fin 2 → ℕ) k ≤ (![A, B] : Fin 2 → ℕ) k) (r : Fin a) (l : Fin b) (y : Fin A) (z : Fin B)
    (hy : y.val = o + r.val) (hz : z.val = p + l.val) :
    v.readAt (Elt Ideal) (Rect.unit (s := ⟨2, ![A, B]⟩) off ![a, b] inb).toLoadRect X (ix2 r l) = v.read (Elt Ideal) X (ix2 y z) := by
  subst he
  have hA : o + r.val < A := hy ▸ y.isLt
  have hB : p + l.val < B := hz ▸ z.isLt
  rw [View.readAt_unit v _ inb rfl inb, show y = ⟨o + r.val, hA⟩ from Fin.ext hy, show z = ⟨p + l.val, hB⟩ from Fin.ext hz]
  exact window2 _ _ _ inb r l _ _

end Read

/-- A head's keys, values and forget sums as the body keeps them. -/
structure Held (H : Head) (k : FVec Ideal S4096x128 .bf16) (v : FVec Ideal S128x4096 .bf16) (c : FVec Ideal S4096x128 .f32) : Prop where
  k : ∀ (n : Fin 4096) (d : Fin 128), k (ix2 n d) = (show EReal from (H.K n.val d : ℝ))
  v : ∀ (d : Fin 128) (n : Fin 4096), v (ix2 d n) = (show EReal from (H.V n.val d : ℝ))
  c : ∀ (n : Fin 4096) (l : Fin 128), c (ix2 n l) = (show EReal from (H.C n.val : ℝ))

section Loop

variable (cd : Dev nD) (ic : grid0.Coords) (arg2 : Memref sig .tc .vmem S1024x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x1x4096 .f32) (harg6 : arg6.IsWhole) (arg7 : Memref sig .tc .vmem S1024x128 .f32) (harg7 : arg7.IsWhole) (arg8 : Memref sig .tc .vmem S1x1x1024 .f32) (harg8 : arg8.IsWhole) (arg9 : Memref sig .tc .vmem S4096x128 .bf16) (harg9 : arg9.IsWhole) (arg10 : Memref sig .tc .vmem S128x4096 .bf16) (harg10 : arg10.IsWhole) (arg11 : Memref sig .tc .vmem S4096x128 .f32) (harg11 : arg11.IsWhole)
  (v3 : FVec Ideal S1024x128 .f32) (v11 : FVec Ideal S1x1x1024 .f32)
  (X9 : BufTy.Contents (Elt Ideal) arg9.view.ty) (X10 : BufTy.Contents (Elt Ideal) arg10.view.ty) (X11 : BufTy.Contents (Elt Ideal) arg11.view.ty)

theorem trips1 : ∀ ic : grid0.Coords, (k0_t1_loop ic).trips = (ic 1).val := by decide +kernel
theorem trips2 : ∀ ic : grid0.Coords, (k0_t2_loop ic).trips = 0 := by decide +kernel

variable {H : Head} (hh : Held H (arg9.view.read (Elt Ideal) X9) (arg10.view.read (Elt Ideal) X10) (arg11.view.read (Elt Ideal) X11))
  (hq : ∀ (n : Fin 1024) (d : Fin 128), v3 (ix2 n d) = (show EReal from (H.Q (1024 * (ic 1).val + n.val) d : ℝ)))
  (hc : ∀ n : Fin 1024, v11 (ix3 0 0 n) = (show EReal from (H.C (1024 * (ic 1).val + n.val) : ℝ)))
include hh hq hc

theorem loop : ∀ k : ℕ, k ≤ (k0_t1_loop ic).trips →
    Part H k (ic 1).val (st_k0_t1 (F := Ideal) Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) k).1
      (st_k0_t1 (F := Ideal) Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) k).2.1
      (st_k0_t1 (F := Ideal) Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) k).2.2
  | 0, _ => part_zero H _
  | k + 1, hk1 => by
    have hp := loop k (by omega)
    have htr := trips1 ic
    have hj : (ic 1).val < 4 := (ic 1).isLt
    rw [st_k0_t1_succ Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) ⟨k, hk1⟩]
    dsimp only
    generalize st_k0_t1 (F := Ideal) Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) k = S at *
    unfold tripR_k0_t1 trip_k0_t1
    dsimp only
    exact hp.step (by omega)
      (block_at hq hc (fun r d => (rd2 arg9.view X9 _ _ (k0_off2_eq ic ⟨k, hk1⟩) _ r d ⟨1024 * k + r.val, by omega⟩ d rfl (by omega)).trans (hh.k _ _))
        (fun r d => (rd2 arg11.view X11 _ _ (k0_off2_eq ic ⟨k, hk1⟩) _ r d ⟨1024 * k + r.val, by omega⟩ d rfl (by omega)).trans (hh.c _ _)) (by omega))
      (fun d r => (rd2 arg10.view X10 _ _ (k0_off3_eq ic ⟨k, hk1⟩) _ d r d ⟨1024 * k + r.val, by omega⟩ (by omega) rfl).trans (hh.v _ _))

/-- The second loop makes no trip: what stands before the diagonal block. -/
theorem before (T : FVec Ideal S1x1024 .f32 × FVec Ideal S1x1024 .f32 × FVec Ideal S128x1024 .f32)
    (hT : T = st_k0_t1 (F := Ideal) Variants.none cd none ic arg2 harg2 arg3 harg3 arg4 harg4 arg5 harg5 arg6 harg6 arg7 harg7 arg8 harg8 arg9 harg9 arg10 harg10 arg11 harg11 v3 v11 X9 X10 X11 (k0_pay26, k0_pay27, k0_pay28) (k0_t1_loop ic).trips)
    (S : FVec Ideal S1x1024 .f32 × FVec Ideal S1x1024 .f32 × FVec Ideal S128x1024 .f32)
    (hS : S = st_k0_t2 (F := Ideal) Variants.none cd none ic arg2 harg2 arg3 harg3 arg4 harg4 arg5 harg5 arg6 harg6 arg7 harg7 arg8 harg8 arg9 harg9 arg10 harg10 arg11 harg11 v3 v11 X9 X10 X11 (T.1, T.2.1, T.2.2) (k0_t2_loop ic).trips) :
    Part H (ic 1).val (ic 1).val S.1 S.2.1 S.2.2 := by
  rw [trips2 ic, st_k0_t2_zero] at hS
  have h := loop cd ic arg2 harg2 arg3 harg3 arg4 harg4 arg5 harg5 arg6 harg6 arg7 harg7 arg8 harg8 arg9 harg9 arg10 harg10 arg11 harg11 v3 v11 X9 X10 X11 hh hq hc _ le_rfl
  rw [← hT] at h
  rw [hS]
  exact (trips1 ic) ▸ h

end Loop

namespace Head
variable (H : Head)

/-- The row's sum over the first keys. -/
def sum (n M : ℕ) : ℝ := ∑ k ∈ Finset.range M, H.w k n 0

/-- The row's output. -/
def y (n M : ℕ) (d : Fin 128) : ℝ := (∑ k ∈ Finset.range M, H.V k d * H.w k n 0) / H.sum n M

/-- The forget sum less the row's log-sum. -/
def e (n M : ℕ) : ℝ := H.C n - Real.log (H.sum n M)

theorem w_nonneg (k n : ℕ) (μ : ℝ) : 0 ≤ H.w k n μ := by
  unfold w; split
  · exact (Real.exp_pos _).le
  · exact le_rfl

theorem sum_pos (n M : ℕ) (h : n < M) : 0 < H.sum n M :=
  lt_of_lt_of_le (show 0 < H.w n n 0 by unfold w; rw [if_pos le_rfl]; exact Real.exp_pos _)
    (Finset.single_le_sum (f := fun k => H.w k n 0) (fun k _ => H.w_nonneg k n 0) (Finset.mem_range.2 h))

theorem sum_at (n M : ℕ) (μ : ℝ) : ∑ k ∈ Finset.range M, H.w k n μ = Real.exp (0 - μ) * H.sum n M := by
  rw [sum, Finset.mul_sum]
  exact Finset.sum_congr rfl fun k _ => (H.w_shift k n 0 μ).symm

theorem out_at (n M : ℕ) (μ : ℝ) (d : Fin 128) :
    ∑ k ∈ Finset.range M, H.V k d * H.w k n μ = Real.exp (0 - μ) * ∑ k ∈ Finset.range M, H.V k d * H.w k n 0 := by
  rw [Finset.mul_sum]
  exact Finset.sum_congr rfl fun k _ => by rw [← H.w_shift k n 0 μ]; ring

end Head

variable {H : Head} {i : ℕ} {m l : FVec Ideal S1x1024 .f32} {a : FVec Ideal S128x1024 .f32}

theorem Part.y (h : Part H (i + 1) i m l a) (n : Fin 1024) (d : Fin 128) :
    Ideal.div (a (ix2 d n)) (l (ix2 0 n)) = ((H.y (1024 * i + n.val) (1024 * (i + 1)) d : ℝ) : EReal) := by
  obtain ⟨μ, hm, hl, ha⟩ := h n
  have hp := H.sum_pos (1024 * i + n.val) (1024 * (i + 1)) (by omega)
  rw [ha, hl, H.sum_at, H.out_at, Head.y]
  rw [show ∀ x y : ℝ, Ideal.div (show EReal from (x : ℝ)) (show EReal from (y : ℝ)) = Ideal.div (x : EReal) (y : EReal) from fun _ _ => rfl,
    div_coe _ _ (mul_pos (Real.exp_pos _) hp).ne', mul_div_mul_left _ _ (Real.exp_pos _).ne']

theorem Part.e (h : Part H (i + 1) i m l a) (n : Fin 1024) :
    ((H.C (1024 * i + n.val) : ℝ) : EReal) - ((show EReal from m (ix2 0 n)) + Ideal.log (l (ix2 0 n)))
      = ((H.e (1024 * i + n.val) (1024 * (i + 1)) : ℝ) : EReal) := by
  obtain ⟨μ, hm, hl, ha⟩ := h n
  have hp := H.sum_pos (1024 * i + n.val) (1024 * (i + 1)) (by omega)
  have hm' : m (ix2 0 n) = (show EReal from (μ : ℝ)) := hm.resolve_right (fun h => by omega)
  rw [hm', hl, H.sum_at, Head.e, log_coe _ (mul_pos (Real.exp_pos _) hp), ← EReal.coe_add, ← EReal.coe_sub,
    Real.log_mul (Real.exp_pos _).ne' hp.ne', Real.log_exp]
  congr 1
  ring

section Last
variable {v3 : FVec Ideal S1024x128 .f32} {v11 : FVec Ideal S1x1x1024 .f32} {kb : FVec Ideal S1024x128 .bf16} {cb : FVec Ideal S1024x128 .f32}
  {vt : FVec Ideal S128x1024 .bf16} {c : FVec Ideal S1x1024 .f32}
  (hp : Part H i i m l a)
  (hq : ∀ (n : Fin 1024) (d : Fin 128), v3 (ix2 n d) = (show EReal from (H.Q (1024 * i + n.val) d : ℝ)))
  (hc : ∀ n : Fin 1024, v11 (ix3 0 0 n) = (show EReal from (H.C (1024 * i + n.val) : ℝ)))
  (hk : ∀ (r : Fin 1024) (d : Fin 128), kb (ix2 r d) = (show EReal from (H.K (1024 * i + r.val) d : ℝ)))
  (hg : ∀ (r : Fin 1024) (d : Fin 128), cb (ix2 r d) = (show EReal from (H.C (1024 * i + r.val) : ℝ)))
  (hv : ∀ (d : Fin 128) (r : Fin 1024), vt (ix2 d r) = (show EReal from (H.V (1024 * i + r.val) d : ℝ)))
include hp hq hc hk hg hv

theorem last_part : Part H (i + 1) i (mx m (k0_pay1 (k0_pay41 v3 v11 kb cb) k0_pay42 (Named.named κ "mask" 0xF149F2CA#32)))
    (sm m l (k0_pay1 (k0_pay41 v3 v11 kb cb) k0_pay42 (Named.named κ "mask" 0xF149F2CA#32)))
    (ac m a (k0_pay1 (k0_pay41 v3 v11 kb cb) k0_pay42 (Named.named κ "mask" 0xF149F2CA#32)) vt) :=
  hp.step le_rfl (diag_at hq hc hk hg rfl) hv

theorem last_y (n : Fin 1024) (d : Fin 128) :
    k0_pay6 (F := Ideal) m l a (k0_pay41 v3 v11 kb cb) k0_pay42 (Named.named κ "mask" 0xF149F2CA#32) vt (ix2 n d)
      = (show EReal from (H.y (1024 * i + n.val) (1024 * (i + 1)) d : ℝ)) := by
  rw [y_at]
  exact (last_part hp hq hc hk hg hv).y n d

theorem last_e (hx : ∀ n : Fin 1024, c (ix2 0 n) = (show EReal from (H.C (1024 * i + n.val) : ℝ))) (n : Fin 1024) :
    k0_pay7 (F := Ideal) c m l (k0_pay41 v3 v11 kb cb) k0_pay42 (Named.named κ "mask" 0xF149F2CA#32) (ix3 0 0 n)
      = (show EReal from (H.e (1024 * i + n.val) (1024 * (i + 1)) : ℝ)) := by
  rw [e_at, hx]
  exact (last_part hp hq hc hk hg hv).e n

end Last

section Fill
variable {x1 : FVec Ideal S4096x128 .f32}

theorem fill_k (o : ℕ) (inb) (r : Fin 1024) (d : Fin 128) (y : Fin 4096) (hy : y.val = o + r.val) :
    k0_pay8 (F := Ideal) (View.ld x1 (Rect.unit (s := S4096x128) ![o, 0] ![1024, 128] inb)) (ix2 r d) = x1 (ix2 y d) := by
  have hy' := y.isLt
  pointwise [k0_pay8]
  exact congrArg (fun p : Fin 4096 => x1 (ix2 p d)) (Fin.ext hy.symm)

theorem fill_v (o : ℕ) (inb) (r : Fin 1024) (d : Fin 128) (y : Fin 4096) (hy : y.val = o + r.val) :
    k0_pay9 (F := Ideal) (View.ld x1 (Rect.unit (s := S4096x128) ![o, 0] ![1024, 128] inb)) (ix2 d r) = x1 (ix2 y d) := by
  have hy' := y.isLt
  pointwise [k0_pay9]
  exact congrArg (fun p : Fin 4096 => x1 (ix2 p d)) (Fin.ext hy.symm)

theorem lane_c (w : FVec Ideal S1024x128 .f32) (r : Fin 1024) (l z : Fin 128) :
    k0_pay10 (F := Ideal) (BitVec.ofNat 32 z.val) w (ix2 r l) = w (ix2 r z) := by
  pointwise [k0_pay10]
  rw [Finset.sum_eq_single z]
  · rw [(WordCmp.cmpi_eq_ofNat_eq_one_iff (by omega) (by omega)).mpr rfl]
    rfl
  · intro x _ hx
    have hx' : x.val ≠ z.val := fun h => hx (Fin.ext h)
    have hne : IntOp.cmpi .eq (BitVec.ofNat 32 x.val) (BitVec.ofNat 32 z.val) ≠ 1#1 := by
      rw [WordCmp.cmpi_eq_eq_toNat]
      simp only [BitVec.toNat_ofNat]
      rw [Nat.mod_eq_of_lt (by omega), Nat.mod_eq_of_lt (by omega)]
      simp [hx']
    simp [Scalar.select, hne]
  · intro h; exact absurd (Finset.mem_univ _) h

theorem fill_c (o : ℕ) (inb) (r : Fin 1024) (l z : Fin 128) (y : Fin 4096) (hy : y.val = o + r.val) :
    k0_pay10 (F := Ideal) (BitVec.ofNat 32 z.val) (View.ld x1 (Rect.unit (s := S4096x128) ![o, 0] ![1024, 128] inb)) (ix2 r l) = x1 (ix2 y z) := by
  have hy' := y.isLt
  refine (lane_c _ r l z).trans ?_
  exact (window2 x1 o 0 inb r z (by omega) (by omega)).trans
    (congrArg₂ (fun (p : Fin 4096) (q : Fin 128) => x1 (ix2 p q)) (Fin.ext hy.symm) (Fin.ext (Nat.zero_add _)))

end Fill

end Cert.AtfOwn

end
-- ==== Proof.AtfHost.lean ====
module

public import proofs.«01_k».proof.Proof.AttnHost
public import proofs.«01_k».proof.Proof.Gen.AttnFwdIdeal.Value
public import Idealize.ShloMosaic.Lib.Pipeline.ReadBack
public import Idealize.ShloMosaic.Lib.Pointwise

/-! What the attention forward's host lines put in its windows. -/

@[expose] public section

set_option maxRecDepth 16384

noncomputable section

open Idealize.ShloMosaic Idealize.ShloMosaic.TcCoe

namespace Cert.AtfOwn

open Cert Cert.Reals Cert.AttnFwdIdeal Cert.AttnFwdIdeal.Gen
open Cert.AttnOwn (col hcat hproj hcat_read hproj_read pad_word)

variable (m : (ℓ : Loc nD τ sig) → Buf (Elt Ideal) ℓ) (c : Dev nD)

/-- The arguments, at their literal types. -/
abbrev A0 : FVec Ideal S4096x1024 .f32 := m ((c : Thread nD τ).loc main_arg0)
abbrev A1 : FVec Ideal S4096x1024 .f32 := m ((c : Thread nD τ).loc main_arg1)
abbrev A2 : FVec Ideal S4096x1024 .f32 := m ((c : Thread nD τ).loc main_arg2)
abbrev A3 : FVec Ideal S4096x8 .f32 := m ((c : Thread nD τ).loc main_arg3)

theorem entry_pad (r : Fin 4096) (l : Fin 128) : V m c main_v9 (ix2 r l)
    = (show EReal from if h : l.val < 8 then A3 m c (ix2 r ⟨l.val, h⟩) else 0) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise
  by_cases h : l.val < 8
  · rw [dif_pos h, dif_pos h]
  · rw [dif_neg h, dif_neg h, pad_word]

theorem entry_row (h : Fin 8) (n : Fin 4096) : V m c main_v12 (ix3 h 0 n) = A3 m c (ix2 n h) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise
  first
    | rw [dif_pos (by omega)]
    | skip

theorem entry_proj : V m c main_v8 = hproj (hcat (A0 m c) (A1 m c) (A2 m c)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  dsimp only [Matrix.cons_val]
  simp only [↓ StableHlo.readResult, ↓ StableHlo.readPieces, -eq_self]
  rfl

theorem idx : ∀ t : Fin cfg0.N, win0_0.index t = ![t.val % 4, 36 + 3 * (t.val / 4)] ∧ win0_1.index t = ![0, 37 + 3 * (t.val / 4)]
    ∧ win0_2.index t = ![0, 38 + 3 * (t.val / 4)] ∧ win0_3.index t = ![0, 0] ∧ win0_4.index t = ![t.val / 4, 0, 0]
    ∧ win0_5.index t = ![t.val % 4, t.val / 4] ∧ win0_6.index t = ![t.val / 4, 0, t.val % 4] :=
  (by decide +kernel : ∀ t : Fin grid0.N, _)

variable {m c}

theorem proj_at (n : Fin 4096) (l : Fin 7680) (h : Fin 8) (g : Fin 3) (d : Fin 128) (e : l.val = 4608 + h.val * 384 + g.val * 128 + d.val) :
    V m c main_v8 (ix2 n l) = (show EReal from if g.val < 1 then A0 m c (ix2 n (col h d)) else if g.val - 1 < 1 then A1 m c (ix2 n (col h d)) else A2 m c (ix2 n (col h d))) := by
  rw [entry_proj, hproj_read _ n l h g d e, hcat_read]

/-- The head of a point. -/
abbrev hd (t : Fin cfg0.N) : Fin 8 := ⟨t.val / 4, by have := lt_of_lt_of_eq t.isLt N_0; omega⟩

theorem blk_q (t : Fin cfg0.N) (r : Fin 1024) (d : Fin 128) : (iblk m c 0 t : FVec Ideal S1024x128 .f32) (ix2 r d) = A0 m c (ix2 ⟨1024 * (t.val % 4) + r.val, by omega⟩ (col (hd t) d)) := by
  have ht := lt_of_lt_of_eq t.isLt N_0
  blk_simp [iblk]
  rw [show (win0_0.blk t).view.emb (ix2 r d) = ix2 ⟨1024 * (t.val % 4) + r.val, by omega⟩ ⟨(36 + 3 * (t.val / 4)) * 128 + d.val, by omega⟩ by blk_ext [idx t],
    proj_at _ _ (hd t) 0 d (by simp only []; omega)]
  rfl

theorem blk_k (t : Fin cfg0.N) (n : Fin 4096) (d : Fin 128) : (iblk m c 1 t : FVec Ideal S4096x128 .f32) (ix2 n d) = A1 m c (ix2 n (col (hd t) d)) := by
  have ht := lt_of_lt_of_eq t.isLt N_0
  blk_simp [iblk]
  rw [show (win0_1.blk t).view.emb (ix2 n d) = ix2 n ⟨(37 + 3 * (t.val / 4)) * 128 + d.val, by omega⟩ by blk_ext [idx t],
    proj_at _ _ (hd t) 1 d (by simp only []; omega)]
  rfl

theorem blk_v (t : Fin cfg0.N) (n : Fin 4096) (d : Fin 128) : (iblk m c 2 t : FVec Ideal S4096x128 .f32) (ix2 n d) = A2 m c (ix2 n (col (hd t) d)) := by
  have ht := lt_of_lt_of_eq t.isLt N_0
  blk_simp [iblk]
  rw [show (win0_2.blk t).view.emb (ix2 n d) = ix2 n ⟨(38 + 3 * (t.val / 4)) * 128 + d.val, by omega⟩ by blk_ext [idx t],
    proj_at _ _ (hd t) 2 d (by simp only []; omega)]
  rfl

theorem blk_c (t : Fin cfg0.N) (n : Fin 4096) (l : Fin 128) (hl : l.val = t.val / 4) :
    (iblk m c 3 t : FVec Ideal S4096x128 .f32) (ix2 n l) = A3 m c (ix2 n (hd t)) := by
  have ht := lt_of_lt_of_eq t.isLt N_0
  blk_simp [iblk]
  rw [show (win0_3.blk t).view.emb (ix2 n l) = ix2 n l by blk_ext [idx t], entry_pad]
  show (if h : l.val < 8 then A3 m c (ix2 _ ⟨l.val, h⟩) else (0 : EReal)) = _
  rw [dif_pos (by omega)]
  exact congrArg (fun z : Fin 8 => A3 m c (ix2 _ z)) (Fin.ext hl)

theorem blk_r (t : Fin cfg0.N) (n : Fin 4096) : (iblk m c 4 t : FVec Ideal S1x1x4096 .f32) (ix3 0 0 n) = A3 m c (ix2 n (hd t)) := by
  have ht := lt_of_lt_of_eq t.isLt N_0
  blk_simp [iblk]
  rw [show (win0_4.blk t).view.emb (ix3 0 0 n) = ix3 (hd t) 0 n by blk_ext [idx t], entry_row]

end Cert.AtfOwn

end
-- ==== Proof.AtfPoint.lean ====
module

public import proofs.«01_k».proof.Proof.AtfLoop
public import proofs.«01_k».proof.Proof.AtfHost

/-! What each grid point of the attention forward leaves. -/

@[expose] public section

set_option maxRecDepth 16384

noncomputable section

open Idealize.ShloMosaic Idealize.ShloMosaic.TcCoe Idealize.SL.Sem

namespace Cert.AtfOwn

open Cert Cert.Reals Cert.AttnFwdIdeal Cert.AttnFwdIdeal.Gen
open Cert.AttnOwn (col rl rc Numbers num_at rows4 cols4)

/-- A head of the arguments. -/
def headOf (x0 x1 x2 : FVec Ideal S4096x1024 .f32) (x3 : FVec Ideal S4096x8 .f32) (h : Fin 8) : Head where
  Q n d := if hn : n < 4096 then rl x0 h ⟨n, hn⟩ d else 0
  K n d := if hn : n < 4096 then rl x1 h ⟨n, hn⟩ d else 0
  V n d := if hn : n < 4096 then rl x2 h ⟨n, hn⟩ d else 0
  C n := if hn : n < 4096 then rc x3 h ⟨n, hn⟩ else 0

variable {m : (ℓ : Loc nD τ sig) → Buf (Elt Ideal) ℓ} {c : Dev nD}

/-- The finite arguments. -/
structure Nums (m : (ℓ : Loc nD τ sig) → Buf (Elt Ideal) ℓ) (c : Dev nD) : Prop where
  h0 : Numbers (A0 m c)
  h1 : Numbers (A1 m c)
  h2 : Numbers (A2 m c)
  h3 : Numbers (A3 m c)

/-- The head of a point, with its rows. -/
abbrev HD (m : (ℓ : Loc nD τ sig) → Buf (Elt Ideal) ℓ) (c : Dev nD) (t : Fin cfg0.N) : Head := headOf (A0 m c) (A1 m c) (A2 m c) (A3 m c) (hd t)

theorem coord : ∀ t : Fin grid0.N, (grid0.coords t 1).val = t.val % 4 ∧ (grid0.coords t 0).val = t.val / 4 := by decide +kernel

section
variable (hN : Nums m c) (t : Fin cfg0.N)
include hN

theorem q_at (r : Fin 1024) (d : Fin 128) : (iblk m c 0 t : FVec Ideal S1024x128 .f32) (ix2 r d)
    = (show EReal from ((HD m c t).Q (1024 * (grid0.coords t 1).val + r.val) d : ℝ)) := by
  rw [blk_q, num_at hN.h0 _ (hd t) d _ rfl, (coord t).1]
  unfold HD headOf
  dsimp only
  rw [dif_pos (by omega)]

theorem k_at (n : Fin 4096) (d : Fin 128) : (iblk m c 1 t : FVec Ideal S4096x128 .f32) (ix2 n d) = (show EReal from ((HD m c t).K n.val d : ℝ)) := by
  rw [blk_k, num_at hN.h1 _ (hd t) d _ rfl]
  unfold HD headOf
  dsimp only
  rw [dif_pos n.isLt]

theorem v_at (n : Fin 4096) (d : Fin 128) : (iblk m c 2 t : FVec Ideal S4096x128 .f32) (ix2 n d) = (show EReal from ((HD m c t).V n.val d : ℝ)) := by
  rw [blk_v, num_at hN.h2 _ (hd t) d _ rfl]
  unfold HD headOf
  dsimp only
  rw [dif_pos n.isLt]

theorem c_at (n : Fin 4096) (l : Fin 128) (hl : l.val = (grid0.coords t 0).val) : (iblk m c 3 t : FVec Ideal S4096x128 .f32) (ix2 n l)
    = (show EReal from ((HD m c t).C n.val : ℝ)) := by
  rw [blk_c t n l (hl.trans (coord t).2), hN.h3]
  unfold HD headOf
  dsimp only
  rw [dif_pos n.isLt]
  rfl

theorem r_at (n : Fin 4096) : (iblk m c 4 t : FVec Ideal S1x1x4096 .f32) (ix3 0 0 n) = (show EReal from ((HD m c t).C n.val : ℝ)) := by
  rw [blk_r, hN.h3]
  unfold HD headOf
  dsimp only
  rw [dif_pos n.isLt]
  rfl

theorem lay_k (o : ℕ) (inb) (r : Fin 1024) (d : Fin 128) (n : ℕ) (ho : o + 1024 ≤ 4096) (hn : n = o + r.val) :
    k0_pay8 (F := Ideal) (View.ld (iblk m c 1 t : FVec Ideal S4096x128 .f32) (Rect.unit (s := S4096x128) ![o, 0] ![1024, 128] inb)) (ix2 r d)
      = (show EReal from ((HD m c t).K n d : ℝ)) := by
  subst hn
  exact (fill_k o inb r d ⟨o + r.val, by omega⟩ rfl).trans (k_at hN t _ d)

theorem lay_v (o : ℕ) (inb) (r : Fin 1024) (d : Fin 128) (n : ℕ) (ho : o + 1024 ≤ 4096) (hn : n = o + r.val) :
    k0_pay9 (F := Ideal) (View.ld (iblk m c 2 t : FVec Ideal S4096x128 .f32) (Rect.unit (s := S4096x128) ![o, 0] ![1024, 128] inb)) (ix2 d r)
      = (show EReal from ((HD m c t).V n d : ℝ)) := by
  subst hn
  exact (fill_v o inb r d ⟨o + r.val, by omega⟩ rfl).trans (v_at hN t _ d)

theorem lay_c (o : ℕ) (inb) (r : Fin 1024) (l : Fin 128) (n : ℕ) (ho : o + 1024 ≤ 4096) (hn : n = o + r.val) :
    k0_pay10 (F := Ideal) (BitVec.ofNat 32 (grid0.coords t 0).val) (View.ld (iblk m c 3 t : FVec Ideal S4096x128 .f32) (Rect.unit (s := S4096x128) ![o, 0] ![1024, 128] inb)) (ix2 r l)
      = (show EReal from ((HD m c t).C n : ℝ)) := by
  subst hn
  have h8 : (grid0.coords t 0).val < 8 := (grid0.coords t 0).isLt
  exact (fill_c o inb r l ⟨(grid0.coords t 0).val, by omega⟩ ⟨o + r.val, by omega⟩ rfl).trans (c_at hN t _ _ rfl)

/-- A head's first point lays its keys, values and forget sums in the scratches. -/
theorem held_A (h0 : t.val % 4 = 0) : Held (HD m c t) (outsAt0 m c t.val t.isLt).2.2.1 (outsAt0 m c t.val t.isLt).2.2.2.1 (outsAt0 m c t.val t.isLt).2.2.2.2 := by
  rw [outsAt0_A m c t h0]
  refine ⟨fun n d => ?_, fun d n => ?_, fun n l => ?_⟩
  · frame_out
    canon_tiles x h
    all_goals idx_vars x
    · obtain rfl : d = x1 := Fin.ext h1
      exact lay_k hN t 3072 _ x0 _ _ (by omega) h0
    · obtain rfl : d = x1 := Fin.ext h1
      exact lay_k hN t 2048 _ x0 _ _ (by omega) h0
    · obtain rfl : d = x1 := Fin.ext h1
      exact lay_k hN t 1024 _ x0 _ _ (by omega) h0
    · obtain rfl : d = x1 := Fin.ext h1
      exact lay_k hN t 0 _ x0 _ _ (by omega) (h0.trans (Nat.zero_add _).symm)
  · frame_out
    canon_tiles x h
    all_goals idx_vars x
    · obtain rfl : d = x0 := Fin.ext h0
      exact lay_v hN t 3072 _ x1 _ _ (by omega) h1
    · obtain rfl : d = x0 := Fin.ext h0
      exact lay_v hN t 2048 _ x1 _ _ (by omega) h1
    · obtain rfl : d = x0 := Fin.ext h0
      exact lay_v hN t 1024 _ x1 _ _ (by omega) h1
    · obtain rfl : d = x0 := Fin.ext h0
      exact lay_v hN t 0 _ x1 _ _ (by omega) (h1.trans (Nat.zero_add _).symm)
  · frame_out
    canon_tiles x h
    all_goals idx_vars x
    · exact lay_c hN t 3072 _ x0 _ _ (by omega) h0
    · exact lay_c hN t 2048 _ x0 _ _ (by omega) h0
    · exact lay_c hN t 1024 _ x0 _ _ (by omega) h0
    · exact lay_c hN t 0 _ x0 _ _ (by omega) (h0.trans (Nat.zero_add _).symm)

end

/-- The scratches keep the head's rows. -/
theorem held (hN : Nums m c) : ∀ (n : ℕ) (hn : n < cfg0.N), Held (HD m c ⟨n, hn⟩) (outsAt0 m c n hn).2.2.1 (outsAt0 m c n hn).2.2.2.1 (outsAt0 m c n hn).2.2.2.2
  | 0, hn => held_A hN ⟨0, hn⟩ rfl
  | n + 1, hn => by
    by_cases h0 : (n + 1) % 4 = 0
    · exact held_A hN ⟨n + 1, hn⟩ h0
    · have ih := held hN n (by omega)
      have e : (outsAt0 m c (n + 1) hn).2.2 = (outsAt0 m c n (by omega)).2.2 := by
        have := outsAt0_B m c ⟨n + 1, hn⟩ h0
        rw [show outsAt0 m c (n + 1) hn = _ from this]
        rfl
      have e' : HD m c ⟨n + 1, hn⟩ = HD m c ⟨n, by omega⟩ := congrArg (headOf (A0 m c) (A1 m c) (A2 m c) (A3 m c)) (Fin.ext (by show (n + 1) / 4 = n / 4; omega))
      rw [e, e']
      exact ih

end Cert.AtfOwn

end
-- ==== Proof.AtfOut.lean ====
module

public import proofs.«01_k».proof.Proof.AtfPoint

/-! What each grid point of the attention forward sends out. -/

@[expose] public section

set_option maxRecDepth 16384

noncomputable section

open Idealize.ShloMosaic Idealize.ShloMosaic.TcCoe Idealize.SL.Sem

namespace Cert.AtfOwn

open Cert Cert.Reals Cert.AttnFwdIdeal Cert.AttnFwdIdeal.Gen
open Cert.AttnOwn (rows4 cols4 window2 window3)

section
variable {α : EltTy} {A B a b : ℕ}

theorem ld2 (x : (⟨2, ![A, B]⟩ : Shape).Idx → Elt Ideal α) {off : Fin 2 → ℕ} (o p : ℕ) (he : off = ![o, p])
    (inb : ∀ k, off k + (![a, b] : Fin 2 → ℕ) k ≤ (![A, B] : Fin 2 → ℕ) k) (r : Fin a) (l : Fin b) (y : Fin A) (z : Fin B)
    (hy : y.val = o + r.val) (hz : z.val = p + l.val) :
    View.ld x (Rect.unit (s := ⟨2, ![A, B]⟩) off ![a, b] inb) (ix2 r l) = x (ix2 y z) := by
  subst he
  have hA : o + r.val < A := hy ▸ y.isLt
  have hB : p + l.val < B := hz ▸ z.isLt
  rw [show y = ⟨o + r.val, hA⟩ from Fin.ext hy, show z = ⟨p + l.val, hB⟩ from Fin.ext hz]
  exact window2 x o p inb r l hA hB

theorem ld3 (x : (⟨3, ![1, 1, B]⟩ : Shape).Idx → Elt Ideal α) {off : Fin 3 → ℕ} (p : ℕ) (he : off = ![0, 0, p])
    (inb : ∀ k, off k + (![1, 1, b] : Fin 3 → ℕ) k ≤ (![1, 1, B] : Fin 3 → ℕ) k) (l : Fin b) (z : Fin B) (hz : z.val = p + l.val) :
    View.ld x (Rect.unit (s := ⟨3, ![1, 1, B]⟩) off ![1, 1, b] inb) (ix3 0 0 l) = x (ix3 0 0 z) := by
  subst he
  have hB : p + l.val < B := hz ▸ z.isLt
  rw [show z = ⟨p + l.val, hB⟩ from Fin.ext hz]
  exact window3 x p inb l hB

end

variable {m : (ℓ : Loc nD τ sig) → Buf (Elt Ideal) ℓ} {c : Dev nD}

section
variable (hN : Nums m c) (t : Fin cfg0.N)

theorem row_lt (r : Fin 1024) : 1024 * (grid0.coords t 1).val + r.val < 4096 := by
  have : (grid0.coords t 1).val < 4 := (grid0.coords t 1).isLt
  omega

include hN in
theorem row_at (inb) (n : Fin 1024) : View.ld (iblk m c 4 t : FVec Ideal S1x1x4096 .f32) (Rect.unit (s := S1x1x4096) (k0_off1 (grid0.coords t)) ![1, 1, 1024] inb) (ix3 0 0 n)
    = (show EReal from ((HD m c t).C (1024 * (grid0.coords t 1).val + n.val) : ℝ)) :=
  (ld3 (α := .f32) _ _ (k0_off1_eq _) _ n ⟨_, row_lt t n⟩ rfl).trans (r_at hN t _)

variable {k : FVec Ideal S4096x128 .bf16} {v : FVec Ideal S128x4096 .bf16} {g : FVec Ideal S4096x128 .f32} (hh : Held (HD m c t) k v g)
include hh

theorem key_at (inb) (r : Fin 1024) (d : Fin 128) : View.ld (Val := Elt Ideal) (e' := .bf16) k (Rect.unit (s := S4096x128) (k0_off6 (grid0.coords t)) ![1024, 128] inb) (ix2 r d)
    = (show EReal from ((HD m c t).K (1024 * (grid0.coords t 1).val + r.val) d : ℝ)) :=
  (ld2 (α := .bf16) _ _ _ (k0_off6_eq _) _ r d ⟨_, row_lt t r⟩ d rfl (by omega)).trans (hh.k _ _)

theorem lane_at (inb) (r : Fin 1024) (d : Fin 128) : View.ld (Val := Elt Ideal) (e' := .f32) g (Rect.unit (s := S4096x128) (k0_off6 (grid0.coords t)) ![1024, 128] inb) (ix2 r d)
    = (show EReal from ((HD m c t).C (1024 * (grid0.coords t 1).val + r.val) : ℝ)) :=
  (ld2 (α := .f32) _ _ _ (k0_off6_eq _) _ r d ⟨_, row_lt t r⟩ d rfl (by omega)).trans (hh.c _ _)

theorem val_at (inb) (d : Fin 128) (r : Fin 1024) : View.ld (Val := Elt Ideal) (e' := .bf16) v (Rect.unit (s := S128x4096) (k0_off7 (grid0.coords t)) ![128, 1024] inb) (ix2 d r)
    = (show EReal from ((HD m c t).V (1024 * (grid0.coords t 1).val + r.val) d : ℝ)) :=
  (ld2 (α := .bf16) _ _ _ (k0_off7_eq _) _ d r d ⟨_, row_lt t r⟩ (by omega) rfl).trans (hh.v _ _)

end

section
variable (hN : Nums m c) (t : Fin cfg0.N)
include hN

/-- What the later points of a head find in the scratches. -/
theorem found (h0 : ¬ t.val % 4 = 0) : Held (HD m c t) (outsAt0 m c (t.val - 1) (by omega)).2.2.1 (outsAt0 m c (t.val - 1) (by omega)).2.2.2.1 (outsAt0 m c (t.val - 1) (by omega)).2.2.2.2 := by
  have h := held hN (t.val - 1) (by omega)
  have e : HD m c ⟨t.val - 1, by omega⟩ = HD m c t := congrArg (headOf (A0 m c) (A1 m c) (A2 m c) (A3 m c)) (Fin.ext (by show (t.val - 1) / 4 = t.val / 4; omega))
  rw [e] at h
  exact h

theorem row_out (n : Fin 1024) : k0_pay25 (F := Ideal) (View.ld (iblk m c 4 t : FVec Ideal S1x1x4096 .f32) (Rect.unit (s := S1x1x4096) (k0_off1 (grid0.coords t)) ![1, 1, 1024] (k0_off1_inb _))) (ix2 0 n)
      = (show EReal from ((HD m c t).C (1024 * (grid0.coords t 1).val + n.val) : ℝ)) := by
  refine Eq.trans ?_ (row_at hN t (k0_off1_inb _) n)
  generalize View.ld (iblk m c 4 t : FVec Ideal S1x1x4096 .f32) (Rect.unit (s := S1x1x4096) (k0_off1 (grid0.coords t)) ![1, 1, 1024] (k0_off1_inb _)) = w
  pointwise [k0_pay25]

theorem y_B (h0 : ¬ t.val % 4 = 0) (r : Fin 1024) (d : Fin 128) : (outsAt0 m c t.val t.isLt).1 (ix2 r d)
    = (show EReal from ((HD m c t).y (1024 * (grid0.coords t 1).val + r.val) (1024 * ((grid0.coords t 1).val + 1)) d : ℝ)) := by
  have hf := found hN t h0
  rw [outsAt0_B m c t h0]
  frame_out
  have hh : Held (HD m c t) (View.read (Elt Ideal) (View.whole cc0_scratch0) ((Memref.isWhole_whole cc0_scratch0).unread (outsAt0 m c (t.val - 1) (by omega)).2.2.1))
      (View.read (Elt Ideal) (View.whole cc0_scratch1) ((Memref.isWhole_whole cc0_scratch1).unread (outsAt0 m c (t.val - 1) (by omega)).2.2.2.1))
      (View.read (Elt Ideal) (View.whole cc0_scratch2) ((Memref.isWhole_whole cc0_scratch2).unread (outsAt0 m c (t.val - 1) (by omega)).2.2.2.2)) :=
    ⟨fun n d => (congrFun ((Memref.isWhole_whole cc0_scratch0).read_unread _) _).trans (hf.k n d),
      fun d n => (congrFun ((Memref.isWhole_whole cc0_scratch1).read_unread _) _).trans (hf.v d n),
      fun n l => (congrFun ((Memref.isWhole_whole cc0_scratch2).read_unread _) _).trans (hf.c n l)⟩
  exact last_y (before _ _ _ _ _ _ _ _ _ _ _ _ _ _ _ _ _ _ _ _ _ _ _ _ _ _ _ hh (q_at hN t) (row_at hN t _) _ rfl _ rfl)
    (q_at hN t) (row_at hN t _) (key_at t hh _) (lane_at t hh _) (val_at t hh _) r d

theorem e_B (h0 : ¬ t.val % 4 = 0) (r : Fin 1024) : (outsAt0 m c t.val t.isLt).2.1 (ix3 0 0 r)
    = (show EReal from ((HD m c t).e (1024 * (grid0.coords t 1).val + r.val) (1024 * ((grid0.coords t 1).val + 1)) : ℝ)) := by
  have hf := found hN t h0
  rw [outsAt0_B m c t h0]
  frame_out
  have hh : Held (HD m c t) (View.read (Elt Ideal) (View.whole cc0_scratch0) ((Memref.isWhole_whole cc0_scratch0).unread (outsAt0 m c (t.val - 1) (by omega)).2.2.1))
      (View.read (Elt Ideal) (View.whole cc0_scratch1) ((Memref.isWhole_whole cc0_scratch1).unread (outsAt0 m c (t.val - 1) (by omega)).2.2.2.1))
      (View.read (Elt Ideal) (View.whole cc0_scratch2) ((Memref.isWhole_whole cc0_scratch2).unread (outsAt0 m c (t.val - 1) (by omega)).2.2.2.2)) :=
    ⟨fun n d => (congrFun ((Memref.isWhole_whole cc0_scratch0).read_unread _) _).trans (hf.k n d),
      fun d n => (congrFun ((Memref.isWhole_whole cc0_scratch1).read_unread _) _).trans (hf.v d n),
      fun n l => (congrFun ((Memref.isWhole_whole cc0_scratch2).read_unread _) _).trans (hf.c n l)⟩
  exact last_e (before _ _ _ _ _ _ _ _ _ _ _ _ _ _ _ _ _ _ _ _ _ _ _ _ _ _ _ hh (q_at hN t) (row_at hN t _) _ rfl _ rfl)
    (q_at hN t) (row_at hN t _) (key_at t hh _) (lane_at t hh _) (val_at t hh (k0_off7_inb _)) (row_out hN t) r

end

section
variable (hN : Nums m c) (t : Fin cfg0.N)
include hN

set_option maxHeartbeats 2000000 in
theorem y_A (h0 : t.val % 4 = 0) (r : Fin 1024) (d : Fin 128) : (outsAt0 m c t.val t.isLt).1 (ix2 r d)
    = (show EReal from ((HD m c t).y (1024 * (grid0.coords t 1).val + r.val) (1024 * ((grid0.coords t 1).val + 1)) d : ℝ)) := by
  rw [outsAt0_A m c t h0]
  frame_out
  refine last_y (before _ _ _ _ _ _ _ _ _ _ _ _ _ _ _ _ _ _ _ _ _ _ _ _ _ _ _ ?hh (q_at hN t) (row_at hN t _) _ rfl _ rfl)
    (q_at hN t) (row_at hN t _) (key_at t ?hc _) (lane_at t ?hc _) (val_at t ?hc _) r d
  case hh =>
    refine ⟨fun n d => Eq.trans ?_ ((held_A hN t h0).k n d), fun d n => Eq.trans ?_ ((held_A hN t h0).v d n), fun n l => Eq.trans ?_ ((held_A hN t h0).c n l)⟩
    all_goals
      rw [outsAt0_A m c t h0]
      frame_out
  case hc =>
    refine ⟨fun n d => Eq.trans ?_ ((held_A hN t h0).k n d), fun d n => Eq.trans ?_ ((held_A hN t h0).v d n), fun n l => Eq.trans ?_ ((held_A hN t h0).c n l)⟩
    all_goals
      rw [outsAt0_A m c t h0]
      frame_out

set_option maxHeartbeats 2000000 in
theorem e_A (h0 : t.val % 4 = 0) (r : Fin 1024) : (outsAt0 m c t.val t.isLt).2.1 (ix3 0 0 r)
    = (show EReal from ((HD m c t).e (1024 * (grid0.coords t 1).val + r.val) (1024 * ((grid0.coords t 1).val + 1)) : ℝ)) := by
  rw [outsAt0_A m c t h0]
  frame_out
  refine last_e (before _ _ _ _ _ _ _ _ _ _ _ _ _ _ _ _ _ _ _ _ _ _ _ _ _ _ _ ?hh (q_at hN t) (row_at hN t _) _ rfl _ rfl)
    (q_at hN t) (row_at hN t _) (key_at t ?hc _) (lane_at t ?hc _) (val_at (v := (outsAt0 m c t.val t.isLt).2.2.2.1) t ?hc (k0_off7_inb _)) (row_out hN t) r
  case hh =>
    refine ⟨fun n d => Eq.trans ?_ ((held_A hN t h0).k n d), fun d n => Eq.trans ?_ ((held_A hN t h0).v d n), fun n l => Eq.trans ?_ ((held_A hN t h0).c n l)⟩
    all_goals
      rw [outsAt0_A m c t h0]
      frame_out
  case hc =>
    refine ⟨fun n d => Eq.trans ?_ ((held_A hN t h0).k n d), fun d n => Eq.trans ?_ ((held_A hN t h0).v d n), fun n l => Eq.trans ?_ ((held_A hN t h0).c n l)⟩
    all_goals
      first | exact rfl | (rw [outsAt0_A m c t h0]; frame_out)

theorem out_y (r : Fin 1024) (d : Fin 128) : (outsAt0 m c t.val t.isLt).1 (ix2 r d)
    = (show EReal from ((HD m c t).y (1024 * (grid0.coords t 1).val + r.val) (1024 * ((grid0.coords t 1).val + 1)) d : ℝ)) := by
  by_cases h0 : t.val % 4 = 0
  · exact y_A hN t h0 r d
  · exact y_B hN t h0 r d

theorem out_e (r : Fin 1024) : (outsAt0 m c t.val t.isLt).2.1 (ix3 0 0 r)
    = (show EReal from ((HD m c t).e (1024 * (grid0.coords t 1).val + r.val) (1024 * ((grid0.coords t 1).val + 1)) : ℝ)) := by
  by_cases h0 : t.val % 4 = 0
  · exact e_A hN t h0 r
  · exact e_B hN t h0 r

end

end Cert.AtfOwn

end
-- ==== Proof.AtfRef.lean ====
module

public import proofs.«01_k».proof.Proof.AttnRead
public import proofs.«01_k».proof.Proof.Gen.AttnFwdRefIdeal.Read

/-! The reference's attention output and row log-sums, in real numbers. -/

@[expose] public section

set_option maxRecDepth 16384

noncomputable section

open Idealize.ShloMosaic Idealize.ShloMosaic.TcCoe

namespace Cert.AtfOwn

open Cert Cert.Reals Cert.AttnFwdRefIdeal Cert.AttnFwdRefIdeal.Read
open Cert.AttnOwn (col rl rc Numbers sco ex tot prb big ex_coe tot_pos num_at)

theorem row_coe (a b c : ℝ) (hc : 0 < c) : (a : EReal) - ((b : EReal) + Ideal.log (c : EReal)) = ((a - (b + Real.log c) : ℝ) : EReal) := by
  rw [log_coe c hc, EReal.coe_sub, EReal.coe_add]

section
variable {x0 x1 x2 : FVec Ideal S4096x1024 .f32} {x3 : FVec Ideal S4096x8 .f32}
variable (h0 : Numbers x0) (h1 : Numbers x1) (h2 : Numbers x2) (h3 : Numbers x3)
include h0 h1 h3

theorem masked_read (h : Fin 8) (n k : Fin 4096) : val_main_v21 (F := Ideal) x0 x1 x3 (ix3 h n k)
    = (show EReal from if k ≤ n then ((sco x0 x1 x3 h n k : ℝ) : EReal) else ⊥) := by
  rw [show val_main_v21 (F := Ideal) x0 x1 x3 = AttnRefIdeal.Read.val_main_v21_0 (F := Ideal) x0 x1 x3 from rfl]
  exact Cert.AttnOwn.masked_read h0 h1 h3 h n k

theorem max_read (h : Fin 8) (n : Fin 4096) : val_main_v22 (F := Ideal) x0 x1 x3 (ix2 h n) = (show EReal from (big x0 x1 x3 h n : ℝ)) := by
  rw [show val_main_v22 (F := Ideal) x0 x1 x3 = AttnRefIdeal.Read.val_main_v22 (F := Ideal) x0 x1 x3 from rfl]
  exact Cert.AttnOwn.max_read h0 h1 h3 h n

theorem max2_read (h : Fin 8) (n : Fin 4096) : val_main_v36 (F := Ideal) x0 x1 x3 (ix2 h n) = (show EReal from (big x0 x1 x3 h n : ℝ)) := by
  rw [show val_main_v36 (F := Ideal) x0 x1 x3 = AttnRefIdeal.Read.val_main_v22 (F := Ideal) x0 x1 x3 from rfl]
  exact Cert.AttnOwn.max_read h0 h1 h3 h n

theorem exp_read (h : Fin 8) (n k : Fin 4096) : val_main_v28 (F := Ideal) x0 x1 x3 (ix3 h n k) = (show EReal from (ex x0 x1 x3 h n k : ℝ)) := by
  have e1 : idx_main_v26 (ix3 h n k) = ix3 h n 0 := by funext a; fin_cases a <;> rfl
  have e2 : idx_main_v25 (ix3 h n 0) = ix2 h n := by funext a; fin_cases a <;> rfl
  rw [val_main_v28_apply, val_main_v27_apply, val_main_v26_apply, e1, val_main_v25_apply, e2, val_main_v24_apply, val_main_v23_apply, max_read h0 h1 h3, masked_read h0 h1 h3]
  refine Eq.trans ?_ (ex_coe h0 h1 h3 h n k)
  refine congrArg (fun z : EReal => Ideal.exp ((if k ≤ n then ((sco x0 x1 x3 h n k : ℝ) : EReal) else ⊥) - z)) ?_
  show max (Ideal.ofBits .f32 0xFF800000#32) ((big x0 x1 x3 h n : ℝ) : EReal) = _
  rw [Cert.AttnOwn.neg_inf, max_eq_right bot_le]

theorem exp2_read (h : Fin 8) (n k : Fin 4096) : val_main_v41 (F := Ideal) x0 x1 x3 (ix3 h n k) = (show EReal from (ex x0 x1 x3 h n k : ℝ)) := by
  pointwise [val_main_v38, val_main_v39, val_main_v40, val_main_v41]
  rw [max2_read h0 h1 h3, masked_read h0 h1 h3]
  exact ex_coe h0 h1 h3 h n k

theorem sum_read (h : Fin 8) (n : Fin 4096) : val_main_v29 (F := Ideal) x0 x1 x3 (ix2 h n) = (show EReal from (tot x0 x1 x3 h n : ℝ)) := by
  pointwise [val_main_cst_3, val_main_v29]
  unfold tot
  rw [coe_sum]
  exact Finset.sum_congr rfl fun k _ => exp_read h0 h1 h3 h n k

theorem sum2_read (h : Fin 8) (n : Fin 4096) : val_main_v42 (F := Ideal) x0 x1 x3 (ix2 h n) = (show EReal from (tot x0 x1 x3 h n : ℝ)) := by
  pointwise [val_main_cst_5, val_main_v42]
  unfold tot
  rw [coe_sum]
  exact Finset.sum_congr rfl fun k _ => exp2_read h0 h1 h3 h n k

theorem prob_read (h : Fin 8) (n k : Fin 4096) : val_main_v32 (F := Ideal) x0 x1 x3 (ix3 h n k) = (show EReal from (prb x0 x1 x3 h n k : ℝ)) := by
  pointwise [val_main_v30, val_main_v31, val_main_v32]
  rw [sum_read h0 h1 h3, exp_read h0 h1 h3]
  exact div_coe _ _ (tot_pos x0 x1 x3 h n).ne'

theorem prob_at (h h' : Fin 8) (n k : Fin 4096) (e : h'.val = h.val) : val_main_v32 (F := Ideal) x0 x1 x3 (ix3 h' n k) = (show EReal from (prb x0 x1 x3 h n k : ℝ)) := by
  obtain rfl := Fin.ext e
  exact prob_read h0 h1 h3 h' n k

theorem e_read (h : Fin 8) (n : Fin 4096) : val_main_v48 (F := Ideal) x0 x1 x3 (ix3 h 0 n)
    = (show EReal from (rc x3 h n - (big x0 x1 x3 h n + Real.log (tot x0 x1 x3 h n)) : ℝ)) := by
  have e1 : idx_main_v48 (ix3 h 0 n) = ix2 h n := by funext a; fin_cases a <;> rfl
  have e2 : idx_main_v37 (ix2 h n) = ix2 n h := by funext a; fin_cases a <;> rfl
  rw [val_main_v48_apply, e1, val_main_v45_apply, val_main_v37_apply, e2, val_main_v44_apply, val_main_v43_apply, max2_read h0 h1 h3, sum2_read h0 h1 h3,
    show x3 (ix2 n h) = (show EReal from (rc x3 h n : ℝ)) from h3 _]
  exact row_coe _ _ _ (tot_pos x0 x1 x3 h n)

include h2 in
theorem y_read (n : Fin 4096) (h : Fin 8) (d : Fin 128) : val_main_v47 (F := Ideal) x0 x1 x2 x3 (ix2 n (col h d))
    = (show EReal from (∑ k, prb x0 x1 x3 h n k * rl x2 h k d : ℝ)) := by
  pointwise [val_main_v33, val_main_v34, val_main_v35, val_main_v46, val_main_v47]
  rw [coe_sum]
  refine Finset.sum_congr rfl fun k _ => ?_
  rw [EReal.coe_mul]
  exact congrArg₂ (fun a b : EReal => a * b) (prob_at h0 h1 h3 h _ n k (by simp only []; omega)) (num_at h2 k h d _ (by simp only []; omega))

end

end Cert.AtfOwn

end
-- ==== Proof.AtfFinal.lean ====
module

public import proofs.«01_k».proof.Proof.AtfOut
public import proofs.«01_k».proof.Proof.AtfRef
public import proofs.«01_k».proof.Proof.Gen.Pre_attf_finite
public import proofs.«01_k».proof.Defs

/-! The attention forward's result arrays are the reference's. -/

@[expose] public section

set_option maxRecDepth 16384

noncomputable section

open Idealize.ShloMosaic Idealize.ShloMosaic.TcCoe

namespace Cert.AtfOwn

open Cert Cert.Reals Cert.AttnFwdIdeal Cert.AttnFwdIdeal.Gen
open Cert.AttnOwn (col rl rc Numbers sco ex tot prb big tot_pos scr)

section
variable {x0 x1 x2 : FVec Ideal S4096x1024 .f32} {x3 : FVec Ideal S4096x8 .f32} (h : Fin 8) (n : Fin 4096)

theorem head_w (k : Fin 4096) : (headOf x0 x1 x2 x3 h).w k.val n.val 0 = Real.exp (big x0 x1 x3 h n) * ex x0 x1 x3 h n k := by
  unfold Head.w Head.s headOf ex
  dsimp only
  by_cases hk : k ≤ n
  · simp only [if_pos (Fin.le_def.1 hk), if_pos hk, dif_pos n.isLt, dif_pos k.isLt]
    rw [← Real.exp_add]
    unfold sco
    rw [Finset.sum_congr rfl fun d _ => mul_comm (rl x1 h k d) (rl x0 h n d * scr)]
    exact congrArg Real.exp (by ring)
  · rw [if_neg fun hh => hk (Fin.le_def.2 hh), if_neg hk, mul_zero]

/-- Keys after the query add nothing: a sum up to a block's end is the whole row's. -/
theorem whole_row (f : ℕ → ℝ) (g : Fin 4096 → ℝ) (M : ℕ) (hM : M ≤ 4096) (h0 : ∀ k, M ≤ k → f k = 0) (hf : ∀ k : Fin 4096, f k.val = g k) :
    ∑ k ∈ Finset.range M, f k = ∑ k, g k := by
  rw [← Finset.sum_congr rfl fun k _ => hf k, ← Finset.sum_range (fun k => f k)]
  exact Finset.sum_subset (Finset.range_mono hM) fun k _ hk => h0 k (not_lt.1 fun hh => hk (Finset.mem_range.2 hh))

theorem w_after (H : Head) (k i : ℕ) (hk : i < k) : H.w k i 0 = 0 := by
  unfold Head.w; exact if_neg (by omega)

variable (M : ℕ) (hn : n.val < M) (hM : M ≤ 4096)
include hn hM

theorem head_sum : (headOf x0 x1 x2 x3 h).sum n.val M = Real.exp (big x0 x1 x3 h n) * tot x0 x1 x3 h n := by
  unfold Head.sum tot
  rw [Finset.mul_sum]
  exact whole_row _ _ M hM (fun k hk => w_after _ k n.val (by omega)) (head_w h n)

theorem head_y (d : Fin 128) : (headOf x0 x1 x2 x3 h).y n.val M d = ∑ k, prb x0 x1 x3 h n k * rl x2 h k d := by
  have e : ∑ k ∈ Finset.range M, (headOf x0 x1 x2 x3 h).V k d * (headOf x0 x1 x2 x3 h).w k n.val 0
      = ∑ k, rl x2 h k d * (Real.exp (big x0 x1 x3 h n) * ex x0 x1 x3 h n k) :=
    whole_row _ _ M hM (fun k hk => by rw [w_after _ k n.val (by omega), mul_zero]) fun k => by
      rw [head_w]
      unfold headOf
      simp only [dif_pos k.isLt]
  unfold Head.y
  rw [e, head_sum h n M hn hM, Finset.sum_div]
  refine Finset.sum_congr rfl fun k _ => ?_
  have ht := (tot_pos x0 x1 x3 h n).ne'
  have he := (Real.exp_pos (big x0 x1 x3 h n)).ne'
  unfold prb
  field_simp

theorem head_e : (headOf x0 x1 x2 x3 h).e n.val M = rc x3 h n - (big x0 x1 x3 h n + Real.log (tot x0 x1 x3 h n)) := by
  unfold Head.e
  rw [head_sum h n M hn hM, Real.log_mul (Real.exp_pos _).ne' (tot_pos x0 x1 x3 h n).ne', Real.log_exp]
  unfold headOf
  simp only [dif_pos n.isLt]

end

variable {m : (ℓ : Loc nD τ sig) → Buf (Elt Ideal) ℓ} {c : Dev nD}

/-- The reference's results. -/
abbrev R5 (m : (ℓ : Loc nD τ sig) → Buf (Elt Ideal) ℓ) (c : Dev nD) : FVec Ideal S4096x1024 .f32 :=
  AttnFwdRefIdeal.Read.val_main_v47 (F := Ideal) (A0 m c) (A1 m c) (A2 m c) (A3 m c)
abbrev R6 (m : (ℓ : Loc nD τ sig) → Buf (Elt Ideal) ℓ) (c : Dev nD) : FVec Ideal S8x1x4096 .f32 :=
  AttnFwdRefIdeal.Read.val_main_v48 (F := Ideal) (A0 m c) (A1 m c) (A3 m c)

theorem block5 (hN : Nums m c) (t : Fin cfg0.N) (r : Fin 1024) (d : Fin 128) (n : Fin 4096) (hn : n.val = 1024 * (t.val % 4) + r.val) :
    (outsAt0 m c t.val t.isLt).1 (ix2 r d) = R5 m c (ix2 n (col (hd t) d)) := by
  refine Eq.trans ?_ (y_read hN.h0 hN.h1 hN.h2 hN.h3 n (hd t) d).symm
  rw [out_y hN t r d, (coord t).1, ← hn, head_y (hd t) n _ (by omega) (by omega)]

theorem block6 (hN : Nums m c) (t : Fin cfg0.N) (r : Fin 1024) (n : Fin 4096) (hn : n.val = 1024 * (t.val % 4) + r.val) :
    (outsAt0 m c t.val t.isLt).2.1 (ix3 0 0 r) = R6 m c (ix3 (hd t) 0 n) := by
  refine Eq.trans ?_ (e_read hN.h0 hN.h1 hN.h3 (hd t) n).symm
  rw [out_e hN t r, (coord t).1, ← hn, head_e (hd t) n _ (by omega) (by omega)]

theorem final5 (hN : Nums m c) : (dats m 0 c).arrAt 5 (cfgs 0).N = R5 m c := by
  refine (dats m 0 c).arrAt_eq_of_covers 5 _ (by decide +kernel) fun t _ y => ?_
  blk_simp
  rw [after0_5]
  idx_vars y
  have ht := lt_of_lt_of_eq t.isLt N_0
  rw [show (win0_5.blk t).view.emb (ix2 y0 y1) = ix2 ⟨1024 * (t.val % 4) + y0.val, by omega⟩ (col (hd t) y1) by unfold col hd; blk_ext [idx t]]
  exact block5 hN t y0 y1 _ rfl

theorem final6 (hN : Nums m c) : (dats m 0 c).arrAt 6 (cfgs 0).N = R6 m c := by
  refine (dats m 0 c).arrAt_eq_of_covers 6 _ (by decide +kernel) fun t _ y => ?_
  blk_simp
  rw [after0_6]
  idx_vars y
  have ht := lt_of_lt_of_eq t.isLt N_0
  rw [show (win0_6.blk t).view.emb (ix3 y0 y1 y2) = ix3 (hd t) 0 ⟨1024 * (t.val % 4) + y2.val, by omega⟩ by blk_ext [idx t],
    show y0 = 0 from Subsingleton.elim _ _, show y1 = 0 from Subsingleton.elim _ _]
  exact block6 hN t y2 _ rfl

theorem nums (h : Pre_AttnFwdIdeal_attf_finite m) : Nums m c := by
  have h := h c
  simp only [Cert.Pre_attf_finite.fn] at h
  obtain ⟨h0, h1, h2, h3⟩ := h
  obtain ⟨x0, e0⟩ := real_array _ _ h0
  obtain ⟨x1, e1⟩ := real_array _ _ h1
  obtain ⟨x2, e2⟩ := real_array _ _ h2
  obtain ⟨x3, e3⟩ := real_array _ _ h3
  refine ⟨fun i => ?_, fun i => ?_, fun i => ?_, fun i => ?_⟩
  · rw [show A0 m c i = (x0 i : EReal) from congrFun e0 i, EReal.toReal_coe]
  · rw [show A1 m c i = (x1 i : EReal) from congrFun e1 i, EReal.toReal_coe]
  · rw [show A2 m c i = (x2 i : EReal) from congrFun e2 i, EReal.toReal_coe]
  · rw [show A3 m c i = (x3 i : EReal) from congrFun e3 i, EReal.toReal_coe]

theorem final_y (h : Pre_AttnFwdIdeal_attf_finite m) : (dats m 0 c).arrAt 5 (cfgs 0).N = R5 m c := final5 (nums h)

theorem final_e (h : Pre_AttnFwdIdeal_attf_finite m) : (dats m 0 c).arrAt 6 (cfgs 0).N = R6 m c := final6 (nums h)

end Cert.AtfOwn

end
-- ==== Proof.AtfPair.lean ====
module

public import proofs.«01_k».proof.Proof.AtfFinal
public import proofs.«01_k».proof.Proof.Gen.AttnFwdIdeal.Value
public import proofs.«01_k».proof.Proof.Gen.AttnFwdRefIdeal.Run
public import Idealize.ShloMosaic.Adequacy
public import Idealize.ShloMosaic.Init

/-! The attention's forward call and its reference agree. -/

@[expose] public section

noncomputable section

namespace Cert.Proof

open Idealize.ShloMosaic Idealize.SL.Sem

set_option maxHeartbeats 4000000 in
theorem attention_forward : Cert.algebraic_AttnFwdIdeal_AttnFwdRefIdeal_pre_attf_finite := by
  pair_intro
  · run_from Cert.AttnFwdIdeal.Gen.run_main m g
    all_goals first
      | exact Cert.AttnFwdIdeal.Gen.V_main_arg0 m c
      | exact Cert.AttnFwdIdeal.Gen.V_main_arg1 m c
      | exact Cert.AttnFwdIdeal.Gen.V_main_arg2 m c
      | exact Cert.AttnFwdIdeal.Gen.V_main_arg3 m c
  · run_from Cert.AttnFwdRefIdeal.Value.run m' g'
    · rw [Cert.AttnFwdRefIdeal.Read.val_main_v47_eq, (hagree c).1, (hagree c).2.1, (hagree c).2.2.1, (hagree c).2.2.2]
      exact (Cert.AtfOwn.final_y hpre).symm
    · rw [Cert.AttnFwdRefIdeal.Read.val_main_v48_eq, (hagree c).1, (hagree c).2.1, (hagree c).2.2.2]
      exact (Cert.AtfOwn.final_e hpre).symm

end Cert.Proof

end
-- ==== Proof.LossPay.lean ====
module

public import proofs.«01_k».proof.Proof.Gen.LossBwdIdeal.Skeleton
public import Idealize.ShloMosaic.Lib.Pointwise
public import proofs.«01_k».proof.Proof.Norms

/-! What the payloads of the loss's call leave, at blocks of real entries. -/

@[expose] public section

set_option maxRecDepth 16384

noncomputable section

open Idealize.ShloMosaic

namespace Cert.LossOwn

open Cert Cert.Reals Cert.Norms Cert.LossBwdIdeal Cert.LossBwdIdeal.Gen

/-- A row's difference to the target, from the row before the norm. -/
def off (o x t g : Fin 1024 → ℝ) (j : Fin 1024) : ℝ := x j + o j * scl o * g j - t j

theorem pay3_at (O X T : FVec Ideal S512x1024 .f32) (G : FVec Ideal S1x1024 .f32) (o x t g : Fin 1024 → ℝ) (i : Fin 512)
    (ho : ∀ j, O (ix2 i j) = (o j : EReal)) (hx : ∀ j, X (ix2 i j) = (x j : EReal)) (ht : ∀ j, T (ix2 i j) = (t j : EReal))
    (hg : ∀ j, G (ix2 0 j) = (g j : EReal)) (j : Fin 1024) :
    k0_pay3 (F := Ideal) O X G T (ix2 i j) = (off o x t g j : EReal) := by
  pointwise [k0_pay3, ho, hx, ht, hg]
  rw [scl_val (fun e => (o e : EReal)) o (fun _ => rfl)]
  unfold off
  simp only [EReal.coe_add, EReal.coe_sub, EReal.coe_mul]

theorem pay4_at (O X T : FVec Ideal S512x1024 .f32) (G : FVec Ideal S1x1024 .f32) (o x t g : Fin 1024 → ℝ) (i : Fin 512)
    (ho : ∀ j, O (ix2 i j) = (o j : EReal)) (hx : ∀ j, X (ix2 i j) = (x j : EReal)) (ht : ∀ j, T (ix2 i j) = (t j : EReal))
    (hg : ∀ j, G (ix2 0 j) = (g j : EReal)) (j : Fin 1024) :
    k0_pay4 (F := Ideal) O X G T (ix2 i j) = ((off o x t g j / 1024 : ℝ) : EReal) := by
  pointwise [k0_pay4, pay3_at O X T G o x t g i ho hx ht hg]
  exact mean_val _

theorem pay5_at (X : FVec Ideal S512x1024 .f32) (x : Fin 1024 → ℝ) (i : Fin 512) (h : ∀ j, X (ix2 i j) = (x j : EReal)) :
    k0_pay5 (F := Ideal) X (ix2 i 0) = (scl x : EReal) := by
  pointwise [k0_pay5]
  exact scl_val _ x h

theorem pay8_at (O X T : FVec Ideal S512x1024 .f32) (G : FVec Ideal S1x1024 .f32) (o x t g : Fin 1024 → ℝ) (i : Fin 512)
    (ho : ∀ j, O (ix2 i j) = (o j : EReal)) (hx : ∀ j, X (ix2 i j) = (x j : EReal)) (ht : ∀ j, T (ix2 i j) = (t j : EReal))
    (hg : ∀ j, G (ix2 0 j) = (g j : EReal)) (j : Fin 1024) :
    k0_pay8 (F := Ideal) O (k0_pay5 O) (k0_pay6 O X G T G) (k0_pay7 O X G T G) (ix2 i j) = (back (fun e => off o x t g e / 1024 * g e) o j : EReal) := by
  pointwise [k0_pay8, k0_pay7, k0_pay6, pay5_at O o i ho, pay4_at O X T G o x t g i ho hx ht hg, ho, hg]
  rw [← back_val' (fun e => off o x t g e / 1024 * g e) o j]
  simp only [EReal.coe_mul]

theorem pay11_at (W : FVec Ideal S512x1024 .f32) (A : FVec Ideal S1x1 .f32) (w : Fin 512 → Fin 1024 → ℝ) (a : ℝ)
    (hw : ∀ i j, W (ix2 i j) = (w i j : EReal)) (ha : A (ix2 0 0) = (a : EReal)) :
    k0_pay11 (F := Ideal) W A (ix2 0 0) = ((a + ∑ i, 1 / 2 * ((∑ j, w i j * w i j) / 1024) : ℝ) : EReal) := by
  pointwise [k0_pay11, hw, ha]
  rw [← Finset.mul_sum, EReal.coe_add, EReal.coe_mul, coe_sum, pos_half_word]
  simp only [← EReal.coe_mul, ← coe_sum, mean_val]

theorem pay12_at (Z X : FVec Ideal S512x1024 .f32) (A : FVec Ideal S1x1024 .f32) (z x : Fin 512 → Fin 1024 → ℝ) (a : Fin 1024 → ℝ)
    (hz : ∀ i j, Z (ix2 i j) = (z i j : EReal)) (h : ∀ i j, X (ix2 i j) = (x i j : EReal)) (ha : ∀ j, A (ix2 0 j) = (a j : EReal)) (j : Fin 1024) :
    k0_pay12 (F := Ideal) X Z (k0_pay5 X) A (ix2 0 j) = ((a j + ∑ i, z i j * (x i j * scl (x i)) : ℝ) : EReal) := by
  pointwise [k0_pay12, hz, h, ha, pay5_at X _ _ (h _)]
  rw [EReal.coe_add, coe_sum]
  simp only [← EReal.coe_mul]

theorem pay2_at (A : FVec Ideal S512x1024 .f32) (P : FVec Ideal S512x1408 .bf16) (Q : FVec Ideal S1408x1024 .bf16) (i : Fin 512) (j : Fin 1024)
    (a : ℝ) (p q : ℕ → ℝ) (b : ℕ) (ha : A (ix2 i j) = (a : EReal)) (hp : ∀ k : Fin 1408, P (ix2 i k) = (p (b + k.val) : EReal))
    (hq : ∀ k : Fin 1408, Q (ix2 k j) = (q (b + k.val) : EReal)) (hb : a = ∑ k ∈ Finset.range b, p k * q k) :
    k0_pay2 (F := Ideal) A P Q (ix2 i j) = ((∑ k ∈ Finset.range (b + 1408), p k * q k : ℝ) : EReal) := by
  pointwise [k0_pay2, hp, hq, ha]
  rw [Finset.sum_range_add, ← hb, EReal.coe_add, Finset.sum_range, coe_sum]
  simp only [← EReal.coe_mul]

theorem pay1_at (i : S512x1024.Idx) : k0_pay1 (F := Ideal) i = ((0 : ℝ) : EReal) := by
  idx_vars i; pointwise [k0_pay1]; exact EReal.coe_zero.symm

/-- The arguments' entries as real numbers. -/
structure Args where
  act : Fin 4096 → Fin 2816 → ℝ
  wd : Fin 2816 → Fin 1024 → ℝ
  (x t : Fin 4096 → Fin 1024 → ℝ)
  gp : Fin 1024 → ℝ

namespace Args
variable (N : Args)

def p (r : Fin 4096) (n : ℕ) : ℝ := if h : n < 2816 then N.act r ⟨n, h⟩ else 0
def q (d : Fin 1024) (n : ℕ) : ℝ := if h : n < 2816 then N.wd ⟨n, h⟩ d else 0
/-- The product's rows, the rows' differences to the target, and what the call writes. -/
def o (r : Fin 4096) (d : Fin 1024) : ℝ := ∑ n ∈ Finset.range 2816, N.p r n * N.q d n
def err (r : Fin 4096) (d : Fin 1024) : ℝ := off (N.o r) (N.x r) (N.t r) N.gp d
def dy (r : Fin 4096) (d : Fin 1024) : ℝ := N.err r d / 1024
def dO (r : Fin 4096) (d : Fin 1024) : ℝ := back (fun e => N.dy r e * N.gp e) (N.o r) d
def gpRow (r : Fin 4096) (d : Fin 1024) : ℝ := N.dy r d * (N.o r d * scl (N.o r))
def lossRow (r : Fin 4096) (_ : Fin 1024) : ℝ := 1 / 2 * ((∑ j, N.err r j * N.err r j) / 1024)

theorem o_eq (r : Fin 4096) (d : Fin 1024) : N.o r d = ∑ k, N.act r k * N.wd k d := by
  rw [o, Finset.sum_range]
  refine Finset.sum_congr rfl fun k _ => ?_
  unfold p q
  rw [dif_pos k.isLt, dif_pos k.isLt]

end Args

/-- The arrays whose entries these numbers are. -/
structure Is (N : Args) (a0 : FVec Ideal S4096x2816 .bf16) (a1 : FVec Ideal S2816x1024 .f32) (a2 : FVec Ideal S4096x1024 .f32)
    (a3 : FVec Ideal S1024 .f32) (a4 : FVec Ideal S4096x1024 .f32) : Prop where
  act : ∀ r k, a0 (ix2 r k) = (N.act r k : EReal)
  wd : ∀ k d, a1 (ix2 k d) = (N.wd k d : EReal)
  x : ∀ r d, a2 (ix2 r d) = (N.x r d : EReal)
  gp : ∀ d, a3 (ix1 d) = (N.gp d : EReal)
  t : ∀ r d, a4 (ix2 r d) = (N.t r d : EReal)

end Cert.LossOwn

end
-- ==== Proof.LossHost.lean ====
module

public import proofs.«01_k».proof.Proof.Gen.LossBwdIdeal.Frame
public import Idealize.ShloMosaic.Lib.Pipeline.ValueKit
public import Idealize.ShloMosaic.Lib.Pointwise
public import proofs.«01_k».proof.Proof.LossPay

/-! The arrays the loss's call is entered with, and its blocks. -/

@[expose] public section

set_option maxRecDepth 16384

noncomputable section

open Idealize.ShloMosaic Idealize.ShloMosaic.TcCoe Idealize.SL.Sem
open Idealize.ShloMosaic.Pipeline (Dat)

namespace Cert.LossOwn

open Cert Cert.Reals Cert.Norms Cert.LossBwdIdeal Cert.LossBwdIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![t.val / 2, 0]
    ∧ win0_5.index t = ![t.val / 2, 0] ∧ win0_6.index t = ![t.val / 2, 0] ∧ win0_7.index t = ![0, 0] ∧ win0_8.index t = ![t.val / 2, 0]
    ∧ win0_9.index t = ![0, 0] :=
  (by decide +kernel : ∀ t : Fin grid0.N, _)

/-- The row of the arrays that row `i` of the blocks at point `t` is. -/
abbrev row (t : Fin cfg0.N) (i : Fin 512) : Fin 4096 := ⟨t.val / 2 * 512 + i.val, by have := lt_of_lt_of_eq t.isLt N_0; omega⟩

abbrev A0 : FVec Ideal S4096x2816 .bf16 := m ((c : Thread nD τ).loc main_arg0)
abbrev A1 : FVec Ideal S2816x1024 .f32 := m ((c : Thread nD τ).loc main_arg1)
abbrev A2 : FVec Ideal S4096x1024 .f32 := m ((c : Thread nD τ).loc main_arg2)
abbrev A3 : FVec Ideal S1024 .f32 := m ((c : Thread nD τ).loc main_arg3)
abbrev A4 : FVec Ideal S4096x1024 .f32 := m ((c : Thread nD τ).loc main_arg4)

/-- The call's arguments have these real entries. -/
abbrev Num (N : Args) : Prop := Is N (A0 m c) (A1 m c) (A2 m c) (A3 m c) (A4 m c)

variable {m c} {N : Args} (hN : Num m c N)

theorem entry_w (k : Fin 2816) (d : Fin 1024) : V m c main_v0 (ix2 k d) = (show EReal from A1 m c (ix2 k d)) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  pointwise

theorem entry_post (d : Fin 1024) : V m c main_v1 (ix2 0 d) = (show EReal from A3 m c (ix1 d)) := by
  unfold V
  simp only [List.flatten_cons, List.flatten_nil, List.append_nil, List.cons_append, List.nil_append, hostOps0, StableHlo.TRef.binary, StableHlo.TRef.ternary, StableHlo.TRef.nullary, StableHlo.TRef.unary, StableHlo.TRef.toBuf, StableHlo.TRef.ofBuf, cast_eq]
  after_results
  pointwise

include hN

theorem blk0 (t : Fin cfg0.N) (i : Fin 512) (k : Fin 1408) : iblk m c 0 t (ix2 i k) = (N.p (row t i) (1408 * (t.val % 2) + k.val) : EReal) := by
  have ht := lt_of_lt_of_eq t.isLt N_0
  blk_simp [iblk]
  rw [show (win0_0.blk t).view.emb (ix2 i k) = ix2 (row t i) ⟨1408 * (t.val % 2) + k.val, by omega⟩ by blk_ext [idx t], V_main_arg0, Args.p, dif_pos (by omega)]
  exact hN.act _ _

theorem blk1 (t : Fin cfg0.N) (k : Fin 1408) (j : Fin 1024) : iblk m c 1 t (ix2 k j) = (N.q j (1408 * (t.val % 2) + k.val) : EReal) := by
  have ht := lt_of_lt_of_eq t.isLt N_0
  blk_simp [iblk]
  rw [show (win0_1.blk t).view.emb (ix2 k j) = ix2 ⟨1408 * (t.val % 2) + k.val, by omega⟩ j by blk_ext [idx t], entry_w, Args.q, dif_pos (by omega)]
  exact hN.wd _ _

theorem blk2 (t : Fin cfg0.N) (i : Fin 512) (j : Fin 1024) : iblk m c 2 t (ix2 i j) = (N.x (row t i) j : EReal) := by
  blk_simp [iblk]
  rw [show (win0_2.blk t).view.emb (ix2 i j) = ix2 (row t i) j by blk_ext [idx t], V_main_arg2]
  exact hN.x _ _

theorem blk3 (t : Fin cfg0.N) (j : Fin 1024) : iblk m c 3 t (ix2 0 j) = (N.gp j : EReal) := by
  blk_simp [iblk]
  rw [show (win0_3.blk t).view.emb (ix2 0 j) = ix2 0 j by blk_ext [idx t], entry_post]
  exact hN.gp _

theorem blk4 (t : Fin cfg0.N) (i : Fin 512) (j : Fin 1024) : iblk m c 4 t (ix2 i j) = (N.t (row t i) j : EReal) := by
  blk_simp [iblk]
  rw [show (win0_4.blk t).view.emb (ix2 i j) = ix2 (row t i) j by blk_ext [idx t], V_main_arg4]
  exact hN.t _ _

end Cert.LossOwn

end
-- ==== Proof.LossState.lean ====
module

public import proofs.«01_k».proof.Proof.LossHost
public import Idealize.ShloMosaic.Lib.Pipeline.ReadBack

/-! What the loss's call holds after each point. -/

@[expose] public section

set_option maxRecDepth 16384

noncomputable section

open Idealize.ShloMosaic Idealize.ShloMosaic.TcCoe Idealize.SL.Sem
open Idealize.ShloMosaic.Pipeline (Dat)

namespace Cert.LossOwn

open Cert Cert.Reals Cert.Norms Cert.LossBwdIdeal Cert.LossBwdIdeal.Gen

variable {m : (ℓ : Loc nD τ sig) → Buf (Elt Ideal) ℓ} {c : Dev nD} {N : Args} (hN : Num m c N)

/-- The product's sum over the first `n` columns. -/
def part (N : Args) (r : Fin 4096) (d : Fin 1024) (n : ℕ) : ℝ := ∑ k ∈ Finset.range n, N.p r k * N.q d k

include hN

theorem accA (t : Fin cfg0.N) (h0 : t.val % 2 = 0) (h1 : ¬t.val % 2 = 1) (i : Fin 512) (j : Fin 1024) :
    (outsAt0 m c t.val t.isLt).2.2.2.2.2 (ix2 i j) = (part N (row t i) j 1408 : EReal) := by
  rw [outsAt0_A m c t h0 h1]
  frame_out
  refine pay2_at _ _ _ i j 0 (N.p (row t i)) (N.q j) 0 ?_ ?_ ?_ rfl
  · pointwise; exact pay1_at _
  · intro k; pointwise; rw [blk0 hN, h0, mul_zero, zero_add]
  · intro k; pointwise; rw [blk1 hN, h0, mul_zero, zero_add]

/-- The product's block, as the last step of a row block evaluates it. -/
abbrev oBlk (m : (ℓ : Loc nD τ sig) → Buf (Elt Ideal) ℓ) (c : Dev nD) (t : Fin cfg0.N) : FVec Ideal S512x1024 .f32 :=
  k0_pay2 (F := Ideal) (outsAt0 m c (t.val - 1) (by omega)).2.2.2.2.2 (iblk m c 0 t) (iblk m c 1 t)

theorem oBlk_at (t : Fin cfg0.N) (h1 : t.val % 2 = 1)
    (hp : ∀ i j, (outsAt0 m c (t.val - 1) (by omega)).2.2.2.2.2 (ix2 i j) = (part N (row t i) j 1408 : EReal)) (i : Fin 512) (j : Fin 1024) :
    oBlk m c t (ix2 i j) = (N.o (row t i) j : EReal) := by
  refine pay2_at _ _ _ i j (part N (row t i) j 1408) (N.p (row t i)) (N.q j) 1408 (hp i j) ?_ ?_ rfl
  · intro k; rw [blk0 hN, h1]
  · intro k; rw [blk1 hN, h1]

theorem err_at (t : Fin cfg0.N) (h1 : t.val % 2 = 1)
    (hp : ∀ i j, (outsAt0 m c (t.val - 1) (by omega)).2.2.2.2.2 (ix2 i j) = (part N (row t i) j 1408 : EReal)) (i : Fin 512) (j : Fin 1024) :
    k0_pay3 (F := Ideal) (oBlk m c t) (iblk m c 2 t) (iblk m c 3 t) (iblk m c 4 t) (ix2 i j) = (N.err (row t i) j : EReal) :=
  pay3_at _ _ _ _ (N.o (row t i)) (N.x (row t i)) (N.t (row t i)) N.gp i (oBlk_at hN t h1 hp i) (blk2 hN t i) (blk4 hN t i) (blk3 hN t) j

theorem dy_at (t : Fin cfg0.N) (h1 : t.val % 2 = 1)
    (hp : ∀ i j, (outsAt0 m c (t.val - 1) (by omega)).2.2.2.2.2 (ix2 i j) = (part N (row t i) j 1408 : EReal)) (i : Fin 512) (j : Fin 1024) :
    k0_pay4 (F := Ideal) (oBlk m c t) (iblk m c 2 t) (iblk m c 3 t) (iblk m c 4 t) (ix2 i j) = (N.dy (row t i) j : EReal) :=
  pay4_at _ _ _ _ (N.o (row t i)) (N.x (row t i)) (N.t (row t i)) N.gp i (oBlk_at hN t h1 hp i) (blk2 hN t i) (blk4 hN t i) (blk3 hN t) j

theorem oB (t : Fin cfg0.N) (h0 : ¬t.val % 2 = 0) (h1 : t.val % 2 = 1) (h2 : t.val < 2)
    (hp : ∀ i j, (outsAt0 m c (t.val - 1) (by omega)).2.2.2.2.2 (ix2 i j) = (part N (row t i) j 1408 : EReal)) (i : Fin 512) (j : Fin 1024) :
    (outsAt0 m c t.val t.isLt).1 (ix2 i j) = (N.o (row t i) j : EReal) := by
  rw [outsAt0_B m c t h0 h1 h2]
  frame_out
  rw [read_unread_whole]
  exact oBlk_at hN t h1 hp i j

theorem dyB (t : Fin cfg0.N) (h0 : ¬t.val % 2 = 0) (h1 : t.val % 2 = 1) (h2 : t.val < 2)
    (hp : ∀ i j, (outsAt0 m c (t.val - 1) (by omega)).2.2.2.2.2 (ix2 i j) = (part N (row t i) j 1408 : EReal)) (i : Fin 512) (j : Fin 1024) :
    (outsAt0 m c t.val t.isLt).2.1 (ix2 i j) = (N.dy (row t i) j : EReal) := by
  rw [outsAt0_B m c t h0 h1 h2]
  frame_out
  rw [read_unread_whole]
  exact dy_at hN t h1 hp i j

theorem doB (t : Fin cfg0.N) (h0 : ¬t.val % 2 = 0) (h1 : t.val % 2 = 1) (h2 : t.val < 2)
    (hp : ∀ i j, (outsAt0 m c (t.val - 1) (by omega)).2.2.2.2.2 (ix2 i j) = (part N (row t i) j 1408 : EReal)) (i : Fin 512) (j : Fin 1024) :
    (outsAt0 m c t.val t.isLt).2.2.2.1 (ix2 i j) = (N.dO (row t i) j : EReal) := by
  rw [outsAt0_B m c t h0 h1 h2]
  frame_out
  rw [read_unread_whole]
  exact pay8_at _ _ _ _ (N.o (row t i)) (N.x (row t i)) (N.t (row t i)) N.gp i (oBlk_at hN t h1 hp i) (blk2 hN t i) (blk4 hN t i) (blk3 hN t) j

theorem lossB (t : Fin cfg0.N) (h0 : ¬t.val % 2 = 0) (h1 : t.val % 2 = 1) (h2 : t.val < 2)
    (hp : ∀ i j, (outsAt0 m c (t.val - 1) (by omega)).2.2.2.2.2 (ix2 i j) = (part N (row t i) j 1408 : EReal)) (j : Fin 1024) :
    (outsAt0 m c t.val t.isLt).2.2.1 (ix2 0 0) = (upTo N.lossRow (t.val / 2 * 512 + 512) j : EReal) := by
  have ht := lt_of_lt_of_eq t.isLt N_0
  rw [outsAt0_B m c t h0 h1 h2]
  frame_out
  rw [read_unread_whole]
  rw [← upTo_add N.lossRow (t.val / 2 * 512) (by omega) j (fun i => N.lossRow (row t i) j) (fun i => rfl)]
  refine pay11_at _ _ (fun i => N.err (row t i)) (upTo N.lossRow (t.val / 2 * 512) j) (err_at hN t h1 hp) ?_
  · rw [show t.val / 2 * 512 = 0 by omega]; pointwise [k0_pay9]; exact EReal.coe_zero.symm

theorem gpB (t : Fin cfg0.N) (h0 : ¬t.val % 2 = 0) (h1 : t.val % 2 = 1) (h2 : t.val < 2)
    (hp : ∀ i j, (outsAt0 m c (t.val - 1) (by omega)).2.2.2.2.2 (ix2 i j) = (part N (row t i) j 1408 : EReal)) (j : Fin 1024) :
    (outsAt0 m c t.val t.isLt).2.2.2.2.1 (ix2 0 j) = (upTo N.gpRow (t.val / 2 * 512 + 512) j : EReal) := by
  have ht := lt_of_lt_of_eq t.isLt N_0
  rw [outsAt0_B m c t h0 h1 h2]
  frame_out
  rw [read_unread_whole]
  rw [← upTo_add N.gpRow (t.val / 2 * 512) (by omega) j (fun i => N.gpRow (row t i) j) (fun i => rfl)]
  refine pay12_at _ _ _ (fun i => N.dy (row t i)) (fun i => N.o (row t i)) (upTo N.gpRow (t.val / 2 * 512)) (dy_at hN t h1 hp) (oBlk_at hN t h1 hp) ?_ j
  · intro j; rw [show t.val / 2 * 512 = 0 by omega]; pointwise [k0_pay10]; exact EReal.coe_zero.symm

theorem oC (t : Fin cfg0.N) (h0 : ¬t.val % 2 = 0) (h1 : t.val % 2 = 1) (h2 : ¬t.val < 2)
    (hp : ∀ i j, (outsAt0 m c (t.val - 1) (by omega)).2.2.2.2.2 (ix2 i j) = (part N (row t i) j 1408 : EReal)) (i : Fin 512) (j : Fin 1024) :
    (outsAt0 m c t.val t.isLt).1 (ix2 i j) = (N.o (row t i) j : EReal) := by
  rw [outsAt0_C m c t h0 h1 h2]
  frame_out
  rw [read_unread_whole]
  exact oBlk_at hN t h1 hp i j

theorem dyC (t : Fin cfg0.N) (h0 : ¬t.val % 2 = 0) (h1 : t.val % 2 = 1) (h2 : ¬t.val < 2)
    (hp : ∀ i j, (outsAt0 m c (t.val - 1) (by omega)).2.2.2.2.2 (ix2 i j) = (part N (row t i) j 1408 : EReal)) (i : Fin 512) (j : Fin 1024) :
    (outsAt0 m c t.val t.isLt).2.1 (ix2 i j) = (N.dy (row t i) j : EReal) := by
  rw [outsAt0_C m c t h0 h1 h2]
  frame_out
  rw [read_unread_whole]
  exact dy_at hN t h1 hp i j

theorem doC (t : Fin cfg0.N) (h0 : ¬t.val % 2 = 0) (h1 : t.val % 2 = 1) (h2 : ¬t.val < 2)
    (hp : ∀ i j, (outsAt0 m c (t.val - 1) (by omega)).2.2.2.2.2 (ix2 i j) = (part N (row t i) j 1408 : EReal)) (i : Fin 512) (j : Fin 1024) :
    (outsAt0 m c t.val t.isLt).2.2.2.1 (ix2 i j) = (N.dO (row t i) j : EReal) := by
  rw [outsAt0_C m c t h0 h1 h2]
  frame_out
  rw [read_unread_whole]
  exact pay8_at _ _ _ _ (N.o (row t i)) (N.x (row t i)) (N.t (row t i)) N.gp i (oBlk_at hN t h1 hp i) (blk2 hN t i) (blk4 hN t i) (blk3 hN t) j

theorem lossC (t : Fin cfg0.N) (h0 : ¬t.val % 2 = 0) (h1 : t.val % 2 = 1) (h2 : ¬t.val < 2)
    (hp : ∀ i j, (outsAt0 m c (t.val - 1) (by omega)).2.2.2.2.2 (ix2 i j) = (part N (row t i) j 1408 : EReal))
    (ha : ∀ j, (outsAt0 m c (t.val - 1) (by omega)).2.2.1 (ix2 0 0) = (upTo N.lossRow (t.val / 2 * 512) j : EReal)) (j : Fin 1024) :
    (outsAt0 m c t.val t.isLt).2.2.1 (ix2 0 0) = (upTo N.lossRow (t.val / 2 * 512 + 512) j : EReal) := by
  have ht := lt_of_lt_of_eq t.isLt N_0
  rw [outsAt0_C m c t h0 h1 h2]
  frame_out
  rw [read_unread_whole]
  rw [← upTo_add N.lossRow (t.val / 2 * 512) (by omega) j (fun i => N.lossRow (row t i) j) (fun i => rfl)]
  refine pay11_at _ _ (fun i => N.err (row t i)) (upTo N.lossRow (t.val / 2 * 512) j) (err_at hN t h1 hp) ?_
  · pointwise; exact ha j

theorem gpC (t : Fin cfg0.N) (h0 : ¬t.val % 2 = 0) (h1 : t.val % 2 = 1) (h2 : ¬t.val < 2)
    (hp : ∀ i j, (outsAt0 m c (t.val - 1) (by omega)).2.2.2.2.2 (ix2 i j) = (part N (row t i) j 1408 : EReal))
    (ha : ∀ j, (outsAt0 m c (t.val - 1) (by omega)).2.2.2.2.1 (ix2 0 j) = (upTo N.gpRow (t.val / 2 * 512) j : EReal)) (j : Fin 1024) :
    (outsAt0 m c t.val t.isLt).2.2.2.2.1 (ix2 0 j) = (upTo N.gpRow (t.val / 2 * 512 + 512) j : EReal) := by
  have ht := lt_of_lt_of_eq t.isLt N_0
  rw [outsAt0_C m c t h0 h1 h2]
  frame_out
  rw [read_unread_whole]
  rw [← upTo_add N.gpRow (t.val / 2 * 512) (by omega) j (fun i => N.gpRow (row t i) j) (fun i => rfl)]
  refine pay12_at _ _ _ (fun i => N.dy (row t i)) (fun i => N.o (row t i)) (upTo N.gpRow (t.val / 2 * 512)) (dy_at hN t h1 hp) (oBlk_at hN t h1 hp) ?_ j
  · intro j; pointwise; exact ha j

end Cert.LossOwn

end
-- ==== Proof.LossFinal.lean ====
module

public import proofs.«01_k».proof.Proof.LossState

/-! The arrays the loss's call leaves. -/

@[expose] public section

set_option maxRecDepth 16384

noncomputable section

open Idealize.ShloMosaic Idealize.ShloMosaic.TcCoe Idealize.SL.Sem
open Idealize.ShloMosaic.Pipeline (Dat)

namespace Cert.LossOwn

open Cert Cert.Reals Cert.Norms Cert.LossBwdIdeal Cert.LossBwdIdeal.Gen

variable {m : (ℓ : Loc nD τ sig) → Buf (Elt Ideal) ℓ} {c : Dev nD} {N : Args} (hN : Num m c N)

theorem row_congr (n n' : ℕ) (hn : n < cfg0.N) (hn' : n' < cfg0.N) (h : n / 2 = n' / 2) (i : Fin 512) : row ⟨n, hn⟩ i = row ⟨n', hn'⟩ i :=
  Fin.ext (by simp only [h])

/-- The sums over rows do not change at the first step of a row block. -/
theorem carry (t : Fin cfg0.N) (h0 : t.val % 2 = 0) :
    (outsAt0 m c t.val t.isLt).2.2.1 = (outsAt0 m c (t.val - 1) (by omega)).2.2.1 ∧ (outsAt0 m c t.val t.isLt).2.2.2.2.1 = (outsAt0 m c (t.val - 1) (by omega)).2.2.2.2.1 := by
  rw [outsAt0_A m c t h0 (by omega)]; exact ⟨rfl, rfl⟩

include hN

theorem held : ∀ (n : ℕ) (hn : n < cfg0.N),
    (n % 2 = 0 → ∀ i j, (outsAt0 m c n hn).2.2.2.2.2 (ix2 i j) = (part N (row ⟨n, hn⟩ i) j 1408 : EReal))
    ∧ (1 ≤ n → ∀ j, (outsAt0 m c n hn).2.2.1 (ix2 0 0) = (upTo N.lossRow ((n + 1) / 2 * 512) j : EReal))
    ∧ (1 ≤ n → ∀ j, (outsAt0 m c n hn).2.2.2.2.1 (ix2 0 j) = (upTo N.gpRow ((n + 1) / 2 * 512) j : EReal)) := by
  intro n
  induction n with
  | zero => exact fun hn => ⟨fun _ i j => accA hN ⟨0, hn⟩ rfl (by simp only; omega) i j, fun h => by omega, fun h => by omega⟩
  | succ n ih =>
    intro hn
    have hT := lt_of_lt_of_eq hn N_0
    obtain ⟨q0, q1, q2⟩ := ih (by omega)
    by_cases h1 : (n + 1) % 2 = 1
    · have e' : (n + 1) / 2 * 512 + 512 = (n + 1 + 1) / 2 * 512 := by omega
      have hp : ∀ i j, (outsAt0 m c n (by omega)).2.2.2.2.2 (ix2 i j) = (part N (row ⟨n + 1, hn⟩ i) j 1408 : EReal) := fun i j => by
        rw [q0 (by omega) i j, row_congr n (n + 1) _ hn (by omega)]
      rw [← e']
      refine ⟨fun h => by omega, fun _ j => ?_, fun _ j => ?_⟩
      · by_cases h2 : n + 1 < 2
        · exact lossB hN ⟨n + 1, hn⟩ (by simp only; omega) h1 h2 hp j
        · exact lossC hN ⟨n + 1, hn⟩ (by simp only; omega) h1 h2 hp (q1 (by omega)) j
      · by_cases h2 : n + 1 < 2
        · exact gpB hN ⟨n + 1, hn⟩ (by simp only; omega) h1 h2 hp j
        · exact gpC hN ⟨n + 1, hn⟩ (by simp only; omega) h1 h2 hp (q2 (by omega)) j
    · have h0 : (n + 1) % 2 = 0 := by omega
      have hc := carry (m := m) (c := c) ⟨n + 1, hn⟩ h0
      have e' : (n + 1) / 2 = (n + 1 + 1) / 2 := by omega
      refine ⟨fun _ i j => accA hN ⟨n + 1, hn⟩ h0 h1 i j, fun _ j => ?_, fun _ j => ?_⟩
      · rw [hc.1, ← e']; exact q1 (by omega) j
      · rw [hc.2, ← e']; exact q2 (by omega) j

theorem before (t : Fin cfg0.N) (h1 : t.val % 2 = 1) (i : Fin 512) (j : Fin 1024) :
    (outsAt0 m c (t.val - 1) (by omega)).2.2.2.2.2 (ix2 i j) = (part N (row t i) j 1408 : EReal) := by
  rw [(held hN (t.val - 1) (by omega)).1 (by omega) i j, row_congr (t.val - 1) t.val _ t.isLt (by omega)]

theorem o_end (t : Fin cfg0.N) (h1 : t.val % 2 = 1) (i : Fin 512) (j : Fin 1024) : (outsAt0 m c t.val t.isLt).1 (ix2 i j) = (N.o (row t i) j : EReal) := by
  by_cases h2 : t.val < 2
  · exact oB hN t (by omega) h1 h2 (before hN t h1) i j
  · exact oC hN t (by omega) h1 h2 (before hN t h1) i j

theorem dy_end (t : Fin cfg0.N) (h1 : t.val % 2 = 1) (i : Fin 512) (j : Fin 1024) : (outsAt0 m c t.val t.isLt).2.1 (ix2 i j) = (N.dy (row t i) j : EReal) := by
  by_cases h2 : t.val < 2
  · exact dyB hN t (by omega) h1 h2 (before hN t h1) i j
  · exact dyC hN t (by omega) h1 h2 (before hN t h1) i j

theorem do_end (t : Fin cfg0.N) (h1 : t.val % 2 = 1) (i : Fin 512) (j : Fin 1024) : (outsAt0 m c t.val t.isLt).2.2.2.1 (ix2 i j) = (N.dO (row t i) j : EReal) := by
  by_cases h2 : t.val < 2
  · exact doB hN t (by omega) h1 h2 (before hN t h1) i j
  · exact doC hN t (by omega) h1 h2 (before hN t h1) i j

omit hN

/-- A row block leaves at its last step. -/
theorem last5 : ∀ t : Fin cfg0.grid.N, (win0 5).flush t = true → t.val % 2 = 1 := (by decide +kernel : ∀ t : Fin grid0.N, _)
theorem last6 : ∀ t : Fin cfg0.grid.N, (win0 6).flush t = true → t.val % 2 = 1 := (by decide +kernel : ∀ t : Fin grid0.N, _)
theorem last8 : ∀ t : Fin cfg0.grid.N, (win0 8).flush t = true → t.val % 2 = 1 := (by decide +kernel : ∀ t : Fin grid0.N, _)

/-- The last point. -/
def lastPt : Fin cfg0.N := ⟨15, (by decide +kernel : 15 < grid0.N)⟩

/-- The five results. -/
def R5 (N : Args) : FVec Ideal S4096x1024 .f32 := fun i => (N.o (i 0) (i 1) : EReal)
def R6 (N : Args) : FVec Ideal S4096x1024 .f32 := fun i => (N.dy (i 0) (i 1) : EReal)
def R7 (N : Args) : FVec Ideal S1x1 .f32 := fun _ => ((∑ r, N.lossRow r 0 : ℝ) : EReal)
def R8 (N : Args) : FVec Ideal S4096x1024 .bf16 := fun i => (N.dO (i 0) (i 1) : EReal)
def R9 (N : Args) : FVec Ideal S1x1024 .f32 := fun i => ((∑ r, N.gpRow r (i 1) : ℝ) : EReal)

include hN

theorem final5 : (dats m 0 c).arrAt 5 (cfgs 0).N = R5 N := by
  refine (dats m 0 c).arrAt_eq_of_covers 5 _ (by decide +kernel) fun t hf y => ?_
  blk_simp
  rw [after0_5]
  idx_vars y
  rw [show (win0_5.blk t).view.emb (ix2 y0 y1) = ix2 (row t y0) y1 by blk_ext [idx t]]
  exact o_end hN t (last5 t hf) y0 y1

theorem final6 : (dats m 0 c).arrAt 6 (cfgs 0).N = R6 N := by
  refine (dats m 0 c).arrAt_eq_of_covers 6 _ (by decide +kernel) fun t hf y => ?_
  blk_simp
  rw [after0_6]
  idx_vars y
  rw [show (win0_6.blk t).view.emb (ix2 y0 y1) = ix2 (row t y0) y1 by blk_ext [idx t]]
  exact dy_end hN t (last6 t hf) y0 y1

theorem final8 : (dats m 0 c).arrAt 8 (cfgs 0).N = R8 N := by
  refine (dats m 0 c).arrAt_eq_of_covers 8 _ (by decide +kernel) fun t hf y => ?_
  blk_simp
  rw [after0_8]
  idx_vars y
  rw [show (win0_8.blk t).view.emb (ix2 y0 y1) = ix2 (row t y0) y1 by blk_ext [idx t]]
  exact do_end hN t (last8 t hf) y0 y1

theorem end7 (n : ℕ) (hn : n < cfg0.N) (h : n = 15) : (outsAt0 m c n hn).2.2.1 (ix2 0 0) = R7 N (ix2 0 0) := by
  rw [(held hN n hn).2.1 (by omega) 0, h]
  exact congrArg _ (upTo_all _ 0)

theorem end9 (n : ℕ) (hn : n < cfg0.N) (h : n = 15) (j : Fin 1024) : (outsAt0 m c n hn).2.2.2.2.1 (ix2 0 j) = R9 N (ix2 0 j) := by
  rw [(held hN n hn).2.2 (by omega) j, h]
  exact congrArg _ (upTo_all _ j)

theorem final7 : (dats m 0 c).arrAt 7 (cfgs 0).N = R7 N := by
  refine (dats m 0 c).arrAt_eq_of_after_last 7 lastPt (by decide +kernel) _ fun j => ?_
  blk_simp
  rw [after0_7]
  idx_vars j
  rw [show j0 = 0 from Subsingleton.elim _ _, show j1 = 0 from Subsingleton.elim _ _]
  exact end7 hN lastPt.val lastPt.isLt rfl

theorem final9 : (dats m 0 c).arrAt 9 (cfgs 0).N = R9 N := by
  refine (dats m 0 c).arrAt_eq_of_after_last 9 lastPt (by decide +kernel) _ fun j => ?_
  blk_simp
  rw [after0_9]
  idx_vars j
  rw [show j0 = 0 from Subsingleton.elim _ _]
  exact end9 hN lastPt.val lastPt.isLt rfl j1

end Cert.LossOwn

end
-- ==== Proof.LossRef.lean ====
module

public import proofs.«01_k».proof.Proof.LossPay
public import proofs.«01_k».proof.Proof.Gen.LossRefIdeal.Read

/-! What the loss's reference writes, at arguments of real entries. -/

@[expose] public section

set_option maxRecDepth 16384

noncomputable section

open Idealize.ShloMosaic

namespace Cert.LossOwn

open Cert Cert.Reals Cert.Norms Cert.LossRefIdeal Cert.LossRefIdeal.Read

variable {N : Args} {x0 : FVec Ideal S4096x2816 .bf16} {x1 : FVec Ideal S2816x1024 .f32} {x2 : FVec Ideal S4096x1024 .f32}
  {x3 : FVec Ideal S1024 .f32} {x4 : FVec Ideal S4096x1024 .f32} (hN : Is N x0 x1 x2 x3 x4)

include hN

theorem r1 (r : Fin 4096) (d : Fin 1024) : val_main_v1 (F := Ideal) x0 x1 (ix2 r d) = (N.o r d : EReal) := by
  pointwise [val_main_v1, val_main_v0, hN.act, hN.wd]
  rw [N.o_eq, coe_sum]
  simp only [EReal.coe_mul]

theorem r8 (r : Fin 4096) : val_main_v8 (F := Ideal) x0 x1 (ix2 r 0) = (var (N.o r) : EReal) := by
  pointwise [val_main_v8, val_main_v7, val_main_v6, val_main_v5, val_main_v4, val_main_v3, val_main_v2, val_main_cst, val_main_cst_0, val_main_cst_1, r1 hN]
  exact var_val (fun e => (N.o r e : EReal)) _ (fun _ => rfl)

theorem r9 (r : Fin 4096) : val_main_v9 (F := Ideal) x0 x1 (ix2 r 0) = (scl (N.o r) : EReal) := by
  pointwise [val_main_v9, r8 hN]
  exact rsqrt_coe _ (var_pos _)

theorem r12 (r : Fin 4096) : val_main_v12 (F := Ideal) x0 x1 (ix2 r 0) = ((-(1 / 2) * (scl (N.o r) / var (N.o r)) : ℝ) : EReal) := by
  pointwise [val_main_v12, val_main_v11, val_main_v10, val_main_cst_2, r8 hN, r9 hN]
  exact slope_val _

theorem r14 (r : Fin 4096) (d : Fin 1024) : val_main_v14 (F := Ideal) x0 x1 (ix2 r d) = ((N.o r d * scl (N.o r) : ℝ) : EReal) := by
  pointwise [val_main_v14, val_main_v13, r9 hN, r1 hN]
  simp only [EReal.coe_mul]

theorem r19 (r : Fin 4096) (d : Fin 1024) : val_main_v19 (F := Ideal) x0 x1 x2 x3 x4 (ix2 r d) = (N.err r d : EReal) := by
  pointwise [val_main_v19, val_main_v18, val_main_v17, val_main_v16, val_main_v15, r14 hN, hN.x, hN.gp, hN.t]
  unfold Args.err off
  simp only [EReal.coe_add, EReal.coe_sub, EReal.coe_mul]

theorem r25 (r : Fin 4096) : val_main_v25 (F := Ideal) x0 x1 x2 x3 x4 (ix1 r) = (((∑ j, N.err r j * N.err r j) / 1024 : ℝ) : EReal) := by
  pointwise [val_main_v25, val_main_v24, val_main_v23, val_main_v20, val_main_cst_4, val_main_cst_5, r19 hN]
  simp only [← EReal.coe_mul, ← coe_sum, mean_val]

theorem r54 : val_main_v54 (F := Ideal) x0 x1 x2 x3 x4 (ix2 0 0) = ((∑ r, N.lossRow r 0 : ℝ) : EReal) := by
  pointwise [val_main_v54, val_main_v27, val_main_v26, val_main_cst_6, val_main_cst_7]
  simp only [r25 hN, ← coe_sum, pos_half_word, ← EReal.coe_mul]
  unfold Args.lossRow
  rw [← Finset.mul_sum]

theorem r33 (r : Fin 4096) (d : Fin 1024) : val_main_v33 (F := Ideal) x0 x1 x2 x3 x4 (ix2 r d) = (N.dy r d : EReal) := by
  pointwise [val_main_v33, val_main_v32, val_main_v31, val_main_v30, val_main_v29, val_main_v28, val_main_v22, val_main_v21, val_main_cst_3, val_main_cst_8, val_main_cst_9, val_main_cst_10, r19 hN]
  simp only [pos_half_word, one_word, two_word, ← EReal.coe_mul, mean_val]
  unfold Args.dy
  exact congrArg _ (by ring)

theorem r34 (r : Fin 4096) (d : Fin 1024) : val_main_v34 (F := Ideal) x0 x1 x2 x3 x4 (ix2 r d) = (N.gpRow r d : EReal) := by
  pointwise [val_main_v34, r14 hN, r33 hN]
  rw [Args.gpRow, mul_comm (N.dy r d)]
  simp only [EReal.coe_mul]

theorem r56 (d : Fin 1024) : val_main_v56 (F := Ideal) x0 x1 x2 x3 x4 (ix2 0 d) = ((∑ r, N.gpRow r d : ℝ) : EReal) := by
  pointwise [val_main_v56, val_main_v39, val_main_v36, val_main_v35, val_main_cst_11, val_main_cst_12, r34 hN]
  rw [coe_sum, Fin.sum_univ_one]

theorem r38 (r : Fin 4096) (d : Fin 1024) : val_main_v38 (F := Ideal) x0 x1 x2 x3 x4 (ix2 r d) = ((N.dy r d * N.gp d : ℝ) : EReal) := by
  pointwise [val_main_v38, val_main_v37, val_main_v15, r33 hN, hN.gp]
  simp only [EReal.coe_mul]

theorem r47 (r : Fin 4096) : val_main_v47 (F := Ideal) x0 x1 x2 x3 x4 (ix2 r 0) = (msq (fun e => N.dy r e * N.gp e) (N.o r) : EReal) := by
  pointwise [val_main_v47, val_main_v46, val_main_v45, val_main_v42, val_main_v41, val_main_v40, val_main_cst_13, val_main_cst_14, r38 hN, r12 hN, r1 hN]
  exact msq_val (fun e => N.dy r e * N.gp e) (N.o r) _ rfl

theorem r49 (r : Fin 4096) (d : Fin 1024) : val_main_v49 (F := Ideal) x0 x1 x2 x3 x4 (ix2 r d) = (msq (fun e => N.dy r e * N.gp e) (N.o r) : EReal) := by
  pointwise [val_main_v49, val_main_v48, val_main_cst_15]
  rw [Fin.sum_univ_one]
  exact r47 hN r

theorem r55 (r : Fin 4096) (d : Fin 1024) : val_main_v55 (F := Ideal) x0 x1 x2 x3 x4 (ix2 r d) = (N.dO r d : EReal) := by
  pointwise [val_main_v55, val_main_v53, val_main_v52, val_main_v51, val_main_v50, val_main_v44, val_main_v43, r38 hN, r49 hN, r9 hN, r1 hN]
  rw [Args.dO, ← back_sum]
  simp only [EReal.coe_add, EReal.coe_mul]

end Cert.LossOwn

end
-- ==== Proof.LossClaim.lean ====
module

public import proofs.«01_k».proof.Proof.LossFinal
public import proofs.«01_k».proof.Proof.LossRef
public import proofs.«01_k».proof.Proof.Gen.Pre_loss_finite
public import proofs.«01_k».proof.Defs

/-! The loss's results are the reference's. -/

@[expose] public section

set_option maxRecDepth 16384

noncomputable section

open Idealize.ShloMosaic Idealize.ShloMosaic.TcCoe

namespace Cert.LossOwn

open Cert Cert.Reals Cert.Norms Cert.LossBwdIdeal Cert.LossBwdIdeal.Gen

variable (m : (ℓ : Loc nD τ sig) → Buf (Elt Ideal) ℓ) (c : Dev nD)

theorem nums (h : Pre_LossBwdIdeal_loss_finite m) : ∃ N : Args, Num m c N := by
  have h := h c
  simp only [Cert.Pre_loss_finite.fn] at h
  obtain ⟨h0, h1, h2, h3, h4⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  exact ⟨⟨fun r k => x0 (ix2 r k), fun k d => x1 (ix2 k d), fun r d => x2 (ix2 r d), fun r d => x4 (ix2 r d), fun d => x3 (ix1 d)⟩,
    ⟨fun _ _ => congrFun e0 _, fun _ _ => congrFun e1 _, fun _ _ => congrFun e2 _, fun _ => congrFun e3 _, fun _ _ => congrFun e4 _⟩⟩

variable {m c}

theorem final_o (h : Pre_LossBwdIdeal_loss_finite m) : (dats m 0 c).arrAt 5 (cfgs 0).N
    = LossRefIdeal.Read.val_main_v1 (F := Ideal) (A0 m c) (A1 m c) := by
  obtain ⟨N, hN⟩ := nums m c h
  rw [final5 hN]
  funext i
  idx_vars i
  exact (r1 hN i0 i1).symm

theorem final_dx (h : Pre_LossBwdIdeal_loss_finite m) : (dats m 0 c).arrAt 6 (cfgs 0).N
    = LossRefIdeal.Read.val_main_v33 (F := Ideal) (A0 m c) (A1 m c) (A2 m c) (A3 m c) (A4 m c) := by
  obtain ⟨N, hN⟩ := nums m c h
  rw [final6 hN]
  funext i
  idx_vars i
  exact (r33 hN i0 i1).symm

theorem final_loss (h : Pre_LossBwdIdeal_loss_finite m) : (dats m 0 c).arrAt 7 (cfgs 0).N
    = LossRefIdeal.Read.val_main_v54 (F := Ideal) (A0 m c) (A1 m c) (A2 m c) (A3 m c) (A4 m c) := by
  obtain ⟨N, hN⟩ := nums m c h
  rw [final7 hN]
  funext i
  idx_vars i
  rw [show i0 = 0 from Subsingleton.elim _ _]
  rw [show i1 = 0 from Subsingleton.elim _ _]
  exact (r54 hN).symm

theorem final_do (h : Pre_LossBwdIdeal_loss_finite m) : (dats m 0 c).arrAt 8 (cfgs 0).N
    = LossRefIdeal.Read.val_main_v55 (F := Ideal) (A0 m c) (A1 m c) (A2 m c) (A3 m c) (A4 m c) := by
  obtain ⟨N, hN⟩ := nums m c h
  rw [final8 hN]
  funext i
  idx_vars i
  exact (r55 hN i0 i1).symm

theorem final_gp (h : Pre_LossBwdIdeal_loss_finite m) : (dats m 0 c).arrAt 9 (cfgs 0).N
    = LossRefIdeal.Read.val_main_v56 (F := Ideal) (A0 m c) (A1 m c) (A2 m c) (A3 m c) (A4 m c) := by
  obtain ⟨N, hN⟩ := nums m c h
  rw [final9 hN]
  funext i
  idx_vars i
  rw [show i0 = 0 from Subsingleton.elim _ _]
  exact (r56 hN i1).symm

end Cert.LossOwn

end
-- ==== Proof.LossPair.lean ====
module

public import proofs.«01_k».proof.Proof.LossClaim
public import proofs.«01_k».proof.Proof.Gen.LossBwdIdeal.Value
public import proofs.«01_k».proof.Proof.Gen.LossRefIdeal.Run
public import Idealize.ShloMosaic.Adequacy
public import Idealize.ShloMosaic.Init

/-! The loss's call and its reference agree. -/

@[expose] public section

noncomputable section

namespace Cert.Proof

open Idealize.ShloMosaic Idealize.SL.Sem

set_option maxHeartbeats 4000000 in
theorem loss : Cert.algebraic_LossBwdIdeal_LossRefIdeal_pre_loss_finite := by
  pair_intro
  · run_from Cert.LossBwdIdeal.Gen.run_main m g
    all_goals first
      | exact Cert.LossBwdIdeal.Gen.V_main_arg0 m c
      | exact Cert.LossBwdIdeal.Gen.V_main_arg1 m c
      | exact Cert.LossBwdIdeal.Gen.V_main_arg2 m c
      | exact Cert.LossBwdIdeal.Gen.V_main_arg3 m c
      | exact Cert.LossBwdIdeal.Gen.V_main_arg4 m c
  · run_from Cert.LossRefIdeal.Value.run m' g'
    · exact (Cert.LossOwn.final_o hpre).symm
    · rw [Cert.LossRefIdeal.Read.val_main_v33_eq]
      exact (Cert.LossOwn.final_dx hpre).symm
    · rw [Cert.LossRefIdeal.Read.val_main_v54_eq]
      exact (Cert.LossOwn.final_loss hpre).symm
    · rw [Cert.LossRefIdeal.Read.val_main_v55_eq, (hagree c).1, (hagree c).2.1, (hagree c).2.2.1, (hagree c).2.2.2.1, (hagree c).2.2.2.2]
      exact (Cert.LossOwn.final_do hpre).symm
    · rw [Cert.LossRefIdeal.Read.val_main_v56_eq]
      exact (Cert.LossOwn.final_gp hpre).symm

end Cert.Proof

end
-- ==== Proof.MixNum.lean ====
module

public import proofs.«01_k».proof.Proof.Norms
public import proofs.«01_k».proof.MixRefIdeal
public import Idealize.ShloMosaic.Lib.Pointwise

/-! The gated mix's functions over the real numbers. -/

@[expose] public section

noncomputable section

open Idealize.ShloMosaic

namespace Cert.MixOwn

open Cert Cert.Reals Cert.Norms

/-- The two factors of the tanh form of the Gaussian unit. -/
def kk : ℝ := 13386282 / 2 ^ 24
def cc : ℝ := 8943 / 200000

theorem kk_word : Ideal.ofBits .f32 0x3F4C422A#32 = (kk : EReal) := by
  unfold kk
  simp [Ideal.ofBits, Ideal.ieee, -EReal.coe_mul]; norm_num

theorem num_word : Ideal.ofBits .f32 0x472EAB00#32 = ((44715 : ℝ) : EReal) := by
  simp [Ideal.ofBits, Ideal.ieee, -EReal.coe_mul]; norm_num

theorem mil_word : Ideal.ofBits .f32 0x49742400#32 = ((1000000 : ℝ) : EReal) := by
  simp [Ideal.ofBits, Ideal.ieee, -EReal.coe_mul]; norm_num

theorem three_word : Ideal.ofBits .f32 0x40400000#32 = ((3 : ℝ) : EReal) := by
  simp [Ideal.ofBits, Ideal.ieee, -EReal.coe_mul]; norm_num

theorem zero_word : Ideal.ofBits .f32 0x00000000#32 = ((0 : ℝ) : EReal) := by
  simp [Ideal.ofBits, Ideal.ieee]

def th (x : ℝ) : ℝ := Real.tanh (kk * (x + cc * (x * x * x)))
def gelu (x : ℝ) : ℝ := x * (1 / 2 * (1 + th x))
def slope (x : ℝ) : ℝ := 1 / 2 * (1 + th x) + 1 / 2 * x * (1 - th x * th x) * (kk * (1 + 3 * cc * (x * x)))
def sg (x : ℝ) : ℝ := 1 / (1 + Real.exp (-x))

theorem th_val (x : ℝ) : Ideal.tanh (Ideal.ofBits .f32 0x3F4C422A#32 * ((x : EReal) + (cc : EReal) * ((x : EReal) * (x : EReal) * (x : EReal)))) = (th x : EReal) := by
  rw [kk_word]
  simp only [← EReal.coe_mul, ← EReal.coe_add, tanh_coe]
  rfl

theorem th_ref (x : ℝ) : Ideal.tanh (Ideal.ofBits .f32 0x3F4C422A#32 * ((x : EReal)
    + Ideal.div (Ideal.ofBits .f32 0x472EAB00#32 * ((x : EReal) * (x : EReal) * (x : EReal))) (Ideal.ofBits .f32 0x49742400#32))) = (th x : EReal) := by
  rw [← th_val, num_word, mil_word, ← EReal.coe_mul, ← EReal.coe_mul, ← EReal.coe_mul, ← EReal.coe_mul, div_coe _ _ (by norm_num)]
  congr 4
  unfold cc
  ring

theorem gelu_val (x : ℝ) : (x : EReal) * (Ideal.ofBits .f32 0x3F000000#32 * ((1 : EReal) + (th x : EReal))) = (gelu x : EReal) := by
  rw [pos_half_word, ← EReal.coe_one, ← EReal.coe_add, ← EReal.coe_mul, ← EReal.coe_mul]
  rfl

theorem gelu_ker (x : ℝ) : Ideal.ofBits .f32 0x3F000000#32 * (x : EReal) * ((1 : EReal) + (th x : EReal)) = (gelu x : EReal) := by
  rw [pos_half_word, ← EReal.coe_one, ← EReal.coe_add, ← EReal.coe_mul, ← EReal.coe_mul]
  congr 1
  unfold gelu
  ring

theorem slope_ker (x : ℝ) : Ideal.ofBits .f32 0x3F000000#32 * ((1 : EReal) + (th x : EReal))
    + Ideal.ofBits .f32 0x3F000000#32 * (x : EReal) * (1 - (th x : EReal) * (th x : EReal))
      * (Ideal.ofBits .f32 0x3F4C422A#32 * (1 + ((26829 / 200000 : ℝ) : EReal) * ((x : EReal) * (x : EReal)))) = (slope x : EReal) := by
  rw [pos_half_word, ← EReal.coe_one, kk_word]
  simp only [← EReal.coe_add, ← EReal.coe_mul, ← EReal.coe_sub]
  congr 1
  unfold slope cc
  ring

theorem slope_ref (g x : ℝ) : (g : EReal) * (Ideal.ofBits .f32 0x3F000000#32 * ((1 : EReal) + (th x : EReal)))
    + Ideal.ofBits .f32 0x3F4C422A#32 * (Ideal.ofBits .f32 0x3F000000#32 * ((x : EReal) * (g : EReal))
        * (((1 : EReal) + (th x : EReal)) * (1 - (th x : EReal))))
    + Ideal.ofBits .f32 0x472EAB00#32 * Ideal.div (Ideal.ofBits .f32 0x3F4C422A#32 * (Ideal.ofBits .f32 0x3F000000#32 * ((x : EReal) * (g : EReal))
        * (((1 : EReal) + (th x : EReal)) * (1 - (th x : EReal))))) (Ideal.ofBits .f32 0x49742400#32)
      * (Ideal.ofBits .f32 0x40400000#32 * ((x : EReal) * (x : EReal))) = ((g * slope x : ℝ) : EReal) := by
  rw [pos_half_word, ← EReal.coe_one, kk_word, num_word, mil_word, three_word]
  simp only [← EReal.coe_add, ← EReal.coe_mul, ← EReal.coe_sub]
  rw [div_coe _ _ (by norm_num)]
  simp only [← EReal.coe_add, ← EReal.coe_mul, ← EReal.coe_sub]
  congr 1
  unfold slope cc
  ring

theorem sg_slope (x : ℝ) : (sg x : EReal) * (Ideal.ofBits .f32 0x3F800000#32 - (sg x : EReal)) = ((sg x * (1 - sg x) : ℝ) : EReal) := by
  rw [one_word, ← EReal.coe_sub, ← EReal.coe_mul]

theorem sg_val (x : ℝ) : Ideal.div (Ideal.ofBits .f32 0x3F800000#32) (Ideal.ofBits .f32 0x3F800000#32 + Ideal.exp (-(x : EReal))) = (sg x : EReal) := by
  rw [one_word, ← EReal.coe_neg, exp_coe, ← EReal.coe_add, div_coe _ _ (by positivity)]
  rfl

theorem sg_one (x : ℝ) : Ideal.div 1 (1 + Ideal.exp (-(x : EReal))) = (sg x : EReal) := by
  have h := sg_val x
  rwa [one_word, EReal.coe_one] at h

theorem sg_slope_one (x : ℝ) : (sg x : EReal) * (1 - (sg x : EReal)) = ((sg x * (1 - sg x) : ℝ) : EReal) := by
  have h := sg_slope x
  rwa [one_word, EReal.coe_one] at h

/-- The layer norm's gradient by its row. -/
def lnBack (z x : Fin 1024 → ℝ) (k : Fin 1024) : ℝ :=
  scl x * (z k - (∑ e, z e) / 1024 - x k * scl x * ((∑ e, z e * (x e * scl x)) / 1024))

/-- The same as differentiation writes it, at a centred row: the norm's part, and its mean taken out. -/
theorem lnBack_eq (z x : Fin 1024 → ℝ) (hx : ∑ e, x e = 0) (k : Fin 1024) :
    back z x k - (∑ e, back z x e) / 1024 = lnBack z x k := by
  have e1 : ∑ e, back z x e = scl x * ∑ e, z e := by
    unfold back
    rw [Finset.sum_sub_distrib, ← Finset.mul_sum, ← Finset.sum_mul, ← Finset.sum_mul, hx]
    ring
  have e2 : ∑ e, z e * (x e * scl x) = (∑ e, z e * x e) * scl x := by
    rw [Finset.sum_mul]
    exact Finset.sum_congr rfl fun e _ => by ring
  rw [e1, lnBack, e2, back]
  ring

/-- A row less its mean. -/
def cen (a : Fin 1024 → ℝ) (k : Fin 1024) : ℝ := a k - (∑ e, a e) / 1024

theorem cen_val (a : Fin 1024 → ℝ) (k : Fin 1024) : (a k : EReal) - Ideal.div (∑ e, (a e : EReal)) (Ideal.ofBits .f32 0x44800000#32) = (cen a k : EReal) := by
  rw [← coe_sum, mean_val, ← EReal.coe_sub]
  rfl

theorem cen_sum (a : Fin 1024 → ℝ) : ∑ e, cen a e = 0 := by
  unfold cen
  rw [Finset.sum_sub_distrib, Finset.sum_const, Finset.card_univ, Fintype.card_fin, nsmul_eq_mul]
  push_cast
  ring

/-- A row's block of 128 and its place in it; a column's group and its place in it. -/
abbrev row (q : Fin 32) (i : Fin 128) : Fin 4096 := ⟨q.val * 128 + i.val, by omega⟩
abbrev col (g : Fin 8) (d : Fin 128) : Fin 1024 := ⟨g.val * 128 + d.val, by omega⟩
abbrev qOf (r : Fin 4096) : Fin 32 := ⟨r.val / 128, by omega⟩
abbrev iOf (r : Fin 4096) : Fin 128 := ⟨r.val % 128, by omega⟩
abbrev gOf (k : Fin 1024) : Fin 8 := ⟨k.val / 128, by omega⟩
abbrev dOf (k : Fin 1024) : Fin 128 := ⟨k.val % 128, by omega⟩

theorem qOf_row (q : Fin 32) (i : Fin 128) : qOf (row q i) = q := Fin.ext (by simp only; omega)
theorem iOf_row (q : Fin 32) (i : Fin 128) : iOf (row q i) = i := Fin.ext (by simp only; omega)
theorem gOf_col (g : Fin 8) (d : Fin 128) : gOf (col g d) = g := Fin.ext (by simp only; omega)
theorem dOf_col (g : Fin 8) (d : Fin 128) : dOf (col g d) = d := Fin.ext (by simp only; omega)
theorem row_of (r : Fin 4096) : row (qOf r) (iOf r) = r := Fin.ext (by simp only; omega)
theorem col_of (k : Fin 1024) : col (gOf k) (dOf k) = k := Fin.ext (by simp only; omega)

/-- The arguments' entries as real numbers. -/
structure Args where
  (u v ga gb yb dm : Fin 4096 → Fin 1024 → ℝ)
  (w : Fin 8 → Fin 128 → Fin 128 → ℝ)
  (b : Fin 8 → Fin 128 → ℝ)
  (gv : Fin 1024 → ℝ)

open Cert.MixRefIdeal in
/-- The call's arguments have these real entries. -/
structure Is (N : Args) (x0 x1 x2 x3 x4 x5 : FVec Ideal S4096x1024 .f32) (x6 : FVec Ideal S8x128x128 .f32) (x7 : FVec Ideal S8x128 .f32) (x8 : FVec Ideal S1024 .f32) : Prop where
  u : ∀ r k, x0 (ix2 r k) = (N.u r k : EReal)
  v : ∀ r k, x1 (ix2 r k) = (N.v r k : EReal)
  ga : ∀ r k, x2 (ix2 r k) = (N.ga r k : EReal)
  gb : ∀ r k, x3 (ix2 r k) = (N.gb r k : EReal)
  yb : ∀ r k, x4 (ix2 r k) = (N.yb r k : EReal)
  dm : ∀ r k, x5 (ix2 r k) = (N.dm r k : EReal)
  w : ∀ g i s, x6 (ix3 g i s) = (N.w g i s : EReal)
  b : ∀ g i, x7 (ix2 g i) = (N.b g i : EReal)
  gv : ∀ k, x8 (ix1 k) = (N.gv k : EReal)

namespace Args
variable (N : Args)

/-- The value half's unit, centred; the layer norm of it, with and without the gain. -/
def xc (r : Fin 4096) : Fin 1024 → ℝ := cen fun k => gelu (N.v r k)
def xh (r : Fin 4096) (k : Fin 1024) : ℝ := N.xc r k * scl (N.xc r)
def vn (r : Fin 4096) (k : Fin 1024) : ℝ := N.xh r k * N.gv k
/-- The masked weight, and the mix of one block of rows. -/
def mw (g : Fin 8) (i s : Fin 128) : ℝ := if s ≤ i then N.w g i s else 0
def mixed (q : Fin 32) (i : Fin 128) (g : Fin 8) (d : Fin 128) : ℝ := (∑ s, N.mw g i s * N.vn (row q s) (col g d)) + N.b g i
/-- The cotangents of the mixed rows, of the mix and of the normed rows. -/
def dya (r : Fin 4096) (k : Fin 1024) : ℝ := N.dm r k * sg (N.ga r k)
def dmx (r : Fin 4096) (k : Fin 1024) : ℝ := N.dya r k * gelu (N.u r k)
def dvn (q : Fin 32) (s : Fin 128) (g : Fin 8) (d : Fin 128) : ℝ := ∑ i, N.mw g i s * N.dmx (row q i) (col g d)
def dvnR (r : Fin 4096) (k : Fin 1024) : ℝ := N.dvn (qOf r) (iOf r) (gOf k) (dOf k)
/-- The gradients the call writes. -/
def du (q : Fin 32) (i : Fin 128) (g : Fin 8) (d : Fin 128) : ℝ := N.dya (row q i) (col g d) * N.mixed q i g d * slope (N.u (row q i) (col g d))
def dv (r : Fin 4096) (k : Fin 1024) : ℝ := lnBack (fun e => N.dvnR r e * N.gv e) (N.xc r) k * slope (N.v r k)
def dga (q : Fin 32) (i : Fin 128) (g : Fin 8) (d : Fin 128) : ℝ :=
  N.dm (row q i) (col g d) * (gelu (N.u (row q i) (col g d)) * N.mixed q i g d) * (sg (N.ga (row q i) (col g d)) * (1 - sg (N.ga (row q i) (col g d))))
def dgb (r : Fin 4096) (k : Fin 1024) : ℝ := N.dm r k * N.yb r k * (sg (N.gb r k) * (1 - sg (N.gb r k)))
def dyb (r : Fin 4096) (k : Fin 1024) : ℝ := N.dm r k * sg (N.gb r k)
def delta (r : Fin 4096) (g : Fin 8) : ℝ := ∑ d, N.dyb r (col g d) * N.yb r (col g d)
def dw (q : Fin 32) (g : Fin 8) (i s : Fin 128) : ℝ := if s ≤ i then ∑ d, N.dmx (row q i) (col g d) * N.vn (row q s) (col g d) else 0
def db (q : Fin 32) (i : Fin 128) (g : Fin 8) : ℝ := ∑ d, N.dmx (row q i) (col g d)
def dgv (q : Fin 32) (k : Fin 1024) : ℝ := ∑ i, N.dvnR (row q i) k * N.xh (row q i) k

end Args

end Cert.MixOwn

end
-- ==== Proof.MixPay.lean ====
module

public import proofs.«01_k».proof.Proof.Gen.MixBwdIdeal.Skeleton
public import Idealize.ShloMosaic.Lib.Pointwise
public import Idealize.ShloMosaic.Lib.WordCmp
public import proofs.«01_k».proof.Proof.MixNum

/-! What the payloads of the mix's backward call leave, at rows of real entries: each function of 128 rows once, at any group. -/

@[expose] public section

set_option maxRecDepth 16384

noncomputable section

open Idealize.ShloMosaic

namespace Cert.MixOwn

open Cert Cert.Reals Cert.Norms Cert.MixBwdIdeal Cert.MixBwdIdeal.Gen

abbrev Blk := FVec Ideal S128x1024 .f32
abbrev Til := FVec Ideal S128x128 .f32
abbrev Cut (o : ℕ) := S128x1024.Slices ![0, o] S128x128

theorem c_word : (Named.named κ "gelu_c" 0x3D372713#32 : Ideal .f32) = (cc : EReal) := by simp [Named.named, κ, cc]
theorem c3_word : (Named.named κ "gelu_3c" 0x3E095D4F#32 : Ideal .f32) = ((26829 / 200000 : ℝ) : EReal) := by simp [Named.named, κ]

/-- The columns of one group. -/
theorem cut_at {φ : FTy} {o : ℕ} (h : Cut o) (x : FVec Ideal S128x1024 φ) (g : Fin 8) (ho : o = g.val * 128) (i j : Fin 128) :
    extractStridedSlice S128x128 ![0, o] x h (ix2 i j) = x (ix2 i (col g j)) := by
  subst ho
  pointwise

variable {N : Args}

theorem th_at (x : Blk) (a : Fin 1024 → ℝ) (i : Fin 128) (h : ∀ k, x (ix2 i k) = (a k : EReal)) (k : Fin 1024) :
    k0_pay17 (F := Ideal) x (ix2 i k) = (th (a k) : EReal) := by
  pointwise [k0_pay17, k0_pay15, h, c_word]
  exact th_val _

theorem gelu_at (x : Blk) (a : Fin 1024 → ℝ) (i : Fin 128) (h : ∀ k, x (ix2 i k) = (a k : EReal)) (k : Fin 1024) :
    k0_pay18 (F := Ideal) x (ix2 i k) = (gelu (a k) : EReal) := by
  pointwise [k0_pay18, k0_pay15, th_at x a i h, h]
  exact gelu_ker _

theorem thv_at (x : Blk) (a : Fin 1024 → ℝ) (i : Fin 128) (h : ∀ k, x (ix2 i k) = (a k : EReal)) (k : Fin 1024) :
    k0_pay20 (F := Ideal) (k0_pay19 x) (ix2 i k) = (th (a k) : EReal) := by
  pointwise [k0_pay20, k0_pay19, k0_pay16, h, c_word]
  exact th_val _

theorem xc_at (x : Blk) (a : Fin 1024 → ℝ) (i : Fin 128) (h : ∀ k, x (ix2 i k) = (a k : EReal)) (k : Fin 1024) :
    k0_pay21 (F := Ideal) (k0_pay16 x) (k0_pay19 x) (ix2 i k) = (cen (fun k => gelu (a k)) k : EReal) := by
  pointwise [k0_pay21, k0_pay16, thv_at x a i h, h]
  simp only [gelu_ker]
  exact cen_val (fun k => gelu (a k)) k

theorem rs_at (x : Blk) (a : Fin 1024 → ℝ) (i : Fin 128) (h : ∀ k, x (ix2 i k) = (a k : EReal)) :
    k0_pay22 (F := Ideal) (k0_pay16 x) (k0_pay19 x) (ix2 i 0) = (scl (cen fun k => gelu (a k)) : EReal) := by
  pointwise [k0_pay22]
  exact scl_val _ _ (xc_at x a i h)

theorem xh_at (x : Blk) (a : Fin 1024 → ℝ) (i : Fin 128) (h : ∀ k, x (ix2 i k) = (a k : EReal)) (k : Fin 1024) :
    k0_pay23 (F := Ideal) (k0_pay16 x) (k0_pay19 x) (ix2 i k) = ((cen (fun k => gelu (a k)) k * scl (cen fun k => gelu (a k)) : ℝ) : EReal) := by
  pointwise [k0_pay23, xc_at x a i h, rs_at x a i h]
  rw [EReal.coe_mul]

theorem vn_at (G : FVec Ideal S1x1024 .f32) (x : Blk) (a : Fin 1024 → ℝ) (i : Fin 128) (h : ∀ k, x (ix2 i k) = (a k : EReal)) (k : Fin 1024) :
    k0_pay24 (F := Ideal) (k0_pay5 G) (k0_pay16 x) (k0_pay19 x) (ix2 i k)
      = ((cen (fun k => gelu (a k)) k * scl (cen fun k => gelu (a k)) : ℝ) : EReal) * (G (ix2 0 k) : EReal) := by
  pointwise [k0_pay24, k0_pay5, xh_at x a i h]

theorem sa_at (x : Blk) (a : Fin 1024 → ℝ) (i : Fin 128) (h : ∀ k, x (ix2 i k) = (a k : EReal)) (k : Fin 1024) :
    k0_pay25 (F := Ideal) x (ix2 i k) = (sg (a k) : EReal) := by
  pointwise [k0_pay25, h]
  rw [zero_sub]; exact sg_one _

theorem sb_at (x : Blk) (a : Fin 1024 → ℝ) (i : Fin 128) (h : ∀ k, x (ix2 i k) = (a k : EReal)) (k : Fin 1024) :
    k0_pay26 (F := Ideal) x (ix2 i k) = (sg (a k) : EReal) := by
  pointwise [k0_pay26, h]
  rw [zero_sub]; exact sg_one _

/-- The mask, and the masked weight. -/
theorem mask_at (i s : Fin 128) : k0_pay6 (ix2 i s) = if s ≤ i then 1#1 else 0#1 := by
  pointwise [k0_pay6]
  rw [WordCmp.cmpi_sle_ofNat (by omega) (by omega)]
  by_cases h : s ≤ i
  · rw [if_pos h, decide_eq_true (Fin.le_def.1 h)]; rfl
  · rw [if_neg h, decide_eq_false (fun e => h (Fin.le_def.2 e))]; rfl

theorem mw_at (W : FVec Ideal S1x128x128 .f32) (w : Fin 128 → Fin 128 → ℝ) (h : ∀ i s, W (ix3 0 i s) = (w i s : EReal)) (i s : Fin 128) :
    k0_pay7 (F := Ideal) W (ix2 i s) = ((if s ≤ i then w i s else 0 : ℝ) : EReal) := by
  pointwise [k0_pay7, mask_at, h]
  by_cases hs : s ≤ i
  · rw [if_pos hs, if_pos hs]; rfl
  · rw [if_neg hs, if_neg hs]; exact EReal.coe_zero.symm

/-- A sum over the columns, by their groups. -/
theorem sum_cols (f : Fin 1024 → ℝ) : ∑ k, f k = ∑ g : Fin 8, ∑ d : Fin 128, f (col g d) := by
  rw [← Fintype.sum_prod_type' (f := fun g d => f (col g d))]
  exact (Fintype.sum_equiv (finProdFinEquiv (m := 8) (n := 128)) (fun p => f (col p.1 p.2)) f
    (fun p => congrArg f (Fin.ext (by simp [finProdFinEquiv]; omega)))).symm

/-- The groups' columns side by side. -/
def cat (f : Fin 8 → Til) : Blk :=
  concatenate S128x1024 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩]
    concatenates_S128x128_S128x128_S128x128_S128x128_S128x128_S128x128_S128x128_S128x128_S128x1024_d1

theorem cat_at (f : Fin 8 → Til) (i : Fin 128) (k : Fin 1024) : cat f (ix2 i k) = f (gOf k) (ix2 i (dOf k)) := by
  pointwise [cat]
  split_ifs
  all_goals exact congr (congrArg f (Fin.ext (by simp; omega))) (congrArg (ix2 i) (Fin.ext (by simp; omega)))

abbrev vnB (G : FVec Ideal S1x1024 .f32) (v : Blk) : FVec Ideal S128x1024 .bf16 := k0_pay24 (F := Ideal) (k0_pay5 G) (k0_pay16 v) (k0_pay19 v)
abbrev dyaB (a d : Blk) : Blk := k0_pay30 (F := Ideal) (k0_pay25 a) d

section Tiles
variable (o : ℕ) (h : Cut o)

def dltT (p : Blk) : Til :=
  broadcastTo S128x128 (shapeCast S128x1 (shapeCast S128x1 (multiReduction .add [1] S128 (extractStridedSlice S128x128 ![0, o] p h : Til) 0x00000000#32 reduces_S128x128_S128 (.inl rfl) rfl : FVec Ideal S128 .f32) shapeCasts_S128_S128x1 : FVec Ideal S128x1 .f32)
    shapeCasts_S128x1_S128x1 : FVec Ideal S128x1 .f32) broadcasts_S128x1_S128x128

def mixT (W : FVec Ideal S1x128x128 .f32) (G : FVec Ideal S1x1024 .f32) (v : Blk) (B : FVec Ideal S128x1 .f32) : Til :=
  addf (matmul dot_S128x128_S128x128_S128x128_1_0_0_1_n_n none (k0_pay7 (F := Ideal) W) (extractStridedSlice S128x128 ![0, o] (vnB G v) h) (constant S128x128 .f32 0x00000000#32))
    (broadcastTo S128x128 (shapeCast S128x1 B shapeCasts_S128x1_S128x1) broadcasts_S128x1_S128x128)

def dmxF (u a d : Blk) : Til := mulf (extractStridedSlice S128x128 ![0, o] (dyaB a d) h) (extractStridedSlice S128x128 ![0, o] (k0_pay18 (F := Ideal) u) h)
def dmxT (u a d : Blk) : FVec Ideal S128x128 .bf16 := truncf .bf16 (dmxF o h u a d) bitsLt_bf16_f32

def dgaT (W : FVec Ideal S1x128x128 .f32) (G : FVec Ideal S1x1024 .f32) (v : Blk) (B : FVec Ideal S128x1 .f32) (u a d : Blk) : FVec Ideal S128x128 .bf16 :=
  truncf .bf16 (mulf (mulf (extractStridedSlice S128x128 ![0, o] d h) (mulf (extractStridedSlice S128x128 ![0, o] (k0_pay18 (F := Ideal) u) h) (mixT o h W G v B)))
    (mulf (extractStridedSlice S128x128 ![0, o] (k0_pay25 (F := Ideal) a) h)
      (subf (broadcast S128x128 (Scalar.ofBits .f32 0x3F800000#32)) (extractStridedSlice S128x128 ![0, o] (k0_pay25 (F := Ideal) a) h))) : Til) bitsLt_bf16_f32

def duT (W : FVec Ideal S1x128x128 .f32) (G : FVec Ideal S1x1024 .f32) (v : Blk) (B : FVec Ideal S128x1 .f32) (u a d : Blk) : FVec Ideal S128x128 .bf16 :=
  truncf .bf16 (mulf (mulf (extractStridedSlice S128x128 ![0, o] (dyaB a d) h) (mixT o h W G v B))
    (addf (mulf (broadcast S128x128 (Scalar.ofBits .f32 0x3F000000#32)) (addf (broadcast S128x128 (Scalar.ofBits .f32 0x3F800000#32)) (extractStridedSlice S128x128 ![0, o] (k0_pay17 (F := Ideal) u) h)))
      (mulf (mulf (mulf (broadcast S128x128 (Scalar.ofBits .f32 0x3F000000#32)) (extractStridedSlice S128x128 ![0, o] (k0_pay15 (F := Ideal) u) h))
          (subf (broadcast S128x128 (Scalar.ofBits .f32 0x3F800000#32)) (mulf (extractStridedSlice S128x128 ![0, o] (k0_pay17 (F := Ideal) u) h) (extractStridedSlice S128x128 ![0, o] (k0_pay17 (F := Ideal) u) h))))
        (mulf (broadcast S128x128 (Scalar.ofBits .f32 0x3F4C422A#32)) (addf (broadcast S128x128 (Scalar.ofBits .f32 0x3F800000#32))
          (mulf (broadcast S128x128 (Named.named κ "gelu_3c" 0x3E095D4F#32)) (mulf (extractStridedSlice S128x128 ![0, o] (k0_pay15 (F := Ideal) u) h) (extractStridedSlice S128x128 ![0, o] (k0_pay15 (F := Ideal) u) h))))))) : Til) bitsLt_bf16_f32

def dvnT (W : FVec Ideal S1x128x128 .f32) (u a d : Blk) : Til :=
  matmul dot_S128x128_S128x128_S128x128_0_0_1_1_n_n none (k0_pay7 (F := Ideal) W) (dmxT o h u a d) (constant S128x128 .f32 0x00000000#32)

def dwT (G : FVec Ideal S1x1024 .f32) (v u a d : Blk) (old : FVec Ideal S1x128x128 .f32) : FVec Ideal S1x128x128 .f32 :=
  shapeCast S1x128x128 (addf (shapeCast S128x128 old shapeCasts_S1x128x128_S128x128)
    (select k0_pay6 (matmul dot_S128x128_S128x128_S128x128_1_1_0_0_n_n none (dmxT o h u a d) (extractStridedSlice S128x128 ![0, o] (vnB G v) h) (constant S128x128 .f32 0x00000000#32))
      (broadcast S128x128 (Scalar.ofBits .f32 0x00000000#32))) : Til) shapeCasts_S128x128_S1x128x128

end Tiles

/-- 128 rows of the arrays, as they are loaded. -/
structure Rows (N : Args) (q : Fin 32) (u v a b y d : Blk) : Prop where
  u : ∀ i k, u (ix2 i k) = (N.u (row q i) k : EReal)
  v : ∀ i k, v (ix2 i k) = (N.v (row q i) k : EReal)
  a : ∀ i k, a (ix2 i k) = (N.ga (row q i) k : EReal)
  b : ∀ i k, b (ix2 i k) = (N.gb (row q i) k : EReal)
  y : ∀ i k, y (ix2 i k) = (N.yb (row q i) k : EReal)
  d : ∀ i k, d (ix2 i k) = (N.dm (row q i) k : EReal)

variable {q : Fin 32} {u v a b y d : Blk} (R : Rows N q u v a b y d) {G : FVec Ideal S1x1024 .f32} (hG : ∀ k, G (ix2 0 k) = (N.gv k : EReal))
  (g : Fin 8) {W : FVec Ideal S1x128x128 .f32} (hW : ∀ i s, W (ix3 0 i s) = (N.w g i s : EReal)) {B : FVec Ideal S128x1 .f32} (hB : ∀ i, B (ix2 i 0) = (N.b g i : EReal))
  {o : ℕ} (h : Cut o) (ho : o = g.val * 128)

include R hG in
theorem vnB_at (i : Fin 128) (k : Fin 1024) : vnB G v (ix2 i k) = (N.vn (row q i) k : EReal) := by
  refine (vn_at G v (N.v (row q i)) i (R.v i) k).trans ?_
  rw [hG, ← EReal.coe_mul]; rfl

include R in
theorem dyaB_at (i : Fin 128) (k : Fin 1024) : dyaB a d (ix2 i k) = (N.dya (row q i) k : EReal) := by
  pointwise [k0_pay30, sa_at a (N.ga (row q i)) i (R.a i), R.d]
  exact (EReal.coe_mul _ _).symm

include R hG hW hB ho in
theorem mixT_at (i j : Fin 128) : mixT o h W G v B (ix2 i j) = (N.mixed q i g j : EReal) := by
  pointwise [mixT, cut_at h _ g ho, mw_at W (N.w g) hW, vnB_at R hG, hB]
  rw [Args.mixed, EReal.coe_add, coe_sum]
  simp only [EReal.coe_mul]
  rfl

include R ho in
theorem dmxF_at (i j : Fin 128) : dmxF o h u a d (ix2 i j) = (N.dmx (row q i) (col g j) : EReal) := by
  pointwise [dmxF, cut_at h _ g ho, dyaB_at R, gelu_at u (N.u (row q i)) i (R.u i)]
  exact (EReal.coe_mul _ _).symm

include R ho in
theorem dmxT_at (i j : Fin 128) : dmxT o h u a d (ix2 i j) = (N.dmx (row q i) (col g j) : EReal) := by
  pointwise [dmxT, dmxF_at R g h ho]

include R hG hW hB ho in
theorem dgaT_at (i j : Fin 128) : dgaT o h W G v B u a d (ix2 i j) = (N.dga q i g j : EReal) := by
  pointwise [dgaT, cut_at h _ g ho, mixT_at R hG g hW hB h ho, gelu_at u (N.u (row q i)) i (R.u i), sa_at a (N.ga (row q i)) i (R.a i), R.d]
  rw [sg_slope_one, Args.dga]
  simp only [EReal.coe_mul]

include R hG hW hB ho in
theorem duT_at (i j : Fin 128) : duT o h W G v B u a d (ix2 i j) = (N.du q i g j : EReal) := by
  pointwise [duT, k0_pay15, cut_at h _ g ho, mixT_at R hG g hW hB h ho, dyaB_at R, th_at u (N.u (row q i)) i (R.u i), R.u, c3_word]
  rw [slope_ker, Args.du, EReal.coe_mul, EReal.coe_mul]

include R hW ho in
theorem dvnT_at (i j : Fin 128) : dvnT o h W u a d (ix2 i j) = (N.dvn q i g j : EReal) := by
  pointwise [dvnT, mw_at W (N.w g) hW, dmxT_at R g h ho]
  rw [Args.dvn, coe_sum]
  simp only [EReal.coe_mul]
  rfl

include R hG ho in
theorem dwT_at (old : FVec Ideal S1x128x128 .f32) (x : Fin 128 → Fin 128 → ℝ) (hx : ∀ i s, old (ix3 0 i s) = (x i s : EReal)) (i s : Fin 128) :
    dwT o h G v u a d old (ix3 0 i s) = ((x i s + N.dw q g i s : ℝ) : EReal) := by
  pointwise [dwT, cut_at h _ g ho, dmxT_at R g h ho, vnB_at R hG, mask_at, hx]
  rw [EReal.coe_add, Args.dw]
  congr 1
  by_cases hs : s ≤ i
  · rw [if_pos hs, if_pos hs, coe_sum]; simp only [EReal.coe_mul]; rfl
  · rw [if_neg hs, if_neg hs]; exact EReal.coe_zero.symm

include R in
theorem dyb_at (i : Fin 128) (k : Fin 1024) : k0_pay27 (F := Ideal) (k0_pay26 b) d (ix2 i k) = (N.dyb (row q i) k : EReal) := by
  pointwise [k0_pay27, sb_at b (N.gb (row q i)) i (R.b i), R.d]
  exact (EReal.coe_mul _ _).symm

include R in
theorem dgb_at (i : Fin 128) (k : Fin 1024) : k0_pay29 (F := Ideal) (k0_pay26 b) y d (ix2 i k) = (N.dgb (row q i) k : EReal) := by
  pointwise [k0_pay29, sb_at b (N.gb (row q i)) i (R.b i), R.d, R.y]
  rw [sg_slope_one, Args.dgb]
  simp only [EReal.coe_mul]

include R ho in
theorem dltT_at (i j : Fin 128) : dltT o h (k0_pay28 (F := Ideal) (k0_pay26 b) y d) (ix2 i j) = (N.delta (row q i) g : EReal) := by
  pointwise [dltT, cut_at h _ g ho, k0_pay28, dyb_at R, R.y]
  rw [Args.delta, coe_sum]
  simp only [EReal.coe_mul]

/-- The groups' first columns. -/
theorem cuts : ∀ g : Fin 8, Cut (g.val * 128)
  | 0 => slices_S128x1024_o0_0_S128x128
  | 1 => slices_S128x1024_o0_128_S128x128
  | 2 => slices_S128x1024_o0_256_S128x128
  | 3 => slices_S128x1024_o0_384_S128x128
  | 4 => slices_S128x1024_o0_512_S128x128
  | 5 => slices_S128x1024_o0_640_S128x128
  | 6 => slices_S128x1024_o0_768_S128x128
  | 7 => slices_S128x1024_o0_896_S128x128

/-- The normed rows' cotangent, all groups. -/
def dvnB (Ws : Fin 8 → FVec Ideal S1x128x128 .f32) (u a d : Blk) : Blk := cat fun g => dvnT (g.val * 128) (cuts g) (Ws g) u a d

include R in
theorem dvnB_at (Ws : Fin 8 → FVec Ideal S1x128x128 .f32) (hWs : ∀ g i s, Ws g (ix3 0 i s) = (N.w g i s : EReal)) (i : Fin 128) (k : Fin 1024) :
    dvnB Ws u a d (ix2 i k) = (N.dvnR (row q i) k : EReal) := by
  rw [dvnB, cat_at, dvnT_at R (gOf k) (hWs _) _ rfl, Args.dvnR, qOf_row, iOf_row]

def dvT (G : FVec Ideal S1x1024 .f32) (v D : Blk) : FVec Ideal S128x1024 .bf16 :=
  k0_pay128 (F := Ideal) (k0_pay16 v) (k0_pay20 (k0_pay19 v)) (k0_pay22 (k0_pay16 v) (k0_pay19 v)) (k0_pay23 (k0_pay16 v) (k0_pay19 v))
    (mulf D (broadcastTo S128x1024 (k0_pay5 (F := Ideal) G) broadcasts_S1x1024_S128x1024))
    (shapeCast S128x1 (multiReduction .add [1] S128 (mulf D (broadcastTo S128x1024 (k0_pay5 (F := Ideal) G) broadcasts_S1x1024_S128x1024) : Blk) 0x00000000#32 reduces_S128x1024_S128 (.inl rfl) rfl : FVec Ideal S128 .f32) shapeCasts_S128_S128x1)

include R hG in
theorem dvT_at (D : Blk) (hD : ∀ i k, D (ix2 i k) = (N.dvnR (row q i) k : EReal)) (i : Fin 128) (k : Fin 1024) :
    dvT G v D (ix2 i k) = (N.dv (row q i) k : EReal) := by
  have h16 : ∀ i k, k0_pay16 (F := Ideal) v (ix2 i k) = (N.v (row q i) k : EReal) := fun i k => by pointwise [k0_pay16, R.v]
  pointwise [dvT, k0_pay128, k0_pay5, h16, hD, hG, c3_word, thv_at v (N.v (row q i)) i (R.v i), xh_at v (N.v (row q i)) i (R.v i), rs_at v (N.v (row q i)) i (R.v i)]
  rw [slope_ker]
  simp only [← EReal.coe_mul, ← coe_sum, mean_val, ← EReal.coe_sub]
  rfl

def dgvT (v D : Blk) (old : FVec Ideal S1x1024 .f32) : FVec Ideal S1x1024 .f32 :=
  addf (shapeCast S1x1024 old shapeCasts_S1x1024_S1x1024) (shapeCast S1x1024 (multiReduction .add [0] S1024 (mulf D (k0_pay23 (F := Ideal) (k0_pay16 v) (k0_pay19 v)) : Blk) 0x00000000#32 reduces_S128x1024_S1024 (.inl rfl) rfl : FVec Ideal S1024 .f32)
    shapeCasts_S1024_S1x1024)

include R in
theorem dgvT_at (D : Blk) (hD : ∀ i k, D (ix2 i k) = (N.dvnR (row q i) k : EReal)) (old : FVec Ideal S1x1024 .f32) (x : Fin 1024 → ℝ)
    (hx : ∀ k, old (ix2 0 k) = (x k : EReal)) (k : Fin 1024) : dgvT v D old (ix2 0 k) = ((x k + N.dgv q k : ℝ) : EReal) := by
  have hxh : ∀ i k, k0_pay23 (F := Ideal) (k0_pay16 v) (k0_pay19 v) (ix2 i k) = (N.xh (row q i) k : EReal) := fun i k => xh_at v (N.v (row q i)) i (R.v i) k
  pointwise [dgvT, hxh, hD, hx]
  rw [EReal.coe_add, Args.dgv, coe_sum]
  simp only [EReal.coe_mul]

def dbtT (f : Fin 8 → Til) (old : Til) (sel : FVec Ideal S1024x128 .bf16) : Til :=
  addf (shapeCast S128x128 old shapeCasts_S128x128_S128x128)
    (addf (addf (matmul dot_S128x1024_S1024x128_S128x128_1_0_0_1_n_n none (truncf .bf16 (cat f) bitsLt_bf16_f32) (shapeCast S1024x128 sel shapeCasts_S1024x128_S1024x128) (constant S128x128 .f32 0x00000000#32))
        (matmul dot_S128x1024_S1024x128_S128x128_1_0_0_1_n_n none (truncf .bf16 (subf (cat f) (extf .f32 (truncf .bf16 (cat f) bitsLt_bf16_f32 : FVec Ideal S128x1024 .bf16) bitsLt_bf16_f32)) bitsLt_bf16_f32)
          (shapeCast S1024x128 sel shapeCasts_S1024x128_S1024x128) (constant S128x128 .f32 0x00000000#32)))
      (matmul dot_S128x1024_S1024x128_S128x128_1_0_0_1_n_n none
        (truncf .bf16 (subf (subf (cat f) (extf .f32 (truncf .bf16 (cat f) bitsLt_bf16_f32 : FVec Ideal S128x1024 .bf16) bitsLt_bf16_f32))
          (extf .f32 (truncf .bf16 (subf (cat f) (extf .f32 (truncf .bf16 (cat f) bitsLt_bf16_f32 : FVec Ideal S128x1024 .bf16) bitsLt_bf16_f32)) bitsLt_bf16_f32 : FVec Ideal S128x1024 .bf16) bitsLt_bf16_f32)) bitsLt_bf16_f32)
        (shapeCast S1024x128 sel shapeCasts_S1024x128_S1024x128) (constant S128x128 .f32 0x00000000#32)))

theorem pick (F : Fin 1024 → ℝ) (l : Fin 128) : ∑ k, F k * (if k.val / 128 = l.val then 1 else 0) = if h : l.val < 8 then ∑ j, F (col ⟨l.val, h⟩ j) else 0 := by
  rw [sum_cols]
  have e : ∀ g d, F (col g d) * (if (col g d).val / 128 = l.val then 1 else 0) = if g.val = l.val then F (col g d) else 0 := fun g d => by
    have : (col g d).val / 128 = g.val := congrArg Fin.val (gOf_col g d)
    rw [this]
    by_cases h : g.val = l.val
    · rw [if_pos h, if_pos h, mul_one]
    · rw [if_neg h, if_neg h, mul_zero]
  simp only [e]
  by_cases h : l.val < 8
  · rw [dif_pos h, Finset.sum_eq_single ⟨l.val, h⟩]
    · exact Finset.sum_congr rfl fun d _ => if_pos rfl
    · exact fun g _ hg => Finset.sum_eq_zero fun d _ => if_neg fun e => hg (Fin.ext e)
    · exact fun hn => absurd (Finset.mem_univ _) hn
  · rw [dif_neg h]
    exact Finset.sum_eq_zero fun g _ => Finset.sum_eq_zero fun d _ => if_neg (by omega)

theorem dbtT_at (f : Fin 8 → Til) (hf : ∀ g i j, f g (ix2 i j) = (N.dmx (row q i) (col g j) : EReal)) (old : Til) (x : Fin 128 → Fin 128 → ℝ)
    (hx : ∀ i l, old (ix2 i l) = (x i l : EReal)) (sel : FVec Ideal S1024x128 .bf16)
    (hs : ∀ k l, sel (ix2 k l) = ((if k.val / 128 = l.val then 1 else 0 : ℝ) : EReal)) (i l : Fin 128) :
    dbtT f old sel (ix2 i l) = ((x i l + if h : l.val < 8 then N.db q i ⟨l.val, h⟩ else 0 : ℝ) : EReal) := by
  have hc : ∀ k, cat f (ix2 i k) = (N.dmx (row q i) k : EReal) := fun k => by rw [cat_at, hf, col_of]
  pointwise [dbtT, hc, hx, hs]
  simp only [← EReal.coe_sub, ← EReal.coe_mul, ← coe_sum, ← EReal.coe_add]
  congr 2
  simp only [sub_self, zero_mul, Finset.sum_const_zero, add_zero]
  exact pick _ l

end Cert.MixOwn

end
-- ==== Proof.MixHost.lean ====
module

public import proofs.«01_k».proof.Proof.Gen.MixBwdIdeal.Frame
public import Idealize.ShloMosaic.Lib.Pipeline.ValueKit
public import Idealize.ShloMosaic.Lib.Pointwise
public import proofs.«01_k».proof.Proof.MixPay

/-! The arrays the mix's backward call is entered with, and its blocks. -/

@[expose] public section

set_option maxRecDepth 16384

noncomputable section

open Idealize.ShloMosaic Idealize.ShloMosaic.TcCoe Idealize.SL.Sem
open Idealize.ShloMosaic.Pipeline (Dat)

namespace Cert.MixOwn

open Cert Cert.Reals Cert.Norms Cert.MixBwdIdeal Cert.MixBwdIdeal.Gen

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 2] ∧ win0_3.index t = ![t.val, 3]
    ∧ win0_4.index t = ![t.val, 0] ∧ win0_5.index t = ![t.val, 0] ∧ win0_6.index t = ![0, 0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![0, 0, 0] ∧ win0_14.index t = ![0, 0] ∧ win0_15.index t = ![0, 0] :=
  (by decide +kernel : ∀ t : Fin grid0.N, _)

abbrev A0 : FVec Ideal S4096x1024 .f32 := m ((c : Thread nD τ).loc main_arg0)
abbrev A1 : FVec Ideal S4096x1024 .f32 := m ((c : Thread nD τ).loc main_arg1)
abbrev A2 : FVec Ideal S4096x1024 .f32 := m ((c : Thread nD τ).loc main_arg2)
abbrev A3 : FVec Ideal S4096x1024 .f32 := m ((c : Thread nD τ).loc main_arg3)
abbrev A4 : FVec Ideal S4096x1024 .f32 := m ((c : Thread nD τ).loc main_arg4)
abbrev A5 : FVec Ideal S4096x1024 .f32 := m ((c : Thread nD τ).loc main_arg5)
abbrev A6 : FVec Ideal S8x128x128 .f32 := m ((c : Thread nD τ).loc main_arg6)
abbrev A7 : FVec Ideal S8x128 .f32 := m ((c : Thread nD τ).loc main_arg7)
abbrev A8 : FVec Ideal S1024 .f32 := m ((c : Thread nD τ).loc main_arg8)

/-- The call's arguments have these real entries. -/
abbrev Num (N : Args) : Prop := Is N (A0 m c) (A1 m c) (A2 m c) (A3 m c) (A4 m c) (A5 m c) (A6 m c) (A7 m c) (A8 m c)

/-- The row of the arrays that row `i` of the blocks at point `t` is. -/
abbrev rowT (t : Fin cfg0.N) (i : Fin 256) : Fin 4096 := ⟨t.val * 256 + i.val, by have := lt_of_lt_of_eq t.isLt N_0; omega⟩

variable {m c} {N : Args} (hN : Num m c N)

theorem entry_proj (r : Fin 4096) (k : Fin 7680) : V m c main_v1 (ix2 r k) = (if h : k.val < 4096 then
      if h_1 : k.val < 1024 then A0 m c (ix2 r ⟨k.val, h_1⟩)
      else
        if h_2 : k.val - 1024 < 1024 then A1 m c (ix2 r ⟨k.val - 1024, h_2⟩)
        else
          if h_3 : k.val - 1024 - 1024 < 1024 then A2 m c (ix2 r ⟨k.val - 1024 - 1024, h_3⟩)
          else A3 m c (ix2 r ⟨k.val - 1024 - 1024 - 1024, by omega⟩)
    else (FloatOps.sitofp FTy.f32 0#32 : Ideal .f32) : Elt Ideal .f32) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

theorem entry_0 (r : Fin 4096) (k : Fin 1024) : V m c main_v1 (ix2 r ⟨k.val, by omega⟩) = A0 m c (ix2 r k) := by
  rw [entry_proj, dif_pos (show k.val < 4096 by omega), dif_pos k.isLt]

theorem entry_1 (r : Fin 4096) (k : Fin 1024) : V m c main_v1 (ix2 r ⟨1024 + k.val, by omega⟩) = A1 m c (ix2 r k) := by
  rw [entry_proj, dif_pos (show 1024 + k.val < 4096 by omega), dif_neg (show ¬ 1024 + k.val < 1024 by omega), dif_pos (show 1024 + k.val - 1024 < 1024 by omega)]
  congr 2
  exact Fin.ext (show 1024 + k.val - 1024 = k.val by omega)

theorem entry_2 (r : Fin 4096) (k : Fin 1024) : V m c main_v1 (ix2 r ⟨2048 + k.val, by omega⟩) = A2 m c (ix2 r k) := by
  rw [entry_proj, dif_pos (show 2048 + k.val < 4096 by omega), dif_neg (show ¬ 2048 + k.val < 1024 by omega), dif_neg (show ¬ 2048 + k.val - 1024 < 1024 by omega),
    dif_pos (show 2048 + k.val - 1024 - 1024 < 1024 by omega)]
  congr 2
  exact Fin.ext (show 2048 + k.val - 1024 - 1024 = k.val by omega)

theorem entry_3 (r : Fin 4096) (k : Fin 1024) : V m c main_v1 (ix2 r ⟨3072 + k.val, by omega⟩) = A3 m c (ix2 r k) := by
  rw [entry_proj, dif_pos (show 3072 + k.val < 4096 by omega), dif_neg (show ¬ 3072 + k.val < 1024 by omega), dif_neg (show ¬ 3072 + k.val - 1024 < 1024 by omega),
    dif_neg (show ¬ 3072 + k.val - 1024 - 1024 < 1024 by omega)]
  congr 2
  exact Fin.ext (show 3072 + k.val - 1024 - 1024 - 1024 = k.val by omega)

theorem hdiv (x : BitVec 32) : IntOp.divsi ArithUnit.host x 128#32 = x.sdiv 128#32 := if_neg (by unfold IntOp.SDivCorner; simp)
theorem hrem (x : BitVec 32) : IntOp.remsi ArithUnit.host x 128#32 = x.srem 128#32 := if_neg (by unfold IntOp.SDivCorner; simp)

theorem msb_col (k : Fin 1024) : (BitVec.ofNat 32 k.val).msb = false := by
  rw [BitVec.msb_eq_false_iff_two_mul_lt, BitVec.toNat_ofNat]
  omega

theorem msb_width : BitVec.msb (128#32) = false := by
  rw [BitVec.msb_eq_false_iff_two_mul_lt, BitVec.toNat_ofNat]
  omega

/-- The quotient by 128 rounds to zero on the host; a column's is its group. -/
theorem hgrp_eq (k : Fin 1024) : (BitVec.ofNat 32 k.val).sdiv 128#32 = BitVec.ofNat 32 (k.val / 128) := by
  rw [BitVec.sdiv_eq, msb_col, msb_width]
  apply BitVec.eq_of_toNat_eq
  have h0 : k.val % 2 ^ 32 = k.val := Nat.mod_eq_of_lt (by omega)
  have h1 : k.val / 128 % 2 ^ 32 = k.val / 128 := Nat.mod_eq_of_lt (by omega)
  have h2 : 128 % 2 ^ 32 = 128 := by norm_num
  simp only [BitVec.udiv_eq, BitVec.toNat_udiv, BitVec.toNat_ofNat]
  rw [h0, h1, h2]

theorem hsel_eq : ∀ (a : Fin 8) (l : Fin 128), IntOp.cmpi CmpIPredicate.eq (BitVec.ofNat 32 a.val) (BitVec.ofNat 32 l.val) = if a.val = l.val then 1#1 else 0#1 := by decide +kernel

theorem entry_sel (k : Fin 1024) (l : Fin 128) : V m c main_v6 (ix2 k l) = ((if k.val / 128 = l.val then 1 else 0 : ℝ) : EReal) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise
  rw [show (id (constantI S_ 32 128#32) ix0 : BitVec 32) = 128#32 from rfl, hdiv, hrem]
  have hb : ∀ b : BitVec 1, IntOp.andi 0#1 b = 0#1 := by decide
  have hz : ∀ b : BitVec 1, IntOp.andi b 0#1 = 0#1 := by decide
  have hs : ∀ a b : BitVec 32, Scalar.select 0#1 a b = b := fun a b => if_neg (by decide)
  have he : ∀ a : BitVec 32, IntOp.cmpi CmpIPredicate.ne a a = 0#1 := fun a => by simp [IntOp.cmpi]
  have h128 : ¬ (128#32 : BitVec 32) = 0 := by decide
  rw [hgrp_eq]
  simp only [msb_col, msb_width, h128, if_false, reduceIte, Bool.false_eq_true]
  by_cases hk : BitVec.ofNat 32 k.val = 0
  · have hr : (BitVec.ofNat 32 k.val).srem 128#32 = 0#32 := by rw [hk]; simp
    rw [hr, he, hz, hs]
    refine (congrArg (FloatOps.uitofp (F := Ideal) FTy.bf16) (hsel_eq ⟨k.val / 128, by omega⟩ l)).trans ?_
    dsimp only
    split <;> simp [FloatOps.uitofp]
  · simp only [hk, reduceIte, he, hb, hs]
    refine (congrArg (FloatOps.uitofp (F := Ideal) FTy.bf16) (hsel_eq ⟨k.val / 128, by omega⟩ l)).trans ?_
    dsimp only
    split <;> simp [FloatOps.uitofp]

theorem entry_b (i : Fin 128) (g : Fin 8) : V m c main_v7 (ix2 i g) = (show EReal from A7 m c (ix2 g i)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

theorem entry_gv (k : Fin 1024) : V m c main_v8 (ix2 0 k) = (show EReal from A8 m c (ix1 k)) := by
  unfold V
  simp only [List.flatten_cons, List.flatten_nil, List.append_nil, List.cons_append, List.nil_append, hostOps0, hostOps0_1, hostOps0_2, hostOps0_3, hostOps0_4, StableHlo.TRef.binary, StableHlo.TRef.ternary, StableHlo.TRef.nullary, StableHlo.TRef.unary, StableHlo.TRef.toBuf, StableHlo.TRef.ofBuf, cast_eq]
  after_results
  pointwise

theorem arr0 (t : Fin cfg0.N) (i : Fin 256) (k : Fin 1024) : X0_0 m c t (ix2 i k) = A0 m c (ix2 (rowT t i) k) := by
  unfold X0_0 Pipeline.Window.fill
  rw [dif_pos (moved0_0 t _)]
  refine Eq.trans ?_ (entry_0 (rowT t i) k)
  blk_simp [iblk]
  congr 1
  blk_ext [idx t]

theorem arr1 (t : Fin cfg0.N) (i : Fin 256) (k : Fin 1024) : X0_1 m c t (ix2 i k) = A1 m c (ix2 (rowT t i) k) := by
  unfold X0_1 Pipeline.Window.fill
  rw [dif_pos (moved0_1 t _)]
  refine Eq.trans ?_ (entry_1 (rowT t i) k)
  blk_simp [iblk]
  congr 1
  blk_ext [idx t]

theorem arr2 (t : Fin cfg0.N) (i : Fin 256) (k : Fin 1024) : X0_2 m c t (ix2 i k) = A2 m c (ix2 (rowT t i) k) := by
  unfold X0_2 Pipeline.Window.fill
  rw [dif_pos (moved0_2 t _)]
  refine Eq.trans ?_ (entry_2 (rowT t i) k)
  blk_simp [iblk]
  congr 1
  blk_ext [idx t]

theorem arr3 (t : Fin cfg0.N) (i : Fin 256) (k : Fin 1024) : X0_3 m c t (ix2 i k) = A3 m c (ix2 (rowT t i) k) := by
  unfold X0_3 Pipeline.Window.fill
  rw [dif_pos (moved0_3 t _)]
  refine Eq.trans ?_ (entry_3 (rowT t i) k)
  blk_simp [iblk]
  congr 1
  blk_ext [idx t]

theorem arr4 (t : Fin cfg0.N) (i : Fin 256) (k : Fin 1024) : iblk m c 4 t (ix2 i k) = A4 m c (ix2 (rowT t i) k) := by
  blk_simp [iblk]
  rw [show (win0_4.blk t).view.emb (ix2 i k) = ix2 (rowT t i) k by blk_ext [idx t], V_main_arg4]

theorem arr5 (t : Fin cfg0.N) (i : Fin 256) (k : Fin 1024) : iblk m c 5 t (ix2 i k) = A5 m c (ix2 (rowT t i) k) := by
  blk_simp [iblk]
  rw [show (win0_5.blk t).view.emb (ix2 i k) = ix2 (rowT t i) k by blk_ext [idx t], V_main_arg5]

theorem arr6 (t : Fin cfg0.N) (g : Fin 8) (i s : Fin 128) : iblk m c 6 t (ix3 g i s) = A6 m c (ix3 g i s) := by
  blk_simp [iblk]
  rw [show (win0_6.blk t).view.emb (ix3 g i s) = ix3 g i s by blk_ext [idx t], V_main_arg6]

theorem arr7 (t : Fin cfg0.N) (i : Fin 128) (g : Fin 8) : iblk m c 7 t (ix2 i g) = A7 m c (ix2 g i) := by
  blk_simp [iblk]
  rw [show (win0_7.blk t).view.emb (ix2 i g) = ix2 i g by blk_ext [idx t], entry_b]

theorem arr8 (t : Fin cfg0.N) (k : Fin 1024) : iblk m c 8 t (ix2 0 k) = A8 m c (ix1 k) := by
  blk_simp [iblk]
  rw [show (win0_8.blk t).view.emb (ix2 0 k) = ix2 0 k by blk_ext [idx t], entry_gv]

theorem arr9 (t : Fin cfg0.N) (k : Fin 1024) (l : Fin 128) : iblk m c 9 t (ix2 k l) = ((if k.val / 128 = l.val then 1 else 0 : ℝ) : EReal) := by
  blk_simp [iblk]
  rw [show (win0_9.blk t).view.emb (ix2 k l) = ix2 k l by blk_ext [idx t], entry_sel]

/-- The first and the second 128 rows of a point's blocks. -/
abbrev q0 (t : Fin cfg0.N) : Fin 32 := ⟨2 * t.val, by have := lt_of_lt_of_eq t.isLt N_0; omega⟩
abbrev q1 (t : Fin cfg0.N) : Fin 32 := ⟨2 * t.val + 1, by have := lt_of_lt_of_eq t.isLt N_0; omega⟩
abbrev lo (x : FVec Ideal S256x1024 .f32) : Blk := View.ld (Val := Elt Ideal) (e' := .f32) (S := S256x1024) x (Rect.unit ![0, 0] ![128, 1024] inb_S256x1024_S128x1024_0_0)
abbrev hi (x : FVec Ideal S256x1024 .f32) : Blk := View.ld (Val := Elt Ideal) (e' := .f32) (S := S256x1024) x (Rect.unit ![128, 0] ![128, 1024] inb_S256x1024_S128x1024_128_0)

theorem lo_at (x : FVec Ideal S256x1024 .f32) (i : Fin 128) (k : Fin 1024) : lo x (ix2 i k) = x (ix2 ⟨i.val, by omega⟩ k) := by
  unfold lo
  pointwise

theorem hi_at (x : FVec Ideal S256x1024 .f32) (i : Fin 128) (k : Fin 1024) : hi x (ix2 i k) = x (ix2 ⟨128 + i.val, by omega⟩ k) := by
  unfold hi
  pointwise

theorem row_lo (t : Fin cfg0.N) (i : Fin 128) : rowT t ⟨i.val, by omega⟩ = row (q0 t) i := Fin.ext (by show t.val * 256 + i.val = 2 * t.val * 128 + i.val; omega)
theorem row_hi (t : Fin cfg0.N) (i : Fin 128) : rowT t ⟨128 + i.val, by omega⟩ = row (q1 t) i := Fin.ext (by show t.val * 256 + (128 + i.val) = (2 * t.val + 1) * 128 + i.val; omega)

include hN

theorem rows_lo (t : Fin cfg0.N) : Rows N (q0 t) (lo (X0_0 m c t)) (lo (X0_1 m c t)) (lo (X0_2 m c t)) (lo (X0_3 m c t)) (lo (iblk m c 4 t)) (lo (iblk m c 5 t)) where
  u i k := by rw [lo_at, arr0, row_lo, hN.u]
  v i k := by rw [lo_at, arr1, row_lo, hN.v]
  a i k := by rw [lo_at, arr2, row_lo, hN.ga]
  b i k := by rw [lo_at, arr3, row_lo, hN.gb]
  y i k := by rw [lo_at, arr4, row_lo, hN.yb]
  d i k := by rw [lo_at, arr5, row_lo, hN.dm]

theorem rows_hi (t : Fin cfg0.N) : Rows N (q1 t) (hi (X0_0 m c t)) (hi (X0_1 m c t)) (hi (X0_2 m c t)) (hi (X0_3 m c t)) (hi (iblk m c 4 t)) (hi (iblk m c 5 t)) where
  u i k := by rw [hi_at, arr0, row_hi, hN.u]
  v i k := by rw [hi_at, arr1, row_hi, hN.v]
  a i k := by rw [hi_at, arr2, row_hi, hN.ga]
  b i k := by rw [hi_at, arr3, row_hi, hN.gb]
  y i k := by rw [hi_at, arr4, row_hi, hN.yb]
  d i k := by rw [hi_at, arr5, row_hi, hN.dm]

theorem gain_at (t : Fin cfg0.N) (k : Fin 1024) : iblk m c 8 t (ix2 0 k) = (N.gv k : EReal) := by rw [arr8, hN.gv]

omit hN in
theorem inb_w (g : Fin 8) : ∀ a, ![g.val, 0, 0] a + ![1, 128, 128] a ≤ S8x128x128.size a := by decide +revert +kernel
omit hN in
theorem inb_b (g : Fin 8) : ∀ a, ![0, g.val] a + ![128, 1] a ≤ S128x8.size a := by decide +revert +kernel

/-- One group's weight and one group's bias. -/
abbrev weights (m : (ℓ : Loc nD τ sig) → Buf (Elt Ideal) ℓ) (c : Dev nD) (t : Fin cfg0.N) (g : Fin 8) : FVec Ideal S1x128x128 .f32 :=
  View.ld (Val := Elt Ideal) (e' := .f32) (S := S8x128x128) (iblk m c 6 t) (Rect.unit ![g.val, 0, 0] ![1, 128, 128] (inb_w g))
abbrev biases (m : (ℓ : Loc nD τ sig) → Buf (Elt Ideal) ℓ) (c : Dev nD) (t : Fin cfg0.N) (g : Fin 8) : FVec Ideal S128x1 .f32 :=
  View.ld (Val := Elt Ideal) (e' := .f32) (S := S128x8) (iblk m c 7 t) (Rect.unit ![0, g.val] ![128, 1] (inb_b g))

theorem weight_at (t : Fin cfg0.N) (g : Fin 8) (i s : Fin 128) : weights m c t g (ix3 0 i s) = (N.w g i s : EReal) := by
  refine Eq.trans ?_ (hN.w g i s)
  rw [← arr6 t]
  unfold weights
  pointwise

theorem bias_at (t : Fin cfg0.N) (g : Fin 8) (i : Fin 128) : biases m c t g (ix2 i 0) = (N.b g i : EReal) := by
  refine Eq.trans ?_ (hN.b g i)
  rw [← arr7 t]
  unfold biases
  pointwise

end Cert.MixOwn

end
-- ==== Proof.MixState.lean ====
module

public import proofs.«01_k».proof.Proof.MixHost
public import Idealize.ShloMosaic.Lib.Pipeline.ReadBack

/-! What the mix's backward call holds after each point. -/

@[expose] public section

set_option maxRecDepth 16384

noncomputable section

open Idealize.ShloMosaic Idealize.ShloMosaic.TcCoe Idealize.SL.Sem
open Idealize.ShloMosaic.Pipeline (Dat)

namespace Cert.MixOwn

open Cert Cert.Reals Cert.Norms Cert.MixBwdIdeal Cert.MixBwdIdeal.Gen

variable {m : (ℓ : Loc nD τ sig) → Buf (Elt Ideal) ℓ} {c : Dev nD} {N : Args} (hN : Num m c N)

/-- The sum of the first `n` row blocks' terms. -/
def upTo (f : Fin 32 → ℝ) (n : ℕ) : ℝ := ∑ q, if q.val < n then f q else 0

theorem upTo_zero (f : Fin 32 → ℝ) : upTo f 0 = 0 := Finset.sum_eq_zero fun q _ => if_neg (Nat.not_lt_zero _)

theorem upTo_all (f : Fin 32 → ℝ) : upTo f 32 = ∑ q, f q := Finset.sum_congr rfl fun q _ => if_pos q.isLt

theorem upTo_succ (f : Fin 32 → ℝ) (q : Fin 32) : upTo f (q.val + 1) = upTo f q.val + f q := by
  have e : f q = ∑ p, if p = q then f q else 0 := by rw [Finset.sum_ite_eq' Finset.univ q fun _ => f q, if_pos (Finset.mem_univ _)]
  rw [e, upTo, upTo, ← Finset.sum_add_distrib]
  refine Finset.sum_congr rfl fun p _ => ?_
  by_cases h : p = q
  · subst h; rw [if_pos (Nat.lt_succ_self _), if_neg (lt_irrefl _), if_pos rfl, zero_add]
  · have : p.val ≠ q.val := fun e => h (Fin.ext e)
    rw [if_neg h, add_zero]
    by_cases hp : p.val < q.val
    · rw [if_pos (by omega), if_pos hp]
    · rw [if_neg (by omega), if_neg hp]

theorem upTo_two (f : Fin 32 → ℝ) (t : Fin cfg0.N) : upTo f (2 * t.val) + f (q0 t) + f (q1 t) = upTo f (2 * t.val + 2) := by
  rw [show upTo f (2 * t.val) + f (q0 t) = upTo f (2 * t.val + 1) from (upTo_succ f (q0 t)).symm]
  exact (upTo_succ f (q1 t)).symm

theorem row_lo' {t : Fin cfg0.N} {y0 : Fin 256} {i : Fin 128} (h : y0.val = i.val) : row (q0 t) i = rowT t y0 :=
  (row_lo t i).symm.trans (congrArg (rowT t) (Fin.ext h.symm))
theorem row_hi' {t : Fin cfg0.N} {y0 : Fin 256} {i : Fin 128} (h : y0.val = 128 + i.val) : row (q1 t) i = rowT t y0 :=
  (row_hi t i).symm.trans (congrArg (rowT t) (Fin.ext h.symm))

theorem dybP {q u v a b y d} (R : Rows N q u v a b y d) {r : Fin 4096} {k : Fin 1024} (x : S128x1024.Idx) (hr : row q (x 0) = r) (hk : k.val = (x 1).val) :
    k0_pay27 (F := Ideal) (k0_pay26 b) d x = (N.dyb r k : EReal) := by
  obtain ⟨i, j, rfl⟩ : ∃ i j, x = ix2 i j := ⟨x 0, x 1, eq_ix2 x⟩
  subst hr
  rw [dyb_at R]
  exact congrArg (fun k => (N.dyb (row q i) k : EReal)) (Fin.ext hk.symm)

theorem dltP {q u v a b y d} (R : Rows N q u v a b y d) {r : Fin 4096} {k : Fin 1024} (g : Fin 8) {o : ℕ} (h : Cut o) (ho : o = g.val * 128) (x : S128x128.Idx)
    (hr : row q (x 0) = r) (hk : k.val = o + (x 1).val) : dltT o h (k0_pay28 (F := Ideal) (k0_pay26 b) y d) x = (N.delta r (gOf k) : EReal) := by
  obtain ⟨i, j, rfl⟩ : ∃ i j, x = ix2 i j := ⟨x 0, x 1, eq_ix2 x⟩
  subst hr
  rw [dltT_at R g h ho, show k = col g j from Fin.ext (hk.trans (by rw [ho]; rfl)), gOf_col]
  rfl

theorem canon_take {S : Shape} {e : EltTy} (n : ℕ) : ∀ (L : List (View.Piece (Elt Ideal) S e)) (y : S.Idx), (∃ p ∈ L.take n, y ∈ p.1.set) → View.canon L y = View.canon (L.take n) y := by
  have key : ∀ (L L' : List (View.Piece (Elt Ideal) S e)) (y : S.Idx), (∃ p ∈ L, y ∈ p.1.set) → View.canon (L ++ L') y = View.canon L y := by
    intro L L' y
    induction L with
    | nil => intro ⟨p, hp, _⟩; exact absurd hp List.not_mem_nil
    | cons p L ih =>
      intro hc
      by_cases hm : y ∈ p.1.set
      · obtain ⟨x, rfl⟩ := p.1.exists_idx_of_mem hm
        rw [show p.1.idx x = p.1.emb x from rfl, List.cons_append, View.canon_cons_emb, View.canon_cons_emb]
      · rw [List.cons_append, View.canon_cons_of_not_mem _ _ hm, View.canon_cons_of_not_mem _ _ hm]
        obtain ⟨q, hq, hyq⟩ := hc
        rcases List.mem_cons.mp hq with rfl | hq'
        · exact absurd hyq hm
        · exact ih ⟨q, hq', hyq⟩
  intro L y hc
  conv_lhs => rw [← List.take_append_drop n L]
  exact key _ _ y hc

theorem zero_dbt (i l : Fin 128) : k0_pay3 (F := Ideal) (ix2 i l) = ((0 : ℝ) : EReal) := by
  pointwise [k0_pay3]
  exact EReal.coe_zero.symm
theorem zero_dw (g : Fin 8) (i s : Fin 128) : k0_pay2 (F := Ideal) (ix3 g i s) = ((0 : ℝ) : EReal) := by
  pointwise [k0_pay2]
  exact EReal.coe_zero.symm
theorem zero_dgv (k : Fin 1024) : k0_pay4 (F := Ideal) (ix2 0 k) = ((0 : ℝ) : EReal) := by
  pointwise [k0_pay4]
  exact EReal.coe_zero.symm

include hN

theorem dybB (t : Fin cfg0.N) (h0 : ¬t.val % 16 = 0) (y0 : Fin 256) (y1 : Fin 1024) :
    (outsAt0 m c t.val t.isLt).2.1 (ix2 y0 y1) = (N.dyb (rowT t y0) y1 : EReal) := by
  rw [outsAt0_B m c t h0]
  frame_out
  canon_tiles x h
  case piece0 => exact dybP (rows_hi hN t) x (row_hi' h0) h1
  case piece1 => exact dybP (rows_lo hN t) x (row_lo' h0) h1

set_option maxHeartbeats 2000000 in
theorem dltB (t : Fin cfg0.N) (h0 : ¬t.val % 16 = 0) (y0 : Fin 256) (y1 : Fin 1024) :
    (outsAt0 m c t.val t.isLt).2.2.1 (ix2 y0 y1) = (N.delta (rowT t y0) (gOf y1) : EReal) := by
  rw [outsAt0_B m c t h0]
  frame_out
  canon_tiles x h
  case piece0 => exact dltP (rows_hi hN t) 7 (o := 896) (cuts 7) rfl x (row_hi' h0) h1
  case piece1 => exact dltP (rows_hi hN t) 6 (o := 768) (cuts 6) rfl x (row_hi' h0) h1
  case piece2 => exact dltP (rows_hi hN t) 5 (o := 640) (cuts 5) rfl x (row_hi' h0) h1
  case piece3 => exact dltP (rows_hi hN t) 4 (o := 512) (cuts 4) rfl x (row_hi' h0) h1
  case piece4 => exact dltP (rows_hi hN t) 3 (o := 384) (cuts 3) rfl x (row_hi' h0) h1
  case piece5 => exact dltP (rows_hi hN t) 2 (o := 256) (cuts 2) rfl x (row_hi' h0) h1
  case piece6 => exact dltP (rows_hi hN t) 1 (o := 128) (cuts 1) rfl x (row_hi' h0) h1
  case piece7 => exact dltP (rows_hi hN t) 0 (o := 0) (cuts 0) rfl x (row_hi' h0) (h1.trans (Nat.zero_add _).symm)
  case piece8 => exact dltP (rows_lo hN t) 7 (o := 896) (cuts 7) rfl x (row_lo' h0) h1
  case piece9 => exact dltP (rows_lo hN t) 6 (o := 768) (cuts 6) rfl x (row_lo' h0) h1
  case piece10 => exact dltP (rows_lo hN t) 5 (o := 640) (cuts 5) rfl x (row_lo' h0) h1
  case piece11 => exact dltP (rows_lo hN t) 4 (o := 512) (cuts 4) rfl x (row_lo' h0) h1
  case piece12 => exact dltP (rows_lo hN t) 3 (o := 384) (cuts 3) rfl x (row_lo' h0) h1
  case piece13 => exact dltP (rows_lo hN t) 2 (o := 256) (cuts 2) rfl x (row_lo' h0) h1
  case piece14 => exact dltP (rows_lo hN t) 1 (o := 128) (cuts 1) rfl x (row_lo' h0) h1
  case piece15 => exact dltP (rows_lo hN t) 0 (o := 0) (cuts 0) rfl x (row_lo' h0) (h1.trans (Nat.zero_add _).symm)

set_option maxHeartbeats 8000000 in
theorem dbtB (t : Fin cfg0.N) (h0 : ¬t.val % 16 = 0)
    (hp : ∀ i l, (outsAt0 m c (t.val - 1) (by omega)).2.2.2.2.1 (ix2 i l) = (upTo (fun q => if h : l.val < 8 then N.db q i ⟨l.val, h⟩ else 0) (2 * t.val) : EReal)) (i l : Fin 128) :
    (outsAt0 m c t.val t.isLt).2.2.2.2.1 (ix2 i l) = (upTo (fun q => if h : l.val < 8 then N.db q i ⟨l.val, h⟩ else 0) (2 * t.val + 2) : EReal) := by
  rw [outsAt0_B m c t h0]
  frame_out
  rw [← upTo_two]
  exact dbtT_at (fun g => dmxF (g.val * 128) (cuts g) (hi (X0_0 m c t)) (hi (X0_2 m c t)) (hi (iblk m c 5 t))) (fun g i j => dmxF_at (rows_hi hN t) g (cuts g) rfl i j) _ _
    (fun i l => dbtT_at (fun g => dmxF (g.val * 128) (cuts g) (lo (X0_0 m c t)) (lo (X0_2 m c t)) (lo (iblk m c 5 t))) (fun g i j => dmxF_at (rows_lo hN t) g (cuts g) rfl i j)
      (outsAt0 m c (t.val - 1) (by omega)).2.2.2.2.1 _ hp (iblk m c 9 t) (arr9 t) i l) (iblk m c 9 t) (arr9 t) i l

theorem dgvB (t : Fin cfg0.N) (h0 : ¬t.val % 16 = 0)
    (hp : ∀ k, (outsAt0 m c (t.val - 1) (by omega)).2.2.2.2.2 (ix2 0 k) = (upTo (fun q => N.dgv q k) (2 * t.val) : EReal)) (k : Fin 1024) :
    (outsAt0 m c t.val t.isLt).2.2.2.2.2 (ix2 0 k) = (upTo (fun q => N.dgv q k) (2 * t.val + 2) : EReal) := by
  rw [outsAt0_B m c t h0]
  frame_out
  rw [← upTo_two]
  exact dgvT_at (rows_hi hN t) _ (dvnB_at (rows_hi hN t) (weights m c t) (weight_at hN t)) _ _
    (dgvT_at (rows_lo hN t) _ (dvnB_at (rows_lo hN t) (weights m c t) (weight_at hN t)) (outsAt0 m c (t.val - 1) (by omega)).2.2.2.2.2 _ hp) k

theorem dybA (t : Fin cfg0.N) (h0 : t.val % 16 = 0) (y0 : Fin 256) (y1 : Fin 1024) :
    (outsAt0 m c t.val t.isLt).2.1 (ix2 y0 y1) = (N.dyb (rowT t y0) y1 : EReal) := by
  rw [outsAt0_A m c t h0]
  frame_out
  canon_tiles x h
  case piece0 => exact dybP (rows_hi hN t) x (row_hi' h0) h1
  case piece1 => exact dybP (rows_lo hN t) x (row_lo' h0) h1

set_option maxHeartbeats 2000000 in
theorem dltA (t : Fin cfg0.N) (h0 : t.val % 16 = 0) (y0 : Fin 256) (y1 : Fin 1024) :
    (outsAt0 m c t.val t.isLt).2.2.1 (ix2 y0 y1) = (N.delta (rowT t y0) (gOf y1) : EReal) := by
  rw [outsAt0_A m c t h0]
  frame_out
  canon_tiles x h
  case piece0 => exact dltP (rows_hi hN t) 7 (o := 896) (cuts 7) rfl x (row_hi' h0) h1
  case piece1 => exact dltP (rows_hi hN t) 6 (o := 768) (cuts 6) rfl x (row_hi' h0) h1
  case piece2 => exact dltP (rows_hi hN t) 5 (o := 640) (cuts 5) rfl x (row_hi' h0) h1
  case piece3 => exact dltP (rows_hi hN t) 4 (o := 512) (cuts 4) rfl x (row_hi' h0) h1
  case piece4 => exact dltP (rows_hi hN t) 3 (o := 384) (cuts 3) rfl x (row_hi' h0) h1
  case piece5 => exact dltP (rows_hi hN t) 2 (o := 256) (cuts 2) rfl x (row_hi' h0) h1
  case piece6 => exact dltP (rows_hi hN t) 1 (o := 128) (cuts 1) rfl x (row_hi' h0) h1
  case piece7 => exact dltP (rows_hi hN t) 0 (o := 0) (cuts 0) rfl x (row_hi' h0) (h1.trans (Nat.zero_add _).symm)
  case piece8 => exact dltP (rows_lo hN t) 7 (o := 896) (cuts 7) rfl x (row_lo' h0) h1
  case piece9 => exact dltP (rows_lo hN t) 6 (o := 768) (cuts 6) rfl x (row_lo' h0) h1
  case piece10 => exact dltP (rows_lo hN t) 5 (o := 640) (cuts 5) rfl x (row_lo' h0) h1
  case piece11 => exact dltP (rows_lo hN t) 4 (o := 512) (cuts 4) rfl x (row_lo' h0) h1
  case piece12 => exact dltP (rows_lo hN t) 3 (o := 384) (cuts 3) rfl x (row_lo' h0) h1
  case piece13 => exact dltP (rows_lo hN t) 2 (o := 256) (cuts 2) rfl x (row_lo' h0) h1
  case piece14 => exact dltP (rows_lo hN t) 1 (o := 128) (cuts 1) rfl x (row_lo' h0) h1
  case piece15 => exact dltP (rows_lo hN t) 0 (o := 0) (cuts 0) rfl x (row_lo' h0) (h1.trans (Nat.zero_add _).symm)

set_option maxHeartbeats 8000000 in
theorem dbtA (t : Fin cfg0.N) (h0 : t.val % 16 = 0) (i l : Fin 128) :
    (outsAt0 m c t.val t.isLt).2.2.2.2.1 (ix2 i l) = (upTo (fun q => if h : l.val < 8 then N.db q i ⟨l.val, h⟩ else 0) (2 * t.val + 2) : EReal) := by
  have h0' : 2 * t.val = 0 := by have ht := lt_of_lt_of_eq t.isLt N_0; omega
  rw [outsAt0_A m c t h0]
  frame_out
  rw [← upTo_two, h0', upTo_zero]
  exact dbtT_at (fun g => dmxF (g.val * 128) (cuts g) (hi (X0_0 m c t)) (hi (X0_2 m c t)) (hi (iblk m c 5 t))) (fun g i j => dmxF_at (rows_hi hN t) g (cuts g) rfl i j) _ _
    (fun i l => dbtT_at (fun g => dmxF (g.val * 128) (cuts g) (lo (X0_0 m c t)) (lo (X0_2 m c t)) (lo (iblk m c 5 t))) (fun g i j => dmxF_at (rows_lo hN t) g (cuts g) rfl i j)
      k0_pay3 (fun _ _ => 0) zero_dbt (iblk m c 9 t) (arr9 t) i l) (iblk m c 9 t) (arr9 t) i l

theorem dgvA (t : Fin cfg0.N) (h0 : t.val % 16 = 0) (k : Fin 1024) :
    (outsAt0 m c t.val t.isLt).2.2.2.2.2 (ix2 0 k) = (upTo (fun q => N.dgv q k) (2 * t.val + 2) : EReal) := by
  have h0' : 2 * t.val = 0 := by have ht := lt_of_lt_of_eq t.isLt N_0; omega
  rw [outsAt0_A m c t h0]
  frame_out
  rw [← upTo_two, h0', upTo_zero]
  exact dgvT_at (rows_hi hN t) _ (dvnB_at (rows_hi hN t) (weights m c t) (weight_at hN t)) _ _
    (dgvT_at (rows_lo hN t) _ (dvnB_at (rows_lo hN t) (weights m c t) (weight_at hN t)) k0_pay4 (fun _ => 0) zero_dgv) k

/-- One group's weight gradient after both of a point's row blocks. -/
theorem dwP (t : Fin cfg0.N) (g : Fin 8) {o : ℕ} (h : Cut o) (ho : o = g.val * 128) (old : FVec Ideal S1x128x128 .f32)
    (hp : ∀ i s, old (ix3 0 i s) = (upTo (fun q => N.dw q g i s) (2 * t.val) : EReal)) (x : S1x128x128.Idx) {g' : Fin 8} {i s : Fin 128}
    (hg : g'.val = g.val + (x 0).val) (hi' : i.val = (x 1).val) (hs : s.val = (x 2).val) :
    dwT o h (iblk m c 8 t) (hi (X0_1 m c t)) (hi (X0_0 m c t)) (hi (X0_2 m c t)) (hi (iblk m c 5 t))
      (dwT o h (iblk m c 8 t) (lo (X0_1 m c t)) (lo (X0_0 m c t)) (lo (X0_2 m c t)) (lo (iblk m c 5 t)) old) x = (upTo (fun q => N.dw q g' i s) (2 * t.val + 2) : EReal) := by
  obtain ⟨z, i', s', rfl⟩ : ∃ z i s, x = ix3 z i s := ⟨x 0, x 1, x 2, eq_ix3 x⟩
  obtain rfl : z = 0 := Subsingleton.elim _ _
  obtain rfl : g' = g := Fin.ext hg
  obtain rfl : i = i' := Fin.ext hi'
  obtain rfl : s = s' := Fin.ext hs
  rw [← upTo_two]
  exact dwT_at (rows_hi hN t) (gain_at hN t) g' h ho _ _ (dwT_at (rows_lo hN t) (gain_at hN t) g' h ho old _ hp) i s

omit hN in
theorem ld_w (x : FVec Ideal S8x128x128 .f32) (g : Fin 8) (i s : Fin 128) :
    View.ld (Val := Elt Ideal) (e' := .f32) (S := S8x128x128) x (Rect.unit ![g.val, 0, 0] ![1, 128, 128] (inb_w g)) (ix3 0 i s) = x (ix3 g i s) := by
  pointwise

set_option maxHeartbeats 4000000 in
theorem dwB (t : Fin cfg0.N) (h0 : ¬t.val % 16 = 0) (hp : ∀ g i s, (outsAt0 m c (t.val - 1) (by omega)).2.2.2.1 (ix3 g i s) = (upTo (fun q => N.dw q g i s) (2 * t.val) : EReal)) (g : Fin 8) (i s : Fin 128) :
    (outsAt0 m c t.val t.isLt).2.2.2.1 (ix3 g i s) = (upTo (fun q => N.dw q g i s) (2 * t.val + 2) : EReal) := by
  rw [outsAt0_B m c t h0]
  frame_open
  simp (disch := decide) only [↓ View.readCov_skip, ↓ View.readCov_cons_toLoadRect, ↓ View.readCov_fill]
  frame_out
  refine (canon_take 8 _ _ ?_).trans ?_
  · exact View.cover_of_tiled _ ![1, 128, 128] (by rfl) _
  simp only [List.take_succ_cons, List.take_zero]
  have ho : ∀ g, ∀ i s, View.ld (Val := Elt Ideal) (e' := .f32) (S := S8x128x128) (outsAt0 m c (t.val - 1) (by omega)).2.2.2.1 (Rect.unit ![g.val, 0, 0] ![1, 128, 128] (inb_w g)) (ix3 0 i s) = (upTo (fun q => N.dw q g i s) (2 * t.val) : EReal) :=
    fun g i s => (ld_w _ g i s).trans (hp g i s)
  canon_tiles x h
  case piece0 => exact dwP hN t 7 (o := 896) (cuts 7) rfl _ (ho 7) x h0 h1 h2
  case piece1 => exact dwP hN t 6 (o := 768) (cuts 6) rfl _ (ho 6) x h0 h1 h2
  case piece2 => exact dwP hN t 5 (o := 640) (cuts 5) rfl _ (ho 5) x h0 h1 h2
  case piece3 => exact dwP hN t 4 (o := 512) (cuts 4) rfl _ (ho 4) x h0 h1 h2
  case piece4 => exact dwP hN t 3 (o := 384) (cuts 3) rfl _ (ho 3) x h0 h1 h2
  case piece5 => exact dwP hN t 2 (o := 256) (cuts 2) rfl _ (ho 2) x h0 h1 h2
  case piece6 => exact dwP hN t 1 (o := 128) (cuts 1) rfl _ (ho 1) x h0 h1 h2
  case piece7 => exact dwP hN t 0 (o := 0) (cuts 0) rfl _ (ho 0) x (h0.trans (Nat.zero_add _).symm) h1 h2

set_option maxHeartbeats 4000000 in
theorem dwA (t : Fin cfg0.N) (h0 : t.val % 16 = 0) (g : Fin 8) (i s : Fin 128) :
    (outsAt0 m c t.val t.isLt).2.2.2.1 (ix3 g i s) = (upTo (fun q => N.dw q g i s) (2 * t.val + 2) : EReal) := by
  have h0' : 2 * t.val = 0 := by have ht := lt_of_lt_of_eq t.isLt N_0; omega
  rw [outsAt0_A m c t h0]
  frame_open
  simp (disch := decide) only [↓ View.readCov_skip, ↓ View.readCov_cons_toLoadRect, ↓ View.readCov_fill]
  frame_out
  refine (canon_take 8 _ _ ?_).trans ?_
  · exact View.cover_of_tiled _ ![1, 128, 128] (by rfl) _
  simp only [List.take_succ_cons, List.take_zero]
  have ho : ∀ g, ∀ i s, View.ld (Val := Elt Ideal) (e' := .f32) (S := S8x128x128) (k0_pay2 (F := Ideal)) (Rect.unit ![g.val, 0, 0] ![1, 128, 128] (inb_w g)) (ix3 0 i s) = (upTo (fun q => N.dw q g i s) (2 * t.val) : EReal) :=
    fun g i s => by rw [ld_w, h0', upTo_zero, zero_dw]
  canon_tiles x h
  case piece0 => exact dwP hN t 7 (o := 896) (cuts 7) rfl _ (ho 7) x h0 h1 h2
  case piece1 => exact dwP hN t 6 (o := 768) (cuts 6) rfl _ (ho 6) x h0 h1 h2
  case piece2 => exact dwP hN t 5 (o := 640) (cuts 5) rfl _ (ho 5) x h0 h1 h2
  case piece3 => exact dwP hN t 4 (o := 512) (cuts 4) rfl _ (ho 4) x h0 h1 h2
  case piece4 => exact dwP hN t 3 (o := 384) (cuts 3) rfl _ (ho 3) x h0 h1 h2
  case piece5 => exact dwP hN t 2 (o := 256) (cuts 2) rfl _ (ho 2) x h0 h1 h2
  case piece6 => exact dwP hN t 1 (o := 128) (cuts 1) rfl _ (ho 1) x h0 h1 h2
  case piece7 => exact dwP hN t 0 (o := 0) (cuts 0) rfl _ (ho 0) x (h0.trans (Nat.zero_add _).symm) h1 h2

end Cert.MixOwn

end
-- ==== Proof.MixRef.lean ====
module

public import Idealize.ShloMosaic.Lib.WordCmp
public import proofs.«01_k».proof.Proof.MixNum
public import proofs.«01_k».proof.Proof.Gen.MixRefIdeal.Read

/-! What the gated mix's reference writes, at arguments of real entries. -/

@[expose] public section

set_option maxRecDepth 16384

noncomputable section

open Idealize.ShloMosaic

namespace Cert.MixOwn

open Cert Cert.Reals Cert.Norms Cert.MixRefIdeal Cert.MixRefIdeal.Read

variable {N : Args} {x0 x1 x2 x3 x4 x5 : FVec Ideal S4096x1024 .f32} {x6 : FVec Ideal S8x128x128 .f32} {x7 : FVec Ideal S8x128 .f32}
  {x8 : FVec Ideal S1024 .f32} (hN : Is N x0 x1 x2 x3 x4 x5 x6 x7 x8)

/-- An array of blocks and groups, read as rows and columns. -/
theorem cast_rows (x : FVec Ideal S32x128x8x128 .f32) (h : S32x128x8x128.ShapeCasts S4096x1024) (r : Fin 4096) (k : Fin 1024) :
    shapeCast S4096x1024 x h (ix2 r k) = x (ix4 (qOf r) (iOf r) (gOf k) (dOf k)) := by
  pointwise

theorem cast_groups (x : FVec Ideal S4096x8x128 .f32) (h : S4096x8x128.ShapeCasts S4096x1024) (r : Fin 4096) (k : Fin 1024) :
    shapeCast S4096x1024 x h (ix2 r k) = x (ix3 r (gOf k) (dOf k)) := by
  pointwise

theorem low_bit (s i : Fin 128) : IntOp.cmpi CmpIPredicate.sle (BitVec.ofNat 32 s.val) (BitVec.ofNat 32 i.val) = if s ≤ i then 1#1 else 0#1 := by
  rw [WordCmp.cmpi_sle_ofNat (by omega) (by omega)]
  by_cases h : s ≤ i
  · rw [if_pos h, decide_eq_true (Fin.le_def.1 h)]; rfl
  · rw [if_neg h, decide_eq_false (fun h' => h (Fin.le_def.2 h'))]; rfl

include hN

theorem r12 (r : Fin 4096) (k : Fin 1024) : val_main_v12 (F := Ideal) x0 (ix2 r k) = (th (N.u r k) : EReal) := by
  pointwise [val_main_v12, val_main_v11, val_main_v10, val_main_v9, val_main_v8, val_main_v7, val_main_v6, val_main_v5, val_main_v1, val_main_v0, val_main_cst_0, val_main_cst_1, val_main_cst_2, hN.u]
  exact th_ref _

theorem r22 (r : Fin 4096) (k : Fin 1024) : val_main_v22 (F := Ideal) x0 (ix2 r k) = (gelu (N.u r k) : EReal) := by
  pointwise [val_main_v22, val_main_v21, val_main_v20, val_main_v19, val_main_v18, val_main_cst_5, val_main_cst_6, r12 hN, hN.u]
  exact gelu_val _

theorem r35 (r : Fin 4096) (k : Fin 1024) : val_main_v35 (F := Ideal) x1 (ix2 r k) = (th (N.v r k) : EReal) := by
  pointwise [val_main_v35, val_main_v34, val_main_v33, val_main_v32, val_main_v31, val_main_v30, val_main_v29, val_main_v28, val_main_v24, val_main_v23, val_main_cst_8, val_main_cst_9, val_main_cst_10, hN.v]
  exact th_ref _

theorem r45 (r : Fin 4096) (k : Fin 1024) : val_main_v45 (F := Ideal) x1 (ix2 r k) = (gelu (N.v r k) : EReal) := by
  pointwise [val_main_v45, val_main_v44, val_main_v43, val_main_v42, val_main_v41, val_main_cst_13, val_main_cst_14, r35 hN, hN.v]
  exact gelu_val _

theorem r51 (r : Fin 4096) (k : Fin 1024) : val_main_v51 (F := Ideal) x1 (ix2 r k) = (N.xc r k : EReal) := by
  pointwise [val_main_v51, val_main_v50, val_main_v49, val_main_v48, val_main_v47, val_main_v46, val_main_cst_15, val_main_cst_16, r45 hN]
  exact cen_val (fun e => gelu (N.v r e)) k

theorem r58 (r : Fin 4096) : val_main_v58 (F := Ideal) x1 (ix2 r 0) = (var (N.xc r) : EReal) := by
  pointwise [val_main_v58, val_main_v57, val_main_v56, val_main_v55, val_main_v54, val_main_v53, val_main_v52, val_main_cst_17, val_main_cst_18, val_main_cst_19, r51 hN]
  exact var_val (fun e => (N.xc r e : EReal)) _ (fun _ => rfl)

theorem r59 (r : Fin 4096) : val_main_v59 (F := Ideal) x1 (ix2 r 0) = (scl (N.xc r) : EReal) := by
  pointwise [val_main_v59, r58 hN]
  exact rsqrt_coe _ (var_pos _)

theorem r62 (r : Fin 4096) : val_main_v62 (F := Ideal) x1 (ix2 r 0) = ((-(1 / 2) * (scl (N.xc r) / var (N.xc r)) : ℝ) : EReal) := by
  pointwise [val_main_v62, val_main_v61, val_main_v60, val_main_cst_20, r58 hN, r59 hN]
  exact slope_val _

theorem r64 (r : Fin 4096) (k : Fin 1024) : val_main_v64 (F := Ideal) x1 (ix2 r k) = (N.xh r k : EReal) := by
  pointwise [val_main_v64, val_main_v63, r59 hN, r51 hN]
  exact (EReal.coe_mul _ _).symm

theorem r67 (r : Fin 4096) (k : Fin 1024) : val_main_v67 (F := Ideal) x1 x8 (ix2 r k) = (N.vn r k : EReal) := by
  pointwise [val_main_v67, val_main_v66, val_main_v65, r64 hN, hN.gv]
  exact (EReal.coe_mul _ _).symm

theorem r68 (q : Fin 32) (s : Fin 128) (g : Fin 8) (d : Fin 128) : val_main_v68 (F := Ideal) x1 x8 (ix4 q s g d) = (N.vn (row q s) (col g d) : EReal) := by
  pointwise [val_main_v68, r67 hN]

theorem r75 (g : Fin 8) (i s : Fin 128) : val_main_v75_0 (F := Ideal) x6 (ix3 g i s) = (N.mw g i s : EReal) := by
  pointwise [val_main_v75_0, val_main_v75_1, val_main_call0_v2, val_main_call0_v0, val_main_cst_21, val_main_v74, val_main_v73, val_main_v72, val_main_v71, val_main_v70, val_main_v69, hN.w]
  rw [low_bit, Args.mw]
  by_cases h : s ≤ i
  · rw [if_pos h, if_pos h]; rfl
  · rw [if_neg h, if_neg h]
    show Scalar.select (0#1) _ (Ideal.ofBits .f32 0x00000000#32) = _
    rw [zero_word]; rfl

theorem r83 (q : Fin 32) (i : Fin 128) (g : Fin 8) (d : Fin 128) : val_main_v83 (F := Ideal) x1 x6 x7 x8 (ix4 q i g d) = (N.mixed q i g d : EReal) := by
  pointwise [val_main_v83, val_main_v82, val_main_v81, val_main_v80, val_main_v79, val_main_v78, val_main_v77, val_main_v76, r68 hN, r75 hN, hN.b]
  rw [Args.mixed, EReal.coe_add, coe_sum]
  congr 1
  exact Finset.sum_congr rfl fun s _ => by rw [EReal.coe_mul, mul_comm]

theorem r84 (r : Fin 4096) (k : Fin 1024) : val_main_v84 (F := Ideal) x1 x6 x7 x8 (ix2 r k) = (N.mixed (qOf r) (iOf r) (gOf k) (dOf k) : EReal) :=
  (cast_rows _ _ r k).trans (r83 hN _ _ _ _)

theorem r91 (r : Fin 4096) (k : Fin 1024) : val_main_v91 (F := Ideal) x2 (ix2 r k) = (sg (N.ga r k) : EReal) := by
  pointwise [val_main_v91, val_main_v90, val_main_v89, val_main_v88, val_main_v87, val_main_v86, val_main_cst_22, val_main_cst_23, hN.ga]
  exact sg_one _

theorem r101 (r : Fin 4096) (k : Fin 1024) : val_main_v101 (F := Ideal) x3 (ix2 r k) = (sg (N.gb r k) : EReal) := by
  pointwise [val_main_v101, val_main_v100, val_main_v99, val_main_v98, val_main_v97, val_main_v96, val_main_cst_25, val_main_cst_26, hN.gb]
  exact sg_one _

theorem r109 (r : Fin 4096) (k : Fin 1024) : val_main_v109 (F := Ideal) x3 x5 (ix2 r k) = (N.dyb r k : EReal) := by
  pointwise [val_main_v109, val_main_v108, r101 hN, hN.dm]
  rw [Args.dyb, EReal.coe_mul, mul_comm]

theorem r111 (r : Fin 4096) (k : Fin 1024) : val_main_v111 (F := Ideal) x3 x4 x5 (ix2 r k) = (N.dgb r k : EReal) := by
  pointwise [val_main_v111, val_main_v110, val_main_v108, val_main_v104, val_main_v103, val_main_v102, val_main_cst_27, r101 hN, hN.dm, hN.yb]
  rw [sg_slope_one, Args.dgb]
  simp only [EReal.coe_mul]

theorem r112 (r : Fin 4096) (k : Fin 1024) : val_main_v112 (F := Ideal) x2 x5 (ix2 r k) = (N.dya r k : EReal) := by
  pointwise [val_main_v112, val_main_v107, r91 hN, hN.dm]
  rw [Args.dya, EReal.coe_mul, mul_comm]

theorem r114 (r : Fin 4096) (k : Fin 1024) : val_main_v114 (F := Ideal) x0 x1 x2 x5 x6 x7 x8 (ix2 r k) = (N.dga (qOf r) (iOf r) (gOf k) (dOf k) : EReal) := by
  pointwise [val_main_v114, val_main_v113, val_main_v107, val_main_v85, val_main_v94, val_main_v93, val_main_v92, val_main_cst_24, r84 hN, r22 hN, r91 hN, hN.dm]
  rw [sg_slope_one, Args.dga, row_of, col_of]
  simp only [EReal.coe_mul]

theorem r115 (r : Fin 4096) (k : Fin 1024) : val_main_v115 (F := Ideal) x0 x2 x5 (ix2 r k) = (N.dmx r k : EReal) := by
  pointwise [val_main_v115, r22 hN, r112 hN]
  rw [Args.dmx, EReal.coe_mul, mul_comm]

theorem r116 (r : Fin 4096) (k : Fin 1024) : val_main_v116 (F := Ideal) x1 x2 x5 x6 x7 x8 (ix2 r k) = ((N.dya r k * N.mixed (qOf r) (iOf r) (gOf k) (dOf k) : ℝ) : EReal) := by
  pointwise [val_main_v116, r84 hN, r112 hN]
  exact (EReal.coe_mul _ _).symm

theorem r117 (q : Fin 32) (s : Fin 128) (g : Fin 8) (d : Fin 128) : val_main_v117 (F := Ideal) x0 x2 x5 (ix4 q s g d) = (N.dmx (row q s) (col g d) : EReal) := by
  pointwise [val_main_v117, r115 hN]

theorem r123 (i : Fin 128) (g : Fin 8) : val_main_v123 (F := Ideal) x0 x2 x5 (ix2 i g) = ((∑ q, N.db q i g : ℝ) : EReal) := by
  pointwise [val_main_v123, val_main_v122, val_main_v121, val_main_v120, val_main_v119, val_main_v118, val_main_cst_28, val_main_cst_29, val_main_cst_30, val_main_cst_31, r117 hN]
  simp only [Fin.sum_univ_one, Args.db, coe_sum]
  exact Finset.sum_comm

theorem r197 (i l : Fin 128) : val_main_v197 (F := Ideal) x0 x2 x5 (ix2 i l) = ((if h : l.val < 8 then ∑ q, N.db q i ⟨l.val, h⟩ else 0 : ℝ) : EReal) := by
  pointwise [val_main_v197, val_main_v196, val_main_v124, val_main_call3_v0, val_main_c_49, r123 hN]
  by_cases h : l.val < 8
  · rw [dif_pos h, dif_pos h]
  · rw [dif_neg h, dif_neg h]
    show (((0#32 : BitVec 32).toInt : ℝ) : EReal) = ((0 : ℝ) : EReal)
    simp

theorem r129 (g : Fin 8) (i s : Fin 128) : val_main_v129 (F := Ideal) x0 x1 x2 x5 x8 (ix3 g i s) = ((∑ q, N.dw q g i s : ℝ) : EReal) := by
  pointwise [val_main_v129, val_main_v126, val_main_v125, val_main_call1_v0, val_main_call1_cst, val_main_v75_1, val_main_v74, val_main_v73, val_main_v72, val_main_v71, val_main_v70, val_main_v69, r117 hN, r68 hN]
  rw [low_bit]
  unfold Args.dw
  by_cases h : s ≤ i
  · simp only [if_pos h, coe_sum, EReal.coe_mul]; rfl
  · simp only [if_neg h, Finset.sum_const_zero]; rfl

theorem r130 (r : Fin 4096) (k : Fin 1024) : val_main_v130 (F := Ideal) x0 x2 x5 x6 (ix2 r k) = (N.dvnR r k : EReal) := by
  refine (cast_rows _ _ r k).trans ?_
  pointwise [val_main_v128, val_main_v127, val_main_v125, r117 hN, r75 hN]
  rw [Args.dvnR, Args.dvn, coe_sum]
  exact Finset.sum_congr rfl fun s _ => by rw [EReal.coe_mul, mul_comm]

theorem r131 (r : Fin 4096) (k : Fin 1024) : val_main_v131 (F := Ideal) x0 x1 x2 x5 x6 (ix2 r k) = ((N.dvnR r k * N.xh r k : ℝ) : EReal) := by
  pointwise [val_main_v131, r64 hN, r130 hN]
  rw [EReal.coe_mul, mul_comm]

theorem r198 (k : Fin 1024) : val_main_v198 (F := Ideal) x0 x1 x2 x5 x6 (ix2 0 k) = ((∑ r, N.dvnR r k * N.xh r k : ℝ) : EReal) := by
  pointwise [val_main_v198, val_main_v136, val_main_v133, val_main_v132, val_main_cst_32, val_main_cst_33, r131 hN]
  rw [coe_sum, Fin.sum_univ_one]

theorem r135 (r : Fin 4096) (k : Fin 1024) : val_main_v135 (F := Ideal) x0 x2 x5 x6 x8 (ix2 r k) = ((N.dvnR r k * N.gv k : ℝ) : EReal) := by
  pointwise [val_main_v135, val_main_v134, val_main_v65, r130 hN, hN.gv]
  exact (EReal.coe_mul _ _).symm

theorem r144 (r : Fin 4096) : val_main_v144 (F := Ideal) x0 x1 x2 x5 x6 x8 (ix2 r 0) = (msq (fun e => N.dvnR r e * N.gv e) (N.xc r) : EReal) := by
  pointwise [val_main_v144, val_main_v143, val_main_v142, val_main_v139, val_main_v138, val_main_v137, val_main_cst_34, val_main_cst_35, r135 hN, r51 hN, r62 hN]
  exact msq_val (fun e => N.dvnR r e * N.gv e) (N.xc r) _ rfl

theorem r146 (r : Fin 4096) (k : Fin 1024) : val_main_v146 (F := Ideal) x0 x1 x2 x5 x6 x8 (ix2 r k) = (msq (fun e => N.dvnR r e * N.gv e) (N.xc r) : EReal) := by
  pointwise [val_main_v146, val_main_v145, val_main_cst_36]
  rw [Fin.sum_univ_one]
  exact r144 hN r

theorem r150 (r : Fin 4096) (k : Fin 1024) : val_main_v150 (F := Ideal) x0 x1 x2 x5 x6 x8 (ix2 r k) = (back (fun e => N.dvnR r e * N.gv e) (N.xc r) k : EReal) := by
  pointwise [val_main_v150, val_main_v149, val_main_v148, val_main_v147, val_main_v141, val_main_v140, r135 hN, r146 hN, r51 hN, r59 hN]
  rw [← back_sum]
  simp only [EReal.coe_add, EReal.coe_mul]

theorem r157 (r : Fin 4096) (k : Fin 1024) : val_main_v157 (F := Ideal) x0 x1 x2 x5 x6 x8 (ix2 r k) = ((-(∑ e, back (fun e => N.dvnR r e * N.gv e) (N.xc r) e) / 1024 : ℝ) : EReal) := by
  pointwise [val_main_v157, val_main_v156, val_main_v155, val_main_v154, val_main_v153, val_main_v152, val_main_v151, val_main_cst_37, val_main_cst_38, val_main_cst_39, r150 hN]
  rw [Fin.sum_univ_one]
  simp only [← EReal.coe_neg]
  rw [← coe_sum, mean_val, Finset.sum_neg_distrib]

theorem r158 (r : Fin 4096) (k : Fin 1024) : val_main_v158 (F := Ideal) x0 x1 x2 x5 x6 x8 (ix2 r k) = (lnBack (fun e => N.dvnR r e * N.gv e) (N.xc r) k : EReal) := by
  pointwise [val_main_v158, r150 hN, r157 hN]
  have h := lnBack_eq (fun e => N.dvnR r e * N.gv e) (N.xc r) (cen_sum _) k
  rw [← EReal.coe_add, ← h, neg_div, ← sub_eq_add_neg]

theorem r172 (r : Fin 4096) (k : Fin 1024) : val_main_v172 (F := Ideal) x0 x1 x2 x5 x6 x8 (ix2 r k) = (N.dv r k : EReal) := by
  pointwise [val_main_v172, val_main_v171, val_main_v170, val_main_v169, val_main_v168, val_main_v167, val_main_v166, val_main_v165, val_main_v164, val_main_v163, val_main_v162, val_main_v161, val_main_v160, val_main_v159,
    val_main_v44, val_main_v43, val_main_v42, val_main_v41, val_main_v40, val_main_v39, val_main_v38, val_main_v37, val_main_v36, val_main_v27, val_main_v26, val_main_v25, val_main_cst_7, val_main_cst_11, val_main_cst_12, val_main_cst_13, val_main_cst_14,
    val_main_cst_40, val_main_cst_41, val_main_cst_42, val_main_cst_43, r158 hN, r35 hN, hN.v]
  exact slope_ref _ _

theorem r186 (r : Fin 4096) (k : Fin 1024) : val_main_v186 (F := Ideal) x0 x1 x2 x5 x6 x7 x8 (ix2 r k) = (N.du (qOf r) (iOf r) (gOf k) (dOf k) : EReal) := by
  pointwise [val_main_v186, val_main_v185, val_main_v184, val_main_v183, val_main_v182, val_main_v181, val_main_v180, val_main_v179, val_main_v178, val_main_v177, val_main_v176, val_main_v175, val_main_v174, val_main_v173,
    val_main_v21, val_main_v20, val_main_v19, val_main_v18, val_main_v17, val_main_v16, val_main_v15, val_main_v14, val_main_v13, val_main_v4, val_main_v3, val_main_v2, val_main_cst, val_main_cst_3, val_main_cst_4, val_main_cst_5, val_main_cst_6,
    val_main_cst_44, val_main_cst_45, val_main_cst_46, val_main_cst_47, r116 hN, r12 hN, hN.u]
  rw [Args.du, row_of, col_of]
  exact slope_ref _ _

/-- The four gated column blocks of the first result. -/
def four (N : Args) (r : Fin 4096) (j : ℕ) (h : j < 4096) : ℝ :=
  if h0 : j < 1024 then N.du (qOf r) (iOf r) (gOf ⟨j, h0⟩) (dOf ⟨j, h0⟩)
  else if h1 : j - 1024 < 1024 then N.dv r ⟨j - 1024, h1⟩
  else if h2 : j - 1024 - 1024 < 1024 then N.dga (qOf r) (iOf r) (gOf ⟨j - 1024 - 1024, h2⟩) (dOf ⟨j - 1024 - 1024, h2⟩)
  else N.dgb r ⟨j - 1024 - 1024 - 1024, by omega⟩

theorem r189 (r : Fin 4096) (j : Fin 7680) (h : j.val < 4096) : val_main_v189 (F := Ideal) x0 x1 x2 x3 x4 x5 x6 x7 x8 (ix2 r j) = (four N r j.val h : EReal) := by
  pointwise [val_main_v189, val_main_v188, val_main_v187, r186 hN, r172 hN, r114 hN, r111 hN]
  rw [dif_pos h, four]
  by_cases h0 : j.val < 1024
  · rw [dif_pos h0, dif_pos h0]
  · rw [dif_neg h0, dif_neg h0]
    by_cases h1 : j.val - 1024 < 1024
    · rw [dif_pos h1, dif_pos h1]
    · rw [dif_neg h1, dif_neg h1]
      by_cases h2 : j.val - 1024 - 1024 < 1024
      · rw [dif_pos h2, dif_pos h2]
      · rw [dif_neg h2, dif_neg h2]

theorem r195 (r : Fin 4096) (k : Fin 1024) : val_main_v195 (F := Ideal) x3 x4 x5 (ix2 r k) = (N.delta r (gOf k) : EReal) := by
  refine (cast_groups _ _ r k).trans ?_
  pointwise [val_main_v194, val_main_v193, val_main_v192, val_main_v191, val_main_v190, val_main_cst_48, r109 hN, hN.yb]
  rw [Args.delta, coe_sum]
  simp only [EReal.coe_mul]

end Cert.MixOwn

end
-- ==== Proof.MixProj.lean ====
module

public import proofs.«01_k».proof.Proof.MixState
public import proofs.«01_k».proof.Proof.MixRef
public import Idealize.ShloMosaic.Lib.Pipeline.ReadBack

/-! The mix's backward call's gradient of the projection after each point. -/

@[expose] public section

set_option maxRecDepth 16384

noncomputable section

open Idealize.ShloMosaic Idealize.ShloMosaic.TcCoe Idealize.SL.Sem
open Idealize.ShloMosaic.Pipeline (Dat)

namespace Cert.MixOwn

open Cert Cert.Reals Cert.Norms Cert.MixBwdIdeal Cert.MixBwdIdeal.Gen

variable {m : (ℓ : Loc nD τ sig) → Buf (Elt Ideal) ℓ} {c : Dev nD} {N : Args} (hN : Num m c N)

theorem du_four {q : Fin 32} {i : Fin 128} {g : Fin 8} {j : Fin 128} {k : ℕ} (hk : k < 4096) (e : k = g.val * 128 + j.val) : four N (row q i) k hk = N.du q i g j := by
  have h : k < 1024 := by omega
  rw [four, dif_pos h, show (⟨k, h⟩ : Fin 1024) = col g j from Fin.ext e, gOf_col, dOf_col, qOf_row, iOf_row]

theorem dv_four {r : Fin 4096} {j : Fin 1024} {k : ℕ} (hk : k < 4096) (e : k = 1024 + j.val) : four N r k hk = N.dv r j := by
  have h : k - 1024 < 1024 := by omega
  rw [four, dif_neg (show ¬ k < 1024 by omega), dif_pos h]
  exact congrArg (N.dv r) (Fin.ext (show k - 1024 = j.val by omega))

theorem dga_four {q : Fin 32} {i : Fin 128} {g : Fin 8} {j : Fin 128} {k : ℕ} (hk : k < 4096) (e : k = 2048 + g.val * 128 + j.val) : four N (row q i) k hk = N.dga q i g j := by
  have h : k - 1024 - 1024 < 1024 := by omega
  rw [four, dif_neg (show ¬ k < 1024 by omega), dif_neg (show ¬ k - 1024 < 1024 by omega), dif_pos h,
    show (⟨k - 1024 - 1024, h⟩ : Fin 1024) = col g j from Fin.ext (show k - 1024 - 1024 = g.val * 128 + j.val by omega), gOf_col, dOf_col, qOf_row, iOf_row]

theorem dgb_four {r : Fin 4096} {j : Fin 1024} {k : ℕ} (hk : k < 4096) (e : k = 3072 + j.val) : four N r k hk = N.dgb r j := by
  rw [four, dif_neg (show ¬ k < 1024 by omega), dif_neg (show ¬ k - 1024 < 1024 by omega), dif_neg (show ¬ k - 1024 - 1024 < 1024 by omega)]
  exact congrArg (N.dgb r) (Fin.ext (show k - 1024 - 1024 - 1024 = j.val by omega))

section Pieces
variable {q : Fin 32} {u v a b y d : Blk} (R : Rows N q u v a b y d) {G : FVec Ideal S1x1024 .f32} (hG : ∀ k, G (ix2 0 k) = (N.gv k : EReal)) {r : Fin 4096} {k : ℕ} (hk : k < 4096)

include R hG in
theorem duP (g : Fin 8) {W : FVec Ideal S1x128x128 .f32} (hW : ∀ i s, W (ix3 0 i s) = (N.w g i s : EReal)) {B : FVec Ideal S128x1 .f32} (hB : ∀ i, B (ix2 i 0) = (N.b g i : EReal))
    {o : ℕ} (h : Cut o) (ho : o = g.val * 128) (x : S128x128.Idx) (hr : row q (x 0) = r) (e : k = o + (x 1).val) : duT o h W G v B u a d x = (four N r k hk : EReal) := by
  obtain ⟨i, j, rfl⟩ : ∃ i j, x = ix2 i j := ⟨x 0, x 1, eq_ix2 x⟩
  subst hr
  exact (duT_at R hG g hW hB h ho i j).trans (congrArg Real.toEReal (du_four hk (e.trans (by rw [ho]; rfl))).symm)

include R hG in
theorem dgaP (g : Fin 8) {W : FVec Ideal S1x128x128 .f32} (hW : ∀ i s, W (ix3 0 i s) = (N.w g i s : EReal)) {B : FVec Ideal S128x1 .f32} (hB : ∀ i, B (ix2 i 0) = (N.b g i : EReal))
    {o p : ℕ} (h : Cut o) (ho : o = g.val * 128) (hp : p = 2048 + o) (x : S128x128.Idx) (hr : row q (x 0) = r) (e : k = p + (x 1).val) : dgaT o h W G v B u a d x = (four N r k hk : EReal) := by
  obtain ⟨i, j, rfl⟩ : ∃ i j, x = ix2 i j := ⟨x 0, x 1, eq_ix2 x⟩
  subst hr
  exact (dgaT_at R hG g hW hB h ho i j).trans (congrArg Real.toEReal (dga_four hk (e.trans (by rw [hp, ho]; rfl))).symm)

include R hG in
theorem dvP {Ws : Fin 8 → FVec Ideal S1x128x128 .f32} (hWs : ∀ g i s, Ws g (ix3 0 i s) = (N.w g i s : EReal)) (x : S128x1024.Idx) (hr : row q (x 0) = r) (e : k = 1024 + (x 1).val) :
    dvT G v (dvnB Ws u a d) x = (four N r k hk : EReal) := by
  obtain ⟨i, j, rfl⟩ : ∃ i j, x = ix2 i j := ⟨x 0, x 1, eq_ix2 x⟩
  subst hr
  exact (dvT_at R hG _ (dvnB_at R Ws hWs) i j).trans (congrArg Real.toEReal (dv_four hk e).symm)

include R in
theorem dgbP (x : S128x1024.Idx) (hr : row q (x 0) = r) (e : k = 3072 + (x 1).val) : k0_pay29 (F := Ideal) (k0_pay26 b) y d x = (four N r k hk : EReal) := by
  obtain ⟨i, j, rfl⟩ : ∃ i j, x = ix2 i j := ⟨x 0, x 1, eq_ix2 x⟩
  subst hr
  exact (dgb_at R i j).trans (congrArg Real.toEReal (dgb_four hk e).symm)

end Pieces

include hN

set_option maxHeartbeats 8000000 in
theorem projB (t : Fin cfg0.N) (h0 : ¬t.val % 16 = 0) (y0 : Fin 256) (y1 : Fin 4096) :
    (outsAt0 m c t.val t.isLt).1 (ix2 y0 y1) = (four N (rowT t y0) y1.val y1.isLt : EReal) := by
  rw [outsAt0_B m c t h0]
  frame_out
  canon_tiles x h using View.cover_of_tiledBy _ ![128, 128] (by sl_kernel_rfl) _
  case piece0 => exact dvP (rows_hi hN t) (gain_at hN t) y1.isLt (Ws := weights m c t) (weight_at hN t) x (row_hi' h0) h1
  case piece1 => exact duP (rows_hi hN t) (gain_at hN t) y1.isLt 7 (weight_at hN t 7) (bias_at hN t 7) (o := 896) (cuts 7) rfl x (row_hi' h0) h1
  case piece2 => exact dgaP (rows_hi hN t) (gain_at hN t) y1.isLt 7 (weight_at hN t 7) (bias_at hN t 7) (o := 896) (p := 2944) (cuts 7) rfl rfl x (row_hi' h0) h1
  case piece3 => exact duP (rows_hi hN t) (gain_at hN t) y1.isLt 6 (weight_at hN t 6) (bias_at hN t 6) (o := 768) (cuts 6) rfl x (row_hi' h0) h1
  case piece4 => exact dgaP (rows_hi hN t) (gain_at hN t) y1.isLt 6 (weight_at hN t 6) (bias_at hN t 6) (o := 768) (p := 2816) (cuts 6) rfl rfl x (row_hi' h0) h1
  case piece5 => exact duP (rows_hi hN t) (gain_at hN t) y1.isLt 5 (weight_at hN t 5) (bias_at hN t 5) (o := 640) (cuts 5) rfl x (row_hi' h0) h1
  case piece6 => exact dgaP (rows_hi hN t) (gain_at hN t) y1.isLt 5 (weight_at hN t 5) (bias_at hN t 5) (o := 640) (p := 2688) (cuts 5) rfl rfl x (row_hi' h0) h1
  case piece7 => exact duP (rows_hi hN t) (gain_at hN t) y1.isLt 4 (weight_at hN t 4) (bias_at hN t 4) (o := 512) (cuts 4) rfl x (row_hi' h0) h1
  case piece8 => exact dgaP (rows_hi hN t) (gain_at hN t) y1.isLt 4 (weight_at hN t 4) (bias_at hN t 4) (o := 512) (p := 2560) (cuts 4) rfl rfl x (row_hi' h0) h1
  case piece9 => exact duP (rows_hi hN t) (gain_at hN t) y1.isLt 3 (weight_at hN t 3) (bias_at hN t 3) (o := 384) (cuts 3) rfl x (row_hi' h0) h1
  case piece10 => exact dgaP (rows_hi hN t) (gain_at hN t) y1.isLt 3 (weight_at hN t 3) (bias_at hN t 3) (o := 384) (p := 2432) (cuts 3) rfl rfl x (row_hi' h0) h1
  case piece11 => exact duP (rows_hi hN t) (gain_at hN t) y1.isLt 2 (weight_at hN t 2) (bias_at hN t 2) (o := 256) (cuts 2) rfl x (row_hi' h0) h1
  case piece12 => exact dgaP (rows_hi hN t) (gain_at hN t) y1.isLt 2 (weight_at hN t 2) (bias_at hN t 2) (o := 256) (p := 2304) (cuts 2) rfl rfl x (row_hi' h0) h1
  case piece13 => exact duP (rows_hi hN t) (gain_at hN t) y1.isLt 1 (weight_at hN t 1) (bias_at hN t 1) (o := 128) (cuts 1) rfl x (row_hi' h0) h1
  case piece14 => exact dgaP (rows_hi hN t) (gain_at hN t) y1.isLt 1 (weight_at hN t 1) (bias_at hN t 1) (o := 128) (p := 2176) (cuts 1) rfl rfl x (row_hi' h0) h1
  case piece15 => exact duP (rows_hi hN t) (gain_at hN t) y1.isLt 0 (weight_at hN t 0) (bias_at hN t 0) (o := 0) (cuts 0) rfl x (row_hi' h0) (h1.trans (Nat.zero_add _).symm)
  case piece16 => exact dgaP (rows_hi hN t) (gain_at hN t) y1.isLt 0 (weight_at hN t 0) (bias_at hN t 0) (o := 0) (p := 2048) (cuts 0) rfl rfl x (row_hi' h0) h1
  case piece17 => exact dgbP (rows_hi hN t) y1.isLt x (row_hi' h0) h1
  case piece18 => exact dvP (rows_lo hN t) (gain_at hN t) y1.isLt (Ws := weights m c t) (weight_at hN t) x (row_lo' h0) h1
  case piece19 => exact duP (rows_lo hN t) (gain_at hN t) y1.isLt 7 (weight_at hN t 7) (bias_at hN t 7) (o := 896) (cuts 7) rfl x (row_lo' h0) h1
  case piece20 => exact dgaP (rows_lo hN t) (gain_at hN t) y1.isLt 7 (weight_at hN t 7) (bias_at hN t 7) (o := 896) (p := 2944) (cuts 7) rfl rfl x (row_lo' h0) h1
  case piece21 => exact duP (rows_lo hN t) (gain_at hN t) y1.isLt 6 (weight_at hN t 6) (bias_at hN t 6) (o := 768) (cuts 6) rfl x (row_lo' h0) h1
  case piece22 => exact dgaP (rows_lo hN t) (gain_at hN t) y1.isLt 6 (weight_at hN t 6) (bias_at hN t 6) (o := 768) (p := 2816) (cuts 6) rfl rfl x (row_lo' h0) h1
  case piece23 => exact duP (rows_lo hN t) (gain_at hN t) y1.isLt 5 (weight_at hN t 5) (bias_at hN t 5) (o := 640) (cuts 5) rfl x (row_lo' h0) h1
  case piece24 => exact dgaP (rows_lo hN t) (gain_at hN t) y1.isLt 5 (weight_at hN t 5) (bias_at hN t 5) (o := 640) (p := 2688) (cuts 5) rfl rfl x (row_lo' h0) h1
  case piece25 => exact duP (rows_lo hN t) (gain_at hN t) y1.isLt 4 (weight_at hN t 4) (bias_at hN t 4) (o := 512) (cuts 4) rfl x (row_lo' h0) h1
  case piece26 => exact dgaP (rows_lo hN t) (gain_at hN t) y1.isLt 4 (weight_at hN t 4) (bias_at hN t 4) (o := 512) (p := 2560) (cuts 4) rfl rfl x (row_lo' h0) h1
  case piece27 => exact duP (rows_lo hN t) (gain_at hN t) y1.isLt 3 (weight_at hN t 3) (bias_at hN t 3) (o := 384) (cuts 3) rfl x (row_lo' h0) h1
  case piece28 => exact dgaP (rows_lo hN t) (gain_at hN t) y1.isLt 3 (weight_at hN t 3) (bias_at hN t 3) (o := 384) (p := 2432) (cuts 3) rfl rfl x (row_lo' h0) h1
  case piece29 => exact duP (rows_lo hN t) (gain_at hN t) y1.isLt 2 (weight_at hN t 2) (bias_at hN t 2) (o := 256) (cuts 2) rfl x (row_lo' h0) h1
  case piece30 => exact dgaP (rows_lo hN t) (gain_at hN t) y1.isLt 2 (weight_at hN t 2) (bias_at hN t 2) (o := 256) (p := 2304) (cuts 2) rfl rfl x (row_lo' h0) h1
  case piece31 => exact duP (rows_lo hN t) (gain_at hN t) y1.isLt 1 (weight_at hN t 1) (bias_at hN t 1) (o := 128) (cuts 1) rfl x (row_lo' h0) h1
  case piece32 => exact dgaP (rows_lo hN t) (gain_at hN t) y1.isLt 1 (weight_at hN t 1) (bias_at hN t 1) (o := 128) (p := 2176) (cuts 1) rfl rfl x (row_lo' h0) h1
  case piece33 => exact duP (rows_lo hN t) (gain_at hN t) y1.isLt 0 (weight_at hN t 0) (bias_at hN t 0) (o := 0) (cuts 0) rfl x (row_lo' h0) (h1.trans (Nat.zero_add _).symm)
  case piece34 => exact dgaP (rows_lo hN t) (gain_at hN t) y1.isLt 0 (weight_at hN t 0) (bias_at hN t 0) (o := 0) (p := 2048) (cuts 0) rfl rfl x (row_lo' h0) h1
  case piece35 => exact dgbP (rows_lo hN t) y1.isLt x (row_lo' h0) h1

set_option maxHeartbeats 8000000 in
theorem projA (t : Fin cfg0.N) (h0 : t.val % 16 = 0) (y0 : Fin 256) (y1 : Fin 4096) :
    (outsAt0 m c t.val t.isLt).1 (ix2 y0 y1) = (four N (rowT t y0) y1.val y1.isLt : EReal) := by
  rw [outsAt0_A m c t h0]
  frame_out
  canon_tiles x h using View.cover_of_tiledBy _ ![128, 128] (by sl_kernel_rfl) _
  case piece0 => exact dvP (rows_hi hN t) (gain_at hN t) y1.isLt (Ws := weights m c t) (weight_at hN t) x (row_hi' h0) h1
  case piece1 => exact duP (rows_hi hN t) (gain_at hN t) y1.isLt 7 (weight_at hN t 7) (bias_at hN t 7) (o := 896) (cuts 7) rfl x (row_hi' h0) h1
  case piece2 => exact dgaP (rows_hi hN t) (gain_at hN t) y1.isLt 7 (weight_at hN t 7) (bias_at hN t 7) (o := 896) (p := 2944) (cuts 7) rfl rfl x (row_hi' h0) h1
  case piece3 => exact duP (rows_hi hN t) (gain_at hN t) y1.isLt 6 (weight_at hN t 6) (bias_at hN t 6) (o := 768) (cuts 6) rfl x (row_hi' h0) h1
  case piece4 => exact dgaP (rows_hi hN t) (gain_at hN t) y1.isLt 6 (weight_at hN t 6) (bias_at hN t 6) (o := 768) (p := 2816) (cuts 6) rfl rfl x (row_hi' h0) h1
  case piece5 => exact duP (rows_hi hN t) (gain_at hN t) y1.isLt 5 (weight_at hN t 5) (bias_at hN t 5) (o := 640) (cuts 5) rfl x (row_hi' h0) h1
  case piece6 => exact dgaP (rows_hi hN t) (gain_at hN t) y1.isLt 5 (weight_at hN t 5) (bias_at hN t 5) (o := 640) (p := 2688) (cuts 5) rfl rfl x (row_hi' h0) h1
  case piece7 => exact duP (rows_hi hN t) (gain_at hN t) y1.isLt 4 (weight_at hN t 4) (bias_at hN t 4) (o := 512) (cuts 4) rfl x (row_hi' h0) h1
  case piece8 => exact dgaP (rows_hi hN t) (gain_at hN t) y1.isLt 4 (weight_at hN t 4) (bias_at hN t 4) (o := 512) (p := 2560) (cuts 4) rfl rfl x (row_hi' h0) h1
  case piece9 => exact duP (rows_hi hN t) (gain_at hN t) y1.isLt 3 (weight_at hN t 3) (bias_at hN t 3) (o := 384) (cuts 3) rfl x (row_hi' h0) h1
  case piece10 => exact dgaP (rows_hi hN t) (gain_at hN t) y1.isLt 3 (weight_at hN t 3) (bias_at hN t 3) (o := 384) (p := 2432) (cuts 3) rfl rfl x (row_hi' h0) h1
  case piece11 => exact duP (rows_hi hN t) (gain_at hN t) y1.isLt 2 (weight_at hN t 2) (bias_at hN t 2) (o := 256) (cuts 2) rfl x (row_hi' h0) h1
  case piece12 => exact dgaP (rows_hi hN t) (gain_at hN t) y1.isLt 2 (weight_at hN t 2) (bias_at hN t 2) (o := 256) (p := 2304) (cuts 2) rfl rfl x (row_hi' h0) h1
  case piece13 => exact duP (rows_hi hN t) (gain_at hN t) y1.isLt 1 (weight_at hN t 1) (bias_at hN t 1) (o := 128) (cuts 1) rfl x (row_hi' h0) h1
  case piece14 => exact dgaP (rows_hi hN t) (gain_at hN t) y1.isLt 1 (weight_at hN t 1) (bias_at hN t 1) (o := 128) (p := 2176) (cuts 1) rfl rfl x (row_hi' h0) h1
  case piece15 => exact duP (rows_hi hN t) (gain_at hN t) y1.isLt 0 (weight_at hN t 0) (bias_at hN t 0) (o := 0) (cuts 0) rfl x (row_hi' h0) (h1.trans (Nat.zero_add _).symm)
  case piece16 => exact dgaP (rows_hi hN t) (gain_at hN t) y1.isLt 0 (weight_at hN t 0) (bias_at hN t 0) (o := 0) (p := 2048) (cuts 0) rfl rfl x (row_hi' h0) h1
  case piece17 => exact dgbP (rows_hi hN t) y1.isLt x (row_hi' h0) h1
  case piece18 => exact dvP (rows_lo hN t) (gain_at hN t) y1.isLt (Ws := weights m c t) (weight_at hN t) x (row_lo' h0) h1
  case piece19 => exact duP (rows_lo hN t) (gain_at hN t) y1.isLt 7 (weight_at hN t 7) (bias_at hN t 7) (o := 896) (cuts 7) rfl x (row_lo' h0) h1
  case piece20 => exact dgaP (rows_lo hN t) (gain_at hN t) y1.isLt 7 (weight_at hN t 7) (bias_at hN t 7) (o := 896) (p := 2944) (cuts 7) rfl rfl x (row_lo' h0) h1
  case piece21 => exact duP (rows_lo hN t) (gain_at hN t) y1.isLt 6 (weight_at hN t 6) (bias_at hN t 6) (o := 768) (cuts 6) rfl x (row_lo' h0) h1
  case piece22 => exact dgaP (rows_lo hN t) (gain_at hN t) y1.isLt 6 (weight_at hN t 6) (bias_at hN t 6) (o := 768) (p := 2816) (cuts 6) rfl rfl x (row_lo' h0) h1
  case piece23 => exact duP (rows_lo hN t) (gain_at hN t) y1.isLt 5 (weight_at hN t 5) (bias_at hN t 5) (o := 640) (cuts 5) rfl x (row_lo' h0) h1
  case piece24 => exact dgaP (rows_lo hN t) (gain_at hN t) y1.isLt 5 (weight_at hN t 5) (bias_at hN t 5) (o := 640) (p := 2688) (cuts 5) rfl rfl x (row_lo' h0) h1
  case piece25 => exact duP (rows_lo hN t) (gain_at hN t) y1.isLt 4 (weight_at hN t 4) (bias_at hN t 4) (o := 512) (cuts 4) rfl x (row_lo' h0) h1
  case piece26 => exact dgaP (rows_lo hN t) (gain_at hN t) y1.isLt 4 (weight_at hN t 4) (bias_at hN t 4) (o := 512) (p := 2560) (cuts 4) rfl rfl x (row_lo' h0) h1
  case piece27 => exact duP (rows_lo hN t) (gain_at hN t) y1.isLt 3 (weight_at hN t 3) (bias_at hN t 3) (o := 384) (cuts 3) rfl x (row_lo' h0) h1
  case piece28 => exact dgaP (rows_lo hN t) (gain_at hN t) y1.isLt 3 (weight_at hN t 3) (bias_at hN t 3) (o := 384) (p := 2432) (cuts 3) rfl rfl x (row_lo' h0) h1
  case piece29 => exact duP (rows_lo hN t) (gain_at hN t) y1.isLt 2 (weight_at hN t 2) (bias_at hN t 2) (o := 256) (cuts 2) rfl x (row_lo' h0) h1
  case piece30 => exact dgaP (rows_lo hN t) (gain_at hN t) y1.isLt 2 (weight_at hN t 2) (bias_at hN t 2) (o := 256) (p := 2304) (cuts 2) rfl rfl x (row_lo' h0) h1
  case piece31 => exact duP (rows_lo hN t) (gain_at hN t) y1.isLt 1 (weight_at hN t 1) (bias_at hN t 1) (o := 128) (cuts 1) rfl x (row_lo' h0) h1
  case piece32 => exact dgaP (rows_lo hN t) (gain_at hN t) y1.isLt 1 (weight_at hN t 1) (bias_at hN t 1) (o := 128) (p := 2176) (cuts 1) rfl rfl x (row_lo' h0) h1
  case piece33 => exact duP (rows_lo hN t) (gain_at hN t) y1.isLt 0 (weight_at hN t 0) (bias_at hN t 0) (o := 0) (cuts 0) rfl x (row_lo' h0) (h1.trans (Nat.zero_add _).symm)
  case piece34 => exact dgaP (rows_lo hN t) (gain_at hN t) y1.isLt 0 (weight_at hN t 0) (bias_at hN t 0) (o := 0) (p := 2048) (cuts 0) rfl rfl x (row_lo' h0) h1
  case piece35 => exact dgbP (rows_lo hN t) y1.isLt x (row_lo' h0) h1

end Cert.MixOwn

end
-- ==== Proof.MixFinal.lean ====
module

public import proofs.«01_k».proof.Proof.MixProj

/-! The arrays the mix's backward call leaves. -/

@[expose] public section

set_option maxRecDepth 16384

noncomputable section

open Idealize.ShloMosaic Idealize.ShloMosaic.TcCoe Idealize.SL.Sem
open Idealize.ShloMosaic.Pipeline (Dat)

namespace Cert.MixOwn

open Cert Cert.Reals Cert.Norms Cert.MixBwdIdeal Cert.MixBwdIdeal.Gen

variable {m : (ℓ : Loc nD τ sig) → Buf (Elt Ideal) ℓ} {c : Dev nD} {N : Args} (hN : Num m c N)

/-- The sum over all rows, block by block. -/
theorem sum_rows (f : Fin 4096 → ℝ) : ∑ q, ∑ i, f (row q i) = ∑ r, f r := by
  rw [← Fintype.sum_prod_type' fun q i => f (row q i)]
  refine Fintype.sum_equiv (Equiv.mk (fun p : Fin 32 × Fin 128 => row p.1 p.2) (fun r => (qOf r, iOf r)) ?_ ?_) _ _ fun _ => rfl
  · intro p
    exact Prod.ext (qOf_row p.1 p.2) (iOf_row p.1 p.2)
  · intro r
    exact row_of r

/-- The bias term of one block of rows, by lane. -/
abbrev lane (N : Args) (i l : Fin 128) (q : Fin 32) : ℝ := if h : l.val < 8 then N.db q i ⟨l.val, h⟩ else 0

include hN

theorem held : ∀ (n : ℕ) (hn : n < cfg0.N),
    (∀ g i s, (outsAt0 m c n hn).2.2.2.1 (ix3 g i s) = (upTo (fun q => N.dw q g i s) (2 * n + 2) : EReal))
    ∧ (∀ i l, (outsAt0 m c n hn).2.2.2.2.1 (ix2 i l) = (upTo (lane N i l) (2 * n + 2) : EReal))
    ∧ (∀ k, (outsAt0 m c n hn).2.2.2.2.2 (ix2 0 k) = (upTo (fun q => N.dgv q k) (2 * n + 2) : EReal)) := by
  intro n
  induction n with
  | zero => exact fun hn => ⟨dwA hN ⟨0, hn⟩ rfl, dbtA hN ⟨0, hn⟩ rfl, dgvA hN ⟨0, hn⟩ rfl⟩
  | succ n ih =>
    intro hn
    have hT := lt_of_lt_of_eq hn N_0
    obtain ⟨p0, p1, p2⟩ := ih (by omega)
    have h0 : ¬(n + 1) % 16 = 0 := by omega
    exact ⟨dwB hN ⟨n + 1, hn⟩ h0 p0, dbtB hN ⟨n + 1, hn⟩ h0 p1, dgvB hN ⟨n + 1, hn⟩ h0 p2⟩

theorem proj_at (t : Fin cfg0.N) (y0 : Fin 256) (y1 : Fin 4096) : (outsAt0 m c t.val t.isLt).1 (ix2 y0 y1) = (four N (rowT t y0) y1.val y1.isLt : EReal) := by
  by_cases h0 : t.val % 16 = 0
  · exact projA hN t h0 y0 y1
  · exact projB hN t h0 y0 y1

theorem dyb_last (t : Fin cfg0.N) (y0 : Fin 256) (y1 : Fin 1024) : (outsAt0 m c t.val t.isLt).2.1 (ix2 y0 y1) = (N.dyb (rowT t y0) y1 : EReal) := by
  by_cases h0 : t.val % 16 = 0
  · exact dybA hN t h0 y0 y1
  · exact dybB hN t h0 y0 y1

theorem dlt_last (t : Fin cfg0.N) (y0 : Fin 256) (y1 : Fin 1024) : (outsAt0 m c t.val t.isLt).2.2.1 (ix2 y0 y1) = (N.delta (rowT t y0) (gOf y1) : EReal) := by
  by_cases h0 : t.val % 16 = 0
  · exact dltA hN t h0 y0 y1
  · exact dltB hN t h0 y0 y1

omit hN

/-- The last point. -/
def lastPt : Fin cfg0.N := ⟨15, (by decide +kernel : 15 < grid0.N)⟩

/-- The six results; the first one on its first 4096 columns. -/
def R10 (N : Args) : FVec Ideal S4096x7680 .bf16 := fun i => ((if h : (i 1).val < 4096 then four N (i 0) (i 1).val h else 0 : ℝ) : EReal)
def R11 (N : Args) : FVec Ideal S4096x1024 .f32 := fun i => (N.dyb (i 0) (i 1) : EReal)
def R12 (N : Args) : FVec Ideal S4096x1024 .f32 := fun i => (N.delta (i 0) (gOf (i 1)) : EReal)
def R13 (N : Args) : FVec Ideal S8x128x128 .f32 := fun i => ((∑ q, N.dw q (i 0) (i 1) (i 2) : ℝ) : EReal)
def R14 (N : Args) : FVec Ideal S128x128 .f32 := fun i => ((∑ q, lane N (i 0) (i 1) q : ℝ) : EReal)
def R15 (N : Args) : FVec Ideal S1x1024 .f32 := fun i => ((∑ q, N.dgv q (i 1) : ℝ) : EReal)

include hN

theorem final10 : (dats m 0 c).arrAt 10 (cfgs 0).N = fun i => if (i (1 : Fin 2)).val / 4096 = 0 then R10 N i else (dats m 0 c).A 10 i := by
  refine (dats m 0 c).arrAt_eq_of_coversWhere 10 (R10 N) (fun β => β (1 : Fin 2) = 0) (by decide +kernel) (fun t hf y => ?_) (fun j => Iff.rfl)
  blk_simp
  rw [after0_10]
  obtain ⟨y0, y1, e⟩ : ∃ (y0 : Fin 256) (y1 : Fin 4096), (cfg0.win 10).xinj (cfg0.grid.coords t) y = ix2 y0 y1 := ⟨_, _, eq_ix2 _⟩
  have e0 : (y (0 : Fin 2)).val = y0.val := congrArg (fun i : S256x4096.Idx => (i 0).val) e
  have e1 : (y (1 : Fin 2)).val = y1.val := congrArg (fun i : S256x4096.Idx => (i 1).val) e
  rw [e]
  have h : (win0_10.blk t).view.emb y = ix2 (rowT t y0) ⟨y1.val, by omega⟩ := by
    blk_ext [idx t]
  rw [h]
  refine (proj_at hN t y0 y1).trans ?_
  unfold R10
  exact congrArg _ (dif_pos y1.isLt).symm

theorem final11 : (dats m 0 c).arrAt 11 (cfgs 0).N = R11 N := by
  refine (dats m 0 c).arrAt_eq_of_covers 11 _ (by decide +kernel) fun t hf y => ?_
  blk_simp
  rw [after0_11]
  idx_vars y
  rw [show (win0_11.blk t).view.emb (ix2 y0 y1) = ix2 (rowT t y0) y1 by blk_ext [idx t]]
  exact dyb_last hN t y0 y1

theorem final12 : (dats m 0 c).arrAt 12 (cfgs 0).N = R12 N := by
  refine (dats m 0 c).arrAt_eq_of_covers 12 _ (by decide +kernel) fun t hf y => ?_
  blk_simp
  rw [after0_12]
  idx_vars y
  rw [show (win0_12.blk t).view.emb (ix2 y0 y1) = ix2 (rowT t y0) y1 by blk_ext [idx t]]
  exact dlt_last hN t y0 y1

theorem end13 (n : ℕ) (hn : n < cfg0.N) (h : n = 15) (g : Fin 8) (i s : Fin 128) : (outsAt0 m c n hn).2.2.2.1 (ix3 g i s) = R13 N (ix3 g i s) := by
  rw [(held hN n hn).1 g i s, h]
  exact congrArg _ (upTo_all _)

theorem end14 (n : ℕ) (hn : n < cfg0.N) (h : n = 15) (i l : Fin 128) : (outsAt0 m c n hn).2.2.2.2.1 (ix2 i l) = R14 N (ix2 i l) := by
  rw [(held hN n hn).2.1 i l, h]
  exact congrArg _ (upTo_all _)

theorem end15 (n : ℕ) (hn : n < cfg0.N) (h : n = 15) (k : Fin 1024) : (outsAt0 m c n hn).2.2.2.2.2 (ix2 0 k) = R15 N (ix2 0 k) := by
  rw [(held hN n hn).2.2 k, h]
  exact congrArg _ (upTo_all _)

theorem final13 : (dats m 0 c).arrAt 13 (cfgs 0).N = R13 N := by
  refine (dats m 0 c).arrAt_eq_of_after_last 13 lastPt (by decide +kernel) _ fun j => ?_
  blk_simp
  rw [after0_13]
  idx_vars j
  exact end13 hN lastPt.val lastPt.isLt rfl j0 j1 j2

theorem final14 : (dats m 0 c).arrAt 14 (cfgs 0).N = R14 N := by
  refine (dats m 0 c).arrAt_eq_of_after_last 14 lastPt (by decide +kernel) _ fun j => ?_
  blk_simp
  rw [after0_14]
  idx_vars j
  exact end14 hN lastPt.val lastPt.isLt rfl j0 j1

theorem final15 : (dats m 0 c).arrAt 15 (cfgs 0).N = R15 N := by
  refine (dats m 0 c).arrAt_eq_of_after_last 15 lastPt (by decide +kernel) _ fun j => ?_
  blk_simp
  rw [after0_15]
  idx_vars j
  rw [show j0 = 0 from Subsingleton.elim _ _]
  exact end15 hN lastPt.val lastPt.isLt rfl j1

end Cert.MixOwn

end
-- ==== Proof.MixClaim.lean ====
module

public import proofs.«01_k».proof.Proof.MixFinal
public import proofs.«01_k».proof.Proof.Gen.Pre_mix_finite
public import proofs.«01_k».proof.Proof.Gen.On_mix_written
public import proofs.«01_k».proof.Defs

/-! The mix's backward results are the reference's. -/

@[expose] public section

set_option maxRecDepth 16384

noncomputable section

open Idealize.ShloMosaic Idealize.ShloMosaic.TcCoe

namespace Cert.MixOwn

open Cert Cert.Reals Cert.Norms Cert.MixBwdIdeal Cert.MixBwdIdeal.Gen

variable (m : (ℓ : Loc nD τ sig) → Buf (Elt Ideal) ℓ) (c : Dev nD)

theorem nums (h : Pre_MixBwdIdeal_mix_finite m) : ∃ N : Args, Num m c N := by
  have h := h c
  simp only [Cert.Pre_mix_finite.fn, Cert.Pre_mix_finite.fn_part1] at h
  obtain ⟨h0, h1, h2, h3, h4, h5, h6, h7, h8⟩ := h
  obtain ⟨x0, e0⟩ := real_array _ _ h0
  obtain ⟨x1, e1⟩ := real_array _ _ h1
  obtain ⟨x2, e2⟩ := real_array _ _ h2
  obtain ⟨x3, e3⟩ := real_array _ _ h3
  obtain ⟨x4, e4⟩ := real_array _ _ h4
  obtain ⟨x5, e5⟩ := real_array _ _ h5
  obtain ⟨x6, e6⟩ := real_array _ _ h6
  obtain ⟨x7, e7⟩ := real_array _ _ h7
  obtain ⟨x8, e8⟩ := real_array _ _ h8
  exact ⟨⟨fun r k => x0 (ix2 r k), fun r k => x1 (ix2 r k), fun r k => x2 (ix2 r k), fun r k => x3 (ix2 r k), fun r k => x4 (ix2 r k), fun r k => x5 (ix2 r k),
      fun g i s => x6 (ix3 g i s), fun g i => x7 (ix2 g i), fun k => x8 (ix1 k)⟩,
    ⟨fun _ _ => congrFun e0 _, fun _ _ => congrFun e1 _, fun _ _ => congrFun e2 _, fun _ _ => congrFun e3 _, fun _ _ => congrFun e4 _, fun _ _ => congrFun e5 _,
      fun _ _ _ => congrFun e6 _, fun _ _ => congrFun e7 _, fun _ => congrFun e8 _⟩⟩

variable {m c}

theorem final_proj (h : Pre_MixBwdIdeal_mix_finite m) (i : S4096x7680.Idx) (hi : (i 1).val < 4096) : (dats m 0 c).arrAt 10 (cfgs 0).N i
    = MixRefIdeal.Read.val_main_v189 (F := Ideal) (A0 m c) (A1 m c) (A2 m c) (A3 m c) (A4 m c) (A5 m c) (A6 m c) (A7 m c) (A8 m c) i := by
  obtain ⟨N, hN⟩ := nums m c h
  rw [final10 hN]
  obtain ⟨i0, i1, rfl⟩ : ∃ (i0 : Fin 4096) (i1 : Fin 7680), i = ix2 i0 i1 := ⟨i 0, i 1, eq_ix2 i⟩
  rw [r189 hN i0 i1 hi]
  refine (if_pos (Nat.div_eq_of_lt hi)).trans ?_
  unfold R10
  exact congrArg _ (dif_pos hi)

theorem final_dyb (h : Pre_MixBwdIdeal_mix_finite m) : (dats m 0 c).arrAt 11 (cfgs 0).N
    = MixRefIdeal.Read.val_main_v109 (F := Ideal) (A3 m c) (A5 m c) := by
  obtain ⟨N, hN⟩ := nums m c h
  rw [final11 hN]
  funext i
  idx_vars i
  exact (r109 hN i0 i1).symm

theorem final_delta (h : Pre_MixBwdIdeal_mix_finite m) : (dats m 0 c).arrAt 12 (cfgs 0).N
    = MixRefIdeal.Read.val_main_v195 (F := Ideal) (A3 m c) (A4 m c) (A5 m c) := by
  obtain ⟨N, hN⟩ := nums m c h
  rw [final12 hN]
  funext i
  idx_vars i
  exact (r195 hN i0 i1).symm

theorem final_dw (h : Pre_MixBwdIdeal_mix_finite m) : (dats m 0 c).arrAt 13 (cfgs 0).N
    = MixRefIdeal.Read.val_main_v129 (F := Ideal) (A0 m c) (A1 m c) (A2 m c) (A5 m c) (A8 m c) := by
  obtain ⟨N, hN⟩ := nums m c h
  rw [final13 hN]
  funext i
  idx_vars i
  exact (r129 hN i0 i1 i2).symm

theorem final_db (h : Pre_MixBwdIdeal_mix_finite m) : (dats m 0 c).arrAt 14 (cfgs 0).N
    = MixRefIdeal.Read.val_main_v197 (F := Ideal) (A0 m c) (A2 m c) (A5 m c) := by
  obtain ⟨N, hN⟩ := nums m c h
  rw [final14 hN]
  funext i
  idx_vars i
  refine Eq.trans (congrArg (fun x : ℝ => (x : EReal)) ?_) (r197 hN i0 i1).symm
  by_cases hl : i1.val < 8
  · rw [dif_pos hl]
    exact Finset.sum_congr rfl fun q _ => dif_pos hl
  · rw [dif_neg hl]
    exact Finset.sum_eq_zero fun q _ => dif_neg hl

theorem final_dgv (h : Pre_MixBwdIdeal_mix_finite m) : (dats m 0 c).arrAt 15 (cfgs 0).N
    = MixRefIdeal.Read.val_main_v198 (F := Ideal) (A0 m c) (A1 m c) (A2 m c) (A5 m c) (A6 m c) := by
  obtain ⟨N, hN⟩ := nums m c h
  rw [final15 hN]
  funext i
  idx_vars i
  rw [show i0 = 0 from Subsingleton.elim _ _]
  refine Eq.trans (congrArg (fun x : ℝ => (x : EReal)) ?_) (r198 hN i1).symm
  exact sum_rows fun r => N.dvnR r i1 * N.xh r i1

/-- On the first 4096 columns the mask is one. -/
theorem mask_low (x : BitVec 32) (hx : x.toNat < 7680) (h : BitVec.ofBool (x.slt 4096#32) = 1#1) : x.toNat < 4096 := by
  have hs : x.slt 4096#32 = true := by
    cases e : x.slt 4096#32
    · rw [e] at h; exact absurd h (by decide)
    · rfl
  rw [BitVec.slt_iff_toInt_lt] at hs
  have e1 : x.toInt = x.toNat := BitVec.toInt_eq_toNat_of_lt (by omega)
  have e2 : (4096#32).toInt = 4096 := by decide
  omega

end Cert.MixOwn

end
-- ==== Proof.MixPair.lean ====
module

public import proofs.«01_k».proof.Proof.MixClaim
public import proofs.«01_k».proof.Proof.Gen.MixBwdIdeal.Value
public import proofs.«01_k».proof.Proof.Gen.MixRefIdeal.Run
public import Idealize.ShloMosaic.Adequacy
public import Idealize.ShloMosaic.Init

/-! The mix's backward call and its reference agree where the call writes. -/

@[expose] public section

noncomputable section

open Idealize.ShloMosaic Idealize.SL.Sem

namespace Cert.MixOwn

open Cert.MixBwdIdeal Cert.MixBwdIdeal.Gen

set_option maxHeartbeats 4000000 in
/-- Every run of the call ends with these arrays. -/
theorem ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = (dats m 0 c).arrAt 10 (cfgs 0).N
      ∧ r.2.mem ((c.tc : Thread nD τ).loc main_v9_1) = (dats m 0 c).arrAt 11 (cfgs 0).N
      ∧ r.2.mem ((c.tc : Thread nD τ).loc main_v9_2) = (dats m 0 c).arrAt 12 (cfgs 0).N
      ∧ r.2.mem ((c.tc : Thread nD τ).loc main_v9_3) = (dats m 0 c).arrAt 13 (cfgs 0).N
      ∧ r.2.mem ((c.tc : Thread nD τ).loc main_v9_4) = (dats m 0 c).arrAt 14 (cfgs 0).N
      ∧ r.2.mem ((c.tc : Thread nD τ).loc main_v9_5) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  run_from Cert.MixBwdIdeal.Gen.run_main m g
  all_goals first
    | exact V_main_arg0 m c
    | exact V_main_arg1 m c
    | exact V_main_arg2 m c
    | exact V_main_arg3 m c
    | exact V_main_arg4 m c
    | exact V_main_arg5 m c
    | exact V_main_arg6 m c
    | exact V_main_arg7 m c
    | exact V_main_arg8 m c

/-- The mask of the first result is one on the columns the call writes. -/
theorem written (x0 x1 x2 x3 x4 x5 : FVec Ideal S4096x1024 .f32) (x6 : FVec Ideal S8x128x128 .f32) (x7 : FVec Ideal S8x128 .f32) (x8 : FVec Ideal S1024 .f32)
    (i : S4096x7680.Idx) (h : (Cert.On_mix_written.fn (F := Ideal) x0 x1 x2 x3 x4 x5 x6 x7 x8).1 i = 1#1) : (i 1).val < 4096 := by
  have hi : (i 1).val < 7680 := (i 1).isLt
  have e : (BitVec.ofNat 32 (i 1).val).toNat = (i 1).val := by rw [BitVec.toNat_ofNat]; omega
  have := mask_low (BitVec.ofNat 32 (i 1).val) (by omega) h
  omega

end Cert.MixOwn

namespace Cert.Proof

set_option maxHeartbeats 4000000 in
theorem mix : Cert.algebraic_MixBwdIdeal_MixRefIdeal_on_mix_written_pre_mix_finite := by
  intro m g m' g' hpre hagree
  refine ⟨fun c => (Cert.MixBwdIdeal.Gen.dats m 0 c).arrAt 10 (Cert.MixBwdIdeal.cfgs 0).N, fun c => (Cert.MixBwdIdeal.Gen.dats m 0 c).arrAt 11 (Cert.MixBwdIdeal.cfgs 0).N, fun c => (Cert.MixBwdIdeal.Gen.dats m 0 c).arrAt 12 (Cert.MixBwdIdeal.cfgs 0).N, fun c => (Cert.MixBwdIdeal.Gen.dats m 0 c).arrAt 13 (Cert.MixBwdIdeal.cfgs 0).N, fun c => (Cert.MixBwdIdeal.Gen.dats m 0 c).arrAt 14 (Cert.MixBwdIdeal.cfgs 0).N, fun c => (Cert.MixBwdIdeal.Gen.dats m 0 c).arrAt 15 (Cert.MixBwdIdeal.cfgs 0).N, ?_, ?_⟩
  · exact (θ_run Cert.MixBwdIdeal.defs _ _).mono (fun r h c => ⟨fun i _ => congrFun (h c).1 i, fun i _ => congrFun (h c).2.1 i, fun i _ => congrFun (h c).2.2.1 i, fun i _ => congrFun (h c).2.2.2.1 i, fun i _ => congrFun (h c).2.2.2.2.1 i, fun i _ => congrFun (h c).2.2.2.2.2.1 i, (h c).2.2.2.2.2.2⟩) (Cert.MixOwn.ends m g)
  · refine (θ_run Cert.MixRefIdeal.defs _ _).mono (fun r h c => ?_) (Cert.MixRefIdeal.Value.run m' g')
    have e0 : StableHlo.launchContents m' c (Proc.devRef .tc Cert.MixRefIdeal.main_arg0) = Cert.MixOwn.A0 m c := (hagree c).1
    have e1 : StableHlo.launchContents m' c (Proc.devRef .tc Cert.MixRefIdeal.main_arg1) = Cert.MixOwn.A1 m c := (hagree c).2.1
    have e2 : StableHlo.launchContents m' c (Proc.devRef .tc Cert.MixRefIdeal.main_arg2) = Cert.MixOwn.A2 m c := (hagree c).2.2.1
    have e3 : StableHlo.launchContents m' c (Proc.devRef .tc Cert.MixRefIdeal.main_arg3) = Cert.MixOwn.A3 m c := (hagree c).2.2.2.1
    have e4 : StableHlo.launchContents m' c (Proc.devRef .tc Cert.MixRefIdeal.main_arg4) = Cert.MixOwn.A4 m c := (hagree c).2.2.2.2.1
    have e5 : StableHlo.launchContents m' c (Proc.devRef .tc Cert.MixRefIdeal.main_arg5) = Cert.MixOwn.A5 m c := (hagree c).2.2.2.2.2.1
    have e6 : StableHlo.launchContents m' c (Proc.devRef .tc Cert.MixRefIdeal.main_arg6) = Cert.MixOwn.A6 m c := (hagree c).2.2.2.2.2.2.1
    have e7 : StableHlo.launchContents m' c (Proc.devRef .tc Cert.MixRefIdeal.main_arg7) = Cert.MixOwn.A7 m c := (hagree c).2.2.2.2.2.2.2.1
    have e8 : StableHlo.launchContents m' c (Proc.devRef .tc Cert.MixRefIdeal.main_arg8) = Cert.MixOwn.A8 m c := (hagree c).2.2.2.2.2.2.2.2
    have w0 := (h c).1.trans (Cert.MixRefIdeal.Read.val_main_v189_eq (F := Ideal) (StableHlo.launchContents m' c))
    rw [e0, e1, e2, e3, e4, e5, e6, e7, e8] at w0
    have w1 := (h c).2.1.trans (Cert.MixRefIdeal.Read.val_main_v109_eq (F := Ideal) (StableHlo.launchContents m' c))
    rw [e3, e5] at w1
    have w2 := (h c).2.2.1.trans (Cert.MixRefIdeal.Read.val_main_v195_eq (F := Ideal) (StableHlo.launchContents m' c))
    rw [e3, e4, e5] at w2
    have w3 := (h c).2.2.2.1.trans (Cert.MixRefIdeal.Read.val_main_v129_eq (F := Ideal) (StableHlo.launchContents m' c))
    rw [e0, e1, e2, e5, e8] at w3
    have w4 := (h c).2.2.2.2.1.trans (Cert.MixRefIdeal.Read.val_main_v197_eq (F := Ideal) (StableHlo.launchContents m' c))
    rw [e0, e2, e5] at w4
    have w5 := (h c).2.2.2.2.2.1.trans (Cert.MixRefIdeal.Read.val_main_v198_eq (F := Ideal) (StableHlo.launchContents m' c))
    rw [e0, e1, e2, e5, e6] at w5
    refine ⟨fun i hi => (congrFun w0 i).trans (Cert.MixOwn.final_proj hpre i (Cert.MixOwn.written _ _ _ _ _ _ _ _ _ i hi)).symm,
      fun i _ => congrFun (w1.trans (Cert.MixOwn.final_dyb hpre).symm) i, fun i _ => congrFun (w2.trans (Cert.MixOwn.final_delta hpre).symm) i,
      fun i _ => congrFun (w3.trans (Cert.MixOwn.final_dw hpre).symm) i, fun i _ => congrFun (w4.trans (Cert.MixOwn.final_db hpre).symm) i,
      fun i _ => congrFun (w5.trans (Cert.MixOwn.final_dgv hpre).symm) i, (h c).2.2.2.2.2.2⟩

end Cert.Proof

end
-- ==== Proof.lean ====
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.ForgetBwd
public import proofs.«01_k».proof.Proof.Gen.ForgetBwd.Frame
public import proofs.«01_k».proof.Proof.Gen.ForgetBwdIdeal
public import proofs.«01_k».proof.Proof.Gen.ForgetBwdIdeal.Frame
public import proofs.«01_k».proof.Proof.Gen.ForgetBwdIdeal.Value
public import proofs.«01_k».proof.Proof.Gen.ForgetRefIdeal
public import proofs.«01_k».proof.Proof.Gen.ForgetRefIdeal.Run
public import proofs.«01_k».proof.Proof.Gen.ForgetRefIdeal.Read
public import proofs.«01_k».proof.Proof.Gen.Pre_forget_finite
public import proofs.«01_k».proof.Proof.FfnValue
public import proofs.«01_k».proof.Proof.ForgetRef
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.AttnBits
public import proofs.«01_k».proof.Proof.Gen.Pre_attn_finite
public import proofs.«01_k».proof.Proof.AttnFinal
public import proofs.«01_k».proof.Proof.Gen.AttnFwd
public import proofs.«01_k».proof.Proof.Gen.AttnFwd.Skeleton
public import proofs.«01_k».proof.Proof.Gen.AttnFwd.Loops
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Loops
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attf_finite
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossBwdIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_norm_finite
public import proofs.«01_k».proof.Proof.Gen.Pre_loss_finite
public import proofs.«01_k».proof.Proof.Gen.Pre_mix_finite
public import proofs.«01_k».proof.Proof.Gen.On_mix_written
public import proofs.«01_k».proof.Proof.Gen.MixBwdIdeal.Value
public import proofs.«01_k».proof.Proof.Gen.DhABwd
public import proofs.«01_k».proof.Proof.Gen.DhABwd.Frame
public import proofs.«01_k».proof.Proof.Gen.DhABwdIdeal
public import proofs.«01_k».proof.Proof.Gen.DhABwdIdeal.Frame
public import proofs.«01_k».proof.Proof.Gen.DhABwdIdeal.Value
public import proofs.«01_k».proof.Proof.Gen.DhARefIdeal
public import proofs.«01_k».proof.Proof.Gen.DhARefIdeal.Run
public import proofs.«01_k».proof.Proof.Gen.DhARefIdeal.Read
public import proofs.«01_k».proof.Proof.Gen.Pre_dh1_finite
public import proofs.«01_k».proof.Proof.Gen.DhBBwd
public import proofs.«01_k».proof.Proof.Gen.DhBBwd.Frame
public import proofs.«01_k».proof.Proof.Gen.DhBBwdIdeal
public import proofs.«01_k».proof.Proof.Gen.DhBBwdIdeal.Frame
public import proofs.«01_k».proof.Proof.Gen.DhBBwdIdeal.Value
public import proofs.«01_k».proof.Proof.Gen.DhBRefIdeal
public import proofs.«01_k».proof.Proof.Gen.DhBRefIdeal.Run
public import proofs.«01_k».proof.Proof.Gen.DhBRefIdeal.Read
public import proofs.«01_k».proof.Proof.Gen.Pre_dh0_finite
public import proofs.«01_k».proof.Proof.NormPair
public import proofs.«01_k».proof.Proof.DhAPair
public import proofs.«01_k».proof.Proof.DhBPair
public import proofs.«01_k».proof.Proof.AtfPair
public import proofs.«01_k».proof.Proof.LossPair
public import proofs.«01_k».proof.Proof.MixPair
public import Idealize.ShloMosaic.Adequacy
public import Idealize.ShloMosaic.Init

@[expose] public section

noncomputable section

namespace Cert.Proof

open Idealize.ShloMosaic Idealize.SL.Sem

theorem ffn : Cert.algebraic_FfnBwdIdeal_FfnRefIdeal_pre_ffn_finite := by
  pair_intro
  · run_from Cert.FfnBwdIdeal.Gen.run_main m g
  · run_from Cert.FfnRefIdeal.Value.run m' g'
    rw [(hagree c).2.2.2.2]
    exact (Cert.FfnRefIdeal.Read.val_main_v12_eq _ _ _ _ _).trans (Cert.FfnOwn.final m c hpre).symm

theorem forget : Cert.algebraic_ForgetBwdIdeal_ForgetRefIdeal_pre_forget_finite := by
  pair_intro
  · run_from Cert.ForgetBwdIdeal.Gen.run_main m g
    · exact Cert.ForgetBwdIdeal.Gen.V_main_arg0 m c
    · exact Cert.ForgetBwdIdeal.Gen.V_main_arg1 m c
    · exact Cert.ForgetBwdIdeal.Gen.V_main_arg2 m c
    · exact Cert.ForgetBwdIdeal.Gen.V_main_arg3 m c
  · run_from Cert.ForgetRefIdeal.Value.run m' g'
    · rw [Cert.ForgetRefIdeal.Read.val_main_v14_eq, (hagree c).1, (hagree c).2.1, (hagree c).2.2.1, (hagree c).2.2.2]
      exact (Cert.ForgetOwn.ref3 m c (Cert.ForgetOwn.num m c hpre)).trans (Cert.ForgetOwn.final3 m c (Cert.ForgetOwn.num m c hpre)).symm
    · rw [Cert.ForgetRefIdeal.Read.val_main_v16_eq, (hagree c).1, (hagree c).2.1, (hagree c).2.2.1]
      exact (Cert.ForgetOwn.ref4 m c (Cert.ForgetOwn.num m c hpre)).trans (Cert.ForgetOwn.final4 m c (Cert.ForgetOwn.num m c hpre)).symm

set_option maxHeartbeats 4000000 in
theorem attn : Cert.algebraic_AttnBwdIdeal_AttnRefIdeal_pre_attn_finite := by
  pair_intro
  · run_from Cert.AttnBwdIdeal.Run.run_main m g
    · exact Cert.AttnBwdIdeal.Gen.V_main_arg0 m c
    · exact Cert.AttnBwdIdeal.Gen.V_main_arg1 m c
    · exact Cert.AttnBwdIdeal.Gen.V_main_arg2 m c
    · exact Cert.AttnBwdIdeal.Gen.V_main_arg3 m c
    · exact Cert.AttnBwdIdeal.Gen.V_main_arg5 m c
  · run_from Cert.AttnRefIdeal.Value.run m' g'
    · rw [Cert.AttnRefIdeal.Read.val_main_v102_eq, (hagree c).1, (hagree c).2.1, (hagree c).2.2.1, (hagree c).2.2.2.1, (hagree c).2.2.2.2.1, (hagree c).2.2.2.2.2]
      exact (Cert.AttnOwn.final7 (Cert.AttnOwn.nums hpre)).symm
    · rw [Cert.AttnRefIdeal.Read.val_main_v104_eq, (hagree c).1, (hagree c).2.1, (hagree c).2.2.1, (hagree c).2.2.2.1, (hagree c).2.2.2.2.1]
      exact (Cert.AttnOwn.final8 (Cert.AttnOwn.nums hpre)).symm
    · rw [Cert.AttnRefIdeal.Read.val_main_v106_eq, (hagree c).1, (hagree c).2.1, (hagree c).2.2.1, (hagree c).2.2.2.1, (hagree c).2.2.2.2.1]
      exact (Cert.AttnOwn.final9 (Cert.AttnOwn.nums hpre)).symm

theorem claim : Cert.Claim := ⟨Cert.FfnBwd.Gen.facts, Cert.FfnBwdIdeal.Gen.facts, Cert.FfnRefIdeal.Gen.facts,
  Cert.ForgetBwd.Gen.facts, Cert.ForgetBwdIdeal.Gen.facts, Cert.ForgetRefIdeal.Gen.facts, Cert.AttnBwd.Gen.facts, Cert.AttnBwdIdeal.Gen.facts, Cert.AttnRefIdeal.Gen.facts,
  Cert.MixBwd.Gen.facts, Cert.MixBwdIdeal.Gen.facts, Cert.MixRefIdeal.Gen.facts,
  Cert.NormBwd.Gen.facts, Cert.NormBwdIdeal.Gen.facts, Cert.NormRefIdeal.Gen.facts,
  Cert.LossBwd.Gen.facts, Cert.LossBwdIdeal.Gen.facts, Cert.LossRefIdeal.Gen.facts,
  Cert.DhABwd.Gen.facts, Cert.DhABwdIdeal.Gen.facts, Cert.DhARefIdeal.Gen.facts, Cert.DhBBwd.Gen.facts, Cert.DhBBwdIdeal.Gen.facts, Cert.DhBRefIdeal.Gen.facts,
  Cert.AttnFwd.Gen.facts, Cert.AttnFwdIdeal.Gen.facts, Cert.AttnFwdRefIdeal.Gen.facts,
  Cert.Pre_ffn_finite.Gen.facts, Cert.Pre_forget_finite.Gen.facts, Cert.Pre_attn_finite.Gen.facts, Cert.Pre_mix_finite.Gen.facts, Cert.Pre_norm_finite.Gen.facts, Cert.Pre_loss_finite.Gen.facts, Cert.Pre_dh1_finite.Gen.facts, Cert.Pre_dh0_finite.Gen.facts, Cert.Pre_attf_finite.Gen.facts,
  Cert.On_mix_written.Gen.facts,
  fun m ρ _ => Cert.FfnBwd.Gen.frame m ρ, fun m ρ _ => Cert.FfnBwdIdeal.Gen.frame m ρ, fun m ρ _ => Cert.FfnBwdIdeal.Gen.frame m ρ,
  fun m ρ _ => (θ_run Cert.FfnRefIdeal.defs _ _).mono (fun r h => ⟨fun c => (h c).2, sem_eq_zero_of_no_sems (by decide) r.2⟩) (Cert.FfnRefIdeal.Value.run m ρ),
  fun m ρ _ => (θ_run Cert.FfnRefIdeal.defs _ _).mono (fun r h => ⟨fun c => (h c).2, sem_eq_zero_of_no_sems (by decide) r.2⟩) (Cert.FfnRefIdeal.Value.run m ρ),
  fun m ρ _ => Cert.ForgetBwd.Gen.frame m ρ, fun m ρ _ => Cert.ForgetBwdIdeal.Gen.frame m ρ, fun m ρ _ => Cert.ForgetBwdIdeal.Gen.frame m ρ,
  fun m ρ _ => (θ_run Cert.ForgetRefIdeal.defs _ _).mono (fun r h => ⟨fun c => (h c).2.2, sem_eq_zero_of_no_sems (by decide) r.2⟩) (Cert.ForgetRefIdeal.Value.run m ρ),
  fun m ρ _ => (θ_run Cert.ForgetRefIdeal.defs _ _).mono (fun r h => ⟨fun c => (h c).2.2, sem_eq_zero_of_no_sems (by decide) r.2⟩) (Cert.ForgetRefIdeal.Value.run m ρ),
  frame_AttnBwd, frame_AttnBwdIdeal, fun m ρ _ => frame_AttnBwdIdeal m ρ trivial,
  fun m ρ _ => (θ_run Cert.AttnRefIdeal.defs _ _).mono (fun r h => ⟨fun c => (h c).2.2.2, sem_eq_zero_of_no_sems (by decide) r.2⟩) (Cert.AttnRefIdeal.Value.run m ρ),
  fun m ρ _ => (θ_run Cert.AttnRefIdeal.defs _ _).mono (fun r h => ⟨fun c => (h c).2.2.2, sem_eq_zero_of_no_sems (by decide) r.2⟩) (Cert.AttnRefIdeal.Value.run m ρ),
  fun m ρ _ => Cert.MixBwd.Gen.frame m ρ, fun m ρ _ => Cert.MixBwdIdeal.Gen.frame m ρ, fun m ρ _ => Cert.MixBwdIdeal.Gen.frame m ρ,
  fun m ρ _ => (θ_run Cert.MixRefIdeal.defs _ _).mono (fun r h => ⟨fun c => (h c).2.2.2.2.2.2, sem_eq_zero_of_no_sems (by decide) r.2⟩) (Cert.MixRefIdeal.Value.run m ρ),
  fun m ρ _ => (θ_run Cert.MixRefIdeal.defs _ _).mono (fun r h => ⟨fun c => (h c).2.2.2.2.2.2, sem_eq_zero_of_no_sems (by decide) r.2⟩) (Cert.MixRefIdeal.Value.run m ρ),
  fun m ρ _ => Cert.NormBwd.Gen.frame m ρ, fun m ρ _ => Cert.NormBwdIdeal.Gen.frame m ρ, fun m ρ _ => Cert.NormBwdIdeal.Gen.frame m ρ,
  fun m ρ _ => (θ_run Cert.NormRefIdeal.defs _ _).mono (fun r h => ⟨fun c => (h c).2.2.2.2, sem_eq_zero_of_no_sems (by decide) r.2⟩) (Cert.NormRefIdeal.Value.run m ρ),
  fun m ρ _ => (θ_run Cert.NormRefIdeal.defs _ _).mono (fun r h => ⟨fun c => (h c).2.2.2.2, sem_eq_zero_of_no_sems (by decide) r.2⟩) (Cert.NormRefIdeal.Value.run m ρ),
  fun m ρ _ => Cert.LossBwd.Gen.frame m ρ, fun m ρ _ => Cert.LossBwdIdeal.Gen.frame m ρ, fun m ρ _ => Cert.LossBwdIdeal.Gen.frame m ρ,
  fun m ρ _ => (θ_run Cert.LossRefIdeal.defs _ _).mono (fun r h => ⟨fun c => (h c).2.2.2.2.2, sem_eq_zero_of_no_sems (by decide) r.2⟩) (Cert.LossRefIdeal.Value.run m ρ),
  fun m ρ _ => (θ_run Cert.LossRefIdeal.defs _ _).mono (fun r h => ⟨fun c => (h c).2.2.2.2.2, sem_eq_zero_of_no_sems (by decide) r.2⟩) (Cert.LossRefIdeal.Value.run m ρ),
  fun m ρ _ => Cert.DhABwd.Gen.frame m ρ, fun m ρ _ => Cert.DhABwdIdeal.Gen.frame m ρ, fun m ρ _ => Cert.DhABwdIdeal.Gen.frame m ρ,
  fun m ρ _ => (θ_run Cert.DhARefIdeal.defs _ _).mono (fun r h => ⟨fun c => (h c).2.2.2.2, sem_eq_zero_of_no_sems (by decide) r.2⟩) (Cert.DhARefIdeal.Value.run m ρ),
  fun m ρ _ => (θ_run Cert.DhARefIdeal.defs _ _).mono (fun r h => ⟨fun c => (h c).2.2.2.2, sem_eq_zero_of_no_sems (by decide) r.2⟩) (Cert.DhARefIdeal.Value.run m ρ),
  fun m ρ _ => Cert.DhBBwd.Gen.frame m ρ, fun m ρ _ => Cert.DhBBwdIdeal.Gen.frame m ρ, fun m ρ _ => Cert.DhBBwdIdeal.Gen.frame m ρ,
  fun m ρ _ => (θ_run Cert.DhBRefIdeal.defs _ _).mono (fun r h => ⟨fun c => (h c).2.2, sem_eq_zero_of_no_sems (by decide) r.2⟩) (Cert.DhBRefIdeal.Value.run m ρ),
  fun m ρ _ => (θ_run Cert.DhBRefIdeal.defs _ _).mono (fun r h => ⟨fun c => (h c).2.2, sem_eq_zero_of_no_sems (by decide) r.2⟩) (Cert.DhBRefIdeal.Value.run m ρ),
  fun m ρ _ => Cert.AttnFwd.Gen.frame m ρ, fun m ρ _ => Cert.AttnFwdIdeal.Gen.frame m ρ, fun m ρ _ => Cert.AttnFwdIdeal.Gen.frame m ρ,
  fun m ρ _ => (θ_run Cert.AttnFwdRefIdeal.defs _ _).mono (fun r h => ⟨fun c => (h c).2.2, sem_eq_zero_of_no_sems (by decide) r.2⟩) (Cert.AttnFwdRefIdeal.Value.run m ρ),
  fun m ρ _ => (θ_run Cert.AttnFwdRefIdeal.defs _ _).mono (fun r h => ⟨fun c => (h c).2.2, sem_eq_zero_of_no_sems (by decide) r.2⟩) (Cert.AttnFwdRefIdeal.Value.run m ρ),
  trivial, ffn, trivial, forget, IdealRules.named_const.statement _ _ _ _ _ rfl, attn,
  ⟨IdealRules.named_const.statement _ _ _ _ _ rfl, IdealRules.named_const.statement _ _ _ _ _ rfl⟩, mix, trivial, norm, trivial, loss, trivial, dh1, trivial, dh0,
  IdealRules.named_const.statement _ _ _ _ _ rfl, attention_forward⟩

end Cert.Proof

end
